-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_FfnUp (m : (ℓ : Loc Cert.FfnUp.nD Cert.FfnUp.τ Cert.FfnUp.sig) → Buf (Elt Bits) ℓ) : Prop :=
  True

def Pre_FfnUpIdeal (m : (ℓ : Loc Cert.FfnUpIdeal.nD Cert.FfnUpIdeal.τ Cert.FfnUpIdeal.sig) → Buf (Elt Ideal) ℓ) : Prop :=
  True

def Pre_FfnUpReferenceIdeal (m : (ℓ : Loc Cert.FfnUpReferenceIdeal.nD Cert.FfnUpReferenceIdeal.τ Cert.FfnUpReferenceIdeal.sig) → Buf (Elt Ideal) ℓ) : Prop :=
  True

def Pre_BwdIn (m : (ℓ : Loc Cert.BwdIn.nD Cert.BwdIn.τ Cert.BwdIn.sig) → Buf (Elt Bits) ℓ) : Prop :=
  True

def Pre_BwdInIdeal (m : (ℓ : Loc Cert.BwdInIdeal.nD Cert.BwdInIdeal.τ Cert.BwdInIdeal.sig) → Buf (Elt Ideal) ℓ) : Prop :=
  True

def Pre_BwdInReferenceIdeal (m : (ℓ : Loc Cert.BwdInReferenceIdeal.nD Cert.BwdInReferenceIdeal.τ Cert.BwdInReferenceIdeal.sig) → Buf (Elt Ideal) ℓ) : Prop :=
  True

def Pre_WgradUp (m : (ℓ : Loc Cert.WgradUp.nD Cert.WgradUp.τ Cert.WgradUp.sig) → Buf (Elt Bits) ℓ) : Prop :=
  True

def Pre_WgradUpIdeal (m : (ℓ : Loc Cert.WgradUpIdeal.nD Cert.WgradUpIdeal.τ Cert.WgradUpIdeal.sig) → Buf (Elt Ideal) ℓ) : Prop :=
  True

def Pre_WgradUpReferenceIdeal (m : (ℓ : Loc Cert.WgradUpReferenceIdeal.nD Cert.WgradUpReferenceIdeal.τ Cert.WgradUpReferenceIdeal.sig) → Buf (Elt Ideal) ℓ) : Prop :=
  True

def Pre_AdamIn (m : (ℓ : Loc Cert.AdamIn.nD Cert.AdamIn.τ Cert.AdamIn.sig) → Buf (Elt Bits) ℓ) : Prop :=
  True

def Pre_AdamInIdeal (m : (ℓ : Loc Cert.AdamInIdeal.nD Cert.AdamInIdeal.τ Cert.AdamInIdeal.sig) → Buf (Elt Ideal) ℓ) : Prop :=
  True

def Pre_AdamInReferenceIdeal (m : (ℓ : Loc Cert.AdamInReferenceIdeal.nD Cert.AdamInReferenceIdeal.τ Cert.AdamInReferenceIdeal.sig) → Buf (Elt Ideal) ℓ) : Prop :=
  True

def Pre_AdamGlu (m : (ℓ : Loc Cert.AdamGlu.nD Cert.AdamGlu.τ Cert.AdamGlu.sig) → Buf (Elt Bits) ℓ) : Prop :=
  True

def Pre_AdamGluIdeal (m : (ℓ : Loc Cert.AdamGluIdeal.nD Cert.AdamGluIdeal.τ Cert.AdamGluIdeal.sig) → Buf (Elt Ideal) ℓ) : Prop :=
  True

def Pre_AdamGluReferenceIdeal (m : (ℓ : Loc Cert.AdamGluReferenceIdeal.nD Cert.AdamGluReferenceIdeal.τ Cert.AdamGluReferenceIdeal.sig) → Buf (Elt Ideal) ℓ) : Prop :=
  True

def Pre_AdamOut (m : (ℓ : Loc Cert.AdamOut.nD Cert.AdamOut.τ Cert.AdamOut.sig) → Buf (Elt Bits) ℓ) : Prop :=
  True

def Pre_AdamOutIdeal (m : (ℓ : Loc Cert.AdamOutIdeal.nD Cert.AdamOutIdeal.τ Cert.AdamOutIdeal.sig) → Buf (Elt Ideal) ℓ) : Prop :=
  True

def Pre_AdamOutReferenceIdeal (m : (ℓ : Loc Cert.AdamOutReferenceIdeal.nD Cert.AdamOutReferenceIdeal.τ Cert.AdamOutReferenceIdeal.sig) → Buf (Elt Ideal) ℓ) : Prop :=
  True

def Pre_AdamGate (m : (ℓ : Loc Cert.AdamGate.nD Cert.AdamGate.τ Cert.AdamGate.sig) → Buf (Elt Bits) ℓ) : Prop :=
  True

def Pre_AdamGateIdeal (m : (ℓ : Loc Cert.AdamGateIdeal.nD Cert.AdamGateIdeal.τ Cert.AdamGateIdeal.sig) → Buf (Elt Ideal) ℓ) : Prop :=
  True

def Pre_AdamGateReferenceIdeal (m : (ℓ : Loc Cert.AdamGateReferenceIdeal.nD Cert.AdamGateReferenceIdeal.τ Cert.AdamGateReferenceIdeal.sig) → Buf (Elt Ideal) ℓ) : Prop :=
  True

def Pre_AdamDown (m : (ℓ : Loc Cert.AdamDown.nD Cert.AdamDown.τ Cert.AdamDown.sig) → Buf (Elt Bits) ℓ) : Prop :=
  True

def Pre_AdamDownIdeal (m : (ℓ : Loc Cert.AdamDownIdeal.nD Cert.AdamDownIdeal.τ Cert.AdamDownIdeal.sig) → Buf (Elt Ideal) ℓ) : Prop :=
  True

def Pre_AdamDownReferenceIdeal (m : (ℓ : Loc Cert.AdamDownReferenceIdeal.nD Cert.AdamDownReferenceIdeal.τ Cert.AdamDownReferenceIdeal.sig) → Buf (Elt Ideal) ℓ) : Prop :=
  True

def Pre_ProjBwd (m : (ℓ : Loc Cert.ProjBwd.nD Cert.ProjBwd.τ Cert.ProjBwd.sig) → Buf (Elt Bits) ℓ) : Prop :=
  True

def Pre_ProjBwdIdeal (m : (ℓ : Loc Cert.ProjBwdIdeal.nD Cert.ProjBwdIdeal.τ Cert.ProjBwdIdeal.sig) → Buf (Elt Ideal) ℓ) : Prop :=
  True

def Pre_ProjBwdReferenceIdeal (m : (ℓ : Loc Cert.ProjBwdReferenceIdeal.nD Cert.ProjBwdReferenceIdeal.τ Cert.ProjBwdReferenceIdeal.sig) → Buf (Elt Ideal) ℓ) : Prop :=
  True

def Pre_ProjFwd (m : (ℓ : Loc Cert.ProjFwd.nD Cert.ProjFwd.τ Cert.ProjFwd.sig) → Buf (Elt Bits) ℓ) : Prop :=
  True

def Pre_ProjFwdIdeal (m : (ℓ : Loc Cert.ProjFwdIdeal.nD Cert.ProjFwdIdeal.τ Cert.ProjFwdIdeal.sig) → Buf (Elt Ideal) ℓ) : Prop :=
  True

def Pre_ProjFwdReferenceIdeal (m : (ℓ : Loc Cert.ProjFwdReferenceIdeal.nD Cert.ProjFwdReferenceIdeal.τ Cert.ProjFwdReferenceIdeal.sig) → Buf (Elt Ideal) ℓ) : Prop :=
  True

def Pre_SumSmall (m : (ℓ : Loc Cert.SumSmall.nD Cert.SumSmall.τ Cert.SumSmall.sig) → Buf (Elt Bits) ℓ) : Prop :=
  True

def Pre_SumSmallIdeal (m : (ℓ : Loc Cert.SumSmallIdeal.nD Cert.SumSmallIdeal.τ Cert.SumSmallIdeal.sig) → Buf (Elt Ideal) ℓ) : Prop :=
  True

def Pre_SumSmallReferenceIdeal (m : (ℓ : Loc Cert.SumSmallReferenceIdeal.nD Cert.SumSmallReferenceIdeal.τ Cert.SumSmallReferenceIdeal.sig) → Buf (Elt Ideal) ℓ) : Prop :=
  True

def Pre_SumMix (m : (ℓ : Loc Cert.SumMix.nD Cert.SumMix.τ Cert.SumMix.sig) → Buf (Elt Bits) ℓ) : Prop :=
  True

def Pre_SumMixIdeal (m : (ℓ : Loc Cert.SumMixIdeal.nD Cert.SumMixIdeal.τ Cert.SumMixIdeal.sig) → Buf (Elt Ideal) ℓ) : Prop :=
  True

def Pre_SumMixReferenceIdeal (m : (ℓ : Loc Cert.SumMixReferenceIdeal.nD Cert.SumMixReferenceIdeal.τ Cert.SumMixReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_FfnUp [hFfnUp : Cert.FfnUp.Facts] : Prop :=
  ∀ (m : (ℓ : Loc Cert.FfnUp.nD Cert.FfnUp.τ Cert.FfnUp.sig) → Buf (Elt Bits) ℓ) (g : Dev Cert.FfnUp.nD → PrngReg), Pre_FfnUp m →
    θ_run (Cert.FfnUp.defs (F := Bits)) (onTc (τ := Cert.FfnUp.τ) (Cert.FfnUp.main (F := Bits))) ⟨m, fun _ => 0, g⟩ (fun r => (∀ c : Dev Cert.FfnUp.nD,
      r.2.mem ((c.tc : Thread Cert.FfnUp.nD Cert.FfnUp.τ).loc Cert.FfnUp.main_arg0) = m ((c.tc : Thread Cert.FfnUp.nD Cert.FfnUp.τ).loc Cert.FfnUp.main_arg0)
      ∧ r.2.mem ((c.tc : Thread Cert.FfnUp.nD Cert.FfnUp.τ).loc Cert.FfnUp.main_arg1) = m ((c.tc : Thread Cert.FfnUp.nD Cert.FfnUp.τ).loc Cert.FfnUp.main_arg1)
      ∧ r.2.mem ((c.tc : Thread Cert.FfnUp.nD Cert.FfnUp.τ).loc Cert.FfnUp.main_arg2) = m ((c.tc : Thread Cert.FfnUp.nD Cert.FfnUp.τ).loc Cert.FfnUp.main_arg2)
      ∧ r.2.mem ((c.tc : Thread Cert.FfnUp.nD Cert.FfnUp.τ).loc Cert.FfnUp.main_arg3) = m ((c.tc : Thread Cert.FfnUp.nD Cert.FfnUp.τ).loc Cert.FfnUp.main_arg3))
      ∧ r.2.sem = fun _ => 0)

def quiescent_FfnUpIdeal [hFfnUpIdeal : Cert.FfnUpIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg), Pre_FfnUpIdeal m →
    θ_run (Cert.FfnUpIdeal.defs (F := Ideal)) (onTc (τ := Cert.FfnUpIdeal.τ) (Cert.FfnUpIdeal.main (F := Ideal))) ⟨m, fun _ => 0, g⟩ (fun r => (∀ c : Dev Cert.FfnUpIdeal.nD,
      r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
      ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1)
      ∧ r.2.mem ((c.tc : Thread Cert.FfnUpIdeal.nD Cert.FfnUpIdeal.τ).loc Cert.FfnUpIdeal.main_arg2) = m ((c.tc : Thread Cert.FfnUpIdeal.nD Cert.FfnUpIdeal.τ).loc Cert.FfnUpIdeal.main_arg2)
      ∧ r.2.mem ((c.tc : Thread Cert.FfnUpIdeal.nD Cert.FfnUpIdeal.τ).loc Cert.FfnUpIdeal.main_arg3) = m ((c.tc : Thread Cert.FfnUpIdeal.nD Cert.FfnUpIdeal.τ).loc Cert.FfnUpIdeal.main_arg3))
      ∧ r.2.sem = fun _ => 0)

def quiescent_FfnUpReferenceIdeal [hFfnUpReferenceIdeal : Cert.FfnUpReferenceIdeal.Facts] : Prop :=
  ∀ (m : (ℓ : Loc Cert.FfnUpReferenceIdeal.nD Cert.FfnUpReferenceIdeal.τ Cert.FfnUpReferenceIdeal.sig) → Buf (Elt Ideal) ℓ) (g : Dev Cert.FfnUpReferenceIdeal.nD → PrngReg), Pre_FfnUpReferenceIdeal m →
    θ_run (Cert.FfnUpReferenceIdeal.defs (F := Ideal)) (onTc (τ := Cert.FfnUpReferenceIdeal.τ) (Cert.FfnUpReferenceIdeal.main (F := Ideal))) ⟨m, fun _ => 0, g⟩ (fun r => (∀ c : Dev Cert.FfnUpReferenceIdeal.nD,
      r.2.mem ((c.tc : Thread Cert.FfnUpReferenceIdeal.nD Cert.FfnUpReferenceIdeal.τ).loc Cert.FfnUpReferenceIdeal.main_arg0) = m ((c.tc : Thread Cert.FfnUpReferenceIdeal.nD Cert.FfnUpReferenceIdeal.τ).loc Cert.FfnUpReferenceIdeal.main_arg0)
      ∧ r.2.mem ((c.tc : Thread Cert.FfnUpReferenceIdeal.nD Cert.FfnUpReferenceIdeal.τ).loc Cert.FfnUpReferenceIdeal.main_arg1) = m ((c.tc : Thread Cert.FfnUpReferenceIdeal.nD Cert.FfnUpReferenceIdeal.τ).loc Cert.FfnUpReferenceIdeal.main_arg1)
      ∧ r.2.mem ((c.tc : Thread Cert.FfnUpReferenceIdeal.nD Cert.FfnUpReferenceIdeal.τ).loc Cert.FfnUpReferenceIdeal.main_arg2) = m ((c.tc : Thread Cert.FfnUpReferenceIdeal.nD Cert.FfnUpReferenceIdeal.τ).loc Cert.FfnUpReferenceIdeal.main_arg2)
      ∧ r.2.mem ((c.tc : Thread Cert.FfnUpReferenceIdeal.nD Cert.FfnUpReferenceIdeal.τ).loc Cert.FfnUpReferenceIdeal.main_arg3) = m ((c.tc : Thread Cert.FfnUpReferenceIdeal.nD Cert.FfnUpReferenceIdeal.τ).loc Cert.FfnUpReferenceIdeal.main_arg3))
      ∧ r.2.sem = fun _ => 0)

def quiescent_BwdIn [hBwdIn : Cert.BwdIn.Facts] : Prop :=
  ∀ (m : (ℓ : Loc Cert.BwdIn.nD Cert.BwdIn.τ Cert.BwdIn.sig) → Buf (Elt Bits) ℓ) (g : Dev Cert.BwdIn.nD → PrngReg), Pre_BwdIn m →
    θ_run (Cert.BwdIn.defs (F := Bits)) (onTc (τ := Cert.BwdIn.τ) (Cert.BwdIn.main (F := Bits))) ⟨m, fun _ => 0, g⟩ (fun r => (∀ c : Dev Cert.BwdIn.nD,
      r.2.mem ((c.tc : Thread Cert.BwdIn.nD Cert.BwdIn.τ).loc Cert.BwdIn.main_arg0) = m ((c.tc : Thread Cert.BwdIn.nD Cert.BwdIn.τ).loc Cert.BwdIn.main_arg0)
      ∧ r.2.mem ((c.tc : Thread Cert.BwdIn.nD Cert.BwdIn.τ).loc Cert.BwdIn.main_arg1) = m ((c.tc : Thread Cert.BwdIn.nD Cert.BwdIn.τ).loc Cert.BwdIn.main_arg1)
      ∧ r.2.mem ((c.tc : Thread Cert.BwdIn.nD Cert.BwdIn.τ).loc Cert.BwdIn.main_arg2) = m ((c.tc : Thread Cert.BwdIn.nD Cert.BwdIn.τ).loc Cert.BwdIn.main_arg2)
      ∧ r.2.mem ((c.tc : Thread Cert.BwdIn.nD Cert.BwdIn.τ).loc Cert.BwdIn.main_arg3) = m ((c.tc : Thread Cert.BwdIn.nD Cert.BwdIn.τ).loc Cert.BwdIn.main_arg3)
      ∧ r.2.mem ((c.tc : Thread Cert.BwdIn.nD Cert.BwdIn.τ).loc Cert.BwdIn.main_arg4) = m ((c.tc : Thread Cert.BwdIn.nD Cert.BwdIn.τ).loc Cert.BwdIn.main_arg4))
      ∧ r.2.sem = fun _ => 0)

def quiescent_BwdInIdeal [hBwdInIdeal : Cert.BwdInIdeal.Facts] : Prop :=
  ∀ (m : (ℓ : Loc Cert.BwdInIdeal.nD Cert.BwdInIdeal.τ Cert.BwdInIdeal.sig) → Buf (Elt Ideal) ℓ) (g : Dev Cert.BwdInIdeal.nD → PrngReg), Pre_BwdInIdeal m →
    θ_run (Cert.BwdInIdeal.defs (F := Ideal)) (onTc (τ := Cert.BwdInIdeal.τ) (Cert.BwdInIdeal.main (F := Ideal))) ⟨m, fun _ => 0, g⟩ (fun r => (∀ c : Dev Cert.BwdInIdeal.nD,
      r.2.mem ((c.tc : Thread Cert.BwdInIdeal.nD Cert.BwdInIdeal.τ).loc Cert.BwdInIdeal.main_arg0) = m ((c.tc : Thread Cert.BwdInIdeal.nD Cert.BwdInIdeal.τ).loc Cert.BwdInIdeal.main_arg0)
      ∧ r.2.mem ((c.tc : Thread Cert.BwdInIdeal.nD Cert.BwdInIdeal.τ).loc Cert.BwdInIdeal.main_arg1) = m ((c.tc : Thread Cert.BwdInIdeal.nD Cert.BwdInIdeal.τ).loc Cert.BwdInIdeal.main_arg1)
      ∧ r.2.mem ((c.tc : Thread Cert.BwdInIdeal.nD Cert.BwdInIdeal.τ).loc Cert.BwdInIdeal.main_arg2) = m ((c.tc : Thread Cert.BwdInIdeal.nD Cert.BwdInIdeal.τ).loc Cert.BwdInIdeal.main_arg2)
      ∧ r.2.mem ((c.tc : Thread Cert.BwdInIdeal.nD Cert.BwdInIdeal.τ).loc Cert.BwdInIdeal.main_arg3) = m ((c.tc : Thread Cert.BwdInIdeal.nD Cert.BwdInIdeal.τ).loc Cert.BwdInIdeal.main_arg3)
      ∧ r.2.mem ((c.tc : Thread Cert.BwdInIdeal.nD Cert.BwdInIdeal.τ).loc Cert.BwdInIdeal.main_arg4) = m ((c.tc : Thread Cert.BwdInIdeal.nD Cert.BwdInIdeal.τ).loc Cert.BwdInIdeal.main_arg4))
      ∧ r.2.sem = fun _ => 0)

def quiescent_BwdInReferenceIdeal [hBwdInReferenceIdeal : Cert.BwdInReferenceIdeal.Facts] : Prop :=
  ∀ (m : (ℓ : Loc Cert.BwdInReferenceIdeal.nD Cert.BwdInReferenceIdeal.τ Cert.BwdInReferenceIdeal.sig) → Buf (Elt Ideal) ℓ) (g : Dev Cert.BwdInReferenceIdeal.nD → PrngReg), Pre_BwdInReferenceIdeal m →
    θ_run (Cert.BwdInReferenceIdeal.defs (F := Ideal)) (onTc (τ := Cert.BwdInReferenceIdeal.τ) (Cert.BwdInReferenceIdeal.main (F := Ideal))) ⟨m, fun _ => 0, g⟩ (fun r => (∀ c : Dev Cert.BwdInReferenceIdeal.nD,
      r.2.mem ((c.tc : Thread Cert.BwdInReferenceIdeal.nD Cert.BwdInReferenceIdeal.τ).loc Cert.BwdInReferenceIdeal.main_arg0) = m ((c.tc : Thread Cert.BwdInReferenceIdeal.nD Cert.BwdInReferenceIdeal.τ).loc Cert.BwdInReferenceIdeal.main_arg0)
      ∧ r.2.mem ((c.tc : Thread Cert.BwdInReferenceIdeal.nD Cert.BwdInReferenceIdeal.τ).loc Cert.BwdInReferenceIdeal.main_arg1) = m ((c.tc : Thread Cert.BwdInReferenceIdeal.nD Cert.BwdInReferenceIdeal.τ).loc Cert.BwdInReferenceIdeal.main_arg1)
      ∧ r.2.mem ((c.tc : Thread Cert.BwdInReferenceIdeal.nD Cert.BwdInReferenceIdeal.τ).loc Cert.BwdInReferenceIdeal.main_arg2) = m ((c.tc : Thread Cert.BwdInReferenceIdeal.nD Cert.BwdInReferenceIdeal.τ).loc Cert.BwdInReferenceIdeal.main_arg2)
      ∧ r.2.mem ((c.tc : Thread Cert.BwdInReferenceIdeal.nD Cert.BwdInReferenceIdeal.τ).loc Cert.BwdInReferenceIdeal.main_arg3) = m ((c.tc : Thread Cert.BwdInReferenceIdeal.nD Cert.BwdInReferenceIdeal.τ).loc Cert.BwdInReferenceIdeal.main_arg3)
      ∧ r.2.mem ((c.tc : Thread Cert.BwdInReferenceIdeal.nD Cert.BwdInReferenceIdeal.τ).loc Cert.BwdInReferenceIdeal.main_arg4) = m ((c.tc : Thread Cert.BwdInReferenceIdeal.nD Cert.BwdInReferenceIdeal.τ).loc Cert.BwdInReferenceIdeal.main_arg4))
      ∧ r.2.sem = fun _ => 0)

def quiescent_WgradUp [hWgradUp : Cert.WgradUp.Facts] : Prop :=
  ∀ (m : (ℓ : Loc Cert.WgradUp.nD Cert.WgradUp.τ Cert.WgradUp.sig) → Buf (Elt Bits) ℓ) (g : Dev Cert.WgradUp.nD → PrngReg), Pre_WgradUp m →
    θ_run (Cert.WgradUp.defs (F := Bits)) (onTc (τ := Cert.WgradUp.τ) (Cert.WgradUp.main (F := Bits))) ⟨m, fun _ => 0, g⟩ (fun r => (∀ c : Dev Cert.WgradUp.nD,
      r.2.mem ((c.tc : Thread Cert.WgradUp.nD Cert.WgradUp.τ).loc Cert.WgradUp.main_arg0) = m ((c.tc : Thread Cert.WgradUp.nD Cert.WgradUp.τ).loc Cert.WgradUp.main_arg0)
      ∧ r.2.mem ((c.tc : Thread Cert.WgradUp.nD Cert.WgradUp.τ).loc Cert.WgradUp.main_arg1) = m ((c.tc : Thread Cert.WgradUp.nD Cert.WgradUp.τ).loc Cert.WgradUp.main_arg1)
      ∧ r.2.mem ((c.tc : Thread Cert.WgradUp.nD Cert.WgradUp.τ).loc Cert.WgradUp.main_arg2) = m ((c.tc : Thread Cert.WgradUp.nD Cert.WgradUp.τ).loc Cert.WgradUp.main_arg2)
      ∧ r.2.mem ((c.tc : Thread Cert.WgradUp.nD Cert.WgradUp.τ).loc Cert.WgradUp.main_arg3) = m ((c.tc : Thread Cert.WgradUp.nD Cert.WgradUp.τ).loc Cert.WgradUp.main_arg3))
      ∧ r.2.sem = fun _ => 0)

def quiescent_WgradUpIdeal [hWgradUpIdeal : Cert.WgradUpIdeal.Facts] : Prop :=
  ∀ (m : (ℓ : Loc Cert.WgradUpIdeal.nD Cert.WgradUpIdeal.τ Cert.WgradUpIdeal.sig) → Buf (Elt Ideal) ℓ) (g : Dev Cert.WgradUpIdeal.nD → PrngReg), Pre_WgradUpIdeal m →
    θ_run (Cert.WgradUpIdeal.defs (F := Ideal)) (onTc (τ := Cert.WgradUpIdeal.τ) (Cert.WgradUpIdeal.main (F := Ideal))) ⟨m, fun _ => 0, g⟩ (fun r => (∀ c : Dev Cert.WgradUpIdeal.nD,
      r.2.mem ((c.tc : Thread Cert.WgradUpIdeal.nD Cert.WgradUpIdeal.τ).loc Cert.WgradUpIdeal.main_arg0) = m ((c.tc : Thread Cert.WgradUpIdeal.nD Cert.WgradUpIdeal.τ).loc Cert.WgradUpIdeal.main_arg0)
      ∧ r.2.mem ((c.tc : Thread Cert.WgradUpIdeal.nD Cert.WgradUpIdeal.τ).loc Cert.WgradUpIdeal.main_arg1) = m ((c.tc : Thread Cert.WgradUpIdeal.nD Cert.WgradUpIdeal.τ).loc Cert.WgradUpIdeal.main_arg1)
      ∧ r.2.mem ((c.tc : Thread Cert.WgradUpIdeal.nD Cert.WgradUpIdeal.τ).loc Cert.WgradUpIdeal.main_arg2) = m ((c.tc : Thread Cert.WgradUpIdeal.nD Cert.WgradUpIdeal.τ).loc Cert.WgradUpIdeal.main_arg2)
      ∧ r.2.mem ((c.tc : Thread Cert.WgradUpIdeal.nD Cert.WgradUpIdeal.τ).loc Cert.WgradUpIdeal.main_arg3) = m ((c.tc : Thread Cert.WgradUpIdeal.nD Cert.WgradUpIdeal.τ).loc Cert.WgradUpIdeal.main_arg3))
      ∧ r.2.sem = fun _ => 0)

def quiescent_WgradUpReferenceIdeal [hWgradUpReferenceIdeal : Cert.WgradUpReferenceIdeal.Facts] : Prop :=
  ∀ (m : (ℓ : Loc Cert.WgradUpReferenceIdeal.nD Cert.WgradUpReferenceIdeal.τ Cert.WgradUpReferenceIdeal.sig) → Buf (Elt Ideal) ℓ) (g : Dev Cert.WgradUpReferenceIdeal.nD → PrngReg), Pre_WgradUpReferenceIdeal m →
    θ_run (Cert.WgradUpReferenceIdeal.defs (F := Ideal)) (onTc (τ := Cert.WgradUpReferenceIdeal.τ) (Cert.WgradUpReferenceIdeal.main (F := Ideal))) ⟨m, fun _ => 0, g⟩ (fun r => (∀ c : Dev Cert.WgradUpReferenceIdeal.nD,
      r.2.mem ((c.tc : Thread Cert.WgradUpReferenceIdeal.nD Cert.WgradUpReferenceIdeal.τ).loc Cert.WgradUpReferenceIdeal.main_arg0) = m ((c.tc : Thread Cert.WgradUpReferenceIdeal.nD Cert.WgradUpReferenceIdeal.τ).loc Cert.WgradUpReferenceIdeal.main_arg0)
      ∧ r.2.mem ((c.tc : Thread Cert.WgradUpReferenceIdeal.nD Cert.WgradUpReferenceIdeal.τ).loc Cert.WgradUpReferenceIdeal.main_arg1) = m ((c.tc : Thread Cert.WgradUpReferenceIdeal.nD Cert.WgradUpReferenceIdeal.τ).loc Cert.WgradUpReferenceIdeal.main_arg1)
      ∧ r.2.mem ((c.tc : Thread Cert.WgradUpReferenceIdeal.nD Cert.WgradUpReferenceIdeal.τ).loc Cert.WgradUpReferenceIdeal.main_arg2) = m ((c.tc : Thread Cert.WgradUpReferenceIdeal.nD Cert.WgradUpReferenceIdeal.τ).loc Cert.WgradUpReferenceIdeal.main_arg2)
      ∧ r.2.mem ((c.tc : Thread Cert.WgradUpReferenceIdeal.nD Cert.WgradUpReferenceIdeal.τ).loc Cert.WgradUpReferenceIdeal.main_arg3) = m ((c.tc : Thread Cert.WgradUpReferenceIdeal.nD Cert.WgradUpReferenceIdeal.τ).loc Cert.WgradUpReferenceIdeal.main_arg3))
      ∧ r.2.sem = fun _ => 0)

def quiescent_AdamIn [hAdamIn : Cert.AdamIn.Facts] : Prop :=
  ∀ (m : (ℓ : Loc Cert.AdamIn.nD Cert.AdamIn.τ Cert.AdamIn.sig) → Buf (Elt Bits) ℓ) (g : Dev Cert.AdamIn.nD → PrngReg), Pre_AdamIn m →
    θ_run (Cert.AdamIn.defs (F := Bits)) (onTc (τ := Cert.AdamIn.τ) (Cert.AdamIn.main (F := Bits))) ⟨m, fun _ => 0, g⟩ (fun r => (∀ c : Dev Cert.AdamIn.nD,
      r.2.mem ((c.tc : Thread Cert.AdamIn.nD Cert.AdamIn.τ).loc Cert.AdamIn.main_arg0) = m ((c.tc : Thread Cert.AdamIn.nD Cert.AdamIn.τ).loc Cert.AdamIn.main_arg0)
      ∧ r.2.mem ((c.tc : Thread Cert.AdamIn.nD Cert.AdamIn.τ).loc Cert.AdamIn.main_arg1) = m ((c.tc : Thread Cert.AdamIn.nD Cert.AdamIn.τ).loc Cert.AdamIn.main_arg1)
      ∧ r.2.mem ((c.tc : Thread Cert.AdamIn.nD Cert.AdamIn.τ).loc Cert.AdamIn.main_arg2) = m ((c.tc : Thread Cert.AdamIn.nD Cert.AdamIn.τ).loc Cert.AdamIn.main_arg2)
      ∧ r.2.mem ((c.tc : Thread Cert.AdamIn.nD Cert.AdamIn.τ).loc Cert.AdamIn.main_arg3) = m ((c.tc : Thread Cert.AdamIn.nD Cert.AdamIn.τ).loc Cert.AdamIn.main_arg3))
      ∧ r.2.sem = fun _ => 0)

def quiescent_AdamInIdeal [hAdamInIdeal : Cert.AdamInIdeal.Facts] : Prop :=
  ∀ (m : (ℓ : Loc Cert.AdamInIdeal.nD Cert.AdamInIdeal.τ Cert.AdamInIdeal.sig) → Buf (Elt Ideal) ℓ) (g : Dev Cert.AdamInIdeal.nD → PrngReg), Pre_AdamInIdeal m →
    θ_run (Cert.AdamInIdeal.defs (F := Ideal)) (onTc (τ := Cert.AdamInIdeal.τ) (Cert.AdamInIdeal.main (F := Ideal))) ⟨m, fun _ => 0, g⟩ (fun r => (∀ c : Dev Cert.AdamInIdeal.nD,
      r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
      ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
      ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
      ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ r.2.sem = fun _ => 0)

def quiescent_AdamInReferenceIdeal [hAdamInReferenceIdeal : Cert.AdamInReferenceIdeal.Facts] : Prop :=
  ∀ (m : (ℓ : Loc Cert.AdamInReferenceIdeal.nD Cert.AdamInReferenceIdeal.τ Cert.AdamInReferenceIdeal.sig) → Buf (Elt Ideal) ℓ) (g : Dev Cert.AdamInReferenceIdeal.nD → PrngReg), Pre_AdamInReferenceIdeal m →
    θ_run (Cert.AdamInReferenceIdeal.defs (F := Ideal)) (onTc (τ := Cert.AdamInReferenceIdeal.τ) (Cert.AdamInReferenceIdeal.main (F := Ideal))) ⟨m, fun _ => 0, g⟩ (fun r => (∀ c : Dev Cert.AdamInReferenceIdeal.nD,
      r.2.mem ((c.tc : Thread Cert.AdamInReferenceIdeal.nD Cert.AdamInReferenceIdeal.τ).loc Cert.AdamInReferenceIdeal.main_arg0) = m ((c.tc : Thread Cert.AdamInReferenceIdeal.nD Cert.AdamInReferenceIdeal.τ).loc Cert.AdamInReferenceIdeal.main_arg0)
      ∧ r.2.mem ((c.tc : Thread Cert.AdamInReferenceIdeal.nD Cert.AdamInReferenceIdeal.τ).loc Cert.AdamInReferenceIdeal.main_arg1) = m ((c.tc : Thread Cert.AdamInReferenceIdeal.nD Cert.AdamInReferenceIdeal.τ).loc Cert.AdamInReferenceIdeal.main_arg1)
      ∧ r.2.mem ((c.tc : Thread Cert.AdamInReferenceIdeal.nD Cert.AdamInReferenceIdeal.τ).loc Cert.AdamInReferenceIdeal.main_arg2) = m ((c.tc : Thread Cert.AdamInReferenceIdeal.nD Cert.AdamInReferenceIdeal.τ).loc Cert.AdamInReferenceIdeal.main_arg2)
      ∧ r.2.mem ((c.tc : Thread Cert.AdamInReferenceIdeal.nD Cert.AdamInReferenceIdeal.τ).loc Cert.AdamInReferenceIdeal.main_arg3) = m ((c.tc : Thread Cert.AdamInReferenceIdeal.nD Cert.AdamInReferenceIdeal.τ).loc Cert.AdamInReferenceIdeal.main_arg3))
      ∧ r.2.sem = fun _ => 0)

def quiescent_AdamGlu [hAdamGlu : Cert.AdamGlu.Facts] : Prop :=
  ∀ (m : (ℓ : Loc Cert.AdamGlu.nD Cert.AdamGlu.τ Cert.AdamGlu.sig) → Buf (Elt Bits) ℓ) (g : Dev Cert.AdamGlu.nD → PrngReg), Pre_AdamGlu m →
    θ_run (Cert.AdamGlu.defs (F := Bits)) (onTc (τ := Cert.AdamGlu.τ) (Cert.AdamGlu.main (F := Bits))) ⟨m, fun _ => 0, g⟩ (fun r => (∀ c : Dev Cert.AdamGlu.nD,
      r.2.mem ((c.tc : Thread Cert.AdamGlu.nD Cert.AdamGlu.τ).loc Cert.AdamGlu.main_arg0) = m ((c.tc : Thread Cert.AdamGlu.nD Cert.AdamGlu.τ).loc Cert.AdamGlu.main_arg0)
      ∧ r.2.mem ((c.tc : Thread Cert.AdamGlu.nD Cert.AdamGlu.τ).loc Cert.AdamGlu.main_arg1) = m ((c.tc : Thread Cert.AdamGlu.nD Cert.AdamGlu.τ).loc Cert.AdamGlu.main_arg1)
      ∧ r.2.mem ((c.tc : Thread Cert.AdamGlu.nD Cert.AdamGlu.τ).loc Cert.AdamGlu.main_arg2) = m ((c.tc : Thread Cert.AdamGlu.nD Cert.AdamGlu.τ).loc Cert.AdamGlu.main_arg2)
      ∧ r.2.mem ((c.tc : Thread Cert.AdamGlu.nD Cert.AdamGlu.τ).loc Cert.AdamGlu.main_arg3) = m ((c.tc : Thread Cert.AdamGlu.nD Cert.AdamGlu.τ).loc Cert.AdamGlu.main_arg3))
      ∧ r.2.sem = fun _ => 0)

def quiescent_AdamGluIdeal [hAdamGluIdeal : Cert.AdamGluIdeal.Facts] : Prop :=
  ∀ (m : (ℓ : Loc Cert.AdamGluIdeal.nD Cert.AdamGluIdeal.τ Cert.AdamGluIdeal.sig) → Buf (Elt Ideal) ℓ) (g : Dev Cert.AdamGluIdeal.nD → PrngReg), Pre_AdamGluIdeal m →
    θ_run (Cert.AdamGluIdeal.defs (F := Ideal)) (onTc (τ := Cert.AdamGluIdeal.τ) (Cert.AdamGluIdeal.main (F := Ideal))) ⟨m, fun _ => 0, g⟩ (fun r => (∀ c : Dev Cert.AdamGluIdeal.nD,
      r.2.mem ((c.tc : Thread Cert.AdamGluIdeal.nD Cert.AdamGluIdeal.τ).loc Cert.AdamGluIdeal.main_arg0) = m ((c.tc : Thread Cert.AdamGluIdeal.nD Cert.AdamGluIdeal.τ).loc Cert.AdamGluIdeal.main_arg0)
      ∧ r.2.mem ((c.tc : Thread Cert.AdamGluIdeal.nD Cert.AdamGluIdeal.τ).loc Cert.AdamGluIdeal.main_arg1) = m ((c.tc : Thread Cert.AdamGluIdeal.nD Cert.AdamGluIdeal.τ).loc Cert.AdamGluIdeal.main_arg1)
      ∧ r.2.mem ((c.tc : Thread Cert.AdamGluIdeal.nD Cert.AdamGluIdeal.τ).loc Cert.AdamGluIdeal.main_arg2) = m ((c.tc : Thread Cert.AdamGluIdeal.nD Cert.AdamGluIdeal.τ).loc Cert.AdamGluIdeal.main_arg2)
      ∧ r.2.mem ((c.tc : Thread Cert.AdamGluIdeal.nD Cert.AdamGluIdeal.τ).loc Cert.AdamGluIdeal.main_arg3) = m ((c.tc : Thread Cert.AdamGluIdeal.nD Cert.AdamGluIdeal.τ).loc Cert.AdamGluIdeal.main_arg3))
      ∧ r.2.sem = fun _ => 0)

def quiescent_AdamGluReferenceIdeal [hAdamGluReferenceIdeal : Cert.AdamGluReferenceIdeal.Facts] : Prop :=
  ∀ (m : (ℓ : Loc Cert.AdamGluReferenceIdeal.nD Cert.AdamGluReferenceIdeal.τ Cert.AdamGluReferenceIdeal.sig) → Buf (Elt Ideal) ℓ) (g : Dev Cert.AdamGluReferenceIdeal.nD → PrngReg), Pre_AdamGluReferenceIdeal m →
    θ_run (Cert.AdamGluReferenceIdeal.defs (F := Ideal)) (onTc (τ := Cert.AdamGluReferenceIdeal.τ) (Cert.AdamGluReferenceIdeal.main (F := Ideal))) ⟨m, fun _ => 0, g⟩ (fun r => (∀ c : Dev Cert.AdamGluReferenceIdeal.nD,
      r.2.mem ((c.tc : Thread Cert.AdamGluReferenceIdeal.nD Cert.AdamGluReferenceIdeal.τ).loc Cert.AdamGluReferenceIdeal.main_arg0) = m ((c.tc : Thread Cert.AdamGluReferenceIdeal.nD Cert.AdamGluReferenceIdeal.τ).loc Cert.AdamGluReferenceIdeal.main_arg0)
      ∧ r.2.mem ((c.tc : Thread Cert.AdamGluReferenceIdeal.nD Cert.AdamGluReferenceIdeal.τ).loc Cert.AdamGluReferenceIdeal.main_arg1) = m ((c.tc : Thread Cert.AdamGluReferenceIdeal.nD Cert.AdamGluReferenceIdeal.τ).loc Cert.AdamGluReferenceIdeal.main_arg1)
      ∧ r.2.mem ((c.tc : Thread Cert.AdamGluReferenceIdeal.nD Cert.AdamGluReferenceIdeal.τ).loc Cert.AdamGluReferenceIdeal.main_arg2) = m ((c.tc : Thread Cert.AdamGluReferenceIdeal.nD Cert.AdamGluReferenceIdeal.τ).loc Cert.AdamGluReferenceIdeal.main_arg2)
      ∧ r.2.mem ((c.tc : Thread Cert.AdamGluReferenceIdeal.nD Cert.AdamGluReferenceIdeal.τ).loc Cert.AdamGluReferenceIdeal.main_arg3) = m ((c.tc : Thread Cert.AdamGluReferenceIdeal.nD Cert.AdamGluReferenceIdeal.τ).loc Cert.AdamGluReferenceIdeal.main_arg3))
      ∧ r.2.sem = fun _ => 0)

def quiescent_AdamOut [hAdamOut : Cert.AdamOut.Facts] : Prop :=
  ∀ (m : (ℓ : Loc Cert.AdamOut.nD Cert.AdamOut.τ Cert.AdamOut.sig) → Buf (Elt Bits) ℓ) (g : Dev Cert.AdamOut.nD → PrngReg), Pre_AdamOut m →
    θ_run (Cert.AdamOut.defs (F := Bits)) (onTc (τ := Cert.AdamOut.τ) (Cert.AdamOut.main (F := Bits))) ⟨m, fun _ => 0, g⟩ (fun r => (∀ c : Dev Cert.AdamOut.nD,
      r.2.mem ((c.tc : Thread Cert.AdamOut.nD Cert.AdamOut.τ).loc Cert.AdamOut.main_arg0) = m ((c.tc : Thread Cert.AdamOut.nD Cert.AdamOut.τ).loc Cert.AdamOut.main_arg0)
      ∧ r.2.mem ((c.tc : Thread Cert.AdamOut.nD Cert.AdamOut.τ).loc Cert.AdamOut.main_arg1) = m ((c.tc : Thread Cert.AdamOut.nD Cert.AdamOut.τ).loc Cert.AdamOut.main_arg1)
      ∧ r.2.mem ((c.tc : Thread Cert.AdamOut.nD Cert.AdamOut.τ).loc Cert.AdamOut.main_arg2) = m ((c.tc : Thread Cert.AdamOut.nD Cert.AdamOut.τ).loc Cert.AdamOut.main_arg2)
      ∧ r.2.mem ((c.tc : Thread Cert.AdamOut.nD Cert.AdamOut.τ).loc Cert.AdamOut.main_arg3) = m ((c.tc : Thread Cert.AdamOut.nD Cert.AdamOut.τ).loc Cert.AdamOut.main_arg3))
      ∧ r.2.sem = fun _ => 0)

def quiescent_AdamOutIdeal [hAdamOutIdeal : Cert.AdamOutIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg), Pre_AdamOutIdeal m →
    θ_run (Cert.AdamOutIdeal.defs (F := Ideal)) (onTc (τ := Cert.AdamOutIdeal.τ) (Cert.AdamOutIdeal.main (F := Ideal))) ⟨m, fun _ => 0, g⟩ (fun r => (∀ c : Dev Cert.AdamOutIdeal.nD,
      r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
      ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
      ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
      ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3))
      ∧ r.2.sem = fun _ => 0)

def quiescent_AdamOutReferenceIdeal [hAdamOutReferenceIdeal : Cert.AdamOutReferenceIdeal.Facts] : Prop :=
  ∀ (m : (ℓ : Loc Cert.AdamOutReferenceIdeal.nD Cert.AdamOutReferenceIdeal.τ Cert.AdamOutReferenceIdeal.sig) → Buf (Elt Ideal) ℓ) (g : Dev Cert.AdamOutReferenceIdeal.nD → PrngReg), Pre_AdamOutReferenceIdeal m →
    θ_run (Cert.AdamOutReferenceIdeal.defs (F := Ideal)) (onTc (τ := Cert.AdamOutReferenceIdeal.τ) (Cert.AdamOutReferenceIdeal.main (F := Ideal))) ⟨m, fun _ => 0, g⟩ (fun r => (∀ c : Dev Cert.AdamOutReferenceIdeal.nD,
      r.2.mem ((c.tc : Thread Cert.AdamOutReferenceIdeal.nD Cert.AdamOutReferenceIdeal.τ).loc Cert.AdamOutReferenceIdeal.main_arg0) = m ((c.tc : Thread Cert.AdamOutReferenceIdeal.nD Cert.AdamOutReferenceIdeal.τ).loc Cert.AdamOutReferenceIdeal.main_arg0)
      ∧ r.2.mem ((c.tc : Thread Cert.AdamOutReferenceIdeal.nD Cert.AdamOutReferenceIdeal.τ).loc Cert.AdamOutReferenceIdeal.main_arg1) = m ((c.tc : Thread Cert.AdamOutReferenceIdeal.nD Cert.AdamOutReferenceIdeal.τ).loc Cert.AdamOutReferenceIdeal.main_arg1)
      ∧ r.2.mem ((c.tc : Thread Cert.AdamOutReferenceIdeal.nD Cert.AdamOutReferenceIdeal.τ).loc Cert.AdamOutReferenceIdeal.main_arg2) = m ((c.tc : Thread Cert.AdamOutReferenceIdeal.nD Cert.AdamOutReferenceIdeal.τ).loc Cert.AdamOutReferenceIdeal.main_arg2)
      ∧ r.2.mem ((c.tc : Thread Cert.AdamOutReferenceIdeal.nD Cert.AdamOutReferenceIdeal.τ).loc Cert.AdamOutReferenceIdeal.main_arg3) = m ((c.tc : Thread Cert.AdamOutReferenceIdeal.nD Cert.AdamOutReferenceIdeal.τ).loc Cert.AdamOutReferenceIdeal.main_arg3))
      ∧ r.2.sem = fun _ => 0)

def quiescent_AdamGate [hAdamGate : Cert.AdamGate.Facts] : Prop :=
  ∀ (m : (ℓ : Loc Cert.AdamGate.nD Cert.AdamGate.τ Cert.AdamGate.sig) → Buf (Elt Bits) ℓ) (g : Dev Cert.AdamGate.nD → PrngReg), Pre_AdamGate m →
    θ_run (Cert.AdamGate.defs (F := Bits)) (onTc (τ := Cert.AdamGate.τ) (Cert.AdamGate.main (F := Bits))) ⟨m, fun _ => 0, g⟩ (fun r => (∀ c : Dev Cert.AdamGate.nD,
      r.2.mem ((c.tc : Thread Cert.AdamGate.nD Cert.AdamGate.τ).loc Cert.AdamGate.main_arg0) = m ((c.tc : Thread Cert.AdamGate.nD Cert.AdamGate.τ).loc Cert.AdamGate.main_arg0)
      ∧ r.2.mem ((c.tc : Thread Cert.AdamGate.nD Cert.AdamGate.τ).loc Cert.AdamGate.main_arg1) = m ((c.tc : Thread Cert.AdamGate.nD Cert.AdamGate.τ).loc Cert.AdamGate.main_arg1)
      ∧ r.2.mem ((c.tc : Thread Cert.AdamGate.nD Cert.AdamGate.τ).loc Cert.AdamGate.main_arg2) = m ((c.tc : Thread Cert.AdamGate.nD Cert.AdamGate.τ).loc Cert.AdamGate.main_arg2)
      ∧ r.2.mem ((c.tc : Thread Cert.AdamGate.nD Cert.AdamGate.τ).loc Cert.AdamGate.main_arg3) = m ((c.tc : Thread Cert.AdamGate.nD Cert.AdamGate.τ).loc Cert.AdamGate.main_arg3))
      ∧ r.2.sem = fun _ => 0)

def quiescent_AdamGateIdeal [hAdamGateIdeal : Cert.AdamGateIdeal.Facts] : Prop :=
  ∀ (m : (ℓ : Loc Cert.AdamGateIdeal.nD Cert.AdamGateIdeal.τ Cert.AdamGateIdeal.sig) → Buf (Elt Ideal) ℓ) (g : Dev Cert.AdamGateIdeal.nD → PrngReg), Pre_AdamGateIdeal m →
    θ_run (Cert.AdamGateIdeal.defs (F := Ideal)) (onTc (τ := Cert.AdamGateIdeal.τ) (Cert.AdamGateIdeal.main (F := Ideal))) ⟨m, fun _ => 0, g⟩ (fun r => (∀ c : Dev Cert.AdamGateIdeal.nD,
      r.2.mem ((c.tc : Thread Cert.AdamGateIdeal.nD Cert.AdamGateIdeal.τ).loc Cert.AdamGateIdeal.main_arg0) = m ((c.tc : Thread Cert.AdamGateIdeal.nD Cert.AdamGateIdeal.τ).loc Cert.AdamGateIdeal.main_arg0)
      ∧ r.2.mem ((c.tc : Thread Cert.AdamGateIdeal.nD Cert.AdamGateIdeal.τ).loc Cert.AdamGateIdeal.main_arg1) = m ((c.tc : Thread Cert.AdamGateIdeal.nD Cert.AdamGateIdeal.τ).loc Cert.AdamGateIdeal.main_arg1)
      ∧ r.2.mem ((c.tc : Thread Cert.AdamGateIdeal.nD Cert.AdamGateIdeal.τ).loc Cert.AdamGateIdeal.main_arg2) = m ((c.tc : Thread Cert.AdamGateIdeal.nD Cert.AdamGateIdeal.τ).loc Cert.AdamGateIdeal.main_arg2)
      ∧ r.2.mem ((c.tc : Thread Cert.AdamGateIdeal.nD Cert.AdamGateIdeal.τ).loc Cert.AdamGateIdeal.main_arg3) = m ((c.tc : Thread Cert.AdamGateIdeal.nD Cert.AdamGateIdeal.τ).loc Cert.AdamGateIdeal.main_arg3))
      ∧ r.2.sem = fun _ => 0)

def quiescent_AdamGateReferenceIdeal [hAdamGateReferenceIdeal : Cert.AdamGateReferenceIdeal.Facts] : Prop :=
  ∀ (m : (ℓ : Loc Cert.AdamGateReferenceIdeal.nD Cert.AdamGateReferenceIdeal.τ Cert.AdamGateReferenceIdeal.sig) → Buf (Elt Ideal) ℓ) (g : Dev Cert.AdamGateReferenceIdeal.nD → PrngReg), Pre_AdamGateReferenceIdeal m →
    θ_run (Cert.AdamGateReferenceIdeal.defs (F := Ideal)) (onTc (τ := Cert.AdamGateReferenceIdeal.τ) (Cert.AdamGateReferenceIdeal.main (F := Ideal))) ⟨m, fun _ => 0, g⟩ (fun r => (∀ c : Dev Cert.AdamGateReferenceIdeal.nD,
      r.2.mem ((c.tc : Thread Cert.AdamGateReferenceIdeal.nD Cert.AdamGateReferenceIdeal.τ).loc Cert.AdamGateReferenceIdeal.main_arg0) = m ((c.tc : Thread Cert.AdamGateReferenceIdeal.nD Cert.AdamGateReferenceIdeal.τ).loc Cert.AdamGateReferenceIdeal.main_arg0)
      ∧ r.2.mem ((c.tc : Thread Cert.AdamGateReferenceIdeal.nD Cert.AdamGateReferenceIdeal.τ).loc Cert.AdamGateReferenceIdeal.main_arg1) = m ((c.tc : Thread Cert.AdamGateReferenceIdeal.nD Cert.AdamGateReferenceIdeal.τ).loc Cert.AdamGateReferenceIdeal.main_arg1)
      ∧ r.2.mem ((c.tc : Thread Cert.AdamGateReferenceIdeal.nD Cert.AdamGateReferenceIdeal.τ).loc Cert.AdamGateReferenceIdeal.main_arg2) = m ((c.tc : Thread Cert.AdamGateReferenceIdeal.nD Cert.AdamGateReferenceIdeal.τ).loc Cert.AdamGateReferenceIdeal.main_arg2)
      ∧ r.2.mem ((c.tc : Thread Cert.AdamGateReferenceIdeal.nD Cert.AdamGateReferenceIdeal.τ).loc Cert.AdamGateReferenceIdeal.main_arg3) = m ((c.tc : Thread Cert.AdamGateReferenceIdeal.nD Cert.AdamGateReferenceIdeal.τ).loc Cert.AdamGateReferenceIdeal.main_arg3))
      ∧ r.2.sem = fun _ => 0)

def quiescent_AdamDown [hAdamDown : Cert.AdamDown.Facts] : Prop :=
  ∀ (m : (ℓ : Loc Cert.AdamDown.nD Cert.AdamDown.τ Cert.AdamDown.sig) → Buf (Elt Bits) ℓ) (g : Dev Cert.AdamDown.nD → PrngReg), Pre_AdamDown m →
    θ_run (Cert.AdamDown.defs (F := Bits)) (onTc (τ := Cert.AdamDown.τ) (Cert.AdamDown.main (F := Bits))) ⟨m, fun _ => 0, g⟩ (fun r => (∀ c : Dev Cert.AdamDown.nD,
      r.2.mem ((c.tc : Thread Cert.AdamDown.nD Cert.AdamDown.τ).loc Cert.AdamDown.main_arg0) = m ((c.tc : Thread Cert.AdamDown.nD Cert.AdamDown.τ).loc Cert.AdamDown.main_arg0)
      ∧ r.2.mem ((c.tc : Thread Cert.AdamDown.nD Cert.AdamDown.τ).loc Cert.AdamDown.main_arg1) = m ((c.tc : Thread Cert.AdamDown.nD Cert.AdamDown.τ).loc Cert.AdamDown.main_arg1)
      ∧ r.2.mem ((c.tc : Thread Cert.AdamDown.nD Cert.AdamDown.τ).loc Cert.AdamDown.main_arg2) = m ((c.tc : Thread Cert.AdamDown.nD Cert.AdamDown.τ).loc Cert.AdamDown.main_arg2)
      ∧ r.2.mem ((c.tc : Thread Cert.AdamDown.nD Cert.AdamDown.τ).loc Cert.AdamDown.main_arg3) = m ((c.tc : Thread Cert.AdamDown.nD Cert.AdamDown.τ).loc Cert.AdamDown.main_arg3))
      ∧ r.2.sem = fun _ => 0)

def quiescent_AdamDownIdeal [hAdamDownIdeal : Cert.AdamDownIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg), Pre_AdamDownIdeal m →
    θ_run (Cert.AdamDownIdeal.defs (F := Ideal)) (onTc (τ := Cert.AdamDownIdeal.τ) (Cert.AdamDownIdeal.main (F := Ideal))) ⟨m, fun _ => 0, g⟩ (fun r => (∀ c : Dev Cert.AdamDownIdeal.nD,
      r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
      ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
      ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
      ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3))
      ∧ r.2.sem = fun _ => 0)

def quiescent_AdamDownReferenceIdeal [hAdamDownReferenceIdeal : Cert.AdamDownReferenceIdeal.Facts] : Prop :=
  ∀ (m : (ℓ : Loc Cert.AdamDownReferenceIdeal.nD Cert.AdamDownReferenceIdeal.τ Cert.AdamDownReferenceIdeal.sig) → Buf (Elt Ideal) ℓ) (g : Dev Cert.AdamDownReferenceIdeal.nD → PrngReg), Pre_AdamDownReferenceIdeal m →
    θ_run (Cert.AdamDownReferenceIdeal.defs (F := Ideal)) (onTc (τ := Cert.AdamDownReferenceIdeal.τ) (Cert.AdamDownReferenceIdeal.main (F := Ideal))) ⟨m, fun _ => 0, g⟩ (fun r => (∀ c : Dev Cert.AdamDownReferenceIdeal.nD,
      r.2.mem ((c.tc : Thread Cert.AdamDownReferenceIdeal.nD Cert.AdamDownReferenceIdeal.τ).loc Cert.AdamDownReferenceIdeal.main_arg0) = m ((c.tc : Thread Cert.AdamDownReferenceIdeal.nD Cert.AdamDownReferenceIdeal.τ).loc Cert.AdamDownReferenceIdeal.main_arg0)
      ∧ r.2.mem ((c.tc : Thread Cert.AdamDownReferenceIdeal.nD Cert.AdamDownReferenceIdeal.τ).loc Cert.AdamDownReferenceIdeal.main_arg1) = m ((c.tc : Thread Cert.AdamDownReferenceIdeal.nD Cert.AdamDownReferenceIdeal.τ).loc Cert.AdamDownReferenceIdeal.main_arg1)
      ∧ r.2.mem ((c.tc : Thread Cert.AdamDownReferenceIdeal.nD Cert.AdamDownReferenceIdeal.τ).loc Cert.AdamDownReferenceIdeal.main_arg2) = m ((c.tc : Thread Cert.AdamDownReferenceIdeal.nD Cert.AdamDownReferenceIdeal.τ).loc Cert.AdamDownReferenceIdeal.main_arg2)
      ∧ r.2.mem ((c.tc : Thread Cert.AdamDownReferenceIdeal.nD Cert.AdamDownReferenceIdeal.τ).loc Cert.AdamDownReferenceIdeal.main_arg3) = m ((c.tc : Thread Cert.AdamDownReferenceIdeal.nD Cert.AdamDownReferenceIdeal.τ).loc Cert.AdamDownReferenceIdeal.main_arg3))
      ∧ r.2.sem = fun _ => 0)

def quiescent_ProjBwd [hProjBwd : Cert.ProjBwd.Facts] : Prop :=
  ∀ (m : (ℓ : Loc Cert.ProjBwd.nD Cert.ProjBwd.τ Cert.ProjBwd.sig) → Buf (Elt Bits) ℓ) (g : Dev Cert.ProjBwd.nD → PrngReg), Pre_ProjBwd m →
    θ_run (Cert.ProjBwd.defs (F := Bits)) (onTc (τ := Cert.ProjBwd.τ) (Cert.ProjBwd.main (F := Bits))) ⟨m, fun _ => 0, g⟩ (fun r => (∀ c : Dev Cert.ProjBwd.nD,
      r.2.mem ((c.tc : Thread Cert.ProjBwd.nD Cert.ProjBwd.τ).loc Cert.ProjBwd.main_arg0) = m ((c.tc : Thread Cert.ProjBwd.nD Cert.ProjBwd.τ).loc Cert.ProjBwd.main_arg0)
      ∧ r.2.mem ((c.tc : Thread Cert.ProjBwd.nD Cert.ProjBwd.τ).loc Cert.ProjBwd.main_arg1) = m ((c.tc : Thread Cert.ProjBwd.nD Cert.ProjBwd.τ).loc Cert.ProjBwd.main_arg1)
      ∧ r.2.mem ((c.tc : Thread Cert.ProjBwd.nD Cert.ProjBwd.τ).loc Cert.ProjBwd.main_arg2) = m ((c.tc : Thread Cert.ProjBwd.nD Cert.ProjBwd.τ).loc Cert.ProjBwd.main_arg2)
      ∧ r.2.mem ((c.tc : Thread Cert.ProjBwd.nD Cert.ProjBwd.τ).loc Cert.ProjBwd.main_arg3) = m ((c.tc : Thread Cert.ProjBwd.nD Cert.ProjBwd.τ).loc Cert.ProjBwd.main_arg3)
      ∧ r.2.mem ((c.tc : Thread Cert.ProjBwd.nD Cert.ProjBwd.τ).loc Cert.ProjBwd.main_arg4) = m ((c.tc : Thread Cert.ProjBwd.nD Cert.ProjBwd.τ).loc Cert.ProjBwd.main_arg4)
      ∧ r.2.mem ((c.tc : Thread Cert.ProjBwd.nD Cert.ProjBwd.τ).loc Cert.ProjBwd.main_arg5) = m ((c.tc : Thread Cert.ProjBwd.nD Cert.ProjBwd.τ).loc Cert.ProjBwd.main_arg5)
      ∧ r.2.mem ((c.tc : Thread Cert.ProjBwd.nD Cert.ProjBwd.τ).loc Cert.ProjBwd.main_arg6) = m ((c.tc : Thread Cert.ProjBwd.nD Cert.ProjBwd.τ).loc Cert.ProjBwd.main_arg6))
      ∧ r.2.sem = fun _ => 0)

def quiescent_ProjBwdIdeal [hProjBwdIdeal : Cert.ProjBwdIdeal.Facts] : Prop :=
  ∀ (m : (ℓ : Loc Cert.ProjBwdIdeal.nD Cert.ProjBwdIdeal.τ Cert.ProjBwdIdeal.sig) → Buf (Elt Ideal) ℓ) (g : Dev Cert.ProjBwdIdeal.nD → PrngReg), Pre_ProjBwdIdeal m →
    θ_run (Cert.ProjBwdIdeal.defs (F := Ideal)) (onTc (τ := Cert.ProjBwdIdeal.τ) (Cert.ProjBwdIdeal.main (F := Ideal))) ⟨m, fun _ => 0, g⟩ (fun r => (∀ c : Dev Cert.ProjBwdIdeal.nD,
      r.2.mem ((c.tc : Thread Cert.ProjBwdIdeal.nD Cert.ProjBwdIdeal.τ).loc Cert.ProjBwdIdeal.main_arg0) = m ((c.tc : Thread Cert.ProjBwdIdeal.nD Cert.ProjBwdIdeal.τ).loc Cert.ProjBwdIdeal.main_arg0)
      ∧ r.2.mem ((c.tc : Thread Cert.ProjBwdIdeal.nD Cert.ProjBwdIdeal.τ).loc Cert.ProjBwdIdeal.main_arg1) = m ((c.tc : Thread Cert.ProjBwdIdeal.nD Cert.ProjBwdIdeal.τ).loc Cert.ProjBwdIdeal.main_arg1)
      ∧ r.2.mem ((c.tc : Thread Cert.ProjBwdIdeal.nD Cert.ProjBwdIdeal.τ).loc Cert.ProjBwdIdeal.main_arg2) = m ((c.tc : Thread Cert.ProjBwdIdeal.nD Cert.ProjBwdIdeal.τ).loc Cert.ProjBwdIdeal.main_arg2)
      ∧ r.2.mem ((c.tc : Thread Cert.ProjBwdIdeal.nD Cert.ProjBwdIdeal.τ).loc Cert.ProjBwdIdeal.main_arg3) = m ((c.tc : Thread Cert.ProjBwdIdeal.nD Cert.ProjBwdIdeal.τ).loc Cert.ProjBwdIdeal.main_arg3)
      ∧ r.2.mem ((c.tc : Thread Cert.ProjBwdIdeal.nD Cert.ProjBwdIdeal.τ).loc Cert.ProjBwdIdeal.main_arg4) = m ((c.tc : Thread Cert.ProjBwdIdeal.nD Cert.ProjBwdIdeal.τ).loc Cert.ProjBwdIdeal.main_arg4)
      ∧ r.2.mem ((c.tc : Thread Cert.ProjBwdIdeal.nD Cert.ProjBwdIdeal.τ).loc Cert.ProjBwdIdeal.main_arg5) = m ((c.tc : Thread Cert.ProjBwdIdeal.nD Cert.ProjBwdIdeal.τ).loc Cert.ProjBwdIdeal.main_arg5)
      ∧ r.2.mem ((c.tc : Thread Cert.ProjBwdIdeal.nD Cert.ProjBwdIdeal.τ).loc Cert.ProjBwdIdeal.main_arg6) = m ((c.tc : Thread Cert.ProjBwdIdeal.nD Cert.ProjBwdIdeal.τ).loc Cert.ProjBwdIdeal.main_arg6))
      ∧ r.2.sem = fun _ => 0)

def quiescent_ProjBwdReferenceIdeal [hProjBwdReferenceIdeal : Cert.ProjBwdReferenceIdeal.Facts] : Prop :=
  ∀ (m : (ℓ : Loc Cert.ProjBwdReferenceIdeal.nD Cert.ProjBwdReferenceIdeal.τ Cert.ProjBwdReferenceIdeal.sig) → Buf (Elt Ideal) ℓ) (g : Dev Cert.ProjBwdReferenceIdeal.nD → PrngReg), Pre_ProjBwdReferenceIdeal m →
    θ_run (Cert.ProjBwdReferenceIdeal.defs (F := Ideal)) (onTc (τ := Cert.ProjBwdReferenceIdeal.τ) (Cert.ProjBwdReferenceIdeal.main (F := Ideal))) ⟨m, fun _ => 0, g⟩ (fun r => (∀ c : Dev Cert.ProjBwdReferenceIdeal.nD,
      r.2.mem ((c.tc : Thread Cert.ProjBwdReferenceIdeal.nD Cert.ProjBwdReferenceIdeal.τ).loc Cert.ProjBwdReferenceIdeal.main_arg0) = m ((c.tc : Thread Cert.ProjBwdReferenceIdeal.nD Cert.ProjBwdReferenceIdeal.τ).loc Cert.ProjBwdReferenceIdeal.main_arg0)
      ∧ r.2.mem ((c.tc : Thread Cert.ProjBwdReferenceIdeal.nD Cert.ProjBwdReferenceIdeal.τ).loc Cert.ProjBwdReferenceIdeal.main_arg1) = m ((c.tc : Thread Cert.ProjBwdReferenceIdeal.nD Cert.ProjBwdReferenceIdeal.τ).loc Cert.ProjBwdReferenceIdeal.main_arg1)
      ∧ r.2.mem ((c.tc : Thread Cert.ProjBwdReferenceIdeal.nD Cert.ProjBwdReferenceIdeal.τ).loc Cert.ProjBwdReferenceIdeal.main_arg2) = m ((c.tc : Thread Cert.ProjBwdReferenceIdeal.nD Cert.ProjBwdReferenceIdeal.τ).loc Cert.ProjBwdReferenceIdeal.main_arg2)
      ∧ r.2.mem ((c.tc : Thread Cert.ProjBwdReferenceIdeal.nD Cert.ProjBwdReferenceIdeal.τ).loc Cert.ProjBwdReferenceIdeal.main_arg3) = m ((c.tc : Thread Cert.ProjBwdReferenceIdeal.nD Cert.ProjBwdReferenceIdeal.τ).loc Cert.ProjBwdReferenceIdeal.main_arg3)
      ∧ r.2.mem ((c.tc : Thread Cert.ProjBwdReferenceIdeal.nD Cert.ProjBwdReferenceIdeal.τ).loc Cert.ProjBwdReferenceIdeal.main_arg4) = m ((c.tc : Thread Cert.ProjBwdReferenceIdeal.nD Cert.ProjBwdReferenceIdeal.τ).loc Cert.ProjBwdReferenceIdeal.main_arg4)
      ∧ r.2.mem ((c.tc : Thread Cert.ProjBwdReferenceIdeal.nD Cert.ProjBwdReferenceIdeal.τ).loc Cert.ProjBwdReferenceIdeal.main_arg5) = m ((c.tc : Thread Cert.ProjBwdReferenceIdeal.nD Cert.ProjBwdReferenceIdeal.τ).loc Cert.ProjBwdReferenceIdeal.main_arg5)
      ∧ r.2.mem ((c.tc : Thread Cert.ProjBwdReferenceIdeal.nD Cert.ProjBwdReferenceIdeal.τ).loc Cert.ProjBwdReferenceIdeal.main_arg6) = m ((c.tc : Thread Cert.ProjBwdReferenceIdeal.nD Cert.ProjBwdReferenceIdeal.τ).loc Cert.ProjBwdReferenceIdeal.main_arg6))
      ∧ r.2.sem = fun _ => 0)

def quiescent_ProjFwd [hProjFwd : Cert.ProjFwd.Facts] : Prop :=
  ∀ (m : (ℓ : Loc Cert.ProjFwd.nD Cert.ProjFwd.τ Cert.ProjFwd.sig) → Buf (Elt Bits) ℓ) (g : Dev Cert.ProjFwd.nD → PrngReg), Pre_ProjFwd m →
    θ_run (Cert.ProjFwd.defs (F := Bits)) (onTc (τ := Cert.ProjFwd.τ) (Cert.ProjFwd.main (F := Bits))) ⟨m, fun _ => 0, g⟩ (fun r => (∀ c : Dev Cert.ProjFwd.nD,
      r.2.mem ((c.tc : Thread Cert.ProjFwd.nD Cert.ProjFwd.τ).loc Cert.ProjFwd.main_arg0) = m ((c.tc : Thread Cert.ProjFwd.nD Cert.ProjFwd.τ).loc Cert.ProjFwd.main_arg0)
      ∧ r.2.mem ((c.tc : Thread Cert.ProjFwd.nD Cert.ProjFwd.τ).loc Cert.ProjFwd.main_arg1) = m ((c.tc : Thread Cert.ProjFwd.nD Cert.ProjFwd.τ).loc Cert.ProjFwd.main_arg1)
      ∧ r.2.mem ((c.tc : Thread Cert.ProjFwd.nD Cert.ProjFwd.τ).loc Cert.ProjFwd.main_arg2) = m ((c.tc : Thread Cert.ProjFwd.nD Cert.ProjFwd.τ).loc Cert.ProjFwd.main_arg2)
      ∧ r.2.mem ((c.tc : Thread Cert.ProjFwd.nD Cert.ProjFwd.τ).loc Cert.ProjFwd.main_arg3) = m ((c.tc : Thread Cert.ProjFwd.nD Cert.ProjFwd.τ).loc Cert.ProjFwd.main_arg3))
      ∧ r.2.sem = fun _ => 0)

def quiescent_ProjFwdIdeal [hProjFwdIdeal : Cert.ProjFwdIdeal.Facts] : Prop :=
  ∀ (m : (ℓ : Loc Cert.ProjFwdIdeal.nD Cert.ProjFwdIdeal.τ Cert.ProjFwdIdeal.sig) → Buf (Elt Ideal) ℓ) (g : Dev Cert.ProjFwdIdeal.nD → PrngReg), Pre_ProjFwdIdeal m →
    θ_run (Cert.ProjFwdIdeal.defs (F := Ideal)) (onTc (τ := Cert.ProjFwdIdeal.τ) (Cert.ProjFwdIdeal.main (F := Ideal))) ⟨m, fun _ => 0, g⟩ (fun r => (∀ c : Dev Cert.ProjFwdIdeal.nD,
      r.2.mem ((c.tc : Thread Cert.ProjFwdIdeal.nD Cert.ProjFwdIdeal.τ).loc Cert.ProjFwdIdeal.main_arg0) = m ((c.tc : Thread Cert.ProjFwdIdeal.nD Cert.ProjFwdIdeal.τ).loc Cert.ProjFwdIdeal.main_arg0)
      ∧ r.2.mem ((c.tc : Thread Cert.ProjFwdIdeal.nD Cert.ProjFwdIdeal.τ).loc Cert.ProjFwdIdeal.main_arg1) = m ((c.tc : Thread Cert.ProjFwdIdeal.nD Cert.ProjFwdIdeal.τ).loc Cert.ProjFwdIdeal.main_arg1)
      ∧ r.2.mem ((c.tc : Thread Cert.ProjFwdIdeal.nD Cert.ProjFwdIdeal.τ).loc Cert.ProjFwdIdeal.main_arg2) = m ((c.tc : Thread Cert.ProjFwdIdeal.nD Cert.ProjFwdIdeal.τ).loc Cert.ProjFwdIdeal.main_arg2)
      ∧ r.2.mem ((c.tc : Thread Cert.ProjFwdIdeal.nD Cert.ProjFwdIdeal.τ).loc Cert.ProjFwdIdeal.main_arg3) = m ((c.tc : Thread Cert.ProjFwdIdeal.nD Cert.ProjFwdIdeal.τ).loc Cert.ProjFwdIdeal.main_arg3))
      ∧ r.2.sem = fun _ => 0)

def quiescent_ProjFwdReferenceIdeal [hProjFwdReferenceIdeal : Cert.ProjFwdReferenceIdeal.Facts] : Prop :=
  ∀ (m : (ℓ : Loc Cert.ProjFwdReferenceIdeal.nD Cert.ProjFwdReferenceIdeal.τ Cert.ProjFwdReferenceIdeal.sig) → Buf (Elt Ideal) ℓ) (g : Dev Cert.ProjFwdReferenceIdeal.nD → PrngReg), Pre_ProjFwdReferenceIdeal m →
    θ_run (Cert.ProjFwdReferenceIdeal.defs (F := Ideal)) (onTc (τ := Cert.ProjFwdReferenceIdeal.τ) (Cert.ProjFwdReferenceIdeal.main (F := Ideal))) ⟨m, fun _ => 0, g⟩ (fun r => (∀ c : Dev Cert.ProjFwdReferenceIdeal.nD,
      r.2.mem ((c.tc : Thread Cert.ProjFwdReferenceIdeal.nD Cert.ProjFwdReferenceIdeal.τ).loc Cert.ProjFwdReferenceIdeal.main_arg0) = m ((c.tc : Thread Cert.ProjFwdReferenceIdeal.nD Cert.ProjFwdReferenceIdeal.τ).loc Cert.ProjFwdReferenceIdeal.main_arg0)
      ∧ r.2.mem ((c.tc : Thread Cert.ProjFwdReferenceIdeal.nD Cert.ProjFwdReferenceIdeal.τ).loc Cert.ProjFwdReferenceIdeal.main_arg1) = m ((c.tc : Thread Cert.ProjFwdReferenceIdeal.nD Cert.ProjFwdReferenceIdeal.τ).loc Cert.ProjFwdReferenceIdeal.main_arg1)
      ∧ r.2.mem ((c.tc : Thread Cert.ProjFwdReferenceIdeal.nD Cert.ProjFwdReferenceIdeal.τ).loc Cert.ProjFwdReferenceIdeal.main_arg2) = m ((c.tc : Thread Cert.ProjFwdReferenceIdeal.nD Cert.ProjFwdReferenceIdeal.τ).loc Cert.ProjFwdReferenceIdeal.main_arg2)
      ∧ r.2.mem ((c.tc : Thread Cert.ProjFwdReferenceIdeal.nD Cert.ProjFwdReferenceIdeal.τ).loc Cert.ProjFwdReferenceIdeal.main_arg3) = m ((c.tc : Thread Cert.ProjFwdReferenceIdeal.nD Cert.ProjFwdReferenceIdeal.τ).loc Cert.ProjFwdReferenceIdeal.main_arg3))
      ∧ r.2.sem = fun _ => 0)

def quiescent_SumSmall [hSumSmall : Cert.SumSmall.Facts] : Prop :=
  ∀ (m : (ℓ : Loc Cert.SumSmall.nD Cert.SumSmall.τ Cert.SumSmall.sig) → Buf (Elt Bits) ℓ) (g : Dev Cert.SumSmall.nD → PrngReg), Pre_SumSmall m →
    θ_run (Cert.SumSmall.defs (F := Bits)) (onTc (τ := Cert.SumSmall.τ) (Cert.SumSmall.main (F := Bits))) ⟨m, fun _ => 0, g⟩ (fun r => (∀ c : Dev Cert.SumSmall.nD,
      r.2.mem ((c.tc : Thread Cert.SumSmall.nD Cert.SumSmall.τ).loc Cert.SumSmall.main_arg0) = m ((c.tc : Thread Cert.SumSmall.nD Cert.SumSmall.τ).loc Cert.SumSmall.main_arg0))
      ∧ r.2.sem = fun _ => 0)

def quiescent_SumSmallIdeal [hSumSmallIdeal : Cert.SumSmallIdeal.Facts] : Prop :=
  ∀ (m : (ℓ : Loc Cert.SumSmallIdeal.nD Cert.SumSmallIdeal.τ Cert.SumSmallIdeal.sig) → Buf (Elt Ideal) ℓ) (g : Dev Cert.SumSmallIdeal.nD → PrngReg), Pre_SumSmallIdeal m →
    θ_run (Cert.SumSmallIdeal.defs (F := Ideal)) (onTc (τ := Cert.SumSmallIdeal.τ) (Cert.SumSmallIdeal.main (F := Ideal))) ⟨m, fun _ => 0, g⟩ (fun r => (∀ c : Dev Cert.SumSmallIdeal.nD,
      r.2.mem ((c.tc : Thread Cert.SumSmallIdeal.nD Cert.SumSmallIdeal.τ).loc Cert.SumSmallIdeal.main_arg0) = m ((c.tc : Thread Cert.SumSmallIdeal.nD Cert.SumSmallIdeal.τ).loc Cert.SumSmallIdeal.main_arg0))
      ∧ r.2.sem = fun _ => 0)

def quiescent_SumSmallReferenceIdeal [hSumSmallReferenceIdeal : Cert.SumSmallReferenceIdeal.Facts] : Prop :=
  ∀ (m : (ℓ : Loc Cert.SumSmallReferenceIdeal.nD Cert.SumSmallReferenceIdeal.τ Cert.SumSmallReferenceIdeal.sig) → Buf (Elt Ideal) ℓ) (g : Dev Cert.SumSmallReferenceIdeal.nD → PrngReg), Pre_SumSmallReferenceIdeal m →
    θ_run (Cert.SumSmallReferenceIdeal.defs (F := Ideal)) (onTc (τ := Cert.SumSmallReferenceIdeal.τ) (Cert.SumSmallReferenceIdeal.main (F := Ideal))) ⟨m, fun _ => 0, g⟩ (fun r => (∀ c : Dev Cert.SumSmallReferenceIdeal.nD,
      r.2.mem ((c.tc : Thread Cert.SumSmallReferenceIdeal.nD Cert.SumSmallReferenceIdeal.τ).loc Cert.SumSmallReferenceIdeal.main_arg0) = m ((c.tc : Thread Cert.SumSmallReferenceIdeal.nD Cert.SumSmallReferenceIdeal.τ).loc Cert.SumSmallReferenceIdeal.main_arg0))
      ∧ r.2.sem = fun _ => 0)

def quiescent_SumMix [hSumMix : Cert.SumMix.Facts] : Prop :=
  ∀ (m : (ℓ : Loc Cert.SumMix.nD Cert.SumMix.τ Cert.SumMix.sig) → Buf (Elt Bits) ℓ) (g : Dev Cert.SumMix.nD → PrngReg), Pre_SumMix m →
    θ_run (Cert.SumMix.defs (F := Bits)) (onTc (τ := Cert.SumMix.τ) (Cert.SumMix.main (F := Bits))) ⟨m, fun _ => 0, g⟩ (fun r => (∀ c : Dev Cert.SumMix.nD,
      r.2.mem ((c.tc : Thread Cert.SumMix.nD Cert.SumMix.τ).loc Cert.SumMix.main_arg0) = m ((c.tc : Thread Cert.SumMix.nD Cert.SumMix.τ).loc Cert.SumMix.main_arg0))
      ∧ r.2.sem = fun _ => 0)

def quiescent_SumMixIdeal [hSumMixIdeal : Cert.SumMixIdeal.Facts] : Prop :=
  ∀ (m : (ℓ : Loc Cert.SumMixIdeal.nD Cert.SumMixIdeal.τ Cert.SumMixIdeal.sig) → Buf (Elt Ideal) ℓ) (g : Dev Cert.SumMixIdeal.nD → PrngReg), Pre_SumMixIdeal m →
    θ_run (Cert.SumMixIdeal.defs (F := Ideal)) (onTc (τ := Cert.SumMixIdeal.τ) (Cert.SumMixIdeal.main (F := Ideal))) ⟨m, fun _ => 0, g⟩ (fun r => (∀ c : Dev Cert.SumMixIdeal.nD,
      r.2.mem ((c.tc : Thread Cert.SumMixIdeal.nD Cert.SumMixIdeal.τ).loc Cert.SumMixIdeal.main_arg0) = m ((c.tc : Thread Cert.SumMixIdeal.nD Cert.SumMixIdeal.τ).loc Cert.SumMixIdeal.main_arg0))
      ∧ r.2.sem = fun _ => 0)

def quiescent_SumMixReferenceIdeal [hSumMixReferenceIdeal : Cert.SumMixReferenceIdeal.Facts] : Prop :=
  ∀ (m : (ℓ : Loc Cert.SumMixReferenceIdeal.nD Cert.SumMixReferenceIdeal.τ Cert.SumMixReferenceIdeal.sig) → Buf (Elt Ideal) ℓ) (g : Dev Cert.SumMixReferenceIdeal.nD → PrngReg), Pre_SumMixReferenceIdeal m →
    θ_run (Cert.SumMixReferenceIdeal.defs (F := Ideal)) (onTc (τ := Cert.SumMixReferenceIdeal.τ) (Cert.SumMixReferenceIdeal.main (F := Ideal))) ⟨m, fun _ => 0, g⟩ (fun r => (∀ c : Dev Cert.SumMixReferenceIdeal.nD,
      r.2.mem ((c.tc : Thread Cert.SumMixReferenceIdeal.nD Cert.SumMixReferenceIdeal.τ).loc Cert.SumMixReferenceIdeal.main_arg0) = m ((c.tc : Thread Cert.SumMixReferenceIdeal.nD Cert.SumMixReferenceIdeal.τ).loc Cert.SumMixReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![2048, 640]⟩ ⟨2, ![2048, 5120]⟩ 1 8 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def preserves_FfnUp_FfnUpIdeal : Prop :=
  True

def algebraic_FfnUpIdeal_FfnUpReferenceIdeal [hFfnUpIdeal : Cert.FfnUpIdeal.Facts] [hFfnUpReferenceIdeal : Cert.FfnUpReferenceIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg)
    (m' : (ℓ : Loc Cert.FfnUpReferenceIdeal.nD Cert.FfnUpReferenceIdeal.τ Cert.FfnUpReferenceIdeal.sig) → Buf (Elt Ideal) ℓ) (g' : Dev Cert.FfnUpReferenceIdeal.nD → PrngReg), Pre_FfnUpIdeal m →
    (∀ c : Dev Cert.FfnUpIdeal.nD,
      m ((c.tc : Thread Cert.FfnUpIdeal.nD Cert.FfnUpIdeal.τ).loc Cert.FfnUpIdeal.main_arg0) = Layout.block ⟨2, ![8192, 2048]⟩ ⟨2, ![65536, 2048]⟩ 0 8 c (m' (((0 : Dev Cert.FfnUpReferenceIdeal.nD).tc : Thread Cert.FfnUpReferenceIdeal.nD Cert.FfnUpReferenceIdeal.τ).loc Cert.FfnUpReferenceIdeal.main_arg0))
      ∧ m ((c.tc : Thread Cert.FfnUpIdeal.nD Cert.FfnUpIdeal.τ).loc Cert.FfnUpIdeal.main_arg1) = m' (((0 : Dev Cert.FfnUpReferenceIdeal.nD).tc : Thread Cert.FfnUpReferenceIdeal.nD Cert.FfnUpReferenceIdeal.τ).loc Cert.FfnUpReferenceIdeal.main_arg1)
      ∧ m ((c.tc : Thread Cert.FfnUpIdeal.nD Cert.FfnUpIdeal.τ).loc Cert.FfnUpIdeal.main_arg2) = m' (((0 : Dev Cert.FfnUpReferenceIdeal.nD).tc : Thread Cert.FfnUpReferenceIdeal.nD Cert.FfnUpReferenceIdeal.τ).loc Cert.FfnUpReferenceIdeal.main_arg2)
      ∧ m ((c.tc : Thread Cert.FfnUpIdeal.nD Cert.FfnUpIdeal.τ).loc Cert.FfnUpIdeal.main_arg3) = Layout.block ⟨2, ![704, 2048]⟩ ⟨2, ![5632, 2048]⟩ 0 8 c (m' (((0 : Dev Cert.FfnUpReferenceIdeal.nD).tc : Thread Cert.FfnUpReferenceIdeal.nD Cert.FfnUpReferenceIdeal.τ).loc Cert.FfnUpReferenceIdeal.main_arg3))) →
    ∃ (v0 : Buf (Elt Ideal) (((0 : Dev Cert.FfnUpReferenceIdeal.nD).tc : Thread Cert.FfnUpReferenceIdeal.nD Cert.FfnUpReferenceIdeal.τ).loc Cert.FfnUpReferenceIdeal.main_v4)) (v1 : Buf (Elt Ideal) (((0 : Dev Cert.FfnUpReferenceIdeal.nD).tc : Thread Cert.FfnUpReferenceIdeal.nD Cert.FfnUpReferenceIdeal.τ).loc Cert.FfnUpReferenceIdeal.main_v5)) (v2 : Buf (Elt Ideal) (((0 : Dev Cert.FfnUpReferenceIdeal.nD).tc : Thread Cert.FfnUpReferenceIdeal.nD Cert.FfnUpReferenceIdeal.τ).loc Cert.FfnUpReferenceIdeal.main_v14)) (v3 : Buf (Elt Ideal) (((0 : Dev Cert.FfnUpReferenceIdeal.nD).tc : Thread Cert.FfnUpReferenceIdeal.nD Cert.FfnUpReferenceIdeal.τ).loc Cert.FfnUpReferenceIdeal.main_v15)),
      θ_run (Cert.FfnUpIdeal.defs (F := Ideal)) (onTc (τ := Cert.FfnUpIdeal.τ) (Cert.FfnUpIdeal.main (F := Ideal))) ⟨m, fun _ => 0, g⟩ (fun r => ∀ c : Dev Cert.FfnUpIdeal.nD,
          r.2.mem ((c.tc : Thread Cert.FfnUpIdeal.nD Cert.FfnUpIdeal.τ).loc Cert.FfnUpIdeal.main_v1_0) = Layout.block ⟨3, ![8, 8192, 704]⟩ ⟨3, ![8, 65536, 704]⟩ 1 8 c v0
          ∧ r.2.mem ((c.tc : Thread Cert.FfnUpIdeal.nD Cert.FfnUpIdeal.τ).loc Cert.FfnUpIdeal.main_v1_1) = Layout.block ⟨3, ![8, 8192, 704]⟩ ⟨3, ![8, 65536, 704]⟩ 1 8 c v1
          ∧ r.2.mem ((c.tc : Thread Cert.FfnUpIdeal.nD Cert.FfnUpIdeal.τ).loc Cert.FfnUpIdeal.main_v1_2) = Layout.block ⟨3, ![8, 8192, 704]⟩ ⟨3, ![8, 65536, 704]⟩ 1 8 c v2
          ∧ r.2.mem ((c.tc : Thread Cert.FfnUpIdeal.nD Cert.FfnUpIdeal.τ).loc Cert.FfnUpIdeal.main_v1_3) = v3
          ∧ r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
          ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1)
          ∧ r.2.mem ((c.tc : Thread Cert.FfnUpIdeal.nD Cert.FfnUpIdeal.τ).loc Cert.FfnUpIdeal.main_arg2) = m ((c.tc : Thread Cert.FfnUpIdeal.nD Cert.FfnUpIdeal.τ).loc Cert.FfnUpIdeal.main_arg2)
          ∧ r.2.mem ((c.tc : Thread Cert.FfnUpIdeal.nD Cert.FfnUpIdeal.τ).loc Cert.FfnUpIdeal.main_arg3) = m ((c.tc : Thread Cert.FfnUpIdeal.nD Cert.FfnUpIdeal.τ).loc Cert.FfnUpIdeal.main_arg3))
      ∧ θ_run (Cert.FfnUpReferenceIdeal.defs (F := Ideal)) (onTc (τ := Cert.FfnUpReferenceIdeal.τ) (Cert.FfnUpReferenceIdeal.main (F := Ideal))) ⟨m', fun _ => 0, g'⟩ (fun r =>
          r.2.mem (((0 : Dev Cert.FfnUpReferenceIdeal.nD).tc : Thread Cert.FfnUpReferenceIdeal.nD Cert.FfnUpReferenceIdeal.τ).loc Cert.FfnUpReferenceIdeal.main_v4) = v0
          ∧ r.2.mem (((0 : Dev Cert.FfnUpReferenceIdeal.nD).tc : Thread Cert.FfnUpReferenceIdeal.nD Cert.FfnUpReferenceIdeal.τ).loc Cert.FfnUpReferenceIdeal.main_v5) = v1
          ∧ r.2.mem (((0 : Dev Cert.FfnUpReferenceIdeal.nD).tc : Thread Cert.FfnUpReferenceIdeal.nD Cert.FfnUpReferenceIdeal.τ).loc Cert.FfnUpReferenceIdeal.main_v14) = v2
          ∧ r.2.mem (((0 : Dev Cert.FfnUpReferenceIdeal.nD).tc : Thread Cert.FfnUpReferenceIdeal.nD Cert.FfnUpReferenceIdeal.τ).loc Cert.FfnUpReferenceIdeal.main_v15) = v3
          ∧ r.2.mem (((0 : Dev Cert.FfnUpReferenceIdeal.nD).tc : Thread Cert.FfnUpReferenceIdeal.nD Cert.FfnUpReferenceIdeal.τ).loc Cert.FfnUpReferenceIdeal.main_arg0) = m' (((0 : Dev Cert.FfnUpReferenceIdeal.nD).tc : Thread Cert.FfnUpReferenceIdeal.nD Cert.FfnUpReferenceIdeal.τ).loc Cert.FfnUpReferenceIdeal.main_arg0)
          ∧ r.2.mem (((0 : Dev Cert.FfnUpReferenceIdeal.nD).tc : Thread Cert.FfnUpReferenceIdeal.nD Cert.FfnUpReferenceIdeal.τ).loc Cert.FfnUpReferenceIdeal.main_arg1) = m' (((0 : Dev Cert.FfnUpReferenceIdeal.nD).tc : Thread Cert.FfnUpReferenceIdeal.nD Cert.FfnUpReferenceIdeal.τ).loc Cert.FfnUpReferenceIdeal.main_arg1)
          ∧ r.2.mem (((0 : Dev Cert.FfnUpReferenceIdeal.nD).tc : Thread Cert.FfnUpReferenceIdeal.nD Cert.FfnUpReferenceIdeal.τ).loc Cert.FfnUpReferenceIdeal.main_arg2) = m' (((0 : Dev Cert.FfnUpReferenceIdeal.nD).tc : Thread Cert.FfnUpReferenceIdeal.nD Cert.FfnUpReferenceIdeal.τ).loc Cert.FfnUpReferenceIdeal.main_arg2)
          ∧ r.2.mem (((0 : Dev Cert.FfnUpReferenceIdeal.nD).tc : Thread Cert.FfnUpReferenceIdeal.nD Cert.FfnUpReferenceIdeal.τ).loc Cert.FfnUpReferenceIdeal.main_arg3) = m' (((0 : Dev Cert.FfnUpReferenceIdeal.nD).tc : Thread Cert.FfnUpReferenceIdeal.nD Cert.FfnUpReferenceIdeal.τ).loc Cert.FfnUpReferenceIdeal.main_arg3))

def preserves_BwdIn_BwdInIdeal : Prop :=
  True

def algebraic_BwdInIdeal_BwdInReferenceIdeal [hBwdInIdeal : Cert.BwdInIdeal.Facts] [hBwdInReferenceIdeal : Cert.BwdInReferenceIdeal.Facts] : Prop :=
  ∀ (m : (ℓ : Loc Cert.BwdInIdeal.nD Cert.BwdInIdeal.τ Cert.BwdInIdeal.sig) → Buf (Elt Ideal) ℓ) (g : Dev Cert.BwdInIdeal.nD → PrngReg)
    (m' : (ℓ : Loc Cert.BwdInReferenceIdeal.nD Cert.BwdInReferenceIdeal.τ Cert.BwdInReferenceIdeal.sig) → Buf (Elt Ideal) ℓ) (g' : Dev Cert.BwdInReferenceIdeal.nD → PrngReg), Pre_BwdInIdeal m →
    (∀ c : Dev Cert.BwdInIdeal.nD,
      m ((c.tc : Thread Cert.BwdInIdeal.nD Cert.BwdInIdeal.τ).loc Cert.BwdInIdeal.main_arg0) = Layout.block ⟨3, ![8, 8192, 704]⟩ ⟨3, ![8, 65536, 704]⟩ 1 8 c (m' (((0 : Dev Cert.BwdInReferenceIdeal.nD).tc : Thread Cert.BwdInReferenceIdeal.nD Cert.BwdInReferenceIdeal.τ).loc Cert.BwdInReferenceIdeal.main_arg0))
      ∧ m ((c.tc : Thread Cert.BwdInIdeal.nD Cert.BwdInIdeal.τ).loc Cert.BwdInIdeal.main_arg1) = Layout.block ⟨3, ![8, 8192, 704]⟩ ⟨3, ![8, 65536, 704]⟩ 1 8 c (m' (((0 : Dev Cert.BwdInReferenceIdeal.nD).tc : Thread Cert.BwdInReferenceIdeal.nD Cert.BwdInReferenceIdeal.τ).loc Cert.BwdInReferenceIdeal.main_arg1))
      ∧ m ((c.tc : Thread Cert.BwdInIdeal.nD Cert.BwdInIdeal.τ).loc Cert.BwdInIdeal.main_arg2) = m' (((0 : Dev Cert.BwdInReferenceIdeal.nD).tc : Thread Cert.BwdInReferenceIdeal.nD Cert.BwdInReferenceIdeal.τ).loc Cert.BwdInReferenceIdeal.main_arg2)
      ∧ m ((c.tc : Thread Cert.BwdInIdeal.nD Cert.BwdInIdeal.τ).loc Cert.BwdInIdeal.main_arg3) = m' (((0 : Dev Cert.BwdInReferenceIdeal.nD).tc : Thread Cert.BwdInReferenceIdeal.nD Cert.BwdInReferenceIdeal.τ).loc Cert.BwdInReferenceIdeal.main_arg3)
      ∧ m ((c.tc : Thread Cert.BwdInIdeal.nD Cert.BwdInIdeal.τ).loc Cert.BwdInIdeal.main_arg4) = Layout.block ⟨3, ![8, 2048, 704]⟩ ⟨3, ![64, 2048, 704]⟩ 0 8 c (m' (((0 : Dev Cert.BwdInReferenceIdeal.nD).tc : Thread Cert.BwdInReferenceIdeal.nD Cert.BwdInReferenceIdeal.τ).loc Cert.BwdInReferenceIdeal.main_arg4))) →
    ∃ (v0 : Buf (Elt Ideal) (((0 : Dev Cert.BwdInReferenceIdeal.nD).tc : Thread Cert.BwdInReferenceIdeal.nD Cert.BwdInReferenceIdeal.τ).loc Cert.BwdInReferenceIdeal.main_v2)) (v1 : Buf (Elt Ideal) (((0 : Dev Cert.BwdInReferenceIdeal.nD).tc : Thread Cert.BwdInReferenceIdeal.nD Cert.BwdInReferenceIdeal.τ).loc Cert.BwdInReferenceIdeal.main_v5)),
      θ_run (Cert.BwdInIdeal.defs (F := Ideal)) (onTc (τ := Cert.BwdInIdeal.τ) (Cert.BwdInIdeal.main (F := Ideal))) ⟨m, fun _ => 0, g⟩ (fun r => ∀ c : Dev Cert.BwdInIdeal.nD,
          r.2.mem ((c.tc : Thread Cert.BwdInIdeal.nD Cert.BwdInIdeal.τ).loc Cert.BwdInIdeal.main_v1_0) = Layout.block ⟨2, ![8192, 2048]⟩ ⟨2, ![65536, 2048]⟩ 0 8 c v0
          ∧ r.2.mem ((c.tc : Thread Cert.BwdInIdeal.nD Cert.BwdInIdeal.τ).loc Cert.BwdInIdeal.main_v1_1) = Layout.block ⟨3, ![8, 2048, 704]⟩ ⟨3, ![64, 2048, 704]⟩ 0 8 c v1
          ∧ r.2.mem ((c.tc : Thread Cert.BwdInIdeal.nD Cert.BwdInIdeal.τ).loc Cert.BwdInIdeal.main_arg0) = m ((c.tc : Thread Cert.BwdInIdeal.nD Cert.BwdInIdeal.τ).loc Cert.BwdInIdeal.main_arg0)
          ∧ r.2.mem ((c.tc : Thread Cert.BwdInIdeal.nD Cert.BwdInIdeal.τ).loc Cert.BwdInIdeal.main_arg1) = m ((c.tc : Thread Cert.BwdInIdeal.nD Cert.BwdInIdeal.τ).loc Cert.BwdInIdeal.main_arg1)
          ∧ r.2.mem ((c.tc : Thread Cert.BwdInIdeal.nD Cert.BwdInIdeal.τ).loc Cert.BwdInIdeal.main_arg2) = m ((c.tc : Thread Cert.BwdInIdeal.nD Cert.BwdInIdeal.τ).loc Cert.BwdInIdeal.main_arg2)
          ∧ r.2.mem ((c.tc : Thread Cert.BwdInIdeal.nD Cert.BwdInIdeal.τ).loc Cert.BwdInIdeal.main_arg3) = m ((c.tc : Thread Cert.BwdInIdeal.nD Cert.BwdInIdeal.τ).loc Cert.BwdInIdeal.main_arg3)
          ∧ r.2.mem ((c.tc : Thread Cert.BwdInIdeal.nD Cert.BwdInIdeal.τ).loc Cert.BwdInIdeal.main_arg4) = m ((c.tc : Thread Cert.BwdInIdeal.nD Cert.BwdInIdeal.τ).loc Cert.BwdInIdeal.main_arg4))
      ∧ θ_run (Cert.BwdInReferenceIdeal.defs (F := Ideal)) (onTc (τ := Cert.BwdInReferenceIdeal.τ) (Cert.BwdInReferenceIdeal.main (F := Ideal))) ⟨m', fun _ => 0, g'⟩ (fun r =>
          r.2.mem (((0 : Dev Cert.BwdInReferenceIdeal.nD).tc : Thread Cert.BwdInReferenceIdeal.nD Cert.BwdInReferenceIdeal.τ).loc Cert.BwdInReferenceIdeal.main_v2) = v0
          ∧ r.2.mem (((0 : Dev Cert.BwdInReferenceIdeal.nD).tc : Thread Cert.BwdInReferenceIdeal.nD Cert.BwdInReferenceIdeal.τ).loc Cert.BwdInReferenceIdeal.main_v5) = v1
          ∧ r.2.mem (((0 : Dev Cert.BwdInReferenceIdeal.nD).tc : Thread Cert.BwdInReferenceIdeal.nD Cert.BwdInReferenceIdeal.τ).loc Cert.BwdInReferenceIdeal.main_arg0) = m' (((0 : Dev Cert.BwdInReferenceIdeal.nD).tc : Thread Cert.BwdInReferenceIdeal.nD Cert.BwdInReferenceIdeal.τ).loc Cert.BwdInReferenceIdeal.main_arg0)
          ∧ r.2.mem (((0 : Dev Cert.BwdInReferenceIdeal.nD).tc : Thread Cert.BwdInReferenceIdeal.nD Cert.BwdInReferenceIdeal.τ).loc Cert.BwdInReferenceIdeal.main_arg1) = m' (((0 : Dev Cert.BwdInReferenceIdeal.nD).tc : Thread Cert.BwdInReferenceIdeal.nD Cert.BwdInReferenceIdeal.τ).loc Cert.BwdInReferenceIdeal.main_arg1)
          ∧ r.2.mem (((0 : Dev Cert.BwdInReferenceIdeal.nD).tc : Thread Cert.BwdInReferenceIdeal.nD Cert.BwdInReferenceIdeal.τ).loc Cert.BwdInReferenceIdeal.main_arg2) = m' (((0 : Dev Cert.BwdInReferenceIdeal.nD).tc : Thread Cert.BwdInReferenceIdeal.nD Cert.BwdInReferenceIdeal.τ).loc Cert.BwdInReferenceIdeal.main_arg2)
          ∧ r.2.mem (((0 : Dev Cert.BwdInReferenceIdeal.nD).tc : Thread Cert.BwdInReferenceIdeal.nD Cert.BwdInReferenceIdeal.τ).loc Cert.BwdInReferenceIdeal.main_arg3) = m' (((0 : Dev Cert.BwdInReferenceIdeal.nD).tc : Thread Cert.BwdInReferenceIdeal.nD Cert.BwdInReferenceIdeal.τ).loc Cert.BwdInReferenceIdeal.main_arg3)
          ∧ r.2.mem (((0 : Dev Cert.BwdInReferenceIdeal.nD).tc : Thread Cert.BwdInReferenceIdeal.nD Cert.BwdInReferenceIdeal.τ).loc Cert.BwdInReferenceIdeal.main_arg4) = m' (((0 : Dev Cert.BwdInReferenceIdeal.nD).tc : Thread Cert.BwdInReferenceIdeal.nD Cert.BwdInReferenceIdeal.τ).loc Cert.BwdInReferenceIdeal.main_arg4))

def preserves_WgradUp_WgradUpIdeal : Prop :=
  True

def algebraic_WgradUpIdeal_WgradUpReferenceIdeal [hWgradUpIdeal : Cert.WgradUpIdeal.Facts] [hWgradUpReferenceIdeal : Cert.WgradUpReferenceIdeal.Facts] : Prop :=
  ∀ (m : (ℓ : Loc Cert.WgradUpIdeal.nD Cert.WgradUpIdeal.τ Cert.WgradUpIdeal.sig) → Buf (Elt Ideal) ℓ) (g : Dev Cert.WgradUpIdeal.nD → PrngReg)
    (m' : (ℓ : Loc Cert.WgradUpReferenceIdeal.nD Cert.WgradUpReferenceIdeal.τ Cert.WgradUpReferenceIdeal.sig) → Buf (Elt Ideal) ℓ) (g' : Dev Cert.WgradUpReferenceIdeal.nD → PrngReg), Pre_WgradUpIdeal m →
    (∀ c : Dev Cert.WgradUpIdeal.nD,
      m ((c.tc : Thread Cert.WgradUpIdeal.nD Cert.WgradUpIdeal.τ).loc Cert.WgradUpIdeal.main_arg0) = Layout.block ⟨2, ![8192, 2048]⟩ ⟨2, ![65536, 2048]⟩ 0 8 c (m' (((0 : Dev Cert.WgradUpReferenceIdeal.nD).tc : Thread Cert.WgradUpReferenceIdeal.nD Cert.WgradUpReferenceIdeal.τ).loc Cert.WgradUpReferenceIdeal.main_arg0))
      ∧ m ((c.tc : Thread Cert.WgradUpIdeal.nD Cert.WgradUpIdeal.τ).loc Cert.WgradUpIdeal.main_arg1) = Layout.block ⟨3, ![8, 8192, 704]⟩ ⟨3, ![8, 65536, 704]⟩ 1 8 c (m' (((0 : Dev Cert.WgradUpReferenceIdeal.nD).tc : Thread Cert.WgradUpReferenceIdeal.nD Cert.WgradUpReferenceIdeal.τ).loc Cert.WgradUpReferenceIdeal.main_arg1))
      ∧ m ((c.tc : Thread Cert.WgradUpIdeal.nD Cert.WgradUpIdeal.τ).loc Cert.WgradUpIdeal.main_arg2) = Layout.block ⟨3, ![8, 8192, 704]⟩ ⟨3, ![8, 65536, 704]⟩ 1 8 c (m' (((0 : Dev Cert.WgradUpReferenceIdeal.nD).tc : Thread Cert.WgradUpReferenceIdeal.nD Cert.WgradUpReferenceIdeal.τ).loc Cert.WgradUpReferenceIdeal.main_arg2))
      ∧ m ((c.tc : Thread Cert.WgradUpIdeal.nD Cert.WgradUpIdeal.τ).loc Cert.WgradUpIdeal.main_arg3) = Layout.block ⟨3, ![8, 704, 2048]⟩ ⟨3, ![64, 704, 2048]⟩ 0 8 c (m' (((0 : Dev Cert.WgradUpReferenceIdeal.nD).tc : Thread Cert.WgradUpReferenceIdeal.nD Cert.WgradUpReferenceIdeal.τ).loc Cert.WgradUpReferenceIdeal.main_arg3))) →
    ∃ (v0 : Buf (Elt Ideal) (((0 : Dev Cert.WgradUpReferenceIdeal.nD).tc : Thread Cert.WgradUpReferenceIdeal.nD Cert.WgradUpReferenceIdeal.τ).loc Cert.WgradUpReferenceIdeal.main_v5)) (v1 : Buf (Elt Ideal) (((0 : Dev Cert.WgradUpReferenceIdeal.nD).tc : Thread Cert.WgradUpReferenceIdeal.nD Cert.WgradUpReferenceIdeal.τ).loc Cert.WgradUpReferenceIdeal.main_v10)) (v2 : Buf (Elt Ideal) (((0 : Dev Cert.WgradUpReferenceIdeal.nD).tc : Thread Cert.WgradUpReferenceIdeal.nD Cert.WgradUpReferenceIdeal.τ).loc Cert.WgradUpReferenceIdeal.main_v13)),
      θ_run (Cert.WgradUpIdeal.defs (F := Ideal)) (onTc (τ := Cert.WgradUpIdeal.τ) (Cert.WgradUpIdeal.main (F := Ideal))) ⟨m, fun _ => 0, g⟩ (fun r => ∀ c : Dev Cert.WgradUpIdeal.nD,
          r.2.mem ((c.tc : Thread Cert.WgradUpIdeal.nD Cert.WgradUpIdeal.τ).loc Cert.WgradUpIdeal.main_v1_0) = Layout.block ⟨3, ![8, 2048, 704]⟩ ⟨3, ![64, 2048, 704]⟩ 0 8 c v0
          ∧ r.2.mem ((c.tc : Thread Cert.WgradUpIdeal.nD Cert.WgradUpIdeal.τ).loc Cert.WgradUpIdeal.main_v1_1) = Layout.block ⟨3, ![8, 2048, 704]⟩ ⟨3, ![64, 2048, 704]⟩ 0 8 c v1
          ∧ r.2.mem ((c.tc : Thread Cert.WgradUpIdeal.nD Cert.WgradUpIdeal.τ).loc Cert.WgradUpIdeal.main_v1_2) = Layout.block ⟨3, ![8, 704, 2048]⟩ ⟨3, ![64, 704, 2048]⟩ 0 8 c v2
          ∧ r.2.mem ((c.tc : Thread Cert.WgradUpIdeal.nD Cert.WgradUpIdeal.τ).loc Cert.WgradUpIdeal.main_arg0) = m ((c.tc : Thread Cert.WgradUpIdeal.nD Cert.WgradUpIdeal.τ).loc Cert.WgradUpIdeal.main_arg0)
          ∧ r.2.mem ((c.tc : Thread Cert.WgradUpIdeal.nD Cert.WgradUpIdeal.τ).loc Cert.WgradUpIdeal.main_arg1) = m ((c.tc : Thread Cert.WgradUpIdeal.nD Cert.WgradUpIdeal.τ).loc Cert.WgradUpIdeal.main_arg1)
          ∧ r.2.mem ((c.tc : Thread Cert.WgradUpIdeal.nD Cert.WgradUpIdeal.τ).loc Cert.WgradUpIdeal.main_arg2) = m ((c.tc : Thread Cert.WgradUpIdeal.nD Cert.WgradUpIdeal.τ).loc Cert.WgradUpIdeal.main_arg2)
          ∧ r.2.mem ((c.tc : Thread Cert.WgradUpIdeal.nD Cert.WgradUpIdeal.τ).loc Cert.WgradUpIdeal.main_arg3) = m ((c.tc : Thread Cert.WgradUpIdeal.nD Cert.WgradUpIdeal.τ).loc Cert.WgradUpIdeal.main_arg3))
      ∧ θ_run (Cert.WgradUpReferenceIdeal.defs (F := Ideal)) (onTc (τ := Cert.WgradUpReferenceIdeal.τ) (Cert.WgradUpReferenceIdeal.main (F := Ideal))) ⟨m', fun _ => 0, g'⟩ (fun r =>
          r.2.mem (((0 : Dev Cert.WgradUpReferenceIdeal.nD).tc : Thread Cert.WgradUpReferenceIdeal.nD Cert.WgradUpReferenceIdeal.τ).loc Cert.WgradUpReferenceIdeal.main_v5) = v0
          ∧ r.2.mem (((0 : Dev Cert.WgradUpReferenceIdeal.nD).tc : Thread Cert.WgradUpReferenceIdeal.nD Cert.WgradUpReferenceIdeal.τ).loc Cert.WgradUpReferenceIdeal.main_v10) = v1
          ∧ r.2.mem (((0 : Dev Cert.WgradUpReferenceIdeal.nD).tc : Thread Cert.WgradUpReferenceIdeal.nD Cert.WgradUpReferenceIdeal.τ).loc Cert.WgradUpReferenceIdeal.main_v13) = v2
          ∧ r.2.mem (((0 : Dev Cert.WgradUpReferenceIdeal.nD).tc : Thread Cert.WgradUpReferenceIdeal.nD Cert.WgradUpReferenceIdeal.τ).loc Cert.WgradUpReferenceIdeal.main_arg0) = m' (((0 : Dev Cert.WgradUpReferenceIdeal.nD).tc : Thread Cert.WgradUpReferenceIdeal.nD Cert.WgradUpReferenceIdeal.τ).loc Cert.WgradUpReferenceIdeal.main_arg0)
          ∧ r.2.mem (((0 : Dev Cert.WgradUpReferenceIdeal.nD).tc : Thread Cert.WgradUpReferenceIdeal.nD Cert.WgradUpReferenceIdeal.τ).loc Cert.WgradUpReferenceIdeal.main_arg1) = m' (((0 : Dev Cert.WgradUpReferenceIdeal.nD).tc : Thread Cert.WgradUpReferenceIdeal.nD Cert.WgradUpReferenceIdeal.τ).loc Cert.WgradUpReferenceIdeal.main_arg1)
          ∧ r.2.mem (((0 : Dev Cert.WgradUpReferenceIdeal.nD).tc : Thread Cert.WgradUpReferenceIdeal.nD Cert.WgradUpReferenceIdeal.τ).loc Cert.WgradUpReferenceIdeal.main_arg2) = m' (((0 : Dev Cert.WgradUpReferenceIdeal.nD).tc : Thread Cert.WgradUpReferenceIdeal.nD Cert.WgradUpReferenceIdeal.τ).loc Cert.WgradUpReferenceIdeal.main_arg2)
          ∧ r.2.mem (((0 : Dev Cert.WgradUpReferenceIdeal.nD).tc : Thread Cert.WgradUpReferenceIdeal.nD Cert.WgradUpReferenceIdeal.τ).loc Cert.WgradUpReferenceIdeal.main_arg3) = m' (((0 : Dev Cert.WgradUpReferenceIdeal.nD).tc : Thread Cert.WgradUpReferenceIdeal.nD Cert.WgradUpReferenceIdeal.τ).loc Cert.WgradUpReferenceIdeal.main_arg3))

def preserves_AdamIn_AdamInIdeal : Prop :=
  True

def algebraic_AdamInIdeal_AdamInReferenceIdeal [hAdamInIdeal : Cert.AdamInIdeal.Facts] [hAdamInReferenceIdeal : Cert.AdamInReferenceIdeal.Facts] : Prop :=
  ∀ (m : (ℓ : Loc Cert.AdamInIdeal.nD Cert.AdamInIdeal.τ Cert.AdamInIdeal.sig) → Buf (Elt Ideal) ℓ) (g : Dev Cert.AdamInIdeal.nD → PrngReg)
    (m' : (ℓ : Loc Cert.AdamInReferenceIdeal.nD Cert.AdamInReferenceIdeal.τ Cert.AdamInReferenceIdeal.sig) → Buf (Elt Ideal) ℓ) (g' : Dev Cert.AdamInReferenceIdeal.nD → PrngReg), Pre_AdamInIdeal m →
    (∀ c : Dev Cert.AdamInIdeal.nD,
      m' ((c.tc : Thread Cert.AdamInReferenceIdeal.nD Cert.AdamInReferenceIdeal.τ).loc Cert.AdamInReferenceIdeal.main_arg0) = m ((c.tc : Thread Cert.AdamInIdeal.nD Cert.AdamInIdeal.τ).loc Cert.AdamInIdeal.main_arg0)
      ∧ m' ((c.tc : Thread Cert.AdamInReferenceIdeal.nD Cert.AdamInReferenceIdeal.τ).loc Cert.AdamInReferenceIdeal.main_arg1) = m ((c.tc : Thread Cert.AdamInIdeal.nD Cert.AdamInIdeal.τ).loc Cert.AdamInIdeal.main_arg1)
      ∧ m' ((c.tc : Thread Cert.AdamInReferenceIdeal.nD Cert.AdamInReferenceIdeal.τ).loc Cert.AdamInReferenceIdeal.main_arg2) = m ((c.tc : Thread Cert.AdamInIdeal.nD Cert.AdamInIdeal.τ).loc Cert.AdamInIdeal.main_arg2)
      ∧ m' ((c.tc : Thread Cert.AdamInReferenceIdeal.nD Cert.AdamInReferenceIdeal.τ).loc Cert.AdamInReferenceIdeal.main_arg3) = m ((c.tc : Thread Cert.AdamInIdeal.nD Cert.AdamInIdeal.τ).loc Cert.AdamInIdeal.main_arg3)) →
    ∃ (v0 : (c : Dev Cert.AdamInIdeal.nD) → Buf (Elt Ideal) ((c.tc : Thread Cert.AdamInIdeal.nD Cert.AdamInIdeal.τ).loc Cert.AdamInIdeal.main_v0_0)) (v1 : (c : Dev Cert.AdamInIdeal.nD) → Buf (Elt Ideal) ((c.tc : Thread Cert.AdamInIdeal.nD Cert.AdamInIdeal.τ).loc Cert.AdamInIdeal.main_v0_1)) (v2 : (c : Dev Cert.AdamInIdeal.nD) → Buf (Elt Ideal) ((c.tc : Thread Cert.AdamInIdeal.nD Cert.AdamInIdeal.τ).loc Cert.AdamInIdeal.main_v0_2)) (v3 : (c : Dev Cert.AdamInIdeal.nD) → Buf (Elt Ideal) ((c.tc : Thread Cert.AdamInIdeal.nD Cert.AdamInIdeal.τ).loc Cert.AdamInIdeal.main_v0_3)),
      θ_run (Cert.AdamInIdeal.defs (F := Ideal)) (onTc (τ := Cert.AdamInIdeal.τ) (Cert.AdamInIdeal.main (F := Ideal))) ⟨m, fun _ => 0, g⟩ (fun r => ∀ c : Dev Cert.AdamInIdeal.nD,
          r.2.mem ((c.tc : Thread Cert.AdamInIdeal.nD Cert.AdamInIdeal.τ).loc Cert.AdamInIdeal.main_v0_0) = v0 c
          ∧ r.2.mem ((c.tc : Thread Cert.AdamInIdeal.nD Cert.AdamInIdeal.τ).loc Cert.AdamInIdeal.main_v0_1) = v1 c
          ∧ r.2.mem ((c.tc : Thread Cert.AdamInIdeal.nD Cert.AdamInIdeal.τ).loc Cert.AdamInIdeal.main_v0_2) = v2 c
          ∧ r.2.mem ((c.tc : Thread Cert.AdamInIdeal.nD Cert.AdamInIdeal.τ).loc Cert.AdamInIdeal.main_v0_3) = v3 c
          ∧ r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
          ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
          ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
          ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ θ_run (Cert.AdamInReferenceIdeal.defs (F := Ideal)) (onTc (τ := Cert.AdamInReferenceIdeal.τ) (Cert.AdamInReferenceIdeal.main (F := Ideal))) ⟨m', fun _ => 0, g'⟩ (fun r => ∀ c : Dev Cert.AdamInReferenceIdeal.nD,
          r.2.mem ((c.tc : Thread Cert.AdamInReferenceIdeal.nD Cert.AdamInReferenceIdeal.τ).loc Cert.AdamInReferenceIdeal.main_v1) = v0 c
          ∧ r.2.mem ((c.tc : Thread Cert.AdamInReferenceIdeal.nD Cert.AdamInReferenceIdeal.τ).loc Cert.AdamInReferenceIdeal.main_v25) = v1 c
          ∧ r.2.mem ((c.tc : Thread Cert.AdamInReferenceIdeal.nD Cert.AdamInReferenceIdeal.τ).loc Cert.AdamInReferenceIdeal.main_v6) = v2 c
          ∧ r.2.mem ((c.tc : Thread Cert.AdamInReferenceIdeal.nD Cert.AdamInReferenceIdeal.τ).loc Cert.AdamInReferenceIdeal.main_v12) = v3 c
          ∧ r.2.mem ((c.tc : Thread Cert.AdamInReferenceIdeal.nD Cert.AdamInReferenceIdeal.τ).loc Cert.AdamInReferenceIdeal.main_arg0) = m' ((c.tc : Thread Cert.AdamInReferenceIdeal.nD Cert.AdamInReferenceIdeal.τ).loc Cert.AdamInReferenceIdeal.main_arg0)
          ∧ r.2.mem ((c.tc : Thread Cert.AdamInReferenceIdeal.nD Cert.AdamInReferenceIdeal.τ).loc Cert.AdamInReferenceIdeal.main_arg1) = m' ((c.tc : Thread Cert.AdamInReferenceIdeal.nD Cert.AdamInReferenceIdeal.τ).loc Cert.AdamInReferenceIdeal.main_arg1)
          ∧ r.2.mem ((c.tc : Thread Cert.AdamInReferenceIdeal.nD Cert.AdamInReferenceIdeal.τ).loc Cert.AdamInReferenceIdeal.main_arg2) = m' ((c.tc : Thread Cert.AdamInReferenceIdeal.nD Cert.AdamInReferenceIdeal.τ).loc Cert.AdamInReferenceIdeal.main_arg2)
          ∧ r.2.mem ((c.tc : Thread Cert.AdamInReferenceIdeal.nD Cert.AdamInReferenceIdeal.τ).loc Cert.AdamInReferenceIdeal.main_arg3) = m' ((c.tc : Thread Cert.AdamInReferenceIdeal.nD Cert.AdamInReferenceIdeal.τ).loc Cert.AdamInReferenceIdeal.main_arg3))

def preserves_AdamGlu_AdamGluIdeal : Prop :=
  True

def algebraic_AdamGluIdeal_AdamGluReferenceIdeal [hAdamGluIdeal : Cert.AdamGluIdeal.Facts] [hAdamGluReferenceIdeal : Cert.AdamGluReferenceIdeal.Facts] : Prop :=
  ∀ (m : (ℓ : Loc Cert.AdamGluIdeal.nD Cert.AdamGluIdeal.τ Cert.AdamGluIdeal.sig) → Buf (Elt Ideal) ℓ) (g : Dev Cert.AdamGluIdeal.nD → PrngReg)
    (m' : (ℓ : Loc Cert.AdamGluReferenceIdeal.nD Cert.AdamGluReferenceIdeal.τ Cert.AdamGluReferenceIdeal.sig) → Buf (Elt Ideal) ℓ) (g' : Dev Cert.AdamGluReferenceIdeal.nD → PrngReg), Pre_AdamGluIdeal m →
    (∀ c : Dev Cert.AdamGluIdeal.nD,
      m' ((c.tc : Thread Cert.AdamGluReferenceIdeal.nD Cert.AdamGluReferenceIdeal.τ).loc Cert.AdamGluReferenceIdeal.main_arg0) = m ((c.tc : Thread Cert.AdamGluIdeal.nD Cert.AdamGluIdeal.τ).loc Cert.AdamGluIdeal.main_arg0)
      ∧ m' ((c.tc : Thread Cert.AdamGluReferenceIdeal.nD Cert.AdamGluReferenceIdeal.τ).loc Cert.AdamGluReferenceIdeal.main_arg1) = m ((c.tc : Thread Cert.AdamGluIdeal.nD Cert.AdamGluIdeal.τ).loc Cert.AdamGluIdeal.main_arg1)
      ∧ m' ((c.tc : Thread Cert.AdamGluReferenceIdeal.nD Cert.AdamGluReferenceIdeal.τ).loc Cert.AdamGluReferenceIdeal.main_arg2) = m ((c.tc : Thread Cert.AdamGluIdeal.nD Cert.AdamGluIdeal.τ).loc Cert.AdamGluIdeal.main_arg2)
      ∧ m' ((c.tc : Thread Cert.AdamGluReferenceIdeal.nD Cert.AdamGluReferenceIdeal.τ).loc Cert.AdamGluReferenceIdeal.main_arg3) = m ((c.tc : Thread Cert.AdamGluIdeal.nD Cert.AdamGluIdeal.τ).loc Cert.AdamGluIdeal.main_arg3)) →
    ∃ (v0 : (c : Dev Cert.AdamGluIdeal.nD) → Buf (Elt Ideal) ((c.tc : Thread Cert.AdamGluIdeal.nD Cert.AdamGluIdeal.τ).loc Cert.AdamGluIdeal.main_v0_0)) (v1 : (c : Dev Cert.AdamGluIdeal.nD) → Buf (Elt Ideal) ((c.tc : Thread Cert.AdamGluIdeal.nD Cert.AdamGluIdeal.τ).loc Cert.AdamGluIdeal.main_v0_1)) (v2 : (c : Dev Cert.AdamGluIdeal.nD) → Buf (Elt Ideal) ((c.tc : Thread Cert.AdamGluIdeal.nD Cert.AdamGluIdeal.τ).loc Cert.AdamGluIdeal.main_v0_2)) (v3 : (c : Dev Cert.AdamGluIdeal.nD) → Buf (Elt Ideal) ((c.tc : Thread Cert.AdamGluIdeal.nD Cert.AdamGluIdeal.τ).loc Cert.AdamGluIdeal.main_v0_3)),
      θ_run (Cert.AdamGluIdeal.defs (F := Ideal)) (onTc (τ := Cert.AdamGluIdeal.τ) (Cert.AdamGluIdeal.main (F := Ideal))) ⟨m, fun _ => 0, g⟩ (fun r => ∀ c : Dev Cert.AdamGluIdeal.nD,
          r.2.mem ((c.tc : Thread Cert.AdamGluIdeal.nD Cert.AdamGluIdeal.τ).loc Cert.AdamGluIdeal.main_v0_0) = v0 c
          ∧ r.2.mem ((c.tc : Thread Cert.AdamGluIdeal.nD Cert.AdamGluIdeal.τ).loc Cert.AdamGluIdeal.main_v0_1) = v1 c
          ∧ r.2.mem ((c.tc : Thread Cert.AdamGluIdeal.nD Cert.AdamGluIdeal.τ).loc Cert.AdamGluIdeal.main_v0_2) = v2 c
          ∧ r.2.mem ((c.tc : Thread Cert.AdamGluIdeal.nD Cert.AdamGluIdeal.τ).loc Cert.AdamGluIdeal.main_v0_3) = v3 c
          ∧ r.2.mem ((c.tc : Thread Cert.AdamGluIdeal.nD Cert.AdamGluIdeal.τ).loc Cert.AdamGluIdeal.main_arg0) = m ((c.tc : Thread Cert.AdamGluIdeal.nD Cert.AdamGluIdeal.τ).loc Cert.AdamGluIdeal.main_arg0)
          ∧ r.2.mem ((c.tc : Thread Cert.AdamGluIdeal.nD Cert.AdamGluIdeal.τ).loc Cert.AdamGluIdeal.main_arg1) = m ((c.tc : Thread Cert.AdamGluIdeal.nD Cert.AdamGluIdeal.τ).loc Cert.AdamGluIdeal.main_arg1)
          ∧ r.2.mem ((c.tc : Thread Cert.AdamGluIdeal.nD Cert.AdamGluIdeal.τ).loc Cert.AdamGluIdeal.main_arg2) = m ((c.tc : Thread Cert.AdamGluIdeal.nD Cert.AdamGluIdeal.τ).loc Cert.AdamGluIdeal.main_arg2)
          ∧ r.2.mem ((c.tc : Thread Cert.AdamGluIdeal.nD Cert.AdamGluIdeal.τ).loc Cert.AdamGluIdeal.main_arg3) = m ((c.tc : Thread Cert.AdamGluIdeal.nD Cert.AdamGluIdeal.τ).loc Cert.AdamGluIdeal.main_arg3))
      ∧ θ_run (Cert.AdamGluReferenceIdeal.defs (F := Ideal)) (onTc (τ := Cert.AdamGluReferenceIdeal.τ) (Cert.AdamGluReferenceIdeal.main (F := Ideal))) ⟨m', fun _ => 0, g'⟩ (fun r => ∀ c : Dev Cert.AdamGluReferenceIdeal.nD,
          r.2.mem ((c.tc : Thread Cert.AdamGluReferenceIdeal.nD Cert.AdamGluReferenceIdeal.τ).loc Cert.AdamGluReferenceIdeal.main_v1) = v0 c
          ∧ r.2.mem ((c.tc : Thread Cert.AdamGluReferenceIdeal.nD Cert.AdamGluReferenceIdeal.τ).loc Cert.AdamGluReferenceIdeal.main_v25) = v1 c
          ∧ r.2.mem ((c.tc : Thread Cert.AdamGluReferenceIdeal.nD Cert.AdamGluReferenceIdeal.τ).loc Cert.AdamGluReferenceIdeal.main_v6) = v2 c
          ∧ r.2.mem ((c.tc : Thread Cert.AdamGluReferenceIdeal.nD Cert.AdamGluReferenceIdeal.τ).loc Cert.AdamGluReferenceIdeal.main_v12) = v3 c
          ∧ r.2.mem ((c.tc : Thread Cert.AdamGluReferenceIdeal.nD Cert.AdamGluReferenceIdeal.τ).loc Cert.AdamGluReferenceIdeal.main_arg0) = m' ((c.tc : Thread Cert.AdamGluReferenceIdeal.nD Cert.AdamGluReferenceIdeal.τ).loc Cert.AdamGluReferenceIdeal.main_arg0)
          ∧ r.2.mem ((c.tc : Thread Cert.AdamGluReferenceIdeal.nD Cert.AdamGluReferenceIdeal.τ).loc Cert.AdamGluReferenceIdeal.main_arg1) = m' ((c.tc : Thread Cert.AdamGluReferenceIdeal.nD Cert.AdamGluReferenceIdeal.τ).loc Cert.AdamGluReferenceIdeal.main_arg1)
          ∧ r.2.mem ((c.tc : Thread Cert.AdamGluReferenceIdeal.nD Cert.AdamGluReferenceIdeal.τ).loc Cert.AdamGluReferenceIdeal.main_arg2) = m' ((c.tc : Thread Cert.AdamGluReferenceIdeal.nD Cert.AdamGluReferenceIdeal.τ).loc Cert.AdamGluReferenceIdeal.main_arg2)
          ∧ r.2.mem ((c.tc : Thread Cert.AdamGluReferenceIdeal.nD Cert.AdamGluReferenceIdeal.τ).loc Cert.AdamGluReferenceIdeal.main_arg3) = m' ((c.tc : Thread Cert.AdamGluReferenceIdeal.nD Cert.AdamGluReferenceIdeal.τ).loc Cert.AdamGluReferenceIdeal.main_arg3))

def preserves_AdamOut_AdamOutIdeal : Prop :=
  True

def algebraic_AdamOutIdeal_AdamOutReferenceIdeal [hAdamOutIdeal : Cert.AdamOutIdeal.Facts] [hAdamOutReferenceIdeal : Cert.AdamOutReferenceIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg)
    (m' : (ℓ : Loc Cert.AdamOutReferenceIdeal.nD Cert.AdamOutReferenceIdeal.τ Cert.AdamOutReferenceIdeal.sig) → Buf (Elt Ideal) ℓ) (g' : Dev Cert.AdamOutReferenceIdeal.nD → PrngReg), Pre_AdamOutIdeal m →
    (∀ c : Dev Cert.AdamOutIdeal.nD,
      m' ((c.tc : Thread Cert.AdamOutReferenceIdeal.nD Cert.AdamOutReferenceIdeal.τ).loc Cert.AdamOutReferenceIdeal.main_arg0) = m ((c.tc : Thread Cert.AdamOutIdeal.nD Cert.AdamOutIdeal.τ).loc Cert.AdamOutIdeal.main_arg0)
      ∧ m' ((c.tc : Thread Cert.AdamOutReferenceIdeal.nD Cert.AdamOutReferenceIdeal.τ).loc Cert.AdamOutReferenceIdeal.main_arg1) = m ((c.tc : Thread Cert.AdamOutIdeal.nD Cert.AdamOutIdeal.τ).loc Cert.AdamOutIdeal.main_arg1)
      ∧ m' ((c.tc : Thread Cert.AdamOutReferenceIdeal.nD Cert.AdamOutReferenceIdeal.τ).loc Cert.AdamOutReferenceIdeal.main_arg2) = m ((c.tc : Thread Cert.AdamOutIdeal.nD Cert.AdamOutIdeal.τ).loc Cert.AdamOutIdeal.main_arg2)
      ∧ m' ((c.tc : Thread Cert.AdamOutReferenceIdeal.nD Cert.AdamOutReferenceIdeal.τ).loc Cert.AdamOutReferenceIdeal.main_arg3) = m ((c.tc : Thread Cert.AdamOutIdeal.nD Cert.AdamOutIdeal.τ).loc Cert.AdamOutIdeal.main_arg3)) →
    ∃ (v0 : (c : Dev Cert.AdamOutIdeal.nD) → Buf (Elt Ideal) ((c.tc : Thread Cert.AdamOutIdeal.nD Cert.AdamOutIdeal.τ).loc Cert.AdamOutIdeal.main_v0_0)) (v1 : (c : Dev Cert.AdamOutIdeal.nD) → Buf (Elt Ideal) ((c.tc : Thread Cert.AdamOutIdeal.nD Cert.AdamOutIdeal.τ).loc Cert.AdamOutIdeal.main_v0_1)) (v2 : (c : Dev Cert.AdamOutIdeal.nD) → Buf (Elt Ideal) ((c.tc : Thread Cert.AdamOutIdeal.nD Cert.AdamOutIdeal.τ).loc Cert.AdamOutIdeal.main_v0_2)) (v3 : (c : Dev Cert.AdamOutIdeal.nD) → Buf (Elt Ideal) ((c.tc : Thread Cert.AdamOutIdeal.nD Cert.AdamOutIdeal.τ).loc Cert.AdamOutIdeal.main_v0_3)),
      θ_run (Cert.AdamOutIdeal.defs (F := Ideal)) (onTc (τ := Cert.AdamOutIdeal.τ) (Cert.AdamOutIdeal.main (F := Ideal))) ⟨m, fun _ => 0, g⟩ (fun r => ∀ c : Dev Cert.AdamOutIdeal.nD,
          r.2.mem ((c.tc : Thread Cert.AdamOutIdeal.nD Cert.AdamOutIdeal.τ).loc Cert.AdamOutIdeal.main_v0_0) = v0 c
          ∧ r.2.mem ((c.tc : Thread Cert.AdamOutIdeal.nD Cert.AdamOutIdeal.τ).loc Cert.AdamOutIdeal.main_v0_1) = v1 c
          ∧ r.2.mem ((c.tc : Thread Cert.AdamOutIdeal.nD Cert.AdamOutIdeal.τ).loc Cert.AdamOutIdeal.main_v0_2) = v2 c
          ∧ r.2.mem ((c.tc : Thread Cert.AdamOutIdeal.nD Cert.AdamOutIdeal.τ).loc Cert.AdamOutIdeal.main_v0_3) = v3 c
          ∧ r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
          ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
          ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
          ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3))
      ∧ θ_run (Cert.AdamOutReferenceIdeal.defs (F := Ideal)) (onTc (τ := Cert.AdamOutReferenceIdeal.τ) (Cert.AdamOutReferenceIdeal.main (F := Ideal))) ⟨m', fun _ => 0, g'⟩ (fun r => ∀ c : Dev Cert.AdamOutReferenceIdeal.nD,
          r.2.mem ((c.tc : Thread Cert.AdamOutReferenceIdeal.nD Cert.AdamOutReferenceIdeal.τ).loc Cert.AdamOutReferenceIdeal.main_v1) = v0 c
          ∧ r.2.mem ((c.tc : Thread Cert.AdamOutReferenceIdeal.nD Cert.AdamOutReferenceIdeal.τ).loc Cert.AdamOutReferenceIdeal.main_v25) = v1 c
          ∧ r.2.mem ((c.tc : Thread Cert.AdamOutReferenceIdeal.nD Cert.AdamOutReferenceIdeal.τ).loc Cert.AdamOutReferenceIdeal.main_v6) = v2 c
          ∧ r.2.mem ((c.tc : Thread Cert.AdamOutReferenceIdeal.nD Cert.AdamOutReferenceIdeal.τ).loc Cert.AdamOutReferenceIdeal.main_v12) = v3 c
          ∧ r.2.mem ((c.tc : Thread Cert.AdamOutReferenceIdeal.nD Cert.AdamOutReferenceIdeal.τ).loc Cert.AdamOutReferenceIdeal.main_arg0) = m' ((c.tc : Thread Cert.AdamOutReferenceIdeal.nD Cert.AdamOutReferenceIdeal.τ).loc Cert.AdamOutReferenceIdeal.main_arg0)
          ∧ r.2.mem ((c.tc : Thread Cert.AdamOutReferenceIdeal.nD Cert.AdamOutReferenceIdeal.τ).loc Cert.AdamOutReferenceIdeal.main_arg1) = m' ((c.tc : Thread Cert.AdamOutReferenceIdeal.nD Cert.AdamOutReferenceIdeal.τ).loc Cert.AdamOutReferenceIdeal.main_arg1)
          ∧ r.2.mem ((c.tc : Thread Cert.AdamOutReferenceIdeal.nD Cert.AdamOutReferenceIdeal.τ).loc Cert.AdamOutReferenceIdeal.main_arg2) = m' ((c.tc : Thread Cert.AdamOutReferenceIdeal.nD Cert.AdamOutReferenceIdeal.τ).loc Cert.AdamOutReferenceIdeal.main_arg2)
          ∧ r.2.mem ((c.tc : Thread Cert.AdamOutReferenceIdeal.nD Cert.AdamOutReferenceIdeal.τ).loc Cert.AdamOutReferenceIdeal.main_arg3) = m' ((c.tc : Thread Cert.AdamOutReferenceIdeal.nD Cert.AdamOutReferenceIdeal.τ).loc Cert.AdamOutReferenceIdeal.main_arg3))

def preserves_AdamGate_AdamGateIdeal : Prop :=
  True

def algebraic_AdamGateIdeal_AdamGateReferenceIdeal [hAdamGateIdeal : Cert.AdamGateIdeal.Facts] [hAdamGateReferenceIdeal : Cert.AdamGateReferenceIdeal.Facts] : Prop :=
  ∀ (m : (ℓ : Loc Cert.AdamGateIdeal.nD Cert.AdamGateIdeal.τ Cert.AdamGateIdeal.sig) → Buf (Elt Ideal) ℓ) (g : Dev Cert.AdamGateIdeal.nD → PrngReg)
    (m' : (ℓ : Loc Cert.AdamGateReferenceIdeal.nD Cert.AdamGateReferenceIdeal.τ Cert.AdamGateReferenceIdeal.sig) → Buf (Elt Ideal) ℓ) (g' : Dev Cert.AdamGateReferenceIdeal.nD → PrngReg), Pre_AdamGateIdeal m →
    (∀ c : Dev Cert.AdamGateIdeal.nD,
      m' ((c.tc : Thread Cert.AdamGateReferenceIdeal.nD Cert.AdamGateReferenceIdeal.τ).loc Cert.AdamGateReferenceIdeal.main_arg0) = m ((c.tc : Thread Cert.AdamGateIdeal.nD Cert.AdamGateIdeal.τ).loc Cert.AdamGateIdeal.main_arg0)
      ∧ m' ((c.tc : Thread Cert.AdamGateReferenceIdeal.nD Cert.AdamGateReferenceIdeal.τ).loc Cert.AdamGateReferenceIdeal.main_arg1) = m ((c.tc : Thread Cert.AdamGateIdeal.nD Cert.AdamGateIdeal.τ).loc Cert.AdamGateIdeal.main_arg1)
      ∧ m' ((c.tc : Thread Cert.AdamGateReferenceIdeal.nD Cert.AdamGateReferenceIdeal.τ).loc Cert.AdamGateReferenceIdeal.main_arg2) = m ((c.tc : Thread Cert.AdamGateIdeal.nD Cert.AdamGateIdeal.τ).loc Cert.AdamGateIdeal.main_arg2)
      ∧ m' ((c.tc : Thread Cert.AdamGateReferenceIdeal.nD Cert.AdamGateReferenceIdeal.τ).loc Cert.AdamGateReferenceIdeal.main_arg3) = m ((c.tc : Thread Cert.AdamGateIdeal.nD Cert.AdamGateIdeal.τ).loc Cert.AdamGateIdeal.main_arg3)) →
    ∃ (v0 : (c : Dev Cert.AdamGateIdeal.nD) → Buf (Elt Ideal) ((c.tc : Thread Cert.AdamGateIdeal.nD Cert.AdamGateIdeal.τ).loc Cert.AdamGateIdeal.main_v0_0)) (v1 : (c : Dev Cert.AdamGateIdeal.nD) → Buf (Elt Ideal) ((c.tc : Thread Cert.AdamGateIdeal.nD Cert.AdamGateIdeal.τ).loc Cert.AdamGateIdeal.main_v0_1)) (v2 : (c : Dev Cert.AdamGateIdeal.nD) → Buf (Elt Ideal) ((c.tc : Thread Cert.AdamGateIdeal.nD Cert.AdamGateIdeal.τ).loc Cert.AdamGateIdeal.main_v0_2)) (v3 : (c : Dev Cert.AdamGateIdeal.nD) → Buf (Elt Ideal) ((c.tc : Thread Cert.AdamGateIdeal.nD Cert.AdamGateIdeal.τ).loc Cert.AdamGateIdeal.main_v0_3)),
      θ_run (Cert.AdamGateIdeal.defs (F := Ideal)) (onTc (τ := Cert.AdamGateIdeal.τ) (Cert.AdamGateIdeal.main (F := Ideal))) ⟨m, fun _ => 0, g⟩ (fun r => ∀ c : Dev Cert.AdamGateIdeal.nD,
          r.2.mem ((c.tc : Thread Cert.AdamGateIdeal.nD Cert.AdamGateIdeal.τ).loc Cert.AdamGateIdeal.main_v0_0) = v0 c
          ∧ r.2.mem ((c.tc : Thread Cert.AdamGateIdeal.nD Cert.AdamGateIdeal.τ).loc Cert.AdamGateIdeal.main_v0_1) = v1 c
          ∧ r.2.mem ((c.tc : Thread Cert.AdamGateIdeal.nD Cert.AdamGateIdeal.τ).loc Cert.AdamGateIdeal.main_v0_2) = v2 c
          ∧ r.2.mem ((c.tc : Thread Cert.AdamGateIdeal.nD Cert.AdamGateIdeal.τ).loc Cert.AdamGateIdeal.main_v0_3) = v3 c
          ∧ r.2.mem ((c.tc : Thread Cert.AdamGateIdeal.nD Cert.AdamGateIdeal.τ).loc Cert.AdamGateIdeal.main_arg0) = m ((c.tc : Thread Cert.AdamGateIdeal.nD Cert.AdamGateIdeal.τ).loc Cert.AdamGateIdeal.main_arg0)
          ∧ r.2.mem ((c.tc : Thread Cert.AdamGateIdeal.nD Cert.AdamGateIdeal.τ).loc Cert.AdamGateIdeal.main_arg1) = m ((c.tc : Thread Cert.AdamGateIdeal.nD Cert.AdamGateIdeal.τ).loc Cert.AdamGateIdeal.main_arg1)
          ∧ r.2.mem ((c.tc : Thread Cert.AdamGateIdeal.nD Cert.AdamGateIdeal.τ).loc Cert.AdamGateIdeal.main_arg2) = m ((c.tc : Thread Cert.AdamGateIdeal.nD Cert.AdamGateIdeal.τ).loc Cert.AdamGateIdeal.main_arg2)
          ∧ r.2.mem ((c.tc : Thread Cert.AdamGateIdeal.nD Cert.AdamGateIdeal.τ).loc Cert.AdamGateIdeal.main_arg3) = m ((c.tc : Thread Cert.AdamGateIdeal.nD Cert.AdamGateIdeal.τ).loc Cert.AdamGateIdeal.main_arg3))
      ∧ θ_run (Cert.AdamGateReferenceIdeal.defs (F := Ideal)) (onTc (τ := Cert.AdamGateReferenceIdeal.τ) (Cert.AdamGateReferenceIdeal.main (F := Ideal))) ⟨m', fun _ => 0, g'⟩ (fun r => ∀ c : Dev Cert.AdamGateReferenceIdeal.nD,
          r.2.mem ((c.tc : Thread Cert.AdamGateReferenceIdeal.nD Cert.AdamGateReferenceIdeal.τ).loc Cert.AdamGateReferenceIdeal.main_v1) = v0 c
          ∧ r.2.mem ((c.tc : Thread Cert.AdamGateReferenceIdeal.nD Cert.AdamGateReferenceIdeal.τ).loc Cert.AdamGateReferenceIdeal.main_v25) = v1 c
          ∧ r.2.mem ((c.tc : Thread Cert.AdamGateReferenceIdeal.nD Cert.AdamGateReferenceIdeal.τ).loc Cert.AdamGateReferenceIdeal.main_v6) = v2 c
          ∧ r.2.mem ((c.tc : Thread Cert.AdamGateReferenceIdeal.nD Cert.AdamGateReferenceIdeal.τ).loc Cert.AdamGateReferenceIdeal.main_v12) = v3 c
          ∧ r.2.mem ((c.tc : Thread Cert.AdamGateReferenceIdeal.nD Cert.AdamGateReferenceIdeal.τ).loc Cert.AdamGateReferenceIdeal.main_arg0) = m' ((c.tc : Thread Cert.AdamGateReferenceIdeal.nD Cert.AdamGateReferenceIdeal.τ).loc Cert.AdamGateReferenceIdeal.main_arg0)
          ∧ r.2.mem ((c.tc : Thread Cert.AdamGateReferenceIdeal.nD Cert.AdamGateReferenceIdeal.τ).loc Cert.AdamGateReferenceIdeal.main_arg1) = m' ((c.tc : Thread Cert.AdamGateReferenceIdeal.nD Cert.AdamGateReferenceIdeal.τ).loc Cert.AdamGateReferenceIdeal.main_arg1)
          ∧ r.2.mem ((c.tc : Thread Cert.AdamGateReferenceIdeal.nD Cert.AdamGateReferenceIdeal.τ).loc Cert.AdamGateReferenceIdeal.main_arg2) = m' ((c.tc : Thread Cert.AdamGateReferenceIdeal.nD Cert.AdamGateReferenceIdeal.τ).loc Cert.AdamGateReferenceIdeal.main_arg2)
          ∧ r.2.mem ((c.tc : Thread Cert.AdamGateReferenceIdeal.nD Cert.AdamGateReferenceIdeal.τ).loc Cert.AdamGateReferenceIdeal.main_arg3) = m' ((c.tc : Thread Cert.AdamGateReferenceIdeal.nD Cert.AdamGateReferenceIdeal.τ).loc Cert.AdamGateReferenceIdeal.main_arg3))

def preserves_AdamDown_AdamDownIdeal : Prop :=
  True

def algebraic_AdamDownIdeal_AdamDownReferenceIdeal [hAdamDownIdeal : Cert.AdamDownIdeal.Facts] [hAdamDownReferenceIdeal : Cert.AdamDownReferenceIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg)
    (m' : (ℓ : Loc Cert.AdamDownReferenceIdeal.nD Cert.AdamDownReferenceIdeal.τ Cert.AdamDownReferenceIdeal.sig) → Buf (Elt Ideal) ℓ) (g' : Dev Cert.AdamDownReferenceIdeal.nD → PrngReg), Pre_AdamDownIdeal m →
    (∀ c : Dev Cert.AdamDownIdeal.nD,
      m' ((c.tc : Thread Cert.AdamDownReferenceIdeal.nD Cert.AdamDownReferenceIdeal.τ).loc Cert.AdamDownReferenceIdeal.main_arg0) = m ((c.tc : Thread Cert.AdamDownIdeal.nD Cert.AdamDownIdeal.τ).loc Cert.AdamDownIdeal.main_arg0)
      ∧ m' ((c.tc : Thread Cert.AdamDownReferenceIdeal.nD Cert.AdamDownReferenceIdeal.τ).loc Cert.AdamDownReferenceIdeal.main_arg1) = m ((c.tc : Thread Cert.AdamDownIdeal.nD Cert.AdamDownIdeal.τ).loc Cert.AdamDownIdeal.main_arg1)
      ∧ m' ((c.tc : Thread Cert.AdamDownReferenceIdeal.nD Cert.AdamDownReferenceIdeal.τ).loc Cert.AdamDownReferenceIdeal.main_arg2) = m ((c.tc : Thread Cert.AdamDownIdeal.nD Cert.AdamDownIdeal.τ).loc Cert.AdamDownIdeal.main_arg2)
      ∧ m' ((c.tc : Thread Cert.AdamDownReferenceIdeal.nD Cert.AdamDownReferenceIdeal.τ).loc Cert.AdamDownReferenceIdeal.main_arg3) = m ((c.tc : Thread Cert.AdamDownIdeal.nD Cert.AdamDownIdeal.τ).loc Cert.AdamDownIdeal.main_arg3)) →
    ∃ (v0 : (c : Dev Cert.AdamDownIdeal.nD) → Buf (Elt Ideal) ((c.tc : Thread Cert.AdamDownIdeal.nD Cert.AdamDownIdeal.τ).loc Cert.AdamDownIdeal.main_v0_0)) (v1 : (c : Dev Cert.AdamDownIdeal.nD) → Buf (Elt Ideal) ((c.tc : Thread Cert.AdamDownIdeal.nD Cert.AdamDownIdeal.τ).loc Cert.AdamDownIdeal.main_v0_1)) (v2 : (c : Dev Cert.AdamDownIdeal.nD) → Buf (Elt Ideal) ((c.tc : Thread Cert.AdamDownIdeal.nD Cert.AdamDownIdeal.τ).loc Cert.AdamDownIdeal.main_v0_2)) (v3 : (c : Dev Cert.AdamDownIdeal.nD) → Buf (Elt Ideal) ((c.tc : Thread Cert.AdamDownIdeal.nD Cert.AdamDownIdeal.τ).loc Cert.AdamDownIdeal.main_v0_3)),
      θ_run (Cert.AdamDownIdeal.defs (F := Ideal)) (onTc (τ := Cert.AdamDownIdeal.τ) (Cert.AdamDownIdeal.main (F := Ideal))) ⟨m, fun _ => 0, g⟩ (fun r => ∀ c : Dev Cert.AdamDownIdeal.nD,
          r.2.mem ((c.tc : Thread Cert.AdamDownIdeal.nD Cert.AdamDownIdeal.τ).loc Cert.AdamDownIdeal.main_v0_0) = v0 c
          ∧ r.2.mem ((c.tc : Thread Cert.AdamDownIdeal.nD Cert.AdamDownIdeal.τ).loc Cert.AdamDownIdeal.main_v0_1) = v1 c
          ∧ r.2.mem ((c.tc : Thread Cert.AdamDownIdeal.nD Cert.AdamDownIdeal.τ).loc Cert.AdamDownIdeal.main_v0_2) = v2 c
          ∧ r.2.mem ((c.tc : Thread Cert.AdamDownIdeal.nD Cert.AdamDownIdeal.τ).loc Cert.AdamDownIdeal.main_v0_3) = v3 c
          ∧ r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
          ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
          ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
          ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3))
      ∧ θ_run (Cert.AdamDownReferenceIdeal.defs (F := Ideal)) (onTc (τ := Cert.AdamDownReferenceIdeal.τ) (Cert.AdamDownReferenceIdeal.main (F := Ideal))) ⟨m', fun _ => 0, g'⟩ (fun r => ∀ c : Dev Cert.AdamDownReferenceIdeal.nD,
          r.2.mem ((c.tc : Thread Cert.AdamDownReferenceIdeal.nD Cert.AdamDownReferenceIdeal.τ).loc Cert.AdamDownReferenceIdeal.main_v1) = v0 c
          ∧ r.2.mem ((c.tc : Thread Cert.AdamDownReferenceIdeal.nD Cert.AdamDownReferenceIdeal.τ).loc Cert.AdamDownReferenceIdeal.main_v25) = v1 c
          ∧ r.2.mem ((c.tc : Thread Cert.AdamDownReferenceIdeal.nD Cert.AdamDownReferenceIdeal.τ).loc Cert.AdamDownReferenceIdeal.main_v6) = v2 c
          ∧ r.2.mem ((c.tc : Thread Cert.AdamDownReferenceIdeal.nD Cert.AdamDownReferenceIdeal.τ).loc Cert.AdamDownReferenceIdeal.main_v12) = v3 c
          ∧ r.2.mem ((c.tc : Thread Cert.AdamDownReferenceIdeal.nD Cert.AdamDownReferenceIdeal.τ).loc Cert.AdamDownReferenceIdeal.main_arg0) = m' ((c.tc : Thread Cert.AdamDownReferenceIdeal.nD Cert.AdamDownReferenceIdeal.τ).loc Cert.AdamDownReferenceIdeal.main_arg0)
          ∧ r.2.mem ((c.tc : Thread Cert.AdamDownReferenceIdeal.nD Cert.AdamDownReferenceIdeal.τ).loc Cert.AdamDownReferenceIdeal.main_arg1) = m' ((c.tc : Thread Cert.AdamDownReferenceIdeal.nD Cert.AdamDownReferenceIdeal.τ).loc Cert.AdamDownReferenceIdeal.main_arg1)
          ∧ r.2.mem ((c.tc : Thread Cert.AdamDownReferenceIdeal.nD Cert.AdamDownReferenceIdeal.τ).loc Cert.AdamDownReferenceIdeal.main_arg2) = m' ((c.tc : Thread Cert.AdamDownReferenceIdeal.nD Cert.AdamDownReferenceIdeal.τ).loc Cert.AdamDownReferenceIdeal.main_arg2)
          ∧ r.2.mem ((c.tc : Thread Cert.AdamDownReferenceIdeal.nD Cert.AdamDownReferenceIdeal.τ).loc Cert.AdamDownReferenceIdeal.main_arg3) = m' ((c.tc : Thread Cert.AdamDownReferenceIdeal.nD Cert.AdamDownReferenceIdeal.τ).loc Cert.AdamDownReferenceIdeal.main_arg3))

def preserves_ProjBwd_ProjBwdIdeal : Prop :=
  True

def algebraic_ProjBwdIdeal_ProjBwdReferenceIdeal [hProjBwdIdeal : Cert.ProjBwdIdeal.Facts] [hProjBwdReferenceIdeal : Cert.ProjBwdReferenceIdeal.Facts] : Prop :=
  ∀ (m : (ℓ : Loc Cert.ProjBwdIdeal.nD Cert.ProjBwdIdeal.τ Cert.ProjBwdIdeal.sig) → Buf (Elt Ideal) ℓ) (g : Dev Cert.ProjBwdIdeal.nD → PrngReg)
    (m' : (ℓ : Loc Cert.ProjBwdReferenceIdeal.nD Cert.ProjBwdReferenceIdeal.τ Cert.ProjBwdReferenceIdeal.sig) → Buf (Elt Ideal) ℓ) (g' : Dev Cert.ProjBwdReferenceIdeal.nD → PrngReg), Pre_ProjBwdIdeal m →
    (∀ c : Dev Cert.ProjBwdIdeal.nD,
      m ((c.tc : Thread Cert.ProjBwdIdeal.nD Cert.ProjBwdIdeal.τ).loc Cert.ProjBwdIdeal.main_arg0) = Layout.block ⟨2, ![8192, 5120]⟩ ⟨2, ![65536, 5120]⟩ 0 8 c (m' (((0 : Dev Cert.ProjBwdReferenceIdeal.nD).tc : Thread Cert.ProjBwdReferenceIdeal.nD Cert.ProjBwdReferenceIdeal.τ).loc Cert.ProjBwdReferenceIdeal.main_arg0))
      ∧ m ((c.tc : Thread Cert.ProjBwdIdeal.nD Cert.ProjBwdIdeal.τ).loc Cert.ProjBwdIdeal.main_arg1) = m' (((0 : Dev Cert.ProjBwdReferenceIdeal.nD).tc : Thread Cert.ProjBwdReferenceIdeal.nD Cert.ProjBwdReferenceIdeal.τ).loc Cert.ProjBwdReferenceIdeal.main_arg1)
      ∧ m ((c.tc : Thread Cert.ProjBwdIdeal.nD Cert.ProjBwdIdeal.τ).loc Cert.ProjBwdIdeal.main_arg2) = Layout.block ⟨2, ![8192, 2048]⟩ ⟨2, ![65536, 2048]⟩ 0 8 c (m' (((0 : Dev Cert.ProjBwdReferenceIdeal.nD).tc : Thread Cert.ProjBwdReferenceIdeal.nD Cert.ProjBwdReferenceIdeal.τ).loc Cert.ProjBwdReferenceIdeal.main_arg2))
      ∧ m ((c.tc : Thread Cert.ProjBwdIdeal.nD Cert.ProjBwdIdeal.τ).loc Cert.ProjBwdIdeal.main_arg3) = Layout.block ⟨2, ![8192, 1]⟩ ⟨2, ![65536, 1]⟩ 0 8 c (m' (((0 : Dev Cert.ProjBwdReferenceIdeal.nD).tc : Thread Cert.ProjBwdReferenceIdeal.nD Cert.ProjBwdReferenceIdeal.τ).loc Cert.ProjBwdReferenceIdeal.main_arg3))
      ∧ m ((c.tc : Thread Cert.ProjBwdIdeal.nD Cert.ProjBwdIdeal.τ).loc Cert.ProjBwdIdeal.main_arg4) = m' (((0 : Dev Cert.ProjBwdReferenceIdeal.nD).tc : Thread Cert.ProjBwdReferenceIdeal.nD Cert.ProjBwdReferenceIdeal.τ).loc Cert.ProjBwdReferenceIdeal.main_arg4)
      ∧ m ((c.tc : Thread Cert.ProjBwdIdeal.nD Cert.ProjBwdIdeal.τ).loc Cert.ProjBwdIdeal.main_arg5) = Layout.block ⟨2, ![8192, 2048]⟩ ⟨2, ![65536, 2048]⟩ 0 8 c (m' (((0 : Dev Cert.ProjBwdReferenceIdeal.nD).tc : Thread Cert.ProjBwdReferenceIdeal.nD Cert.ProjBwdReferenceIdeal.τ).loc Cert.ProjBwdReferenceIdeal.main_arg5))
      ∧ m ((c.tc : Thread Cert.ProjBwdIdeal.nD Cert.ProjBwdIdeal.τ).loc Cert.ProjBwdIdeal.main_arg6) = Layout.block ⟨3, ![8, 2048, 640]⟩ ⟨3, ![64, 2048, 640]⟩ 0 8 c (m' (((0 : Dev Cert.ProjBwdReferenceIdeal.nD).tc : Thread Cert.ProjBwdReferenceIdeal.nD Cert.ProjBwdReferenceIdeal.τ).loc Cert.ProjBwdReferenceIdeal.main_arg6))) →
    ∃ (v0 : Buf (Elt Ideal) (((0 : Dev Cert.ProjBwdReferenceIdeal.nD).tc : Thread Cert.ProjBwdReferenceIdeal.nD Cert.ProjBwdReferenceIdeal.τ).loc Cert.ProjBwdReferenceIdeal.main_v26)) (v1 : Buf (Elt Ideal) (((0 : Dev Cert.ProjBwdReferenceIdeal.nD).tc : Thread Cert.ProjBwdReferenceIdeal.nD Cert.ProjBwdReferenceIdeal.τ).loc Cert.ProjBwdReferenceIdeal.main_v25)) (v2 : Buf (Elt Ideal) (((0 : Dev Cert.ProjBwdReferenceIdeal.nD).tc : Thread Cert.ProjBwdReferenceIdeal.nD Cert.ProjBwdReferenceIdeal.τ).loc Cert.ProjBwdReferenceIdeal.main_v29)),
      θ_run (Cert.ProjBwdIdeal.defs (F := Ideal)) (onTc (τ := Cert.ProjBwdIdeal.τ) (Cert.ProjBwdIdeal.main (F := Ideal))) ⟨m, fun _ => 0, g⟩ (fun r => ∀ c : Dev Cert.ProjBwdIdeal.nD,
          r.2.mem ((c.tc : Thread Cert.ProjBwdIdeal.nD Cert.ProjBwdIdeal.τ).loc Cert.ProjBwdIdeal.main_v1_0) = Layout.block ⟨2, ![8192, 2048]⟩ ⟨2, ![65536, 2048]⟩ 0 8 c v0
          ∧ r.2.mem ((c.tc : Thread Cert.ProjBwdIdeal.nD Cert.ProjBwdIdeal.τ).loc Cert.ProjBwdIdeal.main_v1_1) = Layout.block ⟨2, ![1, 2048]⟩ ⟨2, ![8, 2048]⟩ 0 8 c v1
          ∧ r.2.mem ((c.tc : Thread Cert.ProjBwdIdeal.nD Cert.ProjBwdIdeal.τ).loc Cert.ProjBwdIdeal.main_v1_2) = Layout.block ⟨3, ![8, 2048, 640]⟩ ⟨3, ![64, 2048, 640]⟩ 0 8 c v2
          ∧ r.2.mem ((c.tc : Thread Cert.ProjBwdIdeal.nD Cert.ProjBwdIdeal.τ).loc Cert.ProjBwdIdeal.main_arg0) = m ((c.tc : Thread Cert.ProjBwdIdeal.nD Cert.ProjBwdIdeal.τ).loc Cert.ProjBwdIdeal.main_arg0)
          ∧ r.2.mem ((c.tc : Thread Cert.ProjBwdIdeal.nD Cert.ProjBwdIdeal.τ).loc Cert.ProjBwdIdeal.main_arg1) = m ((c.tc : Thread Cert.ProjBwdIdeal.nD Cert.ProjBwdIdeal.τ).loc Cert.ProjBwdIdeal.main_arg1)
          ∧ r.2.mem ((c.tc : Thread Cert.ProjBwdIdeal.nD Cert.ProjBwdIdeal.τ).loc Cert.ProjBwdIdeal.main_arg2) = m ((c.tc : Thread Cert.ProjBwdIdeal.nD Cert.ProjBwdIdeal.τ).loc Cert.ProjBwdIdeal.main_arg2)
          ∧ r.2.mem ((c.tc : Thread Cert.ProjBwdIdeal.nD Cert.ProjBwdIdeal.τ).loc Cert.ProjBwdIdeal.main_arg3) = m ((c.tc : Thread Cert.ProjBwdIdeal.nD Cert.ProjBwdIdeal.τ).loc Cert.ProjBwdIdeal.main_arg3)
          ∧ r.2.mem ((c.tc : Thread Cert.ProjBwdIdeal.nD Cert.ProjBwdIdeal.τ).loc Cert.ProjBwdIdeal.main_arg4) = m ((c.tc : Thread Cert.ProjBwdIdeal.nD Cert.ProjBwdIdeal.τ).loc Cert.ProjBwdIdeal.main_arg4)
          ∧ r.2.mem ((c.tc : Thread Cert.ProjBwdIdeal.nD Cert.ProjBwdIdeal.τ).loc Cert.ProjBwdIdeal.main_arg5) = m ((c.tc : Thread Cert.ProjBwdIdeal.nD Cert.ProjBwdIdeal.τ).loc Cert.ProjBwdIdeal.main_arg5)
          ∧ r.2.mem ((c.tc : Thread Cert.ProjBwdIdeal.nD Cert.ProjBwdIdeal.τ).loc Cert.ProjBwdIdeal.main_arg6) = m ((c.tc : Thread Cert.ProjBwdIdeal.nD Cert.ProjBwdIdeal.τ).loc Cert.ProjBwdIdeal.main_arg6))
      ∧ θ_run (Cert.ProjBwdReferenceIdeal.defs (F := Ideal)) (onTc (τ := Cert.ProjBwdReferenceIdeal.τ) (Cert.ProjBwdReferenceIdeal.main (F := Ideal))) ⟨m', fun _ => 0, g'⟩ (fun r =>
          r.2.mem (((0 : Dev Cert.ProjBwdReferenceIdeal.nD).tc : Thread Cert.ProjBwdReferenceIdeal.nD Cert.ProjBwdReferenceIdeal.τ).loc Cert.ProjBwdReferenceIdeal.main_v26) = v0
          ∧ r.2.mem (((0 : Dev Cert.ProjBwdReferenceIdeal.nD).tc : Thread Cert.ProjBwdReferenceIdeal.nD Cert.ProjBwdReferenceIdeal.τ).loc Cert.ProjBwdReferenceIdeal.main_v25) = v1
          ∧ r.2.mem (((0 : Dev Cert.ProjBwdReferenceIdeal.nD).tc : Thread Cert.ProjBwdReferenceIdeal.nD Cert.ProjBwdReferenceIdeal.τ).loc Cert.ProjBwdReferenceIdeal.main_v29) = v2
          ∧ r.2.mem (((0 : Dev Cert.ProjBwdReferenceIdeal.nD).tc : Thread Cert.ProjBwdReferenceIdeal.nD Cert.ProjBwdReferenceIdeal.τ).loc Cert.ProjBwdReferenceIdeal.main_arg0) = m' (((0 : Dev Cert.ProjBwdReferenceIdeal.nD).tc : Thread Cert.ProjBwdReferenceIdeal.nD Cert.ProjBwdReferenceIdeal.τ).loc Cert.ProjBwdReferenceIdeal.main_arg0)
          ∧ r.2.mem (((0 : Dev Cert.ProjBwdReferenceIdeal.nD).tc : Thread Cert.ProjBwdReferenceIdeal.nD Cert.ProjBwdReferenceIdeal.τ).loc Cert.ProjBwdReferenceIdeal.main_arg1) = m' (((0 : Dev Cert.ProjBwdReferenceIdeal.nD).tc : Thread Cert.ProjBwdReferenceIdeal.nD Cert.ProjBwdReferenceIdeal.τ).loc Cert.ProjBwdReferenceIdeal.main_arg1)
          ∧ r.2.mem (((0 : Dev Cert.ProjBwdReferenceIdeal.nD).tc : Thread Cert.ProjBwdReferenceIdeal.nD Cert.ProjBwdReferenceIdeal.τ).loc Cert.ProjBwdReferenceIdeal.main_arg2) = m' (((0 : Dev Cert.ProjBwdReferenceIdeal.nD).tc : Thread Cert.ProjBwdReferenceIdeal.nD Cert.ProjBwdReferenceIdeal.τ).loc Cert.ProjBwdReferenceIdeal.main_arg2)
          ∧ r.2.mem (((0 : Dev Cert.ProjBwdReferenceIdeal.nD).tc : Thread Cert.ProjBwdReferenceIdeal.nD Cert.ProjBwdReferenceIdeal.τ).loc Cert.ProjBwdReferenceIdeal.main_arg3) = m' (((0 : Dev Cert.ProjBwdReferenceIdeal.nD).tc : Thread Cert.ProjBwdReferenceIdeal.nD Cert.ProjBwdReferenceIdeal.τ).loc Cert.ProjBwdReferenceIdeal.main_arg3)
          ∧ r.2.mem (((0 : Dev Cert.ProjBwdReferenceIdeal.nD).tc : Thread Cert.ProjBwdReferenceIdeal.nD Cert.ProjBwdReferenceIdeal.τ).loc Cert.ProjBwdReferenceIdeal.main_arg4) = m' (((0 : Dev Cert.ProjBwdReferenceIdeal.nD).tc : Thread Cert.ProjBwdReferenceIdeal.nD Cert.ProjBwdReferenceIdeal.τ).loc Cert.ProjBwdReferenceIdeal.main_arg4)
          ∧ r.2.mem (((0 : Dev Cert.ProjBwdReferenceIdeal.nD).tc : Thread Cert.ProjBwdReferenceIdeal.nD Cert.ProjBwdReferenceIdeal.τ).loc Cert.ProjBwdReferenceIdeal.main_arg5) = m' (((0 : Dev Cert.ProjBwdReferenceIdeal.nD).tc : Thread Cert.ProjBwdReferenceIdeal.nD Cert.ProjBwdReferenceIdeal.τ).loc Cert.ProjBwdReferenceIdeal.main_arg5)
          ∧ r.2.mem (((0 : Dev Cert.ProjBwdReferenceIdeal.nD).tc : Thread Cert.ProjBwdReferenceIdeal.nD Cert.ProjBwdReferenceIdeal.τ).loc Cert.ProjBwdReferenceIdeal.main_arg6) = m' (((0 : Dev Cert.ProjBwdReferenceIdeal.nD).tc : Thread Cert.ProjBwdReferenceIdeal.nD Cert.ProjBwdReferenceIdeal.τ).loc Cert.ProjBwdReferenceIdeal.main_arg6))

def preserves_ProjFwd_ProjFwdIdeal : Prop :=
  True

def algebraic_ProjFwdIdeal_ProjFwdReferenceIdeal [hProjFwdIdeal : Cert.ProjFwdIdeal.Facts] [hProjFwdReferenceIdeal : Cert.ProjFwdReferenceIdeal.Facts] : Prop :=
  ∀ (m : (ℓ : Loc Cert.ProjFwdIdeal.nD Cert.ProjFwdIdeal.τ Cert.ProjFwdIdeal.sig) → Buf (Elt Ideal) ℓ) (g : Dev Cert.ProjFwdIdeal.nD → PrngReg)
    (m' : (ℓ : Loc Cert.ProjFwdReferenceIdeal.nD Cert.ProjFwdReferenceIdeal.τ Cert.ProjFwdReferenceIdeal.sig) → Buf (Elt Ideal) ℓ) (g' : Dev Cert.ProjFwdReferenceIdeal.nD → PrngReg), Pre_ProjFwdIdeal m →
    (∀ c : Dev Cert.ProjFwdIdeal.nD,
      m ((c.tc : Thread Cert.ProjFwdIdeal.nD Cert.ProjFwdIdeal.τ).loc Cert.ProjFwdIdeal.main_arg0) = Layout.block ⟨2, ![8192, 2048]⟩ ⟨2, ![65536, 2048]⟩ 0 8 c (m' (((0 : Dev Cert.ProjFwdReferenceIdeal.nD).tc : Thread Cert.ProjFwdReferenceIdeal.nD Cert.ProjFwdReferenceIdeal.τ).loc Cert.ProjFwdReferenceIdeal.main_arg0))
      ∧ m ((c.tc : Thread Cert.ProjFwdIdeal.nD Cert.ProjFwdIdeal.τ).loc Cert.ProjFwdIdeal.main_arg1) = m' (((0 : Dev Cert.ProjFwdReferenceIdeal.nD).tc : Thread Cert.ProjFwdReferenceIdeal.nD Cert.ProjFwdReferenceIdeal.τ).loc Cert.ProjFwdReferenceIdeal.main_arg1)
      ∧ m ((c.tc : Thread Cert.ProjFwdIdeal.nD Cert.ProjFwdIdeal.τ).loc Cert.ProjFwdIdeal.main_arg2) = m' (((0 : Dev Cert.ProjFwdReferenceIdeal.nD).tc : Thread Cert.ProjFwdReferenceIdeal.nD Cert.ProjFwdReferenceIdeal.τ).loc Cert.ProjFwdReferenceIdeal.main_arg2)
      ∧ m ((c.tc : Thread Cert.ProjFwdIdeal.nD Cert.ProjFwdIdeal.τ).loc Cert.ProjFwdIdeal.main_arg3) = Layout.block ⟨2, ![2048, 704]⟩ ⟨2, ![2048, 5632]⟩ 1 8 c (m' (((0 : Dev Cert.ProjFwdReferenceIdeal.nD).tc : Thread Cert.ProjFwdReferenceIdeal.nD Cert.ProjFwdReferenceIdeal.τ).loc Cert.ProjFwdReferenceIdeal.main_arg3))) →
    ∃ (v0 : Buf (Elt Ideal) (((0 : Dev Cert.ProjFwdReferenceIdeal.nD).tc : Thread Cert.ProjFwdReferenceIdeal.nD Cert.ProjFwdReferenceIdeal.τ).loc Cert.ProjFwdReferenceIdeal.main_v15)) (v1 : Buf (Elt Ideal) (((0 : Dev Cert.ProjFwdReferenceIdeal.nD).tc : Thread Cert.ProjFwdReferenceIdeal.nD Cert.ProjFwdReferenceIdeal.τ).loc Cert.ProjFwdReferenceIdeal.main_v12)) (v2 : Buf (Elt Ideal) (((0 : Dev Cert.ProjFwdReferenceIdeal.nD).tc : Thread Cert.ProjFwdReferenceIdeal.nD Cert.ProjFwdReferenceIdeal.τ).loc Cert.ProjFwdReferenceIdeal.main_v7)) (v3 : Buf (Elt Ideal) (((0 : Dev Cert.ProjFwdReferenceIdeal.nD).tc : Thread Cert.ProjFwdReferenceIdeal.nD Cert.ProjFwdReferenceIdeal.τ).loc Cert.ProjFwdReferenceIdeal.main_v17)),
      θ_run (Cert.ProjFwdIdeal.defs (F := Ideal)) (onTc (τ := Cert.ProjFwdIdeal.τ) (Cert.ProjFwdIdeal.main (F := Ideal))) ⟨m, fun _ => 0, g⟩ (fun r => ∀ c : Dev Cert.ProjFwdIdeal.nD,
          r.2.mem ((c.tc : Thread Cert.ProjFwdIdeal.nD Cert.ProjFwdIdeal.τ).loc Cert.ProjFwdIdeal.main_v1_0) = Layout.block ⟨2, ![8192, 5120]⟩ ⟨2, ![65536, 5120]⟩ 0 8 c v0
          ∧ r.2.mem ((c.tc : Thread Cert.ProjFwdIdeal.nD Cert.ProjFwdIdeal.τ).loc Cert.ProjFwdIdeal.main_v1_1) = Layout.block ⟨2, ![8192, 2048]⟩ ⟨2, ![65536, 2048]⟩ 0 8 c v1
          ∧ r.2.mem ((c.tc : Thread Cert.ProjFwdIdeal.nD Cert.ProjFwdIdeal.τ).loc Cert.ProjFwdIdeal.main_v1_2) = Layout.block ⟨2, ![8192, 1]⟩ ⟨2, ![65536, 1]⟩ 0 8 c v2
          ∧ r.2.mem ((c.tc : Thread Cert.ProjFwdIdeal.nD Cert.ProjFwdIdeal.τ).loc Cert.ProjFwdIdeal.main_v1_3) = v3
          ∧ r.2.mem ((c.tc : Thread Cert.ProjFwdIdeal.nD Cert.ProjFwdIdeal.τ).loc Cert.ProjFwdIdeal.main_arg0) = m ((c.tc : Thread Cert.ProjFwdIdeal.nD Cert.ProjFwdIdeal.τ).loc Cert.ProjFwdIdeal.main_arg0)
          ∧ r.2.mem ((c.tc : Thread Cert.ProjFwdIdeal.nD Cert.ProjFwdIdeal.τ).loc Cert.ProjFwdIdeal.main_arg1) = m ((c.tc : Thread Cert.ProjFwdIdeal.nD Cert.ProjFwdIdeal.τ).loc Cert.ProjFwdIdeal.main_arg1)
          ∧ r.2.mem ((c.tc : Thread Cert.ProjFwdIdeal.nD Cert.ProjFwdIdeal.τ).loc Cert.ProjFwdIdeal.main_arg2) = m ((c.tc : Thread Cert.ProjFwdIdeal.nD Cert.ProjFwdIdeal.τ).loc Cert.ProjFwdIdeal.main_arg2)
          ∧ r.2.mem ((c.tc : Thread Cert.ProjFwdIdeal.nD Cert.ProjFwdIdeal.τ).loc Cert.ProjFwdIdeal.main_arg3) = m ((c.tc : Thread Cert.ProjFwdIdeal.nD Cert.ProjFwdIdeal.τ).loc Cert.ProjFwdIdeal.main_arg3))
      ∧ θ_run (Cert.ProjFwdReferenceIdeal.defs (F := Ideal)) (onTc (τ := Cert.ProjFwdReferenceIdeal.τ) (Cert.ProjFwdReferenceIdeal.main (F := Ideal))) ⟨m', fun _ => 0, g'⟩ (fun r =>
          r.2.mem (((0 : Dev Cert.ProjFwdReferenceIdeal.nD).tc : Thread Cert.ProjFwdReferenceIdeal.nD Cert.ProjFwdReferenceIdeal.τ).loc Cert.ProjFwdReferenceIdeal.main_v15) = v0
          ∧ r.2.mem (((0 : Dev Cert.ProjFwdReferenceIdeal.nD).tc : Thread Cert.ProjFwdReferenceIdeal.nD Cert.ProjFwdReferenceIdeal.τ).loc Cert.ProjFwdReferenceIdeal.main_v12) = v1
          ∧ r.2.mem (((0 : Dev Cert.ProjFwdReferenceIdeal.nD).tc : Thread Cert.ProjFwdReferenceIdeal.nD Cert.ProjFwdReferenceIdeal.τ).loc Cert.ProjFwdReferenceIdeal.main_v7) = v2
          ∧ r.2.mem (((0 : Dev Cert.ProjFwdReferenceIdeal.nD).tc : Thread Cert.ProjFwdReferenceIdeal.nD Cert.ProjFwdReferenceIdeal.τ).loc Cert.ProjFwdReferenceIdeal.main_v17) = v3
          ∧ r.2.mem (((0 : Dev Cert.ProjFwdReferenceIdeal.nD).tc : Thread Cert.ProjFwdReferenceIdeal.nD Cert.ProjFwdReferenceIdeal.τ).loc Cert.ProjFwdReferenceIdeal.main_arg0) = m' (((0 : Dev Cert.ProjFwdReferenceIdeal.nD).tc : Thread Cert.ProjFwdReferenceIdeal.nD Cert.ProjFwdReferenceIdeal.τ).loc Cert.ProjFwdReferenceIdeal.main_arg0)
          ∧ r.2.mem (((0 : Dev Cert.ProjFwdReferenceIdeal.nD).tc : Thread Cert.ProjFwdReferenceIdeal.nD Cert.ProjFwdReferenceIdeal.τ).loc Cert.ProjFwdReferenceIdeal.main_arg1) = m' (((0 : Dev Cert.ProjFwdReferenceIdeal.nD).tc : Thread Cert.ProjFwdReferenceIdeal.nD Cert.ProjFwdReferenceIdeal.τ).loc Cert.ProjFwdReferenceIdeal.main_arg1)
          ∧ r.2.mem (((0 : Dev Cert.ProjFwdReferenceIdeal.nD).tc : Thread Cert.ProjFwdReferenceIdeal.nD Cert.ProjFwdReferenceIdeal.τ).loc Cert.ProjFwdReferenceIdeal.main_arg2) = m' (((0 : Dev Cert.ProjFwdReferenceIdeal.nD).tc : Thread Cert.ProjFwdReferenceIdeal.nD Cert.ProjFwdReferenceIdeal.τ).loc Cert.ProjFwdReferenceIdeal.main_arg2)
          ∧ r.2.mem (((0 : Dev Cert.ProjFwdReferenceIdeal.nD).tc : Thread Cert.ProjFwdReferenceIdeal.nD Cert.ProjFwdReferenceIdeal.τ).loc Cert.ProjFwdReferenceIdeal.main_arg3) = m' (((0 : Dev Cert.ProjFwdReferenceIdeal.nD).tc : Thread Cert.ProjFwdReferenceIdeal.nD Cert.ProjFwdReferenceIdeal.τ).loc Cert.ProjFwdReferenceIdeal.main_arg3))

def preserves_SumSmall_SumSmallIdeal : Prop :=
  True

def algebraic_SumSmallIdeal_SumSmallReferenceIdeal [hSumSmallIdeal : Cert.SumSmallIdeal.Facts] [hSumSmallReferenceIdeal : Cert.SumSmallReferenceIdeal.Facts] : Prop :=
  ∀ (m : (ℓ : Loc Cert.SumSmallIdeal.nD Cert.SumSmallIdeal.τ Cert.SumSmallIdeal.sig) → Buf (Elt Ideal) ℓ) (g : Dev Cert.SumSmallIdeal.nD → PrngReg)
    (m' : (ℓ : Loc Cert.SumSmallReferenceIdeal.nD Cert.SumSmallReferenceIdeal.τ Cert.SumSmallReferenceIdeal.sig) → Buf (Elt Ideal) ℓ) (g' : Dev Cert.SumSmallReferenceIdeal.nD → PrngReg), Pre_SumSmallIdeal m →
    (∀ c : Dev Cert.SumSmallIdeal.nD,
      m' ((c.tc : Thread Cert.SumSmallReferenceIdeal.nD Cert.SumSmallReferenceIdeal.τ).loc Cert.SumSmallReferenceIdeal.main_arg0) = m ((c.tc : Thread Cert.SumSmallIdeal.nD Cert.SumSmallIdeal.τ).loc Cert.SumSmallIdeal.main_arg0)) →
    ∃ (v0 : (c : Dev Cert.SumSmallIdeal.nD) → Buf (Elt Ideal) ((c.tc : Thread Cert.SumSmallIdeal.nD Cert.SumSmallIdeal.τ).loc Cert.SumSmallIdeal.main_v0)),
      θ_run (Cert.SumSmallIdeal.defs (F := Ideal)) (onTc (τ := Cert.SumSmallIdeal.τ) (Cert.SumSmallIdeal.main (F := Ideal))) ⟨m, fun _ => 0, g⟩ (fun r => ∀ c : Dev Cert.SumSmallIdeal.nD,
          r.2.mem ((c.tc : Thread Cert.SumSmallIdeal.nD Cert.SumSmallIdeal.τ).loc Cert.SumSmallIdeal.main_v0) = v0 c
          ∧ r.2.mem ((c.tc : Thread Cert.SumSmallIdeal.nD Cert.SumSmallIdeal.τ).loc Cert.SumSmallIdeal.main_arg0) = m ((c.tc : Thread Cert.SumSmallIdeal.nD Cert.SumSmallIdeal.τ).loc Cert.SumSmallIdeal.main_arg0))
      ∧ θ_run (Cert.SumSmallReferenceIdeal.defs (F := Ideal)) (onTc (τ := Cert.SumSmallReferenceIdeal.τ) (Cert.SumSmallReferenceIdeal.main (F := Ideal))) ⟨m', fun _ => 0, g'⟩ (fun r => ∀ c : Dev Cert.SumSmallReferenceIdeal.nD,
          r.2.mem ((c.tc : Thread Cert.SumSmallReferenceIdeal.nD Cert.SumSmallReferenceIdeal.τ).loc Cert.SumSmallReferenceIdeal.main_v0) = v0 c
          ∧ r.2.mem ((c.tc : Thread Cert.SumSmallReferenceIdeal.nD Cert.SumSmallReferenceIdeal.τ).loc Cert.SumSmallReferenceIdeal.main_arg0) = m' ((c.tc : Thread Cert.SumSmallReferenceIdeal.nD Cert.SumSmallReferenceIdeal.τ).loc Cert.SumSmallReferenceIdeal.main_arg0))

def preserves_SumMix_SumMixIdeal : Prop :=
  True

def algebraic_SumMixIdeal_SumMixReferenceIdeal [hSumMixIdeal : Cert.SumMixIdeal.Facts] [hSumMixReferenceIdeal : Cert.SumMixReferenceIdeal.Facts] : Prop :=
  ∀ (m : (ℓ : Loc Cert.SumMixIdeal.nD Cert.SumMixIdeal.τ Cert.SumMixIdeal.sig) → Buf (Elt Ideal) ℓ) (g : Dev Cert.SumMixIdeal.nD → PrngReg)
    (m' : (ℓ : Loc Cert.SumMixReferenceIdeal.nD Cert.SumMixReferenceIdeal.τ Cert.SumMixReferenceIdeal.sig) → Buf (Elt Ideal) ℓ) (g' : Dev Cert.SumMixReferenceIdeal.nD → PrngReg), Pre_SumMixIdeal m →
    (∀ c : Dev Cert.SumMixIdeal.nD,
      m' ((c.tc : Thread Cert.SumMixReferenceIdeal.nD Cert.SumMixReferenceIdeal.τ).loc Cert.SumMixReferenceIdeal.main_arg0) = m ((c.tc : Thread Cert.SumMixIdeal.nD Cert.SumMixIdeal.τ).loc Cert.SumMixIdeal.main_arg0)) →
    ∃ (v0 : (c : Dev Cert.SumMixIdeal.nD) → Buf (Elt Ideal) ((c.tc : Thread Cert.SumMixIdeal.nD Cert.SumMixIdeal.τ).loc Cert.SumMixIdeal.main_v0)),
      θ_run (Cert.SumMixIdeal.defs (F := Ideal)) (onTc (τ := Cert.SumMixIdeal.τ) (Cert.SumMixIdeal.main (F := Ideal))) ⟨m, fun _ => 0, g⟩ (fun r => ∀ c : Dev Cert.SumMixIdeal.nD,
          r.2.mem ((c.tc : Thread Cert.SumMixIdeal.nD Cert.SumMixIdeal.τ).loc Cert.SumMixIdeal.main_v0) = v0 c
          ∧ r.2.mem ((c.tc : Thread Cert.SumMixIdeal.nD Cert.SumMixIdeal.τ).loc Cert.SumMixIdeal.main_arg0) = m ((c.tc : Thread Cert.SumMixIdeal.nD Cert.SumMixIdeal.τ).loc Cert.SumMixIdeal.main_arg0))
      ∧ θ_run (Cert.SumMixReferenceIdeal.defs (F := Ideal)) (onTc (τ := Cert.SumMixReferenceIdeal.τ) (Cert.SumMixReferenceIdeal.main (F := Ideal))) ⟨m', fun _ => 0, g'⟩ (fun r => ∀ c : Dev Cert.SumMixReferenceIdeal.nD,
          r.2.mem ((c.tc : Thread Cert.SumMixReferenceIdeal.nD Cert.SumMixReferenceIdeal.τ).loc Cert.SumMixReferenceIdeal.main_v0) = v0 c
          ∧ r.2.mem ((c.tc : Thread Cert.SumMixReferenceIdeal.nD Cert.SumMixReferenceIdeal.τ).loc Cert.SumMixReferenceIdeal.main_arg0) = m' ((c.tc : Thread Cert.SumMixReferenceIdeal.nD Cert.SumMixReferenceIdeal.τ).loc Cert.SumMixReferenceIdeal.main_arg0))

def Claim : Prop :=
  ∃ (hKernel : Cert.Kernel.Facts) (hKernelIdeal : Cert.KernelIdeal.Facts) (hReferenceIdeal : Cert.ReferenceIdeal.Facts) (hFfnUp : Cert.FfnUp.Facts) (hFfnUpIdeal : Cert.FfnUpIdeal.Facts) (hFfnUpReferenceIdeal : Cert.FfnUpReferenceIdeal.Facts) (hBwdIn : Cert.BwdIn.Facts) (hBwdInIdeal : Cert.BwdInIdeal.Facts) (hBwdInReferenceIdeal : Cert.BwdInReferenceIdeal.Facts) (hWgradUp : Cert.WgradUp.Facts) (hWgradUpIdeal : Cert.WgradUpIdeal.Facts) (hWgradUpReferenceIdeal : Cert.WgradUpReferenceIdeal.Facts) (hAdamIn : Cert.AdamIn.Facts) (hAdamInIdeal : Cert.AdamInIdeal.Facts) (hAdamInReferenceIdeal : Cert.AdamInReferenceIdeal.Facts) (hAdamGlu : Cert.AdamGlu.Facts) (hAdamGluIdeal : Cert.AdamGluIdeal.Facts) (hAdamGluReferenceIdeal : Cert.AdamGluReferenceIdeal.Facts) (hAdamOut : Cert.AdamOut.Facts) (hAdamOutIdeal : Cert.AdamOutIdeal.Facts) (hAdamOutReferenceIdeal : Cert.AdamOutReferenceIdeal.Facts) (hAdamGate : Cert.AdamGate.Facts) (hAdamGateIdeal : Cert.AdamGateIdeal.Facts) (hAdamGateReferenceIdeal : Cert.AdamGateReferenceIdeal.Facts) (hAdamDown : Cert.AdamDown.Facts) (hAdamDownIdeal : Cert.AdamDownIdeal.Facts) (hAdamDownReferenceIdeal : Cert.AdamDownReferenceIdeal.Facts) (hProjBwd : Cert.ProjBwd.Facts) (hProjBwdIdeal : Cert.ProjBwdIdeal.Facts) (hProjBwdReferenceIdeal : Cert.ProjBwdReferenceIdeal.Facts) (hProjFwd : Cert.ProjFwd.Facts) (hProjFwdIdeal : Cert.ProjFwdIdeal.Facts) (hProjFwdReferenceIdeal : Cert.ProjFwdReferenceIdeal.Facts) (hSumSmall : Cert.SumSmall.Facts) (hSumSmallIdeal : Cert.SumSmallIdeal.Facts) (hSumSmallReferenceIdeal : Cert.SumSmallReferenceIdeal.Facts) (hSumMix : Cert.SumMix.Facts) (hSumMixIdeal : Cert.SumMixIdeal.Facts) (hSumMixReferenceIdeal : Cert.SumMixReferenceIdeal.Facts),
    quiescent_Kernel (hKernel := hKernel)
    ∧ quiescent_KernelIdeal (hKernelIdeal := hKernelIdeal)
    ∧ quiescent_ReferenceIdeal (hReferenceIdeal := hReferenceIdeal)
    ∧ quiescent_FfnUp (hFfnUp := hFfnUp)
    ∧ quiescent_FfnUpIdeal (hFfnUpIdeal := hFfnUpIdeal)
    ∧ quiescent_FfnUpReferenceIdeal (hFfnUpReferenceIdeal := hFfnUpReferenceIdeal)
    ∧ quiescent_BwdIn (hBwdIn := hBwdIn)
    ∧ quiescent_BwdInIdeal (hBwdInIdeal := hBwdInIdeal)
    ∧ quiescent_BwdInReferenceIdeal (hBwdInReferenceIdeal := hBwdInReferenceIdeal)
    ∧ quiescent_WgradUp (hWgradUp := hWgradUp)
    ∧ quiescent_WgradUpIdeal (hWgradUpIdeal := hWgradUpIdeal)
    ∧ quiescent_WgradUpReferenceIdeal (hWgradUpReferenceIdeal := hWgradUpReferenceIdeal)
    ∧ quiescent_AdamIn (hAdamIn := hAdamIn)
    ∧ quiescent_AdamInIdeal (hAdamInIdeal := hAdamInIdeal)
    ∧ quiescent_AdamInReferenceIdeal (hAdamInReferenceIdeal := hAdamInReferenceIdeal)
    ∧ quiescent_AdamGlu (hAdamGlu := hAdamGlu)
    ∧ quiescent_AdamGluIdeal (hAdamGluIdeal := hAdamGluIdeal)
    ∧ quiescent_AdamGluReferenceIdeal (hAdamGluReferenceIdeal := hAdamGluReferenceIdeal)
    ∧ quiescent_AdamOut (hAdamOut := hAdamOut)
    ∧ quiescent_AdamOutIdeal (hAdamOutIdeal := hAdamOutIdeal)
    ∧ quiescent_AdamOutReferenceIdeal (hAdamOutReferenceIdeal := hAdamOutReferenceIdeal)
    ∧ quiescent_AdamGate (hAdamGate := hAdamGate)
    ∧ quiescent_AdamGateIdeal (hAdamGateIdeal := hAdamGateIdeal)
    ∧ quiescent_AdamGateReferenceIdeal (hAdamGateReferenceIdeal := hAdamGateReferenceIdeal)
    ∧ quiescent_AdamDown (hAdamDown := hAdamDown)
    ∧ quiescent_AdamDownIdeal (hAdamDownIdeal := hAdamDownIdeal)
    ∧ quiescent_AdamDownReferenceIdeal (hAdamDownReferenceIdeal := hAdamDownReferenceIdeal)
    ∧ quiescent_ProjBwd (hProjBwd := hProjBwd)
    ∧ quiescent_ProjBwdIdeal (hProjBwdIdeal := hProjBwdIdeal)
    ∧ quiescent_ProjBwdReferenceIdeal (hProjBwdReferenceIdeal := hProjBwdReferenceIdeal)
    ∧ quiescent_ProjFwd (hProjFwd := hProjFwd)
    ∧ quiescent_ProjFwdIdeal (hProjFwdIdeal := hProjFwdIdeal)
    ∧ quiescent_ProjFwdReferenceIdeal (hProjFwdReferenceIdeal := hProjFwdReferenceIdeal)
    ∧ quiescent_SumSmall (hSumSmall := hSumSmall)
    ∧ quiescent_SumSmallIdeal (hSumSmallIdeal := hSumSmallIdeal)
    ∧ quiescent_SumSmallReferenceIdeal (hSumSmallReferenceIdeal := hSumSmallReferenceIdeal)
    ∧ quiescent_SumMix (hSumMix := hSumMix)
    ∧ quiescent_SumMixIdeal (hSumMixIdeal := hSumMixIdeal)
    ∧ quiescent_SumMixReferenceIdeal (hSumMixReferenceIdeal := hSumMixReferenceIdeal)
    ∧ preserves_Kernel_KernelIdeal
    ∧ algebraic_KernelIdeal_ReferenceIdeal (hKernelIdeal := hKernelIdeal) (hReferenceIdeal := hReferenceIdeal)
    ∧ preserves_FfnUp_FfnUpIdeal
    ∧ algebraic_FfnUpIdeal_FfnUpReferenceIdeal (hFfnUpIdeal := hFfnUpIdeal) (hFfnUpReferenceIdeal := hFfnUpReferenceIdeal)
    ∧ preserves_BwdIn_BwdInIdeal
    ∧ algebraic_BwdInIdeal_BwdInReferenceIdeal (hBwdInIdeal := hBwdInIdeal) (hBwdInReferenceIdeal := hBwdInReferenceIdeal)
    ∧ preserves_WgradUp_WgradUpIdeal
    ∧ algebraic_WgradUpIdeal_WgradUpReferenceIdeal (hWgradUpIdeal := hWgradUpIdeal) (hWgradUpReferenceIdeal := hWgradUpReferenceIdeal)
    ∧ preserves_AdamIn_AdamInIdeal
    ∧ algebraic_AdamInIdeal_AdamInReferenceIdeal (hAdamInIdeal := hAdamInIdeal) (hAdamInReferenceIdeal := hAdamInReferenceIdeal)
    ∧ preserves_AdamGlu_AdamGluIdeal
    ∧ algebraic_AdamGluIdeal_AdamGluReferenceIdeal (hAdamGluIdeal := hAdamGluIdeal) (hAdamGluReferenceIdeal := hAdamGluReferenceIdeal)
    ∧ preserves_AdamOut_AdamOutIdeal
    ∧ algebraic_AdamOutIdeal_AdamOutReferenceIdeal (hAdamOutIdeal := hAdamOutIdeal) (hAdamOutReferenceIdeal := hAdamOutReferenceIdeal)
    ∧ preserves_AdamGate_AdamGateIdeal
    ∧ algebraic_AdamGateIdeal_AdamGateReferenceIdeal (hAdamGateIdeal := hAdamGateIdeal) (hAdamGateReferenceIdeal := hAdamGateReferenceIdeal)
    ∧ preserves_AdamDown_AdamDownIdeal
    ∧ algebraic_AdamDownIdeal_AdamDownReferenceIdeal (hAdamDownIdeal := hAdamDownIdeal) (hAdamDownReferenceIdeal := hAdamDownReferenceIdeal)
    ∧ preserves_ProjBwd_ProjBwdIdeal
    ∧ algebraic_ProjBwdIdeal_ProjBwdReferenceIdeal (hProjBwdIdeal := hProjBwdIdeal) (hProjBwdReferenceIdeal := hProjBwdReferenceIdeal)
    ∧ preserves_ProjFwd_ProjFwdIdeal
    ∧ algebraic_ProjFwdIdeal_ProjFwdReferenceIdeal (hProjFwdIdeal := hProjFwdIdeal) (hProjFwdReferenceIdeal := hProjFwdReferenceIdeal)
    ∧ preserves_SumSmall_SumSmallIdeal
    ∧ algebraic_SumSmallIdeal_SumSmallReferenceIdeal (hSumSmallIdeal := hSumSmallIdeal) (hSumSmallReferenceIdeal := hSumSmallReferenceIdeal)
    ∧ preserves_SumMix_SumMixIdeal
    ∧ algebraic_SumMixIdeal_SumMixReferenceIdeal (hSumMixIdeal := hSumMixIdeal) (hSumMixReferenceIdeal := hSumMixReferenceIdeal)
-- ==== Kernel.lean ====
abbrev S2048x640 : Shape := ⟨2, ![2048, 640]⟩
abbrev S8x2048x640 : Shape := ⟨3, ![8, 2048, 640]⟩
abbrev S1x7 : Shape := ⟨2, ![1, 7]⟩
abbrev S1 : Shape := ⟨1, ![1]⟩
abbrev S_ : Shape := ⟨0, ![]⟩
abbrev S1x2048x640 : Shape := ⟨3, ![1, 2048, 640]⟩
abbrev S1x1 : Shape := ⟨2, ![1, 1]⟩

abbrev nBuf : Space → Nat
  | .hbm => 2
  | .vmem => 0
  | .smem => 0
  | _ => 0

abbrev bufTy : (tb : Table) → Fin (tcTables nBuf tb) → BufTy
  | .hbm, ⟨0, _⟩ => ⟨S2048x640, .bf16⟩
  | .hbm, ⟨1, _⟩ => ⟨S8x2048x640, .bf16⟩
  | _, _ => ⟨S2048x640, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_v1 : Ref sig .tc := ⟨.hbm, 1, rfl⟩

abbrev nD : Nat := 8
abbrev τ : Topo := Topo.v7x

variable {F : FTy → Type} [FloatOps F]

abbrev grid0 : Pipeline.Grid := .none

def k0_off1 (d0 : Dev nD) : Fin 3 → Nat :=
  let c4_i32_0 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Scalar.muli c4_i32_0 v2
  let c2_i32_3 : BitVec 32 := 2#32
  let v4 : BitVec 32 := Dev.word d0
  let c2_i32_2 : BitVec 32 := 2#32
  let v5 : BitVec 32 := Scalar.divsi v4 c2_i32_2
  let c2_i32_1 : BitVec 32 := 2#32
  let v6 : BitVec 32 := Scalar.remsi v5 c2_i32_1
  let v7 : BitVec 32 := Scalar.muli c2_i32_3 v6
  let v8 : BitVec 32 := Scalar.addi v3 v7
  let v9 : BitVec 32 := Dev.word d0
  let c1_i32 : BitVec 32 := 1#32
  let v10 : BitVec 32 := Scalar.divsi v9 c1_i32
  let c2_i32_4 : BitVec 32 := 2#32
  let v11 : BitVec 32 := Scalar.remsi v10 c2_i32_4
  let v12 : BitVec 32 := Scalar.addi v8 v11
  let c0_i32_5 : BitVec 32 := 0#32
  let c0_i32_6 : BitVec 32 := 0#32
  ![v12.toNat, 0, 0]
def k0_dev1 (d0 : Dev nD) : Nat :=
  let c0_i32_21 : BitVec 32 := 0#32
  let v17 : BitVec 32 := Dev.word d0
  let c4_i32_8 : BitVec 32 := 4#32
  let v18 : BitVec 32 := Scalar.divsi v17 c4_i32_8
  let c2_i32_7 : BitVec 32 := 2#32
  let v19 : BitVec 32 := Scalar.remsi v18 c2_i32_7
  let c0_i32_9 : BitVec 32 := 0#32
  let v20 : BitVec 32 := Scalar.xori v19 c0_i32_9
  let c4_i32_20 : BitVec 32 := 4#32
  let v29 : BitVec 32 := Scalar.muli v20 c4_i32_20
  let v30 : BitVec 32 := Scalar.addi c0_i32_21 v29
  let v21 : BitVec 32 := Dev.word d0
  let c2_i32_11 : BitVec 32 := 2#32
  let v22 : BitVec 32 := Scalar.divsi v21 c2_i32_11
  let c2_i32_10 : BitVec 32 := 2#32
  let v23 : BitVec 32 := Scalar.remsi v22 c2_i32_10
  let c0_i32_12 : BitVec 32 := 0#32
  let v24 : BitVec 32 := Scalar.xori v23 c0_i32_12
  let c2_i32_22 : BitVec 32 := 2#32
  let v31 : BitVec 32 := Scalar.muli v24 c2_i32_22
  let v32 : BitVec 32 := Scalar.addi v30 v31
  let v25 : BitVec 32 := Dev.word d0
  let c1_i32_14 : BitVec 32 := 1#32
  let v26 : BitVec 32 := Scalar.divsi v25 c1_i32_14
  let c2_i32_13 : BitVec 32 := 2#32
  let v27 : BitVec 32 := Scalar.remsi v26 c2_i32_13
  let c1_i32_15 : BitVec 32 := 1#32
  let v28 : BitVec 32 := Scalar.xori v27 c1_i32_15
  let c1_i32_23 : BitVec 32 := 1#32
  let v33 : BitVec 32 := Scalar.muli v28 c1_i32_23
  let v34 : BitVec 32 := Scalar.addi v32 v33
  v34.toNat
def k0_dev2 (d0 : Dev nD) : Nat :=
  let c0_i32_40 : BitVec 32 := 0#32
  let v41 : BitVec 32 := Dev.word d0
  let c4_i32_27 : BitVec 32 := 4#32
  let v42 : BitVec 32 := Scalar.divsi v41 c4_i32_27
  let c2_i32_26 : BitVec 32 := 2#32
  let v43 : BitVec 32 := Scalar.remsi v42 c2_i32_26
  let c0_i32_28 : BitVec 32 := 0#32
  let v44 : BitVec 32 := Scalar.xori v43 c0_i32_28
  let c4_i32_39 : BitVec 32 := 4#32
  let v53 : BitVec 32 := Scalar.muli v44 c4_i32_39
  let v54 : BitVec 32 := Scalar.addi c0_i32_40 v53
  let v45 : BitVec 32 := Dev.word d0
  let c2_i32_30 : BitVec 32 := 2#32
  let v46 : BitVec 32 := Scalar.divsi v45 c2_i32_30
  let c2_i32_29 : BitVec 32 := 2#32
  let v47 : BitVec 32 := Scalar.remsi v46 c2_i32_29
  let c1_i32_31 : BitVec 32 := 1#32
  let v48 : BitVec 32 := Scalar.xori v47 c1_i32_31
  let c2_i32_41 : BitVec 32 := 2#32
  let v55 : BitVec 32 := Scalar.muli v48 c2_i32_41
  let v56 : BitVec 32 := Scalar.addi v54 v55
  let v49 : BitVec 32 := Dev.word d0
  let c1_i32_33 : BitVec 32 := 1#32
  let v50 : BitVec 32 := Scalar.divsi v49 c1_i32_33
  let c2_i32_32 : BitVec 32 := 2#32
  let v51 : BitVec 32 := Scalar.remsi v50 c2_i32_32
  let c0_i32_34 : BitVec 32 := 0#32
  let v52 : BitVec 32 := Scalar.xori v51 c0_i32_34
  let c1_i32_42 : BitVec 32 := 1#32
  let v57 : BitVec 32 := Scalar.muli v52 c1_i32_42
  let v58 : BitVec 32 := Scalar.addi v56 v57
  v58.toNat
def k0_dev3 (d0 : Dev nD) : Nat :=
  let c0_i32_58 : BitVec 32 := 0#32
  let v65 : BitVec 32 := Dev.word d0
  let c4_i32_46 : BitVec 32 := 4#32
  let v66 : BitVec 32 := Scalar.divsi v65 c4_i32_46
  let c2_i32_45 : BitVec 32 := 2#32
  let v67 : BitVec 32 := Scalar.remsi v66 c2_i32_45
  let c1_i32_47 : BitVec 32 := 1#32
  let v68 : BitVec 32 := Scalar.xori v67 c1_i32_47
  let c4_i32_57 : BitVec 32 := 4#32
  let v77 : BitVec 32 := Scalar.muli v68 c4_i32_57
  let v78 : BitVec 32 := Scalar.addi c0_i32_58 v77
  let v69 : BitVec 32 := Dev.word d0
  let c2_i32_49 : BitVec 32 := 2#32
  let v70 : BitVec 32 := Scalar.divsi v69 c2_i32_49
  let c2_i32_48 : BitVec 32 := 2#32
  let v71 : BitVec 32 := Scalar.remsi v70 c2_i32_48
  let c0_i32_50 : BitVec 32 := 0#32
  let v72 : BitVec 32 := Scalar.xori v71 c0_i32_50
  let c2_i32_59 : BitVec 32 := 2#32
  let v79 : BitVec 32 := Scalar.muli v72 c2_i32_59
  let v80 : BitVec 32 := Scalar.addi v78 v79
  let v73 : BitVec 32 := Dev.word d0
  let c1_i32_52 : BitVec 32 := 1#32
  let v74 : BitVec 32 := Scalar.divsi v73 c1_i32_52
  let c2_i32_51 : BitVec 32 := 2#32
  let v75 : BitVec 32 := Scalar.remsi v74 c2_i32_51
  let c0_i32_53 : BitVec 32 := 0#32
  let v76 : BitVec 32 := Scalar.xori v75 c0_i32_53
  let c1_i32_60 : BitVec 32 := 1#32
  let v81 : BitVec 32 := Scalar.muli v76 c1_i32_60
  let v82 : BitVec 32 := Scalar.addi v80 v81
  v82.toNat
def k0_dev4 (d0 : Dev nD) : Nat :=
  let c0_i32_76 : BitVec 32 := 0#32
  let v89 : BitVec 32 := Dev.word d0
  let c4_i32_64 : BitVec 32 := 4#32
  let v90 : BitVec 32 := Scalar.divsi v89 c4_i32_64
  let c2_i32_63 : BitVec 32 := 2#32
  let v91 : BitVec 32 := Scalar.remsi v90 c2_i32_63
  let c1_i32_65 : BitVec 32 := 1#32
  let v92 : BitVec 32 := Scalar.xori v91 c1_i32_65
  let c4_i32_75 : BitVec 32 := 4#32
  let v101 : BitVec 32 := Scalar.muli v92 c4_i32_75
  let v102 : BitVec 32 := Scalar.addi c0_i32_76 v101
  let v93 : BitVec 32 := Dev.word d0
  let c2_i32_67 : BitVec 32 := 2#32
  let v94 : BitVec 32 := Scalar.divsi v93 c2_i32_67
  let c2_i32_66 : BitVec 32 := 2#32
  let v95 : BitVec 32 := Scalar.remsi v94 c2_i32_66
  let c1_i32_68 : BitVec 32 := 1#32
  let v96 : BitVec 32 := Scalar.xori v95 c1_i32_68
  let c2_i32_77 : BitVec 32 := 2#32
  let v103 : BitVec 32 := Scalar.muli v96 c2_i32_77
  let v104 : BitVec 32 := Scalar.addi v102 v103
  let v97 : BitVec 32 := Dev.word d0
  let c1_i32_70 : BitVec 32 := 1#32
  let v98 : BitVec 32 := Scalar.divsi v97 c1_i32_70
  let c2_i32_69 : BitVec 32 := 2#32
  let v99 : BitVec 32 := Scalar.remsi v98 c2_i32_69
  let c0_i32_71 : BitVec 32 := 0#32
  let v100 : BitVec 32 := Scalar.xori v99 c0_i32_71
  let c1_i32_78 : BitVec 32 := 1#32
  let v105 : BitVec 32 := Scalar.muli v100 c1_i32_78
  let v106 : BitVec 32 := Scalar.addi v104 v105
  v106.toNat
def k0_off2 (d0 : Dev nD) (c0_i32_102 : BitVec 32) (c1_i32_105 : BitVec 32) (c0_i32_108 : BitVec 32) : Fin 3 → Nat :=
  let c4_i32_109 : BitVec 32 := 4#32
  let v142 : BitVec 32 := Dev.word d0
  let c4_i32_101 : BitVec 32 := 4#32
  let v143 : BitVec 32 := Scalar.divsi v142 c4_i32_101
  let c2_i32_100 : BitVec 32 := 2#32
  let v144 : BitVec 32 := Scalar.remsi v143 c2_i32_100
  let v145 : BitVec 32 := Scalar.xori v144 c0_i32_102
  let v154 : BitVec 32 := Scalar.muli c4_i32_109 v145
  let c2_i32_110 : BitVec 32 := 2#32
  let v146 : BitVec 32 := Dev.word d0
  let c2_i32_104 : BitVec 32 := 2#32
  let v147 : BitVec 32 := Scalar.divsi v146 c2_i32_104
  let c2_i32_103 : BitVec 32 := 2#32
  let v148 : BitVec 32 := Scalar.remsi v147 c2_i32_103
  let v149 : BitVec 32 := Scalar.xori v148 c1_i32_105
  let v155 : BitVec 32 := Scalar.muli c2_i32_110 v149
  let v156 : BitVec 32 := Scalar.addi v154 v155
  let v150 : BitVec 32 := Dev.word d0
  let c1_i32_107 : BitVec 32 := 1#32
  let v151 : BitVec 32 := Scalar.divsi v150 c1_i32_107
  let c2_i32_106 : BitVec 32 := 2#32
  let v152 : BitVec 32 := Scalar.remsi v151 c2_i32_106
  let v153 : BitVec 32 := Scalar.xori v152 c0_i32_108
  let v157 : BitVec 32 := Scalar.addi v156 v153
  let c0_i32_128 : BitVec 32 := 0#32
  let c0_i32_129 : BitVec 32 := 0#32
  ![v157.toNat, 0, 0]
def k0_off2_at (r : Fin 7) : BitVec 32 × BitVec 32 × BitVec 32 :=
  if r.val < 3 then
    if r.val < 1 then
      (0#32, 1#32, 0#32)
    else
      if r.val < 2 then
        (1#32, 0#32, 0#32)
      else
        (1#32, 1#32, 0#32)
  else
    if r.val < 5 then
      if r.val < 4 then
        (0#32, 0#32, 1#32)
      else
        (0#32, 1#32, 1#32)
    else
      if r.val < 6 then
        (1#32, 0#32, 1#32)
      else
        (1#32, 1#32, 1#32)
def k0_dev5 (d0 : Dev nD) : Nat :=
  let c0_i32_168 : BitVec 32 := 0#32
  let v214 : BitVec 32 := Dev.word d0
  let c4_i32_155 : BitVec 32 := 4#32
  let v215 : BitVec 32 := Scalar.divsi v214 c4_i32_155
  let c2_i32_154 : BitVec 32 := 2#32
  let v216 : BitVec 32 := Scalar.remsi v215 c2_i32_154
  let c0_i32_156 : BitVec 32 := 0#32
  let v217 : BitVec 32 := Scalar.xori v216 c0_i32_156
  let c4_i32_167 : BitVec 32 := 4#32
  let v226 : BitVec 32 := Scalar.muli v217 c4_i32_167
  let v227 : BitVec 32 := Scalar.addi c0_i32_168 v226
  let v218 : BitVec 32 := Dev.word d0
  let c2_i32_158 : BitVec 32 := 2#32
  let v219 : BitVec 32 := Scalar.divsi v218 c2_i32_158
  let c2_i32_157 : BitVec 32 := 2#32
  let v220 : BitVec 32 := Scalar.remsi v219 c2_i32_157
  let c0_i32_159 : BitVec 32 := 0#32
  let v221 : BitVec 32 := Scalar.xori v220 c0_i32_159
  let c2_i32_169 : BitVec 32 := 2#32
  let v228 : BitVec 32 := Scalar.muli v221 c2_i32_169
  let v229 : BitVec 32 := Scalar.addi v227 v228
  let v222 : BitVec 32 := Dev.word d0
  let c1_i32_161 : BitVec 32 := 1#32
  let v223 : BitVec 32 := Scalar.divsi v222 c1_i32_161
  let c2_i32_160 : BitVec 32 := 2#32
  let v224 : BitVec 32 := Scalar.remsi v223 c2_i32_160
  let c1_i32_162 : BitVec 32 := 1#32
  let v225 : BitVec 32 := Scalar.xori v224 c1_i32_162
  let c1_i32_170 : BitVec 32 := 1#32
  let v230 : BitVec 32 := Scalar.muli v225 c1_i32_170
  let v231 : BitVec 32 := Scalar.addi v229 v230
  v231.toNat
def k0_dev6 (d0 : Dev nD) : Nat :=
  let c0_i32_254 : BitVec 32 := 0#32
  let v328 : BitVec 32 := Dev.word d0
  let c4_i32_241 : BitVec 32 := 4#32
  let v329 : BitVec 32 := Scalar.divsi v328 c4_i32_241
  let c2_i32_240 : BitVec 32 := 2#32
  let v330 : BitVec 32 := Scalar.remsi v329 c2_i32_240
  let c0_i32_242 : BitVec 32 := 0#32
  let v331 : BitVec 32 := Scalar.xori v330 c0_i32_242
  let c4_i32_253 : BitVec 32 := 4#32
  let v340 : BitVec 32 := Scalar.muli v331 c4_i32_253
  let v341 : BitVec 32 := Scalar.addi c0_i32_254 v340
  let v332 : BitVec 32 := Dev.word d0
  let c2_i32_244 : BitVec 32 := 2#32
  let v333 : BitVec 32 := Scalar.divsi v332 c2_i32_244
  let c2_i32_243 : BitVec 32 := 2#32
  let v334 : BitVec 32 := Scalar.remsi v333 c2_i32_243
  let c0_i32_245 : BitVec 32 := 0#32
  let v335 : BitVec 32 := Scalar.xori v334 c0_i32_245
  let c2_i32_255 : BitVec 32 := 2#32
  let v342 : BitVec 32 := Scalar.muli v335 c2_i32_255
  let v343 : BitVec 32 := Scalar.addi v341 v342
  let v336 : BitVec 32 := Dev.word d0
  let c1_i32_247 : BitVec 32 := 1#32
  let v337 : BitVec 32 := Scalar.divsi v336 c1_i32_247
  let c2_i32_246 : BitVec 32 := 2#32
  let v338 : BitVec 32 := Scalar.remsi v337 c2_i32_246
  let c1_i32_248 : BitVec 32 := 1#32
  let v339 : BitVec 32 := Scalar.xori v338 c1_i32_248
  let c1_i32_256 : BitVec 32 := 1#32
  let v344 : BitVec 32 := Scalar.muli v339 c1_i32_256
  let v345 : BitVec 32 := Scalar.addi v343 v344
  v345.toNat
def k0_dev7 (d0 : Dev nD) : Nat :=
  let c0_i32_339 : BitVec 32 := 0#32
  let v442 : BitVec 32 := Dev.word d0
  let c4_i32_327 : BitVec 32 := 4#32
  let v443 : BitVec 32 := Scalar.divsi v442 c4_i32_327
  let c2_i32_326 : BitVec 32 := 2#32
  let v444 : BitVec 32 := Scalar.remsi v443 c2_i32_326
  let c0_i32_328 : BitVec 32 := 0#32
  let v445 : BitVec 32 := Scalar.xori v444 c0_i32_328
  let c4_i32_338 : BitVec 32 := 4#32
  let v454 : BitVec 32 := Scalar.muli v445 c4_i32_338
  let v455 : BitVec 32 := Scalar.addi c0_i32_339 v454
  let v446 : BitVec 32 := Dev.word d0
  let c2_i32_330 : BitVec 32 := 2#32
  let v447 : BitVec 32 := Scalar.divsi v446 c2_i32_330
  let c2_i32_329 : BitVec 32 := 2#32
  let v448 : BitVec 32 := Scalar.remsi v447 c2_i32_329
  let c0_i32_331 : BitVec 32 := 0#32
  let v449 : BitVec 32 := Scalar.xori v448 c0_i32_331
  let c2_i32_340 : BitVec 32 := 2#32
  let v456 : BitVec 32 := Scalar.muli v449 c2_i32_340
  let v457 : BitVec 32 := Scalar.addi v455 v456
  let v450 : BitVec 32 := Dev.word d0
  let c1_i32_333 : BitVec 32 := 1#32
  let v451 : BitVec 32 := Scalar.divsi v450 c1_i32_333
  let c2_i32_332 : BitVec 32 := 2#32
  let v452 : BitVec 32 := Scalar.remsi v451 c2_i32_332
  let c1_i32_334 : BitVec 32 := 1#32
  let v453 : BitVec 32 := Scalar.xori v452 c1_i32_334
  let c1_i32_341 : BitVec 32 := 1#32
  let v458 : BitVec 32 := Scalar.muli v453 c1_i32_341
  let v459 : BitVec 32 := Scalar.addi v457 v458
  v459.toNat
-- ==== ReferenceIdeal.lean ====
abbrev S2048x5120 : Shape := ⟨2, ![2048, 5120]⟩
abbrev S2048x8x640 : Shape := ⟨3, ![2048, 8, 640]⟩
abbrev S8x2048x640 : Shape := ⟨3, ![8, 2048, 640]⟩

abbrev nBuf : Space → Nat
  | .hbm => 3
  | .vmem => 0
  | .smem => 0
  | _ => 0

abbrev bufTy : (tb : Table) → Fin (tcTables nBuf tb) → BufTy
  | .hbm, ⟨0, _⟩ => ⟨S2048x5120, .bf16⟩
  | .hbm, ⟨1, _⟩ => ⟨S2048x8x640, .bf16⟩
  | .hbm, ⟨2, _⟩ => ⟨S8x2048x640, .bf16⟩
  | _, _ => ⟨S2048x5120, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩

abbrev nD : Nat := 1
abbrev τ : Topo := Topo.v7x

variable {F : FTy → Type} [FloatOps F]
-- ==== FfnUp.lean ====
abbrev S8192x2048 : Shape := ⟨2, ![8192, 2048]⟩
abbrev S8x2048x704 : Shape := ⟨3, ![8, 2048, 704]⟩
abbrev S704x2048 : Shape := ⟨2, ![704, 2048]⟩
abbrev S8x8192x704 : Shape := ⟨3, ![8, 8192, 704]⟩
abbrev S8x704x2048 : Shape := ⟨3, ![8, 704, 2048]⟩
abbrev S1024x2048 : Shape := ⟨2, ![1024, 2048]⟩
abbrev S1x2048x704 : Shape := ⟨3, ![1, 2048, 704]⟩
abbrev S1x1024x704 : Shape := ⟨3, ![1, 1024, 704]⟩
abbrev S1x7 : Shape := ⟨2, ![1, 7]⟩
abbrev S1 : Shape := ⟨1, ![1]⟩
abbrev S_ : Shape := ⟨0, ![]⟩
abbrev S1x704x2048 : Shape := ⟨3, ![1, 704, 2048]⟩
abbrev S1x1 : Shape := ⟨2, ![1, 1]⟩
abbrev S2048x704 : Shape := ⟨2, ![2048, 704]⟩
abbrev S1024x704 : Shape := ⟨2, ![1024, 704]⟩

abbrev nBuf : Space → Nat
  | .hbm => 8
  | .vmem => 12
  | .smem => 0
  | _ => 0

abbrev bufTy : (tb : Table) → Fin (tcTables nBuf tb) → BufTy
  | .hbm, ⟨0, _⟩ => ⟨S8192x2048, .bf16⟩
  | .hbm, ⟨1, _⟩ => ⟨S8x2048x704, .bf16⟩
  | .hbm, ⟨2, _⟩ => ⟨S8x2048x704, .bf16⟩
  | .hbm, ⟨3, _⟩ => ⟨S704x2048, .bf16⟩
  | .hbm, ⟨4, _⟩ => ⟨S8x8192x704, .bf16⟩
  | .hbm, ⟨5, _⟩ => ⟨S8x8192x704, .bf16⟩
  | .hbm, ⟨6, _⟩ => ⟨S8x8192x704, .bf16⟩
  | .hbm, ⟨7, _⟩ => ⟨S8x704x2048, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x704, .bf16⟩
  | .local _ .vmem, ⟨3, _⟩ => ⟨S1x2048x704, .bf16⟩
  | .local _ .vmem, ⟨4, _⟩ => ⟨S1x2048x704, .bf16⟩
  | .local _ .vmem, ⟨5, _⟩ => ⟨S1x2048x704, .bf16⟩
  | .local _ .vmem, ⟨6, _⟩ => ⟨S1x1024x704, .bf16⟩
  | .local _ .vmem, ⟨7, _⟩ => ⟨S1x1024x704, .bf16⟩
  | .local _ .vmem, ⟨8, _⟩ => ⟨S1x1024x704, .bf16⟩
  | .local _ .vmem, ⟨9, _⟩ => ⟨S1x1024x704, .bf16⟩
  | .local _ .vmem, ⟨10, _⟩ => ⟨S1x1024x704, .bf16⟩
  | .local _ .vmem, ⟨11, _⟩ => ⟨S1x1024x704, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev main_v1_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 8
abbrev τ : Topo := Topo.v7x

variable {F : FTy → Type} [FloatOps F]

abbrev grid0 : Pipeline.Grid := ⟨2, ![8, 8], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v6 : BitVec 32 := Scalar.extui v2
  let c0_i32_2 : BitVec 32 := 0#32
  let v7 : BitVec 1 := Scalar.cmpi .ne v6 c0_i32_2
  v7

def k0_off1 (d39 : Dev nD) : Fin 3 → Nat :=
  let c4_i32_24 : BitVec 32 := 4#32
  let v39 : BitVec 32 := Dev.word d39
  let c4_i32 : BitVec 32 := 4#32
  let v40 : BitVec 32 := Scalar.divsi v39 c4_i32
  let c2_i32 : BitVec 32 := 2#32
  let v41 : BitVec 32 := Scalar.remsi v40 c2_i32
  let v42 : BitVec 32 := Scalar.muli c4_i32_24 v41
  let c2_i32_27 : BitVec 32 := 2#32
  let v43 : BitVec 32 := Dev.word d39
  let c2_i32_26 : BitVec 32 := 2#32
  let v44 : BitVec 32 := Scalar.divsi v43 c2_i32_26
  let c2_i32_25 : BitVec 32 := 2#32
  let v45 : BitVec 32 := Scalar.remsi v44 c2_i32_25
  let v46 : BitVec 32 := Scalar.muli c2_i32_27 v45
  let v47 : BitVec 32 := Scalar.addi v42 v46
  let v48 : BitVec 32 := Dev.word d39
  let c1_i32 : BitVec 32 := 1#32
  let v49 : BitVec 32 := Scalar.divsi v48 c1_i32
  let c2_i32_28 : BitVec 32 := 2#32
  let v50 : BitVec 32 := Scalar.remsi v49 c2_i32_28
  let v51 : BitVec 32 := Scalar.addi v47 v50
  let c0_i32_93 : BitVec 32 := 0#32
  let c0_i32_94 : BitVec 32 := 0#32
  ![v51.toNat, 0, 0]
def k0_dev1 (d39 : Dev nD) : Nat :=
  let c0_i32_100 : BitVec 32 := 0#32
  let v52 : BitVec 32 := Dev.word d39
  let c4_i32_30 : BitVec 32 := 4#32
  let v53 : BitVec 32 := Scalar.divsi v52 c4_i32_30
  let c2_i32_29 : BitVec 32 := 2#32
  let v54 : BitVec 32 := Scalar.remsi v53 c2_i32_29
  let c0_i32_31 : BitVec 32 := 0#32
  let v55 : BitVec 32 := Scalar.xori v54 c0_i32_31
  let c4_i32_99 : BitVec 32 := 4#32
  let v140 : BitVec 32 := Scalar.muli v55 c4_i32_99
  let v141 : BitVec 32 := Scalar.addi c0_i32_100 v140
  let v56 : BitVec 32 := Dev.word d39
  let c2_i32_33 : BitVec 32 := 2#32
  let v57 : BitVec 32 := Scalar.divsi v56 c2_i32_33
  let c2_i32_32 : BitVec 32 := 2#32
  let v58 : BitVec 32 := Scalar.remsi v57 c2_i32_32
  let c0_i32_34 : BitVec 32 := 0#32
  let v59 : BitVec 32 := Scalar.xori v58 c0_i32_34
  let c2_i32_101 : BitVec 32 := 2#32
  let v142 : BitVec 32 := Scalar.muli v59 c2_i32_101
  let v143 : BitVec 32 := Scalar.addi v141 v142
  let v60 : BitVec 32 := Dev.word d39
  let c1_i32_36 : BitVec 32 := 1#32
  let v61 : BitVec 32 := Scalar.divsi v60 c1_i32_36
  let c2_i32_35 : BitVec 32 := 2#32
  let v62 : BitVec 32 := Scalar.remsi v61 c2_i32_35
  let c1_i32_37 : BitVec 32 := 1#32
  let v63 : BitVec 32 := Scalar.xori v62 c1_i32_37
  let c1_i32_102 : BitVec 32 := 1#32
  let v144 : BitVec 32 := Scalar.muli v63 c1_i32_102
  let v145 : BitVec 32 := Scalar.addi v143 v144
  v145.toNat
def k0_dev2 (d39 : Dev nD) : Nat :=
  let c0_i32_110 : BitVec 32 := 0#32
  let v64 : BitVec 32 := Dev.word d39
  let c4_i32_39 : BitVec 32 := 4#32
  let v65 : BitVec 32 := Scalar.divsi v64 c4_i32_39
  let c2_i32_38 : BitVec 32 := 2#32
  let v66 : BitVec 32 := Scalar.remsi v65 c2_i32_38
  let c0_i32_40 : BitVec 32 := 0#32
  let v67 : BitVec 32 := Scalar.xori v66 c0_i32_40
  let c4_i32_109 : BitVec 32 := 4#32
  let v152 : BitVec 32 := Scalar.muli v67 c4_i32_109
  let v153 : BitVec 32 := Scalar.addi c0_i32_110 v152
  let v68 : BitVec 32 := Dev.word d39
  let c2_i32_42 : BitVec 32 := 2#32
  let v69 : BitVec 32 := Scalar.divsi v68 c2_i32_42
  let c2_i32_41 : BitVec 32 := 2#32
  let v70 : BitVec 32 := Scalar.remsi v69 c2_i32_41
  let c1_i32_43 : BitVec 32 := 1#32
  let v71 : BitVec 32 := Scalar.xori v70 c1_i32_43
  let c2_i32_111 : BitVec 32 := 2#32
  let v154 : BitVec 32 := Scalar.muli v71 c2_i32_111
  let v155 : BitVec 32 := Scalar.addi v153 v154
  let v72 : BitVec 32 := Dev.word d39
  let c1_i32_45 : BitVec 32 := 1#32
  let v73 : BitVec 32 := Scalar.divsi v72 c1_i32_45
  let c2_i32_44 : BitVec 32 := 2#32
  let v74 : BitVec 32 := Scalar.remsi v73 c2_i32_44
  let c0_i32_46 : BitVec 32 := 0#32
  let v75 : BitVec 32 := Scalar.xori v74 c0_i32_46
  let c1_i32_112 : BitVec 32 := 1#32
  let v156 : BitVec 32 := Scalar.muli v75 c1_i32_112
  let v157 : BitVec 32 := Scalar.addi v155 v156
  v157.toNat
def k0_dev3 (d39 : Dev nD) : Nat :=
  let c0_i32_120 : BitVec 32 := 0#32
  let v76 : BitVec 32 := Dev.word d39
  let c4_i32_48 : BitVec 32 := 4#32
  let v77 : BitVec 32 := Scalar.divsi v76 c4_i32_48
  let c2_i32_47 : BitVec 32 := 2#32
  let v78 : BitVec 32 := Scalar.remsi v77 c2_i32_47
  let c0_i32_49 : BitVec 32 := 0#32
  let v79 : BitVec 32 := Scalar.xori v78 c0_i32_49
  let c4_i32_119 : BitVec 32 := 4#32
  let v164 : BitVec 32 := Scalar.muli v79 c4_i32_119
  let v165 : BitVec 32 := Scalar.addi c0_i32_120 v164
  let v80 : BitVec 32 := Dev.word d39
  let c2_i32_51 : BitVec 32 := 2#32
  let v81 : BitVec 32 := Scalar.divsi v80 c2_i32_51
  let c2_i32_50 : BitVec 32 := 2#32
  let v82 : BitVec 32 := Scalar.remsi v81 c2_i32_50
  let c1_i32_52 : BitVec 32 := 1#32
  let v83 : BitVec 32 := Scalar.xori v82 c1_i32_52
  let c2_i32_121 : BitVec 32 := 2#32
  let v166 : BitVec 32 := Scalar.muli v83 c2_i32_121
  let v167 : BitVec 32 := Scalar.addi v165 v166
  let v84 : BitVec 32 := Dev.word d39
  let c1_i32_54 : BitVec 32 := 1#32
  let v85 : BitVec 32 := Scalar.divsi v84 c1_i32_54
  let c2_i32_53 : BitVec 32 := 2#32
  let v86 : BitVec 32 := Scalar.remsi v85 c2_i32_53
  let c1_i32_55 : BitVec 32 := 1#32
  let v87 : BitVec 32 := Scalar.xori v86 c1_i32_55
  let c1_i32_122 : BitVec 32 := 1#32
  let v168 : BitVec 32 := Scalar.muli v87 c1_i32_122
  let v169 : BitVec 32 := Scalar.addi v167 v168
  v169.toNat
def k0_dev4 (d39 : Dev nD) : Nat :=
  let c0_i32_129 : BitVec 32 := 0#32
  let v88 : BitVec 32 := Dev.word d39
  let c4_i32_57 : BitVec 32 := 4#32
  let v89 : BitVec 32 := Scalar.divsi v88 c4_i32_57
  let c2_i32_56 : BitVec 32 := 2#32
  let v90 : BitVec 32 := Scalar.remsi v89 c2_i32_56
  let c1_i32_58 : BitVec 32 := 1#32
  let v91 : BitVec 32 := Scalar.xori v90 c1_i32_58
  let c4_i32_128 : BitVec 32 := 4#32
  let v176 : BitVec 32 := Scalar.muli v91 c4_i32_128
  let v177 : BitVec 32 := Scalar.addi c0_i32_129 v176
  let v92 : BitVec 32 := Dev.word d39
  let c2_i32_60 : BitVec 32 := 2#32
  let v93 : BitVec 32 := Scalar.divsi v92 c2_i32_60
  let c2_i32_59 : BitVec 32 := 2#32
  let v94 : BitVec 32 := Scalar.remsi v93 c2_i32_59
  let c0_i32_61 : BitVec 32 := 0#32
  let v95 : BitVec 32 := Scalar.xori v94 c0_i32_61
  let c2_i32_130 : BitVec 32 := 2#32
  let v178 : BitVec 32 := Scalar.muli v95 c2_i32_130
  let v179 : BitVec 32 := Scalar.addi v177 v178
  let v96 : BitVec 32 := Dev.word d39
  let c1_i32_63 : BitVec 32 := 1#32
  let v97 : BitVec 32 := Scalar.divsi v96 c1_i32_63
  let c2_i32_62 : BitVec 32 := 2#32
  let v98 : BitVec 32 := Scalar.remsi v97 c2_i32_62
  let c0_i32_64 : BitVec 32 := 0#32
  let v99 : BitVec 32 := Scalar.xori v98 c0_i32_64
  let c1_i32_131 : BitVec 32 := 1#32
  let v180 : BitVec 32 := Scalar.muli v99 c1_i32_131
  let v181 : BitVec 32 := Scalar.addi v179 v180
  v181.toNat
def k0_dev5 (d39 : Dev nD) : Nat :=
  let c0_i32_139 : BitVec 32 := 0#32
  let v100 : BitVec 32 := Dev.word d39
  let c4_i32_66 : BitVec 32 := 4#32
  let v101 : BitVec 32 := Scalar.divsi v100 c4_i32_66
  let c2_i32_65 : BitVec 32 := 2#32
  let v102 : BitVec 32 := Scalar.remsi v101 c2_i32_65
  let c1_i32_67 : BitVec 32 := 1#32
  let v103 : BitVec 32 := Scalar.xori v102 c1_i32_67
  let c4_i32_138 : BitVec 32 := 4#32
  let v188 : BitVec 32 := Scalar.muli v103 c4_i32_138
  let v189 : BitVec 32 := Scalar.addi c0_i32_139 v188
  let v104 : BitVec 32 := Dev.word d39
  let c2_i32_69 : BitVec 32 := 2#32
  let v105 : BitVec 32 := Scalar.divsi v104 c2_i32_69
  let c2_i32_68 : BitVec 32 := 2#32
  let v106 : BitVec 32 := Scalar.remsi v105 c2_i32_68
  let c0_i32_70 : BitVec 32 := 0#32
  let v107 : BitVec 32 := Scalar.xori v106 c0_i32_70
  let c2_i32_140 : BitVec 32 := 2#32
  let v190 : BitVec 32 := Scalar.muli v107 c2_i32_140
  let v191 : BitVec 32 := Scalar.addi v189 v190
  let v108 : BitVec 32 := Dev.word d39
  let c1_i32_72 : BitVec 32 := 1#32
  let v109 : BitVec 32 := Scalar.divsi v108 c1_i32_72
  let c2_i32_71 : BitVec 32 := 2#32
  let v110 : BitVec 32 := Scalar.remsi v109 c2_i32_71
  let c1_i32_73 : BitVec 32 := 1#32
  let v111 : BitVec 32 := Scalar.xori v110 c1_i32_73
  let c1_i32_141 : BitVec 32 := 1#32
  let v192 : BitVec 32 := Scalar.muli v111 c1_i32_141
  let v193 : BitVec 32 := Scalar.addi v191 v192
  v193.toNat
def k0_dev6 (d39 : Dev nD) : Nat :=
  let c0_i32_148 : BitVec 32 := 0#32
  let v112 : BitVec 32 := Dev.word d39
  let c4_i32_75 : BitVec 32 := 4#32
  let v113 : BitVec 32 := Scalar.divsi v112 c4_i32_75
  let c2_i32_74 : BitVec 32 := 2#32
  let v114 : BitVec 32 := Scalar.remsi v113 c2_i32_74
  let c1_i32_76 : BitVec 32 := 1#32
  let v115 : BitVec 32 := Scalar.xori v114 c1_i32_76
  let c4_i32_147 : BitVec 32 := 4#32
  let v200 : BitVec 32 := Scalar.muli v115 c4_i32_147
  let v201 : BitVec 32 := Scalar.addi c0_i32_148 v200
  let v116 : BitVec 32 := Dev.word d39
  let c2_i32_78 : BitVec 32 := 2#32
  let v117 : BitVec 32 := Scalar.divsi v116 c2_i32_78
  let c2_i32_77 : BitVec 32 := 2#32
  let v118 : BitVec 32 := Scalar.remsi v117 c2_i32_77
  let c1_i32_79 : BitVec 32 := 1#32
  let v119 : BitVec 32 := Scalar.xori v118 c1_i32_79
  let c2_i32_149 : BitVec 32 := 2#32
  let v202 : BitVec 32 := Scalar.muli v119 c2_i32_149
  let v203 : BitVec 32 := Scalar.addi v201 v202
  let v120 : BitVec 32 := Dev.word d39
  let c1_i32_81 : BitVec 32 := 1#32
  let v121 : BitVec 32 := Scalar.divsi v120 c1_i32_81
  let c2_i32_80 : BitVec 32 := 2#32
  let v122 : BitVec 32 := Scalar.remsi v121 c2_i32_80
  let c0_i32_82 : BitVec 32 := 0#32
  let v123 : BitVec 32 := Scalar.xori v122 c0_i32_82
  let c1_i32_150 : BitVec 32 := 1#32
  let v204 : BitVec 32 := Scalar.muli v123 c1_i32_150
  let v205 : BitVec 32 := Scalar.addi v203 v204
  v205.toNat
def k0_dev7 (d39 : Dev nD) : Nat :=
  let c0_i32_157 : BitVec 32 := 0#32
  let v124 : BitVec 32 := Dev.word d39
  let c4_i32_84 : BitVec 32 := 4#32
  let v125 : BitVec 32 := Scalar.divsi v124 c4_i32_84
  let c2_i32_83 : BitVec 32 := 2#32
  let v126 : BitVec 32 := Scalar.remsi v125 c2_i32_83
  let c1_i32_85 : BitVec 32 := 1#32
  let v127 : BitVec 32 := Scalar.xori v126 c1_i32_85
  let c4_i32_156 : BitVec 32 := 4#32
  let v212 : BitVec 32 := Scalar.muli v127 c4_i32_156
  let v213 : BitVec 32 := Scalar.addi c0_i32_157 v212
  let v128 : BitVec 32 := Dev.word d39
  let c2_i32_87 : BitVec 32 := 2#32
  let v129 : BitVec 32 := Scalar.divsi v128 c2_i32_87
  let c2_i32_86 : BitVec 32 := 2#32
  let v130 : BitVec 32 := Scalar.remsi v129 c2_i32_86
  let c1_i32_88 : BitVec 32 := 1#32
  let v131 : BitVec 32 := Scalar.xori v130 c1_i32_88
  let c2_i32_158 : BitVec 32 := 2#32
  let v214 : BitVec 32 := Scalar.muli v131 c2_i32_158
  let v215 : BitVec 32 := Scalar.addi v213 v214
  let v132 : BitVec 32 := Dev.word d39
  let c1_i32_90 : BitVec 32 := 1#32
  let v133 : BitVec 32 := Scalar.divsi v132 c1_i32_90
  let c2_i32_89 : BitVec 32 := 2#32
  let v134 : BitVec 32 := Scalar.remsi v133 c2_i32_89
  let c1_i32_91 : BitVec 32 := 1#32
  let v135 : BitVec 32 := Scalar.xori v134 c1_i32_91
  let c1_i32_159 : BitVec 32 := 1#32
  let v216 : BitVec 32 := Scalar.muli v135 c1_i32_159
  let v217 : BitVec 32 := Scalar.addi v215 v216
  v217.toNat
def k0_cond2 (i : grid0.Coords) : BitVec 1 :=
  let arg0 : BitVec 32 := BitVec.ofNat 32 (i 0).val
  let c7_i32 : BitVec 32 := 7#32
  let v3 : BitVec 1 := Scalar.cmpi .eq arg0 c7_i32
  let arg1 : BitVec 32 := BitVec.ofNat 32 (i 1).val
  let c7_i32_1 : BitVec 32 := 7#32
  let v4 : BitVec 1 := Scalar.cmpi .eq arg1 c7_i32_1
  let v5 : BitVec 1 := Scalar.andi v3 v4
  let v37 : BitVec 32 := Scalar.extui v5
  let c0_i32_23 : BitVec 32 := 0#32
  let v38 : BitVec 1 := Scalar.cmpi .ne v37 c0_i32_23
  v38

def k0_off2 (d39 : Dev nD) (c0_i32_24 : BitVec 32) (c0_i32_27 : BitVec 32) (c1_i32_29 : BitVec 32) : Fin 3 → Nat :=
  let c4_i32_30 : BitVec 32 := 4#32
  let v39 : BitVec 32 := Dev.word d39
  let c4_i32 : BitVec 32 := 4#32
  let v40 : BitVec 32 := Scalar.divsi v39 c4_i32
  let c2_i32 : BitVec 32 := 2#32
  let v41 : BitVec 32 := Scalar.remsi v40 c2_i32
  let v42 : BitVec 32 := Scalar.xori v41 c0_i32_24
  let v51 : BitVec 32 := Scalar.muli c4_i32_30 v42
  let c2_i32_31 : BitVec 32 := 2#32
  let v43 : BitVec 32 := Dev.word d39
  let c2_i32_26 : BitVec 32 := 2#32
  let v44 : BitVec 32 := Scalar.divsi v43 c2_i32_26
  let c2_i32_25 : BitVec 32 := 2#32
  let v45 : BitVec 32 := Scalar.remsi v44 c2_i32_25
  let v46 : BitVec 32 := Scalar.xori v45 c0_i32_27
  let v52 : BitVec 32 := Scalar.muli c2_i32_31 v46
  let v53 : BitVec 32 := Scalar.addi v51 v52
  let v47 : BitVec 32 := Dev.word d39
  let c1_i32 : BitVec 32 := 1#32
  let v48 : BitVec 32 := Scalar.divsi v47 c1_i32
  let c2_i32_28 : BitVec 32 := 2#32
  let v49 : BitVec 32 := Scalar.remsi v48 c2_i32_28
  let v50 : BitVec 32 := Scalar.xori v49 c1_i32_29
  let v54 : BitVec 32 := Scalar.addi v53 v50
  let c0_i32_106 : BitVec 32 := 0#32
  let c0_i32_107 : BitVec 32 := 0#32
  ![v54.toNat, 0, 0]
def k0_off2_at (r : Fin 7) : BitVec 32 × BitVec 32 × BitVec 32 :=
  if r.val < 3 then
    if r.val < 1 then
      (0#32, 0#32, 1#32)
    else
      if r.val < 2 then
        (0#32, 1#32, 0#32)
      else
        (0#32, 1#32, 1#32)
  else
    if r.val < 5 then
      if r.val < 4 then
        (1#32, 0#32, 0#32)
      else
        (1#32, 0#32, 1#32)
    else
      if r.val < 6 then
        (1#32, 1#32, 0#32)
      else
        (1#32, 1#32, 1#32)
def k0_off3 (d39 : Dev nD) : Fin 3 → Nat :=
  let c4_i32_181 : BitVec 32 := 4#32
  let v235 : BitVec 32 := Dev.word d39
  let c4_i32_180 : BitVec 32 := 4#32
  let v236 : BitVec 32 := Scalar.divsi v235 c4_i32_180
  let c2_i32_179 : BitVec 32 := 2#32
  let v237 : BitVec 32 := Scalar.remsi v236 c2_i32_179
  let v238 : BitVec 32 := Scalar.muli c4_i32_181 v237
  let c2_i32_184 : BitVec 32 := 2#32
  let v239 : BitVec 32 := Dev.word d39
  let c2_i32_183 : BitVec 32 := 2#32
  let v240 : BitVec 32 := Scalar.divsi v239 c2_i32_183
  let c2_i32_182 : BitVec 32 := 2#32
  let v241 : BitVec 32 := Scalar.remsi v240 c2_i32_182
  let v242 : BitVec 32 := Scalar.muli c2_i32_184 v241
  let v243 : BitVec 32 := Scalar.addi v238 v242
  let v244 : BitVec 32 := Dev.word d39
  let c1_i32_186 : BitVec 32 := 1#32
  let v245 : BitVec 32 := Scalar.divsi v244 c1_i32_186
  let c2_i32_185 : BitVec 32 := 2#32
  let v246 : BitVec 32 := Scalar.remsi v245 c2_i32_185
  let v247 : BitVec 32 := Scalar.addi v243 v246
  let c0_i32_255 : BitVec 32 := 0#32
  let c0_i32_256 : BitVec 32 := 0#32
  ![v247.toNat, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1024x704 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== FfnUpReferenceIdeal.lean ====
abbrev S65536x2048 : Shape := ⟨2, ![65536, 2048]⟩
abbrev S8x2048x704 : Shape := ⟨3, ![8, 2048, 704]⟩
abbrev S5632x2048 : Shape := ⟨2, ![5632, 2048]⟩
abbrev S8x704x65536 : Shape := ⟨3, ![8, 704, 65536]⟩
abbrev S8x65536x704 : Shape := ⟨3, ![8, 65536, 704]⟩
abbrev S_ : Shape := ⟨0, ![]⟩
abbrev S8x704x2048 : Shape := ⟨3, ![8, 704, 2048]⟩

abbrev nBuf : Space → Nat
  | .hbm => 22
  | .vmem => 0
  | .smem => 0
  | _ => 0

abbrev bufTy : (tb : Table) → Fin (tcTables nBuf tb) → BufTy
  | .hbm, ⟨0, _⟩ => ⟨S65536x2048, .bf16⟩
  | .hbm, ⟨1, _⟩ => ⟨S8x2048x704, .bf16⟩
  | .hbm, ⟨2, _⟩ => ⟨S8x2048x704, .bf16⟩
  | .hbm, ⟨3, _⟩ => ⟨S5632x2048, .bf16⟩
  | .hbm, ⟨4, _⟩ => ⟨S8x704x65536, .f32⟩
  | .hbm, ⟨5, _⟩ => ⟨S8x65536x704, .f32⟩
  | .hbm, ⟨6, _⟩ => ⟨S8x704x65536, .f32⟩
  | .hbm, ⟨7, _⟩ => ⟨S8x65536x704, .f32⟩
  | .hbm, ⟨8, _⟩ => ⟨S8x65536x704, .bf16⟩
  | .hbm, ⟨9, _⟩ => ⟨S8x65536x704, .bf16⟩
  | .hbm, ⟨10, _⟩ => ⟨S8x65536x704, .f32⟩
  | .hbm, ⟨11, _⟩ => ⟨S8x65536x704, .f32⟩
  | .hbm, ⟨12, _⟩ => ⟨S_, .f32⟩
  | .hbm, ⟨13, _⟩ => ⟨S8x65536x704, .f32⟩
  | .hbm, ⟨14, _⟩ => ⟨S8x65536x704, .f32⟩
  | .hbm, ⟨15, _⟩ => ⟨S_, .f32⟩
  | .hbm, ⟨16, _⟩ => ⟨S8x65536x704, .f32⟩
  | .hbm, ⟨17, _⟩ => ⟨S8x65536x704, .f32⟩
  | .hbm, ⟨18, _⟩ => ⟨S8x65536x704, .f32⟩
  | .hbm, ⟨19, _⟩ => ⟨S8x65536x704, .f32⟩
  | .hbm, ⟨20, _⟩ => ⟨S8x65536x704, .bf16⟩
  | .hbm, ⟨21, _⟩ => ⟨S8x704x2048, .bf16⟩
  | _, _ => ⟨S65536x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== BwdIn.lean ====
abbrev S8x8192x704 : Shape := ⟨3, ![8, 8192, 704]⟩
abbrev S8x2048x704 : Shape := ⟨3, ![8, 2048, 704]⟩
abbrev S8192x2048 : Shape := ⟨2, ![8192, 2048]⟩
abbrev S1x1024x704 : Shape := ⟨3, ![1, 1024, 704]⟩
abbrev S1x2048x704 : Shape := ⟨3, ![1, 2048, 704]⟩
abbrev S1024x2048 : Shape := ⟨2, ![1024, 2048]⟩
abbrev S1x7 : Shape := ⟨2, ![1, 7]⟩
abbrev S1 : Shape := ⟨1, ![1]⟩
abbrev S_ : Shape := ⟨0, ![]⟩
abbrev S2048x704 : Shape := ⟨2, ![2048, 704]⟩
abbrev S1x1 : Shape := ⟨2, ![1, 1]⟩
abbrev S1024x704 : Shape := ⟨2, ![1024, 704]⟩

abbrev nBuf : Space → Nat
  | .hbm => 7
  | .vmem => 10
  | .smem => 0
  | _ => 0

abbrev bufTy : (tb : Table) → Fin (tcTables nBuf tb) → BufTy
  | .hbm, ⟨0, _⟩ => ⟨S8x8192x704, .bf16⟩
  | .hbm, ⟨1, _⟩ => ⟨S8x8192x704, .bf16⟩
  | .hbm, ⟨2, _⟩ => ⟨S8x2048x704, .bf16⟩
  | .hbm, ⟨3, _⟩ => ⟨S8x2048x704, .bf16⟩
  | .hbm, ⟨4, _⟩ => ⟨S8x2048x704, .bf16⟩
  | .hbm, ⟨5, _⟩ => ⟨S8192x2048, .f32⟩
  | .hbm, ⟨6, _⟩ => ⟨S8x2048x704, .bf16⟩
  | .local _ .vmem, ⟨0, _⟩ => ⟨S1x1024x704, .bf16⟩
  | .local _ .vmem, ⟨1, _⟩ => ⟨S1x1024x704, .bf16⟩
  | .local _ .vmem, ⟨2, _⟩ => ⟨S1x1024x704, .bf16⟩
  | .local _ .vmem, ⟨3, _⟩ => ⟨S1x1024x704, .bf16⟩
  | .local _ .vmem, ⟨4, _⟩ => ⟨S1x2048x704, .bf16⟩
  | .local _ .vmem, ⟨5, _⟩ => ⟨S1x2048x704, .bf16⟩
  | .local _ .vmem, ⟨6, _⟩ => ⟨S1x2048x704, .bf16⟩
  | .local _ .vmem, ⟨7, _⟩ => ⟨S1x2048x704, .bf16⟩
  | .local _ .vmem, ⟨8, _⟩ => ⟨S1024x2048, .f32⟩
  | .local _ .vmem, ⟨9, _⟩ => ⟨S1024x2048, .f32⟩
  | _, _ => ⟨S8x8192x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 8
abbrev τ : Topo := Topo.v7x

variable {F : FTy → Type} [FloatOps F]

abbrev grid0 : Pipeline.Grid := ⟨2, ![8, 8], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v6 : BitVec 32 := Scalar.extui v2
  let c0_i32_2 : BitVec 32 := 0#32
  let v7 : BitVec 1 := Scalar.cmpi .ne v6 c0_i32_2
  v7

def k0_off1 (d27 : Dev nD) : Fin 3 → Nat :=
  let c4_i32_20 : BitVec 32 := 4#32
  let v27 : BitVec 32 := Dev.word d27
  let c4_i32 : BitVec 32 := 4#32
  let v28 : BitVec 32 := Scalar.divsi v27 c4_i32
  let c2_i32 : BitVec 32 := 2#32
  let v29 : BitVec 32 := Scalar.remsi v28 c2_i32
  let v30 : BitVec 32 := Scalar.muli c4_i32_20 v29
  let c2_i32_23 : BitVec 32 := 2#32
  let v31 : BitVec 32 := Dev.word d27
  let c2_i32_22 : BitVec 32 := 2#32
  let v32 : BitVec 32 := Scalar.divsi v31 c2_i32_22
  let c2_i32_21 : BitVec 32 := 2#32
  let v33 : BitVec 32 := Scalar.remsi v32 c2_i32_21
  let v34 : BitVec 32 := Scalar.muli c2_i32_23 v33
  let v35 : BitVec 32 := Scalar.addi v30 v34
  let v36 : BitVec 32 := Dev.word d27
  let c1_i32 : BitVec 32 := 1#32
  let v37 : BitVec 32 := Scalar.divsi v36 c1_i32
  let c2_i32_24 : BitVec 32 := 2#32
  let v38 : BitVec 32 := Scalar.remsi v37 c2_i32_24
  let v39 : BitVec 32 := Scalar.addi v35 v38
  let c0_i32_103 : BitVec 32 := 0#32
  let c0_i32_104 : BitVec 32 := 0#32
  ![v39.toNat, 0, 0]
def k0_off2 (d27 : Dev nD) (c0_i32_27 : BitVec 32) (c0_i32_30 : BitVec 32) (c1_i32_33 : BitVec 32) : Fin 3 → Nat :=
  let c4_i32_34 : BitVec 32 := 4#32
  let v40 : BitVec 32 := Dev.word d27
  let c4_i32_26 : BitVec 32 := 4#32
  let v41 : BitVec 32 := Scalar.divsi v40 c4_i32_26
  let c2_i32_25 : BitVec 32 := 2#32
  let v42 : BitVec 32 := Scalar.remsi v41 c2_i32_25
  let v43 : BitVec 32 := Scalar.xori v42 c0_i32_27
  let v52 : BitVec 32 := Scalar.muli c4_i32_34 v43
  let c2_i32_35 : BitVec 32 := 2#32
  let v44 : BitVec 32 := Dev.word d27
  let c2_i32_29 : BitVec 32 := 2#32
  let v45 : BitVec 32 := Scalar.divsi v44 c2_i32_29
  let c2_i32_28 : BitVec 32 := 2#32
  let v46 : BitVec 32 := Scalar.remsi v45 c2_i32_28
  let v47 : BitVec 32 := Scalar.xori v46 c0_i32_30
  let v53 : BitVec 32 := Scalar.muli c2_i32_35 v47
  let v54 : BitVec 32 := Scalar.addi v52 v53
  let v48 : BitVec 32 := Dev.word d27
  let c1_i32_32 : BitVec 32 := 1#32
  let v49 : BitVec 32 := Scalar.divsi v48 c1_i32_32
  let c2_i32_31 : BitVec 32 := 2#32
  let v50 : BitVec 32 := Scalar.remsi v49 c2_i32_31
  let v51 : BitVec 32 := Scalar.xori v50 c1_i32_33
  let v55 : BitVec 32 := Scalar.addi v54 v51
  let c0_i32_117 : BitVec 32 := 0#32
  let c0_i32_118 : BitVec 32 := 0#32
  ![v55.toNat, 0, 0]
def k0_off2_at (r : Fin 7) : BitVec 32 × BitVec 32 × BitVec 32 :=
  if r.val < 3 then
    if r.val < 1 then
      (0#32, 0#32, 1#32)
    else
      if r.val < 2 then
        (0#32, 1#32, 0#32)
      else
        (0#32, 1#32, 1#32)
  else
    if r.val < 5 then
      if r.val < 4 then
        (1#32, 0#32, 0#32)
      else
        (1#32, 0#32, 1#32)
    else
      if r.val < 6 then
        (1#32, 1#32, 0#32)
      else
        (1#32, 1#32, 1#32)
def k0_dev1 (d27 : Dev nD) : Nat :=
  let c0_i32_112 : BitVec 32 := 0#32
  let v40 : BitVec 32 := Dev.word d27
  let c4_i32_26 : BitVec 32 := 4#32
  let v41 : BitVec 32 := Scalar.divsi v40 c4_i32_26
  let c2_i32_25 : BitVec 32 := 2#32
  let v42 : BitVec 32 := Scalar.remsi v41 c2_i32_25
  let c0_i32_27 : BitVec 32 := 0#32
  let v43 : BitVec 32 := Scalar.xori v42 c0_i32_27
  let c4_i32_111 : BitVec 32 := 4#32
  let v158 : BitVec 32 := Scalar.muli v43 c4_i32_111
  let v159 : BitVec 32 := Scalar.addi c0_i32_112 v158
  let v44 : BitVec 32 := Dev.word d27
  let c2_i32_29 : BitVec 32 := 2#32
  let v45 : BitVec 32 := Scalar.divsi v44 c2_i32_29
  let c2_i32_28 : BitVec 32 := 2#32
  let v46 : BitVec 32 := Scalar.remsi v45 c2_i32_28
  let c0_i32_30 : BitVec 32 := 0#32
  let v47 : BitVec 32 := Scalar.xori v46 c0_i32_30
  let c2_i32_113 : BitVec 32 := 2#32
  let v160 : BitVec 32 := Scalar.muli v47 c2_i32_113
  let v161 : BitVec 32 := Scalar.addi v159 v160
  let v48 : BitVec 32 := Dev.word d27
  let c1_i32_32 : BitVec 32 := 1#32
  let v49 : BitVec 32 := Scalar.divsi v48 c1_i32_32
  let c2_i32_31 : BitVec 32 := 2#32
  let v50 : BitVec 32 := Scalar.remsi v49 c2_i32_31
  let c1_i32_33 : BitVec 32 := 1#32
  let v51 : BitVec 32 := Scalar.xori v50 c1_i32_33
  let c1_i32_114 : BitVec 32 := 1#32
  let v162 : BitVec 32 := Scalar.muli v51 c1_i32_114
  let v163 : BitVec 32 := Scalar.addi v161 v162
  v163.toNat
def k0_dev2 (d27 : Dev nD) : Nat :=
  let c0_i32_124 : BitVec 32 := 0#32
  let v56 : BitVec 32 := Dev.word d27
  let c4_i32_37 : BitVec 32 := 4#32
  let v57 : BitVec 32 := Scalar.divsi v56 c4_i32_37
  let c2_i32_36 : BitVec 32 := 2#32
  let v58 : BitVec 32 := Scalar.remsi v57 c2_i32_36
  let c0_i32_38 : BitVec 32 := 0#32
  let v59 : BitVec 32 := Scalar.xori v58 c0_i32_38
  let c4_i32_123 : BitVec 32 := 4#32
  let v172 : BitVec 32 := Scalar.muli v59 c4_i32_123
  let v173 : BitVec 32 := Scalar.addi c0_i32_124 v172
  let v60 : BitVec 32 := Dev.word d27
  let c2_i32_40 : BitVec 32 := 2#32
  let v61 : BitVec 32 := Scalar.divsi v60 c2_i32_40
  let c2_i32_39 : BitVec 32 := 2#32
  let v62 : BitVec 32 := Scalar.remsi v61 c2_i32_39
  let c1_i32_41 : BitVec 32 := 1#32
  let v63 : BitVec 32 := Scalar.xori v62 c1_i32_41
  let c2_i32_125 : BitVec 32 := 2#32
  let v174 : BitVec 32 := Scalar.muli v63 c2_i32_125
  let v175 : BitVec 32 := Scalar.addi v173 v174
  let v64 : BitVec 32 := Dev.word d27
  let c1_i32_43 : BitVec 32 := 1#32
  let v65 : BitVec 32 := Scalar.divsi v64 c1_i32_43
  let c2_i32_42 : BitVec 32 := 2#32
  let v66 : BitVec 32 := Scalar.remsi v65 c2_i32_42
  let c0_i32_44 : BitVec 32 := 0#32
  let v67 : BitVec 32 := Scalar.xori v66 c0_i32_44
  let c1_i32_126 : BitVec 32 := 1#32
  let v176 : BitVec 32 := Scalar.muli v67 c1_i32_126
  let v177 : BitVec 32 := Scalar.addi v175 v176
  v177.toNat
def k0_dev3 (d27 : Dev nD) : Nat :=
  let c0_i32_136 : BitVec 32 := 0#32
  let v72 : BitVec 32 := Dev.word d27
  let c4_i32_48 : BitVec 32 := 4#32
  let v73 : BitVec 32 := Scalar.divsi v72 c4_i32_48
  let c2_i32_47 : BitVec 32 := 2#32
  let v74 : BitVec 32 := Scalar.remsi v73 c2_i32_47
  let c0_i32_49 : BitVec 32 := 0#32
  let v75 : BitVec 32 := Scalar.xori v74 c0_i32_49
  let c4_i32_135 : BitVec 32 := 4#32
  let v186 : BitVec 32 := Scalar.muli v75 c4_i32_135
  let v187 : BitVec 32 := Scalar.addi c0_i32_136 v186
  let v76 : BitVec 32 := Dev.word d27
  let c2_i32_51 : BitVec 32 := 2#32
  let v77 : BitVec 32 := Scalar.divsi v76 c2_i32_51
  let c2_i32_50 : BitVec 32 := 2#32
  let v78 : BitVec 32 := Scalar.remsi v77 c2_i32_50
  let c1_i32_52 : BitVec 32 := 1#32
  let v79 : BitVec 32 := Scalar.xori v78 c1_i32_52
  let c2_i32_137 : BitVec 32 := 2#32
  let v188 : BitVec 32 := Scalar.muli v79 c2_i32_137
  let v189 : BitVec 32 := Scalar.addi v187 v188
  let v80 : BitVec 32 := Dev.word d27
  let c1_i32_54 : BitVec 32 := 1#32
  let v81 : BitVec 32 := Scalar.divsi v80 c1_i32_54
  let c2_i32_53 : BitVec 32 := 2#32
  let v82 : BitVec 32 := Scalar.remsi v81 c2_i32_53
  let c1_i32_55 : BitVec 32 := 1#32
  let v83 : BitVec 32 := Scalar.xori v82 c1_i32_55
  let c1_i32_138 : BitVec 32 := 1#32
  let v190 : BitVec 32 := Scalar.muli v83 c1_i32_138
  let v191 : BitVec 32 := Scalar.addi v189 v190
  v191.toNat
def k0_dev4 (d27 : Dev nD) : Nat :=
  let c0_i32_147 : BitVec 32 := 0#32
  let v88 : BitVec 32 := Dev.word d27
  let c4_i32_59 : BitVec 32 := 4#32
  let v89 : BitVec 32 := Scalar.divsi v88 c4_i32_59
  let c2_i32_58 : BitVec 32 := 2#32
  let v90 : BitVec 32 := Scalar.remsi v89 c2_i32_58
  let c1_i32_60 : BitVec 32 := 1#32
  let v91 : BitVec 32 := Scalar.xori v90 c1_i32_60
  let c4_i32_146 : BitVec 32 := 4#32
  let v200 : BitVec 32 := Scalar.muli v91 c4_i32_146
  let v201 : BitVec 32 := Scalar.addi c0_i32_147 v200
  let v92 : BitVec 32 := Dev.word d27
  let c2_i32_62 : BitVec 32 := 2#32
  let v93 : BitVec 32 := Scalar.divsi v92 c2_i32_62
  let c2_i32_61 : BitVec 32 := 2#32
  let v94 : BitVec 32 := Scalar.remsi v93 c2_i32_61
  let c0_i32_63 : BitVec 32 := 0#32
  let v95 : BitVec 32 := Scalar.xori v94 c0_i32_63
  let c2_i32_148 : BitVec 32 := 2#32
  let v202 : BitVec 32 := Scalar.muli v95 c2_i32_148
  let v203 : BitVec 32 := Scalar.addi v201 v202
  let v96 : BitVec 32 := Dev.word d27
  let c1_i32_65 : BitVec 32 := 1#32
  let v97 : BitVec 32 := Scalar.divsi v96 c1_i32_65
  let c2_i32_64 : BitVec 32 := 2#32
  let v98 : BitVec 32 := Scalar.remsi v97 c2_i32_64
  let c0_i32_66 : BitVec 32 := 0#32
  let v99 : BitVec 32 := Scalar.xori v98 c0_i32_66
  let c1_i32_149 : BitVec 32 := 1#32
  let v204 : BitVec 32 := Scalar.muli v99 c1_i32_149
  let v205 : BitVec 32 := Scalar.addi v203 v204
  v205.toNat
def k0_dev5 (d27 : Dev nD) : Nat :=
  let c0_i32_159 : BitVec 32 := 0#32
  let v104 : BitVec 32 := Dev.word d27
  let c4_i32_70 : BitVec 32 := 4#32
  let v105 : BitVec 32 := Scalar.divsi v104 c4_i32_70
  let c2_i32_69 : BitVec 32 := 2#32
  let v106 : BitVec 32 := Scalar.remsi v105 c2_i32_69
  let c1_i32_71 : BitVec 32 := 1#32
  let v107 : BitVec 32 := Scalar.xori v106 c1_i32_71
  let c4_i32_158 : BitVec 32 := 4#32
  let v214 : BitVec 32 := Scalar.muli v107 c4_i32_158
  let v215 : BitVec 32 := Scalar.addi c0_i32_159 v214
  let v108 : BitVec 32 := Dev.word d27
  let c2_i32_73 : BitVec 32 := 2#32
  let v109 : BitVec 32 := Scalar.divsi v108 c2_i32_73
  let c2_i32_72 : BitVec 32 := 2#32
  let v110 : BitVec 32 := Scalar.remsi v109 c2_i32_72
  let c0_i32_74 : BitVec 32 := 0#32
  let v111 : BitVec 32 := Scalar.xori v110 c0_i32_74
  let c2_i32_160 : BitVec 32 := 2#32
  let v216 : BitVec 32 := Scalar.muli v111 c2_i32_160
  let v217 : BitVec 32 := Scalar.addi v215 v216
  let v112 : BitVec 32 := Dev.word d27
  let c1_i32_76 : BitVec 32 := 1#32
  let v113 : BitVec 32 := Scalar.divsi v112 c1_i32_76
  let c2_i32_75 : BitVec 32 := 2#32
  let v114 : BitVec 32 := Scalar.remsi v113 c2_i32_75
  let c1_i32_77 : BitVec 32 := 1#32
  let v115 : BitVec 32 := Scalar.xori v114 c1_i32_77
  let c1_i32_161 : BitVec 32 := 1#32
  let v218 : BitVec 32 := Scalar.muli v115 c1_i32_161
  let v219 : BitVec 32 := Scalar.addi v217 v218
  v219.toNat
def k0_dev6 (d27 : Dev nD) : Nat :=
  let c0_i32_170 : BitVec 32 := 0#32
  let v120 : BitVec 32 := Dev.word d27
  let c4_i32_81 : BitVec 32 := 4#32
  let v121 : BitVec 32 := Scalar.divsi v120 c4_i32_81
  let c2_i32_80 : BitVec 32 := 2#32
  let v122 : BitVec 32 := Scalar.remsi v121 c2_i32_80
  let c1_i32_82 : BitVec 32 := 1#32
  let v123 : BitVec 32 := Scalar.xori v122 c1_i32_82
  let c4_i32_169 : BitVec 32 := 4#32
  let v228 : BitVec 32 := Scalar.muli v123 c4_i32_169
  let v229 : BitVec 32 := Scalar.addi c0_i32_170 v228
  let v124 : BitVec 32 := Dev.word d27
  let c2_i32_84 : BitVec 32 := 2#32
  let v125 : BitVec 32 := Scalar.divsi v124 c2_i32_84
  let c2_i32_83 : BitVec 32 := 2#32
  let v126 : BitVec 32 := Scalar.remsi v125 c2_i32_83
  let c1_i32_85 : BitVec 32 := 1#32
  let v127 : BitVec 32 := Scalar.xori v126 c1_i32_85
  let c2_i32_171 : BitVec 32 := 2#32
  let v230 : BitVec 32 := Scalar.muli v127 c2_i32_171
  let v231 : BitVec 32 := Scalar.addi v229 v230
  let v128 : BitVec 32 := Dev.word d27
  let c1_i32_87 : BitVec 32 := 1#32
  let v129 : BitVec 32 := Scalar.divsi v128 c1_i32_87
  let c2_i32_86 : BitVec 32 := 2#32
  let v130 : BitVec 32 := Scalar.remsi v129 c2_i32_86
  let c0_i32_88 : BitVec 32 := 0#32
  let v131 : BitVec 32 := Scalar.xori v130 c0_i32_88
  let c1_i32_172 : BitVec 32 := 1#32
  let v232 : BitVec 32 := Scalar.muli v131 c1_i32_172
  let v233 : BitVec 32 := Scalar.addi v231 v232
  v233.toNat
def k0_dev7 (d27 : Dev nD) : Nat :=
  let c0_i32_181 : BitVec 32 := 0#32
  let v136 : BitVec 32 := Dev.word d27
  let c4_i32_92 : BitVec 32 := 4#32
  let v137 : BitVec 32 := Scalar.divsi v136 c4_i32_92
  let c2_i32_91 : BitVec 32 := 2#32
  let v138 : BitVec 32 := Scalar.remsi v137 c2_i32_91
  let c1_i32_93 : BitVec 32 := 1#32
  let v139 : BitVec 32 := Scalar.xori v138 c1_i32_93
  let c4_i32_180 : BitVec 32 := 4#32
  let v242 : BitVec 32 := Scalar.muli v139 c4_i32_180
  let v243 : BitVec 32 := Scalar.addi c0_i32_181 v242
  let v140 : BitVec 32 := Dev.word d27
  let c2_i32_95 : BitVec 32 := 2#32
  let v141 : BitVec 32 := Scalar.divsi v140 c2_i32_95
  let c2_i32_94 : BitVec 32 := 2#32
  let v142 : BitVec 32 := Scalar.remsi v141 c2_i32_94
  let c1_i32_96 : BitVec 32 := 1#32
  let v143 : BitVec 32 := Scalar.xori v142 c1_i32_96
  let c2_i32_182 : BitVec 32 := 2#32
  let v244 : BitVec 32 := Scalar.muli v143 c2_i32_182
  let v245 : BitVec 32 := Scalar.addi v243 v244
  let v144 : BitVec 32 := Dev.word d27
  let c1_i32_98 : BitVec 32 := 1#32
  let v145 : BitVec 32 := Scalar.divsi v144 c1_i32_98
  let c2_i32_97 : BitVec 32 := 2#32
  let v146 : BitVec 32 := Scalar.remsi v145 c2_i32_97
  let c1_i32_99 : BitVec 32 := 1#32
  let v147 : BitVec 32 := Scalar.xori v146 c1_i32_99
  let c1_i32_183 : BitVec 32 := 1#32
  let v246 : BitVec 32 := Scalar.muli v147 c1_i32_183
  let v247 : BitVec 32 := Scalar.addi v245 v246
  v247.toNat
def k0_cond4 (i : grid0.Coords) : BitVec 1 :=
  let arg0 : BitVec 32 := BitVec.ofNat 32 (i 0).val
  let c7_i32 : BitVec 32 := 7#32
  let v3 : BitVec 1 := Scalar.cmpi .eq arg0 c7_i32
  let arg1 : BitVec 32 := BitVec.ofNat 32 (i 1).val
  let c7_i32_1 : BitVec 32 := 7#32
  let v4 : BitVec 1 := Scalar.cmpi .eq arg1 c7_i32_1
  let v5 : BitVec 1 := Scalar.andi v3 v4
  let v25 : BitVec 32 := Scalar.extui v5
  let c0_i32_19 : BitVec 32 := 0#32
  let v26 : BitVec 1 := Scalar.cmpi .ne v25 c0_i32_19
  v26

def k0_off3 (d27 : Dev nD) (c0_i32_20 : BitVec 32) (c0_i32_23 : BitVec 32) (c1_i32_25 : BitVec 32) : Fin 3 → Nat :=
  let c4_i32_26 : BitVec 32 := 4#32
  let v27 : BitVec 32 := Dev.word d27
  let c4_i32 : BitVec 32 := 4#32
  let v28 : BitVec 32 := Scalar.divsi v27 c4_i32
  let c2_i32 : BitVec 32 := 2#32
  let v29 : BitVec 32 := Scalar.remsi v28 c2_i32
  let v30 : BitVec 32 := Scalar.xori v29 c0_i32_20
  let v39 : BitVec 32 := Scalar.muli c4_i32_26 v30
  let c2_i32_27 : BitVec 32 := 2#32
  let v31 : BitVec 32 := Dev.word d27
  let c2_i32_22 : BitVec 32 := 2#32
  let v32 : BitVec 32 := Scalar.divsi v31 c2_i32_22
  let c2_i32_21 : BitVec 32 := 2#32
  let v33 : BitVec 32 := Scalar.remsi v32 c2_i32_21
  let v34 : BitVec 32 := Scalar.xori v33 c0_i32_23
  let v40 : BitVec 32 := Scalar.muli c2_i32_27 v34
  let v41 : BitVec 32 := Scalar.addi v39 v40
  let v35 : BitVec 32 := Dev.word d27
  let c1_i32 : BitVec 32 := 1#32
  let v36 : BitVec 32 := Scalar.divsi v35 c1_i32
  let c2_i32_24 : BitVec 32 := 2#32
  let v37 : BitVec 32 := Scalar.remsi v36 c2_i32_24
  let v38 : BitVec 32 := Scalar.xori v37 c1_i32_25
  let v42 : BitVec 32 := Scalar.addi v41 v38
  let c0_i32_102 : BitVec 32 := 0#32
  let c0_i32_103 : BitVec 32 := 0#32
  ![v42.toNat, 0, 0]
def k0_off3_at (r : Fin 7) : BitVec 32 × BitVec 32 × BitVec 32 :=
  if r.val < 3 then
    if r.val < 1 then
      (0#32, 0#32, 1#32)
    else
      if r.val < 2 then
        (0#32, 1#32, 0#32)
      else
        (0#32, 1#32, 1#32)
  else
    if r.val < 5 then
      if r.val < 4 then
        (1#32, 0#32, 0#32)
      else
        (1#32, 0#32, 1#32)
    else
      if r.val < 6 then
        (1#32, 1#32, 0#32)
      else
        (1#32, 1#32, 1#32)
def k0_off4 (d27 : Dev nD) : Fin 3 → Nat :=
  let c4_i32_177 : BitVec 32 := 4#32
  let v223 : BitVec 32 := Dev.word d27
  let c4_i32_176 : BitVec 32 := 4#32
  let v224 : BitVec 32 := Scalar.divsi v223 c4_i32_176
  let c2_i32_175 : BitVec 32 := 2#32
  let v225 : BitVec 32 := Scalar.remsi v224 c2_i32_175
  let v226 : BitVec 32 := Scalar.muli c4_i32_177 v225
  let c2_i32_180 : BitVec 32 := 2#32
  let v227 : BitVec 32 := Dev.word d27
  let c2_i32_179 : BitVec 32 := 2#32
  let v228 : BitVec 32 := Scalar.divsi v227 c2_i32_179
  let c2_i32_178 : BitVec 32 := 2#32
  let v229 : BitVec 32 := Scalar.remsi v228 c2_i32_178
  let v230 : BitVec 32 := Scalar.muli c2_i32_180 v229
  let v231 : BitVec 32 := Scalar.addi v226 v230
  let v232 : BitVec 32 := Dev.word d27
  let c1_i32_182 : BitVec 32 := 1#32
  let v233 : BitVec 32 := Scalar.divsi v232 c1_i32_182
  let c2_i32_181 : BitVec 32 := 2#32
  let v234 : BitVec 32 := Scalar.remsi v233 c2_i32_181
  let v235 : BitVec 32 := Scalar.addi v231 v234
  let c0_i32_267 : BitVec 32 := 0#32
  let c0_i32_268 : BitVec 32 := 0#32
  ![v235.toNat, 0, 0]
def k0_cond2 (i : grid0.Coords) : BitVec 1 :=
  let arg1 : BitVec 32 := BitVec.ofNat 32 (i 1).val
  let c0_i32_15 : BitVec 32 := 0#32
  let v19 : BitVec 1 := Scalar.cmpi .eq arg1 c0_i32_15
  let v20 : BitVec 32 := Scalar.extui v19
  let c0_i32_16 : BitVec 32 := 0#32
  let v21 : BitVec 1 := Scalar.cmpi .ne v20 c0_i32_16
  v21

def k0_cond3 (i : grid0.Coords) : BitVec 1 :=
  let arg1 : BitVec 32 := BitVec.ofNat 32 (i 1).val
  let c0_i32_17 : BitVec 32 := 0#32
  let v22 : BitVec 1 := Scalar.cmpi .sgt arg1 c0_i32_17
  let v23 : BitVec 32 := Scalar.extui v22
  let c0_i32_18 : BitVec 32 := 0#32
  let v24 : BitVec 1 := Scalar.cmpi .ne v23 c0_i32_18
  v24

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1x1024x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x2048x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== BwdInReferenceIdeal.lean ====
abbrev S8x65536x704 : Shape := ⟨3, ![8, 65536, 704]⟩
abbrev S8x2048x704 : Shape := ⟨3, ![8, 2048, 704]⟩
abbrev S64x2048x704 : Shape := ⟨3, ![64, 2048, 704]⟩
abbrev S65536x2048 : Shape := ⟨2, ![65536, 2048]⟩
abbrev S8x8x2048x704 : Shape := ⟨4, ![8, 8, 2048, 704]⟩

abbrev nBuf : Space → Nat
  | .hbm => 11
  | .vmem => 0
  | .smem => 0
  | _ => 0

abbrev bufTy : (tb : Table) → Fin (tcTables nBuf tb) → BufTy
  | .hbm, ⟨0, _⟩ => ⟨S8x65536x704, .bf16⟩
  | .hbm, ⟨1, _⟩ => ⟨S8x65536x704, .bf16⟩
  | .hbm, ⟨2, _⟩ => ⟨S8x2048x704, .bf16⟩
  | .hbm, ⟨3, _⟩ => ⟨S8x2048x704, .bf16⟩
  | .hbm, ⟨4, _⟩ => ⟨S64x2048x704, .bf16⟩
  | .hbm, ⟨5, _⟩ => ⟨S65536x2048, .f32⟩
  | .hbm, ⟨6, _⟩ => ⟨S65536x2048, .f32⟩
  | .hbm, ⟨7, _⟩ => ⟨S65536x2048, .f32⟩
  | .hbm, ⟨8, _⟩ => ⟨S8x8x2048x704, .bf16⟩
  | .hbm, ⟨9, _⟩ => ⟨S8x8x2048x704, .bf16⟩
  | .hbm, ⟨10, _⟩ => ⟨S64x2048x704, .bf16⟩
  | _, _ => ⟨S8x65536x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩

abbrev nD : Nat := 1
abbrev τ : Topo := Topo.v7x

variable {F : FTy → Type} [FloatOps F]
-- ==== WgradUp.lean ====
abbrev S8192x2048 : Shape := ⟨2, ![8192, 2048]⟩
abbrev S8x8192x704 : Shape := ⟨3, ![8, 8192, 704]⟩
abbrev S8x704x2048 : Shape := ⟨3, ![8, 704, 2048]⟩
abbrev S8x2048x704 : Shape := ⟨3, ![8, 2048, 704]⟩
abbrev S1024x2048 : Shape := ⟨2, ![1024, 2048]⟩
abbrev S1x1024x704 : Shape := ⟨3, ![1, 1024, 704]⟩
abbrev S1x2048x704 : Shape := ⟨3, ![1, 2048, 704]⟩
abbrev S2048x704 : Shape := ⟨2, ![2048, 704]⟩
abbrev S1x7 : Shape := ⟨2, ![1, 7]⟩
abbrev S1 : Shape := ⟨1, ![1]⟩
abbrev S_ : Shape := ⟨0, ![]⟩
abbrev S1x704x2048 : Shape := ⟨3, ![1, 704, 2048]⟩
abbrev S704x2048 : Shape := ⟨2, ![704, 2048]⟩
abbrev S1x1 : Shape := ⟨2, ![1, 1]⟩
abbrev S1024x704 : Shape := ⟨2, ![1024, 704]⟩

abbrev nBuf : Space → Nat
  | .hbm => 7
  | .vmem => 12
  | .smem => 0
  | _ => 0

abbrev bufTy : (tb : Table) → Fin (tcTables nBuf tb) → BufTy
  | .hbm, ⟨0, _⟩ => ⟨S8192x2048, .bf16⟩
  | .hbm, ⟨1, _⟩ => ⟨S8x8192x704, .bf16⟩
  | .hbm, ⟨2, _⟩ => ⟨S8x8192x704, .bf16⟩
  | .hbm, ⟨3, _⟩ => ⟨S8x704x2048, .bf16⟩
  | .hbm, ⟨4, _⟩ => ⟨S8x2048x704, .bf16⟩
  | .hbm, ⟨5, _⟩ => ⟨S8x2048x704, .bf16⟩
  | .hbm, ⟨6, _⟩ => ⟨S8x704x2048, .bf16⟩
  | .local _ .vmem, ⟨0, _⟩ => ⟨S1024x2048, .bf16⟩
  | .local _ .vmem, ⟨1, _⟩ => ⟨S1024x2048, .bf16⟩
  | .local _ .vmem, ⟨2, _⟩ => ⟨S1x1024x704, .bf16⟩
  | .local _ .vmem, ⟨3, _⟩ => ⟨S1x1024x704, .bf16⟩
  | .local _ .vmem, ⟨4, _⟩ => ⟨S1x1024x704, .bf16⟩
  | .local _ .vmem, ⟨5, _⟩ => ⟨S1x1024x704, .bf16⟩
  | .local _ .vmem, ⟨6, _⟩ => ⟨S1x2048x704, .bf16⟩
  | .local _ .vmem, ⟨7, _⟩ => ⟨S1x2048x704, .bf16⟩
  | .local _ .vmem, ⟨8, _⟩ => ⟨S1x2048x704, .bf16⟩
  | .local _ .vmem, ⟨9, _⟩ => ⟨S1x2048x704, .bf16⟩
  | .local _ .vmem, ⟨10, _⟩ => ⟨S2048x704, .f32⟩
  | .local _ .vmem, ⟨11, _⟩ => ⟨S2048x704, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 8
abbrev τ : Topo := Topo.v7x

variable {F : FTy → Type} [FloatOps F]

abbrev grid0 : Pipeline.Grid := ⟨2, ![8, 8], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v6 : BitVec 32 := Scalar.extui v2
  let c0_i32_2 : BitVec 32 := 0#32
  let v7 : BitVec 1 := Scalar.cmpi .ne v6 c0_i32_2
  v7

def k0_off1 (d34 : Dev nD) : Fin 3 → Nat :=
  let c4_i32_24 : BitVec 32 := 4#32
  let v34 : BitVec 32 := Dev.word d34
  let c4_i32 : BitVec 32 := 4#32
  let v35 : BitVec 32 := Scalar.divsi v34 c4_i32
  let c2_i32 : BitVec 32 := 2#32
  let v36 : BitVec 32 := Scalar.remsi v35 c2_i32
  let v37 : BitVec 32 := Scalar.muli c4_i32_24 v36
  let c2_i32_27 : BitVec 32 := 2#32
  let v38 : BitVec 32 := Dev.word d34
  let c2_i32_26 : BitVec 32 := 2#32
  let v39 : BitVec 32 := Scalar.divsi v38 c2_i32_26
  let c2_i32_25 : BitVec 32 := 2#32
  let v40 : BitVec 32 := Scalar.remsi v39 c2_i32_25
  let v41 : BitVec 32 := Scalar.muli c2_i32_27 v40
  let v42 : BitVec 32 := Scalar.addi v37 v41
  let v43 : BitVec 32 := Dev.word d34
  let c1_i32 : BitVec 32 := 1#32
  let v44 : BitVec 32 := Scalar.divsi v43 c1_i32
  let c2_i32_28 : BitVec 32 := 2#32
  let v45 : BitVec 32 := Scalar.remsi v44 c2_i32_28
  let v46 : BitVec 32 := Scalar.addi v42 v45
  let c0_i32_107 : BitVec 32 := 0#32
  let c0_i32_108 : BitVec 32 := 0#32
  ![v46.toNat, 0, 0]
def k0_off2 (d34 : Dev nD) (c0_i32_31 : BitVec 32) (c0_i32_34 : BitVec 32) (c1_i32_37 : BitVec 32) : Fin 3 → Nat :=
  let c4_i32_38 : BitVec 32 := 4#32
  let v47 : BitVec 32 := Dev.word d34
  let c4_i32_30 : BitVec 32 := 4#32
  let v48 : BitVec 32 := Scalar.divsi v47 c4_i32_30
  let c2_i32_29 : BitVec 32 := 2#32
  let v49 : BitVec 32 := Scalar.remsi v48 c2_i32_29
  let v50 : BitVec 32 := Scalar.xori v49 c0_i32_31
  let v59 : BitVec 32 := Scalar.muli c4_i32_38 v50
  let c2_i32_39 : BitVec 32 := 2#32
  let v51 : BitVec 32 := Dev.word d34
  let c2_i32_33 : BitVec 32 := 2#32
  let v52 : BitVec 32 := Scalar.divsi v51 c2_i32_33
  let c2_i32_32 : BitVec 32 := 2#32
  let v53 : BitVec 32 := Scalar.remsi v52 c2_i32_32
  let v54 : BitVec 32 := Scalar.xori v53 c0_i32_34
  let v60 : BitVec 32 := Scalar.muli c2_i32_39 v54
  let v61 : BitVec 32 := Scalar.addi v59 v60
  let v55 : BitVec 32 := Dev.word d34
  let c1_i32_36 : BitVec 32 := 1#32
  let v56 : BitVec 32 := Scalar.divsi v55 c1_i32_36
  let c2_i32_35 : BitVec 32 := 2#32
  let v57 : BitVec 32 := Scalar.remsi v56 c2_i32_35
  let v58 : BitVec 32 := Scalar.xori v57 c1_i32_37
  let v62 : BitVec 32 := Scalar.addi v61 v58
  let c0_i32_121 : BitVec 32 := 0#32
  let c0_i32_122 : BitVec 32 := 0#32
  ![v62.toNat, 0, 0]
def k0_off2_at (r : Fin 7) : BitVec 32 × BitVec 32 × BitVec 32 :=
  if r.val < 3 then
    if r.val < 1 then
      (0#32, 0#32, 1#32)
    else
      if r.val < 2 then
        (0#32, 1#32, 0#32)
      else
        (0#32, 1#32, 1#32)
  else
    if r.val < 5 then
      if r.val < 4 then
        (1#32, 0#32, 0#32)
      else
        (1#32, 0#32, 1#32)
    else
      if r.val < 6 then
        (1#32, 1#32, 0#32)
      else
        (1#32, 1#32, 1#32)
def k0_dev1 (d34 : Dev nD) : Nat :=
  let c0_i32_116 : BitVec 32 := 0#32
  let v47 : BitVec 32 := Dev.word d34
  let c4_i32_30 : BitVec 32 := 4#32
  let v48 : BitVec 32 := Scalar.divsi v47 c4_i32_30
  let c2_i32_29 : BitVec 32 := 2#32
  let v49 : BitVec 32 := Scalar.remsi v48 c2_i32_29
  let c0_i32_31 : BitVec 32 := 0#32
  let v50 : BitVec 32 := Scalar.xori v49 c0_i32_31
  let c4_i32_115 : BitVec 32 := 4#32
  let v165 : BitVec 32 := Scalar.muli v50 c4_i32_115
  let v166 : BitVec 32 := Scalar.addi c0_i32_116 v165
  let v51 : BitVec 32 := Dev.word d34
  let c2_i32_33 : BitVec 32 := 2#32
  let v52 : BitVec 32 := Scalar.divsi v51 c2_i32_33
  let c2_i32_32 : BitVec 32 := 2#32
  let v53 : BitVec 32 := Scalar.remsi v52 c2_i32_32
  let c0_i32_34 : BitVec 32 := 0#32
  let v54 : BitVec 32 := Scalar.xori v53 c0_i32_34
  let c2_i32_117 : BitVec 32 := 2#32
  let v167 : BitVec 32 := Scalar.muli v54 c2_i32_117
  let v168 : BitVec 32 := Scalar.addi v166 v167
  let v55 : BitVec 32 := Dev.word d34
  let c1_i32_36 : BitVec 32 := 1#32
  let v56 : BitVec 32 := Scalar.divsi v55 c1_i32_36
  let c2_i32_35 : BitVec 32 := 2#32
  let v57 : BitVec 32 := Scalar.remsi v56 c2_i32_35
  let c1_i32_37 : BitVec 32 := 1#32
  let v58 : BitVec 32 := Scalar.xori v57 c1_i32_37
  let c1_i32_118 : BitVec 32 := 1#32
  let v169 : BitVec 32 := Scalar.muli v58 c1_i32_118
  let v170 : BitVec 32 := Scalar.addi v168 v169
  v170.toNat
def k0_dev2 (d34 : Dev nD) : Nat :=
  let c0_i32_128 : BitVec 32 := 0#32
  let v63 : BitVec 32 := Dev.word d34
  let c4_i32_41 : BitVec 32 := 4#32
  let v64 : BitVec 32 := Scalar.divsi v63 c4_i32_41
  let c2_i32_40 : BitVec 32 := 2#32
  let v65 : BitVec 32 := Scalar.remsi v64 c2_i32_40
  let c0_i32_42 : BitVec 32 := 0#32
  let v66 : BitVec 32 := Scalar.xori v65 c0_i32_42
  let c4_i32_127 : BitVec 32 := 4#32
  let v179 : BitVec 32 := Scalar.muli v66 c4_i32_127
  let v180 : BitVec 32 := Scalar.addi c0_i32_128 v179
  let v67 : BitVec 32 := Dev.word d34
  let c2_i32_44 : BitVec 32 := 2#32
  let v68 : BitVec 32 := Scalar.divsi v67 c2_i32_44
  let c2_i32_43 : BitVec 32 := 2#32
  let v69 : BitVec 32 := Scalar.remsi v68 c2_i32_43
  let c1_i32_45 : BitVec 32 := 1#32
  let v70 : BitVec 32 := Scalar.xori v69 c1_i32_45
  let c2_i32_129 : BitVec 32 := 2#32
  let v181 : BitVec 32 := Scalar.muli v70 c2_i32_129
  let v182 : BitVec 32 := Scalar.addi v180 v181
  let v71 : BitVec 32 := Dev.word d34
  let c1_i32_47 : BitVec 32 := 1#32
  let v72 : BitVec 32 := Scalar.divsi v71 c1_i32_47
  let c2_i32_46 : BitVec 32 := 2#32
  let v73 : BitVec 32 := Scalar.remsi v72 c2_i32_46
  let c0_i32_48 : BitVec 32 := 0#32
  let v74 : BitVec 32 := Scalar.xori v73 c0_i32_48
  let c1_i32_130 : BitVec 32 := 1#32
  let v183 : BitVec 32 := Scalar.muli v74 c1_i32_130
  let v184 : BitVec 32 := Scalar.addi v182 v183
  v184.toNat
def k0_dev3 (d34 : Dev nD) : Nat :=
  let c0_i32_140 : BitVec 32 := 0#32
  let v79 : BitVec 32 := Dev.word d34
  let c4_i32_52 : BitVec 32 := 4#32
  let v80 : BitVec 32 := Scalar.divsi v79 c4_i32_52
  let c2_i32_51 : BitVec 32 := 2#32
  let v81 : BitVec 32 := Scalar.remsi v80 c2_i32_51
  let c0_i32_53 : BitVec 32 := 0#32
  let v82 : BitVec 32 := Scalar.xori v81 c0_i32_53
  let c4_i32_139 : BitVec 32 := 4#32
  let v193 : BitVec 32 := Scalar.muli v82 c4_i32_139
  let v194 : BitVec 32 := Scalar.addi c0_i32_140 v193
  let v83 : BitVec 32 := Dev.word d34
  let c2_i32_55 : BitVec 32 := 2#32
  let v84 : BitVec 32 := Scalar.divsi v83 c2_i32_55
  let c2_i32_54 : BitVec 32 := 2#32
  let v85 : BitVec 32 := Scalar.remsi v84 c2_i32_54
  let c1_i32_56 : BitVec 32 := 1#32
  let v86 : BitVec 32 := Scalar.xori v85 c1_i32_56
  let c2_i32_141 : BitVec 32 := 2#32
  let v195 : BitVec 32 := Scalar.muli v86 c2_i32_141
  let v196 : BitVec 32 := Scalar.addi v194 v195
  let v87 : BitVec 32 := Dev.word d34
  let c1_i32_58 : BitVec 32 := 1#32
  let v88 : BitVec 32 := Scalar.divsi v87 c1_i32_58
  let c2_i32_57 : BitVec 32 := 2#32
  let v89 : BitVec 32 := Scalar.remsi v88 c2_i32_57
  let c1_i32_59 : BitVec 32 := 1#32
  let v90 : BitVec 32 := Scalar.xori v89 c1_i32_59
  let c1_i32_142 : BitVec 32 := 1#32
  let v197 : BitVec 32 := Scalar.muli v90 c1_i32_142
  let v198 : BitVec 32 := Scalar.addi v196 v197
  v198.toNat
def k0_dev4 (d34 : Dev nD) : Nat :=
  let c0_i32_151 : BitVec 32 := 0#32
  let v95 : BitVec 32 := Dev.word d34
  let c4_i32_63 : BitVec 32 := 4#32
  let v96 : BitVec 32 := Scalar.divsi v95 c4_i32_63
  let c2_i32_62 : BitVec 32 := 2#32
  let v97 : BitVec 32 := Scalar.remsi v96 c2_i32_62
  let c1_i32_64 : BitVec 32 := 1#32
  let v98 : BitVec 32 := Scalar.xori v97 c1_i32_64
  let c4_i32_150 : BitVec 32 := 4#32
  let v207 : BitVec 32 := Scalar.muli v98 c4_i32_150
  let v208 : BitVec 32 := Scalar.addi c0_i32_151 v207
  let v99 : BitVec 32 := Dev.word d34
  let c2_i32_66 : BitVec 32 := 2#32
  let v100 : BitVec 32 := Scalar.divsi v99 c2_i32_66
  let c2_i32_65 : BitVec 32 := 2#32
  let v101 : BitVec 32 := Scalar.remsi v100 c2_i32_65
  let c0_i32_67 : BitVec 32 := 0#32
  let v102 : BitVec 32 := Scalar.xori v101 c0_i32_67
  let c2_i32_152 : BitVec 32 := 2#32
  let v209 : BitVec 32 := Scalar.muli v102 c2_i32_152
  let v210 : BitVec 32 := Scalar.addi v208 v209
  let v103 : BitVec 32 := Dev.word d34
  let c1_i32_69 : BitVec 32 := 1#32
  let v104 : BitVec 32 := Scalar.divsi v103 c1_i32_69
  let c2_i32_68 : BitVec 32 := 2#32
  let v105 : BitVec 32 := Scalar.remsi v104 c2_i32_68
  let c0_i32_70 : BitVec 32 := 0#32
  let v106 : BitVec 32 := Scalar.xori v105 c0_i32_70
  let c1_i32_153 : BitVec 32 := 1#32
  let v211 : BitVec 32 := Scalar.muli v106 c1_i32_153
  let v212 : BitVec 32 := Scalar.addi v210 v211
  v212.toNat
def k0_dev5 (d34 : Dev nD) : Nat :=
  let c0_i32_163 : BitVec 32 := 0#32
  let v111 : BitVec 32 := Dev.word d34
  let c4_i32_74 : BitVec 32 := 4#32
  let v112 : BitVec 32 := Scalar.divsi v111 c4_i32_74
  let c2_i32_73 : BitVec 32 := 2#32
  let v113 : BitVec 32 := Scalar.remsi v112 c2_i32_73
  let c1_i32_75 : BitVec 32 := 1#32
  let v114 : BitVec 32 := Scalar.xori v113 c1_i32_75
  let c4_i32_162 : BitVec 32 := 4#32
  let v221 : BitVec 32 := Scalar.muli v114 c4_i32_162
  let v222 : BitVec 32 := Scalar.addi c0_i32_163 v221
  let v115 : BitVec 32 := Dev.word d34
  let c2_i32_77 : BitVec 32 := 2#32
  let v116 : BitVec 32 := Scalar.divsi v115 c2_i32_77
  let c2_i32_76 : BitVec 32 := 2#32
  let v117 : BitVec 32 := Scalar.remsi v116 c2_i32_76
  let c0_i32_78 : BitVec 32 := 0#32
  let v118 : BitVec 32 := Scalar.xori v117 c0_i32_78
  let c2_i32_164 : BitVec 32 := 2#32
  let v223 : BitVec 32 := Scalar.muli v118 c2_i32_164
  let v224 : BitVec 32 := Scalar.addi v222 v223
  let v119 : BitVec 32 := Dev.word d34
  let c1_i32_80 : BitVec 32 := 1#32
  let v120 : BitVec 32 := Scalar.divsi v119 c1_i32_80
  let c2_i32_79 : BitVec 32 := 2#32
  let v121 : BitVec 32 := Scalar.remsi v120 c2_i32_79
  let c1_i32_81 : BitVec 32 := 1#32
  let v122 : BitVec 32 := Scalar.xori v121 c1_i32_81
  let c1_i32_165 : BitVec 32 := 1#32
  let v225 : BitVec 32 := Scalar.muli v122 c1_i32_165
  let v226 : BitVec 32 := Scalar.addi v224 v225
  v226.toNat
def k0_dev6 (d34 : Dev nD) : Nat :=
  let c0_i32_174 : BitVec 32 := 0#32
  let v127 : BitVec 32 := Dev.word d34
  let c4_i32_85 : BitVec 32 := 4#32
  let v128 : BitVec 32 := Scalar.divsi v127 c4_i32_85
  let c2_i32_84 : BitVec 32 := 2#32
  let v129 : BitVec 32 := Scalar.remsi v128 c2_i32_84
  let c1_i32_86 : BitVec 32 := 1#32
  let v130 : BitVec 32 := Scalar.xori v129 c1_i32_86
  let c4_i32_173 : BitVec 32 := 4#32
  let v235 : BitVec 32 := Scalar.muli v130 c4_i32_173
  let v236 : BitVec 32 := Scalar.addi c0_i32_174 v235
  let v131 : BitVec 32 := Dev.word d34
  let c2_i32_88 : BitVec 32 := 2#32
  let v132 : BitVec 32 := Scalar.divsi v131 c2_i32_88
  let c2_i32_87 : BitVec 32 := 2#32
  let v133 : BitVec 32 := Scalar.remsi v132 c2_i32_87
  let c1_i32_89 : BitVec 32 := 1#32
  let v134 : BitVec 32 := Scalar.xori v133 c1_i32_89
  let c2_i32_175 : BitVec 32 := 2#32
  let v237 : BitVec 32 := Scalar.muli v134 c2_i32_175
  let v238 : BitVec 32 := Scalar.addi v236 v237
  let v135 : BitVec 32 := Dev.word d34
  let c1_i32_91 : BitVec 32 := 1#32
  let v136 : BitVec 32 := Scalar.divsi v135 c1_i32_91
  let c2_i32_90 : BitVec 32 := 2#32
  let v137 : BitVec 32 := Scalar.remsi v136 c2_i32_90
  let c0_i32_92 : BitVec 32 := 0#32
  let v138 : BitVec 32 := Scalar.xori v137 c0_i32_92
  let c1_i32_176 : BitVec 32 := 1#32
  let v239 : BitVec 32 := Scalar.muli v138 c1_i32_176
  let v240 : BitVec 32 := Scalar.addi v238 v239
  v240.toNat
def k0_dev7 (d34 : Dev nD) : Nat :=
  let c0_i32_185 : BitVec 32 := 0#32
  let v143 : BitVec 32 := Dev.word d34
  let c4_i32_96 : BitVec 32 := 4#32
  let v144 : BitVec 32 := Scalar.divsi v143 c4_i32_96
  let c2_i32_95 : BitVec 32 := 2#32
  let v145 : BitVec 32 := Scalar.remsi v144 c2_i32_95
  let c1_i32_97 : BitVec 32 := 1#32
  let v146 : BitVec 32 := Scalar.xori v145 c1_i32_97
  let c4_i32_184 : BitVec 32 := 4#32
  let v249 : BitVec 32 := Scalar.muli v146 c4_i32_184
  let v250 : BitVec 32 := Scalar.addi c0_i32_185 v249
  let v147 : BitVec 32 := Dev.word d34
  let c2_i32_99 : BitVec 32 := 2#32
  let v148 : BitVec 32 := Scalar.divsi v147 c2_i32_99
  let c2_i32_98 : BitVec 32 := 2#32
  let v149 : BitVec 32 := Scalar.remsi v148 c2_i32_98
  let c1_i32_100 : BitVec 32 := 1#32
  let v150 : BitVec 32 := Scalar.xori v149 c1_i32_100
  let c2_i32_186 : BitVec 32 := 2#32
  let v251 : BitVec 32 := Scalar.muli v150 c2_i32_186
  let v252 : BitVec 32 := Scalar.addi v250 v251
  let v151 : BitVec 32 := Dev.word d34
  let c1_i32_102 : BitVec 32 := 1#32
  let v152 : BitVec 32 := Scalar.divsi v151 c1_i32_102
  let c2_i32_101 : BitVec 32 := 2#32
  let v153 : BitVec 32 := Scalar.remsi v152 c2_i32_101
  let c1_i32_103 : BitVec 32 := 1#32
  let v154 : BitVec 32 := Scalar.xori v153 c1_i32_103
  let c1_i32_187 : BitVec 32 := 1#32
  let v253 : BitVec 32 := Scalar.muli v154 c1_i32_187
  let v254 : BitVec 32 := Scalar.addi v252 v253
  v254.toNat
def k0_cond4 (i : grid0.Coords) : BitVec 1 :=
  let arg0 : BitVec 32 := BitVec.ofNat 32 (i 0).val
  let c7_i32 : BitVec 32 := 7#32
  let v3 : BitVec 1 := Scalar.cmpi .eq arg0 c7_i32
  let arg1 : BitVec 32 := BitVec.ofNat 32 (i 1).val
  let c7_i32_1 : BitVec 32 := 7#32
  let v4 : BitVec 1 := Scalar.cmpi .eq arg1 c7_i32_1
  let v5 : BitVec 1 := Scalar.andi v3 v4
  let v32 : BitVec 32 := Scalar.extui v5
  let c0_i32_23 : BitVec 32 := 0#32
  let v33 : BitVec 1 := Scalar.cmpi .ne v32 c0_i32_23
  v33

def k0_off3 (d34 : Dev nD) (c0_i32_24 : BitVec 32) (c0_i32_27 : BitVec 32) (c1_i32_29 : BitVec 32) : Fin 3 → Nat :=
  let c4_i32_30 : BitVec 32 := 4#32
  let v34 : BitVec 32 := Dev.word d34
  let c4_i32 : BitVec 32 := 4#32
  let v35 : BitVec 32 := Scalar.divsi v34 c4_i32
  let c2_i32 : BitVec 32 := 2#32
  let v36 : BitVec 32 := Scalar.remsi v35 c2_i32
  let v37 : BitVec 32 := Scalar.xori v36 c0_i32_24
  let v46 : BitVec 32 := Scalar.muli c4_i32_30 v37
  let c2_i32_31 : BitVec 32 := 2#32
  let v38 : BitVec 32 := Dev.word d34
  let c2_i32_26 : BitVec 32 := 2#32
  let v39 : BitVec 32 := Scalar.divsi v38 c2_i32_26
  let c2_i32_25 : BitVec 32 := 2#32
  let v40 : BitVec 32 := Scalar.remsi v39 c2_i32_25
  let v41 : BitVec 32 := Scalar.xori v40 c0_i32_27
  let v47 : BitVec 32 := Scalar.muli c2_i32_31 v41
  let v48 : BitVec 32 := Scalar.addi v46 v47
  let v42 : BitVec 32 := Dev.word d34
  let c1_i32 : BitVec 32 := 1#32
  let v43 : BitVec 32 := Scalar.divsi v42 c1_i32
  let c2_i32_28 : BitVec 32 := 2#32
  let v44 : BitVec 32 := Scalar.remsi v43 c2_i32_28
  let v45 : BitVec 32 := Scalar.xori v44 c1_i32_29
  let v49 : BitVec 32 := Scalar.addi v48 v45
  let c0_i32_106 : BitVec 32 := 0#32
  let c0_i32_107 : BitVec 32 := 0#32
  ![v49.toNat, 0, 0]
def k0_off3_at (r : Fin 7) : BitVec 32 × BitVec 32 × BitVec 32 :=
  if r.val < 3 then
    if r.val < 1 then
      (0#32, 0#32, 1#32)
    else
      if r.val < 2 then
        (0#32, 1#32, 0#32)
      else
        (0#32, 1#32, 1#32)
  else
    if r.val < 5 then
      if r.val < 4 then
        (1#32, 0#32, 0#32)
      else
        (1#32, 0#32, 1#32)
    else
      if r.val < 6 then
        (1#32, 1#32, 0#32)
      else
        (1#32, 1#32, 1#32)
def k0_off4 (d34 : Dev nD) : Fin 3 → Nat :=
  let c4_i32_181 : BitVec 32 := 4#32
  let v230 : BitVec 32 := Dev.word d34
  let c4_i32_180 : BitVec 32 := 4#32
  let v231 : BitVec 32 := Scalar.divsi v230 c4_i32_180
  let c2_i32_179 : BitVec 32 := 2#32
  let v232 : BitVec 32 := Scalar.remsi v231 c2_i32_179
  let v233 : BitVec 32 := Scalar.muli c4_i32_181 v232
  let c2_i32_184 : BitVec 32 := 2#32
  let v234 : BitVec 32 := Dev.word d34
  let c2_i32_183 : BitVec 32 := 2#32
  let v235 : BitVec 32 := Scalar.divsi v234 c2_i32_183
  let c2_i32_182 : BitVec 32 := 2#32
  let v236 : BitVec 32 := Scalar.remsi v235 c2_i32_182
  let v237 : BitVec 32 := Scalar.muli c2_i32_184 v236
  let v238 : BitVec 32 := Scalar.addi v233 v237
  let v239 : BitVec 32 := Dev.word d34
  let c1_i32_186 : BitVec 32 := 1#32
  let v240 : BitVec 32 := Scalar.divsi v239 c1_i32_186
  let c2_i32_185 : BitVec 32 := 2#32
  let v241 : BitVec 32 := Scalar.remsi v240 c2_i32_185
  let v242 : BitVec 32 := Scalar.addi v238 v241
  let c0_i32_271 : BitVec 32 := 0#32
  let c0_i32_272 : BitVec 32 := 0#32
  ![v242.toNat, 0, 0]
def k0_cond3 (i : grid0.Coords) : BitVec 1 :=
  let arg1 : BitVec 32 := BitVec.ofNat 32 (i 1).val
  let c7_i32_21 : BitVec 32 := 7#32
  let v29 : BitVec 1 := Scalar.cmpi .eq arg1 c7_i32_21
  let v30 : BitVec 32 := Scalar.extui v29
  let c0_i32_22 : BitVec 32 := 0#32
  let v31 : BitVec 1 := Scalar.cmpi .ne v30 c0_i32_22
  v31

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1024x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2048x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x2048x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== WgradUpReferenceIdeal.lean ====
abbrev S65536x2048 : Shape := ⟨2, ![65536, 2048]⟩
abbrev S8x65536x704 : Shape := ⟨3, ![8, 65536, 704]⟩
abbrev S64x704x2048 : Shape := ⟨3, ![64, 704, 2048]⟩
abbrev S8x8192x2048 : Shape := ⟨3, ![8, 8192, 2048]⟩
abbrev S8x8x8192x704 : Shape := ⟨4, ![8, 8, 8192, 704]⟩
abbrev S8x8x704x2048 : Shape := ⟨4, ![8, 8, 704, 2048]⟩
abbrev S8x8x2048x704 : Shape := ⟨4, ![8, 8, 2048, 704]⟩
abbrev S64x2048x704 : Shape := ⟨3, ![64, 2048, 704]⟩

abbrev nBuf : Space → Nat
  | .hbm => 18
  | .vmem => 0
  | .smem => 0
  | _ => 0

abbrev bufTy : (tb : Table) → Fin (tcTables nBuf tb) → BufTy
  | .hbm, ⟨0, _⟩ => ⟨S65536x2048, .bf16⟩
  | .hbm, ⟨1, _⟩ => ⟨S8x65536x704, .bf16⟩
  | .hbm, ⟨2, _⟩ => ⟨S8x65536x704, .bf16⟩
  | .hbm, ⟨3, _⟩ => ⟨S64x704x2048, .bf16⟩
  | .hbm, ⟨4, _⟩ => ⟨S8x8192x2048, .bf16⟩
  | .hbm, ⟨5, _⟩ => ⟨S8x8x8192x704, .bf16⟩
  | .hbm, ⟨6, _⟩ => ⟨S8x8x704x2048, .f32⟩
  | .hbm, ⟨7, _⟩ => ⟨S8x8x2048x704, .f32⟩
  | .hbm, ⟨8, _⟩ => ⟨S8x8x2048x704, .bf16⟩
  | .hbm, ⟨9, _⟩ => ⟨S64x2048x704, .bf16⟩
  | .hbm, ⟨10, _⟩ => ⟨S8x8x8192x704, .bf16⟩
  | .hbm, ⟨11, _⟩ => ⟨S8x8x704x2048, .f32⟩
  | .hbm, ⟨12, _⟩ => ⟨S8x8x2048x704, .f32⟩
  | .hbm, ⟨13, _⟩ => ⟨S8x8x2048x704, .bf16⟩
  | .hbm, ⟨14, _⟩ => ⟨S64x2048x704, .bf16⟩
  | .hbm, ⟨15, _⟩ => ⟨S8x8x704x2048, .bf16⟩
  | .hbm, ⟨16, _⟩ => ⟨S8x8x704x2048, .bf16⟩
  | .hbm, ⟨17, _⟩ => ⟨S64x704x2048, .bf16⟩
  | _, _ => ⟨S65536x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩

abbrev nD : Nat := 1
abbrev τ : Topo := Topo.v7x

variable {F : FTy → Type} [FloatOps F]
-- ==== AdamIn.lean ====
abbrev S8x2048x640 : Shape := ⟨3, ![8, 2048, 640]⟩
abbrev S2048x640 : Shape := ⟨2, ![2048, 640]⟩
abbrev S8x256x640 : Shape := ⟨3, ![8, 256, 640]⟩
abbrev S256x640 : Shape := ⟨2, ![256, 640]⟩
abbrev S1x256x640 : Shape := ⟨3, ![1, 256, 640]⟩

abbrev nBuf : Space → Nat
  | .hbm => 8
  | .vmem => 16
  | .smem => 0
  | _ => 0

abbrev bufTy : (tb : Table) → Fin (tcTables nBuf tb) → BufTy
  | .hbm, ⟨0, _⟩ => ⟨S8x2048x640, .bf16⟩
  | .hbm, ⟨1, _⟩ => ⟨S2048x640, .f32⟩
  | .hbm, ⟨2, _⟩ => ⟨S2048x640, .f32⟩
  | .hbm, ⟨3, _⟩ => ⟨S2048x640, .f32⟩
  | .hbm, ⟨4, _⟩ => ⟨S2048x640, .f32⟩
  | .hbm, ⟨5, _⟩ => ⟨S2048x640, .f32⟩
  | .hbm, ⟨6, _⟩ => ⟨S2048x640, .f32⟩
  | .hbm, ⟨7, _⟩ => ⟨S2048x640, .f32⟩
  | .local _ .vmem, ⟨0, _⟩ => ⟨S8x256x640, .bf16⟩
  | .local _ .vmem, ⟨1, _⟩ => ⟨S8x256x640, .bf16⟩
  | .local _ .vmem, ⟨2, _⟩ => ⟨S256x640, .f32⟩
  | .local _ .vmem, ⟨3, _⟩ => ⟨S256x640, .f32⟩
  | .local _ .vmem, ⟨4, _⟩ => ⟨S256x640, .f32⟩
  | .local _ .vmem, ⟨5, _⟩ => ⟨S256x640, .f32⟩
  | .local _ .vmem, ⟨6, _⟩ => ⟨S256x640, .f32⟩
  | .local _ .vmem, ⟨7, _⟩ => ⟨S256x640, .f32⟩
  | .local _ .vmem, ⟨8, _⟩ => ⟨S256x640, .f32⟩
  | .local _ .vmem, ⟨9, _⟩ => ⟨S256x640, .f32⟩
  | .local _ .vmem, ⟨10, _⟩ => ⟨S256x640, .f32⟩
  | .local _ .vmem, ⟨11, _⟩ => ⟨S256x640, .f32⟩
  | .local _ .vmem, ⟨12, _⟩ => ⟨S256x640, .f32⟩
  | .local _ .vmem, ⟨13, _⟩ => ⟨S256x640, .f32⟩
  | .local _ .vmem, ⟨14, _⟩ => ⟨S256x640, .f32⟩
  | .local _ .vmem, ⟨15, _⟩ => ⟨S256x640, .f32⟩
  | _, _ => ⟨S8x2048x640, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x256x640 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x640 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x640 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x640 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x640 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x640 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x640 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x640 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamInIdeal.lean ====
abbrev S8x2048x640 : Shape := ⟨3, ![8, 2048, 640]⟩
abbrev S2048x640 : Shape := ⟨2, ![2048, 640]⟩
abbrev S8x256x640 : Shape := ⟨3, ![8, 256, 640]⟩
abbrev S256x640 : Shape := ⟨2, ![256, 640]⟩
abbrev S1x256x640 : Shape := ⟨3, ![1, 256, 640]⟩

abbrev nBuf : Space → Nat
  | .hbm => 8
  | .vmem => 16
  | .smem => 0
  | _ => 0

abbrev bufTy : (tb : Table) → Fin (tcTables nBuf tb) → BufTy
  | .hbm, ⟨0, _⟩ => ⟨S8x2048x640, .bf16⟩
  | .hbm, ⟨1, _⟩ => ⟨S2048x640, .f32⟩
  | .hbm, ⟨2, _⟩ => ⟨S2048x640, .f32⟩
  | .hbm, ⟨3, _⟩ => ⟨S2048x640, .f32⟩
  | .hbm, ⟨4, _⟩ => ⟨S2048x640, .f32⟩
  | .hbm, ⟨5, _⟩ => ⟨S2048x640, .f32⟩
  | .hbm, ⟨6, _⟩ => ⟨S2048x640, .f32⟩
  | .hbm, ⟨7, _⟩ => ⟨S2048x640, .f32⟩
  | .local _ .vmem, ⟨0, _⟩ => ⟨S8x256x640, .bf16⟩
  | .local _ .vmem, ⟨1, _⟩ => ⟨S8x256x640, .bf16⟩
  | .local _ .vmem, ⟨2, _⟩ => ⟨S256x640, .f32⟩
  | .local _ .vmem, ⟨3, _⟩ => ⟨S256x640, .f32⟩
  | .local _ .vmem, ⟨4, _⟩ => ⟨S256x640, .f32⟩
  | .local _ .vmem, ⟨5, _⟩ => ⟨S256x640, .f32⟩
  | .local _ .vmem, ⟨6, _⟩ => ⟨S256x640, .f32⟩
  | .local _ .vmem, ⟨7, _⟩ => ⟨S256x640, .f32⟩
  | .local _ .vmem, ⟨8, _⟩ => ⟨S256x640, .f32⟩
  | .local _ .vmem, ⟨9, _⟩ => ⟨S256x640, .f32⟩
  | .local _ .vmem, ⟨10, _⟩ => ⟨S256x640, .f32⟩
  | .local _ .vmem, ⟨11, _⟩ => ⟨S256x640, .f32⟩
  | .local _ .vmem, ⟨12, _⟩ => ⟨S256x640, .f32⟩
  | .local _ .vmem, ⟨13, _⟩ => ⟨S256x640, .f32⟩
  | .local _ .vmem, ⟨14, _⟩ => ⟨S256x640, .f32⟩
  | .local _ .vmem, ⟨15, _⟩ => ⟨S256x640, .f32⟩
  | _, _ => ⟨S8x2048x640, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x256x640 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x640 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x640 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x640 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x640 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x640 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x640 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x640 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamInReferenceIdeal.lean ====
abbrev S8x2048x640 : Shape := ⟨3, ![8, 2048, 640]⟩
abbrev S2048x640 : Shape := ⟨2, ![2048, 640]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x2048x640, .bf16⟩
  | .hbm, ⟨1, _⟩ => ⟨S2048x640, .f32⟩
  | .hbm, ⟨2, _⟩ => ⟨S2048x640, .f32⟩
  | .hbm, ⟨3, _⟩ => ⟨S2048x640, .f32⟩
  | .hbm, ⟨4, _⟩ => ⟨S8x2048x640, .f32⟩
  | .hbm, ⟨5, _⟩ => ⟨S_, .f32⟩
  | .hbm, ⟨6, _⟩ => ⟨S2048x640, .f32⟩
  | .hbm, ⟨7, _⟩ => ⟨S_, .f32⟩
  | .hbm, ⟨8, _⟩ => ⟨S2048x640, .f32⟩
  | .hbm, ⟨9, _⟩ => ⟨S2048x640, .f32⟩
  | .hbm, ⟨10, _⟩ => ⟨S_, .f32⟩
  | .hbm, ⟨11, _⟩ => ⟨S2048x640, .f32⟩
  | .hbm, ⟨12, _⟩ => ⟨S2048x640, .f32⟩
  | .hbm, ⟨13, _⟩ => ⟨S2048x640, .f32⟩
  | .hbm, ⟨14, _⟩ => ⟨S_, .f32⟩
  | .hbm, ⟨15, _⟩ => ⟨S2048x640, .f32⟩
  | .hbm, ⟨16, _⟩ => ⟨S2048x640, .f32⟩
  | .hbm, ⟨17, _⟩ => ⟨S2048x640, .f32⟩
  | .hbm, ⟨18, _⟩ => ⟨S_, .f32⟩
  | .hbm, ⟨19, _⟩ => ⟨S2048x640, .f32⟩
  | .hbm, ⟨20, _⟩ => ⟨S2048x640, .f32⟩
  | .hbm, ⟨21, _⟩ => ⟨S2048x640, .f32⟩
  | .hbm, ⟨22, _⟩ => ⟨S_, .f32⟩
  | .hbm, ⟨23, _⟩ => ⟨S2048x640, .f32⟩
  | .hbm, ⟨24, _⟩ => ⟨S2048x640, .f32⟩
  | .hbm, ⟨25, _⟩ => ⟨S_, .f32⟩
  | .hbm, ⟨26, _⟩ => ⟨S2048x640, .f32⟩
  | .hbm, ⟨27, _⟩ => ⟨S2048x640, .f32⟩
  | .hbm, ⟨28, _⟩ => ⟨S2048x640, .f32⟩
  | .hbm, ⟨29, _⟩ => ⟨S_, .f32⟩
  | .hbm, ⟨30, _⟩ => ⟨S2048x640, .f32⟩
  | .hbm, ⟨31, _⟩ => ⟨S2048x640, .f32⟩
  | .hbm, ⟨32, _⟩ => ⟨S2048x640, .f32⟩
  | .hbm, ⟨33, _⟩ => ⟨S_, .f32⟩
  | .hbm, ⟨34, _⟩ => ⟨S2048x640, .f32⟩
  | .hbm, ⟨35, _⟩ => ⟨S2048x640, .f32⟩
  | .hbm, ⟨36, _⟩ => ⟨S2048x640, .f32⟩
  | .hbm, ⟨37, _⟩ => ⟨S_, .f32⟩
  | .hbm, ⟨38, _⟩ => ⟨S2048x640, .f32⟩
  | .hbm, ⟨39, _⟩ => ⟨S2048x640, .f32⟩
  | _, _ => ⟨S8x2048x640, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== AdamGlu.lean ====
abbrev S8x128x1024 : Shape := ⟨3, ![8, 128, 1024]⟩
abbrev S128x1024 : Shape := ⟨2, ![128, 1024]⟩
abbrev S1x128x1024 : Shape := ⟨3, ![1, 128, 1024]⟩

abbrev nBuf : Space → Nat
  | .hbm => 8
  | .vmem => 8
  | .smem => 0
  | _ => 0

abbrev bufTy : (tb : Table) → Fin (tcTables nBuf tb) → BufTy
  | .hbm, ⟨0, _⟩ => ⟨S8x128x1024, .bf16⟩
  | .hbm, ⟨1, _⟩ => ⟨S128x1024, .f32⟩
  | .hbm, ⟨2, _⟩ => ⟨S128x1024, .f32⟩
  | .hbm, ⟨3, _⟩ => ⟨S128x1024, .f32⟩
  | .hbm, ⟨4, _⟩ => ⟨S128x1024, .f32⟩
  | .hbm, ⟨5, _⟩ => ⟨S128x1024, .f32⟩
  | .hbm, ⟨6, _⟩ => ⟨S128x1024, .f32⟩
  | .hbm, ⟨7, _⟩ => ⟨S128x1024, .f32⟩
  | .local _ .vmem, ⟨0, _⟩ => ⟨S8x128x1024, .bf16⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | _, _ => ⟨S8x128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x128x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamGluIdeal.lean ====
abbrev S8x128x1024 : Shape := ⟨3, ![8, 128, 1024]⟩
abbrev S128x1024 : Shape := ⟨2, ![128, 1024]⟩
abbrev S1x128x1024 : Shape := ⟨3, ![1, 128, 1024]⟩

abbrev nBuf : Space → Nat
  | .hbm => 8
  | .vmem => 8
  | .smem => 0
  | _ => 0

abbrev bufTy : (tb : Table) → Fin (tcTables nBuf tb) → BufTy
  | .hbm, ⟨0, _⟩ => ⟨S8x128x1024, .bf16⟩
  | .hbm, ⟨1, _⟩ => ⟨S128x1024, .f32⟩
  | .hbm, ⟨2, _⟩ => ⟨S128x1024, .f32⟩
  | .hbm, ⟨3, _⟩ => ⟨S128x1024, .f32⟩
  | .hbm, ⟨4, _⟩ => ⟨S128x1024, .f32⟩
  | .hbm, ⟨5, _⟩ => ⟨S128x1024, .f32⟩
  | .hbm, ⟨6, _⟩ => ⟨S128x1024, .f32⟩
  | .hbm, ⟨7, _⟩ => ⟨S128x1024, .f32⟩
  | .local _ .vmem, ⟨0, _⟩ => ⟨S8x128x1024, .bf16⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | _, _ => ⟨S8x128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x128x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamGluReferenceIdeal.lean ====
abbrev S8x128x1024 : Shape := ⟨3, ![8, 128, 1024]⟩
abbrev S128x1024 : Shape := ⟨2, ![128, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x128x1024, .bf16⟩
  | .hbm, ⟨1, _⟩ => ⟨S128x1024, .f32⟩
  | .hbm, ⟨2, _⟩ => ⟨S128x1024, .f32⟩
  | .hbm, ⟨3, _⟩ => ⟨S128x1024, .f32⟩
  | .hbm, ⟨4, _⟩ => ⟨S8x128x1024, .f32⟩
  | .hbm, ⟨5, _⟩ => ⟨S_, .f32⟩
  | .hbm, ⟨6, _⟩ => ⟨S128x1024, .f32⟩
  | .hbm, ⟨7, _⟩ => ⟨S_, .f32⟩
  | .hbm, ⟨8, _⟩ => ⟨S128x1024, .f32⟩
  | .hbm, ⟨9, _⟩ => ⟨S128x1024, .f32⟩
  | .hbm, ⟨10, _⟩ => ⟨S_, .f32⟩
  | .hbm, ⟨11, _⟩ => ⟨S128x1024, .f32⟩
  | .hbm, ⟨12, _⟩ => ⟨S128x1024, .f32⟩
  | .hbm, ⟨13, _⟩ => ⟨S128x1024, .f32⟩
  | .hbm, ⟨14, _⟩ => ⟨S_, .f32⟩
  | .hbm, ⟨15, _⟩ => ⟨S128x1024, .f32⟩
  | .hbm, ⟨16, _⟩ => ⟨S128x1024, .f32⟩
  | .hbm, ⟨17, _⟩ => ⟨S128x1024, .f32⟩
  | .hbm, ⟨18, _⟩ => ⟨S_, .f32⟩
  | .hbm, ⟨19, _⟩ => ⟨S128x1024, .f32⟩
  | .hbm, ⟨20, _⟩ => ⟨S128x1024, .f32⟩
  | .hbm, ⟨21, _⟩ => ⟨S128x1024, .f32⟩
  | .hbm, ⟨22, _⟩ => ⟨S_, .f32⟩
  | .hbm, ⟨23, _⟩ => ⟨S128x1024, .f32⟩
  | .hbm, ⟨24, _⟩ => ⟨S128x1024, .f32⟩
  | .hbm, ⟨25, _⟩ => ⟨S_, .f32⟩
  | .hbm, ⟨26, _⟩ => ⟨S128x1024, .f32⟩
  | .hbm, ⟨27, _⟩ => ⟨S128x1024, .f32⟩
  | .hbm, ⟨28, _⟩ => ⟨S128x1024, .f32⟩
  | .hbm, ⟨29, _⟩ => ⟨S_, .f32⟩
  | .hbm, ⟨30, _⟩ => ⟨S128x1024, .f32⟩
  | .hbm, ⟨31, _⟩ => ⟨S128x1024, .f32⟩
  | .hbm, ⟨32, _⟩ => ⟨S128x1024, .f32⟩
  | .hbm, ⟨33, _⟩ => ⟨S_, .f32⟩
  | .hbm, ⟨34, _⟩ => ⟨S128x1024, .f32⟩
  | .hbm, ⟨35, _⟩ => ⟨S128x1024, .f32⟩
  | .hbm, ⟨36, _⟩ => ⟨S128x1024, .f32⟩
  | .hbm, ⟨37, _⟩ => ⟨S_, .f32⟩
  | .hbm, ⟨38, _⟩ => ⟨S128x1024, .f32⟩
  | .hbm, ⟨39, _⟩ => ⟨S128x1024, .f32⟩
  | _, _ => ⟨S8x128x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== AdamOut.lean ====
abbrev S8x256x2048 : Shape := ⟨3, ![8, 256, 2048]⟩
abbrev S256x2048 : Shape := ⟨2, ![256, 2048]⟩
abbrev S8x128x2048 : Shape := ⟨3, ![8, 128, 2048]⟩
abbrev S128x2048 : Shape := ⟨2, ![128, 2048]⟩
abbrev S1x128x2048 : Shape := ⟨3, ![1, 128, 2048]⟩

abbrev nBuf : Space → Nat
  | .hbm => 8
  | .vmem => 16
  | .smem => 0
  | _ => 0

abbrev bufTy : (tb : Table) → Fin (tcTables nBuf tb) → BufTy
  | .hbm, ⟨0, _⟩ => ⟨S8x256x2048, .bf16⟩
  | .hbm, ⟨1, _⟩ => ⟨S256x2048, .f32⟩
  | .hbm, ⟨2, _⟩ => ⟨S256x2048, .f32⟩
  | .hbm, ⟨3, _⟩ => ⟨S256x2048, .f32⟩
  | .hbm, ⟨4, _⟩ => ⟨S256x2048, .f32⟩
  | .hbm, ⟨5, _⟩ => ⟨S256x2048, .f32⟩
  | .hbm, ⟨6, _⟩ => ⟨S256x2048, .f32⟩
  | .hbm, ⟨7, _⟩ => ⟨S256x2048, .f32⟩
  | .local _ .vmem, ⟨0, _⟩ => ⟨S8x128x2048, .bf16⟩
  | .local _ .vmem, ⟨1, _⟩ => ⟨S8x128x2048, .bf16⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S128x2048, .f32⟩
  | .local _ .vmem, ⟨7, _⟩ => ⟨S128x2048, .f32⟩
  | .local _ .vmem, ⟨8, _⟩ => ⟨S128x2048, .f32⟩
  | .local _ .vmem, ⟨9, _⟩ => ⟨S128x2048, .f32⟩
  | .local _ .vmem, ⟨10, _⟩ => ⟨S128x2048, .f32⟩
  | .local _ .vmem, ⟨11, _⟩ => ⟨S128x2048, .f32⟩
  | .local _ .vmem, ⟨12, _⟩ => ⟨S128x2048, .f32⟩
  | .local _ .vmem, ⟨13, _⟩ => ⟨S128x2048, .f32⟩
  | .local _ .vmem, ⟨14, _⟩ => ⟨S128x2048, .f32⟩
  | .local _ .vmem, ⟨15, _⟩ => ⟨S128x2048, .f32⟩
  | _, _ => ⟨S8x256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x128x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamOutIdeal.lean ====
abbrev S8x256x2048 : Shape := ⟨3, ![8, 256, 2048]⟩
abbrev S256x2048 : Shape := ⟨2, ![256, 2048]⟩
abbrev S8x128x2048 : Shape := ⟨3, ![8, 128, 2048]⟩
abbrev S128x2048 : Shape := ⟨2, ![128, 2048]⟩
abbrev S1x128x2048 : Shape := ⟨3, ![1, 128, 2048]⟩

abbrev nBuf : Space → Nat
  | .hbm => 8
  | .vmem => 16
  | .smem => 0
  | _ => 0

abbrev bufTy : (tb : Table) → Fin (tcTables nBuf tb) → BufTy
  | .hbm, ⟨0, _⟩ => ⟨S8x256x2048, .bf16⟩
  | .hbm, ⟨1, _⟩ => ⟨S256x2048, .f32⟩
  | .hbm, ⟨2, _⟩ => ⟨S256x2048, .f32⟩
  | .hbm, ⟨3, _⟩ => ⟨S256x2048, .f32⟩
  | .hbm, ⟨4, _⟩ => ⟨S256x2048, .f32⟩
  | .hbm, ⟨5, _⟩ => ⟨S256x2048, .f32⟩
  | .hbm, ⟨6, _⟩ => ⟨S256x2048, .f32⟩
  | .hbm, ⟨7, _⟩ => ⟨S256x2048, .f32⟩
  | .local _ .vmem, ⟨0, _⟩ => ⟨S8x128x2048, .bf16⟩
  | .local _ .vmem, ⟨1, _⟩ => ⟨S8x128x2048, .bf16⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S128x2048, .f32⟩
  | .local _ .vmem, ⟨7, _⟩ => ⟨S128x2048, .f32⟩
  | .local _ .vmem, ⟨8, _⟩ => ⟨S128x2048, .f32⟩
  | .local _ .vmem, ⟨9, _⟩ => ⟨S128x2048, .f32⟩
  | .local _ .vmem, ⟨10, _⟩ => ⟨S128x2048, .f32⟩
  | .local _ .vmem, ⟨11, _⟩ => ⟨S128x2048, .f32⟩
  | .local _ .vmem, ⟨12, _⟩ => ⟨S128x2048, .f32⟩
  | .local _ .vmem, ⟨13, _⟩ => ⟨S128x2048, .f32⟩
  | .local _ .vmem, ⟨14, _⟩ => ⟨S128x2048, .f32⟩
  | .local _ .vmem, ⟨15, _⟩ => ⟨S128x2048, .f32⟩
  | _, _ => ⟨S8x256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x128x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamOutReferenceIdeal.lean ====
abbrev S8x256x2048 : Shape := ⟨3, ![8, 256, 2048]⟩
abbrev S256x2048 : Shape := ⟨2, ![256, 2048]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x256x2048, .bf16⟩
  | .hbm, ⟨1, _⟩ => ⟨S256x2048, .f32⟩
  | .hbm, ⟨2, _⟩ => ⟨S256x2048, .f32⟩
  | .hbm, ⟨3, _⟩ => ⟨S256x2048, .f32⟩
  | .hbm, ⟨4, _⟩ => ⟨S8x256x2048, .f32⟩
  | .hbm, ⟨5, _⟩ => ⟨S_, .f32⟩
  | .hbm, ⟨6, _⟩ => ⟨S256x2048, .f32⟩
  | .hbm, ⟨7, _⟩ => ⟨S_, .f32⟩
  | .hbm, ⟨8, _⟩ => ⟨S256x2048, .f32⟩
  | .hbm, ⟨9, _⟩ => ⟨S256x2048, .f32⟩
  | .hbm, ⟨10, _⟩ => ⟨S_, .f32⟩
  | .hbm, ⟨11, _⟩ => ⟨S256x2048, .f32⟩
  | .hbm, ⟨12, _⟩ => ⟨S256x2048, .f32⟩
  | .hbm, ⟨13, _⟩ => ⟨S256x2048, .f32⟩
  | .hbm, ⟨14, _⟩ => ⟨S_, .f32⟩
  | .hbm, ⟨15, _⟩ => ⟨S256x2048, .f32⟩
  | .hbm, ⟨16, _⟩ => ⟨S256x2048, .f32⟩
  | .hbm, ⟨17, _⟩ => ⟨S256x2048, .f32⟩
  | .hbm, ⟨18, _⟩ => ⟨S_, .f32⟩
  | .hbm, ⟨19, _⟩ => ⟨S256x2048, .f32⟩
  | .hbm, ⟨20, _⟩ => ⟨S256x2048, .f32⟩
  | .hbm, ⟨21, _⟩ => ⟨S256x2048, .f32⟩
  | .hbm, ⟨22, _⟩ => ⟨S_, .f32⟩
  | .hbm, ⟨23, _⟩ => ⟨S256x2048, .f32⟩
  | .hbm, ⟨24, _⟩ => ⟨S256x2048, .f32⟩
  | .hbm, ⟨25, _⟩ => ⟨S_, .f32⟩
  | .hbm, ⟨26, _⟩ => ⟨S256x2048, .f32⟩
  | .hbm, ⟨27, _⟩ => ⟨S256x2048, .f32⟩
  | .hbm, ⟨28, _⟩ => ⟨S256x2048, .f32⟩
  | .hbm, ⟨29, _⟩ => ⟨S_, .f32⟩
  | .hbm, ⟨30, _⟩ => ⟨S256x2048, .f32⟩
  | .hbm, ⟨31, _⟩ => ⟨S256x2048, .f32⟩
  | .hbm, ⟨32, _⟩ => ⟨S256x2048, .f32⟩
  | .hbm, ⟨33, _⟩ => ⟨S_, .f32⟩
  | .hbm, ⟨34, _⟩ => ⟨S256x2048, .f32⟩
  | .hbm, ⟨35, _⟩ => ⟨S256x2048, .f32⟩
  | .hbm, ⟨36, _⟩ => ⟨S256x2048, .f32⟩
  | .hbm, ⟨37, _⟩ => ⟨S_, .f32⟩
  | .hbm, ⟨38, _⟩ => ⟨S256x2048, .f32⟩
  | .hbm, ⟨39, _⟩ => ⟨S256x2048, .f32⟩
  | _, _ => ⟨S8x256x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== AdamGate.lean ====
abbrev S8x2048x704 : Shape := ⟨3, ![8, 2048, 704]⟩
abbrev S2048x704 : Shape := ⟨2, ![2048, 704]⟩
abbrev S8x256x704 : Shape := ⟨3, ![8, 256, 704]⟩
abbrev S256x704 : Shape := ⟨2, ![256, 704]⟩
abbrev S1x256x704 : Shape := ⟨3, ![1, 256, 704]⟩

abbrev nBuf : Space → Nat
  | .hbm => 8
  | .vmem => 16
  | .smem => 0
  | _ => 0

abbrev bufTy : (tb : Table) → Fin (tcTables nBuf tb) → BufTy
  | .hbm, ⟨0, _⟩ => ⟨S8x2048x704, .bf16⟩
  | .hbm, ⟨1, _⟩ => ⟨S2048x704, .f32⟩
  | .hbm, ⟨2, _⟩ => ⟨S2048x704, .f32⟩
  | .hbm, ⟨3, _⟩ => ⟨S2048x704, .f32⟩
  | .hbm, ⟨4, _⟩ => ⟨S2048x704, .f32⟩
  | .hbm, ⟨5, _⟩ => ⟨S2048x704, .f32⟩
  | .hbm, ⟨6, _⟩ => ⟨S2048x704, .f32⟩
  | .hbm, ⟨7, _⟩ => ⟨S2048x704, .f32⟩
  | .local _ .vmem, ⟨0, _⟩ => ⟨S8x256x704, .bf16⟩
  | .local _ .vmem, ⟨1, _⟩ => ⟨S8x256x704, .bf16⟩
  | .local _ .vmem, ⟨2, _⟩ => ⟨S256x704, .f32⟩
  | .local _ .vmem, ⟨3, _⟩ => ⟨S256x704, .f32⟩
  | .local _ .vmem, ⟨4, _⟩ => ⟨S256x704, .f32⟩
  | .local _ .vmem, ⟨5, _⟩ => ⟨S256x704, .f32⟩
  | .local _ .vmem, ⟨6, _⟩ => ⟨S256x704, .f32⟩
  | .local _ .vmem, ⟨7, _⟩ => ⟨S256x704, .f32⟩
  | .local _ .vmem, ⟨8, _⟩ => ⟨S256x704, .f32⟩
  | .local _ .vmem, ⟨9, _⟩ => ⟨S256x704, .f32⟩
  | .local _ .vmem, ⟨10, _⟩ => ⟨S256x704, .f32⟩
  | .local _ .vmem, ⟨11, _⟩ => ⟨S256x704, .f32⟩
  | .local _ .vmem, ⟨12, _⟩ => ⟨S256x704, .f32⟩
  | .local _ .vmem, ⟨13, _⟩ => ⟨S256x704, .f32⟩
  | .local _ .vmem, ⟨14, _⟩ => ⟨S256x704, .f32⟩
  | .local _ .vmem, ⟨15, _⟩ => ⟨S256x704, .f32⟩
  | _, _ => ⟨S8x2048x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x256x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x704 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x704 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x704 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x704 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x704 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x704 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamGateIdeal.lean ====
abbrev S8x2048x704 : Shape := ⟨3, ![8, 2048, 704]⟩
abbrev S2048x704 : Shape := ⟨2, ![2048, 704]⟩
abbrev S8x256x704 : Shape := ⟨3, ![8, 256, 704]⟩
abbrev S256x704 : Shape := ⟨2, ![256, 704]⟩
abbrev S1x256x704 : Shape := ⟨3, ![1, 256, 704]⟩

abbrev nBuf : Space → Nat
  | .hbm => 8
  | .vmem => 16
  | .smem => 0
  | _ => 0

abbrev bufTy : (tb : Table) → Fin (tcTables nBuf tb) → BufTy
  | .hbm, ⟨0, _⟩ => ⟨S8x2048x704, .bf16⟩
  | .hbm, ⟨1, _⟩ => ⟨S2048x704, .f32⟩
  | .hbm, ⟨2, _⟩ => ⟨S2048x704, .f32⟩
  | .hbm, ⟨3, _⟩ => ⟨S2048x704, .f32⟩
  | .hbm, ⟨4, _⟩ => ⟨S2048x704, .f32⟩
  | .hbm, ⟨5, _⟩ => ⟨S2048x704, .f32⟩
  | .hbm, ⟨6, _⟩ => ⟨S2048x704, .f32⟩
  | .hbm, ⟨7, _⟩ => ⟨S2048x704, .f32⟩
  | .local _ .vmem, ⟨0, _⟩ => ⟨S8x256x704, .bf16⟩
  | .local _ .vmem, ⟨1, _⟩ => ⟨S8x256x704, .bf16⟩
  | .local _ .vmem, ⟨2, _⟩ => ⟨S256x704, .f32⟩
  | .local _ .vmem, ⟨3, _⟩ => ⟨S256x704, .f32⟩
  | .local _ .vmem, ⟨4, _⟩ => ⟨S256x704, .f32⟩
  | .local _ .vmem, ⟨5, _⟩ => ⟨S256x704, .f32⟩
  | .local _ .vmem, ⟨6, _⟩ => ⟨S256x704, .f32⟩
  | .local _ .vmem, ⟨7, _⟩ => ⟨S256x704, .f32⟩
  | .local _ .vmem, ⟨8, _⟩ => ⟨S256x704, .f32⟩
  | .local _ .vmem, ⟨9, _⟩ => ⟨S256x704, .f32⟩
  | .local _ .vmem, ⟨10, _⟩ => ⟨S256x704, .f32⟩
  | .local _ .vmem, ⟨11, _⟩ => ⟨S256x704, .f32⟩
  | .local _ .vmem, ⟨12, _⟩ => ⟨S256x704, .f32⟩
  | .local _ .vmem, ⟨13, _⟩ => ⟨S256x704, .f32⟩
  | .local _ .vmem, ⟨14, _⟩ => ⟨S256x704, .f32⟩
  | .local _ .vmem, ⟨15, _⟩ => ⟨S256x704, .f32⟩
  | _, _ => ⟨S8x2048x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x256x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x704 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x704 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x704 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x704 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x704 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x704 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamGateReferenceIdeal.lean ====
abbrev S8x2048x704 : Shape := ⟨3, ![8, 2048, 704]⟩
abbrev S2048x704 : Shape := ⟨2, ![2048, 704]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x2048x704, .bf16⟩
  | .hbm, ⟨1, _⟩ => ⟨S2048x704, .f32⟩
  | .hbm, ⟨2, _⟩ => ⟨S2048x704, .f32⟩
  | .hbm, ⟨3, _⟩ => ⟨S2048x704, .f32⟩
  | .hbm, ⟨4, _⟩ => ⟨S8x2048x704, .f32⟩
  | .hbm, ⟨5, _⟩ => ⟨S_, .f32⟩
  | .hbm, ⟨6, _⟩ => ⟨S2048x704, .f32⟩
  | .hbm, ⟨7, _⟩ => ⟨S_, .f32⟩
  | .hbm, ⟨8, _⟩ => ⟨S2048x704, .f32⟩
  | .hbm, ⟨9, _⟩ => ⟨S2048x704, .f32⟩
  | .hbm, ⟨10, _⟩ => ⟨S_, .f32⟩
  | .hbm, ⟨11, _⟩ => ⟨S2048x704, .f32⟩
  | .hbm, ⟨12, _⟩ => ⟨S2048x704, .f32⟩
  | .hbm, ⟨13, _⟩ => ⟨S2048x704, .f32⟩
  | .hbm, ⟨14, _⟩ => ⟨S_, .f32⟩
  | .hbm, ⟨15, _⟩ => ⟨S2048x704, .f32⟩
  | .hbm, ⟨16, _⟩ => ⟨S2048x704, .f32⟩
  | .hbm, ⟨17, _⟩ => ⟨S2048x704, .f32⟩
  | .hbm, ⟨18, _⟩ => ⟨S_, .f32⟩
  | .hbm, ⟨19, _⟩ => ⟨S2048x704, .f32⟩
  | .hbm, ⟨20, _⟩ => ⟨S2048x704, .f32⟩
  | .hbm, ⟨21, _⟩ => ⟨S2048x704, .f32⟩
  | .hbm, ⟨22, _⟩ => ⟨S_, .f32⟩
  | .hbm, ⟨23, _⟩ => ⟨S2048x704, .f32⟩
  | .hbm, ⟨24, _⟩ => ⟨S2048x704, .f32⟩
  | .hbm, ⟨25, _⟩ => ⟨S_, .f32⟩
  | .hbm, ⟨26, _⟩ => ⟨S2048x704, .f32⟩
  | .hbm, ⟨27, _⟩ => ⟨S2048x704, .f32⟩
  | .hbm, ⟨28, _⟩ => ⟨S2048x704, .f32⟩
  | .hbm, ⟨29, _⟩ => ⟨S_, .f32⟩
  | .hbm, ⟨30, _⟩ => ⟨S2048x704, .f32⟩
  | .hbm, ⟨31, _⟩ => ⟨S2048x704, .f32⟩
  | .hbm, ⟨32, _⟩ => ⟨S2048x704, .f32⟩
  | .hbm, ⟨33, _⟩ => ⟨S_, .f32⟩
  | .hbm, ⟨34, _⟩ => ⟨S2048x704, .f32⟩
  | .hbm, ⟨35, _⟩ => ⟨S2048x704, .f32⟩
  | .hbm, ⟨36, _⟩ => ⟨S2048x704, .f32⟩
  | .hbm, ⟨37, _⟩ => ⟨S_, .f32⟩
  | .hbm, ⟨38, _⟩ => ⟨S2048x704, .f32⟩
  | .hbm, ⟨39, _⟩ => ⟨S2048x704, .f32⟩
  | _, _ => ⟨S8x2048x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== AdamDown.lean ====
abbrev S8x704x2048 : Shape := ⟨3, ![8, 704, 2048]⟩
abbrev S704x2048 : Shape := ⟨2, ![704, 2048]⟩
abbrev S8x176x2048 : Shape := ⟨3, ![8, 176, 2048]⟩
abbrev S176x2048 : Shape := ⟨2, ![176, 2048]⟩
abbrev S1x176x2048 : Shape := ⟨3, ![1, 176, 2048]⟩

abbrev nBuf : Space → Nat
  | .hbm => 8
  | .vmem => 16
  | .smem => 0
  | _ => 0

abbrev bufTy : (tb : Table) → Fin (tcTables nBuf tb) → BufTy
  | .hbm, ⟨0, _⟩ => ⟨S8x704x2048, .bf16⟩
  | .hbm, ⟨1, _⟩ => ⟨S704x2048, .f32⟩
  | .hbm, ⟨2, _⟩ => ⟨S704x2048, .f32⟩
  | .hbm, ⟨3, _⟩ => ⟨S704x2048, .f32⟩
  | .hbm, ⟨4, _⟩ => ⟨S704x2048, .f32⟩
  | .hbm, ⟨5, _⟩ => ⟨S704x2048, .f32⟩
  | .hbm, ⟨6, _⟩ => ⟨S704x2048, .f32⟩
  | .hbm, ⟨7, _⟩ => ⟨S704x2048, .f32⟩
  | .local _ .vmem, ⟨0, _⟩ => ⟨S8x176x2048, .bf16⟩
  | .local _ .vmem, ⟨1, _⟩ => ⟨S8x176x2048, .bf16⟩
  | .local _ .vmem, ⟨2, _⟩ => ⟨S176x2048, .f32⟩
  | .local _ .vmem, ⟨3, _⟩ => ⟨S176x2048, .f32⟩
  | .local _ .vmem, ⟨4, _⟩ => ⟨S176x2048, .f32⟩
  | .local _ .vmem, ⟨5, _⟩ => ⟨S176x2048, .f32⟩
  | .local _ .vmem, ⟨6, _⟩ => ⟨S176x2048, .f32⟩
  | .local _ .vmem, ⟨7, _⟩ => ⟨S176x2048, .f32⟩
  | .local _ .vmem, ⟨8, _⟩ => ⟨S176x2048, .f32⟩
  | .local _ .vmem, ⟨9, _⟩ => ⟨S176x2048, .f32⟩
  | .local _ .vmem, ⟨10, _⟩ => ⟨S176x2048, .f32⟩
  | .local _ .vmem, ⟨11, _⟩ => ⟨S176x2048, .f32⟩
  | .local _ .vmem, ⟨12, _⟩ => ⟨S176x2048, .f32⟩
  | .local _ .vmem, ⟨13, _⟩ => ⟨S176x2048, .f32⟩
  | .local _ .vmem, ⟨14, _⟩ => ⟨S176x2048, .f32⟩
  | .local _ .vmem, ⟨15, _⟩ => ⟨S176x2048, .f32⟩
  | _, _ => ⟨S8x704x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x176x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S176x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S176x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S176x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S176x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S176x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S176x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S176x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamDownReferenceIdeal.lean ====
abbrev S8x704x2048 : Shape := ⟨3, ![8, 704, 2048]⟩
abbrev S704x2048 : Shape := ⟨2, ![704, 2048]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x704x2048, .bf16⟩
  | .hbm, ⟨1, _⟩ => ⟨S704x2048, .f32⟩
  | .hbm, ⟨2, _⟩ => ⟨S704x2048, .f32⟩
  | .hbm, ⟨3, _⟩ => ⟨S704x2048, .f32⟩
  | .hbm, ⟨4, _⟩ => ⟨S8x704x2048, .f32⟩
  | .hbm, ⟨5, _⟩ => ⟨S_, .f32⟩
  | .hbm, ⟨6, _⟩ => ⟨S704x2048, .f32⟩
  | .hbm, ⟨7, _⟩ => ⟨S_, .f32⟩
  | .hbm, ⟨8, _⟩ => ⟨S704x2048, .f32⟩
  | .hbm, ⟨9, _⟩ => ⟨S704x2048, .f32⟩
  | .hbm, ⟨10, _⟩ => ⟨S_, .f32⟩
  | .hbm, ⟨11, _⟩ => ⟨S704x2048, .f32⟩
  | .hbm, ⟨12, _⟩ => ⟨S704x2048, .f32⟩
  | .hbm, ⟨13, _⟩ => ⟨S704x2048, .f32⟩
  | .hbm, ⟨14, _⟩ => ⟨S_, .f32⟩
  | .hbm, ⟨15, _⟩ => ⟨S704x2048, .f32⟩
  | .hbm, ⟨16, _⟩ => ⟨S704x2048, .f32⟩
  | .hbm, ⟨17, _⟩ => ⟨S704x2048, .f32⟩
  | .hbm, ⟨18, _⟩ => ⟨S_, .f32⟩
  | .hbm, ⟨19, _⟩ => ⟨S704x2048, .f32⟩
  | .hbm, ⟨20, _⟩ => ⟨S704x2048, .f32⟩
  | .hbm, ⟨21, _⟩ => ⟨S704x2048, .f32⟩
  | .hbm, ⟨22, _⟩ => ⟨S_, .f32⟩
  | .hbm, ⟨23, _⟩ => ⟨S704x2048, .f32⟩
  | .hbm, ⟨24, _⟩ => ⟨S704x2048, .f32⟩
  | .hbm, ⟨25, _⟩ => ⟨S_, .f32⟩
  | .hbm, ⟨26, _⟩ => ⟨S704x2048, .f32⟩
  | .hbm, ⟨27, _⟩ => ⟨S704x2048, .f32⟩
  | .hbm, ⟨28, _⟩ => ⟨S704x2048, .f32⟩
  | .hbm, ⟨29, _⟩ => ⟨S_, .f32⟩
  | .hbm, ⟨30, _⟩ => ⟨S704x2048, .f32⟩
  | .hbm, ⟨31, _⟩ => ⟨S704x2048, .f32⟩
  | .hbm, ⟨32, _⟩ => ⟨S704x2048, .f32⟩
  | .hbm, ⟨33, _⟩ => ⟨S_, .f32⟩
  | .hbm, ⟨34, _⟩ => ⟨S704x2048, .f32⟩
  | .hbm, ⟨35, _⟩ => ⟨S704x2048, .f32⟩
  | .hbm, ⟨36, _⟩ => ⟨S704x2048, .f32⟩
  | .hbm, ⟨37, _⟩ => ⟨S_, .f32⟩
  | .hbm, ⟨38, _⟩ => ⟨S704x2048, .f32⟩
  | .hbm, ⟨39, _⟩ => ⟨S704x2048, .f32⟩
  | _, _ => ⟨S8x704x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== ProjBwd.lean ====
abbrev S8192x5120 : Shape := ⟨2, ![8192, 5120]⟩
abbrev S8x2048x640 : Shape := ⟨3, ![8, 2048, 640]⟩
abbrev S8192x2048 : Shape := ⟨2, ![8192, 2048]⟩
abbrev S8192x1 : Shape := ⟨2, ![8192, 1]⟩
abbrev S1x2048 : Shape := ⟨2, ![1, 2048]⟩
abbrev S256x5120 : Shape := ⟨2, ![256, 5120]⟩
abbrev S256x2048 : Shape := ⟨2, ![256, 2048]⟩
abbrev S256x1 : Shape := ⟨2, ![256, 1]⟩
abbrev S_ : Shape := ⟨0, ![]⟩
abbrev S1x7 : Shape := ⟨2, ![1, 7]⟩
abbrev S1 : Shape := ⟨1, ![1]⟩
abbrev S1x2048x640 : Shape := ⟨3, ![1, 2048, 640]⟩
abbrev S2048x640 : Shape := ⟨2, ![2048, 640]⟩
abbrev S1x1 : Shape := ⟨2, ![1, 1]⟩
abbrev S256x640 : Shape := ⟨2, ![256, 640]⟩
abbrev S256 : Shape := ⟨1, ![256]⟩
abbrev S2048 : Shape := ⟨1, ![2048]⟩

abbrev nBuf : Space → Nat
  | .hbm => 10
  | .vmem => 13
  | .smem => 0
  | _ => 0

abbrev bufTy : (tb : Table) → Fin (tcTables nBuf tb) → BufTy
  | .hbm, ⟨0, _⟩ => ⟨S8192x5120, .bf16⟩
  | .hbm, ⟨1, _⟩ => ⟨S8x2048x640, .bf16⟩
  | .hbm, ⟨2, _⟩ => ⟨S8192x2048, .f32⟩
  | .hbm, ⟨3, _⟩ => ⟨S8192x1, .f32⟩
  | .hbm, ⟨4, _⟩ => ⟨S1x2048, .f32⟩
  | .hbm, ⟨5, _⟩ => ⟨S8192x2048, .f32⟩
  | .hbm, ⟨6, _⟩ => ⟨S8x2048x640, .bf16⟩
  | .hbm, ⟨7, _⟩ => ⟨S8192x2048, .f32⟩
  | .hbm, ⟨8, _⟩ => ⟨S1x2048, .f32⟩
  | .hbm, ⟨9, _⟩ => ⟨S8x2048x640, .bf16⟩
  | .local _ .vmem, ⟨0, _⟩ => ⟨S256x5120, .bf16⟩
  | .local _ .vmem, ⟨1, _⟩ => ⟨S256x5120, .bf16⟩
  | .local _ .vmem, ⟨2, _⟩ => ⟨S256x2048, .f32⟩
  | .local _ .vmem, ⟨3, _⟩ => ⟨S256x2048, .f32⟩
  | .local _ .vmem, ⟨4, _⟩ => ⟨S256x1, .f32⟩
  | .local _ .vmem, ⟨5, _⟩ => ⟨S256x1, .f32⟩
  | .local _ .vmem, ⟨6, _⟩ => ⟨S1x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S1x2048, .f32⟩
  | .local _ .vmem, ⟨12, _⟩ => ⟨S8x2048x640, .bf16⟩
  | _, _ => ⟨S8192x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v1_0 : Ref sig .tc := ⟨.hbm, 7, rfl⟩
abbrev main_v1_1 : Ref sig .tc := ⟨.hbm, 8, rfl⟩
abbrev main_v1_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 8
abbrev τ : Topo := Topo.v7x

variable {F : FTy → Type} [FloatOps F]

abbrev grid0 : Pipeline.Grid := ⟨1, ![32], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v2 : BitVec 32 := Scalar.extui v0
  let c0_i32_0 : BitVec 32 := 0#32
  let v3 : BitVec 1 := Scalar.cmpi .ne v2 c0_i32_0
  v3

def k0_off1 (d91 : Dev nD) : Fin 3 → Nat :=
  let c4_i32_53 : BitVec 32 := 4#32
  let v91 : BitVec 32 := Dev.word d91
  let c4_i32 : BitVec 32 := 4#32
  let v92 : BitVec 32 := Scalar.divsi v91 c4_i32
  let c2_i32 : BitVec 32 := 2#32
  let v93 : BitVec 32 := Scalar.remsi v92 c2_i32
  let v94 : BitVec 32 := Scalar.muli c4_i32_53 v93
  let c2_i32_56 : BitVec 32 := 2#32
  let v95 : BitVec 32 := Dev.word d91
  let c2_i32_55 : BitVec 32 := 2#32
  let v96 : BitVec 32 := Scalar.divsi v95 c2_i32_55
  let c2_i32_54 : BitVec 32 := 2#32
  let v97 : BitVec 32 := Scalar.remsi v96 c2_i32_54
  let v98 : BitVec 32 := Scalar.muli c2_i32_56 v97
  let v99 : BitVec 32 := Scalar.addi v94 v98
  let v100 : BitVec 32 := Dev.word d91
  let c1_i32 : BitVec 32 := 1#32
  let v101 : BitVec 32 := Scalar.divsi v100 c1_i32
  let c2_i32_57 : BitVec 32 := 2#32
  let v102 : BitVec 32 := Scalar.remsi v101 c2_i32_57
  let v103 : BitVec 32 := Scalar.addi v99 v102
  let c0_i32_136 : BitVec 32 := 0#32
  let c0_i32_137 : BitVec 32 := 0#32
  ![v103.toNat, 0, 0]
def k0_off2 (d91 : Dev nD) (c0_i32_60 : BitVec 32) (c0_i32_63 : BitVec 32) (c1_i32_66 : BitVec 32) : Fin 3 → Nat :=
  let c4_i32_67 : BitVec 32 := 4#32
  let v104 : BitVec 32 := Dev.word d91
  let c4_i32_59 : BitVec 32 := 4#32
  let v105 : BitVec 32 := Scalar.divsi v104 c4_i32_59
  let c2_i32_58 : BitVec 32 := 2#32
  let v106 : BitVec 32 := Scalar.remsi v105 c2_i32_58
  let v107 : BitVec 32 := Scalar.xori v106 c0_i32_60
  let v116 : BitVec 32 := Scalar.muli c4_i32_67 v107
  let c2_i32_68 : BitVec 32 := 2#32
  let v108 : BitVec 32 := Dev.word d91
  let c2_i32_62 : BitVec 32 := 2#32
  let v109 : BitVec 32 := Scalar.divsi v108 c2_i32_62
  let c2_i32_61 : BitVec 32 := 2#32
  let v110 : BitVec 32 := Scalar.remsi v109 c2_i32_61
  let v111 : BitVec 32 := Scalar.xori v110 c0_i32_63
  let v117 : BitVec 32 := Scalar.muli c2_i32_68 v111
  let v118 : BitVec 32 := Scalar.addi v116 v117
  let v112 : BitVec 32 := Dev.word d91
  let c1_i32_65 : BitVec 32 := 1#32
  let v113 : BitVec 32 := Scalar.divsi v112 c1_i32_65
  let c2_i32_64 : BitVec 32 := 2#32
  let v114 : BitVec 32 := Scalar.remsi v113 c2_i32_64
  let v115 : BitVec 32 := Scalar.xori v114 c1_i32_66
  let v119 : BitVec 32 := Scalar.addi v118 v115
  let c0_i32_150 : BitVec 32 := 0#32
  let c0_i32_151 : BitVec 32 := 0#32
  ![v119.toNat, 0, 0]
def k0_off2_at (r : Fin 7) : BitVec 32 × BitVec 32 × BitVec 32 :=
  if r.val < 3 then
    if r.val < 1 then
      (0#32, 0#32, 1#32)
    else
      if r.val < 2 then
        (0#32, 1#32, 0#32)
      else
        (0#32, 1#32, 1#32)
  else
    if r.val < 5 then
      if r.val < 4 then
        (1#32, 0#32, 0#32)
      else
        (1#32, 0#32, 1#32)
    else
      if r.val < 6 then
        (1#32, 1#32, 0#32)
      else
        (1#32, 1#32, 1#32)
def k0_dev1 (d91 : Dev nD) : Nat :=
  let c0_i32_145 : BitVec 32 := 0#32
  let v104 : BitVec 32 := Dev.word d91
  let c4_i32_59 : BitVec 32 := 4#32
  let v105 : BitVec 32 := Scalar.divsi v104 c4_i32_59
  let c2_i32_58 : BitVec 32 := 2#32
  let v106 : BitVec 32 := Scalar.remsi v105 c2_i32_58
  let c0_i32_60 : BitVec 32 := 0#32
  let v107 : BitVec 32 := Scalar.xori v106 c0_i32_60
  let c4_i32_144 : BitVec 32 := 4#32
  let v222 : BitVec 32 := Scalar.muli v107 c4_i32_144
  let v223 : BitVec 32 := Scalar.addi c0_i32_145 v222
  let v108 : BitVec 32 := Dev.word d91
  let c2_i32_62 : BitVec 32 := 2#32
  let v109 : BitVec 32 := Scalar.divsi v108 c2_i32_62
  let c2_i32_61 : BitVec 32 := 2#32
  let v110 : BitVec 32 := Scalar.remsi v109 c2_i32_61
  let c0_i32_63 : BitVec 32 := 0#32
  let v111 : BitVec 32 := Scalar.xori v110 c0_i32_63
  let c2_i32_146 : BitVec 32 := 2#32
  let v224 : BitVec 32 := Scalar.muli v111 c2_i32_146
  let v225 : BitVec 32 := Scalar.addi v223 v224
  let v112 : BitVec 32 := Dev.word d91
  let c1_i32_65 : BitVec 32 := 1#32
  let v113 : BitVec 32 := Scalar.divsi v112 c1_i32_65
  let c2_i32_64 : BitVec 32 := 2#32
  let v114 : BitVec 32 := Scalar.remsi v113 c2_i32_64
  let c1_i32_66 : BitVec 32 := 1#32
  let v115 : BitVec 32 := Scalar.xori v114 c1_i32_66
  let c1_i32_147 : BitVec 32 := 1#32
  let v226 : BitVec 32 := Scalar.muli v115 c1_i32_147
  let v227 : BitVec 32 := Scalar.addi v225 v226
  v227.toNat
def k0_dev2 (d91 : Dev nD) : Nat :=
  let c0_i32_157 : BitVec 32 := 0#32
  let v120 : BitVec 32 := Dev.word d91
  let c4_i32_70 : BitVec 32 := 4#32
  let v121 : BitVec 32 := Scalar.divsi v120 c4_i32_70
  let c2_i32_69 : BitVec 32 := 2#32
  let v122 : BitVec 32 := Scalar.remsi v121 c2_i32_69
  let c0_i32_71 : BitVec 32 := 0#32
  let v123 : BitVec 32 := Scalar.xori v122 c0_i32_71
  let c4_i32_156 : BitVec 32 := 4#32
  let v236 : BitVec 32 := Scalar.muli v123 c4_i32_156
  let v237 : BitVec 32 := Scalar.addi c0_i32_157 v236
  let v124 : BitVec 32 := Dev.word d91
  let c2_i32_73 : BitVec 32 := 2#32
  let v125 : BitVec 32 := Scalar.divsi v124 c2_i32_73
  let c2_i32_72 : BitVec 32 := 2#32
  let v126 : BitVec 32 := Scalar.remsi v125 c2_i32_72
  let c1_i32_74 : BitVec 32 := 1#32
  let v127 : BitVec 32 := Scalar.xori v126 c1_i32_74
  let c2_i32_158 : BitVec 32 := 2#32
  let v238 : BitVec 32 := Scalar.muli v127 c2_i32_158
  let v239 : BitVec 32 := Scalar.addi v237 v238
  let v128 : BitVec 32 := Dev.word d91
  let c1_i32_76 : BitVec 32 := 1#32
  let v129 : BitVec 32 := Scalar.divsi v128 c1_i32_76
  let c2_i32_75 : BitVec 32 := 2#32
  let v130 : BitVec 32 := Scalar.remsi v129 c2_i32_75
  let c0_i32_77 : BitVec 32 := 0#32
  let v131 : BitVec 32 := Scalar.xori v130 c0_i32_77
  let c1_i32_159 : BitVec 32 := 1#32
  let v240 : BitVec 32 := Scalar.muli v131 c1_i32_159
  let v241 : BitVec 32 := Scalar.addi v239 v240
  v241.toNat
def k0_dev3 (d91 : Dev nD) : Nat :=
  let c0_i32_169 : BitVec 32 := 0#32
  let v136 : BitVec 32 := Dev.word d91
  let c4_i32_81 : BitVec 32 := 4#32
  let v137 : BitVec 32 := Scalar.divsi v136 c4_i32_81
  let c2_i32_80 : BitVec 32 := 2#32
  let v138 : BitVec 32 := Scalar.remsi v137 c2_i32_80
  let c0_i32_82 : BitVec 32 := 0#32
  let v139 : BitVec 32 := Scalar.xori v138 c0_i32_82
  let c4_i32_168 : BitVec 32 := 4#32
  let v250 : BitVec 32 := Scalar.muli v139 c4_i32_168
  let v251 : BitVec 32 := Scalar.addi c0_i32_169 v250
  let v140 : BitVec 32 := Dev.word d91
  let c2_i32_84 : BitVec 32 := 2#32
  let v141 : BitVec 32 := Scalar.divsi v140 c2_i32_84
  let c2_i32_83 : BitVec 32 := 2#32
  let v142 : BitVec 32 := Scalar.remsi v141 c2_i32_83
  let c1_i32_85 : BitVec 32 := 1#32
  let v143 : BitVec 32 := Scalar.xori v142 c1_i32_85
  let c2_i32_170 : BitVec 32 := 2#32
  let v252 : BitVec 32 := Scalar.muli v143 c2_i32_170
  let v253 : BitVec 32 := Scalar.addi v251 v252
  let v144 : BitVec 32 := Dev.word d91
  let c1_i32_87 : BitVec 32 := 1#32
  let v145 : BitVec 32 := Scalar.divsi v144 c1_i32_87
  let c2_i32_86 : BitVec 32 := 2#32
  let v146 : BitVec 32 := Scalar.remsi v145 c2_i32_86
  let c1_i32_88 : BitVec 32 := 1#32
  let v147 : BitVec 32 := Scalar.xori v146 c1_i32_88
  let c1_i32_171 : BitVec 32 := 1#32
  let v254 : BitVec 32 := Scalar.muli v147 c1_i32_171
  let v255 : BitVec 32 := Scalar.addi v253 v254
  v255.toNat
def k0_dev4 (d91 : Dev nD) : Nat :=
  let c0_i32_180 : BitVec 32 := 0#32
  let v152 : BitVec 32 := Dev.word d91
  let c4_i32_92 : BitVec 32 := 4#32
  let v153 : BitVec 32 := Scalar.divsi v152 c4_i32_92
  let c2_i32_91 : BitVec 32 := 2#32
  let v154 : BitVec 32 := Scalar.remsi v153 c2_i32_91
  let c1_i32_93 : BitVec 32 := 1#32
  let v155 : BitVec 32 := Scalar.xori v154 c1_i32_93
  let c4_i32_179 : BitVec 32 := 4#32
  let v264 : BitVec 32 := Scalar.muli v155 c4_i32_179
  let v265 : BitVec 32 := Scalar.addi c0_i32_180 v264
  let v156 : BitVec 32 := Dev.word d91
  let c2_i32_95 : BitVec 32 := 2#32
  let v157 : BitVec 32 := Scalar.divsi v156 c2_i32_95
  let c2_i32_94 : BitVec 32 := 2#32
  let v158 : BitVec 32 := Scalar.remsi v157 c2_i32_94
  let c0_i32_96 : BitVec 32 := 0#32
  let v159 : BitVec 32 := Scalar.xori v158 c0_i32_96
  let c2_i32_181 : BitVec 32 := 2#32
  let v266 : BitVec 32 := Scalar.muli v159 c2_i32_181
  let v267 : BitVec 32 := Scalar.addi v265 v266
  let v160 : BitVec 32 := Dev.word d91
  let c1_i32_98 : BitVec 32 := 1#32
  let v161 : BitVec 32 := Scalar.divsi v160 c1_i32_98
  let c2_i32_97 : BitVec 32 := 2#32
  let v162 : BitVec 32 := Scalar.remsi v161 c2_i32_97
  let c0_i32_99 : BitVec 32 := 0#32
  let v163 : BitVec 32 := Scalar.xori v162 c0_i32_99
  let c1_i32_182 : BitVec 32 := 1#32
  let v268 : BitVec 32 := Scalar.muli v163 c1_i32_182
  let v269 : BitVec 32 := Scalar.addi v267 v268
  v269.toNat
def k0_dev5 (d91 : Dev nD) : Nat :=
  let c0_i32_192 : BitVec 32 := 0#32
  let v168 : BitVec 32 := Dev.word d91
  let c4_i32_103 : BitVec 32 := 4#32
  let v169 : BitVec 32 := Scalar.divsi v168 c4_i32_103
  let c2_i32_102 : BitVec 32 := 2#32
  let v170 : BitVec 32 := Scalar.remsi v169 c2_i32_102
  let c1_i32_104 : BitVec 32 := 1#32
  let v171 : BitVec 32 := Scalar.xori v170 c1_i32_104
  let c4_i32_191 : BitVec 32 := 4#32
  let v278 : BitVec 32 := Scalar.muli v171 c4_i32_191
  let v279 : BitVec 32 := Scalar.addi c0_i32_192 v278
  let v172 : BitVec 32 := Dev.word d91
  let c2_i32_106 : BitVec 32 := 2#32
  let v173 : BitVec 32 := Scalar.divsi v172 c2_i32_106
  let c2_i32_105 : BitVec 32 := 2#32
  let v174 : BitVec 32 := Scalar.remsi v173 c2_i32_105
  let c0_i32_107 : BitVec 32 := 0#32
  let v175 : BitVec 32 := Scalar.xori v174 c0_i32_107
  let c2_i32_193 : BitVec 32 := 2#32
  let v280 : BitVec 32 := Scalar.muli v175 c2_i32_193
  let v281 : BitVec 32 := Scalar.addi v279 v280
  let v176 : BitVec 32 := Dev.word d91
  let c1_i32_109 : BitVec 32 := 1#32
  let v177 : BitVec 32 := Scalar.divsi v176 c1_i32_109
  let c2_i32_108 : BitVec 32 := 2#32
  let v178 : BitVec 32 := Scalar.remsi v177 c2_i32_108
  let c1_i32_110 : BitVec 32 := 1#32
  let v179 : BitVec 32 := Scalar.xori v178 c1_i32_110
  let c1_i32_194 : BitVec 32 := 1#32
  let v282 : BitVec 32 := Scalar.muli v179 c1_i32_194
  let v283 : BitVec 32 := Scalar.addi v281 v282
  v283.toNat
def k0_dev6 (d91 : Dev nD) : Nat :=
  let c0_i32_203 : BitVec 32 := 0#32
  let v184 : BitVec 32 := Dev.word d91
  let c4_i32_114 : BitVec 32 := 4#32
  let v185 : BitVec 32 := Scalar.divsi v184 c4_i32_114
  let c2_i32_113 : BitVec 32 := 2#32
  let v186 : BitVec 32 := Scalar.remsi v185 c2_i32_113
  let c1_i32_115 : BitVec 32 := 1#32
  let v187 : BitVec 32 := Scalar.xori v186 c1_i32_115
  let c4_i32_202 : BitVec 32 := 4#32
  let v292 : BitVec 32 := Scalar.muli v187 c4_i32_202
  let v293 : BitVec 32 := Scalar.addi c0_i32_203 v292
  let v188 : BitVec 32 := Dev.word d91
  let c2_i32_117 : BitVec 32 := 2#32
  let v189 : BitVec 32 := Scalar.divsi v188 c2_i32_117
  let c2_i32_116 : BitVec 32 := 2#32
  let v190 : BitVec 32 := Scalar.remsi v189 c2_i32_116
  let c1_i32_118 : BitVec 32 := 1#32
  let v191 : BitVec 32 := Scalar.xori v190 c1_i32_118
  let c2_i32_204 : BitVec 32 := 2#32
  let v294 : BitVec 32 := Scalar.muli v191 c2_i32_204
  let v295 : BitVec 32 := Scalar.addi v293 v294
  let v192 : BitVec 32 := Dev.word d91
  let c1_i32_120 : BitVec 32 := 1#32
  let v193 : BitVec 32 := Scalar.divsi v192 c1_i32_120
  let c2_i32_119 : BitVec 32 := 2#32
  let v194 : BitVec 32 := Scalar.remsi v193 c2_i32_119
  let c0_i32_121 : BitVec 32 := 0#32
  let v195 : BitVec 32 := Scalar.xori v194 c0_i32_121
  let c1_i32_205 : BitVec 32 := 1#32
  let v296 : BitVec 32 := Scalar.muli v195 c1_i32_205
  let v297 : BitVec 32 := Scalar.addi v295 v296
  v297.toNat
def k0_dev7 (d91 : Dev nD) : Nat :=
  let c0_i32_214 : BitVec 32 := 0#32
  let v200 : BitVec 32 := Dev.word d91
  let c4_i32_125 : BitVec 32 := 4#32
  let v201 : BitVec 32 := Scalar.divsi v200 c4_i32_125
  let c2_i32_124 : BitVec 32 := 2#32
  let v202 : BitVec 32 := Scalar.remsi v201 c2_i32_124
  let c1_i32_126 : BitVec 32 := 1#32
  let v203 : BitVec 32 := Scalar.xori v202 c1_i32_126
  let c4_i32_213 : BitVec 32 := 4#32
  let v306 : BitVec 32 := Scalar.muli v203 c4_i32_213
  let v307 : BitVec 32 := Scalar.addi c0_i32_214 v306
  let v204 : BitVec 32 := Dev.word d91
  let c2_i32_128 : BitVec 32 := 2#32
  let v205 : BitVec 32 := Scalar.divsi v204 c2_i32_128
  let c2_i32_127 : BitVec 32 := 2#32
  let v206 : BitVec 32 := Scalar.remsi v205 c2_i32_127
  let c1_i32_129 : BitVec 32 := 1#32
  let v207 : BitVec 32 := Scalar.xori v206 c1_i32_129
  let c2_i32_215 : BitVec 32 := 2#32
  let v308 : BitVec 32 := Scalar.muli v207 c2_i32_215
  let v309 : BitVec 32 := Scalar.addi v307 v308
  let v208 : BitVec 32 := Dev.word d91
  let c1_i32_131 : BitVec 32 := 1#32
  let v209 : BitVec 32 := Scalar.divsi v208 c1_i32_131
  let c2_i32_130 : BitVec 32 := 2#32
  let v210 : BitVec 32 := Scalar.remsi v209 c2_i32_130
  let c1_i32_132 : BitVec 32 := 1#32
  let v211 : BitVec 32 := Scalar.xori v210 c1_i32_132
  let c1_i32_216 : BitVec 32 := 1#32
  let v310 : BitVec 32 := Scalar.muli v211 c1_i32_216
  let v311 : BitVec 32 := Scalar.addi v309 v310
  v311.toNat
def k0_cond3 (i : grid0.Coords) : BitVec 1 :=
  let arg0 : BitVec 32 := BitVec.ofNat 32 (i 0).val
  let c31_i32 : BitVec 32 := 31#32
  let v1 : BitVec 1 := Scalar.cmpi .eq arg0 c31_i32
  let v89 : BitVec 32 := Scalar.extui v1
  let c0_i32_52 : BitVec 32 := 0#32
  let v90 : BitVec 1 := Scalar.cmpi .ne v89 c0_i32_52
  v90

def k0_off3 (d91 : Dev nD) (c0_i32_53 : BitVec 32) (c0_i32_56 : BitVec 32) (c1_i32_58 : BitVec 32) : Fin 3 → Nat :=
  let c4_i32_59 : BitVec 32 := 4#32
  let v91 : BitVec 32 := Dev.word d91
  let c4_i32 : BitVec 32 := 4#32
  let v92 : BitVec 32 := Scalar.divsi v91 c4_i32
  let c2_i32 : BitVec 32 := 2#32
  let v93 : BitVec 32 := Scalar.remsi v92 c2_i32
  let v94 : BitVec 32 := Scalar.xori v93 c0_i32_53
  let v103 : BitVec 32 := Scalar.muli c4_i32_59 v94
  let c2_i32_60 : BitVec 32 := 2#32
  let v95 : BitVec 32 := Dev.word d91
  let c2_i32_55 : BitVec 32 := 2#32
  let v96 : BitVec 32 := Scalar.divsi v95 c2_i32_55
  let c2_i32_54 : BitVec 32 := 2#32
  let v97 : BitVec 32 := Scalar.remsi v96 c2_i32_54
  let v98 : BitVec 32 := Scalar.xori v97 c0_i32_56
  let v104 : BitVec 32 := Scalar.muli c2_i32_60 v98
  let v105 : BitVec 32 := Scalar.addi v103 v104
  let v99 : BitVec 32 := Dev.word d91
  let c1_i32 : BitVec 32 := 1#32
  let v100 : BitVec 32 := Scalar.divsi v99 c1_i32
  let c2_i32_57 : BitVec 32 := 2#32
  let v101 : BitVec 32 := Scalar.remsi v100 c2_i32_57
  let v102 : BitVec 32 := Scalar.xori v101 c1_i32_58
  let v106 : BitVec 32 := Scalar.addi v105 v102
  let c0_i32_135 : BitVec 32 := 0#32
  let c0_i32_136 : BitVec 32 := 0#32
  ![v106.toNat, 0, 0]
def k0_off3_at (r : Fin 7) : BitVec 32 × BitVec 32 × BitVec 32 :=
  if r.val < 3 then
    if r.val < 1 then
      (0#32, 0#32, 1#32)
    else
      if r.val < 2 then
        (0#32, 1#32, 0#32)
      else
        (0#32, 1#32, 1#32)
  else
    if r.val < 5 then
      if r.val < 4 then
        (1#32, 0#32, 0#32)
      else
        (1#32, 0#32, 1#32)
    else
      if r.val < 6 then
        (1#32, 1#32, 0#32)
      else
        (1#32, 1#32, 1#32)
def k0_off4 (d91 : Dev nD) : Fin 3 → Nat :=
  let c4_i32_210 : BitVec 32 := 4#32
  let v287 : BitVec 32 := Dev.word d91
  let c4_i32_209 : BitVec 32 := 4#32
  let v288 : BitVec 32 := Scalar.divsi v287 c4_i32_209
  let c2_i32_208 : BitVec 32 := 2#32
  let v289 : BitVec 32 := Scalar.remsi v288 c2_i32_208
  let v290 : BitVec 32 := Scalar.muli c4_i32_210 v289
  let c2_i32_213 : BitVec 32 := 2#32
  let v291 : BitVec 32 := Dev.word d91
  let c2_i32_212 : BitVec 32 := 2#32
  let v292 : BitVec 32 := Scalar.divsi v291 c2_i32_212
  let c2_i32_211 : BitVec 32 := 2#32
  let v293 : BitVec 32 := Scalar.remsi v292 c2_i32_211
  let v294 : BitVec 32 := Scalar.muli c2_i32_213 v293
  let v295 : BitVec 32 := Scalar.addi v290 v294
  let v296 : BitVec 32 := Dev.word d91
  let c1_i32_215 : BitVec 32 := 1#32
  let v297 : BitVec 32 := Scalar.divsi v296 c1_i32_215
  let c2_i32_214 : BitVec 32 := 2#32
  let v298 : BitVec 32 := Scalar.remsi v297 c2_i32_214
  let v299 : BitVec 32 := Scalar.addi v295 v298
  let c0_i32_300 : BitVec 32 := 0#32
  let c0_i32_301 : BitVec 32 := 0#32
  ![v299.toNat, 0, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x5120 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ProjBwdReferenceIdeal.lean ====
abbrev S65536x5120 : Shape := ⟨2, ![65536, 5120]⟩
abbrev S8x2048x640 : Shape := ⟨3, ![8, 2048, 640]⟩
abbrev S65536x2048 : Shape := ⟨2, ![65536, 2048]⟩
abbrev S65536x1 : Shape := ⟨2, ![65536, 1]⟩
abbrev S1x2048 : Shape := ⟨2, ![1, 2048]⟩
abbrev S64x2048x640 : Shape := ⟨3, ![64, 2048, 640]⟩
abbrev S8x640x2048 : Shape := ⟨3, ![8, 640, 2048]⟩
abbrev S5120x2048 : Shape := ⟨2, ![5120, 2048]⟩
abbrev S_ : Shape := ⟨0, ![]⟩
abbrev S65536 : Shape := ⟨1, ![65536]⟩
abbrev S8x8192x2048 : Shape := ⟨3, ![8, 8192, 2048]⟩
abbrev S8x2048 : Shape := ⟨2, ![8, 2048]⟩
abbrev S8x8x2048x640 : Shape := ⟨4, ![8, 8, 2048, 640]⟩

abbrev nBuf : Space → Nat
  | .hbm => 40
  | .vmem => 0
  | .smem => 0
  | _ => 0

abbrev bufTy : (tb : Table) → Fin (tcTables nBuf tb) → BufTy
  | .hbm, ⟨0, _⟩ => ⟨S65536x5120, .bf16⟩
  | .hbm, ⟨1, _⟩ => ⟨S8x2048x640, .bf16⟩
  | .hbm, ⟨2, _⟩ => ⟨S65536x2048, .f32⟩
  | .hbm, ⟨3, _⟩ => ⟨S65536x1, .f32⟩
  | .hbm, ⟨4, _⟩ => ⟨S1x2048, .f32⟩
  | .hbm, ⟨5, _⟩ => ⟨S65536x2048, .f32⟩
  | .hbm, ⟨6, _⟩ => ⟨S64x2048x640, .bf16⟩
  | .hbm, ⟨7, _⟩ => ⟨S65536x5120, .f32⟩
  | .hbm, ⟨8, _⟩ => ⟨S8x2048x640, .f32⟩
  | .hbm, ⟨9, _⟩ => ⟨S8x640x2048, .f32⟩
  | .hbm, ⟨10, _⟩ => ⟨S5120x2048, .f32⟩
  | .hbm, ⟨11, _⟩ => ⟨S65536x2048, .f32⟩
  | .hbm, ⟨12, _⟩ => ⟨S65536x2048, .f32⟩
  | .hbm, ⟨13, _⟩ => ⟨S65536x2048, .f32⟩
  | .hbm, ⟨14, _⟩ => ⟨S65536x2048, .f32⟩
  | .hbm, ⟨15, _⟩ => ⟨S65536x2048, .f32⟩
  | .hbm, ⟨16, _⟩ => ⟨S65536x1, .f32⟩
  | .hbm, ⟨17, _⟩ => ⟨S65536x1, .f32⟩
  | .hbm, ⟨18, _⟩ => ⟨S65536x2048, .f32⟩
  | .hbm, ⟨19, _⟩ => ⟨S65536x2048, .f32⟩
  | .hbm, ⟨20, _⟩ => ⟨S65536x2048, .f32⟩
  | .hbm, ⟨21, _⟩ => ⟨S_, .f32⟩
  | .hbm, ⟨22, _⟩ => ⟨S65536, .f32⟩
  | .hbm, ⟨23, _⟩ => ⟨S65536x1, .f32⟩
  | .hbm, ⟨24, _⟩ => ⟨S_, .f32⟩
  | .hbm, ⟨25, _⟩ => ⟨S65536x1, .f32⟩
  | .hbm, ⟨26, _⟩ => ⟨S65536x1, .f32⟩
  | .hbm, ⟨27, _⟩ => ⟨S65536x2048, .f32⟩
  | .hbm, ⟨28, _⟩ => ⟨S65536x2048, .f32⟩
  | .hbm, ⟨29, _⟩ => ⟨S65536x2048, .f32⟩
  | .hbm, ⟨30, _⟩ => ⟨S65536x2048, .f32⟩
  | .hbm, ⟨31, _⟩ => ⟨S65536x2048, .f32⟩
  | .hbm, ⟨32, _⟩ => ⟨S65536x2048, .f32⟩
  | .hbm, ⟨33, _⟩ => ⟨S8x8192x2048, .f32⟩
  | .hbm, ⟨34, _⟩ => ⟨S_, .f32⟩
  | .hbm, ⟨35, _⟩ => ⟨S8x2048, .f32⟩
  | .hbm, ⟨36, _⟩ => ⟨S65536x2048, .f32⟩
  | .hbm, ⟨37, _⟩ => ⟨S8x8x2048x640, .bf16⟩
  | .hbm, ⟨38, _⟩ => ⟨S8x8x2048x640, .bf16⟩
  | .hbm, ⟨39, _⟩ => ⟨S64x2048x640, .bf16⟩
  | _, _ => ⟨S65536x5120, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst : Ref sig .tc := ⟨.hbm, 21, rfl⟩
abbrev main_v14 : Ref sig .tc := ⟨.hbm, 22, rfl⟩
abbrev main_v15 : Ref sig .tc := ⟨.hbm, 23, rfl⟩
abbrev main_cst_0 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_1 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩

abbrev nD : Nat := 1
abbrev τ : Topo := Topo.v7x

variable {F : FTy → Type} [FloatOps F]
-- ==== ProjFwd.lean ====
abbrev S8192x2048 : Shape := ⟨2, ![8192, 2048]⟩
abbrev S1x2048 : Shape := ⟨2, ![1, 2048]⟩
abbrev S8x2048x640 : Shape := ⟨3, ![8, 2048, 640]⟩
abbrev S2048x704 : Shape := ⟨2, ![2048, 704]⟩
abbrev S8192x5120 : Shape := ⟨2, ![8192, 5120]⟩
abbrev S8192x1 : Shape := ⟨2, ![8192, 1]⟩
abbrev S8x2048x704 : Shape := ⟨3, ![8, 2048, 704]⟩
abbrev S256x2048 : Shape := ⟨2, ![256, 2048]⟩
abbrev S256x5120 : Shape := ⟨2, ![256, 5120]⟩
abbrev S256x1 : Shape := ⟨2, ![256, 1]⟩
abbrev S_ : Shape := ⟨0, ![]⟩
abbrev S1x7 : Shape := ⟨2, ![1, 7]⟩
abbrev S1 : Shape := ⟨1, ![1]⟩
abbrev S1x2048x704 : Shape := ⟨3, ![1, 2048, 704]⟩
abbrev S1x1 : Shape := ⟨2, ![1, 1]⟩
abbrev S256 : Shape := ⟨1, ![256]⟩
abbrev S1x2048x640 : Shape := ⟨3, ![1, 2048, 640]⟩
abbrev S2048x640 : Shape := ⟨2, ![2048, 640]⟩
abbrev S256x640 : Shape := ⟨2, ![256, 640]⟩

abbrev nBuf : Space → Nat
  | .hbm => 8
  | .vmem => 10
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S8x2048x640, .bf16⟩
  | .hbm, ⟨3, _⟩ => ⟨S2048x704, .bf16⟩
  | .hbm, ⟨4, _⟩ => ⟨S8192x5120, .f32⟩
  | .hbm, ⟨5, _⟩ => ⟨S8192x2048, .bf16⟩
  | .hbm, ⟨6, _⟩ => ⟨S8192x1, .f32⟩
  | .hbm, ⟨7, _⟩ => ⟨S8x2048x704, .bf16⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x5120, .f32⟩
  | .local _ .vmem, ⟨4, _⟩ => ⟨S256x5120, .f32⟩
  | .local _ .vmem, ⟨5, _⟩ => ⟨S256x2048, .bf16⟩
  | .local _ .vmem, ⟨6, _⟩ => ⟨S256x2048, .bf16⟩
  | .local _ .vmem, ⟨7, _⟩ => ⟨S256x1, .f32⟩
  | .local _ .vmem, ⟨8, _⟩ => ⟨S256x1, .f32⟩
  | .local _ .vmem, ⟨9, _⟩ => ⟨S8x2048x640, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev main_v1_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 8
abbrev τ : Topo := Topo.v7x

variable {F : FTy → Type} [FloatOps F]

abbrev grid0 : Pipeline.Grid := ⟨1, ![32], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v2 : BitVec 32 := Scalar.extui v0
  let c0_i32_0 : BitVec 32 := 0#32
  let v3 : BitVec 1 := Scalar.cmpi .ne v2 c0_i32_0
  v3

def k0_off1 (d60 : Dev nD) : Fin 3 → Nat :=
  let c4_i32_47 : BitVec 32 := 4#32
  let v60 : BitVec 32 := Dev.word d60
  let c4_i32 : BitVec 32 := 4#32
  let v61 : BitVec 32 := Scalar.divsi v60 c4_i32
  let c2_i32 : BitVec 32 := 2#32
  let v62 : BitVec 32 := Scalar.remsi v61 c2_i32
  let v63 : BitVec 32 := Scalar.muli c4_i32_47 v62
  let c2_i32_50 : BitVec 32 := 2#32
  let v64 : BitVec 32 := Dev.word d60
  let c2_i32_49 : BitVec 32 := 2#32
  let v65 : BitVec 32 := Scalar.divsi v64 c2_i32_49
  let c2_i32_48 : BitVec 32 := 2#32
  let v66 : BitVec 32 := Scalar.remsi v65 c2_i32_48
  let v67 : BitVec 32 := Scalar.muli c2_i32_50 v66
  let v68 : BitVec 32 := Scalar.addi v63 v67
  let v69 : BitVec 32 := Dev.word d60
  let c1_i32 : BitVec 32 := 1#32
  let v70 : BitVec 32 := Scalar.divsi v69 c1_i32
  let c2_i32_51 : BitVec 32 := 2#32
  let v71 : BitVec 32 := Scalar.remsi v70 c2_i32_51
  let v72 : BitVec 32 := Scalar.addi v68 v71
  let c0_i32_53 : BitVec 32 := 0#32
  let c0_i32_54 : BitVec 32 := 0#32
  ![v72.toNat, 0, 0]
def k0_dev1 (d60 : Dev nD) : Nat :=
  let c0_i32_69 : BitVec 32 := 0#32
  let v77 : BitVec 32 := Dev.word d60
  let c4_i32_56 : BitVec 32 := 4#32
  let v78 : BitVec 32 := Scalar.divsi v77 c4_i32_56
  let c2_i32_55 : BitVec 32 := 2#32
  let v79 : BitVec 32 := Scalar.remsi v78 c2_i32_55
  let c0_i32_57 : BitVec 32 := 0#32
  let v80 : BitVec 32 := Scalar.xori v79 c0_i32_57
  let c4_i32_68 : BitVec 32 := 4#32
  let v89 : BitVec 32 := Scalar.muli v80 c4_i32_68
  let v90 : BitVec 32 := Scalar.addi c0_i32_69 v89
  let v81 : BitVec 32 := Dev.word d60
  let c2_i32_59 : BitVec 32 := 2#32
  let v82 : BitVec 32 := Scalar.divsi v81 c2_i32_59
  let c2_i32_58 : BitVec 32 := 2#32
  let v83 : BitVec 32 := Scalar.remsi v82 c2_i32_58
  let c0_i32_60 : BitVec 32 := 0#32
  let v84 : BitVec 32 := Scalar.xori v83 c0_i32_60
  let c2_i32_70 : BitVec 32 := 2#32
  let v91 : BitVec 32 := Scalar.muli v84 c2_i32_70
  let v92 : BitVec 32 := Scalar.addi v90 v91
  let v85 : BitVec 32 := Dev.word d60
  let c1_i32_62 : BitVec 32 := 1#32
  let v86 : BitVec 32 := Scalar.divsi v85 c1_i32_62
  let c2_i32_61 : BitVec 32 := 2#32
  let v87 : BitVec 32 := Scalar.remsi v86 c2_i32_61
  let c1_i32_63 : BitVec 32 := 1#32
  let v88 : BitVec 32 := Scalar.xori v87 c1_i32_63
  let c1_i32_71 : BitVec 32 := 1#32
  let v93 : BitVec 32 := Scalar.muli v88 c1_i32_71
  let v94 : BitVec 32 := Scalar.addi v92 v93
  v94.toNat
def k0_dev2 (d60 : Dev nD) : Nat :=
  let c0_i32_88 : BitVec 32 := 0#32
  let v101 : BitVec 32 := Dev.word d60
  let c4_i32_75 : BitVec 32 := 4#32
  let v102 : BitVec 32 := Scalar.divsi v101 c4_i32_75
  let c2_i32_74 : BitVec 32 := 2#32
  let v103 : BitVec 32 := Scalar.remsi v102 c2_i32_74
  let c0_i32_76 : BitVec 32 := 0#32
  let v104 : BitVec 32 := Scalar.xori v103 c0_i32_76
  let c4_i32_87 : BitVec 32 := 4#32
  let v113 : BitVec 32 := Scalar.muli v104 c4_i32_87
  let v114 : BitVec 32 := Scalar.addi c0_i32_88 v113
  let v105 : BitVec 32 := Dev.word d60
  let c2_i32_78 : BitVec 32 := 2#32
  let v106 : BitVec 32 := Scalar.divsi v105 c2_i32_78
  let c2_i32_77 : BitVec 32 := 2#32
  let v107 : BitVec 32 := Scalar.remsi v106 c2_i32_77
  let c1_i32_79 : BitVec 32 := 1#32
  let v108 : BitVec 32 := Scalar.xori v107 c1_i32_79
  let c2_i32_89 : BitVec 32 := 2#32
  let v115 : BitVec 32 := Scalar.muli v108 c2_i32_89
  let v116 : BitVec 32 := Scalar.addi v114 v115
  let v109 : BitVec 32 := Dev.word d60
  let c1_i32_81 : BitVec 32 := 1#32
  let v110 : BitVec 32 := Scalar.divsi v109 c1_i32_81
  let c2_i32_80 : BitVec 32 := 2#32
  let v111 : BitVec 32 := Scalar.remsi v110 c2_i32_80
  let c0_i32_82 : BitVec 32 := 0#32
  let v112 : BitVec 32 := Scalar.xori v111 c0_i32_82
  let c1_i32_90 : BitVec 32 := 1#32
  let v117 : BitVec 32 := Scalar.muli v112 c1_i32_90
  let v118 : BitVec 32 := Scalar.addi v116 v117
  v118.toNat
def k0_dev3 (d60 : Dev nD) : Nat :=
  let c0_i32_106 : BitVec 32 := 0#32
  let v125 : BitVec 32 := Dev.word d60
  let c4_i32_94 : BitVec 32 := 4#32
  let v126 : BitVec 32 := Scalar.divsi v125 c4_i32_94
  let c2_i32_93 : BitVec 32 := 2#32
  let v127 : BitVec 32 := Scalar.remsi v126 c2_i32_93
  let c1_i32_95 : BitVec 32 := 1#32
  let v128 : BitVec 32 := Scalar.xori v127 c1_i32_95
  let c4_i32_105 : BitVec 32 := 4#32
  let v137 : BitVec 32 := Scalar.muli v128 c4_i32_105
  let v138 : BitVec 32 := Scalar.addi c0_i32_106 v137
  let v129 : BitVec 32 := Dev.word d60
  let c2_i32_97 : BitVec 32 := 2#32
  let v130 : BitVec 32 := Scalar.divsi v129 c2_i32_97
  let c2_i32_96 : BitVec 32 := 2#32
  let v131 : BitVec 32 := Scalar.remsi v130 c2_i32_96
  let c0_i32_98 : BitVec 32 := 0#32
  let v132 : BitVec 32 := Scalar.xori v131 c0_i32_98
  let c2_i32_107 : BitVec 32 := 2#32
  let v139 : BitVec 32 := Scalar.muli v132 c2_i32_107
  let v140 : BitVec 32 := Scalar.addi v138 v139
  let v133 : BitVec 32 := Dev.word d60
  let c1_i32_100 : BitVec 32 := 1#32
  let v134 : BitVec 32 := Scalar.divsi v133 c1_i32_100
  let c2_i32_99 : BitVec 32 := 2#32
  let v135 : BitVec 32 := Scalar.remsi v134 c2_i32_99
  let c0_i32_101 : BitVec 32 := 0#32
  let v136 : BitVec 32 := Scalar.xori v135 c0_i32_101
  let c1_i32_108 : BitVec 32 := 1#32
  let v141 : BitVec 32 := Scalar.muli v136 c1_i32_108
  let v142 : BitVec 32 := Scalar.addi v140 v141
  v142.toNat
def k0_dev4 (d60 : Dev nD) : Nat :=
  let c0_i32_124 : BitVec 32 := 0#32
  let v149 : BitVec 32 := Dev.word d60
  let c4_i32_112 : BitVec 32 := 4#32
  let v150 : BitVec 32 := Scalar.divsi v149 c4_i32_112
  let c2_i32_111 : BitVec 32 := 2#32
  let v151 : BitVec 32 := Scalar.remsi v150 c2_i32_111
  let c1_i32_113 : BitVec 32 := 1#32
  let v152 : BitVec 32 := Scalar.xori v151 c1_i32_113
  let c4_i32_123 : BitVec 32 := 4#32
  let v161 : BitVec 32 := Scalar.muli v152 c4_i32_123
  let v162 : BitVec 32 := Scalar.addi c0_i32_124 v161
  let v153 : BitVec 32 := Dev.word d60
  let c2_i32_115 : BitVec 32 := 2#32
  let v154 : BitVec 32 := Scalar.divsi v153 c2_i32_115
  let c2_i32_114 : BitVec 32 := 2#32
  let v155 : BitVec 32 := Scalar.remsi v154 c2_i32_114
  let c1_i32_116 : BitVec 32 := 1#32
  let v156 : BitVec 32 := Scalar.xori v155 c1_i32_116
  let c2_i32_125 : BitVec 32 := 2#32
  let v163 : BitVec 32 := Scalar.muli v156 c2_i32_125
  let v164 : BitVec 32 := Scalar.addi v162 v163
  let v157 : BitVec 32 := Dev.word d60
  let c1_i32_118 : BitVec 32 := 1#32
  let v158 : BitVec 32 := Scalar.divsi v157 c1_i32_118
  let c2_i32_117 : BitVec 32 := 2#32
  let v159 : BitVec 32 := Scalar.remsi v158 c2_i32_117
  let c0_i32_119 : BitVec 32 := 0#32
  let v160 : BitVec 32 := Scalar.xori v159 c0_i32_119
  let c1_i32_126 : BitVec 32 := 1#32
  let v165 : BitVec 32 := Scalar.muli v160 c1_i32_126
  let v166 : BitVec 32 := Scalar.addi v164 v165
  v166.toNat
def k0_cond3 (i : grid0.Coords) : BitVec 1 :=
  let arg0 : BitVec 32 := BitVec.ofNat 32 (i 0).val
  let c31_i32 : BitVec 32 := 31#32
  let v1 : BitVec 1 := Scalar.cmpi .eq arg0 c31_i32
  let v58 : BitVec 32 := Scalar.extui v1
  let c0_i32_46 : BitVec 32 := 0#32
  let v59 : BitVec 1 := Scalar.cmpi .ne v58 c0_i32_46
  v59

def k0_off2 (d60 : Dev nD) (c0_i32_65 : BitVec 32) (c1_i32_68 : BitVec 32) (c0_i32_71 : BitVec 32) : Fin 3 → Nat :=
  let c4_i32_72 : BitVec 32 := 4#32
  let v89 : BitVec 32 := Dev.word d60
  let c4_i32_64 : BitVec 32 := 4#32
  let v90 : BitVec 32 := Scalar.divsi v89 c4_i32_64
  let c2_i32_63 : BitVec 32 := 2#32
  let v91 : BitVec 32 := Scalar.remsi v90 c2_i32_63
  let v92 : BitVec 32 := Scalar.xori v91 c0_i32_65
  let v101 : BitVec 32 := Scalar.muli c4_i32_72 v92
  let c2_i32_73 : BitVec 32 := 2#32
  let v93 : BitVec 32 := Dev.word d60
  let c2_i32_67 : BitVec 32 := 2#32
  let v94 : BitVec 32 := Scalar.divsi v93 c2_i32_67
  let c2_i32_66 : BitVec 32 := 2#32
  let v95 : BitVec 32 := Scalar.remsi v94 c2_i32_66
  let v96 : BitVec 32 := Scalar.xori v95 c1_i32_68
  let v102 : BitVec 32 := Scalar.muli c2_i32_73 v96
  let v103 : BitVec 32 := Scalar.addi v101 v102
  let v97 : BitVec 32 := Dev.word d60
  let c1_i32_70 : BitVec 32 := 1#32
  let v98 : BitVec 32 := Scalar.divsi v97 c1_i32_70
  let c2_i32_69 : BitVec 32 := 2#32
  let v99 : BitVec 32 := Scalar.remsi v98 c2_i32_69
  let v100 : BitVec 32 := Scalar.xori v99 c0_i32_71
  let v104 : BitVec 32 := Scalar.addi v103 v100
  let c0_i32_91 : BitVec 32 := 0#32
  let c0_i32_92 : BitVec 32 := 0#32
  ![v104.toNat, 0, 0]
def k0_off2_at (r : Fin 7) : BitVec 32 × BitVec 32 × BitVec 32 :=
  if r.val < 3 then
    if r.val < 1 then
      (0#32, 1#32, 0#32)
    else
      if r.val < 2 then
        (1#32, 0#32, 0#32)
      else
        (1#32, 1#32, 0#32)
  else
    if r.val < 5 then
      if r.val < 4 then
        (0#32, 0#32, 1#32)
      else
        (0#32, 1#32, 1#32)
    else
      if r.val < 6 then
        (1#32, 0#32, 1#32)
      else
        (1#32, 1#32, 1#32)
def k0_dev5 (d60 : Dev nD) : Nat :=
  let c0_i32_131 : BitVec 32 := 0#32
  let v161 : BitVec 32 := Dev.word d60
  let c4_i32_118 : BitVec 32 := 4#32
  let v162 : BitVec 32 := Scalar.divsi v161 c4_i32_118
  let c2_i32_117 : BitVec 32 := 2#32
  let v163 : BitVec 32 := Scalar.remsi v162 c2_i32_117
  let c0_i32_119 : BitVec 32 := 0#32
  let v164 : BitVec 32 := Scalar.xori v163 c0_i32_119
  let c4_i32_130 : BitVec 32 := 4#32
  let v173 : BitVec 32 := Scalar.muli v164 c4_i32_130
  let v174 : BitVec 32 := Scalar.addi c0_i32_131 v173
  let v165 : BitVec 32 := Dev.word d60
  let c2_i32_121 : BitVec 32 := 2#32
  let v166 : BitVec 32 := Scalar.divsi v165 c2_i32_121
  let c2_i32_120 : BitVec 32 := 2#32
  let v167 : BitVec 32 := Scalar.remsi v166 c2_i32_120
  let c0_i32_122 : BitVec 32 := 0#32
  let v168 : BitVec 32 := Scalar.xori v167 c0_i32_122
  let c2_i32_132 : BitVec 32 := 2#32
  let v175 : BitVec 32 := Scalar.muli v168 c2_i32_132
  let v176 : BitVec 32 := Scalar.addi v174 v175
  let v169 : BitVec 32 := Dev.word d60
  let c1_i32_124 : BitVec 32 := 1#32
  let v170 : BitVec 32 := Scalar.divsi v169 c1_i32_124
  let c2_i32_123 : BitVec 32 := 2#32
  let v171 : BitVec 32 := Scalar.remsi v170 c2_i32_123
  let c1_i32_125 : BitVec 32 := 1#32
  let v172 : BitVec 32 := Scalar.xori v171 c1_i32_125
  let c1_i32_133 : BitVec 32 := 1#32
  let v177 : BitVec 32 := Scalar.muli v172 c1_i32_133
  let v178 : BitVec 32 := Scalar.addi v176 v177
  v178.toNat
def k0_dev6 (d60 : Dev nD) : Nat :=
  let c0_i32_216 : BitVec 32 := 0#32
  let v275 : BitVec 32 := Dev.word d60
  let c4_i32_203 : BitVec 32 := 4#32
  let v276 : BitVec 32 := Scalar.divsi v275 c4_i32_203
  let c2_i32_202 : BitVec 32 := 2#32
  let v277 : BitVec 32 := Scalar.remsi v276 c2_i32_202
  let c0_i32_204 : BitVec 32 := 0#32
  let v278 : BitVec 32 := Scalar.xori v277 c0_i32_204
  let c4_i32_215 : BitVec 32 := 4#32
  let v287 : BitVec 32 := Scalar.muli v278 c4_i32_215
  let v288 : BitVec 32 := Scalar.addi c0_i32_216 v287
  let v279 : BitVec 32 := Dev.word d60
  let c2_i32_206 : BitVec 32 := 2#32
  let v280 : BitVec 32 := Scalar.divsi v279 c2_i32_206
  let c2_i32_205 : BitVec 32 := 2#32
  let v281 : BitVec 32 := Scalar.remsi v280 c2_i32_205
  let c0_i32_207 : BitVec 32 := 0#32
  let v282 : BitVec 32 := Scalar.xori v281 c0_i32_207
  let c2_i32_217 : BitVec 32 := 2#32
  let v289 : BitVec 32 := Scalar.muli v282 c2_i32_217
  let v290 : BitVec 32 := Scalar.addi v288 v289
  let v283 : BitVec 32 := Dev.word d60
  let c1_i32_209 : BitVec 32 := 1#32
  let v284 : BitVec 32 := Scalar.divsi v283 c1_i32_209
  let c2_i32_208 : BitVec 32 := 2#32
  let v285 : BitVec 32 := Scalar.remsi v284 c2_i32_208
  let c1_i32_210 : BitVec 32 := 1#32
  let v286 : BitVec 32 := Scalar.xori v285 c1_i32_210
  let c1_i32_218 : BitVec 32 := 1#32
  let v291 : BitVec 32 := Scalar.muli v286 c1_i32_218
  let v292 : BitVec 32 := Scalar.addi v290 v291
  v292.toNat
def k0_dev7 (d60 : Dev nD) : Nat :=
  let c0_i32_300 : BitVec 32 := 0#32
  let v389 : BitVec 32 := Dev.word d60
  let c4_i32_288 : BitVec 32 := 4#32
  let v390 : BitVec 32 := Scalar.divsi v389 c4_i32_288
  let c2_i32_287 : BitVec 32 := 2#32
  let v391 : BitVec 32 := Scalar.remsi v390 c2_i32_287
  let c0_i32_289 : BitVec 32 := 0#32
  let v392 : BitVec 32 := Scalar.xori v391 c0_i32_289
  let c4_i32_299 : BitVec 32 := 4#32
  let v401 : BitVec 32 := Scalar.muli v392 c4_i32_299
  let v402 : BitVec 32 := Scalar.addi c0_i32_300 v401
  let v393 : BitVec 32 := Dev.word d60
  let c2_i32_291 : BitVec 32 := 2#32
  let v394 : BitVec 32 := Scalar.divsi v393 c2_i32_291
  let c2_i32_290 : BitVec 32 := 2#32
  let v395 : BitVec 32 := Scalar.remsi v394 c2_i32_290
  let c0_i32_292 : BitVec 32 := 0#32
  let v396 : BitVec 32 := Scalar.xori v395 c0_i32_292
  let c2_i32_301 : BitVec 32 := 2#32
  let v403 : BitVec 32 := Scalar.muli v396 c2_i32_301
  let v404 : BitVec 32 := Scalar.addi v402 v403
  let v397 : BitVec 32 := Dev.word d60
  let c1_i32_294 : BitVec 32 := 1#32
  let v398 : BitVec 32 := Scalar.divsi v397 c1_i32_294
  let c2_i32_293 : BitVec 32 := 2#32
  let v399 : BitVec 32 := Scalar.remsi v398 c2_i32_293
  let c1_i32_295 : BitVec 32 := 1#32
  let v400 : BitVec 32 := Scalar.xori v399 c1_i32_295
  let c1_i32_302 : BitVec 32 := 1#32
  let v405 : BitVec 32 := Scalar.muli v400 c1_i32_302
  let v406 : BitVec 32 := Scalar.addi v404 v405
  v406.toNat
def k0_off3 (d60 : Dev nD) : Fin 3 → Nat :=
  let c4_i32_47 : BitVec 32 := 4#32
  let v60 : BitVec 32 := Dev.word d60
  let c4_i32 : BitVec 32 := 4#32
  let v61 : BitVec 32 := Scalar.divsi v60 c4_i32
  let c2_i32 : BitVec 32 := 2#32
  let v62 : BitVec 32 := Scalar.remsi v61 c2_i32
  let v63 : BitVec 32 := Scalar.muli c4_i32_47 v62
  let c2_i32_50 : BitVec 32 := 2#32
  let v64 : BitVec 32 := Dev.word d60
  let c2_i32_49 : BitVec 32 := 2#32
  let v65 : BitVec 32 := Scalar.divsi v64 c2_i32_49
  let c2_i32_48 : BitVec 32 := 2#32
  let v66 : BitVec 32 := Scalar.remsi v65 c2_i32_48
  let v67 : BitVec 32 := Scalar.muli c2_i32_50 v66
  let v68 : BitVec 32 := Scalar.addi v63 v67
  let v69 : BitVec 32 := Dev.word d60
  let c1_i32 : BitVec 32 := 1#32
  let v70 : BitVec 32 := Scalar.divsi v69 c1_i32
  let c2_i32_51 : BitVec 32 := 2#32
  let v71 : BitVec 32 := Scalar.remsi v70 c2_i32_51
  let v72 : BitVec 32 := Scalar.addi v68 v71
  let c0_i32_493 : BitVec 32 := 0#32
  let c0_i32_494 : BitVec 32 := 0#32
  ![v72.toNat, 0, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x5120 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ProjFwdReferenceIdeal.lean ====
abbrev S65536x2048 : Shape := ⟨2, ![65536, 2048]⟩
abbrev S1x2048 : Shape := ⟨2, ![1, 2048]⟩
abbrev S8x2048x640 : Shape := ⟨3, ![8, 2048, 640]⟩
abbrev S2048x5632 : Shape := ⟨2, ![2048, 5632]⟩
abbrev S_ : Shape := ⟨0, ![]⟩
abbrev S65536 : Shape := ⟨1, ![65536]⟩
abbrev S65536x1 : Shape := ⟨2, ![65536, 1]⟩
abbrev S2048x8x640 : Shape := ⟨3, ![2048, 8, 640]⟩
abbrev S2048x5120 : Shape := ⟨2, ![2048, 5120]⟩
abbrev S65536x5120 : Shape := ⟨2, ![65536, 5120]⟩
abbrev S2048x8x704 : Shape := ⟨3, ![2048, 8, 704]⟩
abbrev S8x2048x704 : Shape := ⟨3, ![8, 2048, 704]⟩

abbrev nBuf : Space → Nat
  | .hbm => 25
  | .vmem => 0
  | .smem => 0
  | _ => 0

abbrev bufTy : (tb : Table) → Fin (tcTables nBuf tb) → BufTy
  | .hbm, ⟨0, _⟩ => ⟨S65536x2048, .f32⟩
  | .hbm, ⟨1, _⟩ => ⟨S1x2048, .f32⟩
  | .hbm, ⟨2, _⟩ => ⟨S8x2048x640, .bf16⟩
  | .hbm, ⟨3, _⟩ => ⟨S2048x5632, .bf16⟩
  | .hbm, ⟨4, _⟩ => ⟨S65536x2048, .f32⟩
  | .hbm, ⟨5, _⟩ => ⟨S_, .f32⟩
  | .hbm, ⟨6, _⟩ => ⟨S65536, .f32⟩
  | .hbm, ⟨7, _⟩ => ⟨S65536x1, .f32⟩
  | .hbm, ⟨8, _⟩ => ⟨S_, .f32⟩
  | .hbm, ⟨9, _⟩ => ⟨S65536x1, .f32⟩
  | .hbm, ⟨10, _⟩ => ⟨S65536x1, .f32⟩
  | .hbm, ⟨11, _⟩ => ⟨S_, .f32⟩
  | .hbm, ⟨12, _⟩ => ⟨S65536x1, .f32⟩
  | .hbm, ⟨13, _⟩ => ⟨S65536x1, .f32⟩
  | .hbm, ⟨14, _⟩ => ⟨S65536x1, .f32⟩
  | .hbm, ⟨15, _⟩ => ⟨S65536x2048, .f32⟩
  | .hbm, ⟨16, _⟩ => ⟨S65536x2048, .f32⟩
  | .hbm, ⟨17, _⟩ => ⟨S65536x2048, .f32⟩
  | .hbm, ⟨18, _⟩ => ⟨S65536x2048, .f32⟩
  | .hbm, ⟨19, _⟩ => ⟨S65536x2048, .bf16⟩
  | .hbm, ⟨20, _⟩ => ⟨S2048x8x640, .bf16⟩
  | .hbm, ⟨21, _⟩ => ⟨S2048x5120, .bf16⟩
  | .hbm, ⟨22, _⟩ => ⟨S65536x5120, .f32⟩
  | .hbm, ⟨23, _⟩ => ⟨S2048x8x704, .bf16⟩
  | .hbm, ⟨24, _⟩ => ⟨S8x2048x704, .bf16⟩
  | _, _ => ⟨S65536x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== SumSmall.lean ====
abbrev S8x2176x128 : Shape := ⟨3, ![8, 2176, 128]⟩
abbrev S2176x128 : Shape := ⟨2, ![2176, 128]⟩
abbrev S1x2176x128 : Shape := ⟨3, ![1, 2176, 128]⟩

abbrev nBuf : Space → Nat
  | .hbm => 2
  | .vmem => 2
  | .smem => 0
  | _ => 0

abbrev bufTy : (tb : Table) → Fin (tcTables nBuf tb) → BufTy
  | .hbm, ⟨0, _⟩ => ⟨S8x2176x128, .f32⟩
  | .hbm, ⟨1, _⟩ => ⟨S2176x128, .f32⟩
  | .local _ .vmem, ⟨0, _⟩ => ⟨S8x2176x128, .f32⟩
  | .local _ .vmem, ⟨1, _⟩ => ⟨S2176x128, .f32⟩
  | _, _ => ⟨S8x2176x128, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S8x2176x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S2176x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]
-- ==== SumSmallIdeal.lean ====
abbrev S8x2176x128 : Shape := ⟨3, ![8, 2176, 128]⟩
abbrev S2176x128 : Shape := ⟨2, ![2176, 128]⟩
abbrev S1x2176x128 : Shape := ⟨3, ![1, 2176, 128]⟩

abbrev nBuf : Space → Nat
  | .hbm => 2
  | .vmem => 2
  | .smem => 0
  | _ => 0

abbrev bufTy : (tb : Table) → Fin (tcTables nBuf tb) → BufTy
  | .hbm, ⟨0, _⟩ => ⟨S8x2176x128, .f32⟩
  | .hbm, ⟨1, _⟩ => ⟨S2176x128, .f32⟩
  | .local _ .vmem, ⟨0, _⟩ => ⟨S8x2176x128, .f32⟩
  | .local _ .vmem, ⟨1, _⟩ => ⟨S2176x128, .f32⟩
  | _, _ => ⟨S8x2176x128, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S8x2176x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S2176x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]
-- ==== SumSmallReferenceIdeal.lean ====
abbrev S8x2176x128 : Shape := ⟨3, ![8, 2176, 128]⟩
abbrev S_ : Shape := ⟨0, ![]⟩
abbrev S2176x128 : Shape := ⟨2, ![2176, 128]⟩

abbrev nBuf : Space → Nat
  | .hbm => 3
  | .vmem => 0
  | .smem => 0
  | _ => 0

abbrev bufTy : (tb : Table) → Fin (tcTables nBuf tb) → BufTy
  | .hbm, ⟨0, _⟩ => ⟨S8x2176x128, .f32⟩
  | .hbm, ⟨1, _⟩ => ⟨S_, .f32⟩
  | .hbm, ⟨2, _⟩ => ⟨S2176x128, .f32⟩
  | _, _ => ⟨S8x2176x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== SumMix.lean ====
abbrev S8x16x128 : Shape := ⟨3, ![8, 16, 128]⟩
abbrev S16x128 : Shape := ⟨2, ![16, 128]⟩
abbrev S1x16x128 : Shape := ⟨3, ![1, 16, 128]⟩

abbrev nBuf : Space → Nat
  | .hbm => 2
  | .vmem => 2
  | .smem => 0
  | _ => 0

abbrev bufTy : (tb : Table) → Fin (tcTables nBuf tb) → BufTy
  | .hbm, ⟨0, _⟩ => ⟨S8x16x128, .f32⟩
  | .hbm, ⟨1, _⟩ => ⟨S16x128, .f32⟩
  | .local _ .vmem, ⟨0, _⟩ => ⟨S8x16x128, .f32⟩
  | .local _ .vmem, ⟨1, _⟩ => ⟨S16x128, .f32⟩
  | _, _ => ⟨S8x16x128, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S8x16x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S16x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]
-- ==== SumMixReferenceIdeal.lean ====
abbrev S8x16x128 : Shape := ⟨3, ![8, 16, 128]⟩
abbrev S_ : Shape := ⟨0, ![]⟩
abbrev S16x128 : Shape := ⟨2, ![16, 128]⟩

abbrev nBuf : Space → Nat
  | .hbm => 3
  | .vmem => 0
  | .smem => 0
  | _ => 0

abbrev bufTy : (tb : Table) → Fin (tcTables nBuf tb) → BufTy
  | .hbm, ⟨0, _⟩ => ⟨S8x16x128, .f32⟩
  | .hbm, ⟨1, _⟩ => ⟨S_, .f32⟩
  | .hbm, ⟨2, _⟩ => ⟨S16x128, .f32⟩
  | _, _ => ⟨S8x16x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Proof.Once.lean ====
/-
  Exchanges whose semaphores are each used once.

  Every device has the same finite family of DMA semaphores, named by `K`.  The cell of `k` on device `c` is credited
  by exactly one transfer, and device `c` waits for it exactly once.  The transfer that credits it is started by one
  device, the payer: `tgt k d` is the device whose cell `k` device `d` pays, and `tgt k` is a bijection.  What a cell
  hands over is `pay c k`, and `amt k` is the number of units a transfer credits it with.

  This module has the schedule of such an exchange, its ghost state at launch dealt to the devices (owners get
  positions, payers get tokens and whatever resource `B` the owner of a cell gives its payer), and one rule for each
  of the steps a kernel takes: start a remote copy, start a local copy, wait, and leave.
-/
module

public import Idealize.ShloMosaic.Lib.Pipeline.Launch
public import Idealize.ShloMosaic.Lib.Pipeline.Kit
public import Idealize.ShloMosaic.Lib.Rounds

@[expose] public section

set_option Elab.async false

noncomputable section

namespace Exchange

open Idealize.ShloMosaic
open Idealize.ShloMosaic.TcCoe
open Idealize.ShloMosaic.Rounds
open Idealize.SL Idealize.SL.RA Idealize.SL.BI
open scoped Idealize.SL.BI
open Idealize.SL.BI.BIBase Idealize.SL.BI.Laws Idealize.SL.ProofMode Idealize.SL.Sem
open Idealize.ShloMosaic.Pipeline (launchCred owing ownSems0)

variable {nD : Nat} {τ : Topo} {sig : RefSig} {Val : EltTy → Type} {U : Type} [URA U]

/-- One family of cells: the semaphores, what a transfer credits each with, who pays each, and the level of its wait. -/
structure Family (nD : Nat) (sig : RefSig) (K : Type) where
  sem : K → SemLoc sig
  inj : Function.Injective sem
  amt : K → ℕ
  amt_pos : ∀ k, 0 < amt k
  tgt : K → Equiv.Perm (Dev nD)
  lev : K → ℕ

variable {K : Type} (fm : Family nD sig K)

/-- The cell of `k` on device `c`. -/
abbrev cell (c : Dev nD) (k : K) : GSem nD τ sig := ((c.tc : Thread nD τ), fm.sem k)

theorem cell_inj {c c' : Dev nD} {k k' : K} (h : (cell fm c k : GSem nD τ sig) = cell fm c' k') : c = c' ∧ k = k' :=
  ⟨congrArg (fun g : GSem nD τ sig => g.1.1) h, fm.inj (congrArg Prod.snd h)⟩

/-- A cell of the machine is `fm`'s cell of `k` on its own device. -/
def IsCell (g : GSem nD τ sig) (k : K) : Prop := g = cell fm g.1.1 k

open Classical in
/-- The schedule: one duty in round 0 of each cell of the family. -/
def once (pay : Dev nD → K → sProp (MT nD τ sig Unit Val ℕ U ℕ)) : Rounds.Schedule (GSem nD τ sig) Unit (MT nD τ sig Unit Val ℕ U ℕ) where
  duties g r := if r = 0 ∧ ∃ k, IsCell fm g k then {()} else ∅
  unitless _ := False
  amount g _ _ := if h : ∃ k, IsCell fm g k then fm.amt h.choose else 1
  payload g _ _ := if h : ∃ k, IsCell fm g k then pay g.1.1 h.choose else iprop(emp)
  amount_pos g _ _ _ := by
    split
    · exact fm.amt_pos _
    · exact Nat.one_pos

section Tables

variable (pay : Dev nD → K → sProp (MT nD τ sig Unit Val ℕ U ℕ)) (c : Dev nD) (k : K)

theorem isCell_cell : ∃ k', IsCell fm (cell fm c k : GSem nD τ sig) k' := ⟨k, rfl⟩

theorem choose_cell (h : ∃ k', IsCell fm (cell fm c k : GSem nD τ sig) k') : h.choose = k :=
  (cell_inj fm (h.choose_spec : (cell fm c k : GSem nD τ sig) = _)).2.symm

theorem duties_cell : (once (τ := τ) (Val := Val) (U := U) fm pay).duties (cell fm c k) 0 = {()} := if_pos ⟨rfl, isCell_cell fm c k⟩
theorem duties_later (pay : Dev nD → K → sProp (MT nD τ sig Unit Val ℕ U ℕ)) (g : GSem nD τ sig) : ∀ r, 1 ≤ r → (once (τ := τ) (Val := Val) (U := U) fm pay).duties g r = ∅ :=
  fun r hr => if_neg fun h => by omega
theorem amount_cell : (once (τ := τ) (Val := Val) (U := U) fm pay).amount (cell fm c k) 0 () = fm.amt k :=
  (dif_pos (isCell_cell fm c k)).trans (congrArg _ (choose_cell fm c k _))
theorem payload_cell : (once (τ := τ) (Val := Val) (U := U) fm pay).payload (cell fm c k) 0 () = pay c k :=
  (dif_pos (isCell_cell fm c k)).trans (congrArg _ (choose_cell fm c k _))
theorem expect_cell : (once (τ := τ) (Val := Val) (U := U) fm pay).expect (cell fm c k) 0 = fm.amt k := by
  unfold Schedule.expect Schedule.amountOf; rw [duties_cell, Finset.sum_singleton, amount_cell]
theorem rest_cell : bigSep ((once (τ := τ) (Val := Val) (U := U) fm pay).duties (cell fm c k) 0 \ ∅) (fun u => (once (τ := τ) (Val := Val) (U := U) fm pay).payload (cell fm c k) 0 u) = pay c k := by
  rw [Finset.sdiff_empty, duties_cell, bigSep_singleton, payload_cell]

/-- What the cells hand over can be kept in an invariant. -/
class Keeps (pay : Dev nD → K → sProp (MT nD τ sig Unit Val ℕ U ℕ)) : Prop where
  keeps : ∀ c k, BI.Storable (upEmb : UEmb _ (MT nD τ sig Unit Val ℕ U ℕ)) (pay c k)

instance once_storable [h : Keeps pay] (g : GSem nD τ sig) (r : ℕ) (d : Unit) :
    BI.Storable (upEmb : UEmb _ (MT nD τ sig Unit Val ℕ U ℕ)) ((once (τ := τ) (Val := Val) (U := U) fm pay).payload g r d) := by
  unfold once; dsimp only; split
  · exact h.keeps _ _
  · infer_instance

end Tables

/-! ## What is owed -/

/-- Device `c`'s debt while the transfers to the cells `S` are still to start. -/
def debt (S : Finset K) (c : Dev nD) : CellTallies nD τ sig Unit := ∑ k ∈ S, tallyAt (cell fm (fm.tgt k c) k) () (fm.amt k)

theorem debt_erase [DecidableEq K] {S : Finset K} {k : K} (h : k ∈ S) (c : Dev nD) :
    (debt fm S c : CellTallies nD τ sig Unit) = debt fm (S.erase k) c + tallyAt (cell fm (fm.tgt k c) k) () (fm.amt k) :=
  (Finset.sum_erase_add S _ h).symm

theorem debt_empty (c : Dev nD) : (debt fm ∅ c : CellTallies nD τ sig Unit) = 0 := Finset.sum_empty

theorem debt_pos {S : Finset K} {c : Dev nD} {g : GSem nD τ sig} {i : Unit} (h : 0 < debt fm S c g i) :
    ∃ k ∈ S, g = cell fm (fm.tgt k c) k := by
  obtain ⟨k, hk, h⟩ := Pipeline.sum_pos_exists h
  exact ⟨k, hk, (Pipeline.tallyAt_pos h).1⟩

/-- The launch hands the owner of each cell the credit of the unit its payer owes it. -/
theorem creds (S : Finset K) (c : Dev nD) :
    (launchCred (fun d => debt fm S d) c : sProp (MT nD τ sig Unit Val ℕ U ℕ)) ⊢ bigSep S fun k => cred (tallyAt (cell fm c k) () (fm.amt k)) := by
  unfold debt
  rw [Pipeline.launchCred_sum S (fun k d => tallyAt (cell fm (fm.tgt k d) k) () (fm.amt k)) c]
  exact bigSep_mono fun k _ => Pipeline.launchCred_tallyAt (fm.sem k) (fm.tgt k) (fm.tgt k).symm (fun d => (fm.tgt k).apply_symm_apply d)
    (fun d => (fm.tgt k).symm_apply_apply d) () (fm.amt k) c

/-! ## Levels -/

/-- TensorCore cells have a level. -/
def lset (g : GSem nD τ sig) : Finset Unit := if g.1.2 = .tc then {()} else ∅

theorem lset_ne (g : GSem nD τ sig) (h : g.1.2 ≠ .tc) : lset g = ∅ := if_neg h
theorem lset_tc (c : Dev nD) (sm : SemLoc sig) : () ∈ lset (((c.tc : Thread nD τ), sm) : GSem nD τ sig) := by
  unfold lset; rw [if_pos rfl]; exact Finset.mem_singleton_self _

open Classical in
/-- A cell of the family has its level, any other cell level 0. -/
def lval (g : GSem nD τ sig) (_ : Unit) : ℕ := if h : ∃ k, IsCell fm g k then fm.lev h.choose else 0

theorem lval_cell (c : Dev nD) (k : K) (u : Unit) : lval (τ := τ) fm (cell fm c k) u = fm.lev k :=
  (dif_pos (isCell_cell fm c k)).trans (congrArg _ (choose_cell fm c k _))

/-- A wait on a cell of the family, while what is owed is owed to cells of higher levels. -/
theorem mayWait_cell (S : Finset K) (c : Dev nD) (k : K) (h : ∀ k' ∈ S, fm.lev k < fm.lev k') :
    (levAts lset (lval fm) : sProp (MT nD τ sig Unit Val ℕ U ℕ)) ⊢ MayWait (c.tc : Thread nD τ) (fm.sem k) () (debt fm S c) :=
  Pipeline.mayWait_of_levAts (lset_tc c _) fun g i hg => by
    obtain ⟨k', hk', rfl⟩ := debt_pos fm hg
    rw [lval_cell, lval_cell]
    exact ⟨lset_tc _ _, h k' hk'⟩

/-- A wait on a cell outside the family, while what is owed is owed to cells of positive levels. -/
theorem mayWait_other (S : Finset K) (c : Dev nD) (sm : SemLoc sig) (hsm : ∀ k, sm ≠ fm.sem k) (h : ∀ k' ∈ S, 0 < fm.lev k') :
    (levAts lset (lval fm) : sProp (MT nD τ sig Unit Val ℕ U ℕ)) ⊢ MayWait (c.tc : Thread nD τ) sm () (debt fm S c) :=
  Pipeline.mayWait_of_levAts (lset_tc c _) fun g i hg => by
    obtain ⟨k', hk', rfl⟩ := debt_pos fm hg
    rw [lval_cell, show lval (τ := τ) fm (((c.tc : Thread nD τ), sm) : GSem nD τ sig) () = 0 from
      dif_neg fun ⟨k, hk⟩ => hsm k (congrArg Prod.snd hk)]
    exact ⟨lset_tc _ _, h k' hk'⟩

/-! ## The launch -/

section Launch

variable [Fintype K] (ER : Emb (URounds (GSem nD τ sig) Unit) (MT nD τ sig Unit Val ℕ U ℕ))

/-- All cells of the family. -/
def cells : Finset (GSem nD τ sig) :=
  Finset.univ.map ⟨fun ck : Dev nD × K => cell fm ck.1 ck.2, fun _ _ h => Prod.ext (cell_inj fm h).1 (cell_inj fm h).2⟩
/-- The token of each cell's duty. -/
def toks : Finset (GSem nD τ sig × ℕ × Unit) :=
  Finset.univ.map ⟨fun ck : Dev nD × K => ((cell fm ck.1 ck.2 : GSem nD τ sig), 0, ()),
    fun _ _ h => Prod.ext (cell_inj fm (congrArg Prod.fst h)).1 (cell_inj fm (congrArg Prod.fst h)).2⟩

variable (pay : Dev nD → K → sProp (MT nD τ sig Unit Val ℕ U ℕ))

/-- Device `c`'s cell of `k` has started. -/
abbrev begun (c : Dev nD) (k : K) : sProp (MT nD τ sig Unit Val ℕ U ℕ) := reached (D := Unit) ER (cell fm c k) 0
/-- Device `c` has consumed `r` rounds of its cell of `k`. -/
abbrev pos (c : Dev nD) (k : K) (r : ℕ) : sProp (MT nD τ sig Unit Val ℕ U ℕ) := atPos (D := Unit) ER (cell fm c k) r ∅ 0
/-- The right to pay device `c`'s cell of `k`. -/
abbrev tok (c : Dev nD) (k : K) : sProp (MT nD τ sig Unit Val ℕ U ℕ) := dutyTok (D := Unit) ER (cell fm c k) 0 ()
/-- The round state of device `c`'s cell of `k`. -/
abbrev rnd (c : Dev nD) (k : K) : sProp (MT nD τ sig Unit Val ℕ U ℕ) := roundState ER (once (τ := τ) (Val := Val) (U := U) fm pay) (cell fm c k) 0

/-- A device's ghost state at launch. -/
def dealt (c : Dev nD) : sProp (MT nD τ sig Unit Val ℕ U ℕ) :=
  iprop((bigSep Finset.univ fun k : K => rnd fm ER pay c k) ∗ (bigSep Finset.univ fun k : K => begun fm ER c k)
    ∗ (bigSep Finset.univ fun k : K => pos fm ER c k 0) ∗ (bigSep Finset.univ fun k : K => tok fm ER c k))

theorem fund_once : BI.own (ER (initOf (cells fm) (toks fm))) ⊢ (|==> bigSep Finset.univ (dealt fm ER pay) : sProp (MT nD τ sig Unit Val ℕ U ℕ)) := by
  have hX (Φ : GSem nD τ sig → sProp (MT nD τ sig Unit Val ℕ U ℕ)) : bigSep (cells fm) Φ = bigSep Finset.univ fun c : Dev nD => bigSep Finset.univ fun k : K => Φ (cell fm c k) := by
    unfold cells; rw [bigSep_map, bigSep_univ_prod]; rfl
  have hT : bigSep (toks fm) (fun x => (dutyTok ER x.1 x.2.1 x.2.2 : sProp (MT nD τ sig Unit Val ℕ U ℕ)))
      = bigSep Finset.univ fun c : Dev nD => bigSep Finset.univ fun k : K => tok fm ER c k := by
    unfold toks; rw [bigSep_map, bigSep_univ_prod]; rfl
  refine (Rounds.fund ER (once (τ := τ) (Val := Val) (U := U) fm pay) (cells fm) (toks fm)).trans (BI.bupd_mono ?_)
  unfold dealt
  simp only [bigSep_sep']
  rw [hX, hX, hX, hT]
  exact (Entails.of_eq rfl : (_ : sProp (MT nD τ sig Unit Val ℕ U ℕ)) ⊢ _)

/-- One of all. -/
theorem bigSep_elim' {I : Type} [Fintype I] {M : Type} [URA M] (Φ : I → sProp M) (i : I) : bigSep Finset.univ Φ ⊢ Φ i := by
  classical exact bigSep_elim (Finset.mem_univ i)

/-- Every cell's invariant, and that its round 0 has been reached: what all devices share. -/
def records (κ : Dev nD × K → ℕ) : sProp (MT nD τ sig Unit Val ℕ U ℕ) :=
  iprop((bigSep Finset.univ fun ck : Dev nD × K => cellInv ER (once (τ := τ) (Val := Val) (U := U) fm pay) (κ ck) (cell fm ck.1 ck.2))
    ∗ bigSep Finset.univ fun ck : Dev nD × K => begun fm ER ck.1 ck.2)

instance records_persistent (κ : Dev nD × K → ℕ) : BI.Persistent (records fm ER pay κ) := by unfold records; infer_instance

theorem records_inv (κ : Dev nD × K → ℕ) (c : Dev nD) (k : K) : records fm ER pay κ ⊢ cellInv ER (once (τ := τ) (Val := Val) (U := U) fm pay) (κ (c, k)) (cell fm c k) := by
  classical
  unfold records
  iintro ⟨H, -⟩
  iapply (bigSep_elim' (fun ck : Dev nD × K => cellInv ER (once (τ := τ) (Val := Val) (U := U) fm pay) (κ ck) (cell fm ck.1 ck.2)) (c, k)); iexact H
theorem records_reached (κ : Dev nD × K → ℕ) (c : Dev nD) (k : K) : records fm ER pay κ ⊢ begun fm ER c k := by
  classical
  unfold records
  iintro ⟨-, H⟩
  iapply (bigSep_elim' (fun ck : Dev nD × K => begun fm ER ck.1 ck.2) (c, k)); iexact H

/-- What device `c` starts its region with: its positions, and for each cell it pays the token and the resource the
    cell's owner gives. -/
def share (B : Dev nD → K → sProp (MT nD τ sig Unit Val ℕ U ℕ)) (c : Dev nD) : sProp (MT nD τ sig Unit Val ℕ U ℕ) :=
  iprop((bigSep Finset.univ fun k : K => pos fm ER c k 0)
    ∗ bigSep Finset.univ fun k : K => iprop(tok fm ER (fm.tgt k c) k ∗ B (fm.tgt k c) k))

/-- From the owners' to the payers'. -/
theorem to_payers (T : Dev nD → K → sProp (MT nD τ sig Unit Val ℕ U ℕ)) :
    (bigSep Finset.univ fun c : Dev nD => bigSep Finset.univ fun k : K => T c k)
      = bigSep Finset.univ fun c : Dev nD => bigSep Finset.univ fun k : K => T (fm.tgt k c) k := by
  rw [bigSep_univ_comm, bigSep_univ_comm (fun c k => T (fm.tgt k c) k)]
  exact bigSep_congr fun k _ => bigSep_univ_equiv (fm.tgt k) (fun c => T c k)

/-- The launch step of the family: the semaphores at zero become cells, positions stay with the owners, tokens and the
    resources `B` go to the payers. -/
theorem deal_once [ER.LandsIn (upEmb : UEmb _ (MT nD τ sig Unit Val ℕ U ℕ))] [Keeps pay] (B : Dev nD → K → sProp (MT nD τ sig Unit Val ℕ U ℕ)) :
    iprop((bigSep Finset.univ fun c : Dev nD => (ownSems0 (Ix := Unit) (Name := ℕ) (U := U) (Lvl := ℕ) (Val := Val) (τ := τ) fm.sem c : sProp (MT nD τ sig Unit Val ℕ U ℕ)))
        ∗ (bigSep Finset.univ (dealt fm ER pay)) ∗ bigSep Finset.univ fun c : Dev nD => bigSep Finset.univ fun k : K => B c k)
      ⊢ |={Set.univ}=> bigSep Finset.univ fun c : Dev nD => iprop((∃ κ, records fm ER pay κ) ∗ share fm ER B c) := by
  classical
  have alloc : iprop((bigSep Finset.univ fun c : Dev nD => bigSep Finset.univ fun k : K => (semVal (cell fm c k) 0 : sProp (MT nD τ sig Unit Val ℕ U ℕ)))
        ∗ bigSep Finset.univ fun c : Dev nD => bigSep Finset.univ fun k : K => rnd fm ER pay c k)
      ⊢ |={Set.univ}=> bigSep Finset.univ fun ck : Dev nD × K => iprop(∃ κ : ℕ, cellInv ER (once (τ := τ) (Val := Val) (U := U) fm pay) κ (cell fm ck.1 ck.2)) := by
    rw [← bigSep_univ_prod (fun ck : Dev nD × K => (semVal (cell fm ck.1 ck.2) 0 : sProp (MT nD τ sig Unit Val ℕ U ℕ))),
      ← bigSep_univ_prod (fun ck : Dev nD × K => rnd fm ER pay ck.1 ck.2), ← bigSep_sep']
    exact (bigSep_mono fun ck _ => (Rounds.body_intro ER (once (τ := τ) (Val := Val) (U := U) fm pay) (cell fm ck.1 ck.2)).trans inv_alloc).trans (bigSep_fupd _ _)
  unfold dealt ownSems0
  simp only [bigSep_sep']
  iintro ⟨Hv, ⟨Hst, Hr, Hat, Htok⟩, HB⟩
  imod alloc $$ [Hv Hst] with HI
  · isplitl [Hv] <;> iassumption
  ihave HK := (BI.bigSep_exists_pi Finset.univ (fun (ck : Dev nD × K) (κ : ℕ) => (cellInv ER (once (τ := τ) (Val := Val) (U := U) fm pay) κ (cell fm ck.1 ck.2) : sProp (MT nD τ sig Unit Val ℕ U ℕ)))) $$ HI
  icases HK with ⟨%κ, HI⟩
  imodintro
  ihave Hrec := (show iprop((bigSep Finset.univ fun ck : Dev nD × K => cellInv ER (once (τ := τ) (Val := Val) (U := U) fm pay) (κ ck) (cell fm ck.1 ck.2))
      ∗ bigSep Finset.univ fun c : Dev nD => bigSep Finset.univ fun k : K => begun fm ER c k) ⊢ records fm ER pay κ from by
        unfold records; rw [bigSep_univ_prod (fun ck : Dev nD × K => (begun fm ER ck.1 ck.2 : sProp (MT nD τ sig Unit Val ℕ U ℕ)))]) $$ [HI Hr]
  · isplitl [HI] <;> iassumption
  icases Hrec with #Hrec
  isplitr
  · iapply (BI.bigSep_intro_persistent (S := Finset.univ) fun (c : Dev nD) _ =>
      (show (records fm ER pay κ : sProp (MT nD τ sig Unit Val ℕ U ℕ)) ⊢ iprop(∃ κ, records fm ER pay κ) from by iintro H; iexists κ; iexact H))
    iexact Hrec
  · unfold share
    simp only [bigSep_sep']
    isplitl [Hat]; · iexact Hat
    isplitl [Htok]
    · iapply (Entails.of_eq (to_payers fm (fun c k => (tok fm ER c k : sProp (MT nD τ sig Unit Val ℕ U ℕ))))); iexact Htok
    · iapply (Entails.of_eq (to_payers fm B)); iexact HB

end Launch

/-! ## The steps -/

section Steps

variable [Fintype K]

variable {Λ : Labels} (defs : Defs nD τ sig Val Λ) (𝒱 : Variants) (bd : Option 𝒱.V)
variable (ER : Emb (URounds (GSem nD τ sig) Unit) (MT nD τ sig Unit Val ℕ U ℕ)) [ER.LandsIn (upEmb : UEmb _ (MT nD τ sig Unit Val ℕ U ℕ))]
variable (pay : Dev nD → K → sProp (MT nD τ sig Unit Val ℕ U ℕ)) [Keeps pay]
variable {α : Type} {Q : α → sProp (MT nD τ sig Unit Val ℕ U ℕ)} {κ : Dev nD × K → ℕ} {W : Waits sig Unit}
variable {sp sp' : Space} {s : Shape} {e : EltTy}

/-- The elements under a view on a device. -/
abbrev at' (c : Dev nD) (v : Memref sig .tc sp s e) (q : PosShare TreeShare) (f : Buf Val (v.view.loc (c.tc : Thread nD τ))) : sProp (MT nD τ sig Unit Val ℕ U ℕ) :=
  (v.view.loc (c.tc : Thread nD τ) ↦[v.view.set]{q} f)

/-- A view's elements on a device, at contents the view reads as `x`. -/
def holds (c : Dev nD) (v : Memref sig .tc sp s e) (x : s.Idx → Val e) : sProp (MT nD τ sig Unit Val ℕ U ℕ) :=
  iprop(∃ f, ⌜v.view.read Val f = x⌝ ∗ at' c v fullShare f)
/-- A view's elements on a device, at any contents. -/
def room (c : Dev nD) (v : Memref sig .tc sp s e) : sProp (MT nD τ sig Unit Val ℕ U ℕ) := iprop(∃ f, at' c v fullShare f)

instance holds_storable (c : Dev nD) (v : Memref sig .tc sp s e) (x : s.Idx → Val e) :
    BI.Storable (upEmb : UEmb _ (MT nD τ sig Unit Val ℕ U ℕ)) (holds c v x : sProp (MT nD τ sig Unit Val ℕ U ℕ)) := by unfold holds; infer_instance

theorem holds_intro {c : Dev nD} {v : Memref sig .tc sp s e} {x : s.Idx → Val e} {f : Buf Val (v.view.loc (c.tc : Thread nD τ))} (h : v.view.read Val f = x) :
    (at' c v fullShare f : sProp (MT nD τ sig Unit Val ℕ U ℕ)) ⊢ holds c v x := by
  unfold holds
  iintro H
  iexists f
  isplitr
  · ipureintro; exact h
  · iexact H

/-- A remote copy, paying cell `kr` of device `tgt kr c` with the destination rewritten and the sender's own cell `ks`
    with the source. -/
theorem send [DecidableEq K] (c : Dev nD) (ks kr : K) (S : Finset K) (hS : kr ∈ S) (hks : ∀ d, fm.tgt ks d = d)
    {src : Memref sig .tc sp s e} {dst : Memref sig .tc sp' s e} {c' : Dev nD} {sS sem : SemLoc sig}
    {hsc : dst.view.ref.isScScratch = false} {hsrc : src.view.WordExact} {hdst : dst.view.WordExact}
    {hsem : DmaTarget.Typed sp sem (.remote (c'.tc : Thread nD τ) dst sS hsc)}
    {k : PUnit → Prog (TpuEff nD τ sig Val Λ .tc) α}
    (src' : Memref sig .tc sp s e) (dst' : Memref sig .tc sp' s e) {q : PosShare TreeShare}
    {fs : Buf Val (src'.view.loc (c.tc : Thread nD τ))} {fd : Buf Val (dst'.view.loc ((fm.tgt kr c).tc : Thread nD τ))}
    (esrc : src = src') (edst : dst = dst') (ec : c' = fm.tgt kr c) (eS : sS = fm.sem ks) (esem : sem = fm.sem kr)
    (hN : dst'.view.amount (fm.sem kr) = fm.amt kr) (hN' : fm.amt ks = fm.amt kr)
    (hpay : (at' c src' q fs : sProp (MT nD τ sig Unit Val ℕ U ℕ)) ⊢ pay c ks)
    (hpay' : (at' (fm.tgt kr c) dst' fullShare (dst'.view.write Val fd (src'.view.read Val fs) Finset.univ) : sProp (MT nD τ sig Unit Val ℕ U ℕ)) ⊢ pay (fm.tgt kr c) kr)
    (hr : τ.routes (c.tc : Thread nD τ) (c'.tc : Thread nD τ) = true := by routes) :
    iprop(records fm ER pay κ ∗ at' c src' q fs ∗ at' (fm.tgt kr c) dst' fullShare fd ∗ owes (c.tc : Thread nD τ) (debt fm S c) W
        ∗ tok fm ER (fm.tgt ks c) ks ∗ tok fm ER (fm.tgt kr c) kr)
      ⊢ iprop(((cred (tallyAt (cell fm c ks) () (fm.amt ks)) ∗ owes (c.tc : Thread nD τ) (debt fm (S.erase kr) c) W)
            -∗ wp frame (wpE defs 𝒱 (c.tc : Thread nD τ) bd) Set.univ (k ⟨⟩) Q)
          -∗ wp frame (wpE defs 𝒱 (c.tc : Thread nD τ) bd) Set.univ
              (.op (.enqueueDma src (.remote (c'.tc : Thread nD τ) dst sS hsc) sem hsrc hdst hsem) k) Q) := by
  subst esrc edst ec eS esem
  rw [hks c]
  iintro ⟨#HR, Hs, Hd, HO, Ht, Ht'⟩ Hk
  iapply (Rounds.wp_send_pointsTo 𝒱 ER (once (τ := τ) (Val := Val) (U := U) fm pay) (c.tc : Thread nD τ) bd (c' := ((fm.tgt kr c).tc : Thread nD τ)) (src := src) (dst := dst)
      (sS := fm.sem ks) (sem := fm.sem kr) (q := q) (fs := fs) (κ₁ := κ (c, ks)) (κ₂ := κ (fm.tgt kr c, kr))
      (r₁ := 0) (r₂ := 0) (d₁ := ()) (d₂ := ()) (fd := fd)
      (by rw [duties_cell]; exact Finset.mem_singleton_self _) (by rw [duties_cell]; exact Finset.mem_singleton_self _)
      () () (fm.amt kr) hN ((amount_cell fm pay c ks).trans hN') (amount_cell fm pay (fm.tgt kr c) kr) (debt fm (S.erase kr) c) (debt_erase fm hS c)
      (by rw [payload_cell]; exact hpay) (by rw [payload_cell]; exact hpay') (hr := hr)) $$ [Hs Hd HO Ht Ht']
  · isplitr; · iapply (records_inv fm ER pay κ c ks); iexact HR
    isplitr; · iapply (records_inv fm ER pay κ (fm.tgt kr c) kr); iexact HR
    isplitl [Hs]; · iexact Hs
    isplitl [Hd]; · iexact Hd
    isplitl [HO]; · iexact HO
    isplitl [Ht]; · iexact Ht
    isplitr; · iapply (records_reached fm ER pay κ c ks); iexact HR
    isplitl [Ht']; · iexact Ht'
    iapply (records_reached fm ER pay κ (fm.tgt kr c) kr); iexact HR
  rw [hN']
  iexact Hk

/-- A local copy, paying the device's own cell `kl` with the destination rewritten and the source. -/
theorem copy (c : Dev nD) (kl : K) (hkl : ∀ d, fm.tgt kl d = d)
    {src : Memref sig .tc sp s e} {dst : Memref sig .tc sp' s e} {sem : SemLoc sig}
    {hsrc : src.view.WordExact} {hdst : dst.view.WordExact}
    {hsem : DmaTarget.Typed (nD := nD) (τ := τ) (p := (c.tc : Thread nD τ).2) sp sem (.here dst)}
    {k : PUnit → Prog (TpuEff nD τ sig Val Λ .tc) α}
    (src' : Memref sig .tc sp s e) (dst' : Memref sig .tc sp' s e) {q : PosShare TreeShare}
    {fs : Buf Val (src'.view.loc (c.tc : Thread nD τ))} {fd : Buf Val (dst'.view.loc (c.tc : Thread nD τ))}
    (esrc : src = src') (edst : dst = dst') (esem : sem = fm.sem kl)
    (hN : dst'.view.amount (fm.sem kl) = fm.amt kl)
    (hpay : iprop(at' c dst' fullShare (dst'.view.write Val fd (src'.view.read Val fs) Finset.univ) ∗ (at' c src' q fs : sProp (MT nD τ sig Unit Val ℕ U ℕ))) ⊢ pay c kl) :
    iprop(records fm ER pay κ ∗ at' c src' q fs ∗ at' c dst' fullShare fd ∗ tok fm ER (fm.tgt kl c) kl)
      ⊢ iprop((cred (tallyAt (cell fm c kl) () (fm.amt kl)) -∗ wp frame (wpE defs 𝒱 (c.tc : Thread nD τ) bd) Set.univ (k ⟨⟩) Q)
          -∗ wp frame (wpE defs 𝒱 (c.tc : Thread nD τ) bd) Set.univ (.op (.enqueueDma src (.here dst) sem hsrc hdst hsem) k) Q) := by
  subst esrc edst esem
  rw [hkl c]
  iintro ⟨#HR, Hs, Hd, Ht⟩ Hk
  iapply (Rounds.wp_copy_pointsTo 𝒱 ER (once (τ := τ) (Val := Val) (U := U) fm pay) (c.tc : Thread nD τ) bd (src := src) (dst := dst)
      (sem := fm.sem kl) (q := q) (fs := fs) (fd := fd) (r := 0) (d := ()) (κ := κ (c, kl))
      (by rw [duties_cell]; exact Finset.mem_singleton_self _) () (fm.amt kl) hN (amount_cell fm pay c kl)
      (by rw [payload_cell]; exact hpay)) $$ [Hs Hd Ht]
  · isplitr; · iapply (records_inv fm ER pay κ c kl); iexact HR
    isplitl [Hs]; · iexact Hs
    isplitl [Hd]; · iexact Hd
    isplitl [Ht]; · iexact Ht
    iapply (records_reached fm ER pay κ c kl); iexact HR
  iexact Hk

/-- A remote copy of what is read as `x` into room for it. -/
theorem send_holds [DecidableEq K] (c : Dev nD) (ks kr : K) (S : Finset K) (hS : kr ∈ S) (hks : ∀ d, fm.tgt ks d = d)
    {src : Memref sig .tc sp s e} {dst : Memref sig .tc sp' s e} {c' : Dev nD} {sS sem : SemLoc sig}
    {hsc : dst.view.ref.isScScratch = false} {hsrc : src.view.WordExact} {hdst : dst.view.WordExact}
    {hsem : DmaTarget.Typed sp sem (.remote (c'.tc : Thread nD τ) dst sS hsc)}
    {k : PUnit → Prog (TpuEff nD τ sig Val Λ .tc) α}
    (src' : Memref sig .tc sp s e) (dst' : Memref sig .tc sp' s e) {q : PosShare TreeShare}
    {fs : Buf Val (src'.view.loc (c.tc : Thread nD τ))} {x : s.Idx → Val e}
    (esrc : src = src') (edst : dst = dst') (ec : c' = fm.tgt kr c) (eS : sS = fm.sem ks) (esem : sem = fm.sem kr)
    (hN : dst'.view.amount (fm.sem kr) = fm.amt kr) (hN' : fm.amt ks = fm.amt kr) (hx : src'.view.read Val fs = x)
    (hpay : (at' c src' q fs : sProp (MT nD τ sig Unit Val ℕ U ℕ)) ⊢ pay c ks)
    (hpay' : (holds (fm.tgt kr c) dst' x : sProp (MT nD τ sig Unit Val ℕ U ℕ)) ⊢ pay (fm.tgt kr c) kr)
    (hr : τ.routes (c.tc : Thread nD τ) (c'.tc : Thread nD τ) = true := by routes) :
    iprop(records fm ER pay κ ∗ at' c src' q fs ∗ room (fm.tgt kr c) dst' ∗ owes (c.tc : Thread nD τ) (debt fm S c) W
        ∗ tok fm ER (fm.tgt ks c) ks ∗ tok fm ER (fm.tgt kr c) kr)
      ⊢ iprop(((cred (tallyAt (cell fm c ks) () (fm.amt ks)) ∗ owes (c.tc : Thread nD τ) (debt fm (S.erase kr) c) W)
            -∗ wp frame (wpE defs 𝒱 (c.tc : Thread nD τ) bd) Set.univ (k ⟨⟩) Q)
          -∗ wp frame (wpE defs 𝒱 (c.tc : Thread nD τ) bd) Set.univ
              (.op (.enqueueDma src (.remote (c'.tc : Thread nD τ) dst sS hsc) sem hsrc hdst hsem) k) Q) := by
  unfold room
  iintro ⟨#HR, Hs, ⟨%fd, Hd⟩, HO, Ht, Ht'⟩ Hk
  iapply (send fm defs 𝒱 bd ER pay (κ := κ) (W := W) c ks kr S hS hks src' dst' (fs := fs) (fd := fd) esrc edst ec eS esem hN hN' hpay
    ((holds_intro (by rw [View.read_write_univ]; exact hx)).trans hpay') hr) $$ [Hs Hd HO Ht Ht']
  · isplitr; · iexact HR
    isplitl [Hs]; · iexact Hs
    isplitl [Hd]; · iexact Hd
    isplitl [HO]; · iexact HO
    isplitl [Ht] <;> iassumption
  iexact Hk

/-- A local copy of what is read as `x` into room for it. -/
theorem copy_holds (c : Dev nD) (kl : K) (hkl : ∀ d, fm.tgt kl d = d)
    {src : Memref sig .tc sp s e} {dst : Memref sig .tc sp' s e} {sem : SemLoc sig}
    {hsrc : src.view.WordExact} {hdst : dst.view.WordExact}
    {hsem : DmaTarget.Typed (nD := nD) (τ := τ) (p := (c.tc : Thread nD τ).2) sp sem (.here dst)}
    {k : PUnit → Prog (TpuEff nD τ sig Val Λ .tc) α}
    (src' : Memref sig .tc sp s e) (dst' : Memref sig .tc sp' s e) {q : PosShare TreeShare}
    {fs : Buf Val (src'.view.loc (c.tc : Thread nD τ))} {x : s.Idx → Val e}
    (esrc : src = src') (edst : dst = dst') (esem : sem = fm.sem kl)
    (hN : dst'.view.amount (fm.sem kl) = fm.amt kl) (hx : src'.view.read Val fs = x)
    (hpay : iprop(holds c dst' x ∗ (at' c src' q fs : sProp (MT nD τ sig Unit Val ℕ U ℕ))) ⊢ pay c kl) :
    iprop(records fm ER pay κ ∗ at' c src' q fs ∗ room c dst' ∗ tok fm ER (fm.tgt kl c) kl)
      ⊢ iprop((cred (tallyAt (cell fm c kl) () (fm.amt kl)) -∗ wp frame (wpE defs 𝒱 (c.tc : Thread nD τ) bd) Set.univ (k ⟨⟩) Q)
          -∗ wp frame (wpE defs 𝒱 (c.tc : Thread nD τ) bd) Set.univ (.op (.enqueueDma src (.here dst) sem hsrc hdst hsem) k) Q) := by
  unfold room
  iintro ⟨#HR, Hs, ⟨%fd, Hd⟩, Ht⟩ Hk
  iapply (copy fm defs 𝒱 bd ER pay (κ := κ) c kl hkl src' dst' (fs := fs) (fd := fd) esrc edst esem hN
    ((sep_mono_left (holds_intro (by rw [View.read_write_univ]; exact hx))).trans hpay)) $$ [Hs Hd Ht]
  · isplitr; · iexact HR
    isplitl [Hs]; · iexact Hs
    isplitl [Hd] <;> iassumption
  iexact Hk

/-- A wait on the device's own cell `kw`, for a copy whose destination is named. -/
theorem wait_copy (c : Dev nD) (kw : K) (S : Finset K) (hlev : ∀ k' ∈ S, fm.lev kw < fm.lev k')
    {sp₁ sp₂ : Space} {s₁ s₂ : Shape} {e₁ e₂ : EltTy} {κ' : Kind} {sem : DmaSem sig} {src : Memref sig .tc sp₁ s₁ e₁} {dst : Memref sig κ' sp₂ s₂ e₂}
    {hsrc : src.view.WordExact} {hdst : dst.view.WordExact}
    {k : PUnit → Prog (TpuEff nD τ sig Val Λ .tc) α}
    (esem : SemLoc.dma sem = fm.sem kw) (hN : dst.view.dmaCredit = fm.amt kw) :
    iprop(records fm ER pay κ ∗ levAts lset (lval fm) ∗ cred (tallyAt (cell fm c kw) () (fm.amt kw)) ∗ owes (c.tc : Thread nD τ) (debt fm S c) W
        ∗ pos fm ER c kw 0)
      ⊢ iprop(((owes (c.tc : Thread nD τ) (debt fm S c) (insert (fm.sem kw, ()) W) ∗ pos fm ER c kw 1 ∗ pay c kw)
            -∗ wp frame (wpE defs 𝒱 (c.tc : Thread nD τ) bd) Set.univ (k ⟨⟩) Q)
          -∗ wp frame (wpE defs 𝒱 (c.tc : Thread nD τ) bd) Set.univ (.op (.waitDma2 sem src dst hsrc hdst) k) Q) := by
  have hw : ∀ Φ : PUnit → sProp (MT nD τ sig Unit Val ℕ U ℕ), wpE defs 𝒱 (c.tc : Thread nD τ) bd Set.univ (.waitDma2 sem src dst hsrc hdst) Φ
      = waitSpec (c.tc : Thread nD τ) Set.univ (.dma sem) dst.view.dmaCredit Φ := fun Φ => wpE_waitDma2_eq 𝒱 (c.tc : Thread nD τ) bd Set.univ Φ
  rw [esem, hN] at hw
  iintro ⟨#HR, #HL, Hc, HO, Hat⟩ Hk
  iapply (Rounds.wp_wait_rest_token 𝒱 ER (once (τ := τ) (Val := Val) (U := U) fm pay) (c.tc : Thread nD τ) bd (κ := κ (c, kw))
      hw (Set.mem_univ _) () (O := debt fm S c) (W := W) (R := 0) (m := 0) (T := ∅)
      ((Nat.zero_add _).trans (expect_cell fm pay c kw).symm)) $$ [Hc HO Hat]
  · isplitr; · iapply (records_inv fm ER pay κ c kw); iexact HR
    isplitl [Hc]; · iexact Hc
    isplitl [HO]; · iexact HO
    isplitr; · iapply (mayWait_cell fm S c kw hlev); iexact HL
    iexact Hat
  iintro ⟨HO, Hat, -, Hp⟩
  iapply Hk
  isplitl [HO]; · iexact HO
  isplitl [Hat]; · iexact Hat
  iapply (Entails.of_eq (rest_cell fm pay c kw)); iexact Hp

/-- Every cell of the device waited for, its semaphores read zero again. -/
theorem leave [ER.LandsIn (upEmb : UEmb _ (MT nD τ sig Unit Val ℕ U ℕ))] (c : Dev nD) :
    iprop(records fm ER pay κ ∗ bigSep Finset.univ fun k : K => pos fm ER c k 1)
      ⊢ |={Set.univ}=> (ownSems0 (Ix := Unit) (Name := ℕ) (U := U) (Lvl := ℕ) (Val := Val) (τ := τ) fm.sem c : sProp (MT nD τ sig Unit Val ℕ U ℕ)) := by
  classical
  have one : ∀ k : K, iprop(records fm ER pay κ ∗ pos fm ER c k 1) ⊢ |={Set.univ}=> (semVal (cell fm c k) 0 : sProp (MT nD τ sig Unit Val ℕ U ℕ)) := fun k => by
    iintro ⟨#HR, Hat⟩
    iapply (Rounds.cell_close ER (once (τ := τ) (Val := Val) (U := U) fm pay) (Set.mem_univ (κ (c, k))) id (duties_later fm pay (cell fm c k)))
    isplitr; · iapply (records_inv fm ER pay κ c k); iexact HR
    iexact Hat
  unfold ownSems0
  refine (sep_mono_left (BI.bigSep_of_persistent (Finset.univ : Finset K) (records fm ER pay κ))).trans ?_
  rw [← bigSep_sep']
  exact (bigSep_mono fun k _ => one k).trans (bigSep_fupd _ _)

end Steps

end Exchange

end
-- ==== Proof.Sibling.lean ====
/-
  A gather over eight devices, each parity pair sharing what it receives.

  Device `c` writes its block to its own copy of the result and sends it to the devices that differ from it in the last
  bit only (`1`), and to those with the same last bit (`2`, `4`, `6`).  A device that has the block of `c ^ s` for
  `s = 2, 4, 6` passes it on to the device `c ^ 1`.  So the block that lands by way of receive cell `k` on device `c`
  is that of `c ^ k`, and it was sent by `c ^ k` for `k = 1, 2, 4, 6` and by `c ^ 1` for `k = 3, 5, 7`.

  Cells, per device: `0 … 6` are the send cells of `k = 1 … 7`, `7 … 13` the receive cells, `14` that of the own block's
  copy.  A receive cell hands over the landed block; a send cell hands back what was sent: a share of the source for the
  own block, and the whole landed block for one passed on.
-/
module

public import proofs.«01_k».proof.Proof.Once

@[expose] public section

set_option Elab.async false

noncomputable section

namespace Exchange

open Idealize.ShloMosaic
open Idealize.ShloMosaic.TcCoe
open Idealize.ShloMosaic.Rounds
open Idealize.SL Idealize.SL.RA Idealize.SL.BI
open scoped Idealize.SL.BI
open Idealize.SL.BI.BIBase Idealize.SL.BI.Laws Idealize.SL.ProofMode Idealize.SL.Sem

/-- The device whose number differs from `c`'s in the bits of `k`. -/
def peer (k c : Fin 8) : Fin 8 := c ^^^ k

theorem peer_peer (k c : Fin 8) : peer k (peer k c) = c := by revert k c; decide
theorem peer_zero (c : Fin 8) : peer 0 c = c := by revert c; decide

/-- `peer k` as a bijection. -/
def swap (k : Fin 8) : Equiv.Perm (Fin 8) := ⟨peer k, peer k, peer_peer k, peer_peer k⟩

/-- Who pays a cell. -/
def sibTgt : Fin 15 → Equiv.Perm (Fin 8)
  | 7 => swap 1 | 8 => swap 2 | 9 => swap 1 | 10 => swap 4 | 11 => swap 1 | 12 => swap 6 | 13 => swap 1
  | _ => Equiv.refl _

/-- Passing on waits for the first hop, and the last wait of all is for what was passed on. -/
def sibLev : Fin 15 → ℕ
  | 7 => 1 | 8 => 1 | 9 => 2 | 10 => 1 | 11 => 2 | 12 => 1 | 13 => 2
  | _ => 0

variable {sig : RefSig}

/-- The family of cells: semaphores `sem`, each credited with `N` units. -/
def sibFam (sem : Fin 15 → SemLoc sig) (inj : Function.Injective sem) (N : ℕ) (hN : 0 < N) : Family 8 sig (Fin 15) where
  sem := sem
  inj := inj
  amt _ := N
  amt_pos _ := hN
  tgt := sibTgt
  lev := sibLev

/-- The receive cells, in the order they are paid in by a device: the first hops, then those passed on. -/
def recvs : Finset (Fin 15) := {7, 8, 9, 10, 11, 12, 13}

variable {τ : Topo} {Val : EltTy → Type} {U : Type} [URA U] {sp sp' : Space} {s : Shape} {e : EltTy}

/-- The shares of the source: the own copy's and the four first hops'. -/
def parts : Finset (Fin 8) := {0, 1, 2, 4, 6}

/-- Share `k` of the source on device `c`. -/
def lent (src : Memref sig .tc sp s e) (A : ∀ c : Dev 8, Buf Val (src.view.loc (c.tc : Thread 8 τ))) (c : Dev 8) (k : Fin 8) : sProp (MT 8 τ sig Unit Val ℕ U ℕ) :=
  at' c src (Transfers.dealOf fullShare parts k) (A c)

section Pay

variable (src : Memref sig .tc sp s e) (A : ∀ c : Dev 8, Buf Val (src.view.loc (c.tc : Thread 8 τ)))
variable (blk : Fin 8 → Memref sig .tc sp' s e) (g : Fin 8 → s.Idx → Val e)

/-- Block `j` has landed on device `c`. -/
def landed (c : Dev 8) (j : Fin 8) : sProp (MT 8 τ sig Unit Val ℕ U ℕ) := holds c (blk j) (g j)
instance (c : Dev 8) (j : Fin 8) : BI.Storable (upEmb : UEmb _ (MT 8 τ sig Unit Val ℕ U ℕ)) (landed blk g c j : sProp (MT 8 τ sig Unit Val ℕ U ℕ)) := by
  unfold landed; infer_instance
instance (c : Dev 8) (k : Fin 8) : BI.Storable (upEmb : UEmb _ (MT 8 τ sig Unit Val ℕ U ℕ)) (lent src A c k : sProp (MT 8 τ sig Unit Val ℕ U ℕ)) := by
  unfold lent; infer_instance
/-- There is room for block `j` on device `c`. -/
def free (c : Dev 8) (j : Fin 8) : sProp (MT 8 τ sig Unit Val ℕ U ℕ) := room c (blk j)

/-- What a cell hands over. -/
def sibPay (c : Dev 8) : Fin 15 → sProp (MT 8 τ sig Unit Val ℕ U ℕ)
  | 0 => lent src A c 1
  | 1 => lent src A c 2
  | 2 => landed blk g c (peer 2 c)
  | 3 => lent src A c 4
  | 4 => landed blk g c (peer 4 c)
  | 5 => lent src A c 6
  | 6 => landed blk g c (peer 6 c)
  | 7 => landed blk g c (peer 1 c)
  | 8 => landed blk g c (peer 2 c)
  | 9 => landed blk g c (peer 3 c)
  | 10 => landed blk g c (peer 4 c)
  | 11 => landed blk g c (peer 5 c)
  | 12 => landed blk g c (peer 6 c)
  | 13 => landed blk g c (peer 7 c)
  | 14 => iprop(landed blk g c c ∗ lent src A c 0)

instance sibKeeps : Keeps (sibPay (U := U) src A blk g) where
  keeps c k := by
    fin_cases k <;> simp only [sibPay] <;> infer_instance

/-- What a cell's owner gives its payer at launch: room for the block that is to land. -/
def sibRoom (c : Dev 8) : Fin 15 → sProp (MT 8 τ sig Unit Val ℕ U ℕ)
  | 7 => free blk c (peer 1 c)
  | 8 => free blk c (peer 2 c)
  | 9 => free blk c (peer 3 c)
  | 10 => free blk c (peer 4 c)
  | 11 => free blk c (peer 5 c)
  | 12 => free blk c (peer 6 c)
  | 13 => free blk c (peer 7 c)
  | 14 => free blk c c
  | _ => iprop(emp)

end Pay

/-- The device at a distance from `c`, as a bijection. -/
def swapAt (c : Fin 8) : Equiv.Perm (Fin 8) :=
  ⟨fun k => peer k c, fun d => peer d c, fun k => by revert k c; decide, fun k => by revert k c; decide⟩

/-- The fifteen cells one by one. -/
theorem fifteen (Φ : Fin 15 → sProp (MT 8 τ sig Unit Val ℕ U ℕ)) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14) := by
  rw [show (Finset.univ : Finset (Fin 15)) = {0, 1, 2, 3, 4, 5, 6, 7, 8, 9, 10, 11, 12, 13, 14} from rfl]
  iterate 14 rw [bigSep_insert (by decide)]
  rw [bigSep_singleton]
  rfl

/-- The eight blocks one by one, as they lie from device `c`. -/
theorem eight (c : Fin 8) (Φ : Fin 8 → sProp (MT 8 τ sig Unit Val ℕ U ℕ)) :
    bigSep Finset.univ Φ = iprop(Φ c ∗ Φ (peer 1 c) ∗ Φ (peer 2 c) ∗ Φ (peer 3 c) ∗ Φ (peer 4 c) ∗ Φ (peer 5 c) ∗ Φ (peer 6 c) ∗ Φ (peer 7 c)) := by
  have h : ∀ k, swapAt c k = peer k c := fun _ => rfl
  rw [bigSep_univ_equiv (swapAt c) Φ]
  rw [show (Finset.univ : Finset (Fin 8)) = {0, 1, 2, 3, 4, 5, 6, 7} from rfl]
  iterate 7 rw [bigSep_insert (by decide)]
  rw [bigSep_singleton]
  simp only [h, peer_zero]
  rfl

section Start

variable (sem : Fin 15 → SemLoc sig) (inj : Function.Injective sem) (N : ℕ) (hN : 0 < N)
variable (ER : Emb (URounds (GSem 8 τ sig) Unit) (MT 8 τ sig Unit Val ℕ U ℕ))
variable (src : Memref sig .tc sp s e) (A : ∀ c : Dev 8, Buf Val (src.view.loc (c.tc : Thread 8 τ)))
variable (blk : Fin 8 → Memref sig .tc sp' s e) (g : Fin 8 → s.Idx → Val e)

/-- Device `c`'s tokens and the room they go with, cell by cell. -/
def sibToks (c : Dev 8) : sProp (MT 8 τ sig Unit Val ℕ U ℕ) :=
  iprop(tok (sibFam sem inj N hN) ER c 0 ∗ tok (sibFam sem inj N hN) ER c 1 ∗ tok (sibFam sem inj N hN) ER c 2
    ∗ tok (sibFam sem inj N hN) ER c 3 ∗ tok (sibFam sem inj N hN) ER c 4 ∗ tok (sibFam sem inj N hN) ER c 5
    ∗ tok (sibFam sem inj N hN) ER c 6
    ∗ (tok (sibFam sem inj N hN) ER (peer 1 c) 7 ∗ free blk (peer 1 c) c)
    ∗ (tok (sibFam sem inj N hN) ER (peer 2 c) 8 ∗ free blk (peer 2 c) c)
    ∗ (tok (sibFam sem inj N hN) ER (peer 1 c) 9 ∗ free blk (peer 1 c) (peer 2 c))
    ∗ (tok (sibFam sem inj N hN) ER (peer 4 c) 10 ∗ free blk (peer 4 c) c)
    ∗ (tok (sibFam sem inj N hN) ER (peer 1 c) 11 ∗ free blk (peer 1 c) (peer 4 c))
    ∗ (tok (sibFam sem inj N hN) ER (peer 6 c) 12 ∗ free blk (peer 6 c) c)
    ∗ (tok (sibFam sem inj N hN) ER (peer 1 c) 13 ∗ free blk (peer 1 c) (peer 6 c))
    ∗ tok (sibFam sem inj N hN) ER c 14 ∗ free blk c c)

theorem peer_31 (c : Fin 8) : peer 3 (peer 1 c) = peer 2 c := by revert c; decide
theorem peer_51 (c : Fin 8) : peer 5 (peer 1 c) = peer 4 c := by revert c; decide
theorem peer_71 (c : Fin 8) : peer 7 (peer 1 c) = peer 6 c := by revert c; decide

theorem sibToks_intro (c : Dev 8) :
    (bigSep Finset.univ fun k : Fin 15 => iprop(tok (sibFam sem inj N hN) ER ((sibFam sem inj N hN).tgt k c) k ∗ sibRoom blk ((sibFam sem inj N hN).tgt k c) k))
      ⊢ sibToks sem inj N hN ER blk c := by
  have r : ∀ d j j', j = j' → free (τ := τ) (Val := Val) (U := U) blk d j = free blk d j' := fun _ _ _ h => h ▸ rfl
  have e7 : (sibRoom blk ((sibFam sem inj N hN).tgt 7 c) 7 : sProp (MT 8 τ sig Unit Val ℕ U ℕ)) = free blk (peer 1 c) c := r _ _ _ (peer_peer 1 c)
  have e8 : (sibRoom blk ((sibFam sem inj N hN).tgt 8 c) 8 : sProp (MT 8 τ sig Unit Val ℕ U ℕ)) = free blk (peer 2 c) c := r _ _ _ (peer_peer 2 c)
  have e9 : (sibRoom blk ((sibFam sem inj N hN).tgt 9 c) 9 : sProp (MT 8 τ sig Unit Val ℕ U ℕ)) = free blk (peer 1 c) (peer 2 c) := r _ _ _ (peer_31 c)
  have e10 : (sibRoom blk ((sibFam sem inj N hN).tgt 10 c) 10 : sProp (MT 8 τ sig Unit Val ℕ U ℕ)) = free blk (peer 4 c) c := r _ _ _ (peer_peer 4 c)
  have e11 : (sibRoom blk ((sibFam sem inj N hN).tgt 11 c) 11 : sProp (MT 8 τ sig Unit Val ℕ U ℕ)) = free blk (peer 1 c) (peer 4 c) := r _ _ _ (peer_51 c)
  have e12 : (sibRoom blk ((sibFam sem inj N hN).tgt 12 c) 12 : sProp (MT 8 τ sig Unit Val ℕ U ℕ)) = free blk (peer 6 c) c := r _ _ _ (peer_peer 6 c)
  have e13 : (sibRoom blk ((sibFam sem inj N hN).tgt 13 c) 13 : sProp (MT 8 τ sig Unit Val ℕ U ℕ)) = free blk (peer 1 c) (peer 6 c) := r _ _ _ (peer_71 c)
  have e14 : (sibRoom blk ((sibFam sem inj N hN).tgt 14 c) 14 : sProp (MT 8 τ sig Unit Val ℕ U ℕ)) = free blk c c := rfl
  rw [fifteen, e7, e8, e9, e10, e11, e12, e13, e14]
  unfold sibToks
  iintro ⟨⟨H0, -⟩, ⟨H1, -⟩, ⟨H2, -⟩, ⟨H3, -⟩, ⟨H4, -⟩, ⟨H5, -⟩, ⟨H6, -⟩, H7, H8, H9, H10, H11, H12, H13, H14⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexact H14

end Start

end Exchange

end
-- ==== Proof.WeightRun.lean ====
/-
  One device's run of the gather of the input weight.
-/
module

public import proofs.«01_k».proof.Proof.Sibling
public import proofs.«01_k».proof.Proof.Gen.KernelIdeal.Frame
public import proofs.«01_k».proof.Proof.Gen.KernelIdeal.Skeleton

@[expose] public section

set_option Elab.async false

noncomputable section

namespace WeightGather

open Idealize.ShloMosaic
open Idealize.ShloMosaic.TcCoe
open Idealize.ShloMosaic.Rounds
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen
open Exchange

variable {F : FTy → Type} [FloatOps F]

/-- The ghost state: the regions' own rounds beside the exchange's. -/
abbrev UU : Type := UR sig nD τ × UR sig nD τ
abbrev M (F : FTy → Type) : Type := MT nD τ sig Unit (Elt F) ℕ UU ℕ

/-- The semaphores: seven sends, seven receives, one local copy. -/
def wsem : Fin 15 → SemLoc sig := fun k => .dma k
theorem wsem_inj : Function.Injective wsem := fun _ _ h => SemLoc.dma.inj h

/-- The argument: the device's own columns of the weight. -/
abbrev src : Memref sig .tc .hbm S2048x640 .bf16 := Memref.whole main_arg0

theorem inb (j : Fin 8) : ∀ a, (![j.val, 0, 0] : Fin 3 → ℕ) a + S1x2048x640.size a ≤ S8x2048x640.size a := by
  revert j; decide

/-- Block `j` of the result. -/
abbrev blk (j : Fin 8) : Memref sig .tc .hbm S2048x640 .bf16 :=
  ((Memref.whole main_v1).slice (Rect.unit (s := S8x2048x640) ![j.val, 0, 0] S1x2048x640.size (inb j)) (fun _ => rfl)).squeeze S2048x640 squeezes_S1x2048x640_S2048x640

theorem blk_of {off : Fin 3 → ℕ} (h : ∀ a, off a + S1x2048x640.size a ≤ S8x2048x640.size a) (j : Fin 8) (e : off = ![j.val, 0, 0]) :
    ((Memref.whole main_v1).slice (Rect.unit (s := S8x2048x640) off S1x2048x640.size h) (fun _ => rfl)).squeeze S2048x640 squeezes_S1x2048x640_S2048x640 = blk j := by
  subst e; rfl

/-- The units one block's transfer credits. -/
abbrev units : ℕ := (blk 0).view.dmaCredit
theorem units_pos : 0 < units := by decide

theorem credit {sp : Space} (b : Memref sig .tc sp S2048x640 .bf16) : b.view.dmaCredit = units := rfl

abbrev fm : Family 8 sig (Fin 15) := sibFam wsem wsem_inj units units_pos

theorem off1 (c : Dev nD) : k0_off1 c = ![c.val, 0, 0] := by rw [k0_off1_eq]; revert c; decide
theorem off2_2 (c : Dev nD) : k0_off2 c 0#32 1#32 0#32 = ![(peer 2 c).val, 0, 0] := by revert c; decide
theorem off2_4 (c : Dev nD) : k0_off2 c 1#32 0#32 0#32 = ![(peer 4 c).val, 0, 0] := by revert c; decide
theorem off2_6 (c : Dev nD) : k0_off2 c 1#32 1#32 0#32 = ![(peer 6 c).val, 0, 0] := by revert c; decide
theorem dev1 (c : Dev nD) : (⟨k0_dev1 c, k0_dev1_lt c⟩ : Dev nD) = peer 1 c := by revert c; decide
theorem dev2 (c : Dev nD) : (⟨k0_dev2 c, k0_dev2_lt c⟩ : Dev nD) = peer 2 c := by revert c; decide
theorem dev3 (c : Dev nD) : (⟨k0_dev3 c, k0_dev3_lt c⟩ : Dev nD) = peer 4 c := by revert c; decide
theorem dev4 (c : Dev nD) : (⟨k0_dev4 c, k0_dev4_lt c⟩ : Dev nD) = peer 6 c := by revert c; decide
theorem dev5 (c : Dev nD) : (⟨k0_dev5 c, k0_dev5_lt c⟩ : Dev nD) = peer 1 c := by revert c; decide
theorem dev6 (c : Dev nD) : (⟨k0_dev6 c, k0_dev6_lt c⟩ : Dev nD) = peer 1 c := by revert c; decide
theorem dev7 (c : Dev nD) : (⟨k0_dev7 c, k0_dev7_lt c⟩ : Dev nD) = peer 1 c := by revert c; decide

theorem pure_bind' {E : Type → Type} {α β : Type} (a : α) (k : α → Prog E β) : ((Pure.pure a : Prog E α) >>= k) = k a := rfl
theorem pure_ret {E : Type → Type} {α : Type} (a : α) : (Pure.pure a : Prog E α) = .ret a := rfl

abbrev 𝒱₀ : Variants := Variants.none

/-- The part of the ghost state the exchange uses. -/
abbrev ER : Emb (URounds (GSem nD τ sig) Unit) (M F) := embR
abbrev EP : Emb (URounds (GSem nD τ sig) Unit) (M F) := embL

section Body

variable (A : ∀ c : Dev nD, Buf (Elt F) (src.view.loc (c.tc : Thread nD τ)))

/-- What device `c` holds of the weight. -/
def part (c : Dev nD) : S2048x640.Idx → Elt F .bf16 := src.view.read (Elt F) (A c)

abbrev pay : Dev nD → Fin 15 → sProp (M F) := sibPay src A blk (part A)

omit [FloatOps F] in
theorem arrives (d j j' : Dev nD) (h : j' = j) : (holds d (blk j) (part A j) : sProp (M F)) ⊢ landed blk (part A) d j' := by
  subst h; exact Entails.refl _

/-- A device's holdings at the start of the exchange. -/
def before (κ : Dev nD × Fin 15 → ℕ) (c : Dev nD) : sProp (M F) :=
  iprop(records fm ER (pay A) κ ∗ levAts lset (lval fm) ∗ (bigSep Finset.univ fun k => pos fm ER c k 0)
    ∗ sibToks wsem wsem_inj units units_pos ER blk c
    ∗ (bigSep recvs fun k => cred (tallyAt (cell fm c k) () (fm.amt k)))
    ∗ (lent src A c 0 ∗ lent src A c 1 ∗ lent src A c 2 ∗ lent src A c 4 ∗ lent src A c 6))

/-- A device's holdings at its end. -/
def after (c : Dev nD) : sProp (M F) :=
  iprop((bigSep Finset.univ fun j => landed blk (part A) c j) ∗ (lent src A c 0 ∗ lent src A c 1 ∗ lent src A c 2 ∗ lent src A c 4 ∗ lent src A c 6)
    ∗ Pipeline.ownSems0 wsem c)

theorem seven (Φ : Fin 15 → sProp (M F)) : bigSep recvs Φ = iprop(Φ 7 ∗ Φ 8 ∗ Φ 9 ∗ Φ 10 ∗ Φ 11 ∗ Φ 12 ∗ Φ 13) := by
  rw [show recvs = {7, 8, 9, 10, 11, 12, 13} from rfl]
  iterate 6 rw [bigSep_insert (by decide)]
  rw [bigSep_singleton]; rfl

set_option maxHeartbeats 4000000 in
set_option maxRecDepth 65536 in
/-- The body on device `c`: every block arrives. -/
theorem run_body (κ : Dev nD × Fin 15 → ℕ) (c : Dev nD) (W : Waits sig Unit) (Kt : PUnit → sProp (M F)) :
    iprop(before A κ c ∗ owes (c.tc : Thread nD τ) (debt fm recvs c) W ∗ ((after A c ∗ ∃ W', owes (c.tc : Thread nD τ) 0 W') -∗ Kt ⟨⟩))
      ⊢ wp frame (wpE (defs₀ (F := F)) 𝒱₀ (c.tc : Thread nD τ) none) Set.univ
    (cc0_weight_gather (F := F) (Memref.whole main_arg0) (Memref.isWhole_whole _) (Memref.whole main_v1) (Memref.isWhole_whole _) cc0_scratch0 cc0_scratch1 cc0_scratch2) Kt := by
  simp only [cc0_weight_gather_eq_skeleton, cc0_weight_gather_skel, k0_part1_eq_skeleton, k0_part1_skel, k0_part2_eq_skeleton, k0_part2_skel, k0_part3_eq_skeleton, k0_part3_skel, k0_part4_eq_skeleton, k0_part4_skel, k0_part5_eq_skeleton, k0_part5_skel, k0_part6_eq_skeleton, k0_part6_skel, k0_part7_eq_skeleton, k0_part7_skel, k0_part8_eq_skeleton, k0_part8_skel, k0_part9_eq_skeleton, k0_part9_skel, k0_part10_eq_skeleton, k0_part10_skel, k0_part11_eq_skeleton, k0_part11_skel, k0_part12_eq_skeleton, k0_part12_skel, k0_part13_eq_skeleton, k0_part13_skel, k0_part14_eq_skeleton, k0_part14_skel, k0_part15_eq_skeleton, k0_part15_skel, k0_part16_eq_skeleton, k0_part16_skel, k0_part17_eq_skeleton, k0_part17_skel, k0_part18_eq_skeleton, k0_part18_skel, k0_part19_eq_skeleton, k0_part19_skel, k0_part20_eq_skeleton, k0_part20_skel, k0_part21_eq_skeleton, k0_part21_skel, k0_part22_eq_skeleton, k0_part22_skel, k0_part23_eq_skeleton, k0_part23_skel, k0_part24_eq_skeleton, k0_part24_skel, k0_part25_eq_skeleton, k0_part25_skel, k0_part26_eq_skeleton, k0_part26_skel, k0_part27_eq_skeleton, k0_part27_skel, Prog.bind_lift, Prog.bind_op, Prog.bind_ret, Prog.bind_assoc, wp_deviceId, pure_bind', pure_ret]
  unfold before sibToks
  rw [fifteen, seven]
  unfold lent
  iintro ⟨⟨#HR, #HL, ⟨P0, P1, P2, P3, P4, P5, P6, P7, P8, P9, P10, P11, P12, P13, P14⟩,
    ⟨T0, T1, T2, T3, T4, T5, T6, ⟨T7, F7⟩, ⟨T8, F8⟩, ⟨T9, F9⟩, ⟨T10, F10⟩, ⟨T11, F11⟩, ⟨T12, F12⟩, ⟨T13, F13⟩, T14, F14⟩,
    ⟨C7, C8, C9, C10, C11, C12, C13⟩, L0, L1, L2, L4, L6⟩, HO, Hk⟩
  unfold free
  iapply (copy_holds fm (defs₀ (F := F)) 𝒱₀ none ER (pay A) (κ := κ) c 14 (fun _ => rfl) src (blk c) (x := part A c) rfl (blk_of _ _ (off1 c)) rfl rfl rfl (Entails.refl _)) $$ [L0 F14 T14]
  · isplitr; · iexact HR
    isplitl [L0]; · iexact L0
    isplitl [F14]; · iexact F14
    iexact T14
  iintro C14
  iapply (send_holds fm (defs₀ (F := F)) 𝒱₀ none ER (pay A) (κ := κ) c 0 7 (recvs) (by decide) (fun _ => rfl) src (blk c) (x := part A c) rfl (blk_of _ _ (off1 c)) (dev1 c) rfl rfl rfl rfl rfl
    (Entails.refl _) (arrives A _ _ _ (peer_peer 1 c))) $$ [L1 F7 HO T0 T7]
  · isplitr; · iexact HR
    isplitl [L1]; · iexact L1
    isplitl [F7]; · iexact F7
    isplitl [HO]; · iexact HO
    isplitl [T0]; · iexact T0
    iexact T7
  iintro ⟨C0, HO⟩
  iapply (send_holds fm (defs₀ (F := F)) 𝒱₀ none ER (pay A) (κ := κ) c 1 8 ((recvs).erase 7) (by decide) (fun _ => rfl) src (blk c) (x := part A c) rfl (blk_of _ _ (off1 c)) (dev2 c) rfl rfl rfl rfl rfl
    (Entails.refl _) (arrives A _ _ _ (peer_peer 2 c))) $$ [L2 F8 HO T1 T8]
  · isplitr; · iexact HR
    isplitl [L2]; · iexact L2
    isplitl [F8]; · iexact F8
    isplitl [HO]; · iexact HO
    isplitl [T1]; · iexact T1
    iexact T8
  iintro ⟨C1, HO⟩
  iapply (send_holds fm (defs₀ (F := F)) 𝒱₀ none ER (pay A) (κ := κ) c 3 10 (((recvs).erase 7).erase 8) (by decide) (fun _ => rfl) src (blk c) (x := part A c) rfl (blk_of _ _ (off1 c)) (dev3 c) rfl rfl rfl rfl rfl
    (Entails.refl _) (arrives A _ _ _ (peer_peer 4 c))) $$ [L4 F10 HO T3 T10]
  · isplitr; · iexact HR
    isplitl [L4]; · iexact L4
    isplitl [F10]; · iexact F10
    isplitl [HO]; · iexact HO
    isplitl [T3]; · iexact T3
    iexact T10
  iintro ⟨C3, HO⟩
  iapply (send_holds fm (defs₀ (F := F)) 𝒱₀ none ER (pay A) (κ := κ) c 5 12 ((((recvs).erase 7).erase 8).erase 10) (by decide) (fun _ => rfl) src (blk c) (x := part A c) rfl (blk_of _ _ (off1 c)) (dev4 c) rfl rfl rfl rfl rfl
    (Entails.refl _) (arrives A _ _ _ (peer_peer 6 c))) $$ [L6 F12 HO T5 T12]
  · isplitr; · iexact HR
    isplitl [L6]; · iexact L6
    isplitl [F12]; · iexact F12
    isplitl [HO]; · iexact HO
    isplitl [T5]; · iexact T5
    iexact T12
  iintro ⟨C5, HO⟩
  iapply (wait_copy fm (defs₀ (F := F)) 𝒱₀ none ER (pay A) (κ := κ) c 8 (((((recvs).erase 7).erase 8).erase 10).erase 12) (by decide) rfl (credit _)) $$ [C8 HO P8]
  · isplitr; · iexact HR
    isplitr; · iexact HL
    isplitl [C8]; · iexact C8
    isplitl [HO]; · iexact HO
    iexact P8
  iintro ⟨HO, P8, B2⟩
  ihave B2 := (Entails.of_eq (show pay A c 8 = landed blk (part A) c (peer 2 c) from rfl)) $$ B2
  unfold landed holds
  icases B2 with ⟨%f2, %h2, B2⟩
  iapply (send_holds fm (defs₀ (F := F)) 𝒱₀ none ER (pay A) (κ := κ) c 2 9 (((((recvs).erase 7).erase 8).erase 10).erase 12) (by decide) (fun _ => rfl) (blk (peer 2 c)) (blk (peer 2 c)) (x := part A (peer 2 c)) (blk_of _ _ (off2_2 c)) (blk_of _ _ (off2_2 c)) (dev5 c) rfl rfl rfl rfl h2
    (holds_intro h2) (arrives A _ _ _ (peer_31 c))) $$ [B2 F9 HO T2 T9]
  · isplitr; · iexact HR
    isplitl [B2]; · iexact B2
    isplitl [F9]; · iexact F9
    isplitl [HO]; · iexact HO
    isplitl [T2]; · iexact T2
    iexact T9
  iintro ⟨C2, HO⟩
  iapply (wait_copy fm (defs₀ (F := F)) 𝒱₀ none ER (pay A) (κ := κ) c 10 ((((((recvs).erase 7).erase 8).erase 10).erase 12).erase 9) (by decide) rfl (credit _)) $$ [C10 HO P10]
  · isplitr; · iexact HR
    isplitr; · iexact HL
    isplitl [C10]; · iexact C10
    isplitl [HO]; · iexact HO
    iexact P10
  iintro ⟨HO, P10, B4⟩
  ihave B4 := (Entails.of_eq (show pay A c 10 = landed blk (part A) c (peer 4 c) from rfl)) $$ B4
  unfold landed holds
  icases B4 with ⟨%f4, %h4, B4⟩
  iapply (send_holds fm (defs₀ (F := F)) 𝒱₀ none ER (pay A) (κ := κ) c 4 11 ((((((recvs).erase 7).erase 8).erase 10).erase 12).erase 9) (by decide) (fun _ => rfl) (blk (peer 4 c)) (blk (peer 4 c)) (x := part A (peer 4 c)) (blk_of _ _ (off2_4 c)) (blk_of _ _ (off2_4 c)) (dev6 c) rfl rfl rfl rfl h4
    (holds_intro h4) (arrives A _ _ _ (peer_51 c))) $$ [B4 F11 HO T4 T11]
  · isplitr; · iexact HR
    isplitl [B4]; · iexact B4
    isplitl [F11]; · iexact F11
    isplitl [HO]; · iexact HO
    isplitl [T4]; · iexact T4
    iexact T11
  iintro ⟨C4, HO⟩
  iapply (wait_copy fm (defs₀ (F := F)) 𝒱₀ none ER (pay A) (κ := κ) c 12 (((((((recvs).erase 7).erase 8).erase 10).erase 12).erase 9).erase 11) (by decide) rfl (credit _)) $$ [C12 HO P12]
  · isplitr; · iexact HR
    isplitr; · iexact HL
    isplitl [C12]; · iexact C12
    isplitl [HO]; · iexact HO
    iexact P12
  iintro ⟨HO, P12, B6⟩
  ihave B6 := (Entails.of_eq (show pay A c 12 = landed blk (part A) c (peer 6 c) from rfl)) $$ B6
  unfold landed holds
  icases B6 with ⟨%f6, %h6, B6⟩
  iapply (send_holds fm (defs₀ (F := F)) 𝒱₀ none ER (pay A) (κ := κ) c 6 13 (((((((recvs).erase 7).erase 8).erase 10).erase 12).erase 9).erase 11) (by decide) (fun _ => rfl) (blk (peer 6 c)) (blk (peer 6 c)) (x := part A (peer 6 c)) (blk_of _ _ (off2_6 c)) (blk_of _ _ (off2_6 c)) (dev7 c) rfl rfl rfl rfl h6
    (holds_intro h6) (arrives A _ _ _ (peer_71 c))) $$ [B6 F13 HO T6 T13]
  · isplitr; · iexact HR
    isplitl [B6]; · iexact B6
    isplitl [F13]; · iexact F13
    isplitl [HO]; · iexact HO
    isplitl [T6]; · iexact T6
    iexact T13
  iintro ⟨C6, HO⟩
  iapply (wait_copy fm (defs₀ (F := F)) 𝒱₀ none ER (pay A) (κ := κ) c 7 ((((((((recvs).erase 7).erase 8).erase 10).erase 12).erase 9).erase 11).erase 13) (by decide) rfl (credit _)) $$ [C7 HO P7]
  · isplitr; · iexact HR
    isplitr; · iexact HL
    isplitl [C7]; · iexact C7
    isplitl [HO]; · iexact HO
    iexact P7
  iintro ⟨HO, P7, B1⟩
  ihave B1 := (Entails.of_eq (show pay A c 7 = landed blk (part A) c (peer 1 c) from rfl)) $$ B1
  iapply (wait_copy fm (defs₀ (F := F)) 𝒱₀ none ER (pay A) (κ := κ) c 9 ((((((((recvs).erase 7).erase 8).erase 10).erase 12).erase 9).erase 11).erase 13) (by decide) rfl (credit _)) $$ [C9 HO P9]
  · isplitr; · iexact HR
    isplitr; · iexact HL
    isplitl [C9]; · iexact C9
    isplitl [HO]; · iexact HO
    iexact P9
  iintro ⟨HO, P9, B3⟩
  ihave B3 := (Entails.of_eq (show pay A c 9 = landed blk (part A) c (peer 3 c) from rfl)) $$ B3
  iapply (wait_copy fm (defs₀ (F := F)) 𝒱₀ none ER (pay A) (κ := κ) c 11 ((((((((recvs).erase 7).erase 8).erase 10).erase 12).erase 9).erase 11).erase 13) (by decide) rfl (credit _)) $$ [C11 HO P11]
  · isplitr; · iexact HR
    isplitr; · iexact HL
    isplitl [C11]; · iexact C11
    isplitl [HO]; · iexact HO
    iexact P11
  iintro ⟨HO, P11, B5⟩
  ihave B5 := (Entails.of_eq (show pay A c 11 = landed blk (part A) c (peer 5 c) from rfl)) $$ B5
  iapply (wait_copy fm (defs₀ (F := F)) 𝒱₀ none ER (pay A) (κ := κ) c 13 ((((((((recvs).erase 7).erase 8).erase 10).erase 12).erase 9).erase 11).erase 13) (by decide) rfl (credit _)) $$ [C13 HO P13]
  · isplitr; · iexact HR
    isplitr; · iexact HL
    isplitl [C13]; · iexact C13
    isplitl [HO]; · iexact HO
    iexact P13
  iintro ⟨HO, P13, B7⟩
  ihave B7 := (Entails.of_eq (show pay A c 13 = landed blk (part A) c (peer 7 c) from rfl)) $$ B7
  iapply (wait_copy fm (defs₀ (F := F)) 𝒱₀ none ER (pay A) (κ := κ) c 0 ((((((((recvs).erase 7).erase 8).erase 10).erase 12).erase 9).erase 11).erase 13) (by decide) rfl (credit _)) $$ [C0 HO P0]
  · isplitr; · iexact HR
    isplitr; · iexact HL
    isplitl [C0]; · iexact C0
    isplitl [HO]; · iexact HO
    iexact P0
  iintro ⟨HO, P0, L1⟩
  ihave L1 := (Entails.of_eq (show pay A c 0 = lent src A c 1 from rfl)) $$ L1
  iapply (wait_copy fm (defs₀ (F := F)) 𝒱₀ none ER (pay A) (κ := κ) c 1 ((((((((recvs).erase 7).erase 8).erase 10).erase 12).erase 9).erase 11).erase 13) (by decide) rfl (credit _)) $$ [C1 HO P1]
  · isplitr; · iexact HR
    isplitr; · iexact HL
    isplitl [C1]; · iexact C1
    isplitl [HO]; · iexact HO
    iexact P1
  iintro ⟨HO, P1, L2⟩
  ihave L2 := (Entails.of_eq (show pay A c 1 = lent src A c 2 from rfl)) $$ L2
  iapply (wait_copy fm (defs₀ (F := F)) 𝒱₀ none ER (pay A) (κ := κ) c 3 ((((((((recvs).erase 7).erase 8).erase 10).erase 12).erase 9).erase 11).erase 13) (by decide) rfl (credit _)) $$ [C3 HO P3]
  · isplitr; · iexact HR
    isplitr; · iexact HL
    isplitl [C3]; · iexact C3
    isplitl [HO]; · iexact HO
    iexact P3
  iintro ⟨HO, P3, L4⟩
  ihave L4 := (Entails.of_eq (show pay A c 3 = lent src A c 4 from rfl)) $$ L4
  iapply (wait_copy fm (defs₀ (F := F)) 𝒱₀ none ER (pay A) (κ := κ) c 5 ((((((((recvs).erase 7).erase 8).erase 10).erase 12).erase 9).erase 11).erase 13) (by decide) rfl (credit _)) $$ [C5 HO P5]
  · isplitr; · iexact HR
    isplitr; · iexact HL
    isplitl [C5]; · iexact C5
    isplitl [HO]; · iexact HO
    iexact P5
  iintro ⟨HO, P5, L6⟩
  ihave L6 := (Entails.of_eq (show pay A c 5 = lent src A c 6 from rfl)) $$ L6
  iapply (wait_copy fm (defs₀ (F := F)) 𝒱₀ none ER (pay A) (κ := κ) c 2 ((((((((recvs).erase 7).erase 8).erase 10).erase 12).erase 9).erase 11).erase 13) (by decide) rfl (credit _)) $$ [C2 HO P2]
  · isplitr; · iexact HR
    isplitr; · iexact HL
    isplitl [C2]; · iexact C2
    isplitl [HO]; · iexact HO
    iexact P2
  iintro ⟨HO, P2, B2⟩
  ihave B2 := (Entails.of_eq (show pay A c 2 = landed blk (part A) c (peer 2 c) from rfl)) $$ B2
  iapply (wait_copy fm (defs₀ (F := F)) 𝒱₀ none ER (pay A) (κ := κ) c 4 ((((((((recvs).erase 7).erase 8).erase 10).erase 12).erase 9).erase 11).erase 13) (by decide) rfl (credit _)) $$ [C4 HO P4]
  · isplitr; · iexact HR
    isplitr; · iexact HL
    isplitl [C4]; · iexact C4
    isplitl [HO]; · iexact HO
    iexact P4
  iintro ⟨HO, P4, B4⟩
  ihave B4 := (Entails.of_eq (show pay A c 4 = landed blk (part A) c (peer 4 c) from rfl)) $$ B4
  iapply (wait_copy fm (defs₀ (F := F)) 𝒱₀ none ER (pay A) (κ := κ) c 6 ((((((((recvs).erase 7).erase 8).erase 10).erase 12).erase 9).erase 11).erase 13) (by decide) rfl (credit _)) $$ [C6 HO P6]
  · isplitr; · iexact HR
    isplitr; · iexact HL
    isplitl [C6]; · iexact C6
    isplitl [HO]; · iexact HO
    iexact P6
  iintro ⟨HO, P6, B6⟩
  ihave B6 := (Entails.of_eq (show pay A c 6 = landed blk (part A) c (peer 6 c) from rfl)) $$ B6
  iapply (wait_copy fm (defs₀ (F := F)) 𝒱₀ none ER (pay A) (κ := κ) c 14 ((((((((recvs).erase 7).erase 8).erase 10).erase 12).erase 9).erase 11).erase 13) (by decide) rfl (credit _)) $$ [C14 HO P14]
  · isplitr; · iexact HR
    isplitr; · iexact HL
    isplitl [C14]; · iexact C14
    isplitl [HO]; · iexact HO
    iexact P14
  iintro ⟨HO, P14, B0⟩
  ihave B0 := (Entails.of_eq (show pay A c 14 = iprop(landed blk (part A) c c ∗ lent src A c 0) from rfl)) $$ B0
  icases B0 with ⟨B0, L0⟩
  rw [wp_ret]
  imod (leave fm ER (pay A) (κ := κ) c) $$ [P0 P1 P2 P3 P4 P5 P6 P7 P8 P9 P10 P11 P12 P13 P14] with Hz
  · isplitr; · iexact HR
    rw [fifteen]
    isplitl [P0]; · iexact P0
    isplitl [P1]; · iexact P1
    isplitl [P2]; · iexact P2
    isplitl [P3]; · iexact P3
    isplitl [P4]; · iexact P4
    isplitl [P5]; · iexact P5
    isplitl [P6]; · iexact P6
    isplitl [P7]; · iexact P7
    isplitl [P8]; · iexact P8
    isplitl [P9]; · iexact P9
    isplitl [P10]; · iexact P10
    isplitl [P11]; · iexact P11
    isplitl [P12]; · iexact P12
    isplitl [P13]; · iexact P13
    iexact P14
  imodintro
  iapply Hk
  isplitr [HO]
  · unfold after
    rw [eight c]
    isplitl [B0 B1 B2 B3 B4 B5 B6 B7]
    · isplitl [B0]; · iexact B0
      isplitl [B1]; · iexact B1
      isplitl [B2]; · iexact B2
      isplitl [B3]; · iexact B3
      isplitl [B4]; · iexact B4
      isplitl [B5]; · iexact B5
      isplitl [B6]; · iexact B6
      iexact B7
    isplitl [L0 L1 L2 L4 L6]
    · isplitl [L0]; · iexact L0
      isplitl [L1]; · iexact L1
      isplitl [L2]; · iexact L2
      isplitl [L4]; · iexact L4
      iexact L6
    iexact Hz
  · iexists _
    iapply (Entails.of_eq (congrArg (fun O => owes (c.tc : Thread nD τ) O _) (debt_empty fm c))); iexact HO

end Body

end WeightGather

end
-- ==== Proof.Launch.lean ====
/-
  The launch of a program that is one kernel region, for kernels that write straight into buffers of
  other devices.

  The library's launch theorem for kernels that owe at launch (`θ_run_region_owing_glob_pf`) shows the
  certificate every device's own semaphores at once, but each device's buffers only to that device.  In an
  exchange without a barrier a device writes into its peers' result buffers from its first instruction on, so the
  elements of those buffers must change hands before any device runs.  `run_exchange` below is the
  launch with that one difference: the step that sees all devices (`hglob`) is given, beside the semaphores,
  every device's unscoped buffers that are no window's array.
-/
module

public import Idealize.ShloMosaic.Lib.Pipeline.Launch

@[expose] public section

set_option Elab.async false

noncomputable section

namespace Exchange

open Idealize.ShloMosaic Idealize.ShloMosaic.Pipeline
open Idealize.ShloMosaic.TcCoe
open Idealize.ShloMosaic.Rounds
open Idealize.SL
open Idealize.SL.BI (sProp bigSep bigSep_sep' bigSep_mono bigSep_congr bigSep_univ_prod bigSep_elim)
open scoped Idealize.SL.BI
open Idealize.SL.BI.BIBase Idealize.SL.BI.Laws Idealize.SL.Sem Idealize.SL.ProofMode
open Idealize.SL.RA

variable {nD : Nat} {τ : Topo} {sig : RefSig} {Val : EltTy → Type}
variable {Ix : Type} [DecidableEq Ix] {Name : Type} [DecidableEq Name] {U : Type} [URA U] {Lvl : Type}

local notation "𝕄" => MT nD τ sig Ix Val Name U Lvl

/-! ## Levels -/

/-- Every TensorCore's rights to assign levels make the level facts of the whole machine, when only
    TensorCore cells are given levels. -/
theorem levels_assigned [Preorder Lvl] (L : GSem nD τ sig → Finset Ix) (lv : GSem nD τ sig → Ix → Lvl)
    (hL : ∀ g : GSem nD τ sig, g.1.2 ≠ .tc → L g = ∅) :
    (bigSep Finset.univ fun c : Dev nD => levels0 (Ix := Ix) (Val := Val) (Name := Name) (U := U) (Lvl := Lvl) (τ := τ) (sig := sig) c)
      ⊢ (|==> levAts L lv : sProp 𝕄) := by
  have rest : (bigSep Finset.univ fun d : Dev nD => bigSep (Finset.univ.erase Proc.tc) fun p => (coreLevAts ((d, p) : Thread nD τ) L lv : sProp 𝕄)) = BI.emp := by
    have one (d : Dev nD) (p : Proc τ) (hp : p ∈ Finset.univ.erase (Proc.tc : Proc τ)) : (coreLevAts ((d, p) : Thread nD τ) L lv : sProp 𝕄) = BI.emp := by
      unfold coreLevAts
      rw [bigSep_congr (Ψ := fun _ : SemLoc sig => (BI.emp : sProp 𝕄)) fun sm _ => by
        rw [hL (((d, p) : Thread nD τ), sm) (Finset.ne_of_mem_erase hp), BI.bigSep_empty], BI.bigSep_emp_const]
    rw [bigSep_congr (Ψ := fun _ : Dev nD => (BI.emp : sProp 𝕄)) fun d _ =>
      (bigSep_congr (Ψ := fun _ : Proc τ => (BI.emp : sProp 𝕄)) (one d)).trans (BI.bigSep_emp_const _), BI.bigSep_emp_const]
  have all : (levAts L lv : sProp 𝕄) = iprop((bigSep Finset.univ fun d : Dev nD => coreLevAts (d.tc : Thread nD τ) L lv)
      ∗ bigSep Finset.univ fun d : Dev nD => bigSep (Finset.univ.erase Proc.tc) fun p => (coreLevAts ((d, p) : Thread nD τ) L lv : sProp 𝕄)) := by
    rw [show (levAts L lv : sProp 𝕄) = bigSep Finset.univ fun c : Thread nD τ => coreLevAts c L lv
      from (bigSep_univ_prod fun g : GSem nD τ sig => bigSep (L g) fun ι => levAt g ι (lv g ι)),
      bigSep_threads (fun c : Thread nD τ => coreLevAts c L lv)]
  refine (bigSep_mono fun c _ => lev_assign_cells (c.tc : Thread nD τ) L lv).trans <| (BI.bigSep_bupd _ _).trans <| BI.bupd_mono ?_
  have fin : iprop((bigSep Finset.univ fun c : Dev nD => bigSep Finset.univ fun sm : SemLoc sig => levels ((c.tc : Thread nD τ), sm) (L ((c.tc : Thread nD τ), sm)))
        ∗ bigSep Finset.univ fun c : Dev nD => coreLevAts (c.tc : Thread nD τ) L lv : sProp 𝕄)
      ⊢ iprop((bigSep Finset.univ fun d : Dev nD => coreLevAts (d.tc : Thread nD τ) L lv) ∗ BI.emp) := by
    iintro ⟨-, H⟩
    isplitl [H]
    · iexact H
    · iempintro
  rw [all, rest, bigSep_sep']
  exact fin

/-! ## The region -/

section Run

variable {Λ₀ : Idealize.SL.Sem.Labels} {P : Type} [Fintype P] [DecidableEq P]
variable (cfgs : P → Cfg sig Λ₀) (dats : (p : P) → (c : Dev nD) → Dat τ Val Ix Name U Lvl (cfgs p) c) (ι : Ix)
variable (hinj : Function.Injective (PerCore.cellOf (nD := nD) (fun _ : Dev nD => cfgs))) (p : P)
variable {K : Type} [Fintype K] {osem : K → SemLoc sig}

/-- What stays with a device from the launch to its region: its scoped buffers, the staging PerCore.cells, the PerCore.cells nobody uses. -/
def kept (ho : OwnSemFacts (cfgs p).spec osem) (c : Dev nD) : sProp 𝕄 :=
  iprop(scopedBufs (c.tc : Thread nD τ) ∗ PerCore.cellsSems0 (fun _ : Dev nD => cfgs) p c ∗ PerCore.idleSems0 (fun _ : Dev nD => cfgs) hinj p (fun _ => ho) c)

/-- The windows' arrays at the launch contents. -/
def arrs (m : (ℓ : Loc nD τ sig) → Buf Val ℓ) (c : Dev nD) : sProp 𝕄 :=
  bigSep Finset.univ fun w => (((c.tc : Thread nD τ).loc (arrRef (cfgs p).spec w)) ↦{fullShare} m ((c.tc : Thread nD τ).loc (arrRef (cfgs p).spec w)) : sProp 𝕄)

omit [Fintype P] [DecidableEq P] in
/-- A device's launch holdings, sorted. -/
theorem sorted (hw : WinFacts₀ (cfgs p).spec) (ho : OwnSemFacts (cfgs p).spec osem) (hdistinct : Function.Injective (arrRef (cfgs p).spec))
    (O₀ : Dev nD → CellTallies nD τ sig Ix) (m : (ℓ : Loc nD τ sig) → Buf Val ℓ) (g : Dev nD → PrngReg) (c : Dev nD) :
    coreInit (Ix := Ix) (Name := Name) (U := U) (Lvl := Lvl) (owing O₀) 0 (⟨m, fun _ => 0, g⟩ : MemSt nD τ sig Val) (c.tc : Thread nD τ)
      ⊢ iprop(kept cfgs hinj p ho c ∗ arrs cfgs p m c
          ∗ (ownSems0 osem c ∗ unscopedSems0 c ∗ unscopedRest (cfgs p).spec c (fun b => m ((c.tc : Thread nD τ).loc b)))
          ∗ owes (c.tc : Thread nD τ) (O₀ c) ∅ ∗ levels0 c ∗ prngReg c (g c) ∗ launchCred O₀ c) := by
  refine (coreInit_boundary_owing O₀ m g c).trans ?_
  unfold boundary kept arrs
  rw [PerCore.scopedSems0_split (fun _ : Dev nD => cfgs) hinj p (fun _ => hw) (fun _ => ho) c,
    PerCore.unscopedBufs_split (fun _ : Dev nD => cfgs) p c hw.arr_unscoped hdistinct (fun b => m ((c.tc : Thread nD τ).loc b))]
  iintro ⟨⟨Hsc, ⟨⟨Hcells, Hos⟩, Hidle⟩, -⟩, ⟨Harr, Hrest⟩, Hus, HO, Hlv, Hpr, Hcr⟩
  isplitl [Hsc Hcells Hidle]
  · isplitl [Hsc]; · iexact Hsc
    isplitl [Hcells]; · iexact Hcells
    iexact Hidle
  isplitl [Harr]; · iexact Harr
  isplitl [Hos Hus Hrest]
  · isplitl [Hos]; · iexact Hos
    isplitl [Hus]; · iexact Hus
    iexact Hrest
  isplitl [HO]; · iexact HO
  isplitl [Hlv]; · iexact Hlv
  isplitl [Hpr]; · iexact Hpr
  iexact Hcr

variable (EP : Emb (URounds (GSem nD τ sig) Unit) (MT nD τ sig Ix Val Name U Lvl))
  (defs₀ : Defs nD τ sig Val Λ₀) (𝒱₀ : Variants)

/-- No table is prefetched, so there is nothing to hold of one. -/
theorem prefHeld_none (c : Dev nD) (q : Fin 0 → PosShare TreeShare) (V : (Prefetch.none (sig := sig)).Contents Val) :
    (BI.emp : sProp 𝕄) ⊢ prefHeld (Prefetch.none (sig := sig)) c q V := by
  unfold prefHeld
  exact Entails.of_eq (BI.bigSep_empty (Φ := _)).symm

include hinj in
/-- A program that is one kernel region, from a memory with every semaphore at zero: the devices owe `O₀` at launch;
    one step (`hglob`) sees every device's own semaphores, unscoped semaphores and unscoped buffers that are no
    window's array, and deals each device `G'`. -/
theorem run_exchange [Preorder Lvl] [∀ e, Nonempty (Val e)] [Infinite Name] [EP.LandsIn (upEmb : UEmb _ 𝕄)]
    (hw : WinFacts₀ (cfgs p).spec) (ho : OwnSemFacts (cfgs p).spec osem)
    (m : (ℓ : Loc nD τ sig) → Buf Val ℓ) (g : Dev nD → PrngReg)
    (main : Dev nD → Prog (TpuEff nD τ sig Val (Sig Λ₀ P fun p => ((cfgs p).toPCfg (Val := Val)).Adm) .tc) PUnit)
    (hmain : ∀ c, main c = .op (.customCall (entry p) ()) fun _ => .ret ⟨⟩)
    (hbody : ∀ c, BodyObligationLoose (dats p c) defs₀ 𝒱₀ ι Set.univ)
    (hne : ∀ w : Fin (cfgs p).W, 0 < ((cfgs p).spec w).block.numel)
    (harr : ∀ w, ((cfgs p).spec w).arr.IsWhole) (hstage : ∀ w s, (((cfgs p).spec w).stage s).IsWhole)
    (hshare : ∀ c w, (dats p c).share w = fullShare) (hdistinct : Function.Injective (arrRef (cfgs p).spec))
    (O₀ : Dev nD → CellTallies nD τ sig Ix) (howed₀ : ∀ c, (dats p c).owed 0 = O₀ c) (howedN : ∀ c, (dats p c).owed (Fin.last _) = 0)
    (L : GSem nD τ sig → Finset Ix) (lv : GSem nD τ sig → Ix → Lvl) (hL : ∀ g : GSem nD τ sig, g.1.2 ≠ .tc → L g = ∅)
    (hwaits : ∀ c, (levAts L lv : sProp 𝕄) ⊢ PerCore.cellsWaits (fun _ : Dev nD => cfgs) dats ι p c)
    (G G' : Dev nD → sProp 𝕄) (u₀ : U)
    (hu₀ : (ownU u₀ : sProp 𝕄) ⊢ |={Set.univ}=> iprop(BI.own (EP (initOf (PerCore.cells (fun _ : Dev nD => cfgs) hinj) (PerCore.launchToks (fun _ : Dev nD => cfgs) hinj))) ∗ bigSep Finset.univ G))
    (hglob : iprop((bigSep Finset.univ fun c => iprop(ownSems0 osem c ∗ unscopedSems0 c
          ∗ unscopedRest (cfgs p).spec c (fun b => m ((c.tc : Thread nD τ).loc b)))) ∗ bigSep Finset.univ G : sProp 𝕄)
        ⊢ |={Set.univ}=> bigSep Finset.univ G')
    (hA : ∀ c w, (dats p c).A w = m (((cfgs p).spec w).arr.view.loc (c.tc : Thread nD τ)))
    (Y : Dev nD → sProp 𝕄)
    (hin : ∀ c, iprop(levAts L lv ∗ launchCred O₀ c ∗ prngReg c (g c) ∗ G' c ∗ scopedRest (cfgs p).spec c) ⊢ (dats p c).Φ 0)
    (hout : ∀ c, (dats p c).Φ (Fin.last (cfgs p).N) ⊢ iprop(Y c ∗ ownSems0 osem c ∗ scopedRest (cfgs p).spec c))
    (QY : Dev nD → MemSt nD τ sig Val → Prop)
    (hY : ∀ c (s' : Phys nD τ sig Val), iprop(Y c ∗ SI s') ⊢ |={Set.univ}=> iprop(⌜QY c s'.mem⌝ ∗ SI s'))
    {Q : PUnit × MemSt nD τ sig Val → Prop}
    (hQ : ∀ s : MemSt nD τ sig Val,
      (∀ c : Dev nD, (∀ w, s.mem (((cfgs p).spec w).arr.view.loc (c.tc : Thread nD τ)) = (dats p c).arrAt w (cfgs p).N) ∧ QY c s) →
      (∀ g' : GSem nD τ sig, (g'.1.2 ≠ .tc ∨ g'.2.isScoped .tc = true) → s.sem g' = 0) → Q (⟨⟩, s)) :
    θ_run (Pipeline.defs (fun p => (cfgs p).toPCfg) defs₀) (onTc main) ⟨m, fun _ => 0, g⟩ Q := by
  classical
  let a : Dev nD → (p : P) → ((cfgs p).toPCfg (Val := Val)).Adm := fun _ p => (cfgs p).toPCfg_adm
  let rd := Dat.toRs dats
  let before : Dev nD → sProp 𝕄 := fun c => iprop(kept cfgs hinj p ho c ∗ arrs cfgs p m c ∗ owes (c.tc : Thread nD τ) (O₀ c) ∅
    ∗ prngReg c (g c) ∗ launchCred O₀ c ∗ levAts L lv ∗ PerCore.cellsGhost (fun _ : Dev nD => cfgs) EP p c ∗ PerCore.toksInit (fun _ : Dev nD => cfgs) EP p c ∗ G' c)
  let after : Dev nD → sProp 𝕄 := fun c => iprop((rd p c).arraysAt (cfgs p).N ∗ Y c ∗ scopedSems0 (c.tc : Thread nD τ))
  refine (θ_run (Pipeline.defs (fun p => (cfgs p).toPCfg) defs₀) _ _).mono (Q := fun r => (∀ c : Dev nD, ((∀ w, (rd p c).ArrAt w (cfgs p).N (r.2.mem (((cfgs p).spec w).arr.view.loc (c.tc : Thread nD τ))))
        ∧ QY c r.2) ∧ ∀ sm : SemLoc sig, sm.isScoped .tc = true → r.2.sem ((c.tc : Thread nD τ), sm) = 0)
      ∧ ∀ g' : GSem nD τ sig, g'.1.2 ≠ .tc → r.2.sem g' = 0)
    (fun r hr => hQ r.2 (fun c => ⟨fun w => ((dats p c).toR_arrAt_iff w _ _).mp ((hr.1 c).1.1 w), (hr.1 c).1.2⟩)
      (sems_of_reads (fun c => (hr.1 c).2) hr.2))
    (adequate_tpu (Pipeline.defs (fun p => (cfgs p).toPCfg) defs₀) _ _ _ (reflect_intro_fupd_tc_sems (X := Unit) (Variants.lift 𝒱₀) (owing O₀) 0 (noBookings fun _ => le_rfl) (owing_of_ne O₀) u₀
      (fun _ => before) (fun _ => after) (fun _ => iprop(emp)) Set.univ ?launch (fun _ c => ?core) fun _ => ?read))
  case launch =>
    have pick (Φ : P → Dev nD → sProp 𝕄) :
        (bigSep Finset.univ fun c : Dev nD => bigSep Finset.univ fun p' => Φ p' c) ⊢ bigSep Finset.univ fun c : Dev nD => Φ p c :=
      bigSep_mono fun c _ => BI.bigSep_elim (Finset.mem_univ p)
    refine (sep_mono_left (bigSep_mono fun c _ => sorted cfgs hinj p hw ho hdistinct O₀ m g c)).trans ?_
    simp only [bigSep_sep']
    iintro ⟨Hc, Hu⟩
    icases Hc with ⟨Hkept, Harrs, Hshared, HO, Hlv, Hpr, Hcr⟩
    imod (levels_assigned L lv hL) $$ Hlv with Hla
    imod hu₀ $$ Hu with ⟨HP, HG⟩
    imod (PerCore.fund_ghost (fun _ : Dev nD => cfgs) EP hinj) $$ HP with ⟨Hg, Ht⟩
    imod hglob $$ [Hshared HG] with HG'
    · isplitl [Hshared]
      · simp only [bigSep_sep']; iexact Hshared
      · iexact HG
    imodintro
    iexists ()
    isplitr []
    · simp only [before, bigSep_sep']
      isplitl [Hkept]; · iexact Hkept
      isplitl [Harrs]; · iexact Harrs
      isplitl [HO]; · iexact HO
      isplitl [Hpr]; · iexact Hpr
      isplitl [Hcr]; · iexact Hcr
      isplitl [Hla]; · iapply (BI.bigSep_intro_persistent (S := Finset.univ) fun (c : Dev nD) _ => (BI.Entails.refl (levAts L lv : sProp 𝕄))); iexact Hla
      isplitl [Hg]; · iapply (pick fun p' c => PerCore.cellsGhost (fun _ : Dev nD => cfgs) EP p' c); iexact Hg
      isplitl [Ht]; · iapply (pick fun p' c => PerCore.toksInit (fun _ : Dev nD => cfgs) EP p' c); iexact Ht
      iexact HG'
    · iempintro
  case core =>
    have hsb := PerCore.scopedBufs_split (fun _ : Dev nD => cfgs) p c hw.stage_scoped hw.stage_inj hstage (nD := nD) (τ := τ) (Ix := Ix) (Val := Val) (Name := Name) (U := U) (Lvl := Lvl)
    have hss := PerCore.scopedSems0_split (fun _ : Dev nD => cfgs) hinj p (fun _ => hw) (fun _ => ho) (Ix := Ix) (Val := Val) (Name := Name) (U := U) (Lvl := Lvl) c
    have arrays : arrs cfgs p m c = (rd p c).arrays (rd p c).A := by
      unfold arrs
      rw [PerCore.RDat.arrays_eq (fun p => (cfgs p).toPCfg) a rd p c harr (hshare c)]
      exact bigSep_congr fun w _ => congrArg _ (hA c w).symm
    have leave : iprop((rd p c).Φ (Fin.last (cfgs p).N) ∗ PerCore.cellsSems0 (fun _ : Dev nD => cfgs) p c ∗ Dat.staging (cfgs p) c ∗ PerCore.idleSems0 (fun _ : Dev nD => cfgs) hinj p (fun _ => ho) c)
        ⊢ iprop(Y c ∗ scopedSems0 (c.tc : Thread nD τ) ∗ scopedBufs (c.tc : Thread nD τ)) := by
      rw [hss, hsb, show (rd p c).Φ (Fin.last (cfgs p).N) = (dats p c).Φ (Fin.last (cfgs p).N) from rfl]
      iintro ⟨HΦ, Hcells, Hst, Hidle⟩
      ihave H := (hout c) $$ HΦ
      icases H with ⟨HY, Hos, Hrest⟩
      isplitl [HY]; · iexact HY
      isplitl [Hcells Hos Hidle]
      · isplitl [Hcells Hos]
        · isplitl [Hcells] <;> iassumption
        · iexact Hidle
      · isplitl [Hst] <;> iassumption
    have quiet : PerCore.RDat.EntryPost (fun _ : Dev nD => cfgs) rd ι p c
        ⊢ iprop((rd p c).arraysAt (cfgs p).N ∗ ∃ W, owes (c.tc : Thread nD τ) (0 : CellTallies nD τ sig Ix) W) := by
      unfold PerCore.RDat.EntryPost RDat.owesAt owesWithin
      rw [show (rd p c).owed (Fin.last _) = 0 from howedN c]
      iintro ⟨Ha, ⟨%W, -, HW⟩⟩
      isplitl [Ha]; · iexact Ha
      iexists W; iexact HW
    simp only [before, kept]
    rw [hmain c]
    iintro ⟨⟨Hsc, Hcells, Hidle⟩, Harr, HO, Hpr, Hcr, #Hla, Hg, Ht, HG⟩
    ihave Hw := (hwaits c) $$ Hla
    iapply (fupd_wp frame (wpE (Pipeline.defs (fun p => (cfgs p).toPCfg) defs₀) (Variants.lift 𝒱₀) (c.tc : Thread nD τ) none) Set.univ _ _)
    imod (PerCore.RDat.cellsInit_alloc (fun _ : Dev nD => cfgs) rd EP hinj p c) $$ [Hcells Hg] with ⟨%κ, -, Hinit⟩
    · isplitl [Hcells] <;> iassumption
    imodintro
    iapply (PerCore.RDat.wp_customCall_entry_frame (fun p => (cfgs p).toPCfg) a rd ι EP κ hinj p defs₀ 𝒱₀ (fun _ => fullShare) c Set.univ (fun _ _ => Set.mem_univ _)
        ((hbody c).toR) hne none (fun u h => nomatch h) (X := iprop(levAts L lv ∗ launchCred O₀ c ∗ prngReg c (g c) ∗ G' c)) (Y := Y c)
        (R := scopedRest (cfgs p).spec c) (I := PerCore.idleSems0 (fun _ : Dev nD => cfgs) hinj p (fun _ => ho) c)
        (Entails.of_eq hsb)
        (by
          iintro ⟨⟨H1, H2, H3, H4⟩, -, H5⟩
          iapply (show _ ⊢ (rd p c).Φ 0 from hin c)
          isplitl [H1]; · iexact H1
          isplitl [H2]; · iexact H2
          isplitl [H3]; · iexact H3
          isplitl [H4] <;> iassumption)
        leave (k := fun _ => .ret ⟨⟩) (Q := fun _ => post (liftTc after BI.emp) (c.tc : Thread nD τ))) $$ [Harr HO Hinit Ht Hpr Hcr HG Hidle Hsc Hw]
    · isplitl [Harr HO Hinit Ht Hw]
      · unfold PerCore.RDat.EntryPre RDat.owesAt owesWithin
        rw [show (rd p c).owed 0 = O₀ c from howed₀ c]
        isplitl [Harr]; · iapply (Entails.of_eq arrays); iexact Harr
        isplitl [HO]
        · iexists ∅; isplitr; · ipureintro; rw [Finset.coe_empty]; exact Set.empty_subset _
          iexact HO
        isplitl [Hw]; · iexact Hw
        isplitl [Hinit] <;> iassumption
      isplitr; · iapply (prefHeld_none c); iempintro
      isplitl [Hpr Hcr HG]
      · isplitr; · iexact Hla
        isplitl [Hcr]; · iexact Hcr
        isplitl [Hpr] <;> iassumption
      isplitl [Hidle]; · iexact Hidle
      iexact Hsc
    iintro ⟨Hpost, HY, Hss2, -⟩
    rw [wp_ret]; imodintro
    unfold post; simp only [liftTc_tc, after]
    ihave Hp := quiet $$ Hpost
    icases Hp with ⟨Ha, HW⟩
    isplitr [HW]
    · isplitl [Ha]; · iexact Ha
      isplitl [HY] <;> iassumption
    · iexact HW
  case read =>
    have one (c : Dev nD) (s' : Phys nD τ sig Val) : iprop(after c ∗ SI s') ⊢ |={Set.univ}=>
        iprop(⌜((∀ w, (rd p c).ArrAt w (cfgs p).N (s'.mem.mem (((cfgs p).spec w).arr.view.loc (c.tc : Thread nD τ)))) ∧ QY c s'.mem)
          ∧ ∀ sm : SemLoc sig, sm.isScoped .tc = true → s'.mem.sem ((c.tc : Thread nD τ), sm) = 0⌝ ∗ SI s') := by
      simp only [after]
      iintro ⟨⟨Ha, HY, Hss⟩, HSI⟩
      ihave %hz := (tcScoped_read_pers c s') $$ [Hss HSI]
      · isplitl [Hss] <;> iassumption
      ihave Hr := (PerCore.RDat.arraysAt_read (fun p => (cfgs p).toPCfg) a rd p c harr (cfgs p).N s') $$ [Ha HSI]
      · isplitl [Ha] <;> iassumption
      icases Hr with ⟨%ha, HSI⟩
      imod (hY c s') $$ [HY HSI] with ⟨%hy, HSI⟩
      · isplitl [HY] <;> iassumption
      imodintro
      isplitr
      · ipureintro; exact ⟨⟨ha, hy⟩, hz⟩
      · iexact HSI
    iintro ⟨H, -, Hsc⟩ %s' HSI
    ihave %hsc := (scSems_read_zero m g s') $$ [Hsc HSI]
    · isplitl [Hsc] <;> iassumption
    imod (posts_fupd Finset.univ one s') $$ [H HSI] with %h
    · isplitl [H] <;> iassumption
    imodintro
    ipureintro
    exact ⟨fun c => h c (Finset.mem_univ c), hsc⟩

end Run

end Exchange

end
-- ==== Proof.WeightLaunch.lean ====
/-
  The gather of the input weight on all devices: the launch, and what every device's memory holds at the end.
-/
module

public import proofs.«01_k».proof.Proof.WeightRun
public import proofs.«01_k».proof.Proof.Launch
public import Idealize.ShloMosaic.Lib.Ring

@[expose] public section

set_option Elab.async false

noncomputable section

namespace WeightGather

open Idealize.ShloMosaic
open Idealize.ShloMosaic.TcCoe
open Idealize.ShloMosaic.Rounds
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen
open Exchange

variable {F : FTy → Type} [FloatOps F]

/-! ## The eight blocks of the result -/

/-- The elements of block `j`. -/
def cut (j : Fin 8) : Finset S8x2048x640.Idx := (Rect.unit (s := S8x2048x640) ![j.val, 0, 0] S1x2048x640.size (inb j)).set

theorem set_blk (j : Fin 8) : (blk j).view.set = cut j := by
  show (((Memref.whole main_v1).view.slice _).reshape _ _).set = _
  rw [View.set_reshape]
  exact View.set_slice_whole _ _

theorem cut_disjoint (j j' : Fin 8) (h : j ≠ j') : Disjoint (cut j) (cut j') :=
  Ring.lead_disjoint (s := S8x2048x640) (NB := 8) 0 1 (fun j => ![j.val, 0, 0]) S1x2048x640.size inb (fun b => (Nat.one_mul _).symm) rfl j j' h

theorem cut_cover : Finset.univ.biUnion cut = Finset.univ :=
  Ring.lead_cover (s := S8x2048x640) (NB := 8) 0 1 (fun j => ![j.val, 0, 0]) S1x2048x640.size inb (fun b => (Nat.one_mul _).symm)
    (by intro b a h; fin_cases a <;> first | exact absurd rfl h | rfl) rfl (by intro a h; fin_cases a <;> first | exact absurd rfl h | rfl) rfl

/-! ## Splitting the result and the argument -/

abbrev v1 (c : Dev nD) : Loc nD τ sig := ((c.tc : Thread nD τ)).loc main_v1
abbrev a0 (c : Dev nD) : Loc nD τ sig := ((c.tc : Thread nD τ)).loc main_arg0

omit [FloatOps F] in
/-- The result, whole, is room for every block. -/
theorem split_room (c : Dev nD) (f : Buf (Elt F) (v1 c)) :
    (v1 c ↦{fullShare} f : sProp (M F)) ⊢ bigSep Finset.univ fun j : Fin 8 => free blk c j := by
  have e : (v1 c ↦{fullShare} f : sProp (M F)) = bigSep Finset.univ fun j => (v1 c ↦[cut j]{fullShare} f) := by
    have h := pointsTo_biUnion (ℓ := v1 c) (q := fullShare) (f := f) (Ix := Unit) (Name := ℕ) (U := UU) (Lvl := ℕ) Finset.univ cut fun j _ j' _ h => cut_disjoint j j' h
    rw [← h, cut_cover]
  rw [e]
  refine bigSep_mono fun j _ => ?_
  show (v1 c ↦[cut j]{fullShare} f : sProp (M F)) ⊢ free blk c j
  unfold free room at'
  rw [set_blk]
  iintro H
  iexists f
  iexact H

omit [FloatOps F] in
theorem rooms (c : Dev nD) (f : Buf (Elt F) (v1 c)) :
    (v1 c ↦{fullShare} f : sProp (M F)) ⊢ bigSep Finset.univ fun k : Fin 15 => sibRoom blk c k := by
  refine (split_room c f).trans ?_
  rw [eight c, fifteen]
  simp only [sibRoom]
  iintro ⟨H0, H1, H2, H3, H4, H5, H6, H7⟩
  iterate 7 isplitr; · iempintro
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H0

omit [FloatOps F] in
/-- The landed blocks are the result, whole. -/
theorem join_landed (A : ∀ c : Dev nD, Buf (Elt F) (src.view.loc (c.tc : Thread nD τ))) (c : Dev nD) :
    (bigSep Finset.univ fun j : Fin 8 => landed blk (part A) c j)
      ⊢ (iprop(∃ f : Buf (Elt F) (v1 c), ⌜∀ j, (blk j).view.read (Elt F) f = part A j⌝ ∗ v1 c ↦{fullShare} f) : sProp (M F)) := by
  have e : (bigSep Finset.univ fun j : Fin 8 => landed blk (part A) c j : sProp (M F))
      = bigSep Finset.univ fun j : Fin 8 => iprop(∃ f : Buf (Elt F) (v1 c), ⌜(blk j).view.read (Elt F) f = part A j⌝ ∗ v1 c ↦[cut j]{fullShare} f) := by
    refine bigSep_congr fun j _ => ?_
    unfold landed holds at'
    rw [set_blk]
  rw [e]
  haveI : Nonempty (Buf (Elt F) (v1 c)) := ⟨fun _ => (A c (fun a => ⟨0, by revert a; show ∀ a : Fin 2, 0 < S2048x640.size a; decide⟩) : Elt F .bf16)⟩
  iintro H
  ihave H := (BI.bigSep_exists_pi Finset.univ (fun (j : Fin 8) (f : Buf (Elt F) (v1 c)) =>
    iprop(⌜(blk j).view.read (Elt F) f = part A j⌝ ∗ v1 c ↦[cut j]{fullShare} f : sProp (M F)))) $$ H
  icases H with ⟨%fs, H⟩
  ihave H := (bigSep_pure_sep Finset.univ (fun j : Fin 8 => (blk j).view.read (Elt F) (fs j) = part A j)
    (fun j => (v1 c ↦[cut j]{fullShare} fs j : sProp (M F)))) $$ H
  icases H with ⟨%hp, H⟩
  ihave H := (pointsTo_biUnion_join Finset.univ cut fs (fs 0) fun j _ j' _ h => cut_disjoint j j' h) $$ H
  icases H with ⟨%g, %hg, H⟩
  iexists g
  isplitr
  · ipureintro
    intro j
    rw [← hp j (Finset.mem_univ j)]
    refine View.read_congr fun i hi => hg j (Finset.mem_univ j) i ?_
    rw [← set_blk]; exact hi
  · rw [cut_cover]; iexact H

omit [FloatOps F] in
/-- The argument's shares. -/
theorem lend (A : ∀ c : Dev nD, Buf (Elt F) (src.view.loc (c.tc : Thread nD τ))) (c : Dev nD) :
    (a0 c ↦{fullShare} A c : sProp (M F))
      = iprop(lent src A c 0 ∗ lent src A c 1 ∗ lent src A c 2 ∗ lent src A c 4 ∗ lent src A c 6) := by
  unfold lent at'
  rw [show src.view.set = Finset.univ from View.set_whole _]
  rw [Transfers.pointsTo_deal parts (by decide) fullShare]
  rw [show parts = {0, 1, 2, 4, 6} from rfl]
  iterate 4 rw [bigSep_insert (by decide)]
  rw [bigSep_singleton]
  rfl

open Idealize.ShloMosaic.Pipeline

/-! ## The region's data -/

section Launch

variable (m : (ℓ : Loc nD τ sig) → Buf (Elt F) ℓ) (ρ : Dev nD → PrngReg)

/-- The argument at launch. -/
def arg (c : Dev nD) : Buf (Elt F) (src.view.loc (c.tc : Thread nD τ)) := m (a0 c)

def dats (_ : Fin 1) (c : Dev nD) : Dat τ (Elt F) Unit ℕ UU ℕ cfg0 c where
  A w := m ((cfg0.win w).arr.view.loc (c.tc : Thread nD τ))
  after w _ := Fin.elim0 w
  Φ t := match t with
    | ⟨0, _⟩ => iprop(∃ κ, before (arg m) κ c)
    | ⟨_ + 1, _⟩ => after (arg m) c
  q _ := fullShare
  owed t := match t with
    | ⟨0, _⟩ => debt fm recvs c
    | ⟨_ + 1, _⟩ => 0

set_option maxRecDepth 20000 in
theorem body_obligation (c : Dev nD) : Pipeline.BodyObligation (dats m 0 c) (defs₀ (F := F)) 𝒱₀ () Set.univ := by
  intro t
  rw [fin_N0 t]
  show iprop((∃ κ, before (arg m) κ c) ∗ _ ∗ _) ⊢ wp frame (wpE (defs₀ (F := F)) 𝒱₀ c.tc none) Set.univ
    (cc0_weight_gather (Memref.whole main_arg0) _ (Memref.whole main_v1) _ cc0_scratch0 cc0_scratch1 cc0_scratch2) _
  iintro ⟨⟨%κ, Hb⟩, Ho, Hw⟩
  ihave Ho := (Entails.of_eq (show (dats m 0 c).owesAt () t0_0.castSucc = _ from by unfold Pipeline.Dat.owesAt Pipeline.owesWithin; rfl)) $$ Ho
  icases Ho with ⟨%W, -, Ho⟩
  iapply (run_body (arg m) κ c W)
  isplitl [Hb]; · iexact Hb
  isplitl [Ho]; · iexact Ho
  iintro ⟨Ha, ⟨%W', Ho⟩⟩
  ihave Ha := (Entails.of_eq (show (after (arg m) c : sProp (M F)) = (dats m 0 c).Φ t0_0.succ from rfl)) $$ Ha
  isplitl [Ha]; · iexact Ha
  isplitl [Ho]
  · unfold Pipeline.Dat.owesAt Pipeline.owesWithin
    iexists W'
    isplitr; · ipureintro; exact fun _ _ => Or.inl trivial
    iexact Ho
  · iapply (Entails.of_eq (show (iprop(emp) : sProp (M F)) = _ from by
      rw [show (Finset.univ : Finset (Fin cfg0.W)) = ∅ from rfl, bigSep_empty]; rfl))
    iempintro

/-! ## The launch -/

/-- The ghost state at launch. -/
def u₀ : UU :=
  (initOf (PerCore.cells (nD := nD) (τ := τ) (fun _ => cfgs) cellOf_inj) (PerCore.launchToks (nD := nD) (τ := τ) (fun _ => cfgs) cellOf_inj), initOf (cells fm) (toks fm))

/-- What the launch gives device `c`. -/
def G' (c : Dev nD) : sProp (M F) :=
  iprop(((∃ κ, records fm ER (pay (arg m)) κ) ∗ share fm ER (sibRoom blk) c) ∗ (a0 c ↦{fullShare} arg m c))

theorem glob : iprop((bigSep Finset.univ fun c => iprop(ownSems0 (Ix := Unit) (Name := ℕ) (U := UU) (Lvl := ℕ) (Val := Elt F) (τ := τ) wsem c ∗ unscopedSems0 c
          ∗ unscopedRest cfg0.spec c (fun b => m ((c.tc : Thread nD τ).loc b)))) ∗ bigSep Finset.univ (dealt fm ER (pay (arg m))) : sProp (M F))
        ⊢ |={Set.univ}=> bigSep Finset.univ (G' m) := by
  simp only [unscopedRest0_eq]
  rw [bigSep_sep', bigSep_sep', bigSep_sep']
  iintro ⟨⟨Hs, -, Ha, Hv⟩, Hd⟩
  ihave Hr := (show (bigSep Finset.univ fun c : Dev nD => (v1 c ↦{fullShare} m (v1 c) : sProp (M F))) ⊢ bigSep Finset.univ fun c : Dev nD => bigSep Finset.univ fun k : Fin 15 => sibRoom blk c k
    from bigSep_mono fun c _ => rooms c _) $$ Hv
  imod (deal_once fm ER (pay (arg m)) (sibRoom blk)) $$ [Hs Hd Hr] with H
  · isplitl [Hs]; · iexact Hs
    isplitl [Hd]; · iexact Hd
    iexact Hr
  imodintro
  iapply (Entails.of_eq (show iprop((bigSep Finset.univ fun c : Dev nD => iprop((∃ κ, records fm ER (pay (arg m)) κ) ∗ share fm ER (sibRoom blk) c))
      ∗ (bigSep Finset.univ fun c : Dev nD => (a0 c ↦{fullShare} arg m c))) = bigSep Finset.univ (G' m) from by
    rw [← bigSep_sep']; rfl))
  isplitl [H]; · iexact H
  iexact Ha

theorem enter (c : Dev nD) :
    iprop(levAts lset (lval fm) ∗ launchCred (fun d => debt fm recvs d) c ∗ prngReg c (ρ c) ∗ G' m c ∗ scopedRest cfg0.spec c) ⊢ (dats m 0 c).Φ 0 := by
  show _ ⊢ (iprop(∃ κ, before (arg m) κ c) : sProp (M F))
  unfold G' share before
  iintro ⟨Hl, Hc, -, ⟨⟨⟨%κ, Hr⟩, Hp, Ht⟩, Ha⟩, -⟩
  ihave Hc := (creds fm recvs c) $$ Hc
  ihave Ht := (sibToks_intro wsem wsem_inj units units_pos ER blk c) $$ Ht
  ihave Ha := (Entails.of_eq (lend (arg m) c)) $$ Ha
  iexists κ
  isplitl [Hr]; · iexact Hr
  isplitl [Hl]; · iexact Hl
  isplitl [Hp]; · iexact Hp
  isplitl [Ht]; · iexact Ht
  isplitl [Hc]; · iexact Hc
  iexact Ha

/-- A device's buffers at the end. -/
def held (c : Dev nD) : sProp (M F) :=
  iprop((∃ f : Buf (Elt F) (v1 c), ⌜∀ j, (blk j).view.read (Elt F) f = part (arg m) j⌝ ∗ v1 c ↦{fullShare} f) ∗ a0 c ↦{fullShare} arg m c)

theorem exits (c : Dev nD) :
    (dats m 0 c).Φ (Fin.last cfg0.N) ⊢ iprop(held m c ∗ ownSems0 wsem c ∗ scopedRest cfg0.spec c) := by
  show (after (arg m) c : sProp (M F)) ⊢ _
  rw [scopedRest0_eq]
  unfold after held
  iintro ⟨Hb, Ha, Hs⟩
  ihave Hb := (join_landed (arg m) c) $$ Hb
  ihave Ha := (Entails.of_eq (lend (arg m) c).symm) $$ Ha
  isplitl [Hb Ha]
  · isplitl [Hb]; · iexact Hb
    iexact Ha
  isplitl [Hs]; · iexact Hs
  iempintro

/-- The memory on device `c` at the end: the argument as it was, and block `j` of the result at device `j`'s argument. -/
def Ends (c : Dev nD) (s : MemSt nD τ sig (Elt F)) : Prop :=
  (∀ j, (blk j).view.read (Elt F) (s.mem (v1 c)) = part (arg m) j) ∧ s.mem (a0 c) = m (a0 c)

theorem ends (c : Dev nD) (s' : Phys nD τ sig (Elt F)) :
    iprop(held m c ∗ SI s') ⊢ (|={Set.univ}=> iprop(⌜Ends m c s'.mem⌝ ∗ SI s') : sProp (M F)) := by
  have agree : ∀ (ℓ : Loc nD τ sig) (f : Buf (Elt F) ℓ), iprop((ℓ ↦{fullShare} f) ∗ SI s') ⊢ (iprop(⌜s'.mem.mem ℓ = f⌝ ∗ SI s') : sProp (M F)) := by
    intro ℓ f
    iintro ⟨H, HS⟩
    icombine HS H gives %h
    isplitr
    · ipureintro; funext i; exact h i (Finset.mem_univ i)
    · iexact HS
  unfold held
  iintro ⟨⟨⟨%f, %hf, Hv⟩, Ha⟩, HS⟩
  ihave H := (agree _ _) $$ [Hv HS]
  · isplitl [Hv] <;> iassumption
  icases H with ⟨%hv, HS⟩
  ihave H := (agree _ _) $$ [Ha HS]
  · isplitl [Ha] <;> iassumption
  icases H with ⟨%ha, HS⟩
  imodintro
  isplitr
  · ipureintro
    exact ⟨fun j => by rw [hv]; exact hf j, ha⟩
  · iexact HS

theorem waits (c : Dev nD) : (levAts lset (lval fm) : sProp (M F)) ⊢ PerCore.cellsWaits (fun _ : Dev nD => cfgs) (dats m) () 0 c :=
  PerCore.cellsWaits_intro (fun _ : Dev nD => cfgs) (dats m) () 0 c fun w => Fin.elim0 w

set_option maxRecDepth 20000 in
/-- From any memory with zero counters every fair execution ends, and at its end every device holds every device's
    argument as its block of the result, its argument as it was, and every counter at zero. -/
theorem run_main : θ_run defs (onTc (τ := τ) (main (F := F))) ⟨m, fun _ => 0, ρ⟩ (fun r => (∀ c, Ends m c r.2) ∧ r.2.sem = fun _ => 0) :=
  run_exchange cfgs (dats m) () cellOf_inj (0 : Fin 1) EP defs₀ 𝒱₀
    winFacts0.to₀ (osem := wsem) (by decide) m ρ main (fun _ => rfl)
    (fun c => (body_obligation m c).loose) (fun w => Fin.elim0 w) (fun w => Fin.elim0 w) (fun w => Fin.elim0 w)
    (fun _ w => Fin.elim0 w) winFacts0.arr_inj
    (fun d => debt fm recvs d) (fun _ => rfl) (fun _ => rfl)
    lset (lval fm) lset_ne (waits m) (dealt fm ER (pay (arg m))) (G' m) u₀
    (by
      unfold u₀
      iintro Hu
      ihave H := (ownU_pair _ _) $$ Hu
      icases H with ⟨HP, HX⟩
      imod (fund_once fm ER (pay (arg m))) $$ HX with HG
      imodintro
      isplitl [HP] <;> iassumption)
    (glob m) (fun _ w => Fin.elim0 w) (held m) (enter m ρ) (exits m) (Ends m) (ends m)
    (fun s h hs => ⟨fun c => (h c).2, sem_eq_zero_of_scoped (by decide) hs⟩)

end Launch

end WeightGather

end
-- ==== Proof.WeightValue.lean ====
/-
  The gathered weight is the weight's columns cut into eight blocks, block by block.
-/
module

public import proofs.«01_k».proof.Proof.WeightLaunch
public import Idealize.ShloMosaic.Lib.ValueLayout
public import Idealize.ShloMosaic.Lib.Layout
public import proofs.«01_k».proof.Proof.Gen.ReferenceIdeal.Run

@[expose] public section

set_option Elab.async false

noncomputable section

namespace WeightGather

open Idealize.ShloMosaic
open Idealize.ShloMosaic.TcCoe Idealize.ShloMosaic.ValueIdx
open Cert.KernelIdeal Cert.KernelIdeal.Gen

variable {F : FTy → Type} [FloatOps F]

/-- Block `j` of a result, at row `r` and column `l`. -/
theorem read_blk (f : S8x2048x640.Idx → Elt F .bf16) (j : Fin 8) (r : Fin 2048) (l : Fin 640) :
    (blk j).view.read (Elt F) (f : (Memref.whole main_v1).view.ty.Contents (Elt F)) (ix2 r l) = f (ix3 j r l) := by
  rw [Memref.read_squeeze_slice (Memref.whole main_v1) (Rect.unit (s := S8x2048x640) ![j.val, 0, 0] S1x2048x640.size (inb j)) (fun _ => rfl)
    squeezes_S1x2048x640_S2048x640 squeezes_S1x2048x640_S2048x640.numel_eq]
  refine (shapeCast_1ab_ab_apply (a := 2048) (b := 640) _ _ r l).trans ?_
  show f _ = f _
  congr 1
  funext a
  apply Fin.ext
  match a with
  | ⟨0, _⟩ => show j.val + 1 * 0 = j.val; omega
  | ⟨1, _⟩ => show 0 + 1 * r.val = r.val; omega
  | ⟨2, _⟩ => show 0 + 1 * l.val = l.val; omega

/-- The reference's term at block `j`, row `r`, column `l`. -/
theorem ref_at (w : Cert.ReferenceIdeal.S2048x5120.Idx → Elt F .bf16) (h : Cert.ReferenceIdeal.S2048x5120.ShapeCasts Cert.ReferenceIdeal.S2048x8x640)
    (h' : Cert.ReferenceIdeal.S2048x8x640.Transposes [1, 0, 2] S8x2048x640) (j : Fin 8) (r : Fin 2048) (l : Fin 640) :
    transpose S8x2048x640 [1, 0, 2] (shapeCast Cert.ReferenceIdeal.S2048x8x640 w h) h' (ix3 j r l)
      = w (ix2 r (⟨j.val * 640 + l.val, by omega⟩ : Fin 5120)) := by
  refine (transpose_apply _ _ h' _ (ix3 r j l) ?_).trans ?_
  · intro b
    match b with
    | ⟨0, _⟩ => rfl
    | ⟨1, _⟩ => rfl
    | ⟨2, _⟩ => rfl
  · refine shapeCast_apply w h _ _ ?_
    rw [Shape.rowMajor_val_three, Shape.rowMajor_val_two]
    show r.val * 5120 + (j.val * 640 + l.val) = (r.val * 8 + j.val) * 640 + l.val
    omega

set_option maxRecDepth 20000 in
/-- What a device holds at the end is the reference's term. -/
theorem gathers (m : (ℓ : Loc nD τ sig) → Buf (Elt F) ℓ) (w : Cert.ReferenceIdeal.S2048x5120.Idx → Elt F .bf16)
    (hm : ∀ c : Dev nD, m (a0 c) = Layout.block ⟨2, ![2048, 640]⟩ ⟨2, ![2048, 5120]⟩ 1 8 c w)
    (h : Cert.ReferenceIdeal.S2048x5120.ShapeCasts Cert.ReferenceIdeal.S2048x8x640)
    (h' : Cert.ReferenceIdeal.S2048x8x640.Transposes [1, 0, 2] S8x2048x640)
    (c : Dev nD) (s : MemSt nD τ sig (Elt F)) (hs : Ends m c s) :
    s.mem (v1 c) = transpose S8x2048x640 [1, 0, 2] (shapeCast Cert.ReferenceIdeal.S2048x8x640 w h) h' := by
  funext i
  obtain ⟨j, r, l, rfl⟩ : ∃ (j : Fin 8) (r : Fin 2048) (l : Fin 640), i = ix3 j r l :=
    ⟨i 0, i 1, i 2, by funext a; match a with | ⟨0, _⟩ => rfl | ⟨1, _⟩ => rfl | ⟨2, _⟩ => rfl⟩
  rw [ref_at w h h' j r l]
  refine (read_blk _ j r l).symm.trans ?_
  rw [hs.1 j]
  show m (a0 j) (ix2 r l) = _
  rw [hm j]
  show w _ = w _
  congr 1
  funext a
  match a with
  | ⟨0, _⟩ => rfl
  | ⟨1, _⟩ => rfl

end WeightGather

end
-- ==== Proof.Direct.lean ====
/-
  An exchange over eight devices in which every device sends one block straight to each of the seven others.

  Device `c` writes its own block to its own copy of the result, and sends to each device `c ^ k` (`k = 1 … 7`) the
  block meant for it.  So the block that lands by way of receive cell `k` on device `c` is the one `c ^ k` sent.  In a
  gather the blocks a device sends are all the same; in a scatter each is another part of its argument.

  Cells, per device: `0 … 6` are the send cells of `k = 1 … 7`, `7 … 13` the receive cells, `14` that of the own block's
  copy.  A receive cell hands over the landed block; a send cell hands back what was sent.

  All copies start before the first wait.  A device is `sending S` while the copies to `S` are still to start,
  `flying` when all have started, and `landing S` while the cells `S` are still to be waited for.
-/
module

public import proofs.«01_k».proof.Proof.Sibling

@[expose] public section

set_option Elab.async false

noncomputable section

namespace Exchange.Direct

open Idealize.ShloMosaic
open Idealize.ShloMosaic.TcCoe
open Idealize.ShloMosaic.Rounds
open Idealize.SL Idealize.SL.RA Idealize.SL.BI
open scoped Idealize.SL.BI
open Idealize.SL.BI.BIBase Idealize.SL.BI.Laws Idealize.SL.ProofMode Idealize.SL.Sem
open Exchange

/-- The send cell of the copy to the device at distance `k + 1`. -/
def out (k : Fin 7) : Fin 15 := ⟨k.val, by omega⟩
/-- The receive cell of the copy from the device at distance `k + 1`. -/
def inn : Fin 7 ↪ Fin 15 := ⟨fun k => ⟨k.val + 7, by omega⟩, fun a b h => Fin.ext (by have := congrArg Fin.val h; simp only at this; omega)⟩

/-- Who pays a cell. -/
def tgt : Fin 15 → Equiv.Perm (Fin 8)
  | 7 => swap 1 | 8 => swap 2 | 9 => swap 3 | 10 => swap 4 | 11 => swap 5 | 12 => swap 6 | 13 => swap 7
  | _ => Equiv.refl _

/-- Receive cells stand above all others. -/
def lev (k : Fin 15) : ℕ := if 7 ≤ k.val ∧ k.val < 14 then 1 else 0

theorem tgt_out (k : Fin 7) (d : Fin 8) : tgt (out k) d = d := by revert k d; decide
theorem tgt_inn (k : Fin 7) (d : Fin 8) : tgt (inn k) d = peer k.succ d := by revert k d; decide
theorem tgt_own (d : Fin 8) : tgt 14 d = d := rfl

variable {sig : RefSig}

/-- The family of cells: semaphores `sem`, each credited with `N` units. -/
def fam (sem : Fin 15 → SemLoc sig) (inj : Function.Injective sem) (N : ℕ) (hN : 0 < N) : Family 8 sig (Fin 15) where
  sem := sem
  inj := inj
  amt _ := N
  amt_pos _ := hN
  tgt := tgt
  lev := lev

variable {τ : Topo} {Val : EltTy → Type} {U : Type} [URA U] {sp sp' : Space} {s : Shape} {e : EltTy}

theorem insert_sep {I : Type} [DecidableEq I] {S : Finset I} {i : I} (hi : i ∉ S) (Φ : I → sProp (MT 8 τ sig Unit Val ℕ U ℕ)) :
    bigSep (insert i S) Φ = iprop(Φ i ∗ bigSep S Φ) := BI.bigSep_insert hi

/-- The fifteen cells, by kind. -/
theorem kinds (Φ : Fin 15 → sProp (MT 8 τ sig Unit Val ℕ U ℕ)) :
    bigSep Finset.univ Φ = iprop((bigSep Finset.univ fun k => Φ (out k)) ∗ (bigSep Finset.univ fun k => Φ (inn k)) ∗ Φ 14) := by
  have h7 : ∀ Ψ : Fin 7 → sProp (MT 8 τ sig Unit Val ℕ U ℕ), bigSep Finset.univ Ψ = iprop(Ψ 0 ∗ Ψ 1 ∗ Ψ 2 ∗ Ψ 3 ∗ Ψ 4 ∗ Ψ 5 ∗ Ψ 6) := by
    intro Ψ
    rw [show (Finset.univ : Finset (Fin 7)) = {0, 1, 2, 3, 4, 5, 6} from rfl]
    iterate 6 rw [bigSep_insert (by decide)]
    rw [bigSep_singleton]
    rfl
  rw [fifteen, h7, h7]
  show iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14)
    = iprop((Φ 0 ∗ Φ 1 ∗ Φ 2 ∗ Φ 3 ∗ Φ 4 ∗ Φ 5 ∗ Φ 6) ∗ (Φ 7 ∗ Φ 8 ∗ Φ 9 ∗ Φ 10 ∗ Φ 11 ∗ Φ 12 ∗ Φ 13) ∗ Φ 14)
  refine Entails.antisymm ?_ ?_
  · show (iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14) : sProp (MT 8 τ sig Unit Val ℕ U ℕ)) ⊢ _
    iintro ⟨H0, H1, H2, H3, H4, H5, H6, H⟩
    isplitl [H0 H1 H2 H3 H4 H5 H6]
    · isplitl [H0]; · iexact H0
      isplitl [H1]; · iexact H1
      isplitl [H2]; · iexact H2
      isplitl [H3]; · iexact H3
      isplitl [H4]; · iexact H4
      isplitl [H5]; · iexact H5
      iexact H6
    icases H with ⟨H0, H1, H2, H3, H4, H5, H6, H⟩
    isplitl [H0 H1 H2 H3 H4 H5 H6]
    · isplitl [H0]; · iexact H0
      isplitl [H1]; · iexact H1
      isplitl [H2]; · iexact H2
      isplitl [H3]; · iexact H3
      isplitl [H4]; · iexact H4
      isplitl [H5]; · iexact H5
      iexact H6
    iexact H
  · show (iprop((Φ 0 ∗ Φ 1 ∗ Φ 2 ∗ Φ 3 ∗ Φ 4 ∗ Φ 5 ∗ Φ 6) ∗ (Φ 7 ∗ Φ 8 ∗ Φ 9 ∗ Φ 10 ∗ Φ 11 ∗ Φ 12 ∗ Φ 13) ∗ Φ 14) : sProp (MT 8 τ sig Unit Val ℕ U ℕ)) ⊢ _
    iintro ⟨⟨H0, H1, H2, H3, H4, H5, H6⟩, ⟨H7, H8, H9, H10, H11, H12, H13⟩, H14⟩
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    iexact H14

/-- The eight distances: zero and the others. -/
theorem distances (Φ : Fin 8 → sProp (MT 8 τ sig Unit Val ℕ U ℕ)) :
    bigSep Finset.univ Φ = iprop(Φ 0 ∗ bigSep Finset.univ fun k : Fin 7 => Φ k.succ) := by
  rw [show (Finset.univ : Finset (Fin 8)) = insert 0 (Finset.univ.map ⟨Fin.succ, Fin.succ_injective 7⟩) from by decide]
  rw [bigSep_insert (by decide), bigSep_map]
  rfl

/-! ## The blocks -/

section Pay

variable (src : Dev 8 → Fin 8 → Memref sig .tc sp s e) (q : Fin 8 → PosShare TreeShare)
variable (A : ∀ (c : Dev 8) (k : Fin 8), Buf Val ((src c k).view.loc (c.tc : Thread 8 τ)))
variable (blk : Fin 8 → Memref sig .tc sp' s e)

/-- What device `c` sends over distance `k`. -/
def sent (c : Dev 8) (k : Fin 8) : s.Idx → Val e := (src c k).view.read Val (A c k)

/-- What lands on device `c` as block `j`. -/
def val (c : Dev 8) (j : Fin 8) : s.Idx → Val e := sent src A j (peer j c)

omit [URA U] in
theorem val_peer (c : Dev 8) (k : Fin 8) : val src A (peer k c) c = sent src A c k := by
  have h : peer c (peer k c) = k := by revert k c; decide
  unfold val
  rw [h]

/-- The source of the copy over distance `k`. -/
def lent (c : Dev 8) (k : Fin 8) : sProp (MT 8 τ sig Unit Val ℕ U ℕ) := at' c (src c k) (q k) (A c k)
/-- Block `j` has landed on device `c`. -/
def landed (c : Dev 8) (j : Fin 8) : sProp (MT 8 τ sig Unit Val ℕ U ℕ) := holds c (blk j) (val src A c j)
/-- There is room for block `j` on device `c`. -/
def free (c : Dev 8) (j : Fin 8) : sProp (MT 8 τ sig Unit Val ℕ U ℕ) := room c (blk j)

instance (c : Dev 8) (j : Fin 8) : BI.Storable (upEmb : UEmb _ (MT 8 τ sig Unit Val ℕ U ℕ)) (landed src A blk c j : sProp (MT 8 τ sig Unit Val ℕ U ℕ)) := by
  unfold landed; infer_instance
instance (c : Dev 8) (k : Fin 8) : BI.Storable (upEmb : UEmb _ (MT 8 τ sig Unit Val ℕ U ℕ)) (lent src q A c k : sProp (MT 8 τ sig Unit Val ℕ U ℕ)) := by
  unfold lent; infer_instance

/-- What a cell hands over. -/
def pay (c : Dev 8) (k : Fin 15) : sProp (MT 8 τ sig Unit Val ℕ U ℕ) :=
  if h : k.val < 7 then lent src q A c ⟨k.val + 1, by omega⟩
  else if h : k.val < 14 then landed src A blk c (peer ⟨k.val - 6, by omega⟩ c)
  else iprop(landed src A blk c c ∗ lent src q A c 0)

theorem pay_out (c : Dev 8) (k : Fin 7) : pay (U := U) src q A blk c (out k) = lent src q A c k.succ := by
  unfold pay
  rw [dif_pos (show (out k).val < 7 from k.isLt)]
  rfl
theorem pay_inn (c : Dev 8) (k : Fin 7) : pay (U := U) src q A blk c (inn k) = landed src A blk c (peer k.succ c) := by
  unfold pay
  rw [dif_neg (show ¬(inn k).val < 7 from Nat.not_lt.mpr (Nat.le_add_left 7 k.val)),
    dif_pos (show (inn k).val < 14 from Nat.add_lt_add_right k.isLt 7)]
  rfl
theorem pay_own (c : Dev 8) : pay (U := U) src q A blk c 14 = iprop(landed src A blk c c ∗ lent src q A c 0) := rfl

instance keeps : Keeps (pay (U := U) src q A blk) where
  keeps c k := by
    unfold pay
    split
    · infer_instance
    split <;> infer_instance

/-- What a cell's owner gives its payer at launch: room for the block that is to land. -/
def space (c : Dev 8) (k : Fin 15) : sProp (MT 8 τ sig Unit Val ℕ U ℕ) :=
  if h : k.val < 7 then iprop(emp)
  else if h : k.val < 14 then free blk c (peer ⟨k.val - 6, by omega⟩ c)
  else free blk c c

theorem space_out (c : Dev 8) (k : Fin 7) : space (U := U) (τ := τ) (Val := Val) blk c (out k) = iprop(emp) := by
  unfold space
  rw [dif_pos (show (out k).val < 7 from k.isLt)]
theorem space_inn (c : Dev 8) (k : Fin 7) : space (U := U) (τ := τ) (Val := Val) blk c (inn k) = free blk c (peer k.succ c) := by
  unfold space
  rw [dif_neg (show ¬(inn k).val < 7 from Nat.not_lt.mpr (Nat.le_add_left 7 k.val)),
    dif_pos (show (inn k).val < 14 from Nat.add_lt_add_right k.isLt 7)]
  rfl
theorem space_own (c : Dev 8) : space (U := U) (τ := τ) (Val := Val) blk c 14 = free blk c c := rfl

/-- The rooms on a device are those of its eight blocks. -/
theorem spaces (c : Dev 8) : (bigSep Finset.univ fun j => free (U := U) (τ := τ) (Val := Val) blk c j) ⊢ bigSep Finset.univ fun k => space blk c k := by
  have h : ∀ k, swapAt c k = peer k c := fun _ => rfl
  rw [bigSep_univ_equiv (swapAt c), distances, kinds]
  simp only [h, peer_zero, space_out, space_inn, space_own]
  iintro ⟨H0, H⟩
  isplitr
  · iapply (BI.bigSep_intro_persistent (S := Finset.univ) fun (_ : Fin 7) _ => (Entails.refl (iprop(emp) : sProp (MT 8 τ sig Unit Val ℕ U ℕ))))
    iempintro
  isplitl [H]
  · iexact H
  · iexact H0

end Pay

/-! ## The run -/

section Run

variable (sem : Fin 15 → SemLoc sig) (inj : Function.Injective sem) (N : ℕ) (hN : 0 < N)
variable (ER : Emb (URounds (GSem 8 τ sig) Unit) (MT 8 τ sig Unit Val ℕ U ℕ))
variable (src : Dev 8 → Fin 8 → Memref sig .tc sp s e) (q : Fin 8 → PosShare TreeShare)
variable (A : ∀ (c : Dev 8) (k : Fin 8), Buf Val ((src c k).view.loc (c.tc : Thread 8 τ)))
variable (blk : Fin 8 → Memref sig .tc sp' s e)

local notation "fm" => fam sem inj N hN
local notation "pm" => pay src q A blk

/-- The receive cells. -/
def recvs : Finset (Fin 15) := Finset.univ.map inn

/-- All that a device knows and shares. -/
def known (κ : Dev 8 × Fin 15 → ℕ) : sProp (MT 8 τ sig Unit Val ℕ U ℕ) := iprop(records fm ER pm κ ∗ levAts lset (lval fm))

instance known_persistent (κ : Dev 8 × Fin 15 → ℕ) : BI.Persistent (known sem inj N hN ER src q A blk κ) := by unfold known; infer_instance

/-- What the copy over distance `k + 1` takes. -/
def due (c : Dev 8) (k : Fin 7) : sProp (MT 8 τ sig Unit Val ℕ U ℕ) :=
  iprop(tok fm ER c (out k) ∗ (tok fm ER (peer k.succ c) (inn k) ∗ free blk (peer k.succ c) c) ∗ lent src q A c k.succ)

/-- A cell still to be waited for. -/
def open' (c : Dev 8) (k : Fin 15) : sProp (MT 8 τ sig Unit Val ℕ U ℕ) := iprop(cred (tallyAt (cell fm c k) () N) ∗ pos fm ER c k 0)
/-- A cell that has been waited for. -/
def shut (c : Dev 8) (k : Fin 15) : sProp (MT 8 τ sig Unit Val ℕ U ℕ) := iprop(pos fm ER c k 1 ∗ pm c k)

/-- A device's holdings at the start. -/
def before (κ : Dev 8 × Fin 15 → ℕ) (c : Dev 8) : sProp (MT 8 τ sig Unit Val ℕ U ℕ) :=
  iprop(known sem inj N hN ER src q A blk κ ∗ (bigSep Finset.univ fun k => pos fm ER c k 0)
    ∗ (bigSep Finset.univ fun k => due sem inj N hN ER src q A blk c k) ∗ (tok fm ER c 14 ∗ free blk c c ∗ lent src q A c 0)
    ∗ (bigSep Finset.univ fun k => cred (tallyAt (cell fm c (inn k)) () N)))

/-- The copies to `S` are still to start. -/
def sending (c : Dev 8) (S : Finset (Fin 7)) (W : Waits sig Unit) : sProp (MT 8 τ sig Unit Val ℕ U ℕ) :=
  iprop((bigSep S fun k => due sem inj N hN ER src q A blk c k) ∗ (bigSep Sᶜ fun k => cred (tallyAt (cell fm c (out k)) () N))
    ∗ owes (c.tc : Thread 8 τ) (debt fm (S.map inn) c) W)

/-- The cells `S` are still to be waited for. -/
def landing (c : Dev 8) (S : Finset (Fin 15)) : sProp (MT 8 τ sig Unit Val ℕ U ℕ) :=
  iprop((bigSep S fun k => open' sem inj N hN ER c k) ∗ (bigSep Sᶜ fun k => shut sem inj N hN ER src q A blk c k)
    ∗ ∃ W, owes (c.tc : Thread 8 τ) 0 W)

/-- A device's holdings while all its copies are under way. -/
def flying (c : Dev 8) : sProp (MT 8 τ sig Unit Val ℕ U ℕ) :=
  iprop((∃ κ, known sem inj N hN ER src q A blk κ) ∗ bigSep Finset.univ fun k => open' sem inj N hN ER c k)

/-- A device's holdings at the end. -/
def after (c : Dev 8) : sProp (MT 8 τ sig Unit Val ℕ U ℕ) :=
  iprop((bigSep Finset.univ fun j => landed src A blk c j) ∗ (bigSep Finset.univ fun k => lent src q A c k) ∗ Pipeline.ownSems0 sem c)

/-- From the launch's deal to `before`. -/
theorem before_intro (κ : Dev 8 × Fin 15 → ℕ) (c : Dev 8) :
    iprop(records fm ER pm κ ∗ levAts lset (lval fm) ∗ share fm ER (space blk) c ∗ (bigSep Finset.univ fun k => lent src q A c k)
        ∗ bigSep recvs fun k => cred (tallyAt (cell fm c k) () N))
      ⊢ before sem inj N hN ER src q A blk κ c := by
  have e1 : ∀ k, (fm).tgt (out k) c = c := fun k => tgt_out k c
  have e2 : ∀ k, (fm).tgt (inn k) c = peer k.succ c := fun k => tgt_inn k c
  have e3 : (fm).tgt 14 c = c := rfl
  unfold before share recvs known due
  rw [kinds (fun k => iprop(tok fm ER ((fm).tgt k c) k ∗ space blk ((fm).tgt k c) k)), bigSep_map, distances]
  simp only [e1, e2, e3, space_out, space_inn, space_own, peer_peer, bigSep_sep']
  iintro ⟨HR, HL, ⟨Hp, ⟨Ho, -⟩, ⟨Hi, Hf⟩, Ht, Hfo⟩, ⟨H0, Hs⟩, Hc⟩
  isplitl [HR HL]
  · isplitl [HR] <;> iassumption
  isplitl [Hp]; · iexact Hp
  isplitl [Ho Hi Hf Hs]
  · isplitl [Ho]; · iexact Ho
    isplitl [Hi Hf]
    · isplitl [Hi] <;> iassumption
    iexact Hs
  isplitl [Ht Hfo H0]
  · isplitl [Ht]; · iexact Ht
    isplitl [Hfo] <;> iassumption
  iexact Hc

variable {Λ : Labels} (defs : Defs 8 τ sig Val Λ) (𝒱 : Variants) (bd : Option 𝒱.V)
variable [ER.LandsIn (upEmb : UEmb _ (MT 8 τ sig Unit Val ℕ U ℕ))]
variable {α : Type} {Q : α → sProp (MT 8 τ sig Unit Val ℕ U ℕ)} {κ : Dev 8 × Fin 15 → ℕ}

/-- The copy of the own block. -/
theorem keep (c : Dev 8)
    {sr : Memref sig .tc sp s e} {dst : Memref sig .tc sp' s e} {sm : SemLoc sig}
    {hsrc : sr.view.WordExact} {hdst : dst.view.WordExact}
    {hsem : DmaTarget.Typed (nD := 8) (τ := τ) (p := (c.tc : Thread 8 τ).2) sp sm (.here dst)}
    {k : PUnit → Prog (TpuEff 8 τ sig Val Λ .tc) α}
    (esrc : sr = src c 0) (edst : dst = blk c) (esem : sm = sem 14) (hA : (blk c).view.amount (sem 14) = N) :
    iprop(known sem inj N hN ER src q A blk κ ∗ (tok fm ER c 14 ∗ free blk c c ∗ lent src q A c 0))
      ⊢ iprop((cred (tallyAt (cell fm c 14) () N) -∗ wp frame (wpE defs 𝒱 (c.tc : Thread 8 τ) bd) Set.univ (k ⟨⟩) Q)
          -∗ wp frame (wpE defs 𝒱 (c.tc : Thread 8 τ) bd) Set.univ (.op (.enqueueDma sr (.here dst) sm hsrc hdst hsem) k) Q) := by
  unfold known lent free
  iintro ⟨⟨#HR, -⟩, Ht, Hf, Hl⟩ Hk
  iapply (copy_holds fm defs 𝒱 bd ER pm (κ := κ) c 14 (fun _ => rfl) (src c 0) (blk c) (x := sent src A c 0) esrc edst esem hA rfl
    (by
      rw [pay_own]
      unfold landed lent
      rw [← val_peer, peer_zero])) $$ [Ht Hf Hl]
  · isplitr; · iexact HR
    isplitl [Hl]; · iexact Hl
    isplitl [Hf]; · iexact Hf
    iexact Ht
  iexact Hk

/-- A copy to another device. -/
theorem post (c : Dev 8) (i : Fin 7) (S : Finset (Fin 7)) (hi : i ∈ S) {W : Waits sig Unit}
    {sr : Memref sig .tc sp s e} {dst : Memref sig .tc sp' s e} {c' : Dev 8} {sS sm : SemLoc sig}
    {hsc : dst.view.ref.isScScratch = false} {hsrc : sr.view.WordExact} {hdst : dst.view.WordExact}
    {hsem : DmaTarget.Typed sp sm (.remote (c'.tc : Thread 8 τ) dst sS hsc)}
    {k : PUnit → Prog (TpuEff 8 τ sig Val Λ .tc) α}
    (esrc : sr = src c i.succ) (edst : dst = blk c) (ec : c' = peer i.succ c) (eS : sS = sem (out i)) (esem : sm = sem (inn i))
    (hA : (blk c).view.amount (sem (inn i)) = N)
    (hr : τ.routes (c.tc : Thread 8 τ) (c'.tc : Thread 8 τ) = true := by routes) :
    iprop(known sem inj N hN ER src q A blk κ ∗ sending sem inj N hN ER src q A blk c S W)
      ⊢ iprop((sending sem inj N hN ER src q A blk c (S.erase i) W -∗ wp frame (wpE defs 𝒱 (c.tc : Thread 8 τ) bd) Set.univ (k ⟨⟩) Q)
          -∗ wp frame (wpE defs 𝒱 (c.tc : Thread 8 τ) bd) Set.univ
              (.op (.enqueueDma sr (.remote (c'.tc : Thread 8 τ) dst sS hsc) sm hsrc hdst hsem) k) Q) := by
  have e1 : (fm).tgt (out i) c = c := tgt_out i c
  have e2 : (fm).tgt (inn i) c = peer i.succ c := tgt_inn i c
  have hm : inn i ∈ S.map inn := Finset.mem_map_of_mem inn hi
  unfold known sending
  rw [show S = insert i (S.erase i) from (Finset.insert_erase hi).symm, insert_sep (Finset.notMem_erase i S),
    Finset.insert_erase hi, show (S.erase i)ᶜ = insert i Sᶜ from Finset.compl_erase, insert_sep (by simpa using hi), Finset.map_erase]
  unfold due lent free
  iintro ⟨⟨#HR, -⟩, ⟨⟨Ho, ⟨Hi, Hf⟩, Hl⟩, Hd⟩, Hc, HO⟩ Hk
  iapply (send_holds fm defs 𝒱 bd ER pm (κ := κ) (W := W) c (out i) (inn i) (S.map inn) hm (fun d => tgt_out i d) (src c i.succ) (blk c)
    (q := q i.succ) (x := sent src A c i.succ) esrc edst (ec.trans e2.symm) eS esem hA rfl rfl
    (by rw [pay_out]; exact Entails.refl _)
    (by rw [e2, pay_inn, peer_peer]; unfold landed; rw [val_peer]) hr) $$ [Ho Hi Hf Hl HO]
  · rw [e1, e2]
    isplitr; · iexact HR
    isplitl [Hl]; · iexact Hl
    isplitl [Hf]; · iexact Hf
    isplitl [HO]; · iexact HO
    isplitl [Ho] <;> iassumption
  iintro ⟨Hc', HO⟩
  iapply Hk
  isplitl [Hd]; · iexact Hd
  isplitl [Hc Hc']
  · isplitl [Hc']
    · iexact Hc'
    · iexact Hc
  iexact HO

/-- A device that is to start all its copies. -/
theorem sending_intro (c : Dev 8) (W : Waits sig Unit) :
    iprop((bigSep Finset.univ fun k => due sem inj N hN ER src q A blk c k) ∗ owes (c.tc : Thread 8 τ) (debt fm recvs c) W)
      ⊢ sending sem inj N hN ER src q A blk c Finset.univ W := by
  unfold sending
  rw [Finset.compl_univ, bigSep_empty]
  iintro ⟨H, HO⟩
  isplitl [H]; · iexact H
  isplitr; · iempintro
  iexact HO

/-- A device that has started all its copies. -/
theorem flying_intro (c : Dev 8) (W : Waits sig Unit) :
    iprop(known sem inj N hN ER src q A blk κ ∗ (bigSep Finset.univ fun k => pos fm ER c k 0)
        ∗ (bigSep Finset.univ fun k => cred (tallyAt (cell fm c (inn k)) () N))
        ∗ cred (tallyAt (cell fm c 14) () N) ∗ sending sem inj N hN ER src q A blk c ∅ W)
      ⊢ iprop(flying sem inj N hN ER src q A blk c ∗ owes (c.tc : Thread 8 τ) 0 W) := by
  unfold sending flying open'
  rw [Finset.compl_empty, bigSep_empty, Finset.map_empty, debt_empty, bigSep_sep', kinds (fun k => cred (tallyAt (cell fm c k) () N))]
  iintro ⟨HK, Hp, Hi, Ho, -, Hs, HO⟩
  isplitl [HK Hp Hi Ho Hs]
  · isplitl [HK]
    · iexists κ; iexact HK
    isplitl [Hs Hi Ho]
    · isplitl [Hs]; · iexact Hs
      isplitl [Hi] <;> iassumption
    iexact Hp
  iexact HO

/-- A wait. -/
theorem wait (c : Dev 8) (i : Fin 15) (S : Finset (Fin 15)) (hi : i ∈ S)
    {sp₁ sp₂ : Space} {s₁ s₂ : Shape} {e₁ e₂ : EltTy} {κ' : Kind} {sm : DmaSem sig} {sr : Memref sig .tc sp₁ s₁ e₁} {dst : Memref sig κ' sp₂ s₂ e₂}
    {hsrc : sr.view.WordExact} {hdst : dst.view.WordExact}
    {k : PUnit → Prog (TpuEff 8 τ sig Val Λ .tc) α}
    (esem : SemLoc.dma sm = sem i) (hA : dst.view.dmaCredit = N) :
    iprop(known sem inj N hN ER src q A blk κ ∗ landing sem inj N hN ER src q A blk c S)
      ⊢ iprop((landing sem inj N hN ER src q A blk c (S.erase i) -∗ wp frame (wpE defs 𝒱 (c.tc : Thread 8 τ) bd) Set.univ (k ⟨⟩) Q)
          -∗ wp frame (wpE defs 𝒱 (c.tc : Thread 8 τ) bd) Set.univ (.op (.waitDma2 sm sr dst hsrc hdst) k) Q) := by
  unfold known landing
  rw [show S = insert i (S.erase i) from (Finset.insert_erase hi).symm, insert_sep (Finset.notMem_erase i S),
    Finset.insert_erase hi, show (S.erase i)ᶜ = insert i Sᶜ from Finset.compl_erase, insert_sep (by simpa using hi)]
  rw [show open' sem inj N hN ER c i = iprop(cred (tallyAt (cell fm c i) () N) ∗ pos fm ER c i 0) from rfl,
    show shut sem inj N hN ER src q A blk c i = iprop(pos fm ER c i 1 ∗ pm c i) from rfl]
  iintro ⟨⟨#HR, #HL⟩, ⟨⟨Hc, Hp⟩, Ho⟩, Hs, ⟨%W, HO⟩⟩ Hk
  iapply (wait_copy fm defs 𝒱 bd ER pm (κ := κ) (W := W) c i ∅ (by intro _ h; exact absurd h (Finset.notMem_empty _)) esem hA) $$ [Hc Hp HO]
  · isplitr; · iexact HR
    isplitr; · iexact HL
    isplitl [Hc]; · iexact Hc
    isplitl [HO]
    · rw [debt_empty]; iexact HO
    iexact Hp
  rw [debt_empty]
  iintro ⟨HO, Hp, Hpay⟩
  iapply Hk
  isplitl [Ho]; · iexact Ho
  isplitl [Hs Hp Hpay]
  · isplitl [Hp Hpay]
    · isplitl [Hp] <;> iassumption
    iexact Hs
  iexists _; iexact HO

/-- A device that is to wait for all its cells. -/
theorem landing_intro (c : Dev 8) :
    iprop((bigSep Finset.univ fun k => open' sem inj N hN ER c k) ∗ ∃ W, owes (c.tc : Thread 8 τ) 0 W)
      ⊢ landing sem inj N hN ER src q A blk c Finset.univ := by
  unfold landing
  rw [Finset.compl_univ, bigSep_empty]
  iintro ⟨H, HO⟩
  isplitl [H]; · iexact H
  isplitr; · iempintro
  iexact HO

/-- A device that has waited for all its cells. -/
theorem after_intro (c : Dev 8) :
    iprop(known sem inj N hN ER src q A blk κ ∗ landing sem inj N hN ER src q A blk c ∅)
      ⊢ |={Set.univ}=> iprop(after sem src q A blk c ∗ ∃ W, owes (c.tc : Thread 8 τ) 0 W) := by
  have h : ∀ k, swapAt c k = peer k c := fun _ => rfl
  unfold landing known shut after
  rw [Finset.compl_empty, bigSep_empty, bigSep_sep', kinds (fun k => pm c k), bigSep_univ_equiv (swapAt c) (fun j => landed src A blk c j),
    distances (fun k => landed src A blk c (swapAt c k)), distances (fun k => lent src q A c k)]
  simp only [pay_out, pay_inn, pay_own, h, peer_zero]
  iintro ⟨⟨#HR, -⟩, -, ⟨Hp, Ho, Hi, Hl, H0⟩, HO⟩
  imod (leave fm ER pm (κ := κ) c) $$ [Hp] with Hs
  · isplitr; · iexact HR
    iexact Hp
  imodintro
  isplitl [Ho Hi Hl H0 Hs]
  · isplitl [Hl Hi]
    · isplitl [Hl] <;> iassumption
    isplitl [H0 Ho]
    · isplitl [H0] <;> iassumption
    iexact Hs
  iexact HO

end Run

end Exchange.Direct

end
-- ==== Proof.Blocks.lean ====
/-
  Buffers cut into blocks, and loads and stores of whole staging buffers.
-/
module

public import proofs.«01_k».proof.Proof.Direct
public import Idealize.ShloMosaic.Lib.VecWindow
public import Idealize.ShloMosaic.Lib.Ring

@[expose] public section

set_option Elab.async false

noncomputable section

namespace Exchange

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Val : EltTy → Type} {U : Type} [URA U]

local notation "𝕄" => MT nD τ sig Unit Val ℕ U ℕ

/-! ## Staging buffers -/

section Access

variable {Λ : Labels} (defs : Defs nD τ sig Val Λ) (𝒱 : Variants) (bd : Option 𝒱.V)
variable {α : Type} {Q : α → sProp (MT nD τ sig Unit Val ℕ U ℕ)} {cs : CoreSpace} {s : Shape} {e : EltTy}

/-- A load of a whole buffer. -/
theorem load_whole (c : Dev nD) (m : Memref sig .tc cs s e) (q : PosShare TreeShare) (X : s.Idx → Val e)
    {off : Fin s.rank → ℕ} (inb : ∀ a, off a + s.size a ≤ s.size a) {hl : m.view.LoadsAt (Rect.unit off s.size inb).toLoadRect}
    {k : (s.Idx → Val e) → Prog (TpuEff nD τ sig Val Λ .tc) α} :
    (owns (c.tc : Thread nD τ) m q X : sProp 𝕄)
      ⊢ iprop((owns (c.tc : Thread nD τ) m q X -∗ wp frame (wpE defs 𝒱 (c.tc : Thread nD τ) bd) Set.univ (k X) Q)
          -∗ wp frame (wpE defs 𝒱 (c.tc : Thread nD τ) bd) Set.univ (.op (.load m (Rect.unit off s.size inb).toLoadRect hl) k) Q) := by
  unfold owns
  iintro ⟨%f, %hf, H⟩ Hk
  iapply (wp_load 𝒱 (c.tc : Thread nD τ) bd Set.univ (S := m.view.set) (View.setOn_subset_set _ _)) $$ H
  iintro H
  rw [View.readAt_full, hf]
  iapply Hk
  iexists f
  isplitr; · ipureintro; exact hf
  iexact H

/-- A store of a whole buffer. -/
theorem store_whole (c : Dev nD) (m : Memref sig .tc cs s e) (X w : s.Idx → Val e)
    {off : Fin s.rank → ℕ} (inb : ∀ a, off a + s.size a ≤ s.size a) {hx : (m.access (Rect.unit off s.size inb)).Stores Finset.univ}
    {hm : (Finset.univ : Finset (Rect.unit off s.size inb).shape.Idx) = Finset.univ ∨ ∀ a, (Rect.unit off s.size inb).stride a = 1}
    {k : PUnit → Prog (TpuEff nD τ sig Val Λ .tc) α} :
    (owns (c.tc : Thread nD τ) m fullShare X : sProp 𝕄)
      ⊢ iprop((owns (c.tc : Thread nD τ) m fullShare w -∗ wp frame (wpE defs 𝒱 (c.tc : Thread nD τ) bd) Set.univ (k ⟨⟩) Q)
          -∗ wp frame (wpE defs 𝒱 (c.tc : Thread nD τ) bd) Set.univ (.op (.store m (Rect.unit off s.size inb) w Finset.univ hx hm) k) Q) := by
  unfold owns
  iintro ⟨%f, -, H⟩ Hk
  iapply (wp_store 𝒱 (c.tc : Thread nD τ) bd Set.univ (m := m) (r := Rect.unit off s.size inb) (Mk := Finset.univ) (View.set_slice_subset _ _)) $$ H
  iintro H
  iapply Hk
  iexists _
  isplitr
  swap; · iexact H
  ipureintro
  funext y
  conv_lhs => rw [← Rect.emb_unit_full inb y]
  rw [View.read_slice_write_emb _ _ _ (Finset.mem_univ _)]

end Access

/-! ## Blocks -/

section Blocks

variable (b : Ref sig .tc) {n : ℕ} [NeZero n] {s' : Shape} (R : Fin n → Rect b.ty.shape) (h1 : ∀ j a, (R j).stride a = 1) (hq : ∀ j, (R j).shape.Squeezes s')

/-- Block `j` of a buffer. -/
abbrev piece (j : Fin n) : Memref sig .tc b.space s' b.ty.elt := ((Memref.whole b).slice (R j) (h1 j)).squeeze s' (hq j)

omit [NeZero n] in
theorem set_piece (j : Fin n) : (piece b R h1 hq j).view.set = (R j).set := by
  show (((Memref.whole b).view.slice (R j)).reshape _ _).set = _
  rw [View.set_reshape]
  exact View.set_slice_whole _ _

variable (hd : ∀ j j', j ≠ j' → Disjoint (R j).set (R j').set) (hc : Finset.univ.biUnion (fun j => (R j).set) = Finset.univ)
include hd hc

omit [NeZero n] in
/-- A buffer is its blocks. -/
theorem pieces (c : Dev nD) (f : Buf Val ((c.tc : Thread nD τ).loc b)) :
    ((c.tc : Thread nD τ).loc b ↦{fullShare} f : sProp 𝕄) = bigSep Finset.univ fun j => at' c (piece b R h1 hq j) fullShare f := by
  have h := pointsTo_biUnion (ℓ := (c.tc : Thread nD τ).loc b) (q := fullShare) (f := f) (Ix := Unit) (Name := ℕ) (U := U) (Lvl := ℕ)
    Finset.univ (fun j => (R j).set) fun j _ j' _ h => hd j j' h
  rw [hc] at h
  refine h.trans (bigSep_congr fun j _ => ?_)
  unfold at'
  rw [set_piece]

omit [NeZero n] in
/-- A buffer is room for its blocks. -/
theorem room_pieces (c : Dev nD) (f : Buf Val ((c.tc : Thread nD τ).loc b)) :
    ((c.tc : Thread nD τ).loc b ↦{fullShare} f : sProp 𝕄) ⊢ bigSep Finset.univ fun j => room c (piece b R h1 hq j) := by
  rw [pieces b R h1 hq hd hc]
  refine bigSep_mono fun j _ => ?_
  unfold room
  show (at' c (piece b R h1 hq j) fullShare f : sProp 𝕄) ⊢ _
  iintro H
  iexists f
  iexact H

/-- A buffer from its blocks. -/
theorem join_pieces [Nonempty (Val b.ty.elt)] (c : Dev nD) (x : Fin n → s'.Idx → Val b.ty.elt) :
    (bigSep Finset.univ fun j => holds c (piece b R h1 hq j) (x j))
      ⊢ (iprop(∃ f : Buf Val ((c.tc : Thread nD τ).loc b), ⌜∀ j, (piece b R h1 hq j).view.read Val f = x j⌝ ∗ (c.tc : Thread nD τ).loc b ↦{fullShare} f) : sProp 𝕄) := by
  have e : (bigSep Finset.univ fun j => holds c (piece b R h1 hq j) (x j) : sProp 𝕄)
      = bigSep Finset.univ fun j => iprop(∃ f : Buf Val ((c.tc : Thread nD τ).loc b), ⌜(piece b R h1 hq j).view.read Val f = x j⌝ ∗ (c.tc : Thread nD τ).loc b ↦[(R j).set]{fullShare} f) := by
    refine bigSep_congr fun j _ => ?_
    unfold holds at'
    rw [set_piece]
  rw [e]
  haveI : Nonempty (Buf Val ((c.tc : Thread nD τ).loc b)) := ⟨fun _ => (Classical.arbitrary (Val b.ty.elt))⟩
  iintro H
  ihave H := (BI.bigSep_exists_pi Finset.univ (fun (j : Fin n) (f : Buf Val ((c.tc : Thread nD τ).loc b)) =>
    iprop(⌜(piece b R h1 hq j).view.read Val f = x j⌝ ∗ (c.tc : Thread nD τ).loc b ↦[(R j).set]{fullShare} f : sProp 𝕄))) $$ H
  icases H with ⟨%fs, H⟩
  ihave H := (bigSep_pure_sep Finset.univ (fun j : Fin n => (piece b R h1 hq j).view.read Val (fs j) = x j)
    (fun j => ((c.tc : Thread nD τ).loc b ↦[(R j).set]{fullShare} fs j : sProp 𝕄))) $$ H
  icases H with ⟨%hp, H⟩
  ihave H := (pointsTo_biUnion_join Finset.univ (fun j => (R j).set) fs (fs 0) fun j _ j' _ h => hd j j' h) $$ H
  icases H with ⟨%g, %hg, H⟩
  iexists g
  isplitr
  · ipureintro
    intro j
    rw [← hp j (Finset.mem_univ j)]
    refine View.read_congr fun i hi => hg j (Finset.mem_univ j) i ?_
    rw [← set_piece b R h1 hq]; exact hi
  · rw [hc]; iexact H

end Blocks

/-- A buffer in eight shares. -/
theorem shares (b : Ref sig .tc) (c : Dev nD) (f : Buf Val ((c.tc : Thread nD τ).loc b)) :
    ((c.tc : Thread nD τ).loc b ↦{fullShare} f : sProp 𝕄)
      = bigSep Finset.univ fun k : Fin 8 => at' c (Memref.whole b) (Transfers.dealOf fullShare Finset.univ k) f := by
  unfold at'
  rw [show (Memref.whole b).view.set = Finset.univ from View.set_whole _]
  exact Transfers.pointsTo_deal Finset.univ Finset.univ_nonempty fullShare

/-- A whole buffer held at the end is what the memory holds. -/
theorem agree (s' : Phys nD τ sig Val) (ℓ : Loc nD τ sig) (f : Buf Val ℓ) :
    iprop((ℓ ↦{fullShare} f) ∗ SI s') ⊢ (iprop(⌜s'.mem.mem ℓ = f⌝ ∗ SI s') : sProp 𝕄) := by
  iintro ⟨H, HS⟩
  icombine HS H gives %h
  isplitr
  · ipureintro; funext i; exact h i (Finset.mem_univ i)
  · iexact HS

end Exchange

end
-- ==== Proof.FfnUpRun.lean ====
/-
  One device's run of the up-projection with the gather of the down-projection's weight.
-/
module

public import proofs.«01_k».proof.Proof.Blocks
public import proofs.«01_k».proof.Proof.Gen.FfnUpIdeal.Frame
public import proofs.«01_k».proof.Proof.Gen.FfnUpIdeal.Skeleton

@[expose] public section

set_option Elab.async false

noncomputable section

namespace FfnUp

open Idealize.ShloMosaic
open Idealize.ShloMosaic.TcCoe
open Idealize.ShloMosaic.Rounds
open Idealize.SL Idealize.SL.RA Idealize.SL.BI
open scoped Idealize.SL.BI
open Idealize.SL.BI.BIBase Idealize.SL.BI.Laws Idealize.SL.ProofMode Idealize.SL.Sem
open Cert.FfnUpIdeal Cert.FfnUpIdeal.Gen
open Exchange

variable {F : FTy → Type} [FloatOps F]

/-- The ghost state: the regions' own rounds beside the exchange's. -/
abbrev UU : Type := UR sig nD τ × UR sig nD τ
abbrev M (F : FTy → Type) : Type := MT nD τ sig Unit (Elt F) ℕ UU ℕ

/-- The part of the ghost state the exchange uses, and the regions' part. -/
abbrev ER : Emb (URounds (GSem nD τ sig) Unit) (M F) := embR
abbrev EP : Emb (URounds (GSem nD τ sig) Unit) (M F) := embL

abbrev 𝒱₀ : Variants := Variants.none

/-- The semaphores: seven sends, seven receives, one local copy. -/
def sem : Fin 15 → SemLoc sig := fun k => .dma (⟨12 + k.val, by omega⟩ : Fin 27)
theorem sem_inj : Function.Injective sem := fun a b h => Fin.ext (by
  have := congrArg Fin.val (SemLoc.dma.inj h)
  simp only at this
  omega)

theorem inb (j : Fin 8) : ∀ a, (![j.val, 0, 0] : Fin 3 → ℕ) a + S1x704x2048.size a ≤ S8x704x2048.size a := by
  revert j; decide

/-- Block `j` of an array of eight. -/
abbrev rect (j : Fin 8) : Rect S8x704x2048 := Rect.unit (s := S8x704x2048) ![j.val, 0, 0] S1x704x2048.size (inb j)

theorem rect_disjoint (j j' : Fin 8) (h : j ≠ j') : Disjoint (rect j).set (rect j').set :=
  Ring.lead_disjoint (s := S8x704x2048) (NB := 8) 0 1 (fun j => ![j.val, 0, 0]) S1x704x2048.size inb (fun b => (Nat.one_mul _).symm) rfl j j' h

theorem rect_cover : Finset.univ.biUnion (fun j => (rect j).set) = Finset.univ :=
  Ring.lead_cover (s := S8x704x2048) (NB := 8) 0 1 (fun j => ![j.val, 0, 0]) S1x704x2048.size inb (fun b => (Nat.one_mul _).symm)
    (by intro b a h; fin_cases a <;> first | exact absurd rfl h | rfl) rfl (by intro a h; fin_cases a <;> first | exact absurd rfl h | rfl) rfl

/-- Block `j` of the exchanged result. -/
abbrev blk (j : Fin 8) : Memref sig .tc .hbm S704x2048 .bf16 :=
  ((Memref.whole main_v1_3).slice (rect j) (fun _ => rfl)).squeeze S704x2048 squeezes_S1x704x2048_S704x2048

theorem blk_of {off : Fin 3 → ℕ} (h : ∀ a, off a + S1x704x2048.size a ≤ S8x704x2048.size a) (j : Fin 8) (e : off = ![j.val, 0, 0]) :
    ((Memref.whole main_v1_3).slice (Rect.unit (s := S8x704x2048) off S1x704x2048.size h) (fun _ => rfl)).squeeze S704x2048 squeezes_S1x704x2048_S704x2048 = blk j := by
  subst e; rfl

/-- What a device sends over each distance: its part, whole. -/
abbrev src (_ : Dev nD) (_ : Fin 8) : Memref sig .tc .hbm S704x2048 .bf16 := Memref.whole main_arg3
/-- Each copy reads a share of it. -/
abbrev qs (k : Fin 8) : PosShare TreeShare := Transfers.dealOf fullShare Finset.univ k

/-- The units one block's transfer credits. -/
abbrev units : ℕ := (blk 0).view.dmaCredit
theorem units_pos : 0 < units := by decide
theorem credit {sp : Space} (b : Memref sig .tc sp S704x2048 .bf16) : b.view.dmaCredit = units := rfl

abbrev fm : Family 8 sig (Fin 15) := Direct.fam sem sem_inj units units_pos

/-- The argument of the exchange on a device, as each copy finds it. -/
abbrev args (A : ∀ c : Dev nD, Buf (Elt F) ((c.tc : Thread nD τ).loc main_arg3)) (c : Dev nD) (k : Fin 8) :
    Buf (Elt F) ((src c k).view.loc (c.tc : Thread nD τ)) := A c

theorem own_off (c : Dev nD) : k0_off1 c = ![c.val, 0, 0] := by revert c; decide
theorem own_off' (c : Dev nD) : k0_off3 c = ![c.val, 0, 0] := by revert c; decide
theorem dev1 (c : Dev nD) (h : k0_dev1 c < nD) : (⟨k0_dev1 c, h⟩ : Dev nD) = peer 1 c := by revert c; decide
theorem dev2 (c : Dev nD) (h : k0_dev2 c < nD) : (⟨k0_dev2 c, h⟩ : Dev nD) = peer 2 c := by revert c; decide
theorem dev3 (c : Dev nD) (h : k0_dev3 c < nD) : (⟨k0_dev3 c, h⟩ : Dev nD) = peer 3 c := by revert c; decide
theorem dev4 (c : Dev nD) (h : k0_dev4 c < nD) : (⟨k0_dev4 c, h⟩ : Dev nD) = peer 4 c := by revert c; decide
theorem dev5 (c : Dev nD) (h : k0_dev5 c < nD) : (⟨k0_dev5 c, h⟩ : Dev nD) = peer 5 c := by revert c; decide
theorem dev6 (c : Dev nD) (h : k0_dev6 c < nD) : (⟨k0_dev6 c, h⟩ : Dev nD) = peer 6 c := by revert c; decide
theorem dev7 (c : Dev nD) (h : k0_dev7 c < nD) : (⟨k0_dev7 c, h⟩ : Dev nD) = peer 7 c := by revert c; decide

theorem pure_bind' {α β : Type} (a : α) (k : α → Prog (TpuEff nD τ sig (Elt F) Λ₀ .tc) β) :
    (pure a : Prog (TpuEff nD τ sig (Elt F) Λ₀ .tc) α) >>= k = k a := Prog.bind_ret a k
theorem pure_ret {α : Type} (a : α) : (pure a : Prog (TpuEff nD τ sig (Elt F) Λ₀ .tc) α) = .ret a := rfl

section Run

variable (A : ∀ c : Dev nD, Buf (Elt F) ((c.tc : Thread nD τ).loc main_arg3))

/-- A device's part of the exchange when a grid point begins: all to start at the first, all under way after it. -/
def entry (i : grid0.Coords) (c : Dev nD) : sProp (M F) :=
  if k0_cond1 i = 1#1 then iprop((∃ κ, Direct.before sem sem_inj units units_pos ER src qs (args A) blk κ c) ∗ ∃ W, owes (c.tc : Thread nD τ) (debt fm Direct.recvs c) W)
  else iprop(Direct.flying sem sem_inj units units_pos ER src qs (args A) blk c ∗ ∃ W, owes (c.tc : Thread nD τ) 0 W)

/-- And when it ends: all under way, and after the last all done. -/
def depart (i : grid0.Coords) (c : Dev nD) : sProp (M F) :=
  if k0_cond2 i = 1#1 then iprop(Direct.after sem src qs (args A) blk c ∗ ∃ W, owes (c.tc : Thread nD τ) 0 W)
  else iprop(Direct.flying sem sem_inj units units_pos ER src qs (args A) blk c ∗ ∃ W, owes (c.tc : Thread nD τ) 0 W)

set_option maxHeartbeats 4000000 in
set_option maxRecDepth 65536 in
/-- One grid point: the exchange's part of it, and the three tiles written from the three tiles read. -/
theorem run_body (i : grid0.Coords) (c : Dev nD)
    (arg2 : Memref sig .tc .vmem S1024x2048 .bf16) (harg2 : arg2.IsWhole) (arg3 : Memref sig .tc .vmem S1x2048x704 .bf16) (harg3 : arg3.IsWhole)
    (arg4 : Memref sig .tc .vmem S1x2048x704 .bf16) (harg4 : arg4.IsWhole) (arg6 : Memref sig .tc .vmem S1x1024x704 .bf16) (harg6 : arg6.IsWhole)
    (arg7 : Memref sig .tc .vmem S1x1024x704 .bf16) (harg7 : arg7.IsWhole) (arg8 : Memref sig .tc .vmem S1x1024x704 .bf16) (harg8 : arg8.IsWhole)
    (x2 : Vec F S1024x2048 .bf16) (x3 x4 : Vec F S1x2048x704 .bf16) (x6 x7 x8 : Vec F S1x1024x704 .bf16) (Kt : PUnit → sProp (M F)) :
    iprop(entry A i c ∗ owns (c.tc : Thread nD τ) arg2 fullShare x2 ∗ owns (c.tc : Thread nD τ) arg3 fullShare x3 ∗ owns (c.tc : Thread nD τ) arg4 fullShare x4
        ∗ owns (c.tc : Thread nD τ) arg6 fullShare x6 ∗ owns (c.tc : Thread nD τ) arg7 fullShare x7 ∗ owns (c.tc : Thread nD τ) arg8 fullShare x8
        ∗ ((depart A i c ∗ owns (c.tc : Thread nD τ) arg2 fullShare x2 ∗ owns (c.tc : Thread nD τ) arg3 fullShare x3 ∗ owns (c.tc : Thread nD τ) arg4 fullShare x4
            ∗ owns (c.tc : Thread nD τ) arg6 fullShare (k0_pay5 x2 x3) ∗ owns (c.tc : Thread nD τ) arg7 fullShare (k0_pay6 x2 x4)
            ∗ owns (c.tc : Thread nD τ) arg8 fullShare (k0_pay1 (k0_pay3 x2 x3) (k0_pay4 x2 x4) (k0_pay7 x2 x3))) -∗ Kt ⟨⟩))
      ⊢ wp frame (wpE (defs₀ (F := F)) 𝒱₀ (c.tc : Thread nD τ) none) Set.univ
    (cc0_ffn_up (F := F) i arg2 harg2 arg3 harg3 arg4 harg4 (Memref.whole main_arg3) (Memref.isWhole_whole _) arg6 harg6 arg7 harg7 arg8 harg8
      (Memref.whole main_v1_3) (Memref.isWhole_whole _) cc0_scratch0 cc0_scratch1 cc0_scratch2) Kt := by
  simp only [cc0_ffn_up_eq_skeleton, cc0_ffn_up_skel, k0_part1_eq_skeleton, k0_part1_skel, k0_part2_eq_skeleton, k0_part2_skel, k0_part3_eq_skeleton, k0_part3_skel, k0_part4_eq_skeleton, k0_part4_skel, k0_part5_eq_skeleton, k0_part5_skel, k0_part6_eq_skeleton, k0_part6_skel, k0_part7_eq_skeleton, k0_part7_skel, k0_part8_eq_skeleton, k0_part8_skel, k0_part9_eq_skeleton, k0_part9_skel, k0_part10_eq_skeleton, k0_part10_skel, k0_part11_eq_skeleton, k0_part11_skel, k0_part12_eq_skeleton, k0_part12_skel, k0_part13_eq_skeleton, k0_part13_skel, k0_part14_eq_skeleton, k0_part14_skel, k0_part15_eq_skeleton, k0_part15_skel, k0_part16_eq_skeleton, k0_part16_skel, Prog.bind_lift, Prog.bind_op, Prog.bind_ret, Prog.bind_assoc, wp_deviceId, pure_bind', pure_ret]
  iintro ⟨He, H2, H3, H4, H6, H7, H8, Hk⟩
  rw [wp_bind]
  iapply (wp_wand frame (wpE (defs₀ (F := F)) 𝒱₀ (c.tc : Thread nD τ) none) Set.univ (Q := fun v => iprop(⌜v.2.1 = k0_pay3 x2 x3 ∧ v.2.2.1 = k0_pay4 x2 x4 ∧ v.2.2.2 = k0_pay7 x2 x3⌝ ∗ (Direct.flying sem sem_inj units units_pos ER src qs (args A) blk c ∗ ∃ W, owes (c.tc : Thread nD τ) 0 W) ∗ owns (c.tc : Thread nD τ) arg2 fullShare x2 ∗ owns (c.tc : Thread nD τ) arg3 fullShare x3 ∗ owns (c.tc : Thread nD τ) arg4 fullShare x4 ∗ owns (c.tc : Thread nD τ) arg6 fullShare (k0_pay5 x2 x3) ∗ owns (c.tc : Thread nD τ) arg7 fullShare (k0_pay6 x2 x4)))) $$ [He H2 H3 H4 H6 H7]
  · unfold entry
    by_cases h1 : k0_cond1 i = 1#1
    · simp only [dif_pos h1, if_pos h1, wp_deviceId]
      icases He with ⟨⟨%κ, Hb⟩, ⟨%W, HO⟩⟩
      unfold Direct.before
      icases Hb with ⟨#HK, Hp, Hd, Hown, Hc⟩
      iapply (Direct.keep sem sem_inj units units_pos ER src qs (args A) blk (defs₀ (F := F)) 𝒱₀ none c rfl (blk_of _ _ (own_off c)) rfl rfl) $$ [Hown]
      · isplitr; · iexact HK
        iexact Hown
      iintro C14
      ihave HS := (Direct.sending_intro sem sem_inj units units_pos ER src qs (args A) blk c W) $$ [Hd HO]
      · isplitl [Hd] <;> iassumption
      iapply (Direct.post sem sem_inj units units_pos ER src qs (args A) blk (defs₀ (F := F)) 𝒱₀ none c 0 Finset.univ (by decide) rfl (blk_of _ _ (own_off c)) (dev1 c _) rfl rfl rfl) $$ [HS]
      · isplitr; · iexact HK
        iexact HS
      iintro HS
      iapply (Direct.post sem sem_inj units units_pos ER src qs (args A) blk (defs₀ (F := F)) 𝒱₀ none c 1 (Finset.univ.erase 0) (by decide) rfl (blk_of _ _ (own_off c)) (dev2 c _) rfl rfl rfl) $$ [HS]
      · isplitr; · iexact HK
        iexact HS
      iintro HS
      iapply (Direct.post sem sem_inj units units_pos ER src qs (args A) blk (defs₀ (F := F)) 𝒱₀ none c 2 ((Finset.univ.erase 0).erase 1) (by decide) rfl (blk_of _ _ (own_off c)) (dev3 c _) rfl rfl rfl) $$ [HS]
      · isplitr; · iexact HK
        iexact HS
      iintro HS
      iapply (Direct.post sem sem_inj units units_pos ER src qs (args A) blk (defs₀ (F := F)) 𝒱₀ none c 3 (((Finset.univ.erase 0).erase 1).erase 2) (by decide) rfl (blk_of _ _ (own_off c)) (dev4 c _) rfl rfl rfl) $$ [HS]
      · isplitr; · iexact HK
        iexact HS
      iintro HS
      iapply (Direct.post sem sem_inj units units_pos ER src qs (args A) blk (defs₀ (F := F)) 𝒱₀ none c 4 ((((Finset.univ.erase 0).erase 1).erase 2).erase 3) (by decide) rfl (blk_of _ _ (own_off c)) (dev5 c _) rfl rfl rfl) $$ [HS]
      · isplitr; · iexact HK
        iexact HS
      iintro HS
      iapply (Direct.post sem sem_inj units units_pos ER src qs (args A) blk (defs₀ (F := F)) 𝒱₀ none c 5 (((((Finset.univ.erase 0).erase 1).erase 2).erase 3).erase 4) (by decide) rfl (blk_of _ _ (own_off c)) (dev6 c _) rfl rfl rfl) $$ [HS]
      · isplitr; · iexact HK
        iexact HS
      iintro HS
      iapply (Direct.post sem sem_inj units units_pos ER src qs (args A) blk (defs₀ (F := F)) 𝒱₀ none c 6 ((((((Finset.univ.erase 0).erase 1).erase 2).erase 3).erase 4).erase 5) (by decide) rfl (blk_of _ _ (own_off c)) (dev7 c _) rfl rfl rfl) $$ [HS]
      · isplitr; · iexact HK
        iexact HS
      iintro HS
      rw [show (((((((Finset.univ.erase 0).erase 1).erase 2).erase 3).erase 4).erase 5).erase 6) = (∅ : Finset (Fin 7)) from by decide]
      ihave H := (Direct.flying_intro sem sem_inj units units_pos ER src qs (args A) blk c W) $$ [Hp Hc C14 HS]
      · isplitr; · iexact HK
        isplitl [Hp]; · iexact Hp
        isplitl [Hc]; · iexact Hc
        isplitl [C14]; · iexact C14
        iexact HS
      ihave He := (show _ ⊢ (iprop(Direct.flying sem sem_inj units units_pos ER src qs (args A) blk c ∗ ∃ W, owes (c.tc : Thread nD τ) 0 W) : sProp (M F)) from sep_mono_right (exists_intro W)) $$ H
      iapply (load_whole (defs₀ (F := F)) 𝒱₀ none c arg2 fullShare x2) $$ H2
      iintro H2
      iapply (load_whole (defs₀ (F := F)) 𝒱₀ none c arg3 fullShare x3) $$ H3
      iintro H3
      iapply (load_whole (defs₀ (F := F)) 𝒱₀ none c arg4 fullShare x4) $$ H4
      iintro H4
      iapply (load_whole (defs₀ (F := F)) 𝒱₀ none c arg6 fullShare x6) $$ H6
      iintro H6
      iapply (store_whole (defs₀ (F := F)) 𝒱₀ none c arg6 x6 (k0_pay5 x2 x3)) $$ H6
      iintro H6
      iapply (load_whole (defs₀ (F := F)) 𝒱₀ none c arg7 fullShare x7) $$ H7
      iintro H7
      iapply (store_whole (defs₀ (F := F)) 𝒱₀ none c arg7 x7 (k0_pay6 x2 x4)) $$ H7
      iintro H7
      rw [wp_ret]
      imodintro
      isplitr; · ipureintro; exact ⟨rfl, rfl, rfl⟩
      isplitl [He]; · iexact He
      isplitl [H2]; · iexact H2
      isplitl [H3]; · iexact H3
      isplitl [H4]; · iexact H4
      isplitl [H6]; · iexact H6
      iexact H7
    · simp only [dif_neg h1, if_neg h1]
      iapply (load_whole (defs₀ (F := F)) 𝒱₀ none c arg2 fullShare x2) $$ H2
      iintro H2
      iapply (load_whole (defs₀ (F := F)) 𝒱₀ none c arg3 fullShare x3) $$ H3
      iintro H3
      iapply (load_whole (defs₀ (F := F)) 𝒱₀ none c arg4 fullShare x4) $$ H4
      iintro H4
      iapply (load_whole (defs₀ (F := F)) 𝒱₀ none c arg6 fullShare x6) $$ H6
      iintro H6
      iapply (store_whole (defs₀ (F := F)) 𝒱₀ none c arg6 x6 (k0_pay5 x2 x3)) $$ H6
      iintro H6
      iapply (load_whole (defs₀ (F := F)) 𝒱₀ none c arg7 fullShare x7) $$ H7
      iintro H7
      iapply (store_whole (defs₀ (F := F)) 𝒱₀ none c arg7 x7 (k0_pay6 x2 x4)) $$ H7
      iintro H7
      rw [wp_ret]
      imodintro
      isplitr; · ipureintro; exact ⟨rfl, rfl, rfl⟩
      isplitl [He]; · iexact He
      isplitl [H2]; · iexact H2
      isplitl [H3]; · iexact H3
      isplitl [H4]; · iexact H4
      isplitl [H6]; · iexact H6
      iexact H7
  iintro %v ⟨%hv, He, H2, H3, H4, H6, H7⟩
  obtain ⟨v5, v12, v15, v30⟩ := v
  obtain ⟨rfl, rfl, rfl⟩ := hv
  iapply (load_whole (defs₀ (F := F)) 𝒱₀ none c arg8 fullShare x8) $$ H8
  iintro H8
  iapply (store_whole (defs₀ (F := F)) 𝒱₀ none c arg8 x8 (k0_pay1 (k0_pay3 x2 x3) (k0_pay4 x2 x4) (k0_pay7 x2 x3))) $$ H8
  iintro H8
  iapply (wp_wand frame (wpE (defs₀ (F := F)) 𝒱₀ (c.tc : Thread nD τ) none) Set.univ (Q := fun _ => depart A i c)) $$ [He]
  · unfold depart
    by_cases h2 : k0_cond2 i = 1#1
    · simp only [dif_pos h2, if_pos h2, wp_deviceId]
      irevert He
      unfold Direct.flying
      iintro ⟨⟨⟨%κ, #HK⟩, Ho⟩, HO⟩
      ihave HL := (Direct.landing_intro sem sem_inj units units_pos ER src qs (args A) blk c) $$ [Ho HO]
      · isplitl [Ho] <;> iassumption
      iapply (Direct.wait sem sem_inj units units_pos ER src qs (args A) blk (defs₀ (F := F)) 𝒱₀ none c 7 Finset.univ (by decide) rfl (credit _)) $$ [HL]
      · isplitr; · iexact HK
        iexact HL
      iintro HL
      iapply (Direct.wait sem sem_inj units units_pos ER src qs (args A) blk (defs₀ (F := F)) 𝒱₀ none c 8 (Finset.univ.erase 7) (by decide) rfl (credit _)) $$ [HL]
      · isplitr; · iexact HK
        iexact HL
      iintro HL
      iapply (Direct.wait sem sem_inj units units_pos ER src qs (args A) blk (defs₀ (F := F)) 𝒱₀ none c 9 ((Finset.univ.erase 7).erase 8) (by decide) rfl (credit _)) $$ [HL]
      · isplitr; · iexact HK
        iexact HL
      iintro HL
      iapply (Direct.wait sem sem_inj units units_pos ER src qs (args A) blk (defs₀ (F := F)) 𝒱₀ none c 10 (((Finset.univ.erase 7).erase 8).erase 9) (by decide) rfl (credit _)) $$ [HL]
      · isplitr; · iexact HK
        iexact HL
      iintro HL
      iapply (Direct.wait sem sem_inj units units_pos ER src qs (args A) blk (defs₀ (F := F)) 𝒱₀ none c 11 ((((Finset.univ.erase 7).erase 8).erase 9).erase 10) (by decide) rfl (credit _)) $$ [HL]
      · isplitr; · iexact HK
        iexact HL
      iintro HL
      iapply (Direct.wait sem sem_inj units units_pos ER src qs (args A) blk (defs₀ (F := F)) 𝒱₀ none c 12 (((((Finset.univ.erase 7).erase 8).erase 9).erase 10).erase 11) (by decide) rfl (credit _)) $$ [HL]
      · isplitr; · iexact HK
        iexact HL
      iintro HL
      iapply (Direct.wait sem sem_inj units units_pos ER src qs (args A) blk (defs₀ (F := F)) 𝒱₀ none c 13 ((((((Finset.univ.erase 7).erase 8).erase 9).erase 10).erase 11).erase 12) (by decide) rfl (credit _)) $$ [HL]
      · isplitr; · iexact HK
        iexact HL
      iintro HL
      iapply (Direct.wait sem sem_inj units units_pos ER src qs (args A) blk (defs₀ (F := F)) 𝒱₀ none c 0 (((((((Finset.univ.erase 7).erase 8).erase 9).erase 10).erase 11).erase 12).erase 13) (by decide) rfl (credit _)) $$ [HL]
      · isplitr; · iexact HK
        iexact HL
      iintro HL
      iapply (Direct.wait sem sem_inj units units_pos ER src qs (args A) blk (defs₀ (F := F)) 𝒱₀ none c 1 ((((((((Finset.univ.erase 7).erase 8).erase 9).erase 10).erase 11).erase 12).erase 13).erase 0) (by decide) rfl (credit _)) $$ [HL]
      · isplitr; · iexact HK
        iexact HL
      iintro HL
      iapply (Direct.wait sem sem_inj units units_pos ER src qs (args A) blk (defs₀ (F := F)) 𝒱₀ none c 2 (((((((((Finset.univ.erase 7).erase 8).erase 9).erase 10).erase 11).erase 12).erase 13).erase 0).erase 1) (by decide) rfl (credit _)) $$ [HL]
      · isplitr; · iexact HK
        iexact HL
      iintro HL
      iapply (Direct.wait sem sem_inj units units_pos ER src qs (args A) blk (defs₀ (F := F)) 𝒱₀ none c 3 ((((((((((Finset.univ.erase 7).erase 8).erase 9).erase 10).erase 11).erase 12).erase 13).erase 0).erase 1).erase 2) (by decide) rfl (credit _)) $$ [HL]
      · isplitr; · iexact HK
        iexact HL
      iintro HL
      iapply (Direct.wait sem sem_inj units units_pos ER src qs (args A) blk (defs₀ (F := F)) 𝒱₀ none c 4 (((((((((((Finset.univ.erase 7).erase 8).erase 9).erase 10).erase 11).erase 12).erase 13).erase 0).erase 1).erase 2).erase 3) (by decide) rfl (credit _)) $$ [HL]
      · isplitr; · iexact HK
        iexact HL
      iintro HL
      iapply (Direct.wait sem sem_inj units units_pos ER src qs (args A) blk (defs₀ (F := F)) 𝒱₀ none c 5 ((((((((((((Finset.univ.erase 7).erase 8).erase 9).erase 10).erase 11).erase 12).erase 13).erase 0).erase 1).erase 2).erase 3).erase 4) (by decide) rfl (credit _)) $$ [HL]
      · isplitr; · iexact HK
        iexact HL
      iintro HL
      iapply (Direct.wait sem sem_inj units units_pos ER src qs (args A) blk (defs₀ (F := F)) 𝒱₀ none c 6 (((((((((((((Finset.univ.erase 7).erase 8).erase 9).erase 10).erase 11).erase 12).erase 13).erase 0).erase 1).erase 2).erase 3).erase 4).erase 5) (by decide) rfl (credit _)) $$ [HL]
      · isplitr; · iexact HK
        iexact HL
      iintro HL
      iapply (Direct.wait sem sem_inj units units_pos ER src qs (args A) blk (defs₀ (F := F)) 𝒱₀ none c 14 ((((((((((((((Finset.univ.erase 7).erase 8).erase 9).erase 10).erase 11).erase 12).erase 13).erase 0).erase 1).erase 2).erase 3).erase 4).erase 5).erase 6) (by decide) rfl (credit _)) $$ [HL]
      · isplitr; · iexact HK
        iexact HL
      iintro HL
      rw [show (((((((((((((((Finset.univ.erase 7).erase 8).erase 9).erase 10).erase 11).erase 12).erase 13).erase 0).erase 1).erase 2).erase 3).erase 4).erase 5).erase 6).erase 14) = (∅ : Finset (Fin 15)) from by decide]
      rw [wp_ret]
      iapply (Direct.after_intro sem sem_inj units units_pos ER src qs (args A) blk c)
      isplitr; · iexact HK
      iexact HL
    · simp only [dif_neg h2, if_neg h2]
      rw [wp_ret]
      imodintro
      iexact He
  iintro %_ He
  iapply Hk
  isplitl [He]; · iexact He
  isplitl [H2]; · iexact H2
  isplitl [H3]; · iexact H3
  isplitl [H4]; · iexact H4
  isplitl [H6]; · iexact H6
  isplitl [H7]; · iexact H7
  iexact H8

end Run

end FfnUp

end
-- ==== Proof.FfnUpLaunch.lean ====
/-
  The up-projection with the gather of the down-projection's weight on all devices: the launch, and what memory holds at the end.
-/
module

public import proofs.«01_k».proof.Proof.FfnUpRun
public import proofs.«01_k».proof.Proof.Launch

@[expose] public section

set_option Elab.async false

noncomputable section

namespace FfnUp

open Idealize.ShloMosaic
open Idealize.ShloMosaic.TcCoe
open Idealize.ShloMosaic.Rounds
open Idealize.SL Idealize.SL.RA Idealize.SL.BI
open scoped Idealize.SL.BI
open Idealize.SL.BI.BIBase Idealize.SL.BI.Laws Idealize.SL.ProofMode Idealize.SL.Sem
open Cert.FfnUpIdeal Cert.FfnUpIdeal.Gen
open Exchange
open Idealize.ShloMosaic.Pipeline

variable {F : FTy → Type} [FloatOps F]

omit [FloatOps F] in
/-- The exchange's argument is what its copies read. -/
theorem lend (A : ∀ c : Dev nD, Buf (Elt F) ((c.tc : Thread nD τ).loc main_arg3)) (c : Dev nD) :
    ((c.tc : Thread nD τ).loc main_arg3 ↦{fullShare} A c : sProp (M F)) = bigSep Finset.univ fun k => Direct.lent src qs (args A) c k := by
  rw [shares main_arg3 c (A c)]
  rfl

omit [FloatOps F] in
/-- The exchange's result, whole, is room for every block. -/
theorem rooms (c : Dev nD) (f : Buf (Elt F) ((c.tc : Thread nD τ).loc main_v1_3)) :
    ((c.tc : Thread nD τ).loc main_v1_3 ↦{fullShare} f : sProp (M F)) ⊢ bigSep Finset.univ fun k : Fin 15 => Direct.space blk c k :=
  (room_pieces main_v1_3 rect (fun _ _ => rfl) (fun _ => squeezes_S1x704x2048_S704x2048) rect_disjoint rect_cover c f).trans (Direct.spaces blk c)

/-- The landed blocks are the exchange's result, whole. -/
theorem join_landed (A : ∀ c : Dev nD, Buf (Elt F) ((c.tc : Thread nD τ).loc main_arg3)) (c : Dev nD) :
    (bigSep Finset.univ fun j => Direct.landed src (args A) blk c j)
      ⊢ (iprop(∃ f : Buf (Elt F) ((c.tc : Thread nD τ).loc main_v1_3), ⌜∀ j, (blk j).view.read (Elt F) f = Direct.val src (args A) c j⌝
          ∗ (c.tc : Thread nD τ).loc main_v1_3 ↦{fullShare} f) : sProp (M F)) :=
  join_pieces main_v1_3 rect (fun _ _ => rfl) (fun _ => squeezes_S1x704x2048_S704x2048) rect_disjoint rect_cover c _

/-! ## The region's data -/

section Launch

variable (m : (ℓ : Loc nD τ sig) → Buf (Elt F) ℓ) (ρ : Dev nD → PrngReg)

/-- The exchange's argument at launch. -/
def arg (c : Dev nD) : Buf (Elt F) ((c.tc : Thread nD τ).loc main_arg3) := m ((c.tc : Thread nD τ).loc main_arg3)

/-- The exchange before grid point `n`. -/
def state (n : ℕ) (c : Dev nD) : sProp (M F) :=
  if n = 0 then iprop(∃ κ, Direct.before sem sem_inj units units_pos ER src qs (args (arg m)) blk κ c)
  else if n = 64 then Direct.after sem src qs (args (arg m)) blk c
  else Direct.flying sem sem_inj units units_pos ER src qs (args (arg m)) blk c

/-- What a device owes before grid point `n`. -/
def debts (n : ℕ) (c : Dev nD) : CellTallies nD τ sig Unit := if n = 0 then debt fm Direct.recvs c else 0

theorem first (t : Fin cfg0.N) : k0_cond1 (grid0.coords t) = 1#1 ↔ t.val = 0 := by
  revert t; decide +kernel
theorem last (t : Fin cfg0.N) : k0_cond2 (grid0.coords t) = 1#1 ↔ t.val + 1 = 64 := by
  revert t; decide +kernel

theorem enter_point (t : Fin cfg0.N) (c : Dev nD) :
    iprop(state m t.val c ∗ ∃ W, owes (c.tc : Thread nD τ) (debts t.val c) W) ⊢ entry (arg m) (grid0.coords t) c := by
  have hN : t.val < 64 := t.isLt
  unfold entry state debts
  by_cases h : t.val = 0
  · rw [if_pos h, if_pos h, if_pos ((first t).mpr h)]
  · rw [if_neg h, if_neg h, if_neg (fun e => h ((first t).mp e)), if_neg (by omega)]

theorem leave_point (t : Fin cfg0.N) (c : Dev nD) :
    depart (arg m) (grid0.coords t) c ⊢ iprop(state m (t.val + 1) c ∗ ∃ W, owes (c.tc : Thread nD τ) (debts (t.val + 1) c) W) := by
  unfold depart state debts
  rw [if_neg (Nat.succ_ne_zero _), if_neg (Nat.succ_ne_zero _)]
  by_cases h : t.val + 1 = 64
  · rw [if_pos h, if_pos ((last t).mpr h)]
  · rw [if_neg h, if_neg (fun e => h ((last t).mp e))]

def dats (_ : Fin 1) (c : Dev nD) : Dat τ (Elt F) Unit ℕ UU ℕ cfg0 c where
  A w := m ((cfg0.win w).arr.view.loc (c.tc : Thread nD τ))
  after w t := match w with
    | 0 => iblk m c 0 t
    | 1 => iblk m c 1 t
    | 2 => iblk m c 2 t
    | 3 => k0_pay5 (iblk m c 0 t) (iblk m c 1 t)
    | 4 => k0_pay6 (iblk m c 0 t) (iblk m c 2 t)
    | 5 => k0_pay1 (k0_pay3 (iblk m c 0 t) (iblk m c 1 t)) (k0_pay4 (iblk m c 0 t) (iblk m c 2 t)) (k0_pay7 (iblk m c 0 t) (iblk m c 1 t))
    | ⟨_ + 6, h⟩ => absurd h (Nat.not_lt.2 (Nat.le_add_left _ _))
  Φ t := iprop(state m t.val c)
  q _ := fullShare
  owed t := debts t.val c

theorem share_full (c : Dev nD) (w : Fin 6) : (dats m 0 c).share w = fullShare := by
  unfold Dat.share
  exact ite_self _

theorem before0 (c : Dev nD) (t : Fin cfg0.N) (d) : (dats m 0 c).before 0 t d = iblk m c 0 t :=
  ((dats m 0 c).before_in_eq_fetched 0 rfl (fun _ => rfl) (fun _ _ _ => rfl) (fun _ => rfl) t d).trans rfl

theorem before1 (c : Dev nD) (t : Fin cfg0.N) (d) : (dats m 0 c).before 1 t d = iblk m c 1 t :=
  ((dats m 0 c).before_in_eq_fetched 1 rfl (fun _ => rfl) (fun _ _ _ => rfl) (fun _ => rfl) t d).trans rfl

theorem before2 (c : Dev nD) (t : Fin cfg0.N) (d) : (dats m 0 c).before 2 t d = iblk m c 2 t :=
  ((dats m 0 c).before_in_eq_fetched 2 rfl (fun _ => rfl) (fun _ _ _ => rfl) (fun _ => rfl) t d).trans rfl

set_option maxRecDepth 20000 in
theorem body_obligation (c : Dev nD) : Pipeline.BodyObligation (dats m 0 c) (defs₀ (F := F)) 𝒱₀ () Set.univ := by
  intro t
  rw [bigSep_W0, bigSep_W0]
  show iprop(state m t.val c ∗ _ ∗ _) ⊢ wp frame (wpE (defs₀ (F := F)) 𝒱₀ c.tc none) Set.univ (bodyAt0 t) _
  iintro ⟨Hst, Ho, ⟨%d0, H0⟩, ⟨%d1, H1⟩, ⟨%d2, H2⟩, ⟨%d3, H3⟩, ⟨%d4, H4⟩, ⟨%d5, H5⟩⟩
  ihave Ho := (Entails.of_eq (show (dats m 0 c).owesAt () t.castSucc = _ from by unfold Pipeline.Dat.owesAt Pipeline.owesWithin; rfl)) $$ Ho
  icases Ho with ⟨%W, -, Ho⟩
  ihave He := (enter_point m t c) $$ [Hst Ho]
  · isplitl [Hst]; · iexact Hst
    iexists W; iexact Ho
  iapply (run_body (arg m) (grid0.coords t) c _ _ _ _ _ _ _ _ _ _ _ _ (iblk m c 0 t) (iblk m c 1 t) (iblk m c 2 t) _ _ _)
  isplitl [He]; · iexact He
  isplitl [H0]; · rw [← before0 m c t d0]; iexact H0
  isplitl [H1]; · rw [← before1 m c t d1]; iexact H1
  isplitl [H2]; · rw [← before2 m c t d2]; iexact H2
  isplitl [H3]; · iexact H3
  isplitl [H4]; · iexact H4
  isplitl [H5]; · iexact H5
  iintro ⟨He, H0, H1, H2, H3, H4, H5⟩
  ihave He := (leave_point m t c) $$ He
  icases He with ⟨Hst, ⟨%W', Ho⟩⟩
  isplitl [Hst]
  · iapply (Entails.of_eq (show (state m (t.val + 1) c : sProp (M F)) = (dats m 0 c).Φ t.succ from rfl)); iexact Hst
  isplitl [Ho]
  · unfold Pipeline.Dat.owesAt Pipeline.owesWithin
    iexists W'
    isplitr; · ipureintro; exact fun _ _ => Or.inl trivial
    iexact Ho
  isplitl [H0]; · iexact H0
  isplitl [H1]; · iexact H1
  isplitl [H2]; · iexact H2
  isplitl [H3]; · iexact H3
  isplitl [H4]; · iexact H4
  iexact H5

/-! ## The launch -/

/-- The ghost state at launch. -/
def u₀ : UU :=
  (initOf (PerCore.cells (nD := nD) (τ := τ) (fun _ => cfgs) cellOf_inj) (PerCore.launchToks (nD := nD) (τ := τ) (fun _ => cfgs) cellOf_inj), initOf (cells fm) (toks fm))

/-- What the launch gives device `c`. -/
def G' (c : Dev nD) : sProp (M F) :=
  iprop(((∃ κ, records fm ER (Direct.pay src qs (args (arg m)) blk) κ) ∗ share fm ER (Direct.space blk) c) ∗ ((c.tc : Thread nD τ).loc main_arg3 ↦{fullShare} arg m c))

theorem glob : iprop((bigSep Finset.univ fun c => iprop(ownSems0 (Ix := Unit) (Name := ℕ) (U := UU) (Lvl := ℕ) (Val := Elt F) (τ := τ) sem c ∗ unscopedSems0 c
          ∗ unscopedRest cfg0.spec c (fun b => m ((c.tc : Thread nD τ).loc b)))) ∗ bigSep Finset.univ (dealt fm ER (Direct.pay src qs (args (arg m)) blk)) : sProp (M F))
        ⊢ |={Set.univ}=> bigSep Finset.univ (G' m) := by
  simp only [unscopedRest0_eq]
  rw [bigSep_sep', bigSep_sep', bigSep_sep']
  iintro ⟨⟨Hs, -, Ha, Hv⟩, Hd⟩
  ihave Hr := (show (bigSep Finset.univ fun c : Dev nD => ((c.tc : Thread nD τ).loc main_v1_3 ↦{fullShare} m ((c.tc : Thread nD τ).loc main_v1_3) : sProp (M F)))
      ⊢ bigSep Finset.univ fun c : Dev nD => bigSep Finset.univ fun k : Fin 15 => Direct.space blk c k
    from bigSep_mono fun c _ => rooms c _) $$ Hv
  imod (deal_once fm ER (Direct.pay src qs (args (arg m)) blk) (Direct.space blk)) $$ [Hs Hd Hr] with H
  · isplitl [Hs]; · iexact Hs
    isplitl [Hd]; · iexact Hd
    iexact Hr
  imodintro
  iapply (Entails.of_eq (show iprop((bigSep Finset.univ fun c : Dev nD => iprop((∃ κ, records fm ER (Direct.pay src qs (args (arg m)) blk) κ) ∗ share fm ER (Direct.space blk) c))
      ∗ (bigSep Finset.univ fun c : Dev nD => ((c.tc : Thread nD τ).loc main_arg3 ↦{fullShare} arg m c))) = bigSep Finset.univ (G' m) from by
    rw [← bigSep_sep']; rfl))
  isplitl [H]; · iexact H
  iexact Ha

theorem enter (c : Dev nD) :
    iprop(levAts lset (lval fm) ∗ launchCred (fun d => debt fm Direct.recvs d) c ∗ prngReg c (ρ c) ∗ G' m c ∗ scopedRest cfg0.spec c) ⊢ (dats m 0 c).Φ 0 := by
  show _ ⊢ (iprop(state m 0 c) : sProp (M F))
  unfold G' state
  rw [if_pos rfl]
  iintro ⟨Hl, Hc, -, ⟨⟨⟨%κ, Hr⟩, Hsh⟩, Ha⟩, -⟩
  ihave Hc := (creds fm Direct.recvs c) $$ Hc
  ihave Ha := (Entails.of_eq (lend (arg m) c)) $$ Ha
  iexists κ
  iapply (Direct.before_intro sem sem_inj units units_pos ER src qs (args (arg m)) blk κ c)
  isplitl [Hr]; · iexact Hr
  isplitl [Hl]; · iexact Hl
  isplitl [Hsh]; · iexact Hsh
  isplitl [Ha]; · iexact Ha
  iexact Hc

/-- The exchange's buffers on a device at the end. -/
def held (c : Dev nD) : sProp (M F) :=
  iprop((∃ f : Buf (Elt F) ((c.tc : Thread nD τ).loc main_v1_3), ⌜∀ j, (blk j).view.read (Elt F) f = Direct.val src (args (arg m)) c j⌝ ∗ (c.tc : Thread nD τ).loc main_v1_3 ↦{fullShare} f)
    ∗ (c.tc : Thread nD τ).loc main_arg3 ↦{fullShare} arg m c)

theorem exits (c : Dev nD) :
    (dats m 0 c).Φ (Fin.last cfg0.N) ⊢ iprop(held m c ∗ ownSems0 sem c ∗ scopedRest cfg0.spec c) := by
  show (iprop(state m 64 c) : sProp (M F)) ⊢ _
  unfold state Direct.after held
  rw [if_neg (by decide), if_pos rfl]
  iintro ⟨Hb, Ha, Hs⟩
  ihave Hb := (join_landed (arg m) c) $$ Hb
  ihave Ha := (Entails.of_eq (lend (arg m) c).symm) $$ Ha
  isplitl [Hb Ha]
  · isplitl [Hb]; · iexact Hb
    iexact Ha
  isplitl [Hs]; · iexact Hs
  rw [scopedRest0_eq]; iempintro

/-- The memory on device `c` at the end: block `j` of the exchange's result is what device `j` sent, its argument is as it was. -/
def Ends (c : Dev nD) (s : MemSt nD τ sig (Elt F)) : Prop :=
  (∀ j, (blk j).view.read (Elt F) (s.mem ((c.tc : Thread nD τ).loc main_v1_3)) = Direct.val src (args (arg m)) c j)
    ∧ s.mem ((c.tc : Thread nD τ).loc main_arg3) = m ((c.tc : Thread nD τ).loc main_arg3)

theorem ends (c : Dev nD) (s' : Phys nD τ sig (Elt F)) :
    iprop(held m c ∗ SI s') ⊢ (|={Set.univ}=> iprop(⌜Ends m c s'.mem⌝ ∗ SI s') : sProp (M F)) := by
  unfold held
  iintro ⟨⟨⟨%f, %hf, Hv⟩, Ha⟩, HS⟩
  ihave H := (agree s' _ _) $$ [Hv HS]
  · isplitl [Hv] <;> iassumption
  icases H with ⟨%hv, HS⟩
  ihave H := (agree s' _ _) $$ [Ha HS]
  · isplitl [Ha] <;> iassumption
  icases H with ⟨%ha, HS⟩
  imodintro
  isplitr
  · ipureintro
    exact ⟨fun j => by rw [hv]; exact hf j, ha⟩
  · iexact HS

theorem stage_sem : ∀ (w : Fin 6) (s : Fin (spec0 w).nbuf) (k : Fin 15), (.dma ((spec0 w).sem s) : SemLoc sig) ≠ sem k := by decide

theorem waits (c : Dev nD) : (levAts lset (lval fm) : sProp (M F)) ⊢ PerCore.cellsWaits (fun _ : Dev nD => cfgs) (dats m) () 0 c :=
  PerCore.cellsWaits_intro (fun _ : Dev nD => cfgs) (dats m) () 0 c fun w s t => by
    show _ ⊢ MayWait (c.tc : Thread nD τ) (.dma ((spec0 w).sem s)) () (debts t.val c)
    unfold debts
    split
    · exact mayWait_other fm Direct.recvs c _ (stage_sem w s) (by decide)
    · rw [MayWait_zero]
      iintro -
      iempintro

set_option maxRecDepth 20000 in
/-- From any memory with zero counters every fair execution ends; at its end every device's windowed arrays hold what the grid
    wrote, the exchange has happened, and every counter is at zero. -/
theorem run_main : θ_run defs (onTc (τ := τ) (main (F := F))) ⟨m, fun _ => 0, ρ⟩ (fun r =>
    (∀ c : Dev nD, (∀ w, r.2.mem ((spec0 w).arr.view.loc (c.tc : Thread nD τ)) = (dats m 0 c).arrAt w cfg0.N) ∧ Ends m c r.2) ∧ r.2.sem = fun _ => 0) :=
  run_exchange cfgs (dats m) () cellOf_inj (0 : Fin 1) EP defs₀ 𝒱₀
    winFacts0.to₀ (osem := sem) (by decide) m ρ main (fun _ => rfl)
    (fun c => (body_obligation m c).loose) block_pos0 arr_whole0 stage_whole0
    (fun c w => share_full m c w) winFacts0.arr_inj
    (fun d => debt fm Direct.recvs d) (fun _ => rfl) (fun _ => rfl)
    lset (lval fm) lset_ne (waits m) (dealt fm ER (Direct.pay src qs (args (arg m)) blk)) (G' m) u₀
    (by
      unfold u₀
      iintro Hu
      ihave H := (ownU_pair _ _) $$ Hu
      icases H with ⟨HP, HX⟩
      imod (fund_once fm ER (Direct.pay src qs (args (arg m)) blk)) $$ HX with HG
      imodintro
      isplitl [HP] <;> iassumption)
    (glob m) (fun _ _ => rfl) (held m) (enter m ρ) (exits m) (Ends m) (ends m)
    (fun s h hs => ⟨h, sem_eq_zero_of_scoped (by decide) hs⟩)

/-- The arrays the windows only read are as they were. -/
theorem run_in (c : Dev nD) (w : Fin 6) (hw : (spec0 w).isOut = false) : (dats m 0 c).arrAt w cfg0.N = m ((spec0 w).arr.view.loc (c.tc : Thread nD τ)) :=
  (dats m 0 c).arrAt_in w hw _

end Launch

end FfnUp

end
-- ==== Proof.FfnUpValue.lean ====
/-
  The values of the FFN's first half: each device's three arrays are its tokens' part of the layer's over all the
  tokens, and the exchanged weight is the weight's rows cut into eight blocks.
-/
module

public import proofs.«01_k».proof.Proof.FfnUpLaunch
public import Idealize.ShloMosaic.Lib.Pipeline.ValueKit
public import Idealize.ShloMosaic.Lib.ValueLayout
public import Idealize.ShloMosaic.Lib.Layout
public import Idealize.ShloMosaic.Lib.LayoutAt
public import proofs.«01_k».proof.Proof.Gen.FfnUpReferenceIdeal.Run

@[expose] public section

set_option Elab.async false

noncomputable section

namespace FfnUp

open Idealize.ShloMosaic
open Idealize.ShloMosaic.TcCoe
open Cert.FfnUpIdeal Cert.FfnUpIdeal.Gen
open Exchange

/-- The reference's projection of every token by one weight, before its rounding. -/
abbrev proj (w : FVec Ideal S8x2048x704 .bf16) (h : FVec Ideal Cert.FfnUpReferenceIdeal.S65536x2048 .bf16) :
    FVec Ideal Cert.FfnUpReferenceIdeal.S8x65536x704 .f32 :=
  transpose Cert.FfnUpReferenceIdeal.S8x65536x704 [0, 2, 1]
    (Host.dotGeneral Cert.FfnUpReferenceIdeal.dot_S8x2048x704_S65536x2048_S8x704x65536_1_1_02_0_n_n none w h)
    Cert.FfnUpReferenceIdeal.Gen.transposes_S8x704x65536_S8x65536x704_0_2_1

/-- The reference's rounded projection. -/
abbrev projected (w : FVec Ideal S8x2048x704 .bf16) (h : FVec Ideal Cert.FfnUpReferenceIdeal.S65536x2048 .bf16) :
    FVec Ideal Cert.FfnUpReferenceIdeal.S8x65536x704 .bf16 :=
  truncf .bf16 (proj w h) Cert.FfnUpReferenceIdeal.Gen.bitsLt_bf16_f32

/-- The reference's gated product. -/
abbrev gated (wg wu : FVec Ideal S8x2048x704 .bf16) (h : FVec Ideal Cert.FfnUpReferenceIdeal.S65536x2048 .bf16) :
    FVec Ideal Cert.FfnUpReferenceIdeal.S8x65536x704 .bf16 :=
  truncf .bf16 (mulf (mulf (proj wg h) (Host.divf
    (broadcastInDim Cert.FfnUpReferenceIdeal.S8x65536x704 ![] Cert.FfnUpReferenceIdeal.Gen.bcast_S_S8x65536x704 (constant Cert.FfnUpReferenceIdeal.S_ .f32 0x3F800000#32))
    (addf (broadcastInDim Cert.FfnUpReferenceIdeal.S8x65536x704 ![] Cert.FfnUpReferenceIdeal.Gen.bcast_S_S8x65536x704 (constant Cert.FfnUpReferenceIdeal.S_ .f32 0x3F800000#32))
      (Host.exp (Host.negf (proj wg h)))))) (proj wu h)) Cert.FfnUpReferenceIdeal.Gen.bitsLt_bf16_f32

theorem proj_at (w : FVec Ideal S8x2048x704 .bf16) (h : FVec Ideal Cert.FfnUpReferenceIdeal.S65536x2048 .bf16)
    (i : Cert.FfnUpReferenceIdeal.S8x65536x704.Idx) :
    proj w h i = ∑ k : Fin 2048, (h (ix2 (i 1) k) : EReal) * w (ix3 (i 0) k (i 2)) := by
  pointwise [proj]
  exact Finset.sum_congr rfl fun _ _ => mul_comm _ _

theorem idx0 : ∀ t : Fin cfg0.N, win0_0.index t = ![(grid0.coords t 1).val, 0] := (by decide +kernel : ∀ t : Fin grid0.N, _)
theorem idx1 : ∀ t : Fin cfg0.N, win0_1.index t = ![(grid0.coords t 0).val, 0, 0] := (by decide +kernel : ∀ t : Fin grid0.N, _)
theorem idx2 : ∀ t : Fin cfg0.N, win0_2.index t = ![(grid0.coords t 0).val, 0, 0] := (by decide +kernel : ∀ t : Fin grid0.N, _)
theorem idx3 : ∀ t : Fin cfg0.N, win0_3.index t = ![(grid0.coords t 0).val, (grid0.coords t 1).val, 0] := (by decide +kernel : ∀ t : Fin grid0.N, _)
theorem idx4 : ∀ t : Fin cfg0.N, win0_4.index t = ![(grid0.coords t 0).val, (grid0.coords t 1).val, 0] := (by decide +kernel : ∀ t : Fin grid0.N, _)
theorem idx5 : ∀ t : Fin cfg0.N, win0_5.index t = ![(grid0.coords t 0).val, (grid0.coords t 1).val, 0] := (by decide +kernel : ∀ t : Fin grid0.N, _)

variable (m : (ℓ : Loc nD τ sig) → Buf (Elt Ideal) ℓ) (c : Dev nD)
variable (h : FVec Ideal Cert.FfnUpReferenceIdeal.S65536x2048 .bf16) (wg wu : FVec Ideal S8x2048x704 .bf16)

set_option maxRecDepth 20000 in
/-- A tile of the device's tokens, read in the whole array of tokens. -/
theorem token_at (h0 : m ((c.tc : Thread nD τ).loc main_arg0) = Layout.block ⟨2, ![8192, 2048]⟩ ⟨2, ![65536, 2048]⟩ 0 8 c h)
    (t : Fin cfg0.N) (r : Fin 1024) (k : Fin 2048) (i : Fin 65536)
    (hi : i.val = c.val * 8192 + ((grid0.coords t 1).val * 1024 + r.val)) :
    iblk m c 0 t (ix2 r k) = h (ix2 i k) := by
  blk_simp [iblk, V, idx0]
  rw [h0]
  show h _ = h _
  congr 1
  funext a
  apply Fin.ext
  match a with
  | ⟨0, _⟩ =>
      show c.val * 8192 + ((win0_0.blk t).view.emb (ix2 r k) 0).val = i.val
      blk_simp [idx0]
      show c.val * 8192 + ((grid0.coords t 1).val * 1024 + r.val) = i.val
      omega
  | ⟨1, _⟩ =>
      show ((win0_0.blk t).view.emb (ix2 r k) 1).val = k.val
      blk_simp [idx0]
      first | done | (show 0 * 2048 + k.val = k.val; omega)

set_option maxRecDepth 20000 in
theorem gate_block_at (h1 : m ((c.tc : Thread nD τ).loc main_arg1) = wg) (t : Fin cfg0.N) (k : Fin 2048) (l : Fin 704) :
    iblk m c 1 t (ix3 (0 : Fin 1) k l) = wg (ix3 (grid0.coords t 0 : Fin 8) k l) := by
  blk_simp [iblk, V, idx1]
  rw [h1]
  blk_ext [idx1]

set_option maxRecDepth 20000 in
theorem up_block_at (h2 : m ((c.tc : Thread nD τ).loc main_arg2) = wu) (t : Fin cfg0.N) (k : Fin 2048) (l : Fin 704) :
    iblk m c 2 t (ix3 (0 : Fin 1) k l) = wu (ix3 (grid0.coords t 0 : Fin 8) k l) := by
  blk_simp [iblk, V, idx2]
  rw [h2]
  blk_ext [idx2]

section tile

variable (h0 : m ((c.tc : Thread nD τ).loc main_arg0) = Layout.block ⟨2, ![8192, 2048]⟩ ⟨2, ![65536, 2048]⟩ 0 8 c h)
  (h1 : m ((c.tc : Thread nD τ).loc main_arg1) = wg) (h2 : m ((c.tc : Thread nD τ).loc main_arg2) = wu)
  (t : Fin cfg0.N) (r : Fin 1024) (l : Fin 704) (i : Fin 65536)
  (hi : i.val = c.val * 8192 + ((grid0.coords t 1).val * 1024 + r.val))

include h0 h1 hi in
theorem gate_at : k0_pay3 (iblk m c 0 t) (iblk m c 1 t) (ix2 r l) = proj wg h (ix3 (grid0.coords t 0 : Fin 8) i l) := by
  rw [proj_at]
  pointwise [k0_pay3, k0_pay2]
  exact Finset.sum_congr rfl fun k _ => congrArg₂ (fun x y : EReal => x * y) (token_at m c h h0 t r k i hi) (gate_block_at m c wg h1 t k l)

include h0 h2 hi in
theorem up_at : k0_pay4 (iblk m c 0 t) (iblk m c 2 t) (ix2 r l) = proj wu h (ix3 (grid0.coords t 0 : Fin 8) i l) := by
  rw [proj_at]
  pointwise [k0_pay4, k0_pay2]
  exact Finset.sum_congr rfl fun k _ => congrArg₂ (fun x y : EReal => x * y) (token_at m c h h0 t r k i hi) (up_block_at m c wu h2 t k l)

include h0 h1 hi in
theorem gate_rounded : k0_pay5 (iblk m c 0 t) (iblk m c 1 t) (ix3 (0 : Fin 1) r l) = projected wg h (ix3 (grid0.coords t 0 : Fin 8) i l) := by
  refine Eq.trans ?_ (gate_at m c h wg h0 h1 t r l i hi)
  pointwise [k0_pay5]

include h0 h2 hi in
theorem up_rounded : k0_pay6 (iblk m c 0 t) (iblk m c 2 t) (ix3 (0 : Fin 1) r l) = projected wu h (ix3 (grid0.coords t 0 : Fin 8) i l) := by
  refine Eq.trans ?_ (up_at m c h wu h0 h2 t r l i hi)
  pointwise [k0_pay6]

include h0 h1 h2 hi in
theorem gated_at : k0_pay1 (k0_pay3 (iblk m c 0 t) (iblk m c 1 t)) (k0_pay4 (iblk m c 0 t) (iblk m c 2 t)) (k0_pay7 (iblk m c 0 t) (iblk m c 1 t))
    (ix3 (0 : Fin 1) r l) = gated wg wu h (ix3 (grid0.coords t 0 : Fin 8) i l) := by
  have sw (w : FVec Ideal S8x2048x704 .bf16) : proj w h (ix3 (grid0.coords t 0 : Fin 8) i l)
      = ∑ k : Fin 2048, (w (ix3 (grid0.coords t 0 : Fin 8) k l) : EReal) * h (ix2 i k) :=
    (proj_at w h _).trans (Finset.sum_congr rfl fun _ _ => mul_comm _ _)
  pointwise [k0_pay1, k0_pay7, gated]
  rw [gate_at m c h wg h0 h1 t r l i hi, up_at m c h wu h0 h2 t r l i hi, zero_sub, sw wg, sw wu]

end tile

/-- The token's place in the whole array. -/
def place (c : Dev nD) (i : Fin 8192) : Fin 65536 := ⟨c.val * 8192 + i.val, by have h8 : c.val < 8 := c.isLt; have := i.isLt; omega⟩

/-- A device's part of an array cut along its tokens. -/
theorem part_at (v : FVec Ideal Cert.FfnUpReferenceIdeal.S8x65536x704 .bf16) (y : S8x8192x704.Idx) :
    Layout.block ⟨3, ![8, 8192, 704]⟩ ⟨3, ![8, 65536, 704]⟩ 1 8 c v (by decide) y = v (ix3 (y 0) (place c (y 1)) (y 2)) := by
  show v _ = v _
  congr 1
  funext a
  apply Fin.ext
  match a with
  | ⟨0, _⟩ => rfl
  | ⟨1, _⟩ => rfl
  | ⟨2, _⟩ => rfl

section arrays

variable (h0 : m ((c.tc : Thread nD τ).loc main_arg0) = Layout.block ⟨2, ![8192, 2048]⟩ ⟨2, ![65536, 2048]⟩ 0 8 c h)
  (h1 : m ((c.tc : Thread nD τ).loc main_arg1) = wg) (h2 : m ((c.tc : Thread nD τ).loc main_arg2) = wu)

include h0 h1 in
set_option maxRecDepth 20000 in
theorem gate_array : (dats m 0 c).arrAt 3 cfg0.N = Layout.block ⟨3, ![8, 8192, 704]⟩ ⟨3, ![8, 65536, 704]⟩ 1 8 c (projected wg h) := by
  refine (dats m 0 c).arrAt_eq_of_covers 3 _ (by decide +kernel) fun t hf y => ?_
  blk_simp
  show k0_pay5 (iblk m c 0 t) (iblk m c 1 t) y = _
  obtain ⟨r, l, rfl⟩ : ∃ (r : Fin 1024) (l : Fin 704), y = ix3 (0 : Fin 1) r l :=
    ⟨y 1, y 2, by funext a; match a with | ⟨0, _⟩ => exact Fin.ext (Nat.lt_one_iff.mp (y 0).isLt) | ⟨1, _⟩ => rfl | ⟨2, _⟩ => rfl⟩
  have e0 : ((win0_3.blk t).view.emb (ix3 (0 : Fin 1) r l) 0 : Fin 8) = grid0.coords t 0 := by
    apply Fin.ext; blk_simp [idx3]; exact Nat.add_zero _
  have e1 : ((win0_3.blk t).view.emb (ix3 (0 : Fin 1) r l) 1 : Fin 8192).val = (grid0.coords t 1).val * 1024 + r.val := by
    blk_simp [idx3]
  have e2 : ((win0_3.blk t).view.emb (ix3 (0 : Fin 1) r l) 2 : Fin 704) = l := by
    apply Fin.ext; blk_simp [idx3]
  refine Eq.trans ?_ (part_at c _ ((win0_3.blk t).view.emb (ix3 (0 : Fin 1) r l))).symm
  refine Eq.trans ?_ (congrArg₂ (fun p q => (projected wg h) (ix3 p (place c ((win0_3.blk t).view.emb (ix3 (0 : Fin 1) r l) 1)) q)) e0.symm e2.symm)
  exact gate_rounded m c h wg h0 h1 t r l _ (congrArg (c.val * 8192 + ·) e1)

include h0 h2 in
set_option maxRecDepth 20000 in
theorem up_array : (dats m 0 c).arrAt 4 cfg0.N = Layout.block ⟨3, ![8, 8192, 704]⟩ ⟨3, ![8, 65536, 704]⟩ 1 8 c (projected wu h) := by
  refine (dats m 0 c).arrAt_eq_of_covers 4 _ (by decide +kernel) fun t hf y => ?_
  blk_simp
  show k0_pay6 (iblk m c 0 t) (iblk m c 2 t) y = _
  obtain ⟨r, l, rfl⟩ : ∃ (r : Fin 1024) (l : Fin 704), y = ix3 (0 : Fin 1) r l :=
    ⟨y 1, y 2, by funext a; match a with | ⟨0, _⟩ => exact Fin.ext (Nat.lt_one_iff.mp (y 0).isLt) | ⟨1, _⟩ => rfl | ⟨2, _⟩ => rfl⟩
  have e0 : ((win0_4.blk t).view.emb (ix3 (0 : Fin 1) r l) 0 : Fin 8) = grid0.coords t 0 := by
    apply Fin.ext; blk_simp [idx4]; exact Nat.add_zero _
  have e1 : ((win0_4.blk t).view.emb (ix3 (0 : Fin 1) r l) 1 : Fin 8192).val = (grid0.coords t 1).val * 1024 + r.val := by
    blk_simp [idx4]
  have e2 : ((win0_4.blk t).view.emb (ix3 (0 : Fin 1) r l) 2 : Fin 704) = l := by
    apply Fin.ext; blk_simp [idx4]
  refine Eq.trans ?_ (part_at c _ ((win0_4.blk t).view.emb (ix3 (0 : Fin 1) r l))).symm
  refine Eq.trans ?_ (congrArg₂ (fun p q => (projected wu h) (ix3 p (place c ((win0_4.blk t).view.emb (ix3 (0 : Fin 1) r l) 1)) q)) e0.symm e2.symm)
  exact up_rounded m c h wu h0 h2 t r l _ (congrArg (c.val * 8192 + ·) e1)

include h0 h1 h2 in
set_option maxRecDepth 20000 in
theorem gated_array : (dats m 0 c).arrAt 5 cfg0.N = Layout.block ⟨3, ![8, 8192, 704]⟩ ⟨3, ![8, 65536, 704]⟩ 1 8 c (gated wg wu h) := by
  refine (dats m 0 c).arrAt_eq_of_covers 5 _ (by decide +kernel) fun t hf y => ?_
  blk_simp
  show k0_pay1 (k0_pay3 (iblk m c 0 t) (iblk m c 1 t)) (k0_pay4 (iblk m c 0 t) (iblk m c 2 t)) (k0_pay7 (iblk m c 0 t) (iblk m c 1 t)) y = _
  obtain ⟨r, l, rfl⟩ : ∃ (r : Fin 1024) (l : Fin 704), y = ix3 (0 : Fin 1) r l :=
    ⟨y 1, y 2, by funext a; match a with | ⟨0, _⟩ => exact Fin.ext (Nat.lt_one_iff.mp (y 0).isLt) | ⟨1, _⟩ => rfl | ⟨2, _⟩ => rfl⟩
  have e0 : ((win0_5.blk t).view.emb (ix3 (0 : Fin 1) r l) 0 : Fin 8) = grid0.coords t 0 := by
    apply Fin.ext; blk_simp [idx5]; exact Nat.add_zero _
  have e1 : ((win0_5.blk t).view.emb (ix3 (0 : Fin 1) r l) 1 : Fin 8192).val = (grid0.coords t 1).val * 1024 + r.val := by
    blk_simp [idx5]
  have e2 : ((win0_5.blk t).view.emb (ix3 (0 : Fin 1) r l) 2 : Fin 704) = l := by
    apply Fin.ext; blk_simp [idx5]
  refine Eq.trans ?_ (part_at c _ ((win0_5.blk t).view.emb (ix3 (0 : Fin 1) r l))).symm
  refine Eq.trans ?_ (congrArg₂ (fun p q => (gated wg wu h) (ix3 p (place c ((win0_5.blk t).view.emb (ix3 (0 : Fin 1) r l) 1)) q)) e0.symm e2.symm)
  exact gated_at m c h wg wu h0 h1 h2 t r l _ (congrArg (c.val * 8192 + ·) e1)

end arrays

section exchanged

variable {F : FTy → Type} [FloatOps F]

/-- Block `j` of the exchanged weight, at row `r` and column `l`. -/
theorem read_blk (f : S8x704x2048.Idx → Elt F .bf16) (j : Fin 8) (r : Fin 704) (l : Fin 2048) :
    (blk j).view.read (Elt F) (f : (Memref.whole main_v1_3).view.ty.Contents (Elt F)) (ix2 r l) = f (ix3 j r l) := by
  rw [Memref.read_squeeze_slice (Memref.whole main_v1_3) (Rect.unit (s := S8x704x2048) ![j.val, 0, 0] S1x704x2048.size (inb j)) (fun _ => rfl)
    squeezes_S1x704x2048_S704x2048 squeezes_S1x704x2048_S704x2048.numel_eq]
  refine (ValueIdx.shapeCast_1ab_ab_apply (a := 704) (b := 2048) _ _ r l).trans ?_
  show f _ = f _
  congr 1
  funext a
  apply Fin.ext
  match a with
  | ⟨0, _⟩ => show j.val + 1 * 0 = j.val; omega
  | ⟨1, _⟩ => show 0 + 1 * r.val = r.val; omega
  | ⟨2, _⟩ => show 0 + 1 * l.val = l.val; omega

set_option maxRecDepth 20000 in
/-- The exchanged weight a device holds at the end is the whole weight's rows cut into eight blocks. -/
theorem exchanged (m : (ℓ : Loc nD τ sig) → Buf (Elt F) ℓ) (w : Cert.FfnUpReferenceIdeal.S5632x2048.Idx → Elt F .bf16)
    (hm : ∀ c : Dev nD, m ((c.tc : Thread nD τ).loc main_arg3) = Layout.block ⟨2, ![704, 2048]⟩ ⟨2, ![5632, 2048]⟩ 0 8 c w)
    (hc : Cert.FfnUpReferenceIdeal.S5632x2048.ShapeCasts S8x704x2048)
    (c : Dev nD) (s : MemSt nD τ sig (Elt F)) (hs : Ends m c s) :
    s.mem ((c.tc : Thread nD τ).loc main_v1_3) = shapeCast S8x704x2048 w hc := by
  funext i
  obtain ⟨j, r, l, rfl⟩ : ∃ (j : Fin 8) (r : Fin 704) (l : Fin 2048), i = ix3 j r l :=
    ⟨i 0, i 1, i 2, by funext a; match a with | ⟨0, _⟩ => rfl | ⟨1, _⟩ => rfl | ⟨2, _⟩ => rfl⟩
  refine (read_blk _ j r l).symm.trans ?_
  rw [hs.1 j]
  refine (congrFun (hm j) (ix2 r l)).trans ?_
  refine Eq.trans ?_ (shapeCast_apply w hc _ (ix2 (⟨j.val * 704 + r.val, by omega⟩ : Fin 5632) l) ?_).symm
  · show w _ = w _
    congr 1
    funext a
    match a with
    | ⟨0, _⟩ => rfl
    | ⟨1, _⟩ => rfl
  · rw [Shape.rowMajor_val_three, Shape.rowMajor_val_two]
    show (j.val * 704 + r.val) * 2048 + l.val = (j.val * 704 + r.val) * 2048 + l.val
    rfl

end exchanged

end FfnUp

end
-- ==== Proof.BwdInRun.lean ====
/-
  One device's run of the up- and gate-projections' backward product with the exchange of the gate weight's gradient.
-/
module

public import proofs.«01_k».proof.Proof.Blocks
public import proofs.«01_k».proof.Proof.Gen.BwdInIdeal.Frame
public import proofs.«01_k».proof.Proof.Gen.BwdInIdeal.Skeleton

@[expose] public section

set_option Elab.async false

noncomputable section

namespace BwdIn

open Idealize.ShloMosaic
open Idealize.ShloMosaic.TcCoe
open Idealize.ShloMosaic.Rounds
open Idealize.SL Idealize.SL.RA Idealize.SL.BI
open scoped Idealize.SL.BI
open Idealize.SL.BI.BIBase Idealize.SL.BI.Laws Idealize.SL.ProofMode Idealize.SL.Sem
open Cert.BwdInIdeal Cert.BwdInIdeal.Gen
open Exchange

variable {F : FTy → Type} [FloatOps F]

/-- The ghost state: the regions' own rounds beside the exchange's. -/
abbrev UU : Type := UR sig nD τ × UR sig nD τ
abbrev M (F : FTy → Type) : Type := MT nD τ sig Unit (Elt F) ℕ UU ℕ

/-- The part of the ghost state the exchange uses, and the regions' part. -/
abbrev ER : Emb (URounds (GSem nD τ sig) Unit) (M F) := embR
abbrev EP : Emb (URounds (GSem nD τ sig) Unit) (M F) := embL

abbrev 𝒱₀ : Variants := Variants.none

/-- The semaphores: seven sends, seven receives, one local copy. -/
def sem : Fin 15 → SemLoc sig := fun k => .dma (⟨10 + k.val, by omega⟩ : Fin 25)
theorem sem_inj : Function.Injective sem := fun a b h => Fin.ext (by
  have := congrArg Fin.val (SemLoc.dma.inj h)
  simp only at this
  omega)

theorem inb (j : Fin 8) : ∀ a, (![j.val, 0, 0] : Fin 3 → ℕ) a + S1x2048x704.size a ≤ S8x2048x704.size a := by
  revert j; decide

/-- Block `j` of an array of eight. -/
abbrev rect (j : Fin 8) : Rect S8x2048x704 := Rect.unit (s := S8x2048x704) ![j.val, 0, 0] S1x2048x704.size (inb j)

theorem rect_disjoint (j j' : Fin 8) (h : j ≠ j') : Disjoint (rect j).set (rect j').set :=
  Ring.lead_disjoint (s := S8x2048x704) (NB := 8) 0 1 (fun j => ![j.val, 0, 0]) S1x2048x704.size inb (fun b => (Nat.one_mul _).symm) rfl j j' h

theorem rect_cover : Finset.univ.biUnion (fun j => (rect j).set) = Finset.univ :=
  Ring.lead_cover (s := S8x2048x704) (NB := 8) 0 1 (fun j => ![j.val, 0, 0]) S1x2048x704.size inb (fun b => (Nat.one_mul _).symm)
    (by intro b a h; fin_cases a <;> first | exact absurd rfl h | rfl) rfl (by intro a h; fin_cases a <;> first | exact absurd rfl h | rfl) rfl

/-- Block `j` of the exchanged result. -/
abbrev blk (j : Fin 8) : Memref sig .tc .hbm S2048x704 .bf16 :=
  ((Memref.whole main_v1_1).slice (rect j) (fun _ => rfl)).squeeze S2048x704 squeezes_S1x2048x704_S2048x704

theorem blk_of {off : Fin 3 → ℕ} (h : ∀ a, off a + S1x2048x704.size a ≤ S8x2048x704.size a) (j : Fin 8) (e : off = ![j.val, 0, 0]) :
    ((Memref.whole main_v1_1).slice (Rect.unit (s := S8x2048x704) off S1x2048x704.size h) (fun _ => rfl)).squeeze S2048x704 squeezes_S1x2048x704_S2048x704 = blk j := by
  subst e; rfl

/-- Block `j` of the argument to exchange. -/
abbrev ablk (j : Fin 8) : Memref sig .tc .hbm S2048x704 .bf16 :=
  ((Memref.whole main_arg4).slice (rect j) (fun _ => rfl)).squeeze S2048x704 squeezes_S1x2048x704_S2048x704

theorem ablk_of {off : Fin 3 → ℕ} (h : ∀ a, off a + S1x2048x704.size a ≤ S8x2048x704.size a) (j : Fin 8) (e : off = ![j.val, 0, 0]) :
    ((Memref.whole main_arg4).slice (Rect.unit (s := S8x2048x704) off S1x2048x704.size h) (fun _ => rfl)).squeeze S2048x704 squeezes_S1x2048x704_S2048x704 = ablk j := by
  subst e; rfl

/-- What a device sends over each distance: the block of the device it goes to. -/
abbrev src (c : Dev nD) (k : Fin 8) : Memref sig .tc .hbm S2048x704 .bf16 := ablk (peer k c)
/-- Each copy has its block to itself. -/
abbrev qs (_ : Fin 8) : PosShare TreeShare := fullShare

/-- The units one block's transfer credits. -/
abbrev units : ℕ := (blk 0).view.dmaCredit
theorem units_pos : 0 < units := by decide
theorem credit {sp : Space} (b : Memref sig .tc sp S2048x704 .bf16) : b.view.dmaCredit = units := rfl

abbrev fm : Family 8 sig (Fin 15) := Direct.fam sem sem_inj units units_pos

/-- The argument of the exchange on a device, as each copy finds it. -/
abbrev args (A : ∀ c : Dev nD, Buf (Elt F) ((c.tc : Thread nD τ).loc main_arg4)) (c : Dev nD) (k : Fin 8) :
    Buf (Elt F) ((src c k).view.loc (c.tc : Thread nD τ)) := A c

theorem own_off (c : Dev nD) : k0_off1 c = ![c.val, 0, 0] := by revert c; decide
theorem own_off' (c : Dev nD) : k0_off4 c = ![c.val, 0, 0] := by revert c; decide
theorem send_off1 (c : Dev nD) : k0_off2 c 0#32 0#32 1#32 = ![(peer 1 c).val, 0, 0] := by revert c; decide
theorem send_off2 (c : Dev nD) : k0_off2 c 0#32 1#32 0#32 = ![(peer 2 c).val, 0, 0] := by revert c; decide
theorem send_off3 (c : Dev nD) : k0_off2 c 0#32 1#32 1#32 = ![(peer 3 c).val, 0, 0] := by revert c; decide
theorem send_off4 (c : Dev nD) : k0_off2 c 1#32 0#32 0#32 = ![(peer 4 c).val, 0, 0] := by revert c; decide
theorem send_off5 (c : Dev nD) : k0_off2 c 1#32 0#32 1#32 = ![(peer 5 c).val, 0, 0] := by revert c; decide
theorem send_off6 (c : Dev nD) : k0_off2 c 1#32 1#32 0#32 = ![(peer 6 c).val, 0, 0] := by revert c; decide
theorem send_off7 (c : Dev nD) : k0_off2 c 1#32 1#32 1#32 = ![(peer 7 c).val, 0, 0] := by revert c; decide
theorem dev1 (c : Dev nD) (h : k0_dev1 c < nD) : (⟨k0_dev1 c, h⟩ : Dev nD) = peer 1 c := by revert c; decide
theorem dev2 (c : Dev nD) (h : k0_dev2 c < nD) : (⟨k0_dev2 c, h⟩ : Dev nD) = peer 2 c := by revert c; decide
theorem dev3 (c : Dev nD) (h : k0_dev3 c < nD) : (⟨k0_dev3 c, h⟩ : Dev nD) = peer 3 c := by revert c; decide
theorem dev4 (c : Dev nD) (h : k0_dev4 c < nD) : (⟨k0_dev4 c, h⟩ : Dev nD) = peer 4 c := by revert c; decide
theorem dev5 (c : Dev nD) (h : k0_dev5 c < nD) : (⟨k0_dev5 c, h⟩ : Dev nD) = peer 5 c := by revert c; decide
theorem dev6 (c : Dev nD) (h : k0_dev6 c < nD) : (⟨k0_dev6 c, h⟩ : Dev nD) = peer 6 c := by revert c; decide
theorem dev7 (c : Dev nD) (h : k0_dev7 c < nD) : (⟨k0_dev7 c, h⟩ : Dev nD) = peer 7 c := by revert c; decide

theorem pure_bind' {α β : Type} (a : α) (k : α → Prog (TpuEff nD τ sig (Elt F) Λ₀ .tc) β) :
    (pure a : Prog (TpuEff nD τ sig (Elt F) Λ₀ .tc) α) >>= k = k a := Prog.bind_ret a k
theorem pure_ret {α : Type} (a : α) : (pure a : Prog (TpuEff nD τ sig (Elt F) Λ₀ .tc) α) = .ret a := rfl

section Run

variable (A : ∀ c : Dev nD, Buf (Elt F) ((c.tc : Thread nD τ).loc main_arg4))

/-- A device's part of the exchange when a grid point begins: all to start at the first, all under way after it. -/
def entry (i : grid0.Coords) (c : Dev nD) : sProp (M F) :=
  if k0_cond1 i = 1#1 then iprop((∃ κ, Direct.before sem sem_inj units units_pos ER src qs (args A) blk κ c) ∗ ∃ W, owes (c.tc : Thread nD τ) (debt fm Direct.recvs c) W)
  else iprop(Direct.flying sem sem_inj units units_pos ER src qs (args A) blk c ∗ ∃ W, owes (c.tc : Thread nD τ) 0 W)

/-- And when it ends: all under way, and after the last all done. -/
def depart (i : grid0.Coords) (c : Dev nD) : sProp (M F) :=
  if k0_cond4 i = 1#1 then iprop(Direct.after sem src qs (args A) blk c ∗ ∃ W, owes (c.tc : Thread nD τ) 0 W)
  else iprop(Direct.flying sem sem_inj units units_pos ER src qs (args A) blk c ∗ ∃ W, owes (c.tc : Thread nD τ) 0 W)

set_option maxHeartbeats 4000000 in
set_option maxRecDepth 65536 in
/-- One grid point: the exchange's part of it, and the tile of the result started at the first block of features and added
    to at the others. -/
theorem run_body (i : grid0.Coords) (c : Dev nD) (h12 : k0_cond1 i = 1#1 → k0_cond2 i = 1#1) (h23 : k0_cond3 i = 1#1 ↔ ¬ k0_cond2 i = 1#1)
    (h42 : k0_cond4 i = 1#1 → ¬ k0_cond2 i = 1#1)
    (arg2 : Memref sig .tc .vmem S1x1024x704 .bf16) (harg2 : arg2.IsWhole) (arg3 : Memref sig .tc .vmem S1x1024x704 .bf16) (harg3 : arg3.IsWhole) (arg4 : Memref sig .tc .vmem S1x2048x704 .bf16) (harg4 : arg4.IsWhole) (arg5 : Memref sig .tc .vmem S1x2048x704 .bf16) (harg5 : arg5.IsWhole) (arg7 : Memref sig .tc .vmem S1024x2048 .f32) (harg7 : arg7.IsWhole)
    (x2 : Vec F S1x1024x704 .bf16) (x3 : Vec F S1x1024x704 .bf16) (x4 : Vec F S1x2048x704 .bf16) (x5 : Vec F S1x2048x704 .bf16) (x7 : Vec F S1024x2048 .f32) (Kt : PUnit → sProp (M F)) :
    iprop(entry A i c ∗ owns (c.tc : Thread nD τ) arg2 fullShare x2 ∗ owns (c.tc : Thread nD τ) arg3 fullShare x3 ∗ owns (c.tc : Thread nD τ) arg4 fullShare x4 ∗ owns (c.tc : Thread nD τ) arg5 fullShare x5 ∗ owns (c.tc : Thread nD τ) arg7 fullShare x7
        ∗ ((depart A i c ∗ owns (c.tc : Thread nD τ) arg2 fullShare x2 ∗ owns (c.tc : Thread nD τ) arg3 fullShare x3 ∗ owns (c.tc : Thread nD τ) arg4 fullShare x4 ∗ owns (c.tc : Thread nD τ) arg5 fullShare x5 ∗ owns (c.tc : Thread nD τ) arg7 fullShare (if k0_cond2 i = 1#1 then k0_pay1 x2 x4 x3 x5 else k0_pay2 x2 x4 x3 x5 x7)) -∗ Kt ⟨⟩))
      ⊢ wp frame (wpE (defs₀ (F := F)) 𝒱₀ (c.tc : Thread nD τ) none) Set.univ
    (cc0_ffn_bwd_in (F := F) i arg2 harg2 arg3 harg3 arg4 harg4 arg5 harg5 (Memref.whole main_arg4) (Memref.isWhole_whole _) arg7 harg7
      (Memref.whole main_v1_1) (Memref.isWhole_whole _) cc0_scratch0 cc0_scratch1 cc0_scratch2) Kt := by
  unfold entry
  by_cases h2 : k0_cond2 i = 1#1
  · have h3 : ¬ k0_cond3 i = 1#1 := fun h => h23.mp h h2
    have h4 : ¬ k0_cond4 i = 1#1 := fun h => h42 h h2
    by_cases h1 : k0_cond1 i = 1#1
    · rw [if_pos h1]
      simp only [cc0_ffn_bwd_in_eq_skeleton, cc0_ffn_bwd_in_skel, ↓dif_pos h1, ↓dif_pos h2, ↓dif_neg h3, ↓dif_neg h4, k0_part1_eq_skeleton, k0_part1_skel, k0_part2_eq_skeleton, k0_part2_skel, k0_part3_eq_skeleton, k0_part3_skel, k0_part4_eq_skeleton, k0_part4_skel, k0_part5_eq_skeleton, k0_part5_skel, k0_part6_eq_skeleton, k0_part6_skel, Prog.bind_lift, Prog.bind_op, Prog.bind_ret, Prog.bind_assoc, wp_deviceId, pure_bind', pure_ret]
      iintro ⟨He, H2, H3, H4, H5, H7, Hk⟩
      icases He with ⟨⟨%κ, Hb⟩, ⟨%W, HO⟩⟩
      unfold Direct.before
      icases Hb with ⟨#HK, Hp, Hd, Hown, Hc⟩
      iapply (Direct.keep sem sem_inj units units_pos ER src qs (args A) blk (defs₀ (F := F)) 𝒱₀ none c ((ablk_of _ _ (own_off c)).trans (congrArg ablk (peer_zero c).symm)) (blk_of _ _ (own_off c)) rfl rfl) $$ [Hown]
      · isplitr; · iexact HK
        iexact Hown
      iintro C14
      ihave HS := (Direct.sending_intro sem sem_inj units units_pos ER src qs (args A) blk c W) $$ [Hd HO]
      · isplitl [Hd] <;> iassumption
      iapply (Direct.post sem sem_inj units units_pos ER src qs (args A) blk (defs₀ (F := F)) 𝒱₀ none c 0 Finset.univ (by decide) (ablk_of _ _ (send_off1 c)) (blk_of _ _ (own_off c)) (dev1 c _) rfl rfl rfl) $$ [HS]
      · isplitr; · iexact HK
        iexact HS
      iintro HS
      iapply (Direct.post sem sem_inj units units_pos ER src qs (args A) blk (defs₀ (F := F)) 𝒱₀ none c 1 (Finset.univ.erase 0) (by decide) (ablk_of _ _ (send_off2 c)) (blk_of _ _ (own_off c)) (dev2 c _) rfl rfl rfl) $$ [HS]
      · isplitr; · iexact HK
        iexact HS
      iintro HS
      iapply (Direct.post sem sem_inj units units_pos ER src qs (args A) blk (defs₀ (F := F)) 𝒱₀ none c 2 ((Finset.univ.erase 0).erase 1) (by decide) (ablk_of _ _ (send_off3 c)) (blk_of _ _ (own_off c)) (dev3 c _) rfl rfl rfl) $$ [HS]
      · isplitr; · iexact HK
        iexact HS
      iintro HS
      iapply (Direct.post sem sem_inj units units_pos ER src qs (args A) blk (defs₀ (F := F)) 𝒱₀ none c 3 (((Finset.univ.erase 0).erase 1).erase 2) (by decide) (ablk_of _ _ (send_off4 c)) (blk_of _ _ (own_off c)) (dev4 c _) rfl rfl rfl) $$ [HS]
      · isplitr; · iexact HK
        iexact HS
      iintro HS
      iapply (Direct.post sem sem_inj units units_pos ER src qs (args A) blk (defs₀ (F := F)) 𝒱₀ none c 4 ((((Finset.univ.erase 0).erase 1).erase 2).erase 3) (by decide) (ablk_of _ _ (send_off5 c)) (blk_of _ _ (own_off c)) (dev5 c _) rfl rfl rfl) $$ [HS]
      · isplitr; · iexact HK
        iexact HS
      iintro HS
      iapply (Direct.post sem sem_inj units units_pos ER src qs (args A) blk (defs₀ (F := F)) 𝒱₀ none c 5 (((((Finset.univ.erase 0).erase 1).erase 2).erase 3).erase 4) (by decide) (ablk_of _ _ (send_off6 c)) (blk_of _ _ (own_off c)) (dev6 c _) rfl rfl rfl) $$ [HS]
      · isplitr; · iexact HK
        iexact HS
      iintro HS
      iapply (Direct.post sem sem_inj units units_pos ER src qs (args A) blk (defs₀ (F := F)) 𝒱₀ none c 6 ((((((Finset.univ.erase 0).erase 1).erase 2).erase 3).erase 4).erase 5) (by decide) (ablk_of _ _ (send_off7 c)) (blk_of _ _ (own_off c)) (dev7 c _) rfl rfl rfl) $$ [HS]
      · isplitr; · iexact HK
        iexact HS
      iintro HS
      rw [show (((((((Finset.univ.erase 0).erase 1).erase 2).erase 3).erase 4).erase 5).erase 6) = (∅ : Finset (Fin 7)) from by decide]
      ihave H := (Direct.flying_intro sem sem_inj units units_pos ER src qs (args A) blk c W) $$ [Hp Hc C14 HS]
      · isplitr; · iexact HK
        isplitl [Hp]; · iexact Hp
        isplitl [Hc]; · iexact Hc
        isplitl [C14]; · iexact C14
        iexact HS
      ihave He := (show _ ⊢ (iprop(Direct.flying sem sem_inj units units_pos ER src qs (args A) blk c ∗ ∃ W, owes (c.tc : Thread nD τ) 0 W) : sProp (M F)) from sep_mono_right (exists_intro W)) $$ H
      iapply (load_whole (defs₀ (F := F)) 𝒱₀ none c arg2 fullShare x2) $$ H2
      iintro H2
      iapply (load_whole (defs₀ (F := F)) 𝒱₀ none c arg4 fullShare x4) $$ H4
      iintro H4
      iapply (load_whole (defs₀ (F := F)) 𝒱₀ none c arg3 fullShare x3) $$ H3
      iintro H3
      iapply (load_whole (defs₀ (F := F)) 𝒱₀ none c arg5 fullShare x5) $$ H5
      iintro H5
      iapply (load_whole (defs₀ (F := F)) 𝒱₀ none c arg7 fullShare x7) $$ H7
      iintro H7
      iapply (store_whole (defs₀ (F := F)) 𝒱₀ none c arg7 x7 (k0_pay1 x2 x4 x3 x5)) $$ H7
      iintro H7
      rw [wp_ret]
      imodintro
      unfold depart
      rw [if_neg h4]
      iapply Hk
      isplitl [He]; · iexact He
      isplitl [H2]; · iexact H2
      isplitl [H3]; · iexact H3
      isplitl [H4]; · iexact H4
      isplitl [H5]; · iexact H5
      rw [if_pos h2]
      iexact H7
    · rw [if_neg h1]
      simp only [cc0_ffn_bwd_in_eq_skeleton, cc0_ffn_bwd_in_skel, ↓dif_neg h1, ↓dif_pos h2, ↓dif_neg h3, ↓dif_neg h4, Prog.bind_lift, Prog.bind_op, Prog.bind_ret, Prog.bind_assoc, wp_deviceId, pure_bind', pure_ret]
      iintro ⟨He, H2, H3, H4, H5, H7, Hk⟩
      iapply (load_whole (defs₀ (F := F)) 𝒱₀ none c arg2 fullShare x2) $$ H2
      iintro H2
      iapply (load_whole (defs₀ (F := F)) 𝒱₀ none c arg4 fullShare x4) $$ H4
      iintro H4
      iapply (load_whole (defs₀ (F := F)) 𝒱₀ none c arg3 fullShare x3) $$ H3
      iintro H3
      iapply (load_whole (defs₀ (F := F)) 𝒱₀ none c arg5 fullShare x5) $$ H5
      iintro H5
      iapply (load_whole (defs₀ (F := F)) 𝒱₀ none c arg7 fullShare x7) $$ H7
      iintro H7
      iapply (store_whole (defs₀ (F := F)) 𝒱₀ none c arg7 x7 (k0_pay1 x2 x4 x3 x5)) $$ H7
      iintro H7
      rw [wp_ret]
      imodintro
      unfold depart
      rw [if_neg h4]
      iapply Hk
      isplitl [He]; · iexact He
      isplitl [H2]; · iexact H2
      isplitl [H3]; · iexact H3
      isplitl [H4]; · iexact H4
      isplitl [H5]; · iexact H5
      rw [if_pos h2]
      iexact H7
  · have h3 : k0_cond3 i = 1#1 := h23.mpr h2
    have h1 : ¬ k0_cond1 i = 1#1 := fun h => h2 (h12 h)
    rw [if_neg h1]
    by_cases h4 : k0_cond4 i = 1#1
    · simp only [cc0_ffn_bwd_in_eq_skeleton, cc0_ffn_bwd_in_skel, ↓dif_neg h1, ↓dif_neg h2, ↓dif_pos h3, ↓dif_pos h4, k0_part7_eq_skeleton, k0_part7_skel, k0_part8_eq_skeleton, k0_part8_skel, k0_part9_eq_skeleton, k0_part9_skel, k0_part10_eq_skeleton, k0_part10_skel, k0_part11_eq_skeleton, k0_part11_skel, k0_part12_eq_skeleton, k0_part12_skel, k0_part13_eq_skeleton, k0_part13_skel, k0_part14_eq_skeleton, k0_part14_skel, k0_part15_eq_skeleton, k0_part15_skel, k0_part16_eq_skeleton, k0_part16_skel, k0_part17_eq_skeleton, k0_part17_skel, Prog.bind_lift, Prog.bind_op, Prog.bind_ret, Prog.bind_assoc, wp_deviceId, pure_bind', pure_ret]
      iintro ⟨He, H2, H3, H4, H5, H7, Hk⟩
      iapply (load_whole (defs₀ (F := F)) 𝒱₀ none c arg2 fullShare x2) $$ H2
      iintro H2
      iapply (load_whole (defs₀ (F := F)) 𝒱₀ none c arg4 fullShare x4) $$ H4
      iintro H4
      iapply (load_whole (defs₀ (F := F)) 𝒱₀ none c arg3 fullShare x3) $$ H3
      iintro H3
      iapply (load_whole (defs₀ (F := F)) 𝒱₀ none c arg5 fullShare x5) $$ H5
      iintro H5
      iapply (load_whole (defs₀ (F := F)) 𝒱₀ none c arg7 fullShare x7) $$ H7
      iintro H7
      iapply (load_whole (defs₀ (F := F)) 𝒱₀ none c arg7 fullShare x7) $$ H7
      iintro H7
      iapply (store_whole (defs₀ (F := F)) 𝒱₀ none c arg7 x7 (k0_pay2 x2 x4 x3 x5 x7)) $$ H7
      iintro H7
      iapply (wp_wand frame (wpE (defs₀ (F := F)) 𝒱₀ (c.tc : Thread nD τ) none) Set.univ (Q := fun _ => depart A i c)) $$ [He]
      · unfold depart
        rw [if_pos h4]
        simp only [wp_deviceId]
        irevert He
        unfold Direct.flying
        iintro ⟨⟨⟨%κ, #HK⟩, Ho⟩, HO⟩
        ihave HL := (Direct.landing_intro sem sem_inj units units_pos ER src qs (args A) blk c) $$ [Ho HO]
        · isplitl [Ho] <;> iassumption
        iapply (Direct.wait sem sem_inj units units_pos ER src qs (args A) blk (defs₀ (F := F)) 𝒱₀ none c 7 Finset.univ (by decide) rfl (credit _)) $$ [HL]
        · isplitr; · iexact HK
          iexact HL
        iintro HL
        iapply (Direct.wait sem sem_inj units units_pos ER src qs (args A) blk (defs₀ (F := F)) 𝒱₀ none c 8 (Finset.univ.erase 7) (by decide) rfl (credit _)) $$ [HL]
        · isplitr; · iexact HK
          iexact HL
        iintro HL
        iapply (Direct.wait sem sem_inj units units_pos ER src qs (args A) blk (defs₀ (F := F)) 𝒱₀ none c 9 ((Finset.univ.erase 7).erase 8) (by decide) rfl (credit _)) $$ [HL]
        · isplitr; · iexact HK
          iexact HL
        iintro HL
        iapply (Direct.wait sem sem_inj units units_pos ER src qs (args A) blk (defs₀ (F := F)) 𝒱₀ none c 10 (((Finset.univ.erase 7).erase 8).erase 9) (by decide) rfl (credit _)) $$ [HL]
        · isplitr; · iexact HK
          iexact HL
        iintro HL
        iapply (Direct.wait sem sem_inj units units_pos ER src qs (args A) blk (defs₀ (F := F)) 𝒱₀ none c 11 ((((Finset.univ.erase 7).erase 8).erase 9).erase 10) (by decide) rfl (credit _)) $$ [HL]
        · isplitr; · iexact HK
          iexact HL
        iintro HL
        iapply (Direct.wait sem sem_inj units units_pos ER src qs (args A) blk (defs₀ (F := F)) 𝒱₀ none c 12 (((((Finset.univ.erase 7).erase 8).erase 9).erase 10).erase 11) (by decide) rfl (credit _)) $$ [HL]
        · isplitr; · iexact HK
          iexact HL
        iintro HL
        iapply (Direct.wait sem sem_inj units units_pos ER src qs (args A) blk (defs₀ (F := F)) 𝒱₀ none c 13 ((((((Finset.univ.erase 7).erase 8).erase 9).erase 10).erase 11).erase 12) (by decide) rfl (credit _)) $$ [HL]
        · isplitr; · iexact HK
          iexact HL
        iintro HL
        iapply (Direct.wait sem sem_inj units units_pos ER src qs (args A) blk (defs₀ (F := F)) 𝒱₀ none c 0 (((((((Finset.univ.erase 7).erase 8).erase 9).erase 10).erase 11).erase 12).erase 13) (by decide) rfl (credit _)) $$ [HL]
        · isplitr; · iexact HK
          iexact HL
        iintro HL
        iapply (Direct.wait sem sem_inj units units_pos ER src qs (args A) blk (defs₀ (F := F)) 𝒱₀ none c 1 ((((((((Finset.univ.erase 7).erase 8).erase 9).erase 10).erase 11).erase 12).erase 13).erase 0) (by decide) rfl (credit _)) $$ [HL]
        · isplitr; · iexact HK
          iexact HL
        iintro HL
        iapply (Direct.wait sem sem_inj units units_pos ER src qs (args A) blk (defs₀ (F := F)) 𝒱₀ none c 2 (((((((((Finset.univ.erase 7).erase 8).erase 9).erase 10).erase 11).erase 12).erase 13).erase 0).erase 1) (by decide) rfl (credit _)) $$ [HL]
        · isplitr; · iexact HK
          iexact HL
        iintro HL
        iapply (Direct.wait sem sem_inj units units_pos ER src qs (args A) blk (defs₀ (F := F)) 𝒱₀ none c 3 ((((((((((Finset.univ.erase 7).erase 8).erase 9).erase 10).erase 11).erase 12).erase 13).erase 0).erase 1).erase 2) (by decide) rfl (credit _)) $$ [HL]
        · isplitr; · iexact HK
          iexact HL
        iintro HL
        iapply (Direct.wait sem sem_inj units units_pos ER src qs (args A) blk (defs₀ (F := F)) 𝒱₀ none c 4 (((((((((((Finset.univ.erase 7).erase 8).erase 9).erase 10).erase 11).erase 12).erase 13).erase 0).erase 1).erase 2).erase 3) (by decide) rfl (credit _)) $$ [HL]
        · isplitr; · iexact HK
          iexact HL
        iintro HL
        iapply (Direct.wait sem sem_inj units units_pos ER src qs (args A) blk (defs₀ (F := F)) 𝒱₀ none c 5 ((((((((((((Finset.univ.erase 7).erase 8).erase 9).erase 10).erase 11).erase 12).erase 13).erase 0).erase 1).erase 2).erase 3).erase 4) (by decide) rfl (credit _)) $$ [HL]
        · isplitr; · iexact HK
          iexact HL
        iintro HL
        iapply (Direct.wait sem sem_inj units units_pos ER src qs (args A) blk (defs₀ (F := F)) 𝒱₀ none c 6 (((((((((((((Finset.univ.erase 7).erase 8).erase 9).erase 10).erase 11).erase 12).erase 13).erase 0).erase 1).erase 2).erase 3).erase 4).erase 5) (by decide) rfl (credit _)) $$ [HL]
        · isplitr; · iexact HK
          iexact HL
        iintro HL
        iapply (Direct.wait sem sem_inj units units_pos ER src qs (args A) blk (defs₀ (F := F)) 𝒱₀ none c 14 ((((((((((((((Finset.univ.erase 7).erase 8).erase 9).erase 10).erase 11).erase 12).erase 13).erase 0).erase 1).erase 2).erase 3).erase 4).erase 5).erase 6) (by decide) rfl (credit _)) $$ [HL]
        · isplitr; · iexact HK
          iexact HL
        iintro HL
        rw [show (((((((((((((((Finset.univ.erase 7).erase 8).erase 9).erase 10).erase 11).erase 12).erase 13).erase 0).erase 1).erase 2).erase 3).erase 4).erase 5).erase 6).erase 14) = (∅ : Finset (Fin 15)) from by decide]
        rw [wp_ret]
        iapply (Direct.after_intro sem sem_inj units units_pos ER src qs (args A) blk c)
        isplitr; · iexact HK
        iexact HL
      iintro %_ He
      iapply Hk
      isplitl [He]; · iexact He
      isplitl [H2]; · iexact H2
      isplitl [H3]; · iexact H3
      isplitl [H4]; · iexact H4
      isplitl [H5]; · iexact H5
      rw [if_neg h2]
      iexact H7
    · simp only [cc0_ffn_bwd_in_eq_skeleton, cc0_ffn_bwd_in_skel, ↓dif_neg h1, ↓dif_neg h2, ↓dif_pos h3, ↓dif_neg h4, Prog.bind_lift, Prog.bind_op, Prog.bind_ret, Prog.bind_assoc, wp_deviceId, pure_bind', pure_ret]
      iintro ⟨He, H2, H3, H4, H5, H7, Hk⟩
      iapply (load_whole (defs₀ (F := F)) 𝒱₀ none c arg2 fullShare x2) $$ H2
      iintro H2
      iapply (load_whole (defs₀ (F := F)) 𝒱₀ none c arg4 fullShare x4) $$ H4
      iintro H4
      iapply (load_whole (defs₀ (F := F)) 𝒱₀ none c arg3 fullShare x3) $$ H3
      iintro H3
      iapply (load_whole (defs₀ (F := F)) 𝒱₀ none c arg5 fullShare x5) $$ H5
      iintro H5
      iapply (load_whole (defs₀ (F := F)) 𝒱₀ none c arg7 fullShare x7) $$ H7
      iintro H7
      iapply (load_whole (defs₀ (F := F)) 𝒱₀ none c arg7 fullShare x7) $$ H7
      iintro H7
      iapply (store_whole (defs₀ (F := F)) 𝒱₀ none c arg7 x7 (k0_pay2 x2 x4 x3 x5 x7)) $$ H7
      iintro H7
      rw [wp_ret]
      imodintro
      unfold depart
      rw [if_neg h4]
      iapply Hk
      isplitl [He]; · iexact He
      isplitl [H2]; · iexact H2
      isplitl [H3]; · iexact H3
      isplitl [H4]; · iexact H4
      isplitl [H5]; · iexact H5
      rw [if_neg h2]
      iexact H7

end Run

end BwdIn

end
-- ==== Proof.BwdInLaunch.lean ====
/-
  The up- and gate-projections' backward product with the exchange of the gate weight's gradient on all devices: the launch, and what memory
  holds at the end.
-/
module

public import proofs.«01_k».proof.Proof.BwdInRun
public import proofs.«01_k».proof.Proof.Launch

@[expose] public section

set_option Elab.async false

noncomputable section

namespace BwdIn

open Idealize.ShloMosaic
open Idealize.ShloMosaic.TcCoe
open Idealize.ShloMosaic.Rounds
open Idealize.SL Idealize.SL.RA Idealize.SL.BI
open scoped Idealize.SL.BI
open Idealize.SL.BI.BIBase Idealize.SL.BI.Laws Idealize.SL.ProofMode Idealize.SL.Sem
open Cert.BwdInIdeal Cert.BwdInIdeal.Gen
open Exchange
open Idealize.ShloMosaic.Pipeline

variable {F : FTy → Type} [FloatOps F]

omit [FloatOps F] in
/-- The exchange's argument is what its copies read. -/
theorem lend (A : ∀ c : Dev nD, Buf (Elt F) ((c.tc : Thread nD τ).loc main_arg4)) (c : Dev nD) :
    ((c.tc : Thread nD τ).loc main_arg4 ↦{fullShare} A c : sProp (M F)) = bigSep Finset.univ fun k => Direct.lent src qs (args A) c k := by
  rw [pieces main_arg4 rect (fun _ _ => rfl) (fun _ => squeezes_S1x2048x704_S2048x704) rect_disjoint rect_cover c (A c), bigSep_univ_equiv (swapAt c)]
  rfl

omit [FloatOps F] in
/-- The exchange's result, whole, is room for every block. -/
theorem rooms (c : Dev nD) (f : Buf (Elt F) ((c.tc : Thread nD τ).loc main_v1_1)) :
    ((c.tc : Thread nD τ).loc main_v1_1 ↦{fullShare} f : sProp (M F)) ⊢ bigSep Finset.univ fun k : Fin 15 => Direct.space blk c k :=
  (room_pieces main_v1_1 rect (fun _ _ => rfl) (fun _ => squeezes_S1x2048x704_S2048x704) rect_disjoint rect_cover c f).trans (Direct.spaces blk c)

/-- The landed blocks are the exchange's result, whole. -/
theorem join_landed (A : ∀ c : Dev nD, Buf (Elt F) ((c.tc : Thread nD τ).loc main_arg4)) (c : Dev nD) :
    (bigSep Finset.univ fun j => Direct.landed src (args A) blk c j)
      ⊢ (iprop(∃ f : Buf (Elt F) ((c.tc : Thread nD τ).loc main_v1_1), ⌜∀ j, (blk j).view.read (Elt F) f = Direct.val src (args A) c j⌝
          ∗ (c.tc : Thread nD τ).loc main_v1_1 ↦{fullShare} f) : sProp (M F)) :=
  join_pieces main_v1_1 rect (fun _ _ => rfl) (fun _ => squeezes_S1x2048x704_S2048x704) rect_disjoint rect_cover c _

/-! ## The region's data -/

section Launch

variable (m : (ℓ : Loc nD τ sig) → Buf (Elt F) ℓ) (ρ : Dev nD → PrngReg)

/-- The exchange's argument at launch. -/
def arg (c : Dev nD) : Buf (Elt F) ((c.tc : Thread nD τ).loc main_arg4) := m ((c.tc : Thread nD τ).loc main_arg4)

/-- The exchange before grid point `n`. -/
def state (n : ℕ) (c : Dev nD) : sProp (M F) :=
  if n = 0 then iprop(∃ κ, Direct.before sem sem_inj units units_pos ER src qs (args (arg m)) blk κ c)
  else if n = 64 then Direct.after sem src qs (args (arg m)) blk c
  else Direct.flying sem sem_inj units units_pos ER src qs (args (arg m)) blk c

/-- What a device owes before grid point `n`. -/
def debts (n : ℕ) (c : Dev nD) : CellTallies nD τ sig Unit := if n = 0 then debt fm Direct.recvs c else 0

theorem first (t : Fin cfg0.N) : k0_cond1 (grid0.coords t) = 1#1 ↔ t.val = 0 := by
  revert t; decide +kernel
theorem last (t : Fin cfg0.N) : k0_cond4 (grid0.coords t) = 1#1 ↔ t.val + 1 = 64 := by
  revert t; decide +kernel

theorem enter_point (t : Fin cfg0.N) (c : Dev nD) :
    iprop(state m t.val c ∗ ∃ W, owes (c.tc : Thread nD τ) (debts t.val c) W) ⊢ entry (arg m) (grid0.coords t) c := by
  have hN : t.val < 64 := t.isLt
  unfold entry state debts
  by_cases h : t.val = 0
  · rw [if_pos h, if_pos h, if_pos ((first t).mpr h)]
  · rw [if_neg h, if_neg h, if_neg (fun e => h ((first t).mp e)), if_neg (by omega)]

theorem leave_point (t : Fin cfg0.N) (c : Dev nD) :
    depart (arg m) (grid0.coords t) c ⊢ iprop(state m (t.val + 1) c ∗ ∃ W, owes (c.tc : Thread nD τ) (debts (t.val + 1) c) W) := by
  unfold depart state debts
  rw [if_neg (Nat.succ_ne_zero _), if_neg (Nat.succ_ne_zero _)]
  by_cases h : t.val + 1 = 64
  · rw [if_pos h, if_pos ((last t).mpr h)]
  · rw [if_neg h, if_neg (fun e => h ((last t).mp e))]

/-- What one block of features adds to a tile of the result. -/
abbrev part (c : Dev nD) (t : Fin cfg0.N) : Vec F S1024x2048 .f32 := k0_pay1 (iblk m c 0 t) (iblk m c 2 t) (iblk m c 1 t) (iblk m c 3 t)

/-- The tile of the result after a grid point: started anew at the first block of features, added to at the others. -/
def tile (c : Dev nD) : (n : ℕ) → n < 64 → Vec F S1024x2048 .f32
  | 0, h => part m c ⟨0, h⟩
  | n + 1, h =>
    if k0_cond2 (grid0.coords ⟨n + 1, h⟩) = 1#1 then part m c ⟨n + 1, h⟩
    else k0_pay2 (iblk m c 0 ⟨n + 1, h⟩) (iblk m c 2 ⟨n + 1, h⟩) (iblk m c 1 ⟨n + 1, h⟩) (iblk m c 3 ⟨n + 1, h⟩) (tile c n (Nat.lt_of_succ_lt h))

theorem starts (t : Fin cfg0.N) : k0_cond2 (grid0.coords t) = 1#1 ↔ t.val % 8 = 0 := by
  revert t; decide +kernel
theorem goes_on (t : Fin cfg0.N) : k0_cond3 (grid0.coords t) = 1#1 ↔ ¬ k0_cond2 (grid0.coords t) = 1#1 := by
  revert t; decide +kernel

theorem first_starts (t : Fin cfg0.N) (h : k0_cond1 (grid0.coords t) = 1#1) : k0_cond2 (grid0.coords t) = 1#1 :=
  (starts t).mpr (by rw [(first t).mp h])
theorem last_goes_on (t : Fin cfg0.N) (h : k0_cond4 (grid0.coords t) = 1#1) : ¬ k0_cond2 (grid0.coords t) = 1#1 := fun e => by
  have h1 := (last t).mp h
  have h2 := (starts t).mp e
  omega

def dats (_ : Fin 1) (c : Dev nD) : Dat τ (Elt F) Unit ℕ UU ℕ cfg0 c where
  A w := m ((cfg0.win w).arr.view.loc (c.tc : Thread nD τ))
  after w t := match w with
    | 0 => iblk m c 0 t
    | 1 => iblk m c 1 t
    | 2 => iblk m c 2 t
    | 3 => iblk m c 3 t
    | 4 => tile m c t.val t.isLt
    | ⟨_ + 5, h⟩ => absurd h (Nat.not_lt.2 (Nat.le_add_left _ _))
  Φ t := iprop(state m t.val c)
  q _ := fullShare
  owed t := debts t.val c

theorem share_full (c : Dev nD) (w : Fin 5) : (dats m 0 c).share w = fullShare := by
  unfold Dat.share
  exact ite_self _

theorem before0 (c : Dev nD) (t : Fin cfg0.N) (d) : (dats m 0 c).before 0 t d = iblk m c 0 t :=
  ((dats m 0 c).before_in_eq_fetched 0 rfl (fun _ => rfl) (fun _ _ _ => rfl) (fun _ => rfl) t d).trans rfl

theorem before1 (c : Dev nD) (t : Fin cfg0.N) (d) : (dats m 0 c).before 1 t d = iblk m c 1 t :=
  ((dats m 0 c).before_in_eq_fetched 1 rfl (fun _ => rfl) (fun _ _ _ => rfl) (fun _ => rfl) t d).trans rfl

theorem before2 (c : Dev nD) (t : Fin cfg0.N) (d) : (dats m 0 c).before 2 t d = iblk m c 2 t :=
  ((dats m 0 c).before_in_eq_fetched 2 rfl (fun _ => rfl) (fun _ _ _ => rfl) (fun _ => rfl) t d).trans rfl

theorem before3 (c : Dev nD) (t : Fin cfg0.N) (d) : (dats m 0 c).before 3 t d = iblk m c 3 t :=
  ((dats m 0 c).before_in_eq_fetched 3 rfl (fun _ => rfl) (fun _ _ _ => rfl) (fun _ => rfl) t d).trans rfl

theorem kept_tile (t : Fin cfg0.N) (h : ¬ t.val % 8 = 0) :
    (cfg0.win 4).flush ⟨t.val - 1, Nat.lt_of_le_of_lt (Nat.sub_le _ _) t.isLt⟩ = false := by
  revert t; decide +kernel

/-- The tile is written at every point. -/
theorem busy : ∀ i : grid0.Coords, cfg0.idle 4 i = false := by decide +kernel

/-- What the body leaves in the tile is the tile after the point. -/
theorem next_tile (c : Dev nD) (t : Fin cfg0.N) (d) :
    (if k0_cond2 (grid0.coords t) = 1#1 then part m c t
      else k0_pay2 (iblk m c 0 t) (iblk m c 2 t) (iblk m c 1 t) (iblk m c 3 t) ((dats m 0 c).before 4 t d)) = tile m c t.val t.isLt := by
  by_cases h : k0_cond2 (grid0.coords t) = 1#1
  · rw [if_pos h]
    obtain ⟨n, hn⟩ := t
    cases n with
    | zero => rfl
    | succ n => exact (if_pos h).symm
  · rw [if_neg h]
    have h8 : ¬ t.val % 8 = 0 := fun e => h ((starts t).mpr e)
    rw [(dats m 0 c).before_out_kept 4 rfl t (fun e => h8 (by rw [e])) (kept_tile t h8) busy (fun _ _ => rfl) d]
    obtain ⟨n, hn⟩ := t
    cases n with
    | zero => exact absurd rfl h8
    | succ n => exact (if_neg h).symm

set_option maxRecDepth 20000 in
theorem body_obligation (c : Dev nD) : Pipeline.BodyObligation (dats m 0 c) (defs₀ (F := F)) 𝒱₀ () Set.univ := by
  intro t
  rw [bigSep_W0, bigSep_W0]
  show iprop(state m t.val c ∗ _ ∗ _) ⊢ wp frame (wpE (defs₀ (F := F)) 𝒱₀ c.tc none) Set.univ (bodyAt0 t) _
  iintro ⟨Hst, Ho, ⟨%d0, H0⟩, ⟨%d1, H1⟩, ⟨%d2, H2⟩, ⟨%d3, H3⟩, ⟨%d4, H4⟩⟩
  ihave Ho := (Entails.of_eq (show (dats m 0 c).owesAt () t.castSucc = _ from by unfold Pipeline.Dat.owesAt Pipeline.owesWithin; rfl)) $$ Ho
  icases Ho with ⟨%W, -, Ho⟩
  ihave He := (enter_point m t c) $$ [Hst Ho]
  · isplitl [Hst]; · iexact Hst
    iexists W; iexact Ho
  iapply (run_body (arg m) (grid0.coords t) c (first_starts t) (goes_on t) (last_goes_on t) _ _ _ _ _ _ _ _ _ _
    (iblk m c 0 t) (iblk m c 1 t) (iblk m c 2 t) (iblk m c 3 t) _ _)
  isplitl [He]; · iexact He
  isplitl [H0]; · rw [← before0 m c t d0]; iexact H0
  isplitl [H1]; · rw [← before1 m c t d1]; iexact H1
  isplitl [H2]; · rw [← before2 m c t d2]; iexact H2
  isplitl [H3]; · rw [← before3 m c t d3]; iexact H3
  isplitl [H4]; · iexact H4
  iintro ⟨He, H0, H1, H2, H3, H4⟩
  ihave He := (leave_point m t c) $$ He
  icases He with ⟨Hst, ⟨%W', Ho⟩⟩
  isplitl [Hst]
  · iapply (Entails.of_eq (show (state m (t.val + 1) c : sProp (M F)) = (dats m 0 c).Φ t.succ from rfl)); iexact Hst
  isplitl [Ho]
  · unfold Pipeline.Dat.owesAt Pipeline.owesWithin
    iexists W'
    isplitr; · ipureintro; exact fun _ _ => Or.inl trivial
    iexact Ho
  isplitl [H0]; · iexact H0
  isplitl [H1]; · iexact H1
  isplitl [H2]; · iexact H2
  isplitl [H3]; · iexact H3
  rw [next_tile m c t d4]
  rw [show cfg0.idle 4 (cfg0.grid.coords t) = false from busy _]
  iexact H4

/-! ## The launch -/

/-- The ghost state at launch. -/
def u₀ : UU :=
  (initOf (PerCore.cells (nD := nD) (τ := τ) (fun _ => cfgs) cellOf_inj) (PerCore.launchToks (nD := nD) (τ := τ) (fun _ => cfgs) cellOf_inj), initOf (cells fm) (toks fm))

/-- What the launch gives device `c`. -/
def G' (c : Dev nD) : sProp (M F) :=
  iprop(((∃ κ, records fm ER (Direct.pay src qs (args (arg m)) blk) κ) ∗ share fm ER (Direct.space blk) c) ∗ ((c.tc : Thread nD τ).loc main_arg4 ↦{fullShare} arg m c))

theorem glob : iprop((bigSep Finset.univ fun c => iprop(ownSems0 (Ix := Unit) (Name := ℕ) (U := UU) (Lvl := ℕ) (Val := Elt F) (τ := τ) sem c ∗ unscopedSems0 c
          ∗ unscopedRest cfg0.spec c (fun b => m ((c.tc : Thread nD τ).loc b)))) ∗ bigSep Finset.univ (dealt fm ER (Direct.pay src qs (args (arg m)) blk)) : sProp (M F))
        ⊢ |={Set.univ}=> bigSep Finset.univ (G' m) := by
  simp only [unscopedRest0_eq]
  rw [bigSep_sep', bigSep_sep', bigSep_sep']
  iintro ⟨⟨Hs, -, Ha, Hv⟩, Hd⟩
  ihave Hr := (show (bigSep Finset.univ fun c : Dev nD => ((c.tc : Thread nD τ).loc main_v1_1 ↦{fullShare} m ((c.tc : Thread nD τ).loc main_v1_1) : sProp (M F)))
      ⊢ bigSep Finset.univ fun c : Dev nD => bigSep Finset.univ fun k : Fin 15 => Direct.space blk c k
    from bigSep_mono fun c _ => rooms c _) $$ Hv
  imod (deal_once fm ER (Direct.pay src qs (args (arg m)) blk) (Direct.space blk)) $$ [Hs Hd Hr] with H
  · isplitl [Hs]; · iexact Hs
    isplitl [Hd]; · iexact Hd
    iexact Hr
  imodintro
  iapply (Entails.of_eq (show iprop((bigSep Finset.univ fun c : Dev nD => iprop((∃ κ, records fm ER (Direct.pay src qs (args (arg m)) blk) κ) ∗ share fm ER (Direct.space blk) c))
      ∗ (bigSep Finset.univ fun c : Dev nD => ((c.tc : Thread nD τ).loc main_arg4 ↦{fullShare} arg m c))) = bigSep Finset.univ (G' m) from by
    rw [← bigSep_sep']; rfl))
  isplitl [H]; · iexact H
  iexact Ha

theorem enter (c : Dev nD) :
    iprop(levAts lset (lval fm) ∗ launchCred (fun d => debt fm Direct.recvs d) c ∗ prngReg c (ρ c) ∗ G' m c ∗ scopedRest cfg0.spec c) ⊢ (dats m 0 c).Φ 0 := by
  show _ ⊢ (iprop(state m 0 c) : sProp (M F))
  unfold G' state
  rw [if_pos rfl]
  iintro ⟨Hl, Hc, -, ⟨⟨⟨%κ, Hr⟩, Hsh⟩, Ha⟩, -⟩
  ihave Hc := (creds fm Direct.recvs c) $$ Hc
  ihave Ha := (Entails.of_eq (lend (arg m) c)) $$ Ha
  iexists κ
  iapply (Direct.before_intro sem sem_inj units units_pos ER src qs (args (arg m)) blk κ c)
  isplitl [Hr]; · iexact Hr
  isplitl [Hl]; · iexact Hl
  isplitl [Hsh]; · iexact Hsh
  isplitl [Ha]; · iexact Ha
  iexact Hc

/-- The exchange's buffers on a device at the end. -/
def held (c : Dev nD) : sProp (M F) :=
  iprop((∃ f : Buf (Elt F) ((c.tc : Thread nD τ).loc main_v1_1), ⌜∀ j, (blk j).view.read (Elt F) f = Direct.val src (args (arg m)) c j⌝ ∗ (c.tc : Thread nD τ).loc main_v1_1 ↦{fullShare} f)
    ∗ (c.tc : Thread nD τ).loc main_arg4 ↦{fullShare} arg m c)

theorem exits (c : Dev nD) :
    (dats m 0 c).Φ (Fin.last cfg0.N) ⊢ iprop(held m c ∗ ownSems0 sem c ∗ scopedRest cfg0.spec c) := by
  show (iprop(state m 64 c) : sProp (M F)) ⊢ _
  unfold state Direct.after held
  rw [if_neg (by decide), if_pos rfl]
  iintro ⟨Hb, Ha, Hs⟩
  ihave Hb := (join_landed (arg m) c) $$ Hb
  ihave Ha := (Entails.of_eq (lend (arg m) c).symm) $$ Ha
  isplitl [Hb Ha]
  · isplitl [Hb]; · iexact Hb
    iexact Ha
  isplitl [Hs]; · iexact Hs
  rw [scopedRest0_eq]; iempintro

/-- The memory on device `c` at the end: block `j` of the exchange's result is what device `j` sent, its argument is as it was. -/
def Ends (c : Dev nD) (s : MemSt nD τ sig (Elt F)) : Prop :=
  (∀ j, (blk j).view.read (Elt F) (s.mem ((c.tc : Thread nD τ).loc main_v1_1)) = Direct.val src (args (arg m)) c j)
    ∧ s.mem ((c.tc : Thread nD τ).loc main_arg4) = m ((c.tc : Thread nD τ).loc main_arg4)

theorem ends (c : Dev nD) (s' : Phys nD τ sig (Elt F)) :
    iprop(held m c ∗ SI s') ⊢ (|={Set.univ}=> iprop(⌜Ends m c s'.mem⌝ ∗ SI s') : sProp (M F)) := by
  unfold held
  iintro ⟨⟨⟨%f, %hf, Hv⟩, Ha⟩, HS⟩
  ihave H := (agree s' _ _) $$ [Hv HS]
  · isplitl [Hv] <;> iassumption
  icases H with ⟨%hv, HS⟩
  ihave H := (agree s' _ _) $$ [Ha HS]
  · isplitl [Ha] <;> iassumption
  icases H with ⟨%ha, HS⟩
  imodintro
  isplitr
  · ipureintro
    exact ⟨fun j => by rw [hv]; exact hf j, ha⟩
  · iexact HS

theorem stage_sem : ∀ (w : Fin 5) (s : Fin (spec0 w).nbuf) (k : Fin 15), (.dma ((spec0 w).sem s) : SemLoc sig) ≠ sem k := by decide

theorem waits (c : Dev nD) : (levAts lset (lval fm) : sProp (M F)) ⊢ PerCore.cellsWaits (fun _ : Dev nD => cfgs) (dats m) () 0 c :=
  PerCore.cellsWaits_intro (fun _ : Dev nD => cfgs) (dats m) () 0 c fun w s t => by
    show _ ⊢ MayWait (c.tc : Thread nD τ) (.dma ((spec0 w).sem s)) () (debts t.val c)
    unfold debts
    split
    · exact mayWait_other fm Direct.recvs c _ (stage_sem w s) (by decide)
    · rw [MayWait_zero]
      iintro -
      iempintro

set_option maxRecDepth 20000 in
/-- From any memory with zero counters every fair execution ends; at its end every device's windowed arrays hold what the grid
    wrote, the exchange has happened, and every counter is at zero. -/
theorem run_main : θ_run defs (onTc (τ := τ) (main (F := F))) ⟨m, fun _ => 0, ρ⟩ (fun r =>
    (∀ c : Dev nD, (∀ w, r.2.mem ((spec0 w).arr.view.loc (c.tc : Thread nD τ)) = (dats m 0 c).arrAt w cfg0.N) ∧ Ends m c r.2) ∧ r.2.sem = fun _ => 0) :=
  run_exchange cfgs (dats m) () cellOf_inj (0 : Fin 1) EP defs₀ 𝒱₀
    winFacts0.to₀ (osem := sem) (by decide) m ρ main (fun _ => rfl)
    (fun c => (body_obligation m c).loose) block_pos0 arr_whole0 stage_whole0
    (fun c w => share_full m c w) winFacts0.arr_inj
    (fun d => debt fm Direct.recvs d) (fun _ => rfl) (fun _ => rfl)
    lset (lval fm) lset_ne (waits m) (dealt fm ER (Direct.pay src qs (args (arg m)) blk)) (G' m) u₀
    (by
      unfold u₀
      iintro Hu
      ihave H := (ownU_pair _ _) $$ Hu
      icases H with ⟨HP, HX⟩
      imod (fund_once fm ER (Direct.pay src qs (args (arg m)) blk)) $$ HX with HG
      imodintro
      isplitl [HP] <;> iassumption)
    (glob m) (fun _ _ => rfl) (held m) (enter m ρ) (exits m) (Ends m) (ends m)
    (fun s h hs => ⟨h, sem_eq_zero_of_scoped (by decide) hs⟩)

/-- The arrays the windows only read are as they were. -/
theorem run_in (c : Dev nD) (w : Fin 5) (hw : (spec0 w).isOut = false) : (dats m 0 c).arrAt w cfg0.N = m ((spec0 w).arr.view.loc (c.tc : Thread nD τ)) :=
  (dats m 0 c).arrAt_in w hw _

end Launch

end BwdIn

end
-- ==== Proof.BwdInValue.lean ====
/-
  The values of the backward product: each device's part of the result is its tokens' part of the sum over all blocks of
  features, and the exchanged gradient is the blocks of all devices for this one.
-/
module

public import proofs.«01_k».proof.Proof.BwdInLaunch
public import Idealize.ShloMosaic.Lib.Pipeline.ValueKit
public import Idealize.ShloMosaic.Lib.ValueLayout
public import Idealize.ShloMosaic.Lib.Layout
public import Idealize.ShloMosaic.Lib.LayoutAt
public import proofs.«01_k».proof.Proof.Gen.BwdInReferenceIdeal.Run

@[expose] public section

set_option Elab.async false

noncomputable section

namespace BwdIn

open Idealize.ShloMosaic
open Idealize.ShloMosaic.TcCoe
open Cert.BwdInIdeal Cert.BwdInIdeal.Gen
open Exchange

/-- The reference's product of every token's gradient with one weight. -/
abbrev back (d : FVec Ideal Cert.BwdInReferenceIdeal.S8x65536x704 .bf16) (w : FVec Ideal S8x2048x704 .bf16) :
    FVec Ideal Cert.BwdInReferenceIdeal.S65536x2048 .f32 :=
  Host.dotGeneral Cert.BwdInReferenceIdeal.dot_S8x65536x704_S8x2048x704_S65536x2048_20_20_1_1_n_n none d w

theorem back_at (d : FVec Ideal Cert.BwdInReferenceIdeal.S8x65536x704 .bf16) (w : FVec Ideal S8x2048x704 .bf16)
    (i : Fin 65536) (k : Fin 2048) :
    back d w (ix2 i k) = ∑ s : Fin 8, ∑ l : Fin 704, (d (ix3 s i l) : EReal) * w (ix3 s k l) := by
  pointwise [back]
  exact Finset.sum_comm

theorem idx0 : ∀ t : Fin cfg0.N, win0_0.index t = ![(grid0.coords t 1).val, (grid0.coords t 0).val, 0] := (by decide +kernel : ∀ t : Fin grid0.N, _)
theorem idx1 : ∀ t : Fin cfg0.N, win0_1.index t = ![(grid0.coords t 1).val, (grid0.coords t 0).val, 0] := (by decide +kernel : ∀ t : Fin grid0.N, _)
theorem idx2 : ∀ t : Fin cfg0.N, win0_2.index t = ![(grid0.coords t 1).val, 0, 0] := (by decide +kernel : ∀ t : Fin grid0.N, _)
theorem idx3 : ∀ t : Fin cfg0.N, win0_3.index t = ![(grid0.coords t 1).val, 0, 0] := (by decide +kernel : ∀ t : Fin grid0.N, _)
theorem idx4 : ∀ t : Fin cfg0.N, win0_4.index t = ![(grid0.coords t 0).val, 0] := (by decide +kernel : ∀ t : Fin grid0.N, _)
theorem coord0 : ∀ t : Fin cfg0.N, (grid0.coords t 0).val = t.val / 8 := (by decide +kernel : ∀ t : Fin grid0.N, _)
theorem coord1 : ∀ t : Fin cfg0.N, (grid0.coords t 1).val = t.val % 8 := (by decide +kernel : ∀ t : Fin grid0.N, _)
theorem written : ∀ t : Fin cfg0.N, (cfg0.win 4).flush t = true → t.val % 8 = 8 - 1 := by decide +kernel

variable (m : (ℓ : Loc nD τ sig) → Buf (Elt Ideal) ℓ) (c : Dev nD)
variable (da db : FVec Ideal Cert.BwdInReferenceIdeal.S8x65536x704 .bf16) (wg wu : FVec Ideal S8x2048x704 .bf16)

/-- The token's place in the whole array. -/
def place (c : Dev nD) (i : Fin 8192) : Fin 65536 := ⟨c.val * 8192 + i.val, by have h8 : c.val < 8 := c.isLt; have := i.isLt; omega⟩

set_option maxRecDepth 20000 in
/-- A tile of the gate's gradient at the device's tokens, read in the whole array. -/
theorem gate_grad_at (h : m ((c.tc : Thread nD τ).loc main_arg0) = Layout.block ⟨3, ![8, 8192, 704]⟩ ⟨3, ![8, 65536, 704]⟩ 1 8 c da)
    (t : Fin cfg0.N) (r : Fin 1024) (l : Fin 704) (i : Fin 65536) (s : Fin 8) (hs : (grid0.coords t 1).val = s.val)
    (hi : i.val = c.val * 8192 + ((grid0.coords t 0).val * 1024 + r.val)) :
    iblk m c 0 t (ix3 (0 : Fin 1) r l) = da (ix3 s i l) := by
  blk_simp [iblk, V, idx0]
  rw [h]
  show da _ = da _
  congr 1
  funext a
  apply Fin.ext
  match a with
  | ⟨0, _⟩ =>
      show ((win0_0.blk t).view.emb (ix3 (0 : Fin 1) r l) 0).val = s.val
      blk_simp [idx0]
      first | exact hs | (show (grid0.coords t 1).val * 1 + 0 = s.val; omega) | (show (grid0.coords t 1).val + 0 = s.val; omega)
  | ⟨1, _⟩ =>
      show c.val * 8192 + ((win0_0.blk t).view.emb (ix3 (0 : Fin 1) r l) 1).val = i.val
      blk_simp [idx0]
      show c.val * 8192 + ((grid0.coords t 0).val * 1024 + r.val) = i.val
      omega
  | ⟨2, _⟩ =>
      show ((win0_0.blk t).view.emb (ix3 (0 : Fin 1) r l) 2).val = l.val
      blk_simp [idx0]
      first | done | (show 0 * 704 + l.val = l.val; omega)

set_option maxRecDepth 20000 in
theorem gate_weight_at (h : m ((c.tc : Thread nD τ).loc main_arg2) = wg) (t : Fin cfg0.N) (k : Fin 2048) (l : Fin 704)
    (s : Fin 8) (hs : (grid0.coords t 1).val = s.val) :
    iblk m c 2 t (ix3 (0 : Fin 1) k l) = wg (ix3 s k l) := by
  obtain rfl : grid0.coords t 1 = s := Fin.ext hs
  blk_simp [iblk, V, idx2]
  rw [h]
  blk_ext [idx2]

set_option maxRecDepth 20000 in
/-- A tile of the up-projection's gradient at the device's tokens, read in the whole array. -/
theorem up_grad_at (h : m ((c.tc : Thread nD τ).loc main_arg1) = Layout.block ⟨3, ![8, 8192, 704]⟩ ⟨3, ![8, 65536, 704]⟩ 1 8 c db)
    (t : Fin cfg0.N) (r : Fin 1024) (l : Fin 704) (i : Fin 65536) (s : Fin 8) (hs : (grid0.coords t 1).val = s.val)
    (hi : i.val = c.val * 8192 + ((grid0.coords t 0).val * 1024 + r.val)) :
    iblk m c 1 t (ix3 (0 : Fin 1) r l) = db (ix3 s i l) := by
  blk_simp [iblk, V, idx1]
  rw [h]
  show db _ = db _
  congr 1
  funext a
  apply Fin.ext
  match a with
  | ⟨0, _⟩ =>
      show ((win0_1.blk t).view.emb (ix3 (0 : Fin 1) r l) 0).val = s.val
      blk_simp [idx1]
      first | exact hs | (show (grid0.coords t 1).val * 1 + 0 = s.val; omega) | (show (grid0.coords t 1).val + 0 = s.val; omega)
  | ⟨1, _⟩ =>
      show c.val * 8192 + ((win0_1.blk t).view.emb (ix3 (0 : Fin 1) r l) 1).val = i.val
      blk_simp [idx1]
      show c.val * 8192 + ((grid0.coords t 0).val * 1024 + r.val) = i.val
      omega
  | ⟨2, _⟩ =>
      show ((win0_1.blk t).view.emb (ix3 (0 : Fin 1) r l) 2).val = l.val
      blk_simp [idx1]
      first | done | (show 0 * 704 + l.val = l.val; omega)

set_option maxRecDepth 20000 in
theorem up_weight_at (h : m ((c.tc : Thread nD τ).loc main_arg3) = wu) (t : Fin cfg0.N) (k : Fin 2048) (l : Fin 704)
    (s : Fin 8) (hs : (grid0.coords t 1).val = s.val) :
    iblk m c 3 t (ix3 (0 : Fin 1) k l) = wu (ix3 s k l) := by
  obtain rfl : grid0.coords t 1 = s := Fin.ext hs
  blk_simp [iblk, V, idx3]
  rw [h]
  blk_ext [idx3]

theorem part_sum (x2 x3 : Vec Ideal S1x1024x704 .bf16) (x4 x5 : Vec Ideal S1x2048x704 .bf16) (r : Fin 1024) (k : Fin 2048) :
    k0_pay1 x2 x4 x3 x5 (ix2 r k) = ((∑ l : Fin 704, (x2 (ix3 (0 : Fin 1) r l) : EReal) * x4 (ix3 (0 : Fin 1) k l))
      + ∑ l : Fin 704, (x3 (ix3 (0 : Fin 1) r l) : EReal) * x5 (ix3 (0 : Fin 1) k l) : EReal) := by
  pointwise [k0_pay1]

section tiles

variable (h0 : m ((c.tc : Thread nD τ).loc main_arg0) = Layout.block ⟨3, ![8, 8192, 704]⟩ ⟨3, ![8, 65536, 704]⟩ 1 8 c da)
  (h1 : m ((c.tc : Thread nD τ).loc main_arg1) = Layout.block ⟨3, ![8, 8192, 704]⟩ ⟨3, ![8, 65536, 704]⟩ 1 8 c db)
  (h2 : m ((c.tc : Thread nD τ).loc main_arg2) = wg) (h3 : m ((c.tc : Thread nD τ).loc main_arg3) = wu)

include h0 h1 h2 h3 in
/-- What one block of features adds at a token and a model feature. -/
theorem part_at (t : Fin cfg0.N) (r : Fin 1024) (k : Fin 2048) (i : Fin 65536) (s : Fin 8) (hs : (grid0.coords t 1).val = s.val)
    (hi : i.val = c.val * 8192 + ((grid0.coords t 0).val * 1024 + r.val)) :
    part m c t (ix2 r k) = ((∑ l : Fin 704, (da (ix3 s i l) : EReal) * wg (ix3 s k l)) + ∑ l : Fin 704, (db (ix3 s i l) : EReal) * wu (ix3 s k l) : EReal) := by
  refine (part_sum _ _ _ _ r k).trans ?_
  exact congrArg₂ (fun x y : EReal => x + y)
    (Finset.sum_congr rfl fun l _ => congrArg₂ (fun x y : EReal => x * y) (gate_grad_at m c da h0 t r l i s hs hi) (gate_weight_at m c wg h2 t k l s hs))
    (Finset.sum_congr rfl fun l _ => congrArg₂ (fun x y : EReal => x * y) (up_grad_at m c db h1 t r l i s hs hi) (up_weight_at m c wu h3 t k l s hs))

theorem tile_start (t : Fin cfg0.N) (h : t.val % 8 = 0) (y : S1024x2048.Idx) : tile m c t.val t.isLt y = (0 + part m c t y : EReal) := by
  have h2 := (starts t).mpr h
  rw [zero_add]
  obtain ⟨n, hn⟩ := t
  cases n with
  | zero => rfl
  | succ n => exact congrFun (if_pos h2) y

theorem tile_step (t : Fin cfg0.N) (h : ¬ t.val % 8 = 0) (y : S1024x2048.Idx) :
    tile m c t.val t.isLt y = (tile m c (t.val - 1) (Nat.lt_of_le_of_lt (Nat.sub_le _ _) t.isLt) y + part m c t y : EReal) := by
  have h2 : ¬ k0_cond2 (grid0.coords t) = 1#1 := fun e => h ((starts t).mp e)
  obtain ⟨n, hn⟩ := t
  cases n with
  | zero => exact absurd rfl h
  | succ n =>
    refine (congrFun (if_neg h2) y).trans ?_
    pointwise [k0_pay2]
    rfl

include h0 h1 h2 h3 in
/-- A tile when it is written back: the whole sum. -/
theorem tile_at (t : Fin cfg0.N) (hf : t.val % 8 = 8 - 1) (r : Fin 1024) (k : Fin 2048) (i : Fin 65536)
    (hi : i.val = c.val * 8192 + ((grid0.coords t 0).val * 1024 + r.val)) :
    tile m c t.val t.isLt (ix2 r k) = addf (back da wg) (back db wu) (ix2 i k) := by
  rw [Pipeline.eq_sum_fin_of_reset_step_apply_of_flush (M := EReal) (fun n h => tile m c n h) 8 (fun _ => (0 : EReal)) (fun t y => part m c t y)
    (fun t h y => tile_start m c t h y) (fun t h y => tile_step m c t h y) t hf (ix2 r k)]
  show _ = (back da wg (ix2 i k) + back db wu (ix2 i k) : EReal)
  rw [back_at, back_at, ← Finset.sum_add_distrib, zero_add]
  refine Finset.sum_congr rfl fun s _ => ?_
  refine part_at m c da db wg wu h0 h1 h2 h3 _ r k i s ?_ ?_
  · refine (coord1 _).trans ?_
    show (8 * (t.val / 8) + s.val) % 8 = s.val
    omega
  · refine hi.trans (congrArg (fun n => c.val * 8192 + (n * 1024 + r.val)) ((coord0 t).trans (Eq.trans ?_ (coord0 _).symm)))
    show t.val / 8 = (8 * (t.val / 8) + s.val) / 8
    omega

include h0 h1 h2 h3 in
set_option maxRecDepth 20000 in
theorem array : (dats m 0 c).arrAt 4 cfg0.N = Layout.block ⟨2, ![8192, 2048]⟩ ⟨2, ![65536, 2048]⟩ 0 8 c (addf (back da wg) (back db wu)) := by
  refine (dats m 0 c).arrAt_eq_of_covers 4 _ (by decide +kernel) fun t hf y => ?_
  blk_simp
  show tile m c t.val t.isLt y = _
  obtain ⟨r, k, rfl⟩ : ∃ (r : Fin 1024) (k : Fin 2048), y = ix2 r k :=
    ⟨y 0, y 1, by funext a; match a with | ⟨0, _⟩ => rfl | ⟨1, _⟩ => rfl⟩
  have e0 : ((win0_4.blk t).view.emb (ix2 r k) 0 : Fin 8192).val = (grid0.coords t 0).val * 1024 + r.val := by
    blk_simp [idx4]
  have e1 : ((win0_4.blk t).view.emb (ix2 r k) 1 : Fin 2048) = k := by
    apply Fin.ext; blk_simp [idx4]
  have e : Layout.block ⟨2, ![8192, 2048]⟩ ⟨2, ![65536, 2048]⟩ 0 8 c (addf (back da wg) (back db wu)) (by decide) ((win0_4.blk t).view.emb (ix2 r k))
      = (addf (back da wg) (back db wu)) (ix2 (place c ((win0_4.blk t).view.emb (ix2 r k) 0)) ((win0_4.blk t).view.emb (ix2 r k) 1)) := by
    show addf (back da wg) (back db wu) _ = addf (back da wg) (back db wu) _
    congr 1
    funext a
    apply Fin.ext
    match a with
    | ⟨0, _⟩ => rfl
    | ⟨1, _⟩ => rfl
  refine Eq.trans ?_ e.symm
  refine Eq.trans ?_ (congrArg (fun q => (addf (back da wg) (back db wu)) (ix2 (place c ((win0_4.blk t).view.emb (ix2 r k) 0)) q)) e1.symm)
  exact tile_at m c da db wg wu h0 h1 h2 h3 t (written t hf) r k _ (congrArg (c.val * 8192 + ·) e0)

end tiles

section exchanged

variable {F : FTy → Type} [FloatOps F]

/-- Block `j` of the exchanged gradient, at row `r` and column `l`. -/
theorem read_blk (f : S8x2048x704.Idx → Elt F .bf16) (j : Fin 8) (r : Fin 2048) (l : Fin 704) :
    (blk j).view.read (Elt F) (f : (Memref.whole main_v1_1).view.ty.Contents (Elt F)) (ix2 r l) = f (ix3 j r l) := by
  rw [Memref.read_squeeze_slice (Memref.whole main_v1_1) (Rect.unit (s := S8x2048x704) ![j.val, 0, 0] S1x2048x704.size (inb j)) (fun _ => rfl)
    squeezes_S1x2048x704_S2048x704 squeezes_S1x2048x704_S2048x704.numel_eq]
  refine (ValueIdx.shapeCast_1ab_ab_apply (a := 2048) (b := 704) _ _ r l).trans ?_
  show f _ = f _
  congr 1
  funext a
  apply Fin.ext
  match a with
  | ⟨0, _⟩ => show j.val + 1 * 0 = j.val; omega
  | ⟨1, _⟩ => show 0 + 1 * r.val = r.val; omega
  | ⟨2, _⟩ => show 0 + 1 * l.val = l.val; omega

/-- Block `j` of a device's gradient, at row `r` and column `l`. -/
theorem read_ablk (f : S8x2048x704.Idx → Elt F .bf16) (j : Fin 8) (r : Fin 2048) (l : Fin 704) :
    (ablk j).view.read (Elt F) (f : (Memref.whole main_arg4).view.ty.Contents (Elt F)) (ix2 r l) = f (ix3 j r l) := by
  rw [Memref.read_squeeze_slice (Memref.whole main_arg4) (Rect.unit (s := S8x2048x704) ![j.val, 0, 0] S1x2048x704.size (inb j)) (fun _ => rfl)
    squeezes_S1x2048x704_S2048x704 squeezes_S1x2048x704_S2048x704.numel_eq]
  refine (ValueIdx.shapeCast_1ab_ab_apply (a := 2048) (b := 704) _ _ r l).trans ?_
  show f _ = f _
  congr 1
  funext a
  apply Fin.ext
  match a with
  | ⟨0, _⟩ => show j.val + 1 * 0 = j.val; omega
  | ⟨1, _⟩ => show 0 + 1 * r.val = r.val; omega
  | ⟨2, _⟩ => show 0 + 1 * l.val = l.val; omega

/-- The reference's exchange: block `j` for device `c` becomes block `c` from device `j`. -/
abbrev swapped (w : Cert.BwdInReferenceIdeal.S64x2048x704.Idx → Elt F .bf16) : Cert.BwdInReferenceIdeal.S64x2048x704.Idx → Elt F .bf16 :=
  shapeCast Cert.BwdInReferenceIdeal.S64x2048x704 (transpose Cert.BwdInReferenceIdeal.S8x8x2048x704 [1, 0, 2, 3]
    (shapeCast Cert.BwdInReferenceIdeal.S8x8x2048x704 w Cert.BwdInReferenceIdeal.Gen.shapeCasts_S64x2048x704_S8x8x2048x704)
    Cert.BwdInReferenceIdeal.Gen.transposes_S8x8x2048x704_S8x8x2048x704_1_0_2_3) Cert.BwdInReferenceIdeal.Gen.shapeCasts_S8x8x2048x704_S64x2048x704

theorem swapped_at (w : Cert.BwdInReferenceIdeal.S64x2048x704.Idx → Elt F .bf16) (a b : Fin 8) (r : Fin 2048) (l : Fin 704)
    (p q : Fin 64) (hp : p.val = a.val * 8 + b.val) (hq : q.val = b.val * 8 + a.val) :
    swapped w (ix3 p r l) = w (ix3 q r l) := by
  refine (shapeCast_apply _ _ (ix3 p r l) (ix4 a b r l) ?_).trans ?_
  · rw [Shape.rowMajor_val_three, Shape.rowMajor_val_four]
    show (((a.val * 8 + b.val) * 2048 + r.val) * 704 + l.val) = (p.val * 2048 + r.val) * 704 + l.val
    rw [hp]
  refine (shapeCast_apply w _ _ (ix3 q r l) ?_)
  rw [Shape.rowMajor_val_three, Shape.rowMajor_val_four]
  show (q.val * 2048 + r.val) * 704 + l.val = (((b.val * 8 + a.val) * 2048 + r.val) * 704 + l.val)
  rw [hq]

set_option maxRecDepth 20000 in
/-- The gradient a device holds at the end: its block from every device. -/
theorem exchanged (m : (ℓ : Loc nD τ sig) → Buf (Elt F) ℓ) (w : Cert.BwdInReferenceIdeal.S64x2048x704.Idx → Elt F .bf16)
    (hm : ∀ c : Dev nD, m ((c.tc : Thread nD τ).loc main_arg4) = Layout.block ⟨3, ![8, 2048, 704]⟩ ⟨3, ![64, 2048, 704]⟩ 0 8 c w)
    (c : Dev nD) (s : MemSt nD τ sig (Elt F)) (hs : Ends m c s) :
    s.mem ((c.tc : Thread nD τ).loc main_v1_1) = Layout.block ⟨3, ![8, 2048, 704]⟩ ⟨3, ![64, 2048, 704]⟩ 0 8 c (swapped w) := by
  have h8 : c.val < 8 := c.isLt
  funext i
  obtain ⟨j, r, l, rfl⟩ : ∃ (j : Fin 8) (r : Fin 2048) (l : Fin 704), i = ix3 j r l :=
    ⟨i 0, i 1, i 2, by funext a; match a with | ⟨0, _⟩ => rfl | ⟨1, _⟩ => rfl | ⟨2, _⟩ => rfl⟩
  refine (read_blk _ j r l).symm.trans ?_
  rw [hs.1 j]
  refine Eq.trans ?_ (show swapped w (ix3 (⟨c.val * 8 + j.val, by omega⟩ : Fin 64) r l) = _ from ?_)
  · rw [swapped_at w (⟨c.val, h8⟩ : Fin 8) j r l _ (⟨j.val * 8 + c.val, by omega⟩ : Fin 64) rfl rfl]
    have hp : peer (peer j c) j = c := (by decide : ∀ a b : Fin 8, peer (peer a b) a = b) j c
    show (ablk (peer (peer j c) j)).view.read (Elt F) (arg m j : (Memref.whole main_arg4).view.ty.Contents (Elt F)) (ix2 r l) = _
    rw [hp, read_ablk]
    refine (congrFun (hm j) (ix3 (⟨c.val, h8⟩ : Fin 8) r l)).trans ?_
    show w _ = w _
    congr 1
    funext a
    match a with
    | ⟨0, _⟩ => rfl
    | ⟨1, _⟩ => rfl
    | ⟨2, _⟩ => rfl
  · show swapped w _ = swapped w _
    congr 1
    funext a
    apply Fin.ext
    match a with
    | ⟨0, _⟩ => rfl
    | ⟨1, _⟩ => rfl
    | ⟨2, _⟩ => rfl

end exchanged

end BwdIn

end
-- ==== Proof.WgradUpRun.lean ====
/-
  One device's run of the up- and gate-weights' gradients with the exchange of the down-projection weight's gradient.
-/
module

public import proofs.«01_k».proof.Proof.Blocks
public import proofs.«01_k».proof.Proof.Gen.WgradUpIdeal.Frame
public import proofs.«01_k».proof.Proof.Gen.WgradUpIdeal.Skeleton

@[expose] public section

set_option Elab.async false

noncomputable section

namespace WgradUp

open Idealize.ShloMosaic
open Idealize.ShloMosaic.TcCoe
open Idealize.ShloMosaic.Rounds
open Idealize.SL Idealize.SL.RA Idealize.SL.BI
open scoped Idealize.SL.BI
open Idealize.SL.BI.BIBase Idealize.SL.BI.Laws Idealize.SL.ProofMode Idealize.SL.Sem
open Cert.WgradUpIdeal Cert.WgradUpIdeal.Gen
open Exchange

variable {F : FTy → Type} [FloatOps F]

/-- The ghost state: the regions' own rounds beside the exchange's. -/
abbrev UU : Type := UR sig nD τ × UR sig nD τ
abbrev M (F : FTy → Type) : Type := MT nD τ sig Unit (Elt F) ℕ UU ℕ

/-- The part of the ghost state the exchange uses, and the regions' part. -/
abbrev ER : Emb (URounds (GSem nD τ sig) Unit) (M F) := embR
abbrev EP : Emb (URounds (GSem nD τ sig) Unit) (M F) := embL

abbrev 𝒱₀ : Variants := Variants.none

/-- The semaphores: seven sends, seven receives, one local copy. -/
def sem : Fin 15 → SemLoc sig := fun k => .dma (⟨10 + k.val, by omega⟩ : Fin 25)
theorem sem_inj : Function.Injective sem := fun a b h => Fin.ext (by
  have := congrArg Fin.val (SemLoc.dma.inj h)
  simp only at this
  omega)

theorem inb (j : Fin 8) : ∀ a, (![j.val, 0, 0] : Fin 3 → ℕ) a + S1x704x2048.size a ≤ S8x704x2048.size a := by
  revert j; decide

/-- Block `j` of an array of eight. -/
abbrev rect (j : Fin 8) : Rect S8x704x2048 := Rect.unit (s := S8x704x2048) ![j.val, 0, 0] S1x704x2048.size (inb j)

theorem rect_disjoint (j j' : Fin 8) (h : j ≠ j') : Disjoint (rect j).set (rect j').set :=
  Ring.lead_disjoint (s := S8x704x2048) (NB := 8) 0 1 (fun j => ![j.val, 0, 0]) S1x704x2048.size inb (fun b => (Nat.one_mul _).symm) rfl j j' h

theorem rect_cover : Finset.univ.biUnion (fun j => (rect j).set) = Finset.univ :=
  Ring.lead_cover (s := S8x704x2048) (NB := 8) 0 1 (fun j => ![j.val, 0, 0]) S1x704x2048.size inb (fun b => (Nat.one_mul _).symm)
    (by intro b a h; fin_cases a <;> first | exact absurd rfl h | rfl) rfl (by intro a h; fin_cases a <;> first | exact absurd rfl h | rfl) rfl

/-- Block `j` of the exchanged result. -/
abbrev blk (j : Fin 8) : Memref sig .tc .hbm S704x2048 .bf16 :=
  ((Memref.whole main_v1_2).slice (rect j) (fun _ => rfl)).squeeze S704x2048 squeezes_S1x704x2048_S704x2048

theorem blk_of {off : Fin 3 → ℕ} (h : ∀ a, off a + S1x704x2048.size a ≤ S8x704x2048.size a) (j : Fin 8) (e : off = ![j.val, 0, 0]) :
    ((Memref.whole main_v1_2).slice (Rect.unit (s := S8x704x2048) off S1x704x2048.size h) (fun _ => rfl)).squeeze S704x2048 squeezes_S1x704x2048_S704x2048 = blk j := by
  subst e; rfl

/-- Block `j` of the argument to exchange. -/
abbrev ablk (j : Fin 8) : Memref sig .tc .hbm S704x2048 .bf16 :=
  ((Memref.whole main_arg3).slice (rect j) (fun _ => rfl)).squeeze S704x2048 squeezes_S1x704x2048_S704x2048

theorem ablk_of {off : Fin 3 → ℕ} (h : ∀ a, off a + S1x704x2048.size a ≤ S8x704x2048.size a) (j : Fin 8) (e : off = ![j.val, 0, 0]) :
    ((Memref.whole main_arg3).slice (Rect.unit (s := S8x704x2048) off S1x704x2048.size h) (fun _ => rfl)).squeeze S704x2048 squeezes_S1x704x2048_S704x2048 = ablk j := by
  subst e; rfl

/-- What a device sends over each distance: the block of the device it goes to. -/
abbrev src (c : Dev nD) (k : Fin 8) : Memref sig .tc .hbm S704x2048 .bf16 := ablk (peer k c)
/-- Each copy has its block to itself. -/
abbrev qs (_ : Fin 8) : PosShare TreeShare := fullShare

/-- The units one block's transfer credits. -/
abbrev units : ℕ := (blk 0).view.dmaCredit
theorem units_pos : 0 < units := by decide
theorem credit {sp : Space} (b : Memref sig .tc sp S704x2048 .bf16) : b.view.dmaCredit = units := rfl

abbrev fm : Family 8 sig (Fin 15) := Direct.fam sem sem_inj units units_pos

/-- The argument of the exchange on a device, as each copy finds it. -/
abbrev args (A : ∀ c : Dev nD, Buf (Elt F) ((c.tc : Thread nD τ).loc main_arg3)) (c : Dev nD) (k : Fin 8) :
    Buf (Elt F) ((src c k).view.loc (c.tc : Thread nD τ)) := A c

theorem own_off (c : Dev nD) : k0_off1 c = ![c.val, 0, 0] := by revert c; decide
theorem own_off' (c : Dev nD) : k0_off4 c = ![c.val, 0, 0] := by revert c; decide
theorem send_off1 (c : Dev nD) : k0_off2 c 0#32 0#32 1#32 = ![(peer 1 c).val, 0, 0] := by revert c; decide
theorem send_off2 (c : Dev nD) : k0_off2 c 0#32 1#32 0#32 = ![(peer 2 c).val, 0, 0] := by revert c; decide
theorem send_off3 (c : Dev nD) : k0_off2 c 0#32 1#32 1#32 = ![(peer 3 c).val, 0, 0] := by revert c; decide
theorem send_off4 (c : Dev nD) : k0_off2 c 1#32 0#32 0#32 = ![(peer 4 c).val, 0, 0] := by revert c; decide
theorem send_off5 (c : Dev nD) : k0_off2 c 1#32 0#32 1#32 = ![(peer 5 c).val, 0, 0] := by revert c; decide
theorem send_off6 (c : Dev nD) : k0_off2 c 1#32 1#32 0#32 = ![(peer 6 c).val, 0, 0] := by revert c; decide
theorem send_off7 (c : Dev nD) : k0_off2 c 1#32 1#32 1#32 = ![(peer 7 c).val, 0, 0] := by revert c; decide
theorem dev1 (c : Dev nD) (h : k0_dev1 c < nD) : (⟨k0_dev1 c, h⟩ : Dev nD) = peer 1 c := by revert c; decide
theorem dev2 (c : Dev nD) (h : k0_dev2 c < nD) : (⟨k0_dev2 c, h⟩ : Dev nD) = peer 2 c := by revert c; decide
theorem dev3 (c : Dev nD) (h : k0_dev3 c < nD) : (⟨k0_dev3 c, h⟩ : Dev nD) = peer 3 c := by revert c; decide
theorem dev4 (c : Dev nD) (h : k0_dev4 c < nD) : (⟨k0_dev4 c, h⟩ : Dev nD) = peer 4 c := by revert c; decide
theorem dev5 (c : Dev nD) (h : k0_dev5 c < nD) : (⟨k0_dev5 c, h⟩ : Dev nD) = peer 5 c := by revert c; decide
theorem dev6 (c : Dev nD) (h : k0_dev6 c < nD) : (⟨k0_dev6 c, h⟩ : Dev nD) = peer 6 c := by revert c; decide
theorem dev7 (c : Dev nD) (h : k0_dev7 c < nD) : (⟨k0_dev7 c, h⟩ : Dev nD) = peer 7 c := by revert c; decide

theorem pure_bind' {α β : Type} (a : α) (k : α → Prog (TpuEff nD τ sig (Elt F) Λ₀ .tc) β) :
    (pure a : Prog (TpuEff nD τ sig (Elt F) Λ₀ .tc) α) >>= k = k a := Prog.bind_ret a k
theorem pure_ret {α : Type} (a : α) : (pure a : Prog (TpuEff nD τ sig (Elt F) Λ₀ .tc) α) = .ret a := rfl

/-- Whether a grid point is the first of its block of features. -/
abbrev fresh (i : grid0.Coords) : BitVec 1 := Scalar.cmpi .ne (Scalar.extui (Scalar.cmpi .eq (BitVec.ofNat 32 (i 1).val) 0#32) : BitVec 32) 0#32

section Run

variable (A : ∀ c : Dev nD, Buf (Elt F) ((c.tc : Thread nD τ).loc main_arg3))

/-- A device's part of the exchange when a grid point begins: all to start at the first, all under way after it. -/
def entry (i : grid0.Coords) (c : Dev nD) : sProp (M F) :=
  if k0_cond1 i = 1#1 then iprop((∃ κ, Direct.before sem sem_inj units units_pos ER src qs (args A) blk κ c) ∗ ∃ W, owes (c.tc : Thread nD τ) (debt fm Direct.recvs c) W)
  else iprop(Direct.flying sem sem_inj units units_pos ER src qs (args A) blk c ∗ ∃ W, owes (c.tc : Thread nD τ) 0 W)

/-- And when it ends: all under way, and after the last all done. -/
def depart (i : grid0.Coords) (c : Dev nD) : sProp (M F) :=
  if k0_cond4 i = 1#1 then iprop(Direct.after sem src qs (args A) blk c ∗ ∃ W, owes (c.tc : Thread nD τ) 0 W)
  else iprop(Direct.flying sem sem_inj units units_pos ER src qs (args A) blk c ∗ ∃ W, owes (c.tc : Thread nD τ) 0 W)

set_option maxHeartbeats 4000000 in
set_option maxRecDepth 65536 in
/-- One grid point: the exchange's part of it, the two sums started at the first tile of tokens and added to at every tile,
    and written out at the last. -/
theorem run_body (i : grid0.Coords) (c : Dev nD) (h12 : k0_cond1 i = 1#1 → fresh i = 1#1) (h23 : fresh i = 1#1 → ¬ k0_cond3 i = 1#1)
    (h43 : k0_cond4 i = 1#1 → k0_cond3 i = 1#1)
    (arg2 : Memref sig .tc .vmem S1024x2048 .bf16) (harg2 : arg2.IsWhole) (arg3 : Memref sig .tc .vmem S1x1024x704 .bf16) (harg3 : arg3.IsWhole) (arg4 : Memref sig .tc .vmem S1x1024x704 .bf16) (harg4 : arg4.IsWhole) (arg6 : Memref sig .tc .vmem S1x2048x704 .bf16) (harg6 : arg6.IsWhole) (arg7 : Memref sig .tc .vmem S1x2048x704 .bf16) (harg7 : arg7.IsWhole) (arg9 : Memref sig .tc .vmem S2048x704 .f32) (harg9 : arg9.IsWhole) (arg10 : Memref sig .tc .vmem S2048x704 .f32) (harg10 : arg10.IsWhole)
    (x2 : Vec F S1024x2048 .bf16) (x3 : Vec F S1x1024x704 .bf16) (x4 : Vec F S1x1024x704 .bf16) (x6 : Vec F S1x2048x704 .bf16) (x7 : Vec F S1x2048x704 .bf16) (x9 : Vec F S2048x704 .f32) (x10 : Vec F S2048x704 .f32) (Kt : PUnit → sProp (M F)) :
    iprop(entry A i c ∗ owns (c.tc : Thread nD τ) arg2 fullShare x2 ∗ owns (c.tc : Thread nD τ) arg3 fullShare x3 ∗ owns (c.tc : Thread nD τ) arg4 fullShare x4 ∗ owns (c.tc : Thread nD τ) arg6 fullShare x6 ∗ owns (c.tc : Thread nD τ) arg7 fullShare x7 ∗ owns (c.tc : Thread nD τ) arg9 fullShare x9 ∗ owns (c.tc : Thread nD τ) arg10 fullShare x10
        ∗ ((depart A i c ∗ owns (c.tc : Thread nD τ) arg2 fullShare x2 ∗ owns (c.tc : Thread nD τ) arg3 fullShare x3 ∗ owns (c.tc : Thread nD τ) arg4 fullShare x4 ∗ owns (c.tc : Thread nD τ) arg6 fullShare (if k0_cond3 i = 1#1 then k0_pay1 (k0_pay6 x2 (if fresh i = 1#1 then k0_pay3 else x9) x3) else x6) ∗ owns (c.tc : Thread nD τ) arg7 fullShare (if k0_cond3 i = 1#1 then k0_pay2 (k0_pay7 x2 (if fresh i = 1#1 then k0_pay4 else x10) x4) else x7) ∗ owns (c.tc : Thread nD τ) arg9 fullShare (k0_pay6 x2 (if fresh i = 1#1 then k0_pay3 else x9) x3) ∗ owns (c.tc : Thread nD τ) arg10 fullShare (k0_pay7 x2 (if fresh i = 1#1 then k0_pay4 else x10) x4)) -∗ Kt ⟨⟩))
      ⊢ wp frame (wpE (defs₀ (F := F)) 𝒱₀ (c.tc : Thread nD τ) none) Set.univ
    (cc0_ffn_wgrad_up (F := F) i arg2 harg2 arg3 harg3 arg4 harg4 (Memref.whole main_arg3) (Memref.isWhole_whole _) arg6 harg6 arg7 harg7
      (Memref.whole main_v1_2) (Memref.isWhole_whole _) arg9 harg9 arg10 harg10 cc0_scratch2 cc0_scratch3 cc0_scratch4) Kt := by
  unfold entry
  by_cases h2 : fresh i = 1#1
  · have h3 : ¬ k0_cond3 i = 1#1 := h23 h2
    have h4 : ¬ k0_cond4 i = 1#1 := fun h => h3 (h43 h)
    by_cases h1 : k0_cond1 i = 1#1
    · rw [if_pos h1]
      simp only [cc0_ffn_wgrad_up_eq_skeleton, cc0_ffn_wgrad_up_skel, k0_part18_eq_skeleton, k0_part18_skel, ↓dif_pos h1, ↓dif_pos h2, ↓dif_neg h3, ↓dif_neg h4, k0_part1_eq_skeleton, k0_part1_skel, k0_part2_eq_skeleton, k0_part2_skel, k0_part3_eq_skeleton, k0_part3_skel, k0_part4_eq_skeleton, k0_part4_skel, k0_part5_eq_skeleton, k0_part5_skel, k0_part6_eq_skeleton, k0_part6_skel, Prog.bind_lift, Prog.bind_op, Prog.bind_ret, Prog.bind_assoc, wp_deviceId, pure_bind', pure_ret]
      iintro ⟨He, H2, H3, H4, H6, H7, H9, H10, Hk⟩
      icases He with ⟨⟨%κ, Hb⟩, ⟨%W, HO⟩⟩
      unfold Direct.before
      icases Hb with ⟨#HK, Hp, Hd, Hown, Hc⟩
      iapply (Direct.keep sem sem_inj units units_pos ER src qs (args A) blk (defs₀ (F := F)) 𝒱₀ none c ((ablk_of _ _ (own_off c)).trans (congrArg ablk (peer_zero c).symm)) (blk_of _ _ (own_off c)) rfl rfl) $$ [Hown]
      · isplitr; · iexact HK
        iexact Hown
      iintro C14
      ihave HS := (Direct.sending_intro sem sem_inj units units_pos ER src qs (args A) blk c W) $$ [Hd HO]
      · isplitl [Hd] <;> iassumption
      iapply (Direct.post sem sem_inj units units_pos ER src qs (args A) blk (defs₀ (F := F)) 𝒱₀ none c 0 Finset.univ (by decide) (ablk_of _ _ (send_off1 c)) (blk_of _ _ (own_off c)) (dev1 c _) rfl rfl rfl) $$ [HS]
      · isplitr; · iexact HK
        iexact HS
      iintro HS
      iapply (Direct.post sem sem_inj units units_pos ER src qs (args A) blk (defs₀ (F := F)) 𝒱₀ none c 1 (Finset.univ.erase 0) (by decide) (ablk_of _ _ (send_off2 c)) (blk_of _ _ (own_off c)) (dev2 c _) rfl rfl rfl) $$ [HS]
      · isplitr; · iexact HK
        iexact HS
      iintro HS
      iapply (Direct.post sem sem_inj units units_pos ER src qs (args A) blk (defs₀ (F := F)) 𝒱₀ none c 2 ((Finset.univ.erase 0).erase 1) (by decide) (ablk_of _ _ (send_off3 c)) (blk_of _ _ (own_off c)) (dev3 c _) rfl rfl rfl) $$ [HS]
      · isplitr; · iexact HK
        iexact HS
      iintro HS
      iapply (Direct.post sem sem_inj units units_pos ER src qs (args A) blk (defs₀ (F := F)) 𝒱₀ none c 3 (((Finset.univ.erase 0).erase 1).erase 2) (by decide) (ablk_of _ _ (send_off4 c)) (blk_of _ _ (own_off c)) (dev4 c _) rfl rfl rfl) $$ [HS]
      · isplitr; · iexact HK
        iexact HS
      iintro HS
      iapply (Direct.post sem sem_inj units units_pos ER src qs (args A) blk (defs₀ (F := F)) 𝒱₀ none c 4 ((((Finset.univ.erase 0).erase 1).erase 2).erase 3) (by decide) (ablk_of _ _ (send_off5 c)) (blk_of _ _ (own_off c)) (dev5 c _) rfl rfl rfl) $$ [HS]
      · isplitr; · iexact HK
        iexact HS
      iintro HS
      iapply (Direct.post sem sem_inj units units_pos ER src qs (args A) blk (defs₀ (F := F)) 𝒱₀ none c 5 (((((Finset.univ.erase 0).erase 1).erase 2).erase 3).erase 4) (by decide) (ablk_of _ _ (send_off6 c)) (blk_of _ _ (own_off c)) (dev6 c _) rfl rfl rfl) $$ [HS]
      · isplitr; · iexact HK
        iexact HS
      iintro HS
      iapply (Direct.post sem sem_inj units units_pos ER src qs (args A) blk (defs₀ (F := F)) 𝒱₀ none c 6 ((((((Finset.univ.erase 0).erase 1).erase 2).erase 3).erase 4).erase 5) (by decide) (ablk_of _ _ (send_off7 c)) (blk_of _ _ (own_off c)) (dev7 c _) rfl rfl rfl) $$ [HS]
      · isplitr; · iexact HK
        iexact HS
      iintro HS
      rw [show (((((((Finset.univ.erase 0).erase 1).erase 2).erase 3).erase 4).erase 5).erase 6) = (∅ : Finset (Fin 7)) from by decide]
      ihave H := (Direct.flying_intro sem sem_inj units units_pos ER src qs (args A) blk c W) $$ [Hp Hc C14 HS]
      · isplitr; · iexact HK
        isplitl [Hp]; · iexact Hp
        isplitl [Hc]; · iexact Hc
        isplitl [C14]; · iexact C14
        iexact HS
      ihave He := (show _ ⊢ (iprop(Direct.flying sem sem_inj units units_pos ER src qs (args A) blk c ∗ ∃ W, owes (c.tc : Thread nD τ) 0 W) : sProp (M F)) from sep_mono_right (exists_intro W)) $$ H
      iapply (load_whole (defs₀ (F := F)) 𝒱₀ none c arg9 fullShare x9) $$ H9
      iintro H9
      iapply (store_whole (defs₀ (F := F)) 𝒱₀ none c arg9 x9 k0_pay3) $$ H9
      iintro H9
      iapply (load_whole (defs₀ (F := F)) 𝒱₀ none c arg10 fullShare x10) $$ H10
      iintro H10
      iapply (store_whole (defs₀ (F := F)) 𝒱₀ none c arg10 x10 k0_pay4) $$ H10
      iintro H10
      iapply (load_whole (defs₀ (F := F)) 𝒱₀ none c arg2 fullShare x2) $$ H2
      iintro H2
      iapply (load_whole (defs₀ (F := F)) 𝒱₀ none c arg9 fullShare k0_pay3) $$ H9
      iintro H9
      iapply (load_whole (defs₀ (F := F)) 𝒱₀ none c arg3 fullShare x3) $$ H3
      iintro H3
      iapply (load_whole (defs₀ (F := F)) 𝒱₀ none c arg9 fullShare k0_pay3) $$ H9
      iintro H9
      iapply (store_whole (defs₀ (F := F)) 𝒱₀ none c arg9 k0_pay3 (k0_pay6 x2 k0_pay3 x3)) $$ H9
      iintro H9
      iapply (load_whole (defs₀ (F := F)) 𝒱₀ none c arg10 fullShare k0_pay4) $$ H10
      iintro H10
      iapply (load_whole (defs₀ (F := F)) 𝒱₀ none c arg4 fullShare x4) $$ H4
      iintro H4
      iapply (load_whole (defs₀ (F := F)) 𝒱₀ none c arg10 fullShare k0_pay4) $$ H10
      iintro H10
      iapply (store_whole (defs₀ (F := F)) 𝒱₀ none c arg10 k0_pay4 (k0_pay7 x2 k0_pay4 x4)) $$ H10
      iintro H10
      rw [wp_ret]
      imodintro
      unfold depart
      rw [if_neg h4]
      iapply Hk
      isplitl [He]; · iexact He
      isplitl [H2]; · iexact H2
      isplitl [H3]; · iexact H3
      isplitl [H4]; · iexact H4
      isplitl [H6]; · rw [if_neg h3]; iexact H6
      isplitl [H7]; · rw [if_neg h3]; iexact H7
      isplitl [H9]; · rw [if_pos h2]; iexact H9
      rw [if_pos h2]
      iexact H10
    · rw [if_neg h1]
      simp only [cc0_ffn_wgrad_up_eq_skeleton, cc0_ffn_wgrad_up_skel, k0_part18_eq_skeleton, k0_part18_skel, ↓dif_neg h1, ↓dif_pos h2, ↓dif_neg h3, ↓dif_neg h4, Prog.bind_lift, Prog.bind_op, Prog.bind_ret, Prog.bind_assoc, wp_deviceId, pure_bind', pure_ret]
      iintro ⟨He, H2, H3, H4, H6, H7, H9, H10, Hk⟩
      iapply (load_whole (defs₀ (F := F)) 𝒱₀ none c arg9 fullShare x9) $$ H9
      iintro H9
      iapply (store_whole (defs₀ (F := F)) 𝒱₀ none c arg9 x9 k0_pay3) $$ H9
      iintro H9
      iapply (load_whole (defs₀ (F := F)) 𝒱₀ none c arg10 fullShare x10) $$ H10
      iintro H10
      iapply (store_whole (defs₀ (F := F)) 𝒱₀ none c arg10 x10 k0_pay4) $$ H10
      iintro H10
      iapply (load_whole (defs₀ (F := F)) 𝒱₀ none c arg2 fullShare x2) $$ H2
      iintro H2
      iapply (load_whole (defs₀ (F := F)) 𝒱₀ none c arg9 fullShare k0_pay3) $$ H9
      iintro H9
      iapply (load_whole (defs₀ (F := F)) 𝒱₀ none c arg3 fullShare x3) $$ H3
      iintro H3
      iapply (load_whole (defs₀ (F := F)) 𝒱₀ none c arg9 fullShare k0_pay3) $$ H9
      iintro H9
      iapply (store_whole (defs₀ (F := F)) 𝒱₀ none c arg9 k0_pay3 (k0_pay6 x2 k0_pay3 x3)) $$ H9
      iintro H9
      iapply (load_whole (defs₀ (F := F)) 𝒱₀ none c arg10 fullShare k0_pay4) $$ H10
      iintro H10
      iapply (load_whole (defs₀ (F := F)) 𝒱₀ none c arg4 fullShare x4) $$ H4
      iintro H4
      iapply (load_whole (defs₀ (F := F)) 𝒱₀ none c arg10 fullShare k0_pay4) $$ H10
      iintro H10
      iapply (store_whole (defs₀ (F := F)) 𝒱₀ none c arg10 k0_pay4 (k0_pay7 x2 k0_pay4 x4)) $$ H10
      iintro H10
      rw [wp_ret]
      imodintro
      unfold depart
      rw [if_neg h4]
      iapply Hk
      isplitl [He]; · iexact He
      isplitl [H2]; · iexact H2
      isplitl [H3]; · iexact H3
      isplitl [H4]; · iexact H4
      isplitl [H6]; · rw [if_neg h3]; iexact H6
      isplitl [H7]; · rw [if_neg h3]; iexact H7
      isplitl [H9]; · rw [if_pos h2]; iexact H9
      rw [if_pos h2]
      iexact H10
  · have h1 : ¬ k0_cond1 i = 1#1 := fun h => h2 (h12 h)
    rw [if_neg h1]
    by_cases h3 : k0_cond3 i = 1#1
    · by_cases h4 : k0_cond4 i = 1#1
      · simp only [cc0_ffn_wgrad_up_eq_skeleton, cc0_ffn_wgrad_up_skel, k0_part18_eq_skeleton, k0_part18_skel, ↓dif_neg h1, ↓dif_neg h2, ↓dif_pos h3, ↓dif_pos h4, k0_part7_eq_skeleton, k0_part7_skel, k0_part8_eq_skeleton, k0_part8_skel, k0_part9_eq_skeleton, k0_part9_skel, k0_part10_eq_skeleton, k0_part10_skel, k0_part11_eq_skeleton, k0_part11_skel, k0_part12_eq_skeleton, k0_part12_skel, k0_part13_eq_skeleton, k0_part13_skel, k0_part14_eq_skeleton, k0_part14_skel, k0_part15_eq_skeleton, k0_part15_skel, k0_part16_eq_skeleton, k0_part16_skel, k0_part17_eq_skeleton, k0_part17_skel, Prog.bind_lift, Prog.bind_op, Prog.bind_ret, Prog.bind_assoc, wp_deviceId, pure_bind', pure_ret]
        iintro ⟨He, H2, H3, H4, H6, H7, H9, H10, Hk⟩
        iapply (load_whole (defs₀ (F := F)) 𝒱₀ none c arg2 fullShare x2) $$ H2
        iintro H2
        iapply (load_whole (defs₀ (F := F)) 𝒱₀ none c arg9 fullShare x9) $$ H9
        iintro H9
        iapply (load_whole (defs₀ (F := F)) 𝒱₀ none c arg3 fullShare x3) $$ H3
        iintro H3
        iapply (load_whole (defs₀ (F := F)) 𝒱₀ none c arg9 fullShare x9) $$ H9
        iintro H9
        iapply (store_whole (defs₀ (F := F)) 𝒱₀ none c arg9 x9 (k0_pay6 x2 x9 x3)) $$ H9
        iintro H9
        iapply (load_whole (defs₀ (F := F)) 𝒱₀ none c arg10 fullShare x10) $$ H10
        iintro H10
        iapply (load_whole (defs₀ (F := F)) 𝒱₀ none c arg4 fullShare x4) $$ H4
        iintro H4
        iapply (load_whole (defs₀ (F := F)) 𝒱₀ none c arg10 fullShare x10) $$ H10
        iintro H10
        iapply (store_whole (defs₀ (F := F)) 𝒱₀ none c arg10 x10 (k0_pay7 x2 x10 x4)) $$ H10
        iintro H10
        iapply (load_whole (defs₀ (F := F)) 𝒱₀ none c arg9 fullShare (k0_pay6 x2 x9 x3)) $$ H9
        iintro H9
        iapply (load_whole (defs₀ (F := F)) 𝒱₀ none c arg6 fullShare x6) $$ H6
        iintro H6
        iapply (store_whole (defs₀ (F := F)) 𝒱₀ none c arg6 x6 (k0_pay1 (k0_pay6 x2 x9 x3))) $$ H6
        iintro H6
        iapply (load_whole (defs₀ (F := F)) 𝒱₀ none c arg10 fullShare (k0_pay7 x2 x10 x4)) $$ H10
        iintro H10
        iapply (load_whole (defs₀ (F := F)) 𝒱₀ none c arg7 fullShare x7) $$ H7
        iintro H7
        iapply (store_whole (defs₀ (F := F)) 𝒱₀ none c arg7 x7 (k0_pay2 (k0_pay7 x2 x10 x4))) $$ H7
        iintro H7
        iapply (wp_wand frame (wpE (defs₀ (F := F)) 𝒱₀ (c.tc : Thread nD τ) none) Set.univ (Q := fun _ => depart A i c)) $$ [He]
        · unfold depart
          rw [if_pos h4]
          simp only [wp_deviceId]
          irevert He
          unfold Direct.flying
          iintro ⟨⟨⟨%κ, #HK⟩, Ho⟩, HO⟩
          ihave HL := (Direct.landing_intro sem sem_inj units units_pos ER src qs (args A) blk c) $$ [Ho HO]
          · isplitl [Ho] <;> iassumption
          iapply (Direct.wait sem sem_inj units units_pos ER src qs (args A) blk (defs₀ (F := F)) 𝒱₀ none c 7 Finset.univ (by decide) rfl (credit _)) $$ [HL]
          · isplitr; · iexact HK
            iexact HL
          iintro HL
          iapply (Direct.wait sem sem_inj units units_pos ER src qs (args A) blk (defs₀ (F := F)) 𝒱₀ none c 8 (Finset.univ.erase 7) (by decide) rfl (credit _)) $$ [HL]
          · isplitr; · iexact HK
            iexact HL
          iintro HL
          iapply (Direct.wait sem sem_inj units units_pos ER src qs (args A) blk (defs₀ (F := F)) 𝒱₀ none c 9 ((Finset.univ.erase 7).erase 8) (by decide) rfl (credit _)) $$ [HL]
          · isplitr; · iexact HK
            iexact HL
          iintro HL
          iapply (Direct.wait sem sem_inj units units_pos ER src qs (args A) blk (defs₀ (F := F)) 𝒱₀ none c 10 (((Finset.univ.erase 7).erase 8).erase 9) (by decide) rfl (credit _)) $$ [HL]
          · isplitr; · iexact HK
            iexact HL
          iintro HL
          iapply (Direct.wait sem sem_inj units units_pos ER src qs (args A) blk (defs₀ (F := F)) 𝒱₀ none c 11 ((((Finset.univ.erase 7).erase 8).erase 9).erase 10) (by decide) rfl (credit _)) $$ [HL]
          · isplitr; · iexact HK
            iexact HL
          iintro HL
          iapply (Direct.wait sem sem_inj units units_pos ER src qs (args A) blk (defs₀ (F := F)) 𝒱₀ none c 12 (((((Finset.univ.erase 7).erase 8).erase 9).erase 10).erase 11) (by decide) rfl (credit _)) $$ [HL]
          · isplitr; · iexact HK
            iexact HL
          iintro HL
          iapply (Direct.wait sem sem_inj units units_pos ER src qs (args A) blk (defs₀ (F := F)) 𝒱₀ none c 13 ((((((Finset.univ.erase 7).erase 8).erase 9).erase 10).erase 11).erase 12) (by decide) rfl (credit _)) $$ [HL]
          · isplitr; · iexact HK
            iexact HL
          iintro HL
          iapply (Direct.wait sem sem_inj units units_pos ER src qs (args A) blk (defs₀ (F := F)) 𝒱₀ none c 0 (((((((Finset.univ.erase 7).erase 8).erase 9).erase 10).erase 11).erase 12).erase 13) (by decide) rfl (credit _)) $$ [HL]
          · isplitr; · iexact HK
            iexact HL
          iintro HL
          iapply (Direct.wait sem sem_inj units units_pos ER src qs (args A) blk (defs₀ (F := F)) 𝒱₀ none c 1 ((((((((Finset.univ.erase 7).erase 8).erase 9).erase 10).erase 11).erase 12).erase 13).erase 0) (by decide) rfl (credit _)) $$ [HL]
          · isplitr; · iexact HK
            iexact HL
          iintro HL
          iapply (Direct.wait sem sem_inj units units_pos ER src qs (args A) blk (defs₀ (F := F)) 𝒱₀ none c 2 (((((((((Finset.univ.erase 7).erase 8).erase 9).erase 10).erase 11).erase 12).erase 13).erase 0).erase 1) (by decide) rfl (credit _)) $$ [HL]
          · isplitr; · iexact HK
            iexact HL
          iintro HL
          iapply (Direct.wait sem sem_inj units units_pos ER src qs (args A) blk (defs₀ (F := F)) 𝒱₀ none c 3 ((((((((((Finset.univ.erase 7).erase 8).erase 9).erase 10).erase 11).erase 12).erase 13).erase 0).erase 1).erase 2) (by decide) rfl (credit _)) $$ [HL]
          · isplitr; · iexact HK
            iexact HL
          iintro HL
          iapply (Direct.wait sem sem_inj units units_pos ER src qs (args A) blk (defs₀ (F := F)) 𝒱₀ none c 4 (((((((((((Finset.univ.erase 7).erase 8).erase 9).erase 10).erase 11).erase 12).erase 13).erase 0).erase 1).erase 2).erase 3) (by decide) rfl (credit _)) $$ [HL]
          · isplitr; · iexact HK
            iexact HL
          iintro HL
          iapply (Direct.wait sem sem_inj units units_pos ER src qs (args A) blk (defs₀ (F := F)) 𝒱₀ none c 5 ((((((((((((Finset.univ.erase 7).erase 8).erase 9).erase 10).erase 11).erase 12).erase 13).erase 0).erase 1).erase 2).erase 3).erase 4) (by decide) rfl (credit _)) $$ [HL]
          · isplitr; · iexact HK
            iexact HL
          iintro HL
          iapply (Direct.wait sem sem_inj units units_pos ER src qs (args A) blk (defs₀ (F := F)) 𝒱₀ none c 6 (((((((((((((Finset.univ.erase 7).erase 8).erase 9).erase 10).erase 11).erase 12).erase 13).erase 0).erase 1).erase 2).erase 3).erase 4).erase 5) (by decide) rfl (credit _)) $$ [HL]
          · isplitr; · iexact HK
            iexact HL
          iintro HL
          iapply (Direct.wait sem sem_inj units units_pos ER src qs (args A) blk (defs₀ (F := F)) 𝒱₀ none c 14 ((((((((((((((Finset.univ.erase 7).erase 8).erase 9).erase 10).erase 11).erase 12).erase 13).erase 0).erase 1).erase 2).erase 3).erase 4).erase 5).erase 6) (by decide) rfl (credit _)) $$ [HL]
          · isplitr; · iexact HK
            iexact HL
          iintro HL
          rw [show (((((((((((((((Finset.univ.erase 7).erase 8).erase 9).erase 10).erase 11).erase 12).erase 13).erase 0).erase 1).erase 2).erase 3).erase 4).erase 5).erase 6).erase 14) = (∅ : Finset (Fin 15)) from by decide]
          rw [wp_ret]
          iapply (Direct.after_intro sem sem_inj units units_pos ER src qs (args A) blk c)
          isplitr; · iexact HK
          iexact HL
        iintro %_ He
        iapply Hk
        isplitl [He]; · iexact He
        isplitl [H2]; · iexact H2
        isplitl [H3]; · iexact H3
        isplitl [H4]; · iexact H4
        isplitl [H6]; · rw [if_pos h3, if_neg h2]; iexact H6
        isplitl [H7]; · rw [if_pos h3, if_neg h2]; iexact H7
        isplitl [H9]; · rw [if_neg h2]; iexact H9
        rw [if_neg h2]
        iexact H10
      · simp only [cc0_ffn_wgrad_up_eq_skeleton, cc0_ffn_wgrad_up_skel, k0_part18_eq_skeleton, k0_part18_skel, ↓dif_neg h1, ↓dif_neg h2, ↓dif_pos h3, ↓dif_neg h4, Prog.bind_lift, Prog.bind_op, Prog.bind_ret, Prog.bind_assoc, wp_deviceId, pure_bind', pure_ret]
        iintro ⟨He, H2, H3, H4, H6, H7, H9, H10, Hk⟩
        iapply (load_whole (defs₀ (F := F)) 𝒱₀ none c arg2 fullShare x2) $$ H2
        iintro H2
        iapply (load_whole (defs₀ (F := F)) 𝒱₀ none c arg9 fullShare x9) $$ H9
        iintro H9
        iapply (load_whole (defs₀ (F := F)) 𝒱₀ none c arg3 fullShare x3) $$ H3
        iintro H3
        iapply (load_whole (defs₀ (F := F)) 𝒱₀ none c arg9 fullShare x9) $$ H9
        iintro H9
        iapply (store_whole (defs₀ (F := F)) 𝒱₀ none c arg9 x9 (k0_pay6 x2 x9 x3)) $$ H9
        iintro H9
        iapply (load_whole (defs₀ (F := F)) 𝒱₀ none c arg10 fullShare x10) $$ H10
        iintro H10
        iapply (load_whole (defs₀ (F := F)) 𝒱₀ none c arg4 fullShare x4) $$ H4
        iintro H4
        iapply (load_whole (defs₀ (F := F)) 𝒱₀ none c arg10 fullShare x10) $$ H10
        iintro H10
        iapply (store_whole (defs₀ (F := F)) 𝒱₀ none c arg10 x10 (k0_pay7 x2 x10 x4)) $$ H10
        iintro H10
        iapply (load_whole (defs₀ (F := F)) 𝒱₀ none c arg9 fullShare (k0_pay6 x2 x9 x3)) $$ H9
        iintro H9
        iapply (load_whole (defs₀ (F := F)) 𝒱₀ none c arg6 fullShare x6) $$ H6
        iintro H6
        iapply (store_whole (defs₀ (F := F)) 𝒱₀ none c arg6 x6 (k0_pay1 (k0_pay6 x2 x9 x3))) $$ H6
        iintro H6
        iapply (load_whole (defs₀ (F := F)) 𝒱₀ none c arg10 fullShare (k0_pay7 x2 x10 x4)) $$ H10
        iintro H10
        iapply (load_whole (defs₀ (F := F)) 𝒱₀ none c arg7 fullShare x7) $$ H7
        iintro H7
        iapply (store_whole (defs₀ (F := F)) 𝒱₀ none c arg7 x7 (k0_pay2 (k0_pay7 x2 x10 x4))) $$ H7
        iintro H7
        rw [wp_ret]
        imodintro
        unfold depart
        rw [if_neg h4]
        iapply Hk
        isplitl [He]; · iexact He
        isplitl [H2]; · iexact H2
        isplitl [H3]; · iexact H3
        isplitl [H4]; · iexact H4
        isplitl [H6]; · rw [if_pos h3, if_neg h2]; iexact H6
        isplitl [H7]; · rw [if_pos h3, if_neg h2]; iexact H7
        isplitl [H9]; · rw [if_neg h2]; iexact H9
        rw [if_neg h2]
        iexact H10
    · have h4 : ¬ k0_cond4 i = 1#1 := fun h => h3 (h43 h)
      simp only [cc0_ffn_wgrad_up_eq_skeleton, cc0_ffn_wgrad_up_skel, k0_part18_eq_skeleton, k0_part18_skel, ↓dif_neg h1, ↓dif_neg h2, ↓dif_neg h3, ↓dif_neg h4, Prog.bind_lift, Prog.bind_op, Prog.bind_ret, Prog.bind_assoc, wp_deviceId, pure_bind', pure_ret]
      iintro ⟨He, H2, H3, H4, H6, H7, H9, H10, Hk⟩
      iapply (load_whole (defs₀ (F := F)) 𝒱₀ none c arg2 fullShare x2) $$ H2
      iintro H2
      iapply (load_whole (defs₀ (F := F)) 𝒱₀ none c arg9 fullShare x9) $$ H9
      iintro H9
      iapply (load_whole (defs₀ (F := F)) 𝒱₀ none c arg3 fullShare x3) $$ H3
      iintro H3
      iapply (load_whole (defs₀ (F := F)) 𝒱₀ none c arg9 fullShare x9) $$ H9
      iintro H9
      iapply (store_whole (defs₀ (F := F)) 𝒱₀ none c arg9 x9 (k0_pay6 x2 x9 x3)) $$ H9
      iintro H9
      iapply (load_whole (defs₀ (F := F)) 𝒱₀ none c arg10 fullShare x10) $$ H10
      iintro H10
      iapply (load_whole (defs₀ (F := F)) 𝒱₀ none c arg4 fullShare x4) $$ H4
      iintro H4
      iapply (load_whole (defs₀ (F := F)) 𝒱₀ none c arg10 fullShare x10) $$ H10
      iintro H10
      iapply (store_whole (defs₀ (F := F)) 𝒱₀ none c arg10 x10 (k0_pay7 x2 x10 x4)) $$ H10
      iintro H10
      rw [wp_ret]
      imodintro
      unfold depart
      rw [if_neg h4]
      iapply Hk
      isplitl [He]; · iexact He
      isplitl [H2]; · iexact H2
      isplitl [H3]; · iexact H3
      isplitl [H4]; · iexact H4
      isplitl [H6]; · rw [if_neg h3]; iexact H6
      isplitl [H7]; · rw [if_neg h3]; iexact H7
      isplitl [H9]; · rw [if_neg h2]; iexact H9
      rw [if_neg h2]
      iexact H10

end Run

end WgradUp

end
-- ==== Proof.WgradUpLaunch.lean ====
/-
  The up- and gate-weights' gradients with the exchange of the down-projection weight's gradient on all devices: the launch, and what
  memory holds at the end.
-/
module

public import proofs.«01_k».proof.Proof.WgradUpRun
public import proofs.«01_k».proof.Proof.Launch

@[expose] public section

set_option Elab.async false

noncomputable section

namespace WgradUp

open Idealize.ShloMosaic
open Idealize.ShloMosaic.TcCoe
open Idealize.ShloMosaic.Rounds
open Idealize.SL Idealize.SL.RA Idealize.SL.BI
open scoped Idealize.SL.BI
open Idealize.SL.BI.BIBase Idealize.SL.BI.Laws Idealize.SL.ProofMode Idealize.SL.Sem
open Cert.WgradUpIdeal Cert.WgradUpIdeal.Gen
open Exchange
open Idealize.ShloMosaic.Pipeline

variable {F : FTy → Type} [FloatOps F]

omit [FloatOps F] in
/-- The exchange's argument is what its copies read. -/
theorem lend (A : ∀ c : Dev nD, Buf (Elt F) ((c.tc : Thread nD τ).loc main_arg3)) (c : Dev nD) :
    ((c.tc : Thread nD τ).loc main_arg3 ↦{fullShare} A c : sProp (M F)) = bigSep Finset.univ fun k => Direct.lent src qs (args A) c k := by
  rw [pieces main_arg3 rect (fun _ _ => rfl) (fun _ => squeezes_S1x704x2048_S704x2048) rect_disjoint rect_cover c (A c), bigSep_univ_equiv (swapAt c)]
  rfl

omit [FloatOps F] in
/-- The exchange's result, whole, is room for every block. -/
theorem rooms (c : Dev nD) (f : Buf (Elt F) ((c.tc : Thread nD τ).loc main_v1_2)) :
    ((c.tc : Thread nD τ).loc main_v1_2 ↦{fullShare} f : sProp (M F)) ⊢ bigSep Finset.univ fun k : Fin 15 => Direct.space blk c k :=
  (room_pieces main_v1_2 rect (fun _ _ => rfl) (fun _ => squeezes_S1x704x2048_S704x2048) rect_disjoint rect_cover c f).trans (Direct.spaces blk c)

/-- The landed blocks are the exchange's result, whole. -/
theorem join_landed (A : ∀ c : Dev nD, Buf (Elt F) ((c.tc : Thread nD τ).loc main_arg3)) (c : Dev nD) :
    (bigSep Finset.univ fun j => Direct.landed src (args A) blk c j)
      ⊢ (iprop(∃ f : Buf (Elt F) ((c.tc : Thread nD τ).loc main_v1_2), ⌜∀ j, (blk j).view.read (Elt F) f = Direct.val src (args A) c j⌝
          ∗ (c.tc : Thread nD τ).loc main_v1_2 ↦{fullShare} f) : sProp (M F)) :=
  join_pieces main_v1_2 rect (fun _ _ => rfl) (fun _ => squeezes_S1x704x2048_S704x2048) rect_disjoint rect_cover c _

/-! ## The region's data -/

section Launch

variable (m : (ℓ : Loc nD τ sig) → Buf (Elt F) ℓ) (ρ : Dev nD → PrngReg)

/-- The exchange's argument at launch. -/
def arg (c : Dev nD) : Buf (Elt F) ((c.tc : Thread nD τ).loc main_arg3) := m ((c.tc : Thread nD τ).loc main_arg3)

/-- The exchange before grid point `n`. -/
def state (n : ℕ) (c : Dev nD) : sProp (M F) :=
  if n = 0 then iprop(∃ κ, Direct.before sem sem_inj units units_pos ER src qs (args (arg m)) blk κ c)
  else if n = 64 then Direct.after sem src qs (args (arg m)) blk c
  else Direct.flying sem sem_inj units units_pos ER src qs (args (arg m)) blk c

/-- What a device owes before grid point `n`. -/
def debts (n : ℕ) (c : Dev nD) : CellTallies nD τ sig Unit := if n = 0 then debt fm Direct.recvs c else 0

theorem first (t : Fin cfg0.N) : k0_cond1 (grid0.coords t) = 1#1 ↔ t.val = 0 := by
  revert t; decide +kernel
theorem last (t : Fin cfg0.N) : k0_cond4 (grid0.coords t) = 1#1 ↔ t.val + 1 = 64 := by
  revert t; decide +kernel

theorem enter_point (t : Fin cfg0.N) (c : Dev nD) :
    iprop(state m t.val c ∗ ∃ W, owes (c.tc : Thread nD τ) (debts t.val c) W) ⊢ entry (arg m) (grid0.coords t) c := by
  have hN : t.val < 64 := t.isLt
  unfold entry state debts
  by_cases h : t.val = 0
  · rw [if_pos h, if_pos h, if_pos ((first t).mpr h)]
  · rw [if_neg h, if_neg h, if_neg (fun e => h ((first t).mp e)), if_neg (by omega)]

theorem leave_point (t : Fin cfg0.N) (c : Dev nD) :
    depart (arg m) (grid0.coords t) c ⊢ iprop(state m (t.val + 1) c ∗ ∃ W, owes (c.tc : Thread nD τ) (debts (t.val + 1) c) W) := by
  unfold depart state debts
  rw [if_neg (Nat.succ_ne_zero _), if_neg (Nat.succ_ne_zero _)]
  by_cases h : t.val + 1 = 64
  · rw [if_pos h, if_pos ((last t).mpr h)]
  · rw [if_neg h, if_neg (fun e => h ((last t).mp e))]

/-- The gate weight's gradient after a grid point, before its rounding: started anew at the first tile of tokens, added to at every tile. -/
def gateSum (c : Dev nD) : (n : ℕ) → n < 64 → Vec F S2048x704 .f32
  | 0, h => k0_pay6 (iblk m c 0 ⟨0, h⟩) k0_pay3 (iblk m c 1 ⟨0, h⟩)
  | n + 1, h => k0_pay6 (iblk m c 0 ⟨n + 1, h⟩) (if fresh (grid0.coords ⟨n + 1, h⟩) = 1#1 then k0_pay3 else gateSum c n (Nat.lt_of_succ_lt h)) (iblk m c 1 ⟨n + 1, h⟩)

/-- The up-projection weight's gradient after a grid point, before its rounding: started anew at the first tile of tokens, added to at every tile. -/
def upSum (c : Dev nD) : (n : ℕ) → n < 64 → Vec F S2048x704 .f32
  | 0, h => k0_pay7 (iblk m c 0 ⟨0, h⟩) k0_pay4 (iblk m c 2 ⟨0, h⟩)
  | n + 1, h => k0_pay7 (iblk m c 0 ⟨n + 1, h⟩) (if fresh (grid0.coords ⟨n + 1, h⟩) = 1#1 then k0_pay4 else upSum c n (Nat.lt_of_succ_lt h)) (iblk m c 2 ⟨n + 1, h⟩)

theorem starts (t : Fin cfg0.N) : fresh (grid0.coords t) = 1#1 ↔ t.val % 8 = 0 := by
  revert t; decide +kernel
theorem writes (t : Fin cfg0.N) : k0_cond3 (grid0.coords t) = 1#1 ↔ t.val % 8 = 7 := by
  revert t; decide +kernel

theorem first_starts (t : Fin cfg0.N) (h : k0_cond1 (grid0.coords t) = 1#1) : fresh (grid0.coords t) = 1#1 :=
  (starts t).mpr (by rw [(first t).mp h])
theorem start_keeps (t : Fin cfg0.N) (h : fresh (grid0.coords t) = 1#1) : ¬ k0_cond3 (grid0.coords t) = 1#1 := fun e => by
  have h1 := (starts t).mp h
  have h2 := (writes t).mp e
  omega
theorem last_writes (t : Fin cfg0.N) (h : k0_cond4 (grid0.coords t) = 1#1) : k0_cond3 (grid0.coords t) = 1#1 :=
  (writes t).mpr (by have := (last t).mp h; omega)

/-- The two sums' buffers before grid point `n`: within a block of features, the sums so far. -/
def scratch (n : ℕ) (c : Dev nD) : sProp (M F) :=
  iprop(∃ (x9 x10 : Vec F S2048x704 .f32), ⌜¬ n % 8 = 0 → ∀ h : n - 1 < 64, x9 = gateSum m c (n - 1) h ∧ x10 = upSum m c (n - 1) h⌝
    ∗ owns (c.tc : Thread nD τ) (Memref.whole cc0_scratch0) fullShare x9 ∗ owns (c.tc : Thread nD τ) (Memref.whole cc0_scratch1) fullShare x10)

theorem scratch_intro (c : Dev nD) : (scopedRest cfg0.spec c : sProp (M F)) ⊢ scratch m 0 c := by
  rw [scopedRest0_eq]
  unfold scratch
  iintro ⟨⟨%f, Hf⟩, ⟨%g, Hg⟩⟩
  iexists f, g
  isplitr; · ipureintro; exact fun h => absurd rfl h
  isplitl [Hf]
  · iapply (Entails.of_eq (owns_whole (c.tc : Thread nD τ) cc0_scratch0 fullShare f).symm); iexact Hf
  · iapply (Entails.of_eq (owns_whole (c.tc : Thread nD τ) cc0_scratch1 fullShare g).symm); iexact Hg

theorem scratch_elim (c : Dev nD) : scratch m 64 c ⊢ (scopedRest cfg0.spec c : sProp (M F)) := by
  rw [scopedRest0_eq]
  unfold scratch
  iintro ⟨%f, %g, -, Hf, Hg⟩
  isplitl [Hf]
  · iexists f
    iapply (Entails.of_eq (owns_whole (c.tc : Thread nD τ) cc0_scratch0 fullShare f)); iexact Hf
  · iexists g
    iapply (Entails.of_eq (owns_whole (c.tc : Thread nD τ) cc0_scratch1 fullShare g)); iexact Hg

theorem gateSum_next (c : Dev nD) (t : Fin cfg0.N) (x : Vec F S2048x704 .f32) (hx : ¬ t.val % 8 = 0 → ∀ h : t.val - 1 < 64, x = gateSum m c (t.val - 1) h) :
    k0_pay6 (iblk m c 0 t) (if fresh (grid0.coords t) = 1#1 then k0_pay3 else x) (iblk m c 1 t) = gateSum m c t.val t.isLt := by
  obtain ⟨n, hn⟩ := t
  cases n with
  | zero => rw [if_pos ((starts _).mpr rfl)]; rfl
  | succ n =>
    by_cases h : fresh (grid0.coords ⟨n + 1, hn⟩) = 1#1
    · rw [if_pos h]
      show _ = k0_pay6 _ (if fresh (grid0.coords ⟨n + 1, hn⟩) = 1#1 then k0_pay3 else _) _
      rw [if_pos h]
    · rw [if_neg h, hx (fun e => h ((starts _).mpr e)) (Nat.lt_of_succ_lt hn)]
      show _ = k0_pay6 _ (if fresh (grid0.coords ⟨n + 1, hn⟩) = 1#1 then k0_pay3 else _) _
      rw [if_neg h]
      rfl

theorem upSum_next (c : Dev nD) (t : Fin cfg0.N) (x : Vec F S2048x704 .f32) (hx : ¬ t.val % 8 = 0 → ∀ h : t.val - 1 < 64, x = upSum m c (t.val - 1) h) :
    k0_pay7 (iblk m c 0 t) (if fresh (grid0.coords t) = 1#1 then k0_pay4 else x) (iblk m c 2 t) = upSum m c t.val t.isLt := by
  obtain ⟨n, hn⟩ := t
  cases n with
  | zero => rw [if_pos ((starts _).mpr rfl)]; rfl
  | succ n =>
    by_cases h : fresh (grid0.coords ⟨n + 1, hn⟩) = 1#1
    · rw [if_pos h]
      show _ = k0_pay7 _ (if fresh (grid0.coords ⟨n + 1, hn⟩) = 1#1 then k0_pay4 else _) _
      rw [if_pos h]
    · rw [if_neg h, hx (fun e => h ((starts _).mpr e)) (Nat.lt_of_succ_lt hn)]
      show _ = k0_pay7 _ (if fresh (grid0.coords ⟨n + 1, hn⟩) = 1#1 then k0_pay4 else _) _
      rw [if_neg h]
      rfl

def dats (_ : Fin 1) (c : Dev nD) : Dat τ (Elt F) Unit ℕ UU ℕ cfg0 c where
  A w := m ((cfg0.win w).arr.view.loc (c.tc : Thread nD τ))
  after w t := match w with
    | 0 => iblk m c 0 t
    | 1 => iblk m c 1 t
    | 2 => iblk m c 2 t
    | 3 => k0_pay1 (gateSum m c t.val t.isLt)
    | 4 => k0_pay2 (upSum m c t.val t.isLt)
    | ⟨_ + 5, h⟩ => absurd h (Nat.not_lt.2 (Nat.le_add_left _ _))
  Φ t := iprop(state m t.val c ∗ scratch m t.val c)
  q _ := fullShare
  owed t := debts t.val c

theorem share_full (c : Dev nD) (w : Fin 5) : (dats m 0 c).share w = fullShare := by
  unfold Dat.share
  exact ite_self _

theorem before0 (c : Dev nD) (t : Fin cfg0.N) (d) : (dats m 0 c).before 0 t d = iblk m c 0 t :=
  ((dats m 0 c).before_in_eq_fetched 0 rfl (fun _ => rfl) (fun _ _ _ => rfl) (fun _ => rfl) t d).trans rfl

theorem before1 (c : Dev nD) (t : Fin cfg0.N) (d) : (dats m 0 c).before 1 t d = iblk m c 1 t :=
  ((dats m 0 c).before_in_eq_fetched 1 rfl (fun _ => rfl) (fun _ _ _ => rfl) (fun _ => rfl) t d).trans rfl

theorem before2 (c : Dev nD) (t : Fin cfg0.N) (d) : (dats m 0 c).before 2 t d = iblk m c 2 t :=
  ((dats m 0 c).before_in_eq_fetched 2 rfl (fun _ => rfl) (fun _ _ _ => rfl) (fun _ => rfl) t d).trans rfl

theorem idle_of (w : Fin 5) (hw : w = 3 ∨ w = 4) (i : grid0.Coords) : cfg0.idle w i = !(k0_cond3 i == 1#1) := by
  rcases hw with rfl | rfl <;> rfl
theorem busy (t : Fin cfg0.N) (h : k0_cond3 (grid0.coords t) = 1#1) : (!(k0_cond3 (grid0.coords t) == 1#1)) = false := by rw [h]; rfl
theorem idle (t : Fin cfg0.N) (h : ¬ k0_cond3 (grid0.coords t) = 1#1) : (!(k0_cond3 (grid0.coords t) == 1#1)) = true := by
  rw [Bool.not_eq_true', beq_eq_false_iff_ne]; exact h
theorem stays3 (t : Fin cfg0.N) (h : ¬ k0_cond3 (grid0.coords t) = 1#1) : (cfg0.win 3).flush t = false :=
  Bool.eq_false_iff.mpr fun e => h ((writes t).mpr ((flush0_3 t).mp e))
theorem stays4 (t : Fin cfg0.N) (h : ¬ k0_cond3 (grid0.coords t) = 1#1) : (cfg0.win 4).flush t = false :=
  Bool.eq_false_iff.mpr fun e => h ((writes t).mpr ((flush0_4 t).mp e))

set_option maxRecDepth 20000 in
theorem body_obligation (c : Dev nD) : Pipeline.BodyObligation (dats m 0 c) (defs₀ (F := F)) 𝒱₀ () Set.univ := by
  intro t
  rw [bigSep_W0, bigSep_W0]
  show iprop((state m t.val c ∗ scratch m t.val c) ∗ _ ∗ _) ⊢ wp frame (wpE (defs₀ (F := F)) 𝒱₀ c.tc none) Set.univ (bodyAt0 t) _
  iintro ⟨⟨Hst, Hsc⟩, Ho, ⟨%d0, H0⟩, ⟨%d1, H1⟩, ⟨%d2, H2⟩, ⟨%d3, H3⟩, ⟨%d4, H4⟩⟩
  ihave Hsc := (Entails.of_eq (show scratch m t.val c = _ from by unfold scratch; rfl)) $$ Hsc
  icases Hsc with ⟨%x9, %x10, %hx, H9, H10⟩
  ihave Ho := (Entails.of_eq (show (dats m 0 c).owesAt () t.castSucc = _ from by unfold Pipeline.Dat.owesAt Pipeline.owesWithin; rfl)) $$ Ho
  icases Ho with ⟨%W, -, Ho⟩
  ihave He := (enter_point m t c) $$ [Hst Ho]
  · isplitl [Hst]; · iexact Hst
    iexists W; iexact Ho
  iapply (run_body (arg m) (grid0.coords t) c (first_starts t) (start_keeps t) (last_writes t) _ _ _ _ _ _ _ _ _ _ (Memref.whole cc0_scratch0) _
    (Memref.whole cc0_scratch1) _ (iblk m c 0 t) (iblk m c 1 t) (iblk m c 2 t) _ _ x9 x10 _)
  isplitl [He]; · iexact He
  isplitl [H0]; · rw [← before0 m c t d0]; iexact H0
  isplitl [H1]; · rw [← before1 m c t d1]; iexact H1
  isplitl [H2]; · rw [← before2 m c t d2]; iexact H2
  isplitl [H3]; · iexact H3
  isplitl [H4]; · iexact H4
  isplitl [H9]; · iexact H9
  isplitl [H10]; · iexact H10
  rw [gateSum_next m c t x9 (fun e h => (hx e h).1), upSum_next m c t x10 (fun e h => (hx e h).2)]
  iintro ⟨He, H0, H1, H2, H3, H4, H9, H10⟩
  ihave He := (leave_point m t c) $$ He
  icases He with ⟨Hst, ⟨%W', Ho⟩⟩
  isplitl [Hst H9 H10]
  · iapply (Entails.of_eq (show (iprop(state m (t.val + 1) c ∗ scratch m (t.val + 1) c) : sProp (M F)) = (dats m 0 c).Φ t.succ from rfl))
    isplitl [Hst]; · iexact Hst
    unfold scratch
    iexists gateSum m c t.val t.isLt, upSum m c t.val t.isLt
    isplitr; · ipureintro; exact fun _ _ => ⟨rfl, rfl⟩
    isplitl [H9]; · iexact H9
    iexact H10
  isplitl [Ho]
  · unfold Pipeline.Dat.owesAt Pipeline.owesWithin
    iexists W'
    isplitr; · ipureintro; exact fun _ _ => Or.inl trivial
    iexact Ho
  isplitl [H0]; · iexact H0
  isplitl [H1]; · iexact H1
  isplitl [H2]; · iexact H2
  isplitl [H3]
  · rw [show cfg0.idle 3 (cfg0.grid.coords t) = _ from idle_of 3 (Or.inl rfl) _]
    by_cases h : k0_cond3 (grid0.coords t) = 1#1
    · rw [if_pos h, show (!(k0_cond3 (cfg0.grid.coords t) == 1#1)) = false from busy t h]
      iexact H3
    · rw [if_neg h, show (!(k0_cond3 (cfg0.grid.coords t) == 1#1)) = true from idle t h, stays3 t h]
      iexists d3; iexact H3
  · rw [show cfg0.idle 4 (cfg0.grid.coords t) = _ from idle_of 4 (Or.inr rfl) _]
    by_cases h : k0_cond3 (grid0.coords t) = 1#1
    · rw [if_pos h, show (!(k0_cond3 (cfg0.grid.coords t) == 1#1)) = false from busy t h]
      iexact H4
    · rw [if_neg h, show (!(k0_cond3 (cfg0.grid.coords t) == 1#1)) = true from idle t h, stays4 t h]
      iexists d4; iexact H4

/-! ## The launch -/

/-- The ghost state at launch. -/
def u₀ : UU :=
  (initOf (PerCore.cells (nD := nD) (τ := τ) (fun _ => cfgs) cellOf_inj) (PerCore.launchToks (nD := nD) (τ := τ) (fun _ => cfgs) cellOf_inj), initOf (cells fm) (toks fm))

/-- What the launch gives device `c`. -/
def G' (c : Dev nD) : sProp (M F) :=
  iprop(((∃ κ, records fm ER (Direct.pay src qs (args (arg m)) blk) κ) ∗ share fm ER (Direct.space blk) c) ∗ ((c.tc : Thread nD τ).loc main_arg3 ↦{fullShare} arg m c))

theorem glob : iprop((bigSep Finset.univ fun c => iprop(ownSems0 (Ix := Unit) (Name := ℕ) (U := UU) (Lvl := ℕ) (Val := Elt F) (τ := τ) sem c ∗ unscopedSems0 c
          ∗ unscopedRest cfg0.spec c (fun b => m ((c.tc : Thread nD τ).loc b)))) ∗ bigSep Finset.univ (dealt fm ER (Direct.pay src qs (args (arg m)) blk)) : sProp (M F))
        ⊢ |={Set.univ}=> bigSep Finset.univ (G' m) := by
  simp only [unscopedRest0_eq]
  rw [bigSep_sep', bigSep_sep', bigSep_sep']
  iintro ⟨⟨Hs, -, Ha, Hv⟩, Hd⟩
  ihave Hr := (show (bigSep Finset.univ fun c : Dev nD => ((c.tc : Thread nD τ).loc main_v1_2 ↦{fullShare} m ((c.tc : Thread nD τ).loc main_v1_2) : sProp (M F)))
      ⊢ bigSep Finset.univ fun c : Dev nD => bigSep Finset.univ fun k : Fin 15 => Direct.space blk c k
    from bigSep_mono fun c _ => rooms c _) $$ Hv
  imod (deal_once fm ER (Direct.pay src qs (args (arg m)) blk) (Direct.space blk)) $$ [Hs Hd Hr] with H
  · isplitl [Hs]; · iexact Hs
    isplitl [Hd]; · iexact Hd
    iexact Hr
  imodintro
  iapply (Entails.of_eq (show iprop((bigSep Finset.univ fun c : Dev nD => iprop((∃ κ, records fm ER (Direct.pay src qs (args (arg m)) blk) κ) ∗ share fm ER (Direct.space blk) c))
      ∗ (bigSep Finset.univ fun c : Dev nD => ((c.tc : Thread nD τ).loc main_arg3 ↦{fullShare} arg m c))) = bigSep Finset.univ (G' m) from by
    rw [← bigSep_sep']; rfl))
  isplitl [H]; · iexact H
  iexact Ha

theorem enter (c : Dev nD) :
    iprop(levAts lset (lval fm) ∗ launchCred (fun d => debt fm Direct.recvs d) c ∗ prngReg c (ρ c) ∗ G' m c ∗ scopedRest cfg0.spec c) ⊢ (dats m 0 c).Φ 0 := by
  show _ ⊢ (iprop(state m 0 c ∗ scratch m 0 c) : sProp (M F))
  unfold G' state
  rw [if_pos rfl]
  iintro ⟨Hl, Hc, -, ⟨⟨⟨%κ, Hr⟩, Hsh⟩, Ha⟩, Hx⟩
  ihave Hc := (creds fm Direct.recvs c) $$ Hc
  ihave Ha := (Entails.of_eq (lend (arg m) c)) $$ Ha
  isplitr [Hx]
  swap
  · iapply (scratch_intro m c)
    iexact Hx
  iexists κ
  iapply (Direct.before_intro sem sem_inj units units_pos ER src qs (args (arg m)) blk κ c)
  isplitl [Hr]; · iexact Hr
  isplitl [Hl]; · iexact Hl
  isplitl [Hsh]; · iexact Hsh
  isplitl [Ha]; · iexact Ha
  iexact Hc

/-- The exchange's buffers on a device at the end. -/
def held (c : Dev nD) : sProp (M F) :=
  iprop((∃ f : Buf (Elt F) ((c.tc : Thread nD τ).loc main_v1_2), ⌜∀ j, (blk j).view.read (Elt F) f = Direct.val src (args (arg m)) c j⌝ ∗ (c.tc : Thread nD τ).loc main_v1_2 ↦{fullShare} f)
    ∗ (c.tc : Thread nD τ).loc main_arg3 ↦{fullShare} arg m c)

theorem exits (c : Dev nD) :
    (dats m 0 c).Φ (Fin.last cfg0.N) ⊢ iprop(held m c ∗ ownSems0 sem c ∗ scopedRest cfg0.spec c) := by
  show (iprop(state m 64 c ∗ scratch m 64 c) : sProp (M F)) ⊢ _
  unfold state Direct.after held
  rw [if_neg (by decide), if_pos rfl]
  iintro ⟨⟨Hb, Ha, Hs⟩, Hx⟩
  ihave Hb := (join_landed (arg m) c) $$ Hb
  ihave Ha := (Entails.of_eq (lend (arg m) c).symm) $$ Ha
  isplitl [Hb Ha]
  · isplitl [Hb]; · iexact Hb
    iexact Ha
  isplitl [Hs]; · iexact Hs
  iapply (scratch_elim m c); iexact Hx

/-- The memory on device `c` at the end: block `j` of the exchange's result is what device `j` sent, its argument is as it was. -/
def Ends (c : Dev nD) (s : MemSt nD τ sig (Elt F)) : Prop :=
  (∀ j, (blk j).view.read (Elt F) (s.mem ((c.tc : Thread nD τ).loc main_v1_2)) = Direct.val src (args (arg m)) c j)
    ∧ s.mem ((c.tc : Thread nD τ).loc main_arg3) = m ((c.tc : Thread nD τ).loc main_arg3)

theorem ends (c : Dev nD) (s' : Phys nD τ sig (Elt F)) :
    iprop(held m c ∗ SI s') ⊢ (|={Set.univ}=> iprop(⌜Ends m c s'.mem⌝ ∗ SI s') : sProp (M F)) := by
  unfold held
  iintro ⟨⟨⟨%f, %hf, Hv⟩, Ha⟩, HS⟩
  ihave H := (agree s' _ _) $$ [Hv HS]
  · isplitl [Hv] <;> iassumption
  icases H with ⟨%hv, HS⟩
  ihave H := (agree s' _ _) $$ [Ha HS]
  · isplitl [Ha] <;> iassumption
  icases H with ⟨%ha, HS⟩
  imodintro
  isplitr
  · ipureintro
    exact ⟨fun j => by rw [hv]; exact hf j, ha⟩
  · iexact HS

theorem stage_sem : ∀ (w : Fin 5) (s : Fin (spec0 w).nbuf) (k : Fin 15), (.dma ((spec0 w).sem s) : SemLoc sig) ≠ sem k := by decide

theorem waits (c : Dev nD) : (levAts lset (lval fm) : sProp (M F)) ⊢ PerCore.cellsWaits (fun _ : Dev nD => cfgs) (dats m) () 0 c :=
  PerCore.cellsWaits_intro (fun _ : Dev nD => cfgs) (dats m) () 0 c fun w s t => by
    show _ ⊢ MayWait (c.tc : Thread nD τ) (.dma ((spec0 w).sem s)) () (debts t.val c)
    unfold debts
    split
    · exact mayWait_other fm Direct.recvs c _ (stage_sem w s) (by decide)
    · rw [MayWait_zero]
      iintro -
      iempintro

set_option maxRecDepth 20000 in
/-- From any memory with zero counters every fair execution ends; at its end every device's windowed arrays hold what the grid
    wrote, the exchange has happened, and every counter is at zero. -/
theorem run_main : θ_run defs (onTc (τ := τ) (main (F := F))) ⟨m, fun _ => 0, ρ⟩ (fun r =>
    (∀ c : Dev nD, (∀ w, r.2.mem ((spec0 w).arr.view.loc (c.tc : Thread nD τ)) = (dats m 0 c).arrAt w cfg0.N) ∧ Ends m c r.2) ∧ r.2.sem = fun _ => 0) :=
  run_exchange cfgs (dats m) () cellOf_inj (0 : Fin 1) EP defs₀ 𝒱₀
    winFacts0.to₀ (osem := sem) (by decide) m ρ main (fun _ => rfl)
    (fun c => (body_obligation m c).loose) block_pos0 arr_whole0 stage_whole0
    (fun c w => share_full m c w) winFacts0.arr_inj
    (fun d => debt fm Direct.recvs d) (fun _ => rfl) (fun _ => rfl)
    lset (lval fm) lset_ne (waits m) (dealt fm ER (Direct.pay src qs (args (arg m)) blk)) (G' m) u₀
    (by
      unfold u₀
      iintro Hu
      ihave H := (ownU_pair _ _) $$ Hu
      icases H with ⟨HP, HX⟩
      imod (fund_once fm ER (Direct.pay src qs (args (arg m)) blk)) $$ HX with HG
      imodintro
      isplitl [HP] <;> iassumption)
    (glob m) (fun _ _ => rfl) (held m) (enter m ρ) (exits m) (Ends m) (ends m)
    (fun s h hs => ⟨h, sem_eq_zero_of_scoped (by decide) hs⟩)

/-- The arrays the windows only read are as they were. -/
theorem run_in (c : Dev nD) (w : Fin 5) (hw : (spec0 w).isOut = false) : (dats m 0 c).arrAt w cfg0.N = m ((spec0 w).arr.view.loc (c.tc : Thread nD τ)) :=
  (dats m 0 c).arrAt_in w hw _

end Launch

end WgradUp

end
-- ==== Proof.WgradUpValue.lean ====
/-
  The values of the weights' gradients: each device's two arrays are the sums over its own tokens, and the exchanged
  gradient is the blocks of all devices for this one.
-/
module

public import proofs.«01_k».proof.Proof.WgradUpLaunch
public import Idealize.ShloMosaic.Lib.Pipeline.ValueKit
public import Idealize.ShloMosaic.Lib.ValueLayout
public import Idealize.ShloMosaic.Lib.Layout
public import Idealize.ShloMosaic.Lib.LayoutAt
public import proofs.«01_k».proof.Proof.Gen.WgradUpReferenceIdeal.Run

@[expose] public section

set_option Elab.async false

noncomputable section

namespace WgradUp

open Idealize.ShloMosaic
open Idealize.ShloMosaic.TcCoe
open Cert.WgradUpIdeal Cert.WgradUpIdeal.Gen
open Exchange

/-- The place of a device's token in the whole array. -/
def place (c : Fin 8) (i : Fin 8192) : Fin 65536 := ⟨c.val * 8192 + i.val, by have := c.isLt; have := i.isLt; omega⟩

/-- The reference's gradient of one weight, device by device. -/
abbrev grads (d : FVec Ideal Cert.WgradUpReferenceIdeal.S8x65536x704 .bf16) (h : FVec Ideal Cert.WgradUpReferenceIdeal.S65536x2048 .bf16) : FVec Ideal Cert.WgradUpReferenceIdeal.S64x2048x704 .bf16 :=
  shapeCast Cert.WgradUpReferenceIdeal.S64x2048x704 (truncf .bf16 (transpose Cert.WgradUpReferenceIdeal.S8x8x2048x704 [0, 1, 3, 2]
    (Host.dotGeneral Cert.WgradUpReferenceIdeal.dot_S8x8x8192x704_S8x8192x2048_S8x8x704x2048_2_1_03_2_1_0 none
      (shapeCast Cert.WgradUpReferenceIdeal.S8x8x8192x704 d Cert.WgradUpReferenceIdeal.Gen.shapeCasts_S8x65536x704_S8x8x8192x704)
      (shapeCast Cert.WgradUpReferenceIdeal.S8x8192x2048 h Cert.WgradUpReferenceIdeal.Gen.shapeCasts_S65536x2048_S8x8192x2048))
    Cert.WgradUpReferenceIdeal.Gen.transposes_S8x8x704x2048_S8x8x2048x704_0_1_3_2) Cert.WgradUpReferenceIdeal.Gen.bitsLt_bf16_f32) Cert.WgradUpReferenceIdeal.Gen.shapeCasts_S8x8x2048x704_S64x2048x704

theorem grads_at (d : FVec Ideal Cert.WgradUpReferenceIdeal.S8x65536x704 .bf16) (h : FVec Ideal Cert.WgradUpReferenceIdeal.S65536x2048 .bf16) (a b : Fin 8) (k : Fin 2048) (l : Fin 704)
    (p : Fin 64) (hp : p.val = a.val * 8 + b.val) :
    grads d h (ix3 p k l) = ∑ x : Fin 8192, (h (ix2 (place a x) k) : EReal) * d (ix3 b (place a x) l) := by
  refine (shapeCast_apply _ _ (ix3 p k l) (ix4 a b k l) ?_).trans ?_
  · rw [Shape.rowMajor_val_three, Shape.rowMajor_val_four]
    show (((a.val * 8 + b.val) * 2048 + k.val) * 704 + l.val) = (p.val * 2048 + k.val) * 704 + l.val
    rw [hp]
  have hd (x : Fin 8192) : shapeCast Cert.WgradUpReferenceIdeal.S8x8x8192x704 d Cert.WgradUpReferenceIdeal.Gen.shapeCasts_S8x65536x704_S8x8x8192x704 (ix4 b a x l) = d (ix3 b (place a x) l) := by
    refine shapeCast_apply d _ _ (ix3 b (place a x) l) ?_
    rw [Shape.rowMajor_val_three, Shape.rowMajor_val_four]
    show (b.val * 65536 + (a.val * 8192 + x.val)) * 704 + l.val = ((b.val * 8 + a.val) * 8192 + x.val) * 704 + l.val
    omega
  have hh (x : Fin 8192) : shapeCast Cert.WgradUpReferenceIdeal.S8x8192x2048 h Cert.WgradUpReferenceIdeal.Gen.shapeCasts_S65536x2048_S8x8192x2048 (ix3 a x k) = h (ix2 (place a x) k) := by
    refine shapeCast_apply h _ _ (ix2 (place a x) k) ?_
    rw [Shape.rowMajor_val_three, Shape.rowMajor_val_two]
    rfl
  generalize shapeCast Cert.WgradUpReferenceIdeal.S8x8x8192x704 d Cert.WgradUpReferenceIdeal.Gen.shapeCasts_S8x65536x704_S8x8x8192x704 = d' at hd ⊢
  generalize shapeCast Cert.WgradUpReferenceIdeal.S8x8192x2048 h Cert.WgradUpReferenceIdeal.Gen.shapeCasts_S65536x2048_S8x8192x2048 = h' at hh ⊢
  pointwise []
  refine Finset.sum_congr rfl fun x _ => ?_
  rw [mul_comm]
  exact congrArg₂ (fun x y : EReal => x * y) (hh x) (hd x)

theorem idx0 : ∀ t : Fin cfg0.N, win0_0.index t = ![(grid0.coords t 1).val, 0] := (by decide +kernel : ∀ t : Fin grid0.N, _)
theorem idx1 : ∀ t : Fin cfg0.N, win0_1.index t = ![(grid0.coords t 0).val, (grid0.coords t 1).val, 0] := (by decide +kernel : ∀ t : Fin grid0.N, _)
theorem idx2 : ∀ t : Fin cfg0.N, win0_2.index t = ![(grid0.coords t 0).val, (grid0.coords t 1).val, 0] := (by decide +kernel : ∀ t : Fin grid0.N, _)
theorem idx3 : ∀ t : Fin cfg0.N, win0_3.index t = ![(grid0.coords t 0).val, 0, 0] := (by decide +kernel : ∀ t : Fin grid0.N, _)
theorem idx4 : ∀ t : Fin cfg0.N, win0_4.index t = ![(grid0.coords t 0).val, 0, 0] := (by decide +kernel : ∀ t : Fin grid0.N, _)
theorem coord0 : ∀ t : Fin cfg0.N, (grid0.coords t 0).val = t.val / 8 := (by decide +kernel : ∀ t : Fin grid0.N, _)
theorem coord1 : ∀ t : Fin cfg0.N, (grid0.coords t 1).val = t.val % 8 := (by decide +kernel : ∀ t : Fin grid0.N, _)

variable (m : (ℓ : Loc nD τ sig) → Buf (Elt Ideal) ℓ) (c : Dev nD)
variable (da db : FVec Ideal Cert.WgradUpReferenceIdeal.S8x65536x704 .bf16) (h : FVec Ideal Cert.WgradUpReferenceIdeal.S65536x2048 .bf16)

set_option maxRecDepth 20000 in
/-- A tile of the device's tokens, read in the whole array. -/
theorem token_at (h0 : m ((c.tc : Thread nD τ).loc main_arg0) = Layout.block ⟨2, ![8192, 2048]⟩ ⟨2, ![65536, 2048]⟩ 0 8 c h)
    (t : Fin cfg0.N) (r : Fin 1024) (k : Fin 2048) (i : Fin 65536)
    (hi : i.val = c.val * 8192 + ((grid0.coords t 1).val * 1024 + r.val)) :
    iblk m c 0 t (ix2 r k) = h (ix2 i k) := by
  blk_simp [iblk, V, idx0]
  rw [h0]
  show h _ = h _
  congr 1
  funext a
  apply Fin.ext
  match a with
  | ⟨0, _⟩ =>
      show c.val * 8192 + ((win0_0.blk t).view.emb (ix2 r k) 0).val = i.val
      blk_simp [idx0]
      show c.val * 8192 + ((grid0.coords t 1).val * 1024 + r.val) = i.val
      omega
  | ⟨1, _⟩ =>
      show ((win0_0.blk t).view.emb (ix2 r k) 1).val = k.val
      blk_simp [idx0]
      first | done | (show 0 * 2048 + k.val = k.val; omega)

set_option maxRecDepth 20000 in
/-- A tile of the gate's gradient at the device's tokens, read in the whole array. -/
theorem gate_at (h1 : m ((c.tc : Thread nD τ).loc main_arg1) = Layout.block ⟨3, ![8, 8192, 704]⟩ ⟨3, ![8, 65536, 704]⟩ 1 8 c da)
    (t : Fin cfg0.N) (r : Fin 1024) (l : Fin 704) (i : Fin 65536) (s : Fin 8) (hs : (grid0.coords t 0).val = s.val)
    (hi : i.val = c.val * 8192 + ((grid0.coords t 1).val * 1024 + r.val)) :
    iblk m c 1 t (ix3 (0 : Fin 1) r l) = da (ix3 s i l) := by
  blk_simp [iblk, V, idx1]
  rw [h1]
  show da _ = da _
  congr 1
  funext a
  apply Fin.ext
  match a with
  | ⟨0, _⟩ =>
      show ((win0_1.blk t).view.emb (ix3 (0 : Fin 1) r l) 0).val = s.val
      blk_simp [idx1]
      first | exact hs | (show (grid0.coords t 0).val * 1 + 0 = s.val; omega) | (show (grid0.coords t 0).val + 0 = s.val; omega)
  | ⟨1, _⟩ =>
      show c.val * 8192 + ((win0_1.blk t).view.emb (ix3 (0 : Fin 1) r l) 1).val = i.val
      blk_simp [idx1]
      show c.val * 8192 + ((grid0.coords t 1).val * 1024 + r.val) = i.val
      omega
  | ⟨2, _⟩ =>
      show ((win0_1.blk t).view.emb (ix3 (0 : Fin 1) r l) 2).val = l.val
      blk_simp [idx1]
      first | done | (show 0 * 704 + l.val = l.val; omega)

theorem gate_term (x2 : Vec Ideal S1024x2048 .bf16) (x : Vec Ideal S2048x704 .f32) (x3 : Vec Ideal S1x1024x704 .bf16) (k : Fin 2048) (l : Fin 704) :
    k0_pay6 x2 x x3 (ix2 k l) = (x (ix2 k l) + ∑ r : Fin 1024, (x2 (ix2 r k) : EReal) * x3 (ix3 (0 : Fin 1) r l) : EReal) := by
  pointwise [k0_pay6, k0_pay5]

/-- A product of one tile of tokens with one tile of a gradient. -/
def gateAdd (x2 : Vec Ideal S1024x2048 .bf16) (x3 : Vec Ideal S1x1024x704 .bf16) (y : S2048x704.Idx) : EReal :=
  ∑ r : Fin 1024, (x2 (ix2 r (y 0)) : EReal) * x3 (ix3 (0 : Fin 1) r (y 1))

/-- What a grid point adds to the weight's gradient. -/
def gatePart (t : Fin cfg0.N) (y : S2048x704.Idx) : EReal := gateAdd (iblk m c 0 t) (iblk m c 1 t) y

theorem gate_start (t : Fin cfg0.N) (e : t.val % 8 = 0) (y : S2048x704.Idx) : gateSum m c t.val t.isLt y = (0 + gatePart m c t y : EReal) := by
  have h2 := (starts t).mpr e
  obtain ⟨k, l, rfl⟩ : ∃ (k : Fin 2048) (l : Fin 704), y = ix2 k l :=
    ⟨y 0, y 1, by funext a; match a with | ⟨0, _⟩ => rfl | ⟨1, _⟩ => rfl⟩
  rw [← gateSum_next m c t (k0_pay3 (F := Ideal)) (fun f => absurd e f), if_pos h2]
  refine (gate_term _ _ _ k l).trans (congrArg (· + gatePart m c t (ix2 k l)) ?_)
  pointwise [k0_pay3]

theorem gate_step (t : Fin cfg0.N) (e : ¬ t.val % 8 = 0) (y : S2048x704.Idx) :
    gateSum m c t.val t.isLt y = (gateSum m c (t.val - 1) (Nat.lt_of_le_of_lt (Nat.sub_le _ _) t.isLt) y + gatePart m c t y : EReal) := by
  have h2 : ¬ fresh (grid0.coords t) = 1#1 := fun f => e ((starts t).mp f)
  obtain ⟨k, l, rfl⟩ : ∃ (k : Fin 2048) (l : Fin 704), y = ix2 k l :=
    ⟨y 0, y 1, by funext a; match a with | ⟨0, _⟩ => rfl | ⟨1, _⟩ => rfl⟩
  rw [← gateSum_next m c t (gateSum m c (t.val - 1) (Nat.lt_of_le_of_lt (Nat.sub_le _ _) t.isLt)) (fun _ _ => rfl), if_neg h2]
  exact gate_term _ _ _ k l

section gate_sums

variable (h0 : m ((c.tc : Thread nD τ).loc main_arg0) = Layout.block ⟨2, ![8192, 2048]⟩ ⟨2, ![65536, 2048]⟩ 0 8 c h)
  (h1 : m ((c.tc : Thread nD τ).loc main_arg1) = Layout.block ⟨3, ![8, 8192, 704]⟩ ⟨3, ![8, 65536, 704]⟩ 1 8 c da)

include h0 h1 in
/-- The sum when it is written out: over all the device's tokens. -/
theorem gate_sum_at (t : Fin cfg0.N) (hf : t.val % 8 = 8 - 1) (k : Fin 2048) (l : Fin 704) (s : Fin 8) (hs : (grid0.coords t 0).val = s.val)
    (p : Fin 64) (hp : p.val = c.val * 8 + s.val) :
    gateSum m c t.val t.isLt (ix2 k l) = grads da h (ix3 p k l) := by
  rw [Pipeline.eq_sum_fin_of_reset_step_apply_of_flush (M := EReal) (fun n h => gateSum m c n h) 8 (fun _ => (0 : EReal)) (fun t y => gatePart m c t y)
    (fun t h y => gate_start m c t h y) (fun t h y => gate_step m c t h y) t hf (ix2 k l)]
  rw [grads_at da h (⟨c.val, c.isLt⟩ : Fin 8) s k l p hp, zero_add]
  refine Fin.sum_mul_add_congr fun q r hl => ?_
  have ht : (8 * (t.val / 8) + q.val) < 64 := Pipeline.run_point_lt_of_flush t hf q
  have e0 : (grid0.coords (⟨8 * (t.val / 8) + q.val, ht⟩ : Fin cfg0.N) 0).val = s.val := by
    refine (coord0 _).trans (Eq.trans ?_ ((coord0 t).symm.trans hs))
    show (8 * (t.val / 8) + q.val) / 8 = t.val / 8
    omega
  have e1 : (grid0.coords (⟨8 * (t.val / 8) + q.val, ht⟩ : Fin cfg0.N) 1).val = q.val := by
    refine (coord1 _).trans ?_
    show (8 * (t.val / 8) + q.val) % 8 = q.val
    omega
  have hi : (place (⟨c.val, c.isLt⟩ : Fin 8) (⟨q.val * 1024 + r.val, hl⟩ : Fin 8192)).val
      = c.val * 8192 + ((grid0.coords (⟨8 * (t.val / 8) + q.val, ht⟩ : Fin cfg0.N) 1).val * 1024 + r.val) := by
    rw [e1]; rfl
  exact congrArg₂ (fun x y : EReal => x * y) (token_at m c h h0 _ r k _ hi) (gate_at m c da h1 _ r l _ s e0 hi)

include h0 h1 in
set_option maxRecDepth 20000 in
theorem gate_array : (dats m 0 c).arrAt 3 cfg0.N = Layout.block ⟨3, ![8, 2048, 704]⟩ ⟨3, ![64, 2048, 704]⟩ 0 8 c (grads da h) := by
  have h8 : c.val < 8 := c.isLt
  refine (dats m 0 c).arrAt_eq_of_covers 3 _ (by decide +kernel) fun t hf y => ?_
  blk_simp
  show k0_pay1 (gateSum m c t.val t.isLt) y = _
  obtain ⟨k, l, rfl⟩ : ∃ (k : Fin 2048) (l : Fin 704), y = ix3 (0 : Fin 1) k l :=
    ⟨y 1, y 2, by funext a; match a with | ⟨0, _⟩ => exact Fin.ext (Nat.lt_one_iff.mp (y 0).isLt) | ⟨1, _⟩ => rfl | ⟨2, _⟩ => rfl⟩
  have e0 : ((win0_3.blk t).view.emb (ix3 (0 : Fin 1) k l) 0 : Fin 8) = grid0.coords t 0 := by
    apply Fin.ext; blk_simp [idx3]; exact Nat.add_zero _
  have e1 : ((win0_3.blk t).view.emb (ix3 (0 : Fin 1) k l) 1 : Fin 2048) = k := by
    apply Fin.ext; blk_simp [idx3]
  have e2 : ((win0_3.blk t).view.emb (ix3 (0 : Fin 1) k l) 2 : Fin 704) = l := by
    apply Fin.ext; blk_simp [idx3]
  have hs : (grid0.coords t 0).val < 8 := (grid0.coords t 0).isLt
  have e : (grads da h) (ix3 (⟨c.val * 8 + (grid0.coords t 0).val, by omega⟩ : Fin 64) k l)
      = Layout.block ⟨3, ![8, 2048, 704]⟩ ⟨3, ![64, 2048, 704]⟩ 0 8 c (grads da h) (by decide) ((win0_3.blk t).view.emb (ix3 (0 : Fin 1) k l)) := by
    show grads da h _ = grads da h _
    congr 1
    funext a
    apply Fin.ext
    match a with
    | ⟨0, _⟩ => exact congrArg (fun q : Fin 8 => c.val * 8 + q.val) e0.symm
    | ⟨1, _⟩ => exact congrArg Fin.val e1.symm
    | ⟨2, _⟩ => exact congrArg Fin.val e2.symm
  refine Eq.trans ?_ e
  refine Eq.trans ?_ (gate_sum_at m c da h h0 h1 t ((flush0_3 t).mp hf) k l (⟨(grid0.coords t 0).val, hs⟩ : Fin 8) rfl _ rfl)
  pointwise [k0_pay1]

end gate_sums

set_option maxRecDepth 20000 in
/-- A tile of the up-projection's gradient at the device's tokens, read in the whole array. -/
theorem up_at (h2 : m ((c.tc : Thread nD τ).loc main_arg2) = Layout.block ⟨3, ![8, 8192, 704]⟩ ⟨3, ![8, 65536, 704]⟩ 1 8 c db)
    (t : Fin cfg0.N) (r : Fin 1024) (l : Fin 704) (i : Fin 65536) (s : Fin 8) (hs : (grid0.coords t 0).val = s.val)
    (hi : i.val = c.val * 8192 + ((grid0.coords t 1).val * 1024 + r.val)) :
    iblk m c 2 t (ix3 (0 : Fin 1) r l) = db (ix3 s i l) := by
  blk_simp [iblk, V, idx2]
  rw [h2]
  show db _ = db _
  congr 1
  funext a
  apply Fin.ext
  match a with
  | ⟨0, _⟩ =>
      show ((win0_2.blk t).view.emb (ix3 (0 : Fin 1) r l) 0).val = s.val
      blk_simp [idx2]
      first | exact hs | (show (grid0.coords t 0).val * 1 + 0 = s.val; omega) | (show (grid0.coords t 0).val + 0 = s.val; omega)
  | ⟨1, _⟩ =>
      show c.val * 8192 + ((win0_2.blk t).view.emb (ix3 (0 : Fin 1) r l) 1).val = i.val
      blk_simp [idx2]
      show c.val * 8192 + ((grid0.coords t 1).val * 1024 + r.val) = i.val
      omega
  | ⟨2, _⟩ =>
      show ((win0_2.blk t).view.emb (ix3 (0 : Fin 1) r l) 2).val = l.val
      blk_simp [idx2]
      first | done | (show 0 * 704 + l.val = l.val; omega)

theorem up_term (x2 : Vec Ideal S1024x2048 .bf16) (x : Vec Ideal S2048x704 .f32) (x3 : Vec Ideal S1x1024x704 .bf16) (k : Fin 2048) (l : Fin 704) :
    k0_pay7 x2 x x3 (ix2 k l) = (x (ix2 k l) + ∑ r : Fin 1024, (x2 (ix2 r k) : EReal) * x3 (ix3 (0 : Fin 1) r l) : EReal) := by
  pointwise [k0_pay7, k0_pay5]

/-- A product of one tile of tokens with one tile of a gradient. -/
def upAdd (x2 : Vec Ideal S1024x2048 .bf16) (x3 : Vec Ideal S1x1024x704 .bf16) (y : S2048x704.Idx) : EReal :=
  ∑ r : Fin 1024, (x2 (ix2 r (y 0)) : EReal) * x3 (ix3 (0 : Fin 1) r (y 1))

/-- What a grid point adds to the weight's gradient. -/
def upPart (t : Fin cfg0.N) (y : S2048x704.Idx) : EReal := upAdd (iblk m c 0 t) (iblk m c 2 t) y

theorem up_start (t : Fin cfg0.N) (e : t.val % 8 = 0) (y : S2048x704.Idx) : upSum m c t.val t.isLt y = (0 + upPart m c t y : EReal) := by
  have h2 := (starts t).mpr e
  obtain ⟨k, l, rfl⟩ : ∃ (k : Fin 2048) (l : Fin 704), y = ix2 k l :=
    ⟨y 0, y 1, by funext a; match a with | ⟨0, _⟩ => rfl | ⟨1, _⟩ => rfl⟩
  rw [← upSum_next m c t (k0_pay4 (F := Ideal)) (fun f => absurd e f), if_pos h2]
  refine (up_term _ _ _ k l).trans (congrArg (· + upPart m c t (ix2 k l)) ?_)
  pointwise [k0_pay4]

theorem up_step (t : Fin cfg0.N) (e : ¬ t.val % 8 = 0) (y : S2048x704.Idx) :
    upSum m c t.val t.isLt y = (upSum m c (t.val - 1) (Nat.lt_of_le_of_lt (Nat.sub_le _ _) t.isLt) y + upPart m c t y : EReal) := by
  have h2 : ¬ fresh (grid0.coords t) = 1#1 := fun f => e ((starts t).mp f)
  obtain ⟨k, l, rfl⟩ : ∃ (k : Fin 2048) (l : Fin 704), y = ix2 k l :=
    ⟨y 0, y 1, by funext a; match a with | ⟨0, _⟩ => rfl | ⟨1, _⟩ => rfl⟩
  rw [← upSum_next m c t (upSum m c (t.val - 1) (Nat.lt_of_le_of_lt (Nat.sub_le _ _) t.isLt)) (fun _ _ => rfl), if_neg h2]
  exact up_term _ _ _ k l

section up_sums

variable (h0 : m ((c.tc : Thread nD τ).loc main_arg0) = Layout.block ⟨2, ![8192, 2048]⟩ ⟨2, ![65536, 2048]⟩ 0 8 c h)
  (h2 : m ((c.tc : Thread nD τ).loc main_arg2) = Layout.block ⟨3, ![8, 8192, 704]⟩ ⟨3, ![8, 65536, 704]⟩ 1 8 c db)

include h0 h2 in
/-- The sum when it is written out: over all the device's tokens. -/
theorem up_sum_at (t : Fin cfg0.N) (hf : t.val % 8 = 8 - 1) (k : Fin 2048) (l : Fin 704) (s : Fin 8) (hs : (grid0.coords t 0).val = s.val)
    (p : Fin 64) (hp : p.val = c.val * 8 + s.val) :
    upSum m c t.val t.isLt (ix2 k l) = grads db h (ix3 p k l) := by
  rw [Pipeline.eq_sum_fin_of_reset_step_apply_of_flush (M := EReal) (fun n h => upSum m c n h) 8 (fun _ => (0 : EReal)) (fun t y => upPart m c t y)
    (fun t h y => up_start m c t h y) (fun t h y => up_step m c t h y) t hf (ix2 k l)]
  rw [grads_at db h (⟨c.val, c.isLt⟩ : Fin 8) s k l p hp, zero_add]
  refine Fin.sum_mul_add_congr fun q r hl => ?_
  have ht : (8 * (t.val / 8) + q.val) < 64 := Pipeline.run_point_lt_of_flush t hf q
  have e0 : (grid0.coords (⟨8 * (t.val / 8) + q.val, ht⟩ : Fin cfg0.N) 0).val = s.val := by
    refine (coord0 _).trans (Eq.trans ?_ ((coord0 t).symm.trans hs))
    show (8 * (t.val / 8) + q.val) / 8 = t.val / 8
    omega
  have e1 : (grid0.coords (⟨8 * (t.val / 8) + q.val, ht⟩ : Fin cfg0.N) 1).val = q.val := by
    refine (coord1 _).trans ?_
    show (8 * (t.val / 8) + q.val) % 8 = q.val
    omega
  have hi : (place (⟨c.val, c.isLt⟩ : Fin 8) (⟨q.val * 1024 + r.val, hl⟩ : Fin 8192)).val
      = c.val * 8192 + ((grid0.coords (⟨8 * (t.val / 8) + q.val, ht⟩ : Fin cfg0.N) 1).val * 1024 + r.val) := by
    rw [e1]; rfl
  exact congrArg₂ (fun x y : EReal => x * y) (token_at m c h h0 _ r k _ hi) (up_at m c db h2 _ r l _ s e0 hi)

include h0 h2 in
set_option maxRecDepth 20000 in
theorem up_array : (dats m 0 c).arrAt 4 cfg0.N = Layout.block ⟨3, ![8, 2048, 704]⟩ ⟨3, ![64, 2048, 704]⟩ 0 8 c (grads db h) := by
  have h8 : c.val < 8 := c.isLt
  refine (dats m 0 c).arrAt_eq_of_covers 4 _ (by decide +kernel) fun t hf y => ?_
  blk_simp
  show k0_pay2 (upSum m c t.val t.isLt) y = _
  obtain ⟨k, l, rfl⟩ : ∃ (k : Fin 2048) (l : Fin 704), y = ix3 (0 : Fin 1) k l :=
    ⟨y 1, y 2, by funext a; match a with | ⟨0, _⟩ => exact Fin.ext (Nat.lt_one_iff.mp (y 0).isLt) | ⟨1, _⟩ => rfl | ⟨2, _⟩ => rfl⟩
  have e0 : ((win0_4.blk t).view.emb (ix3 (0 : Fin 1) k l) 0 : Fin 8) = grid0.coords t 0 := by
    apply Fin.ext; blk_simp [idx4]; exact Nat.add_zero _
  have e1 : ((win0_4.blk t).view.emb (ix3 (0 : Fin 1) k l) 1 : Fin 2048) = k := by
    apply Fin.ext; blk_simp [idx4]
  have e2 : ((win0_4.blk t).view.emb (ix3 (0 : Fin 1) k l) 2 : Fin 704) = l := by
    apply Fin.ext; blk_simp [idx4]
  have hs : (grid0.coords t 0).val < 8 := (grid0.coords t 0).isLt
  have e : (grads db h) (ix3 (⟨c.val * 8 + (grid0.coords t 0).val, by omega⟩ : Fin 64) k l)
      = Layout.block ⟨3, ![8, 2048, 704]⟩ ⟨3, ![64, 2048, 704]⟩ 0 8 c (grads db h) (by decide) ((win0_4.blk t).view.emb (ix3 (0 : Fin 1) k l)) := by
    show grads db h _ = grads db h _
    congr 1
    funext a
    apply Fin.ext
    match a with
    | ⟨0, _⟩ => exact congrArg (fun q : Fin 8 => c.val * 8 + q.val) e0.symm
    | ⟨1, _⟩ => exact congrArg Fin.val e1.symm
    | ⟨2, _⟩ => exact congrArg Fin.val e2.symm
  refine Eq.trans ?_ e
  refine Eq.trans ?_ (up_sum_at m c db h h0 h2 t ((flush0_4 t).mp hf) k l (⟨(grid0.coords t 0).val, hs⟩ : Fin 8) rfl _ rfl)
  pointwise [k0_pay2]

end up_sums

section exchanged

variable {F : FTy → Type} [FloatOps F]

/-- Block `j` of the exchanged gradient, at row `r` and column `l`. -/
theorem read_blk (f : S8x704x2048.Idx → Elt F .bf16) (j : Fin 8) (r : Fin 704) (l : Fin 2048) :
    (blk j).view.read (Elt F) (f : (Memref.whole main_v1_2).view.ty.Contents (Elt F)) (ix2 r l) = f (ix3 j r l) := by
  rw [Memref.read_squeeze_slice (Memref.whole main_v1_2) (Rect.unit (s := S8x704x2048) ![j.val, 0, 0] S1x704x2048.size (inb j)) (fun _ => rfl)
    squeezes_S1x704x2048_S704x2048 squeezes_S1x704x2048_S704x2048.numel_eq]
  refine (ValueIdx.shapeCast_1ab_ab_apply (a := 704) (b := 2048) _ _ r l).trans ?_
  show f _ = f _
  congr 1
  funext a
  apply Fin.ext
  match a with
  | ⟨0, _⟩ => show j.val + 1 * 0 = j.val; omega
  | ⟨1, _⟩ => show 0 + 1 * r.val = r.val; omega
  | ⟨2, _⟩ => show 0 + 1 * l.val = l.val; omega

/-- Block `j` of a device's gradient, at row `r` and column `l`. -/
theorem read_ablk (f : S8x704x2048.Idx → Elt F .bf16) (j : Fin 8) (r : Fin 704) (l : Fin 2048) :
    (ablk j).view.read (Elt F) (f : (Memref.whole main_arg3).view.ty.Contents (Elt F)) (ix2 r l) = f (ix3 j r l) := by
  rw [Memref.read_squeeze_slice (Memref.whole main_arg3) (Rect.unit (s := S8x704x2048) ![j.val, 0, 0] S1x704x2048.size (inb j)) (fun _ => rfl)
    squeezes_S1x704x2048_S704x2048 squeezes_S1x704x2048_S704x2048.numel_eq]
  refine (ValueIdx.shapeCast_1ab_ab_apply (a := 704) (b := 2048) _ _ r l).trans ?_
  show f _ = f _
  congr 1
  funext a
  apply Fin.ext
  match a with
  | ⟨0, _⟩ => show j.val + 1 * 0 = j.val; omega
  | ⟨1, _⟩ => show 0 + 1 * r.val = r.val; omega
  | ⟨2, _⟩ => show 0 + 1 * l.val = l.val; omega

/-- The reference's exchange: block `j` for device `c` becomes block `c` from device `j`. -/
abbrev swapped (w : Cert.WgradUpReferenceIdeal.S64x704x2048.Idx → Elt F .bf16) : Cert.WgradUpReferenceIdeal.S64x704x2048.Idx → Elt F .bf16 :=
  shapeCast Cert.WgradUpReferenceIdeal.S64x704x2048 (transpose Cert.WgradUpReferenceIdeal.S8x8x704x2048 [1, 0, 2, 3]
    (shapeCast Cert.WgradUpReferenceIdeal.S8x8x704x2048 w Cert.WgradUpReferenceIdeal.Gen.shapeCasts_S64x704x2048_S8x8x704x2048)
    Cert.WgradUpReferenceIdeal.Gen.transposes_S8x8x704x2048_S8x8x704x2048_1_0_2_3) Cert.WgradUpReferenceIdeal.Gen.shapeCasts_S8x8x704x2048_S64x704x2048

theorem swapped_at (w : Cert.WgradUpReferenceIdeal.S64x704x2048.Idx → Elt F .bf16) (a b : Fin 8) (r : Fin 704) (l : Fin 2048)
    (p q : Fin 64) (hp : p.val = a.val * 8 + b.val) (hq : q.val = b.val * 8 + a.val) :
    swapped w (ix3 p r l) = w (ix3 q r l) := by
  refine (shapeCast_apply _ _ (ix3 p r l) (ix4 a b r l) ?_).trans ?_
  · rw [Shape.rowMajor_val_three, Shape.rowMajor_val_four]
    show (((a.val * 8 + b.val) * 704 + r.val) * 2048 + l.val) = (p.val * 704 + r.val) * 2048 + l.val
    rw [hp]
  refine (shapeCast_apply w _ _ (ix3 q r l) ?_)
  rw [Shape.rowMajor_val_three, Shape.rowMajor_val_four]
  show (q.val * 704 + r.val) * 2048 + l.val = (((b.val * 8 + a.val) * 704 + r.val) * 2048 + l.val)
  rw [hq]

set_option maxRecDepth 20000 in
/-- The gradient a device holds at the end: its block from every device. -/
theorem exchanged (m : (ℓ : Loc nD τ sig) → Buf (Elt F) ℓ) (w : Cert.WgradUpReferenceIdeal.S64x704x2048.Idx → Elt F .bf16)
    (hm : ∀ c : Dev nD, m ((c.tc : Thread nD τ).loc main_arg3) = Layout.block ⟨3, ![8, 704, 2048]⟩ ⟨3, ![64, 704, 2048]⟩ 0 8 c w)
    (c : Dev nD) (s : MemSt nD τ sig (Elt F)) (hs : Ends m c s) :
    s.mem ((c.tc : Thread nD τ).loc main_v1_2) = Layout.block ⟨3, ![8, 704, 2048]⟩ ⟨3, ![64, 704, 2048]⟩ 0 8 c (swapped w) := by
  have h8 : c.val < 8 := c.isLt
  funext i
  obtain ⟨j, r, l, rfl⟩ : ∃ (j : Fin 8) (r : Fin 704) (l : Fin 2048), i = ix3 j r l :=
    ⟨i 0, i 1, i 2, by funext a; match a with | ⟨0, _⟩ => rfl | ⟨1, _⟩ => rfl | ⟨2, _⟩ => rfl⟩
  refine (read_blk _ j r l).symm.trans ?_
  rw [hs.1 j]
  refine Eq.trans ?_ (show swapped w (ix3 (⟨c.val * 8 + j.val, by omega⟩ : Fin 64) r l) = _ from ?_)
  · rw [swapped_at w (⟨c.val, h8⟩ : Fin 8) j r l _ (⟨j.val * 8 + c.val, by omega⟩ : Fin 64) rfl rfl]
    have hp : peer (peer j c) j = c := (by decide : ∀ a b : Fin 8, peer (peer a b) a = b) j c
    show (ablk (peer (peer j c) j)).view.read (Elt F) (arg m j : (Memref.whole main_arg3).view.ty.Contents (Elt F)) (ix2 r l) = _
    rw [hp, read_ablk]
    refine (congrFun (hm j) (ix3 (⟨c.val, h8⟩ : Fin 8) r l)).trans ?_
    show w _ = w _
    congr 1
    funext a
    match a with
    | ⟨0, _⟩ => rfl
    | ⟨1, _⟩ => rfl
    | ⟨2, _⟩ => rfl
  · show swapped w _ = swapped w _
    congr 1
    funext a
    apply Fin.ext
    match a with
    | ⟨0, _⟩ => rfl
    | ⟨1, _⟩ => rfl
    | ⟨2, _⟩ => rfl

end exchanged

end WgradUp

end
-- ==== Proof.AdamInValue.lean ====
/-
  The values of one weight's AdamW step: the four arrays are the sum of the partial gradients and the step taken with it.
-/
module

public import proofs.«01_k».proof.Proof.Gen.AdamInIdeal.Frame
public import proofs.«01_k».proof.Proof.Gen.AdamInReferenceIdeal.Run
public import Idealize.ShloMosaic.Lib.Pipeline.ValueKit
public import Idealize.ShloMosaic.Lib.ValueLayout

@[expose] public section

set_option Elab.async false

noncomputable section

namespace AdamIn

open Idealize.ShloMosaic
open Idealize.ShloMosaic.TcCoe
open Cert.AdamInIdeal Cert.AdamInIdeal.Gen

/-- The reference's sum of the partial gradients. -/
abbrev total (x : FVec Ideal Cert.AdamInReferenceIdeal.S8x2048x640 .bf16) : FVec Ideal Cert.AdamInReferenceIdeal.S2048x640 .f32 :=
  Host.reduceAdd (extf .f32 x Cert.AdamInReferenceIdeal.Gen.bitsLt_bf16_f32) (constant Cert.AdamInReferenceIdeal.S_ .f32 0x00000000#32) Cert.AdamInReferenceIdeal.Gen.reducesTo_S8x2048x640_S2048x640_d0 Cert.AdamInReferenceIdeal.Gen.h_S_

/-- The reference's first moment after the step. -/
abbrev first (g mm : FVec Ideal Cert.AdamInReferenceIdeal.S2048x640 .f32) : FVec Ideal Cert.AdamInReferenceIdeal.S2048x640 .f32 :=
  addf (mulf (broadcastInDim Cert.AdamInReferenceIdeal.S2048x640 ![] Cert.AdamInReferenceIdeal.Gen.bcast_S_S2048x640 (constant Cert.AdamInReferenceIdeal.S_ .f32 0x3F666666#32)) mm) (mulf (broadcastInDim Cert.AdamInReferenceIdeal.S2048x640 ![] Cert.AdamInReferenceIdeal.Gen.bcast_S_S2048x640 (constant Cert.AdamInReferenceIdeal.S_ .f32 0x3DCCCCCD#32)) g)

/-- The reference's second moment after the step. -/
abbrev second (g v : FVec Ideal Cert.AdamInReferenceIdeal.S2048x640 .f32) : FVec Ideal Cert.AdamInReferenceIdeal.S2048x640 .f32 :=
  addf (mulf (broadcastInDim Cert.AdamInReferenceIdeal.S2048x640 ![] Cert.AdamInReferenceIdeal.Gen.bcast_S_S2048x640 (constant Cert.AdamInReferenceIdeal.S_ .f32 0x3F7FBE77#32)) v) (mulf (broadcastInDim Cert.AdamInReferenceIdeal.S2048x640 ![] Cert.AdamInReferenceIdeal.Gen.bcast_S_S2048x640 (constant Cert.AdamInReferenceIdeal.S_ .f32 0x3A83126F#32)) (mulf g g))

/-- The reference's change of the weight. -/
abbrev change (g w mm v : FVec Ideal Cert.AdamInReferenceIdeal.S2048x640 .f32) : FVec Ideal Cert.AdamInReferenceIdeal.S2048x640 .f32 :=
  mulf (broadcastInDim Cert.AdamInReferenceIdeal.S2048x640 ![] Cert.AdamInReferenceIdeal.Gen.bcast_S_S2048x640 (constant Cert.AdamInReferenceIdeal.S_ .f32 0xBA83126F#32)) (addf
    (Host.divf (Host.divf (first g mm) (broadcastInDim Cert.AdamInReferenceIdeal.S2048x640 ![] Cert.AdamInReferenceIdeal.Gen.bcast_S_S2048x640 (constant Cert.AdamInReferenceIdeal.S_ .f32 0x3F26BD02#32)))
      (addf (Host.sqrt (Host.divf (second g v) (broadcastInDim Cert.AdamInReferenceIdeal.S2048x640 ![] Cert.AdamInReferenceIdeal.Gen.bcast_S_S2048x640 (constant Cert.AdamInReferenceIdeal.S_ .f32 0x3C231ACC#32)))) (broadcastInDim Cert.AdamInReferenceIdeal.S2048x640 ![] Cert.AdamInReferenceIdeal.Gen.bcast_S_S2048x640 (constant Cert.AdamInReferenceIdeal.S_ .f32 0x322BCC77#32))))
    (mulf (broadcastInDim Cert.AdamInReferenceIdeal.S2048x640 ![] Cert.AdamInReferenceIdeal.Gen.bcast_S_S2048x640 (constant Cert.AdamInReferenceIdeal.S_ .f32 0x3C23D70A#32)) w))

section tile

variable (x0 : Vec Ideal S8x256x640 .bf16) (x1 x2 x3 : Vec Ideal S256x640 .f32) (a0 : FVec Ideal Cert.AdamInReferenceIdeal.S8x2048x640 .bf16) (a1 a2 a3 : FVec Ideal Cert.AdamInReferenceIdeal.S2048x640 .f32)
  (i : Fin 256) (j : Fin 640) (k : Fin 2048)

/-- The sum of the eight devices' partial gradients, in one tile and in the whole array. -/
theorem total_at (h0 : ∀ s : Fin 8, x0 (ix3 s i j) = a0 (ix3 s k j)) : k0_pay5 x0 x1 x2 x3 (ix2 i j) = total a0 (ix2 k j) := by
  have ld (s : Fin 8) (inb) : View.ld x0 (Rect.unit (s := S8x256x640) ![s.val, 0, 0] S1x256x640.size inb) (ix3 (0 : Fin 1) i j) = x0 (ix3 s i j) :=
    View.ld_unit_apply_of x0 _ _ inb _ (ix3 s i j) fun a => by
      match a with
      | ⟨0, _⟩ => rfl
      | ⟨1, _⟩ => exact (Nat.zero_add _).symm
      | ⟨2, _⟩ => exact (Nat.zero_add _).symm
  have e : k0_pay5 x0 x1 x2 x3 (ix2 i j) = ∑ s : Fin 8, (x0 (ix3 s i j) : EReal) := by
    rw [Fin.sum_univ_eight]
    unfold k0_pay5
    pointwise [k0_pay4]
  rw [e]
  pointwise []
  exact Finset.sum_congr rfl fun s _ => h0 s

theorem first_at (y : FVec Ideal S256x640 .f32) (g : FVec Ideal Cert.AdamInReferenceIdeal.S2048x640 .f32) (hg : y (ix2 i j) = g (ix2 k j)) (h2 : x2 (ix2 i j) = a2 (ix2 k j)) :
    k0_pay1 y x2 (ix2 i j) = first g a2 (ix2 k j) := by
  pointwise [k0_pay1]
  rw [hg, h2]

theorem second_at (y : FVec Ideal S256x640 .f32) (g : FVec Ideal Cert.AdamInReferenceIdeal.S2048x640 .f32) (hg : y (ix2 i j) = g (ix2 k j)) (h3 : x3 (ix2 i j) = a3 (ix2 k j)) :
    k0_pay2 y x3 (ix2 i j) = second g a3 (ix2 k j) := by
  pointwise [k0_pay2]
  rw [hg, h3]

theorem change_at (y : FVec Ideal S256x640 .f32) (g : FVec Ideal Cert.AdamInReferenceIdeal.S2048x640 .f32) (hg : y (ix2 i j) = g (ix2 k j)) (h1 : x1 (ix2 i j) = a1 (ix2 k j))
    (h2 : x2 (ix2 i j) = a2 (ix2 k j)) (h3 : x3 (ix2 i j) = a3 (ix2 k j)) :
    k0_pay3 y x1 x2 x3 (ix2 i j) = change g a1 a2 a3 (ix2 k j) := by
  have e1 := first_at x2 a2 i j k y g hg h2
  have e2 := second_at x3 a3 i j k y g hg h3
  generalize hp : first g a2 = p at e1
  generalize hq : second g a3 = q at e2
  unfold change
  rw [hp, hq]
  pointwise [k0_pay3]
  rw [h1]
  rw [e1, e2]

end tile

theorem zeros : (![0, 0] : Fin 2 → Nat) = fun _ => 0 := funext fun a => by match a with | ⟨0, _⟩ => rfl | ⟨1, _⟩ => rfl

theorem idx0 : ∀ t : Fin cfg0.N, win0_0.index t = ![0, t.val, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![t.val, 0] := (by decide +kernel : ∀ t : Fin grid0.N, _)
theorem idx4 : ∀ t : Fin cfg0.N, win0_4.index t = ![t.val, 0] := (by decide +kernel : ∀ t : Fin grid0.N, _)
theorem idx5 : ∀ t : Fin cfg0.N, win0_5.index t = ![t.val, 0] := (by decide +kernel : ∀ t : Fin grid0.N, _)
theorem idx6 : ∀ t : Fin cfg0.N, win0_6.index t = ![t.val, 0] := (by decide +kernel : ∀ t : Fin grid0.N, _)
theorem idx7 : ∀ t : Fin cfg0.N, win0_7.index t = ![t.val, 0] := (by decide +kernel : ∀ t : Fin grid0.N, _)

variable (m : (ℓ : Loc nD τ sig) → Buf (Elt Ideal) ℓ) (c : Dev nD)

/-- A tile of the partial gradients, read in the whole array. -/
theorem part_at (t : Fin cfg0.N) (s : Fin 8) (i : Fin 256) (j : Fin 640) (k : Fin 2048) (hk : k.val = t.val * 256 + i.val) :
    iblk m c 0 t (ix3 s i j) = m ((c.tc : Thread nD τ).loc main_arg0) (ix3 s k j) := by
  blk_simp [iblk, V, idx0]
  congr 1
  funext a
  apply Fin.ext
  match a with
  | ⟨0, _⟩ => show ((win0_0.blk t).view.emb (ix3 s i j) 0).val = s.val; blk_simp [idx0]
  | ⟨1, _⟩ =>
      show ((win0_0.blk t).view.emb (ix3 s i j) 1).val = k.val
      blk_simp [idx0]
      exact hk.symm
  | ⟨2, _⟩ => show ((win0_0.blk t).view.emb (ix3 s i j) 2).val = j.val; blk_simp [idx0]

theorem row_at1 (t : Fin cfg0.N) (i : Fin 256) (j : Fin 640) (k : Fin 2048) (hk : k.val = t.val * 256 + i.val) :
    iblk m c 1 t (ix2 i j) = m ((c.tc : Thread nD τ).loc main_arg1) (ix2 k j) := by
  blk_simp [iblk, V, idx1]
  congr 1
  funext a
  apply Fin.ext
  match a with
  | ⟨0, _⟩ =>
      show ((win0_1.blk t).view.emb (ix2 i j) 0).val = k.val
      blk_simp [idx1]
      exact hk.symm
  | ⟨1, _⟩ => show ((win0_1.blk t).view.emb (ix2 i j) 1).val = j.val; blk_simp [idx1]

theorem row_at2 (t : Fin cfg0.N) (i : Fin 256) (j : Fin 640) (k : Fin 2048) (hk : k.val = t.val * 256 + i.val) :
    iblk m c 2 t (ix2 i j) = m ((c.tc : Thread nD τ).loc main_arg2) (ix2 k j) := by
  blk_simp [iblk, V, idx2]
  congr 1
  funext a
  apply Fin.ext
  match a with
  | ⟨0, _⟩ =>
      show ((win0_2.blk t).view.emb (ix2 i j) 0).val = k.val
      blk_simp [idx2]
      exact hk.symm
  | ⟨1, _⟩ => show ((win0_2.blk t).view.emb (ix2 i j) 1).val = j.val; blk_simp [idx2]

theorem row_at3 (t : Fin cfg0.N) (i : Fin 256) (j : Fin 640) (k : Fin 2048) (hk : k.val = t.val * 256 + i.val) :
    iblk m c 3 t (ix2 i j) = m ((c.tc : Thread nD τ).loc main_arg3) (ix2 k j) := by
  blk_simp [iblk, V, idx3]
  congr 1
  funext a
  apply Fin.ext
  match a with
  | ⟨0, _⟩ =>
      show ((win0_3.blk t).view.emb (ix2 i j) 0).val = k.val
      blk_simp [idx3]
      exact hk.symm
  | ⟨1, _⟩ => show ((win0_3.blk t).view.emb (ix2 i j) 1).val = j.val; blk_simp [idx3]

theorem out4 (G : FVec Ideal S2048x640 .f32) (hG : ∀ (t : Fin cfg0.N) (i : Fin 256) (j : Fin 640) (k : Fin 2048), k.val = t.val * 256 + i.val →
      out0_4 (iblk m c 0 t) (iblk m c 1 t) (iblk m c 2 t) (iblk m c 3 t) (ix2 i j) = G (ix2 k j)) :
    (dats m 0 c).arrAt 4 cfg0.N = G := by
  refine (dats m 0 c).arrAt_eq_of_covers 4 G (by decide +kernel) fun t hf y => ?_
  have ht : t.val < 8 := t.isLt
  obtain ⟨i, j, rfl⟩ : ∃ (i : Fin 256) (j : Fin 640), y = ix2 i j :=
    ⟨y 0, y 1, by funext a; match a with | ⟨0, _⟩ => rfl | ⟨1, _⟩ => rfl⟩
  have hi : i.val < 256 := i.isLt
  have hk : t.val * 256 + i.val < 2048 := by omega
  have e : (win0_4.blk t).view.emb (ix2 i j) = ix2 (⟨t.val * 256 + i.val, hk⟩ : Fin 2048) j := by
    funext a
    apply Fin.ext
    match a with
    | ⟨0, _⟩ => blk_simp [idx4]
    | ⟨1, _⟩ => blk_simp [idx4]
  blk_simp
  rw [after0_4, e]
  exact hG t i j ⟨t.val * 256 + i.val, hk⟩ rfl

theorem grads : (dats m 0 c).arrAt 4 cfg0.N = total (m ((c.tc : Thread nD τ).loc main_arg0)) := by
  refine out4 m c _ fun t i j k hk => ?_
  have hg := total_at (iblk m c 0 t) (iblk m c 1 t) (iblk m c 2 t) (iblk m c 3 t) (m ((c.tc : Thread nD τ).loc main_arg0)) i j k fun s => part_at m c t s i j k hk
  unfold out0_4
  rw [View.canon_unit_zero zeros]
  exact hg

theorem out5 (G : FVec Ideal S2048x640 .f32) (hG : ∀ (t : Fin cfg0.N) (i : Fin 256) (j : Fin 640) (k : Fin 2048), k.val = t.val * 256 + i.val →
      out0_5 (iblk m c 0 t) (iblk m c 1 t) (iblk m c 2 t) (iblk m c 3 t) (ix2 i j) = G (ix2 k j)) :
    (dats m 0 c).arrAt 5 cfg0.N = G := by
  refine (dats m 0 c).arrAt_eq_of_covers 5 G (by decide +kernel) fun t hf y => ?_
  have ht : t.val < 8 := t.isLt
  obtain ⟨i, j, rfl⟩ : ∃ (i : Fin 256) (j : Fin 640), y = ix2 i j :=
    ⟨y 0, y 1, by funext a; match a with | ⟨0, _⟩ => rfl | ⟨1, _⟩ => rfl⟩
  have hi : i.val < 256 := i.isLt
  have hk : t.val * 256 + i.val < 2048 := by omega
  have e : (win0_5.blk t).view.emb (ix2 i j) = ix2 (⟨t.val * 256 + i.val, hk⟩ : Fin 2048) j := by
    funext a
    apply Fin.ext
    match a with
    | ⟨0, _⟩ => blk_simp [idx5]
    | ⟨1, _⟩ => blk_simp [idx5]
  blk_simp
  rw [after0_5, e]
  exact hG t i j ⟨t.val * 256 + i.val, hk⟩ rfl

theorem change_array : (dats m 0 c).arrAt 5 cfg0.N = change (total (m ((c.tc : Thread nD τ).loc main_arg0))) (m ((c.tc : Thread nD τ).loc main_arg1)) (m ((c.tc : Thread nD τ).loc main_arg2)) (m ((c.tc : Thread nD τ).loc main_arg3)) := by
  refine out5 m c _ fun t i j k hk => ?_
  have hg := total_at (iblk m c 0 t) (iblk m c 1 t) (iblk m c 2 t) (iblk m c 3 t) (m ((c.tc : Thread nD τ).loc main_arg0)) i j k fun s => part_at m c t s i j k hk
  unfold out0_5
  rw [View.canon_unit_zero zeros, View.ld_unit_zero zeros, View.ld_unit_zero zeros, View.ld_unit_zero zeros]
  exact change_at _ _ _ _ _ _ i j k _ _ hg (row_at1 m c t i j k hk) (row_at2 m c t i j k hk) (row_at3 m c t i j k hk)

theorem out6 (G : FVec Ideal S2048x640 .f32) (hG : ∀ (t : Fin cfg0.N) (i : Fin 256) (j : Fin 640) (k : Fin 2048), k.val = t.val * 256 + i.val →
      out0_6 (iblk m c 0 t) (iblk m c 1 t) (iblk m c 2 t) (iblk m c 3 t) (ix2 i j) = G (ix2 k j)) :
    (dats m 0 c).arrAt 6 cfg0.N = G := by
  refine (dats m 0 c).arrAt_eq_of_covers 6 G (by decide +kernel) fun t hf y => ?_
  have ht : t.val < 8 := t.isLt
  obtain ⟨i, j, rfl⟩ : ∃ (i : Fin 256) (j : Fin 640), y = ix2 i j :=
    ⟨y 0, y 1, by funext a; match a with | ⟨0, _⟩ => rfl | ⟨1, _⟩ => rfl⟩
  have hi : i.val < 256 := i.isLt
  have hk : t.val * 256 + i.val < 2048 := by omega
  have e : (win0_6.blk t).view.emb (ix2 i j) = ix2 (⟨t.val * 256 + i.val, hk⟩ : Fin 2048) j := by
    funext a
    apply Fin.ext
    match a with
    | ⟨0, _⟩ => blk_simp [idx6]
    | ⟨1, _⟩ => blk_simp [idx6]
  blk_simp
  rw [after0_6, e]
  exact hG t i j ⟨t.val * 256 + i.val, hk⟩ rfl

theorem first_array : (dats m 0 c).arrAt 6 cfg0.N = first (total (m ((c.tc : Thread nD τ).loc main_arg0))) (m ((c.tc : Thread nD τ).loc main_arg2)) := by
  refine out6 m c _ fun t i j k hk => ?_
  have hg := total_at (iblk m c 0 t) (iblk m c 1 t) (iblk m c 2 t) (iblk m c 3 t) (m ((c.tc : Thread nD τ).loc main_arg0)) i j k fun s => part_at m c t s i j k hk
  unfold out0_6
  rw [View.canon_unit_zero zeros, View.ld_unit_zero zeros]
  exact first_at _ _ i j k _ _ hg (row_at2 m c t i j k hk)

theorem out7 (G : FVec Ideal S2048x640 .f32) (hG : ∀ (t : Fin cfg0.N) (i : Fin 256) (j : Fin 640) (k : Fin 2048), k.val = t.val * 256 + i.val →
      out0_7 (iblk m c 0 t) (iblk m c 1 t) (iblk m c 2 t) (iblk m c 3 t) (ix2 i j) = G (ix2 k j)) :
    (dats m 0 c).arrAt 7 cfg0.N = G := by
  refine (dats m 0 c).arrAt_eq_of_covers 7 G (by decide +kernel) fun t hf y => ?_
  have ht : t.val < 8 := t.isLt
  obtain ⟨i, j, rfl⟩ : ∃ (i : Fin 256) (j : Fin 640), y = ix2 i j :=
    ⟨y 0, y 1, by funext a; match a with | ⟨0, _⟩ => rfl | ⟨1, _⟩ => rfl⟩
  have hi : i.val < 256 := i.isLt
  have hk : t.val * 256 + i.val < 2048 := by omega
  have e : (win0_7.blk t).view.emb (ix2 i j) = ix2 (⟨t.val * 256 + i.val, hk⟩ : Fin 2048) j := by
    funext a
    apply Fin.ext
    match a with
    | ⟨0, _⟩ => blk_simp [idx7]
    | ⟨1, _⟩ => blk_simp [idx7]
  blk_simp
  rw [after0_7, e]
  exact hG t i j ⟨t.val * 256 + i.val, hk⟩ rfl

theorem second_array : (dats m 0 c).arrAt 7 cfg0.N = second (total (m ((c.tc : Thread nD τ).loc main_arg0))) (m ((c.tc : Thread nD τ).loc main_arg3)) := by
  refine out7 m c _ fun t i j k hk => ?_
  have hg := total_at (iblk m c 0 t) (iblk m c 1 t) (iblk m c 2 t) (iblk m c 3 t) (m ((c.tc : Thread nD τ).loc main_arg0)) i j k fun s => part_at m c t s i j k hk
  unfold out0_7
  rw [View.canon_unit_zero zeros, View.ld_unit_zero zeros]
  exact second_at _ _ i j k _ _ hg (row_at3 m c t i j k hk)

end AdamIn

end
-- ==== Proof.AdamGluValue.lean ====
/-
  The values of one weight's AdamW step: the four arrays are the sum of the partial gradients and the step taken with it.
-/
module

public import proofs.«01_k».proof.Proof.Gen.AdamGluIdeal.Frame
public import proofs.«01_k».proof.Proof.Gen.AdamGluReferenceIdeal.Run
public import Idealize.ShloMosaic.Lib.Pipeline.ValueKit
public import Idealize.ShloMosaic.Lib.ValueLayout

@[expose] public section

set_option Elab.async false

noncomputable section

namespace AdamGlu

open Idealize.ShloMosaic
open Idealize.ShloMosaic.TcCoe
open Cert.AdamGluIdeal Cert.AdamGluIdeal.Gen

/-- The reference's sum of the partial gradients. -/
abbrev total (x : FVec Ideal Cert.AdamGluReferenceIdeal.S8x128x1024 .bf16) : FVec Ideal Cert.AdamGluReferenceIdeal.S128x1024 .f32 :=
  Host.reduceAdd (extf .f32 x Cert.AdamGluReferenceIdeal.Gen.bitsLt_bf16_f32) (constant Cert.AdamGluReferenceIdeal.S_ .f32 0x00000000#32) Cert.AdamGluReferenceIdeal.Gen.reducesTo_S8x128x1024_S128x1024_d0 Cert.AdamGluReferenceIdeal.Gen.h_S_

/-- The reference's first moment after the step. -/
abbrev first (g mm : FVec Ideal Cert.AdamGluReferenceIdeal.S128x1024 .f32) : FVec Ideal Cert.AdamGluReferenceIdeal.S128x1024 .f32 :=
  addf (mulf (broadcastInDim Cert.AdamGluReferenceIdeal.S128x1024 ![] Cert.AdamGluReferenceIdeal.Gen.bcast_S_S128x1024 (constant Cert.AdamGluReferenceIdeal.S_ .f32 0x3F666666#32)) mm) (mulf (broadcastInDim Cert.AdamGluReferenceIdeal.S128x1024 ![] Cert.AdamGluReferenceIdeal.Gen.bcast_S_S128x1024 (constant Cert.AdamGluReferenceIdeal.S_ .f32 0x3DCCCCCD#32)) g)

/-- The reference's second moment after the step. -/
abbrev second (g v : FVec Ideal Cert.AdamGluReferenceIdeal.S128x1024 .f32) : FVec Ideal Cert.AdamGluReferenceIdeal.S128x1024 .f32 :=
  addf (mulf (broadcastInDim Cert.AdamGluReferenceIdeal.S128x1024 ![] Cert.AdamGluReferenceIdeal.Gen.bcast_S_S128x1024 (constant Cert.AdamGluReferenceIdeal.S_ .f32 0x3F7FBE77#32)) v) (mulf (broadcastInDim Cert.AdamGluReferenceIdeal.S128x1024 ![] Cert.AdamGluReferenceIdeal.Gen.bcast_S_S128x1024 (constant Cert.AdamGluReferenceIdeal.S_ .f32 0x3A83126F#32)) (mulf g g))

/-- The reference's change of the weight. -/
abbrev change (g w mm v : FVec Ideal Cert.AdamGluReferenceIdeal.S128x1024 .f32) : FVec Ideal Cert.AdamGluReferenceIdeal.S128x1024 .f32 :=
  mulf (broadcastInDim Cert.AdamGluReferenceIdeal.S128x1024 ![] Cert.AdamGluReferenceIdeal.Gen.bcast_S_S128x1024 (constant Cert.AdamGluReferenceIdeal.S_ .f32 0xBA83126F#32)) (addf
    (Host.divf (Host.divf (first g mm) (broadcastInDim Cert.AdamGluReferenceIdeal.S128x1024 ![] Cert.AdamGluReferenceIdeal.Gen.bcast_S_S128x1024 (constant Cert.AdamGluReferenceIdeal.S_ .f32 0x3F26BD02#32)))
      (addf (Host.sqrt (Host.divf (second g v) (broadcastInDim Cert.AdamGluReferenceIdeal.S128x1024 ![] Cert.AdamGluReferenceIdeal.Gen.bcast_S_S128x1024 (constant Cert.AdamGluReferenceIdeal.S_ .f32 0x3C231ACC#32)))) (broadcastInDim Cert.AdamGluReferenceIdeal.S128x1024 ![] Cert.AdamGluReferenceIdeal.Gen.bcast_S_S128x1024 (constant Cert.AdamGluReferenceIdeal.S_ .f32 0x322BCC77#32))))
    (mulf (broadcastInDim Cert.AdamGluReferenceIdeal.S128x1024 ![] Cert.AdamGluReferenceIdeal.Gen.bcast_S_S128x1024 (constant Cert.AdamGluReferenceIdeal.S_ .f32 0x3C23D70A#32)) w))

section tile

variable (x0 : Vec Ideal S8x128x1024 .bf16) (x1 x2 x3 : Vec Ideal S128x1024 .f32) (a0 : FVec Ideal Cert.AdamGluReferenceIdeal.S8x128x1024 .bf16) (a1 a2 a3 : FVec Ideal Cert.AdamGluReferenceIdeal.S128x1024 .f32)
  (i : Fin 128) (j : Fin 1024) (k : Fin 128)

/-- The sum of the eight devices' partial gradients, in one tile and in the whole array. -/
theorem total_at (h0 : ∀ s : Fin 8, x0 (ix3 s i j) = a0 (ix3 s k j)) : k0_pay5 x0 x1 x2 x3 (ix2 i j) = total a0 (ix2 k j) := by
  have ld (s : Fin 8) (inb) : View.ld x0 (Rect.unit (s := S8x128x1024) ![s.val, 0, 0] S1x128x1024.size inb) (ix3 (0 : Fin 1) i j) = x0 (ix3 s i j) :=
    View.ld_unit_apply_of x0 _ _ inb _ (ix3 s i j) fun a => by
      match a with
      | ⟨0, _⟩ => rfl
      | ⟨1, _⟩ => exact (Nat.zero_add _).symm
      | ⟨2, _⟩ => exact (Nat.zero_add _).symm
  have e : k0_pay5 x0 x1 x2 x3 (ix2 i j) = ∑ s : Fin 8, (x0 (ix3 s i j) : EReal) := by
    rw [Fin.sum_univ_eight]
    unfold k0_pay5
    pointwise [k0_pay4]
  rw [e]
  pointwise []
  exact Finset.sum_congr rfl fun s _ => h0 s

theorem first_at (y : FVec Ideal S128x1024 .f32) (g : FVec Ideal Cert.AdamGluReferenceIdeal.S128x1024 .f32) (hg : y (ix2 i j) = g (ix2 k j)) (h2 : x2 (ix2 i j) = a2 (ix2 k j)) :
    k0_pay1 y x2 (ix2 i j) = first g a2 (ix2 k j) := by
  pointwise [k0_pay1]
  rw [hg, h2]

theorem second_at (y : FVec Ideal S128x1024 .f32) (g : FVec Ideal Cert.AdamGluReferenceIdeal.S128x1024 .f32) (hg : y (ix2 i j) = g (ix2 k j)) (h3 : x3 (ix2 i j) = a3 (ix2 k j)) :
    k0_pay2 y x3 (ix2 i j) = second g a3 (ix2 k j) := by
  pointwise [k0_pay2]
  rw [hg, h3]

theorem change_at (y : FVec Ideal S128x1024 .f32) (g : FVec Ideal Cert.AdamGluReferenceIdeal.S128x1024 .f32) (hg : y (ix2 i j) = g (ix2 k j)) (h1 : x1 (ix2 i j) = a1 (ix2 k j))
    (h2 : x2 (ix2 i j) = a2 (ix2 k j)) (h3 : x3 (ix2 i j) = a3 (ix2 k j)) :
    k0_pay3 y x1 x2 x3 (ix2 i j) = change g a1 a2 a3 (ix2 k j) := by
  have e1 := first_at x2 a2 i j k y g hg h2
  have e2 := second_at x3 a3 i j k y g hg h3
  generalize hp : first g a2 = p at e1
  generalize hq : second g a3 = q at e2
  unfold change
  rw [hp, hq]
  pointwise [k0_pay3]
  rw [h1]
  rw [e1, e2]

end tile

theorem zeros : (![0, 0] : Fin 2 → Nat) = fun _ => 0 := funext fun a => by match a with | ⟨0, _⟩ => rfl | ⟨1, _⟩ => rfl

theorem idx0 : ∀ t : Fin cfg0.N, win0_0.index t = ![0, t.val, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![t.val, 0] := (by decide +kernel : ∀ t : Fin grid0.N, _)
theorem idx4 : ∀ t : Fin cfg0.N, win0_4.index t = ![t.val, 0] := (by decide +kernel : ∀ t : Fin grid0.N, _)
theorem idx5 : ∀ t : Fin cfg0.N, win0_5.index t = ![t.val, 0] := (by decide +kernel : ∀ t : Fin grid0.N, _)
theorem idx6 : ∀ t : Fin cfg0.N, win0_6.index t = ![t.val, 0] := (by decide +kernel : ∀ t : Fin grid0.N, _)
theorem idx7 : ∀ t : Fin cfg0.N, win0_7.index t = ![t.val, 0] := (by decide +kernel : ∀ t : Fin grid0.N, _)

variable (m : (ℓ : Loc nD τ sig) → Buf (Elt Ideal) ℓ) (c : Dev nD)

/-- A tile of the partial gradients, read in the whole array. -/
theorem part_at (t : Fin cfg0.N) (s : Fin 8) (i : Fin 128) (j : Fin 1024) (k : Fin 128) (hk : k.val = t.val * 128 + i.val) :
    iblk m c 0 t (ix3 s i j) = m ((c.tc : Thread nD τ).loc main_arg0) (ix3 s k j) := by
  blk_simp [iblk, V, idx0]
  congr 1
  funext a
  apply Fin.ext
  match a with
  | ⟨0, _⟩ => show ((win0_0.blk t).view.emb (ix3 s i j) 0).val = s.val; blk_simp [idx0]
  | ⟨1, _⟩ =>
      show ((win0_0.blk t).view.emb (ix3 s i j) 1).val = k.val
      blk_simp [idx0]
      have ht : t.val < 1 := t.isLt
      omega
  | ⟨2, _⟩ => show ((win0_0.blk t).view.emb (ix3 s i j) 2).val = j.val; blk_simp [idx0]

theorem row_at1 (t : Fin cfg0.N) (i : Fin 128) (j : Fin 1024) (k : Fin 128) (hk : k.val = t.val * 128 + i.val) :
    iblk m c 1 t (ix2 i j) = m ((c.tc : Thread nD τ).loc main_arg1) (ix2 k j) := by
  blk_simp [iblk, V, idx1]
  congr 1
  funext a
  apply Fin.ext
  match a with
  | ⟨0, _⟩ =>
      show ((win0_1.blk t).view.emb (ix2 i j) 0).val = k.val
      blk_simp [idx1]
      have ht : t.val < 1 := t.isLt
      omega
  | ⟨1, _⟩ => show ((win0_1.blk t).view.emb (ix2 i j) 1).val = j.val; blk_simp [idx1]

theorem row_at2 (t : Fin cfg0.N) (i : Fin 128) (j : Fin 1024) (k : Fin 128) (hk : k.val = t.val * 128 + i.val) :
    iblk m c 2 t (ix2 i j) = m ((c.tc : Thread nD τ).loc main_arg2) (ix2 k j) := by
  blk_simp [iblk, V, idx2]
  congr 1
  funext a
  apply Fin.ext
  match a with
  | ⟨0, _⟩ =>
      show ((win0_2.blk t).view.emb (ix2 i j) 0).val = k.val
      blk_simp [idx2]
      have ht : t.val < 1 := t.isLt
      omega
  | ⟨1, _⟩ => show ((win0_2.blk t).view.emb (ix2 i j) 1).val = j.val; blk_simp [idx2]

theorem row_at3 (t : Fin cfg0.N) (i : Fin 128) (j : Fin 1024) (k : Fin 128) (hk : k.val = t.val * 128 + i.val) :
    iblk m c 3 t (ix2 i j) = m ((c.tc : Thread nD τ).loc main_arg3) (ix2 k j) := by
  blk_simp [iblk, V, idx3]
  congr 1
  funext a
  apply Fin.ext
  match a with
  | ⟨0, _⟩ =>
      show ((win0_3.blk t).view.emb (ix2 i j) 0).val = k.val
      blk_simp [idx3]
      have ht : t.val < 1 := t.isLt
      omega
  | ⟨1, _⟩ => show ((win0_3.blk t).view.emb (ix2 i j) 1).val = j.val; blk_simp [idx3]

theorem out4 (G : FVec Ideal S128x1024 .f32) (hG : ∀ (t : Fin cfg0.N) (i : Fin 128) (j : Fin 1024) (k : Fin 128), k.val = t.val * 128 + i.val →
      out0_4 (iblk m c 0 t) (iblk m c 1 t) (iblk m c 2 t) (iblk m c 3 t) (ix2 i j) = G (ix2 k j)) :
    (dats m 0 c).arrAt 4 cfg0.N = G := by
  refine (dats m 0 c).arrAt_eq_of_covers 4 G (by decide +kernel) fun t hf y => ?_
  have ht : t.val < 1 := t.isLt
  obtain ⟨i, j, rfl⟩ : ∃ (i : Fin 128) (j : Fin 1024), y = ix2 i j :=
    ⟨y 0, y 1, by funext a; match a with | ⟨0, _⟩ => rfl | ⟨1, _⟩ => rfl⟩
  have hi : i.val < 128 := i.isLt
  have hk : t.val * 128 + i.val < 128 := by omega
  have e : (win0_4.blk t).view.emb (ix2 i j) = ix2 (⟨t.val * 128 + i.val, hk⟩ : Fin 128) j := by
    funext a
    apply Fin.ext
    match a with
    | ⟨0, _⟩ => blk_simp [idx4]
    | ⟨1, _⟩ => blk_simp [idx4]
  blk_simp
  rw [after0_4, e]
  exact hG t i j ⟨t.val * 128 + i.val, hk⟩ rfl

theorem grads : (dats m 0 c).arrAt 4 cfg0.N = total (m ((c.tc : Thread nD τ).loc main_arg0)) := by
  refine out4 m c _ fun t i j k hk => ?_
  have hg := total_at (iblk m c 0 t) (iblk m c 1 t) (iblk m c 2 t) (iblk m c 3 t) (m ((c.tc : Thread nD τ).loc main_arg0)) i j k fun s => part_at m c t s i j k hk
  unfold out0_4
  rw [View.canon_unit_zero zeros]
  exact hg

theorem out5 (G : FVec Ideal S128x1024 .f32) (hG : ∀ (t : Fin cfg0.N) (i : Fin 128) (j : Fin 1024) (k : Fin 128), k.val = t.val * 128 + i.val →
      out0_5 (iblk m c 0 t) (iblk m c 1 t) (iblk m c 2 t) (iblk m c 3 t) (ix2 i j) = G (ix2 k j)) :
    (dats m 0 c).arrAt 5 cfg0.N = G := by
  refine (dats m 0 c).arrAt_eq_of_covers 5 G (by decide +kernel) fun t hf y => ?_
  have ht : t.val < 1 := t.isLt
  obtain ⟨i, j, rfl⟩ : ∃ (i : Fin 128) (j : Fin 1024), y = ix2 i j :=
    ⟨y 0, y 1, by funext a; match a with | ⟨0, _⟩ => rfl | ⟨1, _⟩ => rfl⟩
  have hi : i.val < 128 := i.isLt
  have hk : t.val * 128 + i.val < 128 := by omega
  have e : (win0_5.blk t).view.emb (ix2 i j) = ix2 (⟨t.val * 128 + i.val, hk⟩ : Fin 128) j := by
    funext a
    apply Fin.ext
    match a with
    | ⟨0, _⟩ => blk_simp [idx5]
    | ⟨1, _⟩ => blk_simp [idx5]
  blk_simp
  rw [after0_5, e]
  exact hG t i j ⟨t.val * 128 + i.val, hk⟩ rfl

theorem change_array : (dats m 0 c).arrAt 5 cfg0.N = change (total (m ((c.tc : Thread nD τ).loc main_arg0))) (m ((c.tc : Thread nD τ).loc main_arg1)) (m ((c.tc : Thread nD τ).loc main_arg2)) (m ((c.tc : Thread nD τ).loc main_arg3)) := by
  refine out5 m c _ fun t i j k hk => ?_
  have hg := total_at (iblk m c 0 t) (iblk m c 1 t) (iblk m c 2 t) (iblk m c 3 t) (m ((c.tc : Thread nD τ).loc main_arg0)) i j k fun s => part_at m c t s i j k hk
  unfold out0_5
  rw [View.canon_unit_zero zeros, View.ld_unit_zero zeros, View.ld_unit_zero zeros, View.ld_unit_zero zeros]
  exact change_at _ _ _ _ _ _ i j k _ _ hg (row_at1 m c t i j k hk) (row_at2 m c t i j k hk) (row_at3 m c t i j k hk)

theorem out6 (G : FVec Ideal S128x1024 .f32) (hG : ∀ (t : Fin cfg0.N) (i : Fin 128) (j : Fin 1024) (k : Fin 128), k.val = t.val * 128 + i.val →
      out0_6 (iblk m c 0 t) (iblk m c 1 t) (iblk m c 2 t) (iblk m c 3 t) (ix2 i j) = G (ix2 k j)) :
    (dats m 0 c).arrAt 6 cfg0.N = G := by
  refine (dats m 0 c).arrAt_eq_of_covers 6 G (by decide +kernel) fun t hf y => ?_
  have ht : t.val < 1 := t.isLt
  obtain ⟨i, j, rfl⟩ : ∃ (i : Fin 128) (j : Fin 1024), y = ix2 i j :=
    ⟨y 0, y 1, by funext a; match a with | ⟨0, _⟩ => rfl | ⟨1, _⟩ => rfl⟩
  have hi : i.val < 128 := i.isLt
  have hk : t.val * 128 + i.val < 128 := by omega
  have e : (win0_6.blk t).view.emb (ix2 i j) = ix2 (⟨t.val * 128 + i.val, hk⟩ : Fin 128) j := by
    funext a
    apply Fin.ext
    match a with
    | ⟨0, _⟩ => blk_simp [idx6]
    | ⟨1, _⟩ => blk_simp [idx6]
  blk_simp
  rw [after0_6, e]
  exact hG t i j ⟨t.val * 128 + i.val, hk⟩ rfl

theorem first_array : (dats m 0 c).arrAt 6 cfg0.N = first (total (m ((c.tc : Thread nD τ).loc main_arg0))) (m ((c.tc : Thread nD τ).loc main_arg2)) := by
  refine out6 m c _ fun t i j k hk => ?_
  have hg := total_at (iblk m c 0 t) (iblk m c 1 t) (iblk m c 2 t) (iblk m c 3 t) (m ((c.tc : Thread nD τ).loc main_arg0)) i j k fun s => part_at m c t s i j k hk
  unfold out0_6
  rw [View.canon_unit_zero zeros, View.ld_unit_zero zeros]
  exact first_at _ _ i j k _ _ hg (row_at2 m c t i j k hk)

theorem out7 (G : FVec Ideal S128x1024 .f32) (hG : ∀ (t : Fin cfg0.N) (i : Fin 128) (j : Fin 1024) (k : Fin 128), k.val = t.val * 128 + i.val →
      out0_7 (iblk m c 0 t) (iblk m c 1 t) (iblk m c 2 t) (iblk m c 3 t) (ix2 i j) = G (ix2 k j)) :
    (dats m 0 c).arrAt 7 cfg0.N = G := by
  refine (dats m 0 c).arrAt_eq_of_covers 7 G (by decide +kernel) fun t hf y => ?_
  have ht : t.val < 1 := t.isLt
  obtain ⟨i, j, rfl⟩ : ∃ (i : Fin 128) (j : Fin 1024), y = ix2 i j :=
    ⟨y 0, y 1, by funext a; match a with | ⟨0, _⟩ => rfl | ⟨1, _⟩ => rfl⟩
  have hi : i.val < 128 := i.isLt
  have hk : t.val * 128 + i.val < 128 := by omega
  have e : (win0_7.blk t).view.emb (ix2 i j) = ix2 (⟨t.val * 128 + i.val, hk⟩ : Fin 128) j := by
    funext a
    apply Fin.ext
    match a with
    | ⟨0, _⟩ => blk_simp [idx7]
    | ⟨1, _⟩ => blk_simp [idx7]
  blk_simp
  rw [after0_7, e]
  exact hG t i j ⟨t.val * 128 + i.val, hk⟩ rfl

theorem second_array : (dats m 0 c).arrAt 7 cfg0.N = second (total (m ((c.tc : Thread nD τ).loc main_arg0))) (m ((c.tc : Thread nD τ).loc main_arg3)) := by
  refine out7 m c _ fun t i j k hk => ?_
  have hg := total_at (iblk m c 0 t) (iblk m c 1 t) (iblk m c 2 t) (iblk m c 3 t) (m ((c.tc : Thread nD τ).loc main_arg0)) i j k fun s => part_at m c t s i j k hk
  unfold out0_7
  rw [View.canon_unit_zero zeros, View.ld_unit_zero zeros]
  exact second_at _ _ i j k _ _ hg (row_at3 m c t i j k hk)

end AdamGlu

end
-- ==== Proof.AdamOutValue.lean ====
/-
  The values of one weight's AdamW step: the four arrays are the sum of the partial gradients and the step taken with it.
-/
module

public import proofs.«01_k».proof.Proof.Gen.AdamOutIdeal.Frame
public import proofs.«01_k».proof.Proof.Gen.AdamOutReferenceIdeal.Run
public import Idealize.ShloMosaic.Lib.Pipeline.ValueKit
public import Idealize.ShloMosaic.Lib.ValueLayout

@[expose] public section

set_option Elab.async false

noncomputable section

namespace AdamOut

open Idealize.ShloMosaic
open Idealize.ShloMosaic.TcCoe
open Cert.AdamOutIdeal Cert.AdamOutIdeal.Gen

/-- The reference's sum of the partial gradients. -/
abbrev total (x : FVec Ideal Cert.AdamOutReferenceIdeal.S8x256x2048 .bf16) : FVec Ideal Cert.AdamOutReferenceIdeal.S256x2048 .f32 :=
  Host.reduceAdd (extf .f32 x Cert.AdamOutReferenceIdeal.Gen.bitsLt_bf16_f32) (constant Cert.AdamOutReferenceIdeal.S_ .f32 0x00000000#32) Cert.AdamOutReferenceIdeal.Gen.reducesTo_S8x256x2048_S256x2048_d0 Cert.AdamOutReferenceIdeal.Gen.h_S_

/-- The reference's first moment after the step. -/
abbrev first (g mm : FVec Ideal Cert.AdamOutReferenceIdeal.S256x2048 .f32) : FVec Ideal Cert.AdamOutReferenceIdeal.S256x2048 .f32 :=
  addf (mulf (broadcastInDim Cert.AdamOutReferenceIdeal.S256x2048 ![] Cert.AdamOutReferenceIdeal.Gen.bcast_S_S256x2048 (constant Cert.AdamOutReferenceIdeal.S_ .f32 0x3F666666#32)) mm) (mulf (broadcastInDim Cert.AdamOutReferenceIdeal.S256x2048 ![] Cert.AdamOutReferenceIdeal.Gen.bcast_S_S256x2048 (constant Cert.AdamOutReferenceIdeal.S_ .f32 0x3DCCCCCD#32)) g)

/-- The reference's second moment after the step. -/
abbrev second (g v : FVec Ideal Cert.AdamOutReferenceIdeal.S256x2048 .f32) : FVec Ideal Cert.AdamOutReferenceIdeal.S256x2048 .f32 :=
  addf (mulf (broadcastInDim Cert.AdamOutReferenceIdeal.S256x2048 ![] Cert.AdamOutReferenceIdeal.Gen.bcast_S_S256x2048 (constant Cert.AdamOutReferenceIdeal.S_ .f32 0x3F7FBE77#32)) v) (mulf (broadcastInDim Cert.AdamOutReferenceIdeal.S256x2048 ![] Cert.AdamOutReferenceIdeal.Gen.bcast_S_S256x2048 (constant Cert.AdamOutReferenceIdeal.S_ .f32 0x3A83126F#32)) (mulf g g))

/-- The reference's change of the weight. -/
abbrev change (g w mm v : FVec Ideal Cert.AdamOutReferenceIdeal.S256x2048 .f32) : FVec Ideal Cert.AdamOutReferenceIdeal.S256x2048 .f32 :=
  mulf (broadcastInDim Cert.AdamOutReferenceIdeal.S256x2048 ![] Cert.AdamOutReferenceIdeal.Gen.bcast_S_S256x2048 (constant Cert.AdamOutReferenceIdeal.S_ .f32 0xBA83126F#32)) (addf
    (Host.divf (Host.divf (first g mm) (broadcastInDim Cert.AdamOutReferenceIdeal.S256x2048 ![] Cert.AdamOutReferenceIdeal.Gen.bcast_S_S256x2048 (constant Cert.AdamOutReferenceIdeal.S_ .f32 0x3F26BD02#32)))
      (addf (Host.sqrt (Host.divf (second g v) (broadcastInDim Cert.AdamOutReferenceIdeal.S256x2048 ![] Cert.AdamOutReferenceIdeal.Gen.bcast_S_S256x2048 (constant Cert.AdamOutReferenceIdeal.S_ .f32 0x3C231ACC#32)))) (broadcastInDim Cert.AdamOutReferenceIdeal.S256x2048 ![] Cert.AdamOutReferenceIdeal.Gen.bcast_S_S256x2048 (constant Cert.AdamOutReferenceIdeal.S_ .f32 0x322BCC77#32))))
    (mulf (broadcastInDim Cert.AdamOutReferenceIdeal.S256x2048 ![] Cert.AdamOutReferenceIdeal.Gen.bcast_S_S256x2048 (constant Cert.AdamOutReferenceIdeal.S_ .f32 0x3C23D70A#32)) w))

section tile

variable (x0 : Vec Ideal S8x128x2048 .bf16) (x1 x2 x3 : Vec Ideal S128x2048 .f32) (a0 : FVec Ideal Cert.AdamOutReferenceIdeal.S8x256x2048 .bf16) (a1 a2 a3 : FVec Ideal Cert.AdamOutReferenceIdeal.S256x2048 .f32)
  (i : Fin 128) (j : Fin 2048) (k : Fin 256)

/-- The sum of the eight devices' partial gradients, in one tile and in the whole array. -/
theorem total_at (h0 : ∀ s : Fin 8, x0 (ix3 s i j) = a0 (ix3 s k j)) : k0_pay5 x0 x1 x2 x3 (ix2 i j) = total a0 (ix2 k j) := by
  have ld (s : Fin 8) (inb) : View.ld x0 (Rect.unit (s := S8x128x2048) ![s.val, 0, 0] S1x128x2048.size inb) (ix3 (0 : Fin 1) i j) = x0 (ix3 s i j) :=
    View.ld_unit_apply_of x0 _ _ inb _ (ix3 s i j) fun a => by
      match a with
      | ⟨0, _⟩ => rfl
      | ⟨1, _⟩ => exact (Nat.zero_add _).symm
      | ⟨2, _⟩ => exact (Nat.zero_add _).symm
  have e : k0_pay5 x0 x1 x2 x3 (ix2 i j) = ∑ s : Fin 8, (x0 (ix3 s i j) : EReal) := by
    rw [Fin.sum_univ_eight]
    unfold k0_pay5
    pointwise [k0_pay4]
  rw [e]
  pointwise []
  exact Finset.sum_congr rfl fun s _ => h0 s

theorem first_at (y : FVec Ideal S128x2048 .f32) (g : FVec Ideal Cert.AdamOutReferenceIdeal.S256x2048 .f32) (hg : y (ix2 i j) = g (ix2 k j)) (h2 : x2 (ix2 i j) = a2 (ix2 k j)) :
    k0_pay1 y x2 (ix2 i j) = first g a2 (ix2 k j) := by
  pointwise [k0_pay1]
  rw [hg, h2]

theorem second_at (y : FVec Ideal S128x2048 .f32) (g : FVec Ideal Cert.AdamOutReferenceIdeal.S256x2048 .f32) (hg : y (ix2 i j) = g (ix2 k j)) (h3 : x3 (ix2 i j) = a3 (ix2 k j)) :
    k0_pay2 y x3 (ix2 i j) = second g a3 (ix2 k j) := by
  pointwise [k0_pay2]
  rw [hg, h3]

theorem change_at (y : FVec Ideal S128x2048 .f32) (g : FVec Ideal Cert.AdamOutReferenceIdeal.S256x2048 .f32) (hg : y (ix2 i j) = g (ix2 k j)) (h1 : x1 (ix2 i j) = a1 (ix2 k j))
    (h2 : x2 (ix2 i j) = a2 (ix2 k j)) (h3 : x3 (ix2 i j) = a3 (ix2 k j)) :
    k0_pay3 y x1 x2 x3 (ix2 i j) = change g a1 a2 a3 (ix2 k j) := by
  have e1 := first_at x2 a2 i j k y g hg h2
  have e2 := second_at x3 a3 i j k y g hg h3
  generalize hp : first g a2 = p at e1
  generalize hq : second g a3 = q at e2
  unfold change
  rw [hp, hq]
  pointwise [k0_pay3]
  rw [h1]
  rw [e1, e2]

end tile

theorem zeros : (![0, 0] : Fin 2 → Nat) = fun _ => 0 := funext fun a => by match a with | ⟨0, _⟩ => rfl | ⟨1, _⟩ => rfl

theorem idx0 : ∀ t : Fin cfg0.N, win0_0.index t = ![0, t.val, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![t.val, 0] := (by decide +kernel : ∀ t : Fin grid0.N, _)
theorem idx4 : ∀ t : Fin cfg0.N, win0_4.index t = ![t.val, 0] := (by decide +kernel : ∀ t : Fin grid0.N, _)
theorem idx5 : ∀ t : Fin cfg0.N, win0_5.index t = ![t.val, 0] := (by decide +kernel : ∀ t : Fin grid0.N, _)
theorem idx6 : ∀ t : Fin cfg0.N, win0_6.index t = ![t.val, 0] := (by decide +kernel : ∀ t : Fin grid0.N, _)
theorem idx7 : ∀ t : Fin cfg0.N, win0_7.index t = ![t.val, 0] := (by decide +kernel : ∀ t : Fin grid0.N, _)

variable (m : (ℓ : Loc nD τ sig) → Buf (Elt Ideal) ℓ) (c : Dev nD)

/-- A tile of the partial gradients, read in the whole array. -/
theorem part_at (t : Fin cfg0.N) (s : Fin 8) (i : Fin 128) (j : Fin 2048) (k : Fin 256) (hk : k.val = t.val * 128 + i.val) :
    iblk m c 0 t (ix3 s i j) = m ((c.tc : Thread nD τ).loc main_arg0) (ix3 s k j) := by
  blk_simp [iblk, V, idx0]
  congr 1
  funext a
  apply Fin.ext
  match a with
  | ⟨0, _⟩ => show ((win0_0.blk t).view.emb (ix3 s i j) 0).val = s.val; blk_simp [idx0]
  | ⟨1, _⟩ =>
      show ((win0_0.blk t).view.emb (ix3 s i j) 1).val = k.val
      blk_simp [idx0]
      exact hk.symm
  | ⟨2, _⟩ => show ((win0_0.blk t).view.emb (ix3 s i j) 2).val = j.val; blk_simp [idx0]

theorem row_at1 (t : Fin cfg0.N) (i : Fin 128) (j : Fin 2048) (k : Fin 256) (hk : k.val = t.val * 128 + i.val) :
    iblk m c 1 t (ix2 i j) = m ((c.tc : Thread nD τ).loc main_arg1) (ix2 k j) := by
  blk_simp [iblk, V, idx1]
  congr 1
  funext a
  apply Fin.ext
  match a with
  | ⟨0, _⟩ =>
      show ((win0_1.blk t).view.emb (ix2 i j) 0).val = k.val
      blk_simp [idx1]
      exact hk.symm
  | ⟨1, _⟩ => show ((win0_1.blk t).view.emb (ix2 i j) 1).val = j.val; blk_simp [idx1]

theorem row_at2 (t : Fin cfg0.N) (i : Fin 128) (j : Fin 2048) (k : Fin 256) (hk : k.val = t.val * 128 + i.val) :
    iblk m c 2 t (ix2 i j) = m ((c.tc : Thread nD τ).loc main_arg2) (ix2 k j) := by
  blk_simp [iblk, V, idx2]
  congr 1
  funext a
  apply Fin.ext
  match a with
  | ⟨0, _⟩ =>
      show ((win0_2.blk t).view.emb (ix2 i j) 0).val = k.val
      blk_simp [idx2]
      exact hk.symm
  | ⟨1, _⟩ => show ((win0_2.blk t).view.emb (ix2 i j) 1).val = j.val; blk_simp [idx2]

theorem row_at3 (t : Fin cfg0.N) (i : Fin 128) (j : Fin 2048) (k : Fin 256) (hk : k.val = t.val * 128 + i.val) :
    iblk m c 3 t (ix2 i j) = m ((c.tc : Thread nD τ).loc main_arg3) (ix2 k j) := by
  blk_simp [iblk, V, idx3]
  congr 1
  funext a
  apply Fin.ext
  match a with
  | ⟨0, _⟩ =>
      show ((win0_3.blk t).view.emb (ix2 i j) 0).val = k.val
      blk_simp [idx3]
      exact hk.symm
  | ⟨1, _⟩ => show ((win0_3.blk t).view.emb (ix2 i j) 1).val = j.val; blk_simp [idx3]

theorem out4 (G : FVec Ideal S256x2048 .f32) (hG : ∀ (t : Fin cfg0.N) (i : Fin 128) (j : Fin 2048) (k : Fin 256), k.val = t.val * 128 + i.val →
      out0_4 (iblk m c 0 t) (iblk m c 1 t) (iblk m c 2 t) (iblk m c 3 t) (ix2 i j) = G (ix2 k j)) :
    (dats m 0 c).arrAt 4 cfg0.N = G := by
  refine (dats m 0 c).arrAt_eq_of_covers 4 G (by decide +kernel) fun t hf y => ?_
  have ht : t.val < 2 := t.isLt
  obtain ⟨i, j, rfl⟩ : ∃ (i : Fin 128) (j : Fin 2048), y = ix2 i j :=
    ⟨y 0, y 1, by funext a; match a with | ⟨0, _⟩ => rfl | ⟨1, _⟩ => rfl⟩
  have hi : i.val < 128 := i.isLt
  have hk : t.val * 128 + i.val < 256 := by omega
  have e : (win0_4.blk t).view.emb (ix2 i j) = ix2 (⟨t.val * 128 + i.val, hk⟩ : Fin 256) j := by
    funext a
    apply Fin.ext
    match a with
    | ⟨0, _⟩ => blk_simp [idx4]
    | ⟨1, _⟩ => blk_simp [idx4]
  blk_simp
  rw [after0_4, e]
  exact hG t i j ⟨t.val * 128 + i.val, hk⟩ rfl

theorem grads : (dats m 0 c).arrAt 4 cfg0.N = total (m ((c.tc : Thread nD τ).loc main_arg0)) := by
  refine out4 m c _ fun t i j k hk => ?_
  have hg := total_at (iblk m c 0 t) (iblk m c 1 t) (iblk m c 2 t) (iblk m c 3 t) (m ((c.tc : Thread nD τ).loc main_arg0)) i j k fun s => part_at m c t s i j k hk
  unfold out0_4
  rw [View.canon_unit_zero zeros]
  exact hg

theorem out5 (G : FVec Ideal S256x2048 .f32) (hG : ∀ (t : Fin cfg0.N) (i : Fin 128) (j : Fin 2048) (k : Fin 256), k.val = t.val * 128 + i.val →
      out0_5 (iblk m c 0 t) (iblk m c 1 t) (iblk m c 2 t) (iblk m c 3 t) (ix2 i j) = G (ix2 k j)) :
    (dats m 0 c).arrAt 5 cfg0.N = G := by
  refine (dats m 0 c).arrAt_eq_of_covers 5 G (by decide +kernel) fun t hf y => ?_
  have ht : t.val < 2 := t.isLt
  obtain ⟨i, j, rfl⟩ : ∃ (i : Fin 128) (j : Fin 2048), y = ix2 i j :=
    ⟨y 0, y 1, by funext a; match a with | ⟨0, _⟩ => rfl | ⟨1, _⟩ => rfl⟩
  have hi : i.val < 128 := i.isLt
  have hk : t.val * 128 + i.val < 256 := by omega
  have e : (win0_5.blk t).view.emb (ix2 i j) = ix2 (⟨t.val * 128 + i.val, hk⟩ : Fin 256) j := by
    funext a
    apply Fin.ext
    match a with
    | ⟨0, _⟩ => blk_simp [idx5]
    | ⟨1, _⟩ => blk_simp [idx5]
  blk_simp
  rw [after0_5, e]
  exact hG t i j ⟨t.val * 128 + i.val, hk⟩ rfl

theorem change_array : (dats m 0 c).arrAt 5 cfg0.N = change (total (m ((c.tc : Thread nD τ).loc main_arg0))) (m ((c.tc : Thread nD τ).loc main_arg1)) (m ((c.tc : Thread nD τ).loc main_arg2)) (m ((c.tc : Thread nD τ).loc main_arg3)) := by
  refine out5 m c _ fun t i j k hk => ?_
  have hg := total_at (iblk m c 0 t) (iblk m c 1 t) (iblk m c 2 t) (iblk m c 3 t) (m ((c.tc : Thread nD τ).loc main_arg0)) i j k fun s => part_at m c t s i j k hk
  unfold out0_5
  rw [View.canon_unit_zero zeros, View.ld_unit_zero zeros, View.ld_unit_zero zeros, View.ld_unit_zero zeros]
  exact change_at _ _ _ _ _ _ i j k _ _ hg (row_at1 m c t i j k hk) (row_at2 m c t i j k hk) (row_at3 m c t i j k hk)

theorem out6 (G : FVec Ideal S256x2048 .f32) (hG : ∀ (t : Fin cfg0.N) (i : Fin 128) (j : Fin 2048) (k : Fin 256), k.val = t.val * 128 + i.val →
      out0_6 (iblk m c 0 t) (iblk m c 1 t) (iblk m c 2 t) (iblk m c 3 t) (ix2 i j) = G (ix2 k j)) :
    (dats m 0 c).arrAt 6 cfg0.N = G := by
  refine (dats m 0 c).arrAt_eq_of_covers 6 G (by decide +kernel) fun t hf y => ?_
  have ht : t.val < 2 := t.isLt
  obtain ⟨i, j, rfl⟩ : ∃ (i : Fin 128) (j : Fin 2048), y = ix2 i j :=
    ⟨y 0, y 1, by funext a; match a with | ⟨0, _⟩ => rfl | ⟨1, _⟩ => rfl⟩
  have hi : i.val < 128 := i.isLt
  have hk : t.val * 128 + i.val < 256 := by omega
  have e : (win0_6.blk t).view.emb (ix2 i j) = ix2 (⟨t.val * 128 + i.val, hk⟩ : Fin 256) j := by
    funext a
    apply Fin.ext
    match a with
    | ⟨0, _⟩ => blk_simp [idx6]
    | ⟨1, _⟩ => blk_simp [idx6]
  blk_simp
  rw [after0_6, e]
  exact hG t i j ⟨t.val * 128 + i.val, hk⟩ rfl

theorem first_array : (dats m 0 c).arrAt 6 cfg0.N = first (total (m ((c.tc : Thread nD τ).loc main_arg0))) (m ((c.tc : Thread nD τ).loc main_arg2)) := by
  refine out6 m c _ fun t i j k hk => ?_
  have hg := total_at (iblk m c 0 t) (iblk m c 1 t) (iblk m c 2 t) (iblk m c 3 t) (m ((c.tc : Thread nD τ).loc main_arg0)) i j k fun s => part_at m c t s i j k hk
  unfold out0_6
  rw [View.canon_unit_zero zeros, View.ld_unit_zero zeros]
  exact first_at _ _ i j k _ _ hg (row_at2 m c t i j k hk)

theorem out7 (G : FVec Ideal S256x2048 .f32) (hG : ∀ (t : Fin cfg0.N) (i : Fin 128) (j : Fin 2048) (k : Fin 256), k.val = t.val * 128 + i.val →
      out0_7 (iblk m c 0 t) (iblk m c 1 t) (iblk m c 2 t) (iblk m c 3 t) (ix2 i j) = G (ix2 k j)) :
    (dats m 0 c).arrAt 7 cfg0.N = G := by
  refine (dats m 0 c).arrAt_eq_of_covers 7 G (by decide +kernel) fun t hf y => ?_
  have ht : t.val < 2 := t.isLt
  obtain ⟨i, j, rfl⟩ : ∃ (i : Fin 128) (j : Fin 2048), y = ix2 i j :=
    ⟨y 0, y 1, by funext a; match a with | ⟨0, _⟩ => rfl | ⟨1, _⟩ => rfl⟩
  have hi : i.val < 128 := i.isLt
  have hk : t.val * 128 + i.val < 256 := by omega
  have e : (win0_7.blk t).view.emb (ix2 i j) = ix2 (⟨t.val * 128 + i.val, hk⟩ : Fin 256) j := by
    funext a
    apply Fin.ext
    match a with
    | ⟨0, _⟩ => blk_simp [idx7]
    | ⟨1, _⟩ => blk_simp [idx7]
  blk_simp
  rw [after0_7, e]
  exact hG t i j ⟨t.val * 128 + i.val, hk⟩ rfl

theorem second_array : (dats m 0 c).arrAt 7 cfg0.N = second (total (m ((c.tc : Thread nD τ).loc main_arg0))) (m ((c.tc : Thread nD τ).loc main_arg3)) := by
  refine out7 m c _ fun t i j k hk => ?_
  have hg := total_at (iblk m c 0 t) (iblk m c 1 t) (iblk m c 2 t) (iblk m c 3 t) (m ((c.tc : Thread nD τ).loc main_arg0)) i j k fun s => part_at m c t s i j k hk
  unfold out0_7
  rw [View.canon_unit_zero zeros, View.ld_unit_zero zeros]
  exact second_at _ _ i j k _ _ hg (row_at3 m c t i j k hk)

end AdamOut

end
-- ==== Proof.AdamGateValue.lean ====
/-
  The values of one weight's AdamW step: the four arrays are the sum of the partial gradients and the step taken with it.
-/
module

public import proofs.«01_k».proof.Proof.Gen.AdamGateIdeal.Frame
public import proofs.«01_k».proof.Proof.Gen.AdamGateReferenceIdeal.Run
public import Idealize.ShloMosaic.Lib.Pipeline.ValueKit
public import Idealize.ShloMosaic.Lib.ValueLayout

@[expose] public section

set_option Elab.async false

noncomputable section

namespace AdamGate

open Idealize.ShloMosaic
open Idealize.ShloMosaic.TcCoe
open Cert.AdamGateIdeal Cert.AdamGateIdeal.Gen

/-- The reference's sum of the partial gradients. -/
abbrev total (x : FVec Ideal Cert.AdamGateReferenceIdeal.S8x2048x704 .bf16) : FVec Ideal Cert.AdamGateReferenceIdeal.S2048x704 .f32 :=
  Host.reduceAdd (extf .f32 x Cert.AdamGateReferenceIdeal.Gen.bitsLt_bf16_f32) (constant Cert.AdamGateReferenceIdeal.S_ .f32 0x00000000#32) Cert.AdamGateReferenceIdeal.Gen.reducesTo_S8x2048x704_S2048x704_d0 Cert.AdamGateReferenceIdeal.Gen.h_S_

/-- The reference's first moment after the step. -/
abbrev first (g mm : FVec Ideal Cert.AdamGateReferenceIdeal.S2048x704 .f32) : FVec Ideal Cert.AdamGateReferenceIdeal.S2048x704 .f32 :=
  addf (mulf (broadcastInDim Cert.AdamGateReferenceIdeal.S2048x704 ![] Cert.AdamGateReferenceIdeal.Gen.bcast_S_S2048x704 (constant Cert.AdamGateReferenceIdeal.S_ .f32 0x3F666666#32)) mm) (mulf (broadcastInDim Cert.AdamGateReferenceIdeal.S2048x704 ![] Cert.AdamGateReferenceIdeal.Gen.bcast_S_S2048x704 (constant Cert.AdamGateReferenceIdeal.S_ .f32 0x3DCCCCCD#32)) g)

/-- The reference's second moment after the step. -/
abbrev second (g v : FVec Ideal Cert.AdamGateReferenceIdeal.S2048x704 .f32) : FVec Ideal Cert.AdamGateReferenceIdeal.S2048x704 .f32 :=
  addf (mulf (broadcastInDim Cert.AdamGateReferenceIdeal.S2048x704 ![] Cert.AdamGateReferenceIdeal.Gen.bcast_S_S2048x704 (constant Cert.AdamGateReferenceIdeal.S_ .f32 0x3F7FBE77#32)) v) (mulf (broadcastInDim Cert.AdamGateReferenceIdeal.S2048x704 ![] Cert.AdamGateReferenceIdeal.Gen.bcast_S_S2048x704 (constant Cert.AdamGateReferenceIdeal.S_ .f32 0x3A83126F#32)) (mulf g g))

/-- The reference's change of the weight. -/
abbrev change (g w mm v : FVec Ideal Cert.AdamGateReferenceIdeal.S2048x704 .f32) : FVec Ideal Cert.AdamGateReferenceIdeal.S2048x704 .f32 :=
  mulf (broadcastInDim Cert.AdamGateReferenceIdeal.S2048x704 ![] Cert.AdamGateReferenceIdeal.Gen.bcast_S_S2048x704 (constant Cert.AdamGateReferenceIdeal.S_ .f32 0xBA83126F#32)) (addf
    (Host.divf (Host.divf (first g mm) (broadcastInDim Cert.AdamGateReferenceIdeal.S2048x704 ![] Cert.AdamGateReferenceIdeal.Gen.bcast_S_S2048x704 (constant Cert.AdamGateReferenceIdeal.S_ .f32 0x3F26BD02#32)))
      (addf (Host.sqrt (Host.divf (second g v) (broadcastInDim Cert.AdamGateReferenceIdeal.S2048x704 ![] Cert.AdamGateReferenceIdeal.Gen.bcast_S_S2048x704 (constant Cert.AdamGateReferenceIdeal.S_ .f32 0x3C231ACC#32)))) (broadcastInDim Cert.AdamGateReferenceIdeal.S2048x704 ![] Cert.AdamGateReferenceIdeal.Gen.bcast_S_S2048x704 (constant Cert.AdamGateReferenceIdeal.S_ .f32 0x322BCC77#32))))
    (mulf (broadcastInDim Cert.AdamGateReferenceIdeal.S2048x704 ![] Cert.AdamGateReferenceIdeal.Gen.bcast_S_S2048x704 (constant Cert.AdamGateReferenceIdeal.S_ .f32 0x3C23D70A#32)) w))

section tile

variable (x0 : Vec Ideal S8x256x704 .bf16) (x1 x2 x3 : Vec Ideal S256x704 .f32) (a0 : FVec Ideal Cert.AdamGateReferenceIdeal.S8x2048x704 .bf16) (a1 a2 a3 : FVec Ideal Cert.AdamGateReferenceIdeal.S2048x704 .f32)
  (i : Fin 256) (j : Fin 704) (k : Fin 2048)

/-- The sum of the eight devices' partial gradients, in one tile and in the whole array. -/
theorem total_at (h0 : ∀ s : Fin 8, x0 (ix3 s i j) = a0 (ix3 s k j)) : k0_pay5 x0 x1 x2 x3 (ix2 i j) = total a0 (ix2 k j) := by
  have ld (s : Fin 8) (inb) : View.ld x0 (Rect.unit (s := S8x256x704) ![s.val, 0, 0] S1x256x704.size inb) (ix3 (0 : Fin 1) i j) = x0 (ix3 s i j) :=
    View.ld_unit_apply_of x0 _ _ inb _ (ix3 s i j) fun a => by
      match a with
      | ⟨0, _⟩ => rfl
      | ⟨1, _⟩ => exact (Nat.zero_add _).symm
      | ⟨2, _⟩ => exact (Nat.zero_add _).symm
  have e : k0_pay5 x0 x1 x2 x3 (ix2 i j) = ∑ s : Fin 8, (x0 (ix3 s i j) : EReal) := by
    rw [Fin.sum_univ_eight]
    unfold k0_pay5
    pointwise [k0_pay4]
  rw [e]
  pointwise []
  exact Finset.sum_congr rfl fun s _ => h0 s

theorem first_at (y : FVec Ideal S256x704 .f32) (g : FVec Ideal Cert.AdamGateReferenceIdeal.S2048x704 .f32) (hg : y (ix2 i j) = g (ix2 k j)) (h2 : x2 (ix2 i j) = a2 (ix2 k j)) :
    k0_pay1 y x2 (ix2 i j) = first g a2 (ix2 k j) := by
  pointwise [k0_pay1]
  rw [hg, h2]

theorem second_at (y : FVec Ideal S256x704 .f32) (g : FVec Ideal Cert.AdamGateReferenceIdeal.S2048x704 .f32) (hg : y (ix2 i j) = g (ix2 k j)) (h3 : x3 (ix2 i j) = a3 (ix2 k j)) :
    k0_pay2 y x3 (ix2 i j) = second g a3 (ix2 k j) := by
  pointwise [k0_pay2]
  rw [hg, h3]

theorem change_at (y : FVec Ideal S256x704 .f32) (g : FVec Ideal Cert.AdamGateReferenceIdeal.S2048x704 .f32) (hg : y (ix2 i j) = g (ix2 k j)) (h1 : x1 (ix2 i j) = a1 (ix2 k j))
    (h2 : x2 (ix2 i j) = a2 (ix2 k j)) (h3 : x3 (ix2 i j) = a3 (ix2 k j)) :
    k0_pay3 y x1 x2 x3 (ix2 i j) = change g a1 a2 a3 (ix2 k j) := by
  have e1 := first_at x2 a2 i j k y g hg h2
  have e2 := second_at x3 a3 i j k y g hg h3
  generalize hp : first g a2 = p at e1
  generalize hq : second g a3 = q at e2
  unfold change
  rw [hp, hq]
  pointwise [k0_pay3]
  rw [h1]
  rw [e1, e2]

end tile

theorem zeros : (![0, 0] : Fin 2 → Nat) = fun _ => 0 := funext fun a => by match a with | ⟨0, _⟩ => rfl | ⟨1, _⟩ => rfl

theorem idx0 : ∀ t : Fin cfg0.N, win0_0.index t = ![0, t.val, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![t.val, 0] := (by decide +kernel : ∀ t : Fin grid0.N, _)
theorem idx4 : ∀ t : Fin cfg0.N, win0_4.index t = ![t.val, 0] := (by decide +kernel : ∀ t : Fin grid0.N, _)
theorem idx5 : ∀ t : Fin cfg0.N, win0_5.index t = ![t.val, 0] := (by decide +kernel : ∀ t : Fin grid0.N, _)
theorem idx6 : ∀ t : Fin cfg0.N, win0_6.index t = ![t.val, 0] := (by decide +kernel : ∀ t : Fin grid0.N, _)
theorem idx7 : ∀ t : Fin cfg0.N, win0_7.index t = ![t.val, 0] := (by decide +kernel : ∀ t : Fin grid0.N, _)

variable (m : (ℓ : Loc nD τ sig) → Buf (Elt Ideal) ℓ) (c : Dev nD)

/-- A tile of the partial gradients, read in the whole array. -/
theorem part_at (t : Fin cfg0.N) (s : Fin 8) (i : Fin 256) (j : Fin 704) (k : Fin 2048) (hk : k.val = t.val * 256 + i.val) :
    iblk m c 0 t (ix3 s i j) = m ((c.tc : Thread nD τ).loc main_arg0) (ix3 s k j) := by
  blk_simp [iblk, V, idx0]
  congr 1
  funext a
  apply Fin.ext
  match a with
  | ⟨0, _⟩ => show ((win0_0.blk t).view.emb (ix3 s i j) 0).val = s.val; blk_simp [idx0]
  | ⟨1, _⟩ =>
      show ((win0_0.blk t).view.emb (ix3 s i j) 1).val = k.val
      blk_simp [idx0]
      exact hk.symm
  | ⟨2, _⟩ => show ((win0_0.blk t).view.emb (ix3 s i j) 2).val = j.val; blk_simp [idx0]

theorem row_at1 (t : Fin cfg0.N) (i : Fin 256) (j : Fin 704) (k : Fin 2048) (hk : k.val = t.val * 256 + i.val) :
    iblk m c 1 t (ix2 i j) = m ((c.tc : Thread nD τ).loc main_arg1) (ix2 k j) := by
  blk_simp [iblk, V, idx1]
  congr 1
  funext a
  apply Fin.ext
  match a with
  | ⟨0, _⟩ =>
      show ((win0_1.blk t).view.emb (ix2 i j) 0).val = k.val
      blk_simp [idx1]
      exact hk.symm
  | ⟨1, _⟩ => show ((win0_1.blk t).view.emb (ix2 i j) 1).val = j.val; blk_simp [idx1]

theorem row_at2 (t : Fin cfg0.N) (i : Fin 256) (j : Fin 704) (k : Fin 2048) (hk : k.val = t.val * 256 + i.val) :
    iblk m c 2 t (ix2 i j) = m ((c.tc : Thread nD τ).loc main_arg2) (ix2 k j) := by
  blk_simp [iblk, V, idx2]
  congr 1
  funext a
  apply Fin.ext
  match a with
  | ⟨0, _⟩ =>
      show ((win0_2.blk t).view.emb (ix2 i j) 0).val = k.val
      blk_simp [idx2]
      exact hk.symm
  | ⟨1, _⟩ => show ((win0_2.blk t).view.emb (ix2 i j) 1).val = j.val; blk_simp [idx2]

theorem row_at3 (t : Fin cfg0.N) (i : Fin 256) (j : Fin 704) (k : Fin 2048) (hk : k.val = t.val * 256 + i.val) :
    iblk m c 3 t (ix2 i j) = m ((c.tc : Thread nD τ).loc main_arg3) (ix2 k j) := by
  blk_simp [iblk, V, idx3]
  congr 1
  funext a
  apply Fin.ext
  match a with
  | ⟨0, _⟩ =>
      show ((win0_3.blk t).view.emb (ix2 i j) 0).val = k.val
      blk_simp [idx3]
      exact hk.symm
  | ⟨1, _⟩ => show ((win0_3.blk t).view.emb (ix2 i j) 1).val = j.val; blk_simp [idx3]

theorem out4 (G : FVec Ideal S2048x704 .f32) (hG : ∀ (t : Fin cfg0.N) (i : Fin 256) (j : Fin 704) (k : Fin 2048), k.val = t.val * 256 + i.val →
      out0_4 (iblk m c 0 t) (iblk m c 1 t) (iblk m c 2 t) (iblk m c 3 t) (ix2 i j) = G (ix2 k j)) :
    (dats m 0 c).arrAt 4 cfg0.N = G := by
  refine (dats m 0 c).arrAt_eq_of_covers 4 G (by decide +kernel) fun t hf y => ?_
  have ht : t.val < 8 := t.isLt
  obtain ⟨i, j, rfl⟩ : ∃ (i : Fin 256) (j : Fin 704), y = ix2 i j :=
    ⟨y 0, y 1, by funext a; match a with | ⟨0, _⟩ => rfl | ⟨1, _⟩ => rfl⟩
  have hi : i.val < 256 := i.isLt
  have hk : t.val * 256 + i.val < 2048 := by omega
  have e : (win0_4.blk t).view.emb (ix2 i j) = ix2 (⟨t.val * 256 + i.val, hk⟩ : Fin 2048) j := by
    funext a
    apply Fin.ext
    match a with
    | ⟨0, _⟩ => blk_simp [idx4]
    | ⟨1, _⟩ => blk_simp [idx4]
  blk_simp
  rw [after0_4, e]
  exact hG t i j ⟨t.val * 256 + i.val, hk⟩ rfl

theorem grads : (dats m 0 c).arrAt 4 cfg0.N = total (m ((c.tc : Thread nD τ).loc main_arg0)) := by
  refine out4 m c _ fun t i j k hk => ?_
  have hg := total_at (iblk m c 0 t) (iblk m c 1 t) (iblk m c 2 t) (iblk m c 3 t) (m ((c.tc : Thread nD τ).loc main_arg0)) i j k fun s => part_at m c t s i j k hk
  unfold out0_4
  rw [View.canon_unit_zero zeros]
  exact hg

theorem out5 (G : FVec Ideal S2048x704 .f32) (hG : ∀ (t : Fin cfg0.N) (i : Fin 256) (j : Fin 704) (k : Fin 2048), k.val = t.val * 256 + i.val →
      out0_5 (iblk m c 0 t) (iblk m c 1 t) (iblk m c 2 t) (iblk m c 3 t) (ix2 i j) = G (ix2 k j)) :
    (dats m 0 c).arrAt 5 cfg0.N = G := by
  refine (dats m 0 c).arrAt_eq_of_covers 5 G (by decide +kernel) fun t hf y => ?_
  have ht : t.val < 8 := t.isLt
  obtain ⟨i, j, rfl⟩ : ∃ (i : Fin 256) (j : Fin 704), y = ix2 i j :=
    ⟨y 0, y 1, by funext a; match a with | ⟨0, _⟩ => rfl | ⟨1, _⟩ => rfl⟩
  have hi : i.val < 256 := i.isLt
  have hk : t.val * 256 + i.val < 2048 := by omega
  have e : (win0_5.blk t).view.emb (ix2 i j) = ix2 (⟨t.val * 256 + i.val, hk⟩ : Fin 2048) j := by
    funext a
    apply Fin.ext
    match a with
    | ⟨0, _⟩ => blk_simp [idx5]
    | ⟨1, _⟩ => blk_simp [idx5]
  blk_simp
  rw [after0_5, e]
  exact hG t i j ⟨t.val * 256 + i.val, hk⟩ rfl

theorem change_array : (dats m 0 c).arrAt 5 cfg0.N = change (total (m ((c.tc : Thread nD τ).loc main_arg0))) (m ((c.tc : Thread nD τ).loc main_arg1)) (m ((c.tc : Thread nD τ).loc main_arg2)) (m ((c.tc : Thread nD τ).loc main_arg3)) := by
  refine out5 m c _ fun t i j k hk => ?_
  have hg := total_at (iblk m c 0 t) (iblk m c 1 t) (iblk m c 2 t) (iblk m c 3 t) (m ((c.tc : Thread nD τ).loc main_arg0)) i j k fun s => part_at m c t s i j k hk
  unfold out0_5
  rw [View.canon_unit_zero zeros, View.ld_unit_zero zeros, View.ld_unit_zero zeros, View.ld_unit_zero zeros]
  exact change_at _ _ _ _ _ _ i j k _ _ hg (row_at1 m c t i j k hk) (row_at2 m c t i j k hk) (row_at3 m c t i j k hk)

theorem out6 (G : FVec Ideal S2048x704 .f32) (hG : ∀ (t : Fin cfg0.N) (i : Fin 256) (j : Fin 704) (k : Fin 2048), k.val = t.val * 256 + i.val →
      out0_6 (iblk m c 0 t) (iblk m c 1 t) (iblk m c 2 t) (iblk m c 3 t) (ix2 i j) = G (ix2 k j)) :
    (dats m 0 c).arrAt 6 cfg0.N = G := by
  refine (dats m 0 c).arrAt_eq_of_covers 6 G (by decide +kernel) fun t hf y => ?_
  have ht : t.val < 8 := t.isLt
  obtain ⟨i, j, rfl⟩ : ∃ (i : Fin 256) (j : Fin 704), y = ix2 i j :=
    ⟨y 0, y 1, by funext a; match a with | ⟨0, _⟩ => rfl | ⟨1, _⟩ => rfl⟩
  have hi : i.val < 256 := i.isLt
  have hk : t.val * 256 + i.val < 2048 := by omega
  have e : (win0_6.blk t).view.emb (ix2 i j) = ix2 (⟨t.val * 256 + i.val, hk⟩ : Fin 2048) j := by
    funext a
    apply Fin.ext
    match a with
    | ⟨0, _⟩ => blk_simp [idx6]
    | ⟨1, _⟩ => blk_simp [idx6]
  blk_simp
  rw [after0_6, e]
  exact hG t i j ⟨t.val * 256 + i.val, hk⟩ rfl

theorem first_array : (dats m 0 c).arrAt 6 cfg0.N = first (total (m ((c.tc : Thread nD τ).loc main_arg0))) (m ((c.tc : Thread nD τ).loc main_arg2)) := by
  refine out6 m c _ fun t i j k hk => ?_
  have hg := total_at (iblk m c 0 t) (iblk m c 1 t) (iblk m c 2 t) (iblk m c 3 t) (m ((c.tc : Thread nD τ).loc main_arg0)) i j k fun s => part_at m c t s i j k hk
  unfold out0_6
  rw [View.canon_unit_zero zeros, View.ld_unit_zero zeros]
  exact first_at _ _ i j k _ _ hg (row_at2 m c t i j k hk)

theorem out7 (G : FVec Ideal S2048x704 .f32) (hG : ∀ (t : Fin cfg0.N) (i : Fin 256) (j : Fin 704) (k : Fin 2048), k.val = t.val * 256 + i.val →
      out0_7 (iblk m c 0 t) (iblk m c 1 t) (iblk m c 2 t) (iblk m c 3 t) (ix2 i j) = G (ix2 k j)) :
    (dats m 0 c).arrAt 7 cfg0.N = G := by
  refine (dats m 0 c).arrAt_eq_of_covers 7 G (by decide +kernel) fun t hf y => ?_
  have ht : t.val < 8 := t.isLt
  obtain ⟨i, j, rfl⟩ : ∃ (i : Fin 256) (j : Fin 704), y = ix2 i j :=
    ⟨y 0, y 1, by funext a; match a with | ⟨0, _⟩ => rfl | ⟨1, _⟩ => rfl⟩
  have hi : i.val < 256 := i.isLt
  have hk : t.val * 256 + i.val < 2048 := by omega
  have e : (win0_7.blk t).view.emb (ix2 i j) = ix2 (⟨t.val * 256 + i.val, hk⟩ : Fin 2048) j := by
    funext a
    apply Fin.ext
    match a with
    | ⟨0, _⟩ => blk_simp [idx7]
    | ⟨1, _⟩ => blk_simp [idx7]
  blk_simp
  rw [after0_7, e]
  exact hG t i j ⟨t.val * 256 + i.val, hk⟩ rfl

theorem second_array : (dats m 0 c).arrAt 7 cfg0.N = second (total (m ((c.tc : Thread nD τ).loc main_arg0))) (m ((c.tc : Thread nD τ).loc main_arg3)) := by
  refine out7 m c _ fun t i j k hk => ?_
  have hg := total_at (iblk m c 0 t) (iblk m c 1 t) (iblk m c 2 t) (iblk m c 3 t) (m ((c.tc : Thread nD τ).loc main_arg0)) i j k fun s => part_at m c t s i j k hk
  unfold out0_7
  rw [View.canon_unit_zero zeros, View.ld_unit_zero zeros]
  exact second_at _ _ i j k _ _ hg (row_at3 m c t i j k hk)

end AdamGate

end
-- ==== Proof.AdamDownValue.lean ====
/-
  The values of one weight's AdamW step: the four arrays are the sum of the partial gradients and the step taken with it.
-/
module

public import proofs.«01_k».proof.Proof.Gen.AdamDownIdeal.Frame
public import proofs.«01_k».proof.Proof.Gen.AdamDownReferenceIdeal.Run
public import Idealize.ShloMosaic.Lib.Pipeline.ValueKit
public import Idealize.ShloMosaic.Lib.ValueLayout

@[expose] public section

set_option Elab.async false

noncomputable section

namespace AdamDown

open Idealize.ShloMosaic
open Idealize.ShloMosaic.TcCoe
open Cert.AdamDownIdeal Cert.AdamDownIdeal.Gen

/-- The reference's sum of the partial gradients. -/
abbrev total (x : FVec Ideal Cert.AdamDownReferenceIdeal.S8x704x2048 .bf16) : FVec Ideal Cert.AdamDownReferenceIdeal.S704x2048 .f32 :=
  Host.reduceAdd (extf .f32 x Cert.AdamDownReferenceIdeal.Gen.bitsLt_bf16_f32) (constant Cert.AdamDownReferenceIdeal.S_ .f32 0x00000000#32) Cert.AdamDownReferenceIdeal.Gen.reducesTo_S8x704x2048_S704x2048_d0 Cert.AdamDownReferenceIdeal.Gen.h_S_

/-- The reference's first moment after the step. -/
abbrev first (g mm : FVec Ideal Cert.AdamDownReferenceIdeal.S704x2048 .f32) : FVec Ideal Cert.AdamDownReferenceIdeal.S704x2048 .f32 :=
  addf (mulf (broadcastInDim Cert.AdamDownReferenceIdeal.S704x2048 ![] Cert.AdamDownReferenceIdeal.Gen.bcast_S_S704x2048 (constant Cert.AdamDownReferenceIdeal.S_ .f32 0x3F666666#32)) mm) (mulf (broadcastInDim Cert.AdamDownReferenceIdeal.S704x2048 ![] Cert.AdamDownReferenceIdeal.Gen.bcast_S_S704x2048 (constant Cert.AdamDownReferenceIdeal.S_ .f32 0x3DCCCCCD#32)) g)

/-- The reference's second moment after the step. -/
abbrev second (g v : FVec Ideal Cert.AdamDownReferenceIdeal.S704x2048 .f32) : FVec Ideal Cert.AdamDownReferenceIdeal.S704x2048 .f32 :=
  addf (mulf (broadcastInDim Cert.AdamDownReferenceIdeal.S704x2048 ![] Cert.AdamDownReferenceIdeal.Gen.bcast_S_S704x2048 (constant Cert.AdamDownReferenceIdeal.S_ .f32 0x3F7FBE77#32)) v) (mulf (broadcastInDim Cert.AdamDownReferenceIdeal.S704x2048 ![] Cert.AdamDownReferenceIdeal.Gen.bcast_S_S704x2048 (constant Cert.AdamDownReferenceIdeal.S_ .f32 0x3A83126F#32)) (mulf g g))

/-- The reference's change of the weight. -/
abbrev change (g w mm v : FVec Ideal Cert.AdamDownReferenceIdeal.S704x2048 .f32) : FVec Ideal Cert.AdamDownReferenceIdeal.S704x2048 .f32 :=
  mulf (broadcastInDim Cert.AdamDownReferenceIdeal.S704x2048 ![] Cert.AdamDownReferenceIdeal.Gen.bcast_S_S704x2048 (constant Cert.AdamDownReferenceIdeal.S_ .f32 0xBA83126F#32)) (addf
    (Host.divf (Host.divf (first g mm) (broadcastInDim Cert.AdamDownReferenceIdeal.S704x2048 ![] Cert.AdamDownReferenceIdeal.Gen.bcast_S_S704x2048 (constant Cert.AdamDownReferenceIdeal.S_ .f32 0x3F26BD02#32)))
      (addf (Host.sqrt (Host.divf (second g v) (broadcastInDim Cert.AdamDownReferenceIdeal.S704x2048 ![] Cert.AdamDownReferenceIdeal.Gen.bcast_S_S704x2048 (constant Cert.AdamDownReferenceIdeal.S_ .f32 0x3C231ACC#32)))) (broadcastInDim Cert.AdamDownReferenceIdeal.S704x2048 ![] Cert.AdamDownReferenceIdeal.Gen.bcast_S_S704x2048 (constant Cert.AdamDownReferenceIdeal.S_ .f32 0x322BCC77#32))))
    (mulf (broadcastInDim Cert.AdamDownReferenceIdeal.S704x2048 ![] Cert.AdamDownReferenceIdeal.Gen.bcast_S_S704x2048 (constant Cert.AdamDownReferenceIdeal.S_ .f32 0x3C23D70A#32)) w))

section tile

variable (x0 : Vec Ideal S8x176x2048 .bf16) (x1 x2 x3 : Vec Ideal S176x2048 .f32) (a0 : FVec Ideal Cert.AdamDownReferenceIdeal.S8x704x2048 .bf16) (a1 a2 a3 : FVec Ideal Cert.AdamDownReferenceIdeal.S704x2048 .f32)
  (i : Fin 176) (j : Fin 2048) (k : Fin 704)

/-- The sum of the eight devices' partial gradients, in one tile and in the whole array. -/
theorem total_at (h0 : ∀ s : Fin 8, x0 (ix3 s i j) = a0 (ix3 s k j)) : k0_pay5 x0 x1 x2 x3 (ix2 i j) = total a0 (ix2 k j) := by
  have ld (s : Fin 8) (inb) : View.ld x0 (Rect.unit (s := S8x176x2048) ![s.val, 0, 0] S1x176x2048.size inb) (ix3 (0 : Fin 1) i j) = x0 (ix3 s i j) :=
    View.ld_unit_apply_of x0 _ _ inb _ (ix3 s i j) fun a => by
      match a with
      | ⟨0, _⟩ => rfl
      | ⟨1, _⟩ => exact (Nat.zero_add _).symm
      | ⟨2, _⟩ => exact (Nat.zero_add _).symm
  have e : k0_pay5 x0 x1 x2 x3 (ix2 i j) = ∑ s : Fin 8, (x0 (ix3 s i j) : EReal) := by
    rw [Fin.sum_univ_eight]
    unfold k0_pay5
    pointwise [k0_pay4]
  rw [e]
  pointwise []
  exact Finset.sum_congr rfl fun s _ => h0 s

theorem first_at (y : FVec Ideal S176x2048 .f32) (g : FVec Ideal Cert.AdamDownReferenceIdeal.S704x2048 .f32) (hg : y (ix2 i j) = g (ix2 k j)) (h2 : x2 (ix2 i j) = a2 (ix2 k j)) :
    k0_pay1 y x2 (ix2 i j) = first g a2 (ix2 k j) := by
  pointwise [k0_pay1]
  rw [hg, h2]

theorem second_at (y : FVec Ideal S176x2048 .f32) (g : FVec Ideal Cert.AdamDownReferenceIdeal.S704x2048 .f32) (hg : y (ix2 i j) = g (ix2 k j)) (h3 : x3 (ix2 i j) = a3 (ix2 k j)) :
    k0_pay2 y x3 (ix2 i j) = second g a3 (ix2 k j) := by
  pointwise [k0_pay2]
  rw [hg, h3]

theorem change_at (y : FVec Ideal S176x2048 .f32) (g : FVec Ideal Cert.AdamDownReferenceIdeal.S704x2048 .f32) (hg : y (ix2 i j) = g (ix2 k j)) (h1 : x1 (ix2 i j) = a1 (ix2 k j))
    (h2 : x2 (ix2 i j) = a2 (ix2 k j)) (h3 : x3 (ix2 i j) = a3 (ix2 k j)) :
    k0_pay3 y x1 x2 x3 (ix2 i j) = change g a1 a2 a3 (ix2 k j) := by
  have e1 := first_at x2 a2 i j k y g hg h2
  have e2 := second_at x3 a3 i j k y g hg h3
  generalize hp : first g a2 = p at e1
  generalize hq : second g a3 = q at e2
  unfold change
  rw [hp, hq]
  pointwise [k0_pay3]
  rw [h1]
  rw [e1, e2]

end tile

theorem zeros : (![0, 0] : Fin 2 → Nat) = fun _ => 0 := funext fun a => by match a with | ⟨0, _⟩ => rfl | ⟨1, _⟩ => rfl

theorem idx0 : ∀ t : Fin cfg0.N, win0_0.index t = ![0, t.val, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![t.val, 0] := (by decide +kernel : ∀ t : Fin grid0.N, _)
theorem idx4 : ∀ t : Fin cfg0.N, win0_4.index t = ![t.val, 0] := (by decide +kernel : ∀ t : Fin grid0.N, _)
theorem idx5 : ∀ t : Fin cfg0.N, win0_5.index t = ![t.val, 0] := (by decide +kernel : ∀ t : Fin grid0.N, _)
theorem idx6 : ∀ t : Fin cfg0.N, win0_6.index t = ![t.val, 0] := (by decide +kernel : ∀ t : Fin grid0.N, _)
theorem idx7 : ∀ t : Fin cfg0.N, win0_7.index t = ![t.val, 0] := (by decide +kernel : ∀ t : Fin grid0.N, _)

variable (m : (ℓ : Loc nD τ sig) → Buf (Elt Ideal) ℓ) (c : Dev nD)

/-- A tile of the partial gradients, read in the whole array. -/
theorem part_at (t : Fin cfg0.N) (s : Fin 8) (i : Fin 176) (j : Fin 2048) (k : Fin 704) (hk : k.val = t.val * 176 + i.val) :
    iblk m c 0 t (ix3 s i j) = m ((c.tc : Thread nD τ).loc main_arg0) (ix3 s k j) := by
  blk_simp [iblk, V, idx0]
  congr 1
  funext a
  apply Fin.ext
  match a with
  | ⟨0, _⟩ => show ((win0_0.blk t).view.emb (ix3 s i j) 0).val = s.val; blk_simp [idx0]
  | ⟨1, _⟩ =>
      show ((win0_0.blk t).view.emb (ix3 s i j) 1).val = k.val
      blk_simp [idx0]
      exact hk.symm
  | ⟨2, _⟩ => show ((win0_0.blk t).view.emb (ix3 s i j) 2).val = j.val; blk_simp [idx0]

theorem row_at1 (t : Fin cfg0.N) (i : Fin 176) (j : Fin 2048) (k : Fin 704) (hk : k.val = t.val * 176 + i.val) :
    iblk m c 1 t (ix2 i j) = m ((c.tc : Thread nD τ).loc main_arg1) (ix2 k j) := by
  blk_simp [iblk, V, idx1]
  congr 1
  funext a
  apply Fin.ext
  match a with
  | ⟨0, _⟩ =>
      show ((win0_1.blk t).view.emb (ix2 i j) 0).val = k.val
      blk_simp [idx1]
      exact hk.symm
  | ⟨1, _⟩ => show ((win0_1.blk t).view.emb (ix2 i j) 1).val = j.val; blk_simp [idx1]

theorem row_at2 (t : Fin cfg0.N) (i : Fin 176) (j : Fin 2048) (k : Fin 704) (hk : k.val = t.val * 176 + i.val) :
    iblk m c 2 t (ix2 i j) = m ((c.tc : Thread nD τ).loc main_arg2) (ix2 k j) := by
  blk_simp [iblk, V, idx2]
  congr 1
  funext a
  apply Fin.ext
  match a with
  | ⟨0, _⟩ =>
      show ((win0_2.blk t).view.emb (ix2 i j) 0).val = k.val
      blk_simp [idx2]
      exact hk.symm
  | ⟨1, _⟩ => show ((win0_2.blk t).view.emb (ix2 i j) 1).val = j.val; blk_simp [idx2]

theorem row_at3 (t : Fin cfg0.N) (i : Fin 176) (j : Fin 2048) (k : Fin 704) (hk : k.val = t.val * 176 + i.val) :
    iblk m c 3 t (ix2 i j) = m ((c.tc : Thread nD τ).loc main_arg3) (ix2 k j) := by
  blk_simp [iblk, V, idx3]
  congr 1
  funext a
  apply Fin.ext
  match a with
  | ⟨0, _⟩ =>
      show ((win0_3.blk t).view.emb (ix2 i j) 0).val = k.val
      blk_simp [idx3]
      exact hk.symm
  | ⟨1, _⟩ => show ((win0_3.blk t).view.emb (ix2 i j) 1).val = j.val; blk_simp [idx3]

theorem out4 (G : FVec Ideal S704x2048 .f32) (hG : ∀ (t : Fin cfg0.N) (i : Fin 176) (j : Fin 2048) (k : Fin 704), k.val = t.val * 176 + i.val →
      out0_4 (iblk m c 0 t) (iblk m c 1 t) (iblk m c 2 t) (iblk m c 3 t) (ix2 i j) = G (ix2 k j)) :
    (dats m 0 c).arrAt 4 cfg0.N = G := by
  refine (dats m 0 c).arrAt_eq_of_covers 4 G (by decide +kernel) fun t hf y => ?_
  have ht : t.val < 4 := t.isLt
  obtain ⟨i, j, rfl⟩ : ∃ (i : Fin 176) (j : Fin 2048), y = ix2 i j :=
    ⟨y 0, y 1, by funext a; match a with | ⟨0, _⟩ => rfl | ⟨1, _⟩ => rfl⟩
  have hi : i.val < 176 := i.isLt
  have hk : t.val * 176 + i.val < 704 := by omega
  have e : (win0_4.blk t).view.emb (ix2 i j) = ix2 (⟨t.val * 176 + i.val, hk⟩ : Fin 704) j := by
    funext a
    apply Fin.ext
    match a with
    | ⟨0, _⟩ => blk_simp [idx4]
    | ⟨1, _⟩ => blk_simp [idx4]
  blk_simp
  rw [after0_4, e]
  exact hG t i j ⟨t.val * 176 + i.val, hk⟩ rfl

theorem grads : (dats m 0 c).arrAt 4 cfg0.N = total (m ((c.tc : Thread nD τ).loc main_arg0)) := by
  refine out4 m c _ fun t i j k hk => ?_
  have hg := total_at (iblk m c 0 t) (iblk m c 1 t) (iblk m c 2 t) (iblk m c 3 t) (m ((c.tc : Thread nD τ).loc main_arg0)) i j k fun s => part_at m c t s i j k hk
  unfold out0_4
  rw [View.canon_unit_zero zeros]
  exact hg

theorem out5 (G : FVec Ideal S704x2048 .f32) (hG : ∀ (t : Fin cfg0.N) (i : Fin 176) (j : Fin 2048) (k : Fin 704), k.val = t.val * 176 + i.val →
      out0_5 (iblk m c 0 t) (iblk m c 1 t) (iblk m c 2 t) (iblk m c 3 t) (ix2 i j) = G (ix2 k j)) :
    (dats m 0 c).arrAt 5 cfg0.N = G := by
  refine (dats m 0 c).arrAt_eq_of_covers 5 G (by decide +kernel) fun t hf y => ?_
  have ht : t.val < 4 := t.isLt
  obtain ⟨i, j, rfl⟩ : ∃ (i : Fin 176) (j : Fin 2048), y = ix2 i j :=
    ⟨y 0, y 1, by funext a; match a with | ⟨0, _⟩ => rfl | ⟨1, _⟩ => rfl⟩
  have hi : i.val < 176 := i.isLt
  have hk : t.val * 176 + i.val < 704 := by omega
  have e : (win0_5.blk t).view.emb (ix2 i j) = ix2 (⟨t.val * 176 + i.val, hk⟩ : Fin 704) j := by
    funext a
    apply Fin.ext
    match a with
    | ⟨0, _⟩ => blk_simp [idx5]
    | ⟨1, _⟩ => blk_simp [idx5]
  blk_simp
  rw [after0_5, e]
  exact hG t i j ⟨t.val * 176 + i.val, hk⟩ rfl

theorem change_array : (dats m 0 c).arrAt 5 cfg0.N = change (total (m ((c.tc : Thread nD τ).loc main_arg0))) (m ((c.tc : Thread nD τ).loc main_arg1)) (m ((c.tc : Thread nD τ).loc main_arg2)) (m ((c.tc : Thread nD τ).loc main_arg3)) := by
  refine out5 m c _ fun t i j k hk => ?_
  have hg := total_at (iblk m c 0 t) (iblk m c 1 t) (iblk m c 2 t) (iblk m c 3 t) (m ((c.tc : Thread nD τ).loc main_arg0)) i j k fun s => part_at m c t s i j k hk
  unfold out0_5
  rw [View.canon_unit_zero zeros, View.ld_unit_zero zeros, View.ld_unit_zero zeros, View.ld_unit_zero zeros]
  exact change_at _ _ _ _ _ _ i j k _ _ hg (row_at1 m c t i j k hk) (row_at2 m c t i j k hk) (row_at3 m c t i j k hk)

theorem out6 (G : FVec Ideal S704x2048 .f32) (hG : ∀ (t : Fin cfg0.N) (i : Fin 176) (j : Fin 2048) (k : Fin 704), k.val = t.val * 176 + i.val →
      out0_6 (iblk m c 0 t) (iblk m c 1 t) (iblk m c 2 t) (iblk m c 3 t) (ix2 i j) = G (ix2 k j)) :
    (dats m 0 c).arrAt 6 cfg0.N = G := by
  refine (dats m 0 c).arrAt_eq_of_covers 6 G (by decide +kernel) fun t hf y => ?_
  have ht : t.val < 4 := t.isLt
  obtain ⟨i, j, rfl⟩ : ∃ (i : Fin 176) (j : Fin 2048), y = ix2 i j :=
    ⟨y 0, y 1, by funext a; match a with | ⟨0, _⟩ => rfl | ⟨1, _⟩ => rfl⟩
  have hi : i.val < 176 := i.isLt
  have hk : t.val * 176 + i.val < 704 := by omega
  have e : (win0_6.blk t).view.emb (ix2 i j) = ix2 (⟨t.val * 176 + i.val, hk⟩ : Fin 704) j := by
    funext a
    apply Fin.ext
    match a with
    | ⟨0, _⟩ => blk_simp [idx6]
    | ⟨1, _⟩ => blk_simp [idx6]
  blk_simp
  rw [after0_6, e]
  exact hG t i j ⟨t.val * 176 + i.val, hk⟩ rfl

theorem first_array : (dats m 0 c).arrAt 6 cfg0.N = first (total (m ((c.tc : Thread nD τ).loc main_arg0))) (m ((c.tc : Thread nD τ).loc main_arg2)) := by
  refine out6 m c _ fun t i j k hk => ?_
  have hg := total_at (iblk m c 0 t) (iblk m c 1 t) (iblk m c 2 t) (iblk m c 3 t) (m ((c.tc : Thread nD τ).loc main_arg0)) i j k fun s => part_at m c t s i j k hk
  unfold out0_6
  rw [View.canon_unit_zero zeros, View.ld_unit_zero zeros]
  exact first_at _ _ i j k _ _ hg (row_at2 m c t i j k hk)

theorem out7 (G : FVec Ideal S704x2048 .f32) (hG : ∀ (t : Fin cfg0.N) (i : Fin 176) (j : Fin 2048) (k : Fin 704), k.val = t.val * 176 + i.val →
      out0_7 (iblk m c 0 t) (iblk m c 1 t) (iblk m c 2 t) (iblk m c 3 t) (ix2 i j) = G (ix2 k j)) :
    (dats m 0 c).arrAt 7 cfg0.N = G := by
  refine (dats m 0 c).arrAt_eq_of_covers 7 G (by decide +kernel) fun t hf y => ?_
  have ht : t.val < 4 := t.isLt
  obtain ⟨i, j, rfl⟩ : ∃ (i : Fin 176) (j : Fin 2048), y = ix2 i j :=
    ⟨y 0, y 1, by funext a; match a with | ⟨0, _⟩ => rfl | ⟨1, _⟩ => rfl⟩
  have hi : i.val < 176 := i.isLt
  have hk : t.val * 176 + i.val < 704 := by omega
  have e : (win0_7.blk t).view.emb (ix2 i j) = ix2 (⟨t.val * 176 + i.val, hk⟩ : Fin 704) j := by
    funext a
    apply Fin.ext
    match a with
    | ⟨0, _⟩ => blk_simp [idx7]
    | ⟨1, _⟩ => blk_simp [idx7]
  blk_simp
  rw [after0_7, e]
  exact hG t i j ⟨t.val * 176 + i.val, hk⟩ rfl

theorem second_array : (dats m 0 c).arrAt 7 cfg0.N = second (total (m ((c.tc : Thread nD τ).loc main_arg0))) (m ((c.tc : Thread nD τ).loc main_arg3)) := by
  refine out7 m c _ fun t i j k hk => ?_
  have hg := total_at (iblk m c 0 t) (iblk m c 1 t) (iblk m c 2 t) (iblk m c 3 t) (m ((c.tc : Thread nD τ).loc main_arg0)) i j k fun s => part_at m c t s i j k hk
  unfold out0_7
  rw [View.canon_unit_zero zeros, View.ld_unit_zero zeros]
  exact second_at _ _ i j k _ _ hg (row_at3 m c t i j k hk)

end AdamDown

end
-- ==== Proof.Resident.lean ====
/-
  An array a kernel fetches whole into a buffer of its own at its first grid point and keeps there, and loads of parts of
  buffers.
-/
module

public import proofs.«01_k».proof.Proof.Blocks
public import Idealize.ShloMosaic.Lib.Transfers

@[expose] public section

set_option Elab.async false

noncomputable section

namespace Exchange

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Val : EltTy → Type} {U : Type} [URA U]

local notation "𝕄" => MT nD τ sig Unit Val ℕ U ℕ

variable {Λ : Labels} (defs : Defs nD τ sig Val Λ) (𝒱 : Variants) (bd : Option 𝒱.V)
variable {α : Type} {Q : α → sProp (MT nD τ sig Unit Val ℕ U ℕ)} {s : Shape} {e : EltTy}

/-- A load of a part of a buffer. -/
theorem load_part {cs : CoreSpace} (c : Dev nD) (m : Memref sig .tc cs s e) (q : PosShare TreeShare) (X : s.Idx → Val e)
    (r : Rect s) {hl : m.view.LoadsAt r.toLoadRect}
    {k : (r.shape.Idx → Val e) → Prog (TpuEff nD τ sig Val Λ .tc) α} :
    (owns (c.tc : Thread nD τ) m q X : sProp 𝕄)
      ⊢ iprop((owns (c.tc : Thread nD τ) m q X -∗ wp frame (wpE defs 𝒱 (c.tc : Thread nD τ) bd) Set.univ (k (View.ld X r)) Q)
          -∗ wp frame (wpE defs 𝒱 (c.tc : Thread nD τ) bd) Set.univ (.op (.load m r.toLoadRect hl) k) Q) := by
  unfold owns
  iintro ⟨%f, %hf, H⟩ Hk
  iapply (wp_load 𝒱 (c.tc : Thread nD τ) bd Set.univ (S := m.view.set) (View.setOn_subset_set _ _)) $$ H
  iintro H
  rw [View.readAt_eq_ld, hf]
  iapply Hk
  iexists f
  isplitr; · ipureintro; exact hf
  iexact H

variable (EC : UEmb Counters (MT nD τ sig Unit Val ℕ U ℕ))

/-- A device that owes nothing copies a buffer into another of its own and waits for the copy, on a semaphore it holds. -/
theorem fetch [EC.LandsIn (upEmb : UEmb _ (MT nD τ sig Unit Val ℕ U ℕ))] {sp sp' : Space} (c : Dev nD)
    {src : Memref sig .tc sp s e} {dst : Memref sig .tc sp' s e} {sem : DmaSem sig}
    {hsrc hsrc' : src.view.WordExact} {hdst hdst' : dst.view.WordExact}
    {hsem : DmaTarget.Typed (nD := nD) (τ := τ) (p := (c.tc : Thread nD τ).2) sp (.dma sem) (.here dst)}
    {k : PUnit → Prog (TpuEff nD τ sig Val Λ .tc) α} (hN : 0 < dst.view.dmaCredit) (X Y : s.Idx → Val e) :
    iprop(owns (c.tc : Thread nD τ) src fullShare X ∗ owns (c.tc : Thread nD τ) dst fullShare Y ∗ semVal ((c.tc : Thread nD τ), .dma sem) 0
        ∗ ∃ W, owes (c.tc : Thread nD τ) 0 W)
      ⊢ (iprop(((owns (c.tc : Thread nD τ) src fullShare X ∗ owns (c.tc : Thread nD τ) dst fullShare X ∗ semVal ((c.tc : Thread nD τ), .dma sem) 0
            ∗ ∃ W, owes (c.tc : Thread nD τ) 0 W) -∗ wp frame (wpE defs 𝒱 (c.tc : Thread nD τ) bd) Set.univ (k ⟨⟩) Q)
          -∗ wp frame (wpE defs 𝒱 (c.tc : Thread nD τ) bd) Set.univ
              (.op (.enqueueDma src (.here dst) (.dma sem) hsrc hdst hsem) fun _ => .op (.waitDma2 sem src dst hsrc' hdst') k) Q) : sProp 𝕄) := by
  unfold owns
  iintro ⟨⟨%f, %hf, Hs⟩, ⟨%g, -, Hd⟩, Hv, ⟨%W, HO⟩⟩ Hk
  iapply (Transfers.wp_dmaLocal EC 𝒱 (c.tc : Thread nD τ) bd (q := fullShare) (fs := f) (fd := g) () dst.view.dmaCredit rfl hN (Finset.Subset.refl _)) $$ [Hs Hd Hv]
  · isplitl [Hs]; · iexact Hs
    isplitl [Hd] <;> iassumption
  iintro HF
  iapply (Transfers.wp_waitLocal EC 𝒱 (c.tc : Thread nD τ) bd () (N := dst.view.dmaCredit) rfl) $$ [HF HO]
  · isplitl [HF] <;> iassumption
  iintro ⟨⟨Hd, Hs⟩, Hv, HO⟩
  iapply Hk
  isplitl [Hs]
  · iexists f
    isplitr; · ipureintro; exact hf
    iexact Hs
  isplitl [Hd]
  · iexists _
    isplitr
    swap; · iexact Hd
    ipureintro
    rw [View.read_write_univ]
    exact hf
  isplitl [Hv]; · iexact Hv
  iexists _; iexact HO

end Exchange

end
-- ==== Proof.ProjBwdRun.lean ====
/-
  One device's run of the input projection's backward product with the exchange of its weight's gradient: the weight is
  fetched whole at the first grid point and stays in the device's own memory.
-/
module

public import proofs.«01_k».proof.Proof.Resident
public import proofs.«01_k».proof.Proof.Gen.ProjBwdIdeal.Frame
public import proofs.«01_k».proof.Proof.Gen.ProjBwdIdeal.Skeleton

@[expose] public section

set_option Elab.async false

noncomputable section

namespace ProjBwd

open Idealize.ShloMosaic
open Idealize.ShloMosaic.TcCoe
open Idealize.ShloMosaic.Rounds
open Idealize.SL Idealize.SL.RA Idealize.SL.BI
open scoped Idealize.SL.BI
open Idealize.SL.BI.BIBase Idealize.SL.BI.Laws Idealize.SL.ProofMode Idealize.SL.Sem
open Cert.ProjBwdIdeal Cert.ProjBwdIdeal.Gen
open Exchange

variable {F : FTy → Type} [FloatOps F]

/-- The ghost state: the regions' own rounds, the exchange's, and the counters of the local copy. -/
abbrev UU : Type := UR sig nD τ × (UR sig nD τ × Counters)
abbrev M (F : FTy → Type) : Type := MT nD τ sig Unit (Elt F) ℕ UU ℕ

/-- The part of the ghost state the exchange uses, and the regions' part. -/
abbrev ER : Emb (URounds (GSem nD τ sig) Unit) (M F) :=
  (Emb.inl : Emb (UR sig nD τ) (UR sig nD τ × Counters)).trans embR
abbrev EP : Emb (URounds (GSem nD τ sig) Unit) (M F) := embL

abbrev EC : UEmb Counters (M F) := countersEmb

abbrev 𝒱₀ : Variants := Variants.none

/-- The semaphores: seven sends, seven receives, one local copy. -/
def sem : Fin 15 → SemLoc sig := fun k => .dma (⟨13 + k.val, by omega⟩ : Fin 28)
theorem sem_inj : Function.Injective sem := fun a b h => Fin.ext (by
  have := congrArg Fin.val (SemLoc.dma.inj h)
  simp only at this
  omega)

theorem inb (j : Fin 8) : ∀ a, (![j.val, 0, 0] : Fin 3 → ℕ) a + S1x2048x640.size a ≤ S8x2048x640.size a := by
  revert j; decide

/-- Block `j` of an array of eight. -/
abbrev rect (j : Fin 8) : Rect S8x2048x640 := Rect.unit (s := S8x2048x640) ![j.val, 0, 0] S1x2048x640.size (inb j)

theorem rect_disjoint (j j' : Fin 8) (h : j ≠ j') : Disjoint (rect j).set (rect j').set :=
  Ring.lead_disjoint (s := S8x2048x640) (NB := 8) 0 1 (fun j => ![j.val, 0, 0]) S1x2048x640.size inb (fun b => (Nat.one_mul _).symm) rfl j j' h

theorem rect_cover : Finset.univ.biUnion (fun j => (rect j).set) = Finset.univ :=
  Ring.lead_cover (s := S8x2048x640) (NB := 8) 0 1 (fun j => ![j.val, 0, 0]) S1x2048x640.size inb (fun b => (Nat.one_mul _).symm)
    (by intro b a h; fin_cases a <;> first | exact absurd rfl h | rfl) rfl (by intro a h; fin_cases a <;> first | exact absurd rfl h | rfl) rfl

/-- Block `j` of the exchanged result. -/
abbrev blk (j : Fin 8) : Memref sig .tc .hbm S2048x640 .bf16 :=
  ((Memref.whole main_v1_2).slice (rect j) (fun _ => rfl)).squeeze S2048x640 squeezes_S1x2048x640_S2048x640

theorem blk_of {off : Fin 3 → ℕ} (h : ∀ a, off a + S1x2048x640.size a ≤ S8x2048x640.size a) (j : Fin 8) (e : off = ![j.val, 0, 0]) :
    ((Memref.whole main_v1_2).slice (Rect.unit (s := S8x2048x640) off S1x2048x640.size h) (fun _ => rfl)).squeeze S2048x640 squeezes_S1x2048x640_S2048x640 = blk j := by
  subst e; rfl

/-- Block `j` of the argument to exchange. -/
abbrev ablk (j : Fin 8) : Memref sig .tc .hbm S2048x640 .bf16 :=
  ((Memref.whole main_arg6).slice (rect j) (fun _ => rfl)).squeeze S2048x640 squeezes_S1x2048x640_S2048x640

theorem ablk_of {off : Fin 3 → ℕ} (h : ∀ a, off a + S1x2048x640.size a ≤ S8x2048x640.size a) (j : Fin 8) (e : off = ![j.val, 0, 0]) :
    ((Memref.whole main_arg6).slice (Rect.unit (s := S8x2048x640) off S1x2048x640.size h) (fun _ => rfl)).squeeze S2048x640 squeezes_S1x2048x640_S2048x640 = ablk j := by
  subst e; rfl

/-- What a device sends over each distance: the block of the device it goes to. -/
abbrev src (c : Dev nD) (k : Fin 8) : Memref sig .tc .hbm S2048x640 .bf16 := ablk (peer k c)
/-- Each copy has its block to itself. -/
abbrev qs (_ : Fin 8) : PosShare TreeShare := fullShare

/-- The units one block's transfer credits. -/
abbrev units : ℕ := (blk 0).view.dmaCredit
theorem units_pos : 0 < units := by decide
theorem credit {sp : Space} (b : Memref sig .tc sp S2048x640 .bf16) : b.view.dmaCredit = units := rfl

abbrev fm : Family 8 sig (Fin 15) := Direct.fam sem sem_inj units units_pos

/-- The argument of the exchange on a device, as each copy finds it. -/
abbrev args (A : ∀ c : Dev nD, Buf (Elt F) ((c.tc : Thread nD τ).loc main_arg6)) (c : Dev nD) (k : Fin 8) :
    Buf (Elt F) ((src c k).view.loc (c.tc : Thread nD τ)) := A c

theorem own_off (c : Dev nD) : k0_off1 c = ![c.val, 0, 0] := by revert c; decide
theorem own_off' (c : Dev nD) : k0_off4 c = ![c.val, 0, 0] := by revert c; decide
theorem send_off1 (c : Dev nD) : k0_off2 c 0#32 0#32 1#32 = ![(peer 1 c).val, 0, 0] := by revert c; decide
theorem send_off2 (c : Dev nD) : k0_off2 c 0#32 1#32 0#32 = ![(peer 2 c).val, 0, 0] := by revert c; decide
theorem send_off3 (c : Dev nD) : k0_off2 c 0#32 1#32 1#32 = ![(peer 3 c).val, 0, 0] := by revert c; decide
theorem send_off4 (c : Dev nD) : k0_off2 c 1#32 0#32 0#32 = ![(peer 4 c).val, 0, 0] := by revert c; decide
theorem send_off5 (c : Dev nD) : k0_off2 c 1#32 0#32 1#32 = ![(peer 5 c).val, 0, 0] := by revert c; decide
theorem send_off6 (c : Dev nD) : k0_off2 c 1#32 1#32 0#32 = ![(peer 6 c).val, 0, 0] := by revert c; decide
theorem send_off7 (c : Dev nD) : k0_off2 c 1#32 1#32 1#32 = ![(peer 7 c).val, 0, 0] := by revert c; decide
theorem dev1 (c : Dev nD) (h : k0_dev1 c < nD) : (⟨k0_dev1 c, h⟩ : Dev nD) = peer 1 c := by revert c; decide
theorem dev2 (c : Dev nD) (h : k0_dev2 c < nD) : (⟨k0_dev2 c, h⟩ : Dev nD) = peer 2 c := by revert c; decide
theorem dev3 (c : Dev nD) (h : k0_dev3 c < nD) : (⟨k0_dev3 c, h⟩ : Dev nD) = peer 3 c := by revert c; decide
theorem dev4 (c : Dev nD) (h : k0_dev4 c < nD) : (⟨k0_dev4 c, h⟩ : Dev nD) = peer 4 c := by revert c; decide
theorem dev5 (c : Dev nD) (h : k0_dev5 c < nD) : (⟨k0_dev5 c, h⟩ : Dev nD) = peer 5 c := by revert c; decide
theorem dev6 (c : Dev nD) (h : k0_dev6 c < nD) : (⟨k0_dev6 c, h⟩ : Dev nD) = peer 6 c := by revert c; decide
theorem dev7 (c : Dev nD) (h : k0_dev7 c < nD) : (⟨k0_dev7 c, h⟩ : Dev nD) = peer 7 c := by revert c; decide

theorem pure_bind' {α β : Type} (a : α) (k : α → Prog (TpuEff nD τ sig (Elt F) Λ₀ .tc) β) :
    (pure a : Prog (TpuEff nD τ sig (Elt F) Λ₀ .tc) α) >>= k = k a := Prog.bind_ret a k
theorem pure_ret {α : Type} (a : α) : (pure a : Prog (TpuEff nD τ sig (Elt F) Λ₀ .tc) α) = .ret a := rfl

/-- Whether a grid point is the first, as the kernel tests it before it fetches the weight. -/
abbrev fresh (i : grid0.Coords) : BitVec 1 := Scalar.cmpi .ne (Scalar.extui (Scalar.cmpi .eq (BitVec.ofNat 32 (i 0).val) 0#32) : BitVec 32) 0#32

/-- The gradient of a tile's normed rows: its projections' gradient times the weight, column block by column block. -/
def dh (p : Vec F S256x5120 .bf16) (w : Vec F S8x2048x640 .bf16) : FVec F S256x2048 .f32 :=
  k0_pay7 (k0_pay4 (View.ld p (Rect.unit (s := S256x5120) ![0, 0] S256x640.size inb_S256x5120_S256x640_0_0)) (View.ld w (Rect.unit (s := S8x2048x640) ![0, 0, 0] S1x2048x640.size inb_S8x2048x640_S1x2048x640_0_0_0))
      (View.ld p (Rect.unit (s := S256x5120) ![0, 640] S256x640.size inb_S256x5120_S256x640_0_640)) (View.ld w (Rect.unit (s := S8x2048x640) ![1, 0, 0] S1x2048x640.size inb_S8x2048x640_S1x2048x640_1_0_0))
      (View.ld p (Rect.unit (s := S256x5120) ![0, 1280] S256x640.size inb_S256x5120_S256x640_0_1280)) (View.ld w (Rect.unit (s := S8x2048x640) ![2, 0, 0] S1x2048x640.size inb_S8x2048x640_S1x2048x640_2_0_0)))
    (k0_pay5 (View.ld p (Rect.unit (s := S256x5120) ![0, 1920] S256x640.size inb_S256x5120_S256x640_0_1920)))
    (k0_pay6 (View.ld w (Rect.unit (s := S8x2048x640) ![3, 0, 0] S1x2048x640.size inb_S8x2048x640_S1x2048x640_3_0_0))) (constant S256x2048 .f32 0x00000000#32)
    (View.ld p (Rect.unit (s := S256x5120) ![0, 2560] S256x640.size inb_S256x5120_S256x640_0_2560))
    (View.ld w (Rect.unit (s := S8x2048x640) ![4, 0, 0] S1x2048x640.size inb_S8x2048x640_S1x2048x640_4_0_0))
    (View.ld p (Rect.unit (s := S256x5120) ![0, 3200] S256x640.size inb_S256x5120_S256x640_0_3200))
    (View.ld w (Rect.unit (s := S8x2048x640) ![5, 0, 0] S1x2048x640.size inb_S8x2048x640_S1x2048x640_5_0_0))
    (View.ld p (Rect.unit (s := S256x5120) ![0, 3840] S256x640.size inb_S256x5120_S256x640_0_3840))
    (View.ld w (Rect.unit (s := S8x2048x640) ![6, 0, 0] S1x2048x640.size inb_S8x2048x640_S1x2048x640_6_0_0))
    (View.ld p (Rect.unit (s := S256x5120) ![0, 4480] S256x640.size inb_S256x5120_S256x640_0_4480))
    (View.ld w (Rect.unit (s := S8x2048x640) ![7, 0, 0] S1x2048x640.size inb_S8x2048x640_S1x2048x640_7_0_0))

/-- The gradient of a tile's rows. -/
def rowGrad (p : Vec F S256x5120 .bf16) (w : Vec F S8x2048x640 .bf16) (x : Vec F S256x2048 .f32) (r : Vec F S256x1 .f32) (g : Vec F S1x2048 .f32)
    (d : Vec F S256x2048 .f32) : FVec F S256x2048 .f32 := k0_pay1 (dh p w) (k0_pay8 x) (k0_pay9 r) g d

/-- The gain's gradient with a tile's rows added. -/
def gainNext (p : Vec F S256x5120 .bf16) (w : Vec F S8x2048x640 .bf16) (x : Vec F S256x2048 .f32) (r : Vec F S256x1 .f32) (a : Vec F S1x2048 .f32) :
    FVec F S1x2048 .f32 := k0_pay2 (dh p w) (k0_pay8 x) (k0_pay9 r) a

section Run

variable (A : ∀ c : Dev nD, Buf (Elt F) ((c.tc : Thread nD τ).loc main_arg6))

/-- A device's part of the exchange when a grid point begins: all to start at the first, all under way after it. -/
def entry (i : grid0.Coords) (c : Dev nD) : sProp (M F) :=
  if k0_cond1 i = 1#1 then iprop((∃ κ, Direct.before sem sem_inj units units_pos ER src qs (args A) blk κ c) ∗ ∃ W, owes (c.tc : Thread nD τ) (debt fm Direct.recvs c) W)
  else iprop(Direct.flying sem sem_inj units units_pos ER src qs (args A) blk c ∗ ∃ W, owes (c.tc : Thread nD τ) 0 W)

/-- And when it ends: all under way, and after the last all done. -/
def depart (i : grid0.Coords) (c : Dev nD) : sProp (M F) :=
  if k0_cond3 i = 1#1 then iprop(Direct.after sem src qs (args A) blk c ∗ ∃ W, owes (c.tc : Thread nD τ) 0 W)
  else iprop(Direct.flying sem sem_inj units units_pos ER src qs (args A) blk c ∗ ∃ W, owes (c.tc : Thread nD τ) 0 W)

set_option maxHeartbeats 4000000 in
set_option maxRecDepth 65536 in
/-- One grid point: the exchange's part of it, the weight fetched at the first, and a tile of each result. -/
theorem run_body (i : grid0.Coords) (c : Dev nD) (h12 : k0_cond1 i = 1#1 ↔ fresh i = 1#1) (h23 : k0_cond3 i = 1#1 → ¬ fresh i = 1#1)
    (arg1 : Memref sig .tc .vmem S256x5120 .bf16) (harg1 : arg1.IsWhole) (arg3 : Memref sig .tc .vmem S256x2048 .f32) (harg3 : arg3.IsWhole) (arg4 : Memref sig .tc .vmem S256x1 .f32) (harg4 : arg4.IsWhole) (arg5 : Memref sig .tc .vmem S1x2048 .f32) (harg5 : arg5.IsWhole) (arg6 : Memref sig .tc .vmem S256x2048 .f32) (harg6 : arg6.IsWhole) (arg8 : Memref sig .tc .vmem S256x2048 .f32) (harg8 : arg8.IsWhole) (arg9 : Memref sig .tc .vmem S1x2048 .f32) (harg9 : arg9.IsWhole)
    (x1 : Vec F S256x5120 .bf16) (x3 : Vec F S256x2048 .f32) (x4 : Vec F S256x1 .f32) (x5 : Vec F S1x2048 .f32) (x6 : Vec F S256x2048 .f32) (x8 : Vec F S256x2048 .f32) (x9 : Vec F S1x2048 .f32) (w y : Vec F S8x2048x640 .bf16) (hy : ¬ fresh i = 1#1 → y = w) (Kt : PUnit → sProp (M F)) :
    iprop(entry A i c ∗ (owns (c.tc : Thread nD τ) (Memref.whole main_arg1) fullShare w ∗ owns (c.tc : Thread nD τ) (Memref.whole cc0_scratch0) fullShare y ∗ semVal ((c.tc : Thread nD τ), .dma (12 : Fin 28)) 0) ∗ owns (c.tc : Thread nD τ) arg1 fullShare x1 ∗ owns (c.tc : Thread nD τ) arg3 fullShare x3 ∗ owns (c.tc : Thread nD τ) arg4 fullShare x4 ∗ owns (c.tc : Thread nD τ) arg5 fullShare x5 ∗ owns (c.tc : Thread nD τ) arg6 fullShare x6 ∗ owns (c.tc : Thread nD τ) arg8 fullShare x8 ∗ owns (c.tc : Thread nD τ) arg9 fullShare x9
        ∗ ((depart A i c ∗ (owns (c.tc : Thread nD τ) (Memref.whole main_arg1) fullShare w ∗ owns (c.tc : Thread nD τ) (Memref.whole cc0_scratch0) fullShare w ∗ semVal ((c.tc : Thread nD τ), .dma (12 : Fin 28)) 0) ∗ owns (c.tc : Thread nD τ) arg1 fullShare x1 ∗ owns (c.tc : Thread nD τ) arg3 fullShare x3 ∗ owns (c.tc : Thread nD τ) arg4 fullShare x4 ∗ owns (c.tc : Thread nD τ) arg5 fullShare x5 ∗ owns (c.tc : Thread nD τ) arg6 fullShare x6 ∗ owns (c.tc : Thread nD τ) arg8 fullShare (rowGrad x1 w x3 x4 x5 x6)
            ∗ owns (c.tc : Thread nD τ) arg9 fullShare (gainNext x1 w x3 x4 (if fresh i = 1#1 then k0_pay3 else x9))) -∗ Kt ⟨⟩))
      ⊢ wp frame (wpE (defs₀ (F := F)) 𝒱₀ (c.tc : Thread nD τ) none) Set.univ
    (cc0_in_proj_bwd (F := F) i arg1 harg1 (Memref.whole main_arg1) (Memref.isWhole_whole _) arg3 harg3 arg4 harg4 arg5 harg5 arg6 harg6
      (Memref.whole main_arg6) (Memref.isWhole_whole _) arg8 harg8 arg9 harg9 (Memref.whole main_v1_2) (Memref.isWhole_whole _)
      (Memref.whole cc0_scratch0) (Memref.isWhole_whole _) cc0_scratch1 cc0_scratch2 cc0_scratch3 cc0_scratch4) Kt := by
  unfold entry
  by_cases h2 : fresh i = 1#1
  · have h1 : k0_cond1 i = 1#1 := h12.mpr h2
    have h3 : ¬ k0_cond3 i = 1#1 := fun h => h23 h h2
    rw [if_pos h1]
    simp only [cc0_in_proj_bwd_eq_skeleton, cc0_in_proj_bwd_skel, k0_part18_eq_skeleton, k0_part18_skel, k0_part19_eq_skeleton, k0_part19_skel, ↓dif_pos h1, ↓dif_pos h2, ↓dif_neg h3, k0_part1_eq_skeleton, k0_part1_skel, k0_part2_eq_skeleton, k0_part2_skel, k0_part3_eq_skeleton, k0_part3_skel, k0_part4_eq_skeleton, k0_part4_skel, k0_part5_eq_skeleton, k0_part5_skel, k0_part6_eq_skeleton, k0_part6_skel, Prog.bind_lift, Prog.bind_op, Prog.bind_ret, Prog.bind_assoc, wp_deviceId, pure_bind', pure_ret]
    iintro ⟨He, ⟨Hw, Hy, Hv⟩, H1, H3, H4, H5, H6, H8, H9, Hk⟩
    icases He with ⟨⟨%κ, Hb⟩, ⟨%W, HO⟩⟩
    unfold Direct.before
    icases Hb with ⟨#HK, Hp, Hd, Hown, Hc⟩
    iapply (Direct.keep sem sem_inj units units_pos ER src qs (args A) blk (defs₀ (F := F)) 𝒱₀ none c ((ablk_of _ _ (own_off c)).trans (congrArg ablk (peer_zero c).symm)) (blk_of _ _ (own_off c)) rfl rfl) $$ [Hown]
    · isplitr; · iexact HK
      iexact Hown
    iintro C14
    ihave HS := (Direct.sending_intro sem sem_inj units units_pos ER src qs (args A) blk c W) $$ [Hd HO]
    · isplitl [Hd] <;> iassumption
    iapply (Direct.post sem sem_inj units units_pos ER src qs (args A) blk (defs₀ (F := F)) 𝒱₀ none c 0 Finset.univ (by decide) (ablk_of _ _ (send_off1 c)) (blk_of _ _ (own_off c)) (dev1 c _) rfl rfl rfl) $$ [HS]
    · isplitr; · iexact HK
      iexact HS
    iintro HS
    iapply (Direct.post sem sem_inj units units_pos ER src qs (args A) blk (defs₀ (F := F)) 𝒱₀ none c 1 (Finset.univ.erase 0) (by decide) (ablk_of _ _ (send_off2 c)) (blk_of _ _ (own_off c)) (dev2 c _) rfl rfl rfl) $$ [HS]
    · isplitr; · iexact HK
      iexact HS
    iintro HS
    iapply (Direct.post sem sem_inj units units_pos ER src qs (args A) blk (defs₀ (F := F)) 𝒱₀ none c 2 ((Finset.univ.erase 0).erase 1) (by decide) (ablk_of _ _ (send_off3 c)) (blk_of _ _ (own_off c)) (dev3 c _) rfl rfl rfl) $$ [HS]
    · isplitr; · iexact HK
      iexact HS
    iintro HS
    iapply (Direct.post sem sem_inj units units_pos ER src qs (args A) blk (defs₀ (F := F)) 𝒱₀ none c 3 (((Finset.univ.erase 0).erase 1).erase 2) (by decide) (ablk_of _ _ (send_off4 c)) (blk_of _ _ (own_off c)) (dev4 c _) rfl rfl rfl) $$ [HS]
    · isplitr; · iexact HK
      iexact HS
    iintro HS
    iapply (Direct.post sem sem_inj units units_pos ER src qs (args A) blk (defs₀ (F := F)) 𝒱₀ none c 4 ((((Finset.univ.erase 0).erase 1).erase 2).erase 3) (by decide) (ablk_of _ _ (send_off5 c)) (blk_of _ _ (own_off c)) (dev5 c _) rfl rfl rfl) $$ [HS]
    · isplitr; · iexact HK
      iexact HS
    iintro HS
    iapply (Direct.post sem sem_inj units units_pos ER src qs (args A) blk (defs₀ (F := F)) 𝒱₀ none c 5 (((((Finset.univ.erase 0).erase 1).erase 2).erase 3).erase 4) (by decide) (ablk_of _ _ (send_off6 c)) (blk_of _ _ (own_off c)) (dev6 c _) rfl rfl rfl) $$ [HS]
    · isplitr; · iexact HK
      iexact HS
    iintro HS
    iapply (Direct.post sem sem_inj units units_pos ER src qs (args A) blk (defs₀ (F := F)) 𝒱₀ none c 6 ((((((Finset.univ.erase 0).erase 1).erase 2).erase 3).erase 4).erase 5) (by decide) (ablk_of _ _ (send_off7 c)) (blk_of _ _ (own_off c)) (dev7 c _) rfl rfl rfl) $$ [HS]
    · isplitr; · iexact HK
      iexact HS
    iintro HS
    rw [show (((((((Finset.univ.erase 0).erase 1).erase 2).erase 3).erase 4).erase 5).erase 6) = (∅ : Finset (Fin 7)) from by decide]
    ihave H := (Direct.flying_intro sem sem_inj units units_pos ER src qs (args A) blk c W) $$ [Hp Hc C14 HS]
    · isplitr; · iexact HK
      isplitl [Hp]; · iexact Hp
      isplitl [Hc]; · iexact Hc
      isplitl [C14]; · iexact C14
      iexact HS
    ihave He := (show _ ⊢ (iprop(Direct.flying sem sem_inj units units_pos ER src qs (args A) blk c ∗ ∃ W, owes (c.tc : Thread nD τ) 0 W) : sProp (M F)) from sep_mono_right (exists_intro W)) $$ H
    icases He with ⟨Hf, HO⟩
    iapply (fetch (defs₀ (F := F)) 𝒱₀ none EC c (View.dmaCredit_pos _ (by decide)) w y) $$ [Hw Hy Hv HO]
    · isplitl [Hw]; · iexact Hw
      isplitl [Hy]; · iexact Hy
      isplitl [Hv]; · iexact Hv
      iexact HO
    iintro ⟨Hw, Hy, Hv, HO⟩
    ihave He := (show (iprop(Direct.flying sem sem_inj units units_pos ER src qs (args A) blk c ∗ ∃ W, owes (c.tc : Thread nD τ) 0 W) : sProp (M F)) ⊢ _ from .rfl) $$ [Hf HO]
    · isplitl [Hf] <;> iassumption
    iapply (load_whole (defs₀ (F := F)) 𝒱₀ none c arg9 fullShare x9) $$ H9
    iintro H9
    iapply (store_whole (defs₀ (F := F)) 𝒱₀ none c arg9 x9 (k0_pay3 (F := F))) $$ H9
    iintro H9
    iapply (load_part (defs₀ (F := F)) 𝒱₀ none c arg1 fullShare x1 _) $$ H1
    iintro H1
    iapply (load_part (defs₀ (F := F)) 𝒱₀ none c (Memref.whole cc0_scratch0) fullShare w _) $$ Hy
    iintro Hy
    iapply (load_part (defs₀ (F := F)) 𝒱₀ none c arg1 fullShare x1 _) $$ H1
    iintro H1
    iapply (load_part (defs₀ (F := F)) 𝒱₀ none c (Memref.whole cc0_scratch0) fullShare w _) $$ Hy
    iintro Hy
    iapply (load_part (defs₀ (F := F)) 𝒱₀ none c arg1 fullShare x1 _) $$ H1
    iintro H1
    iapply (load_part (defs₀ (F := F)) 𝒱₀ none c (Memref.whole cc0_scratch0) fullShare w _) $$ Hy
    iintro Hy
    iapply (load_part (defs₀ (F := F)) 𝒱₀ none c arg1 fullShare x1 _) $$ H1
    iintro H1
    iapply (load_part (defs₀ (F := F)) 𝒱₀ none c (Memref.whole cc0_scratch0) fullShare w _) $$ Hy
    iintro Hy
    iapply (load_part (defs₀ (F := F)) 𝒱₀ none c arg1 fullShare x1 _) $$ H1
    iintro H1
    iapply (load_part (defs₀ (F := F)) 𝒱₀ none c (Memref.whole cc0_scratch0) fullShare w _) $$ Hy
    iintro Hy
    iapply (load_part (defs₀ (F := F)) 𝒱₀ none c arg1 fullShare x1 _) $$ H1
    iintro H1
    iapply (load_part (defs₀ (F := F)) 𝒱₀ none c (Memref.whole cc0_scratch0) fullShare w _) $$ Hy
    iintro Hy
    iapply (load_part (defs₀ (F := F)) 𝒱₀ none c arg1 fullShare x1 _) $$ H1
    iintro H1
    iapply (load_part (defs₀ (F := F)) 𝒱₀ none c (Memref.whole cc0_scratch0) fullShare w _) $$ Hy
    iintro Hy
    iapply (load_part (defs₀ (F := F)) 𝒱₀ none c arg1 fullShare x1 _) $$ H1
    iintro H1
    iapply (load_part (defs₀ (F := F)) 𝒱₀ none c (Memref.whole cc0_scratch0) fullShare w _) $$ Hy
    iintro Hy
    iapply (load_whole (defs₀ (F := F)) 𝒱₀ none c arg3 fullShare x3) $$ H3
    iintro H3
    iapply (load_whole (defs₀ (F := F)) 𝒱₀ none c arg4 fullShare x4) $$ H4
    iintro H4
    iapply (load_whole (defs₀ (F := F)) 𝒱₀ none c arg5 fullShare x5) $$ H5
    iintro H5
    iapply (load_whole (defs₀ (F := F)) 𝒱₀ none c arg6 fullShare x6) $$ H6
    iintro H6
    iapply (load_whole (defs₀ (F := F)) 𝒱₀ none c arg8 fullShare x8) $$ H8
    iintro H8
    iapply (store_whole (defs₀ (F := F)) 𝒱₀ none c arg8 x8 (rowGrad x1 w x3 x4 x5 x6)) $$ H8
    iintro H8
    iapply (load_whole (defs₀ (F := F)) 𝒱₀ none c arg9 fullShare (k0_pay3 (F := F))) $$ H9
    iintro H9
    iapply (load_whole (defs₀ (F := F)) 𝒱₀ none c arg9 fullShare (k0_pay3 (F := F))) $$ H9
    iintro H9
    iapply (store_whole (defs₀ (F := F)) 𝒱₀ none c arg9 (k0_pay3 (F := F)) (gainNext x1 w x3 x4 (k0_pay3 (F := F)))) $$ H9
    iintro H9
    rw [wp_ret]
    imodintro
    unfold depart
    rw [if_neg h3]
    iapply Hk
    isplitl [He]; · iexact He
    isplitl [Hw Hy Hv]
    · isplitl [Hw]; · iexact Hw
      isplitl [Hy]; · iexact Hy
      iexact Hv
    isplitl [H1]; · iexact H1
    isplitl [H3]; · iexact H3
    isplitl [H4]; · iexact H4
    isplitl [H5]; · iexact H5
    isplitl [H6]; · iexact H6
    isplitl [H8]; · iexact H8
    rw [if_pos h2]
    iexact H9
  · have h1 : ¬ k0_cond1 i = 1#1 := fun h => h2 (h12.mp h)
    obtain rfl := hy h2
    rw [if_neg h1]
    by_cases h3 : k0_cond3 i = 1#1
    · simp only [cc0_in_proj_bwd_eq_skeleton, cc0_in_proj_bwd_skel, k0_part18_eq_skeleton, k0_part18_skel, k0_part19_eq_skeleton, k0_part19_skel, ↓dif_neg h1, ↓dif_neg h2, ↓dif_pos h3, k0_part7_eq_skeleton, k0_part7_skel, k0_part8_eq_skeleton, k0_part8_skel, k0_part9_eq_skeleton, k0_part9_skel, k0_part10_eq_skeleton, k0_part10_skel, k0_part11_eq_skeleton, k0_part11_skel, k0_part12_eq_skeleton, k0_part12_skel, k0_part13_eq_skeleton, k0_part13_skel, k0_part14_eq_skeleton, k0_part14_skel, k0_part15_eq_skeleton, k0_part15_skel, k0_part16_eq_skeleton, k0_part16_skel, k0_part17_eq_skeleton, k0_part17_skel, Prog.bind_lift, Prog.bind_op, Prog.bind_ret, Prog.bind_assoc, wp_deviceId, pure_bind', pure_ret]
      iintro ⟨He, ⟨Hw, Hy, Hv⟩, H1, H3, H4, H5, H6, H8, H9, Hk⟩
      iapply (load_part (defs₀ (F := F)) 𝒱₀ none c arg1 fullShare x1 _) $$ H1
      iintro H1
      iapply (load_part (defs₀ (F := F)) 𝒱₀ none c (Memref.whole cc0_scratch0) fullShare y _) $$ Hy
      iintro Hy
      iapply (load_part (defs₀ (F := F)) 𝒱₀ none c arg1 fullShare x1 _) $$ H1
      iintro H1
      iapply (load_part (defs₀ (F := F)) 𝒱₀ none c (Memref.whole cc0_scratch0) fullShare y _) $$ Hy
      iintro Hy
      iapply (load_part (defs₀ (F := F)) 𝒱₀ none c arg1 fullShare x1 _) $$ H1
      iintro H1
      iapply (load_part (defs₀ (F := F)) 𝒱₀ none c (Memref.whole cc0_scratch0) fullShare y _) $$ Hy
      iintro Hy
      iapply (load_part (defs₀ (F := F)) 𝒱₀ none c arg1 fullShare x1 _) $$ H1
      iintro H1
      iapply (load_part (defs₀ (F := F)) 𝒱₀ none c (Memref.whole cc0_scratch0) fullShare y _) $$ Hy
      iintro Hy
      iapply (load_part (defs₀ (F := F)) 𝒱₀ none c arg1 fullShare x1 _) $$ H1
      iintro H1
      iapply (load_part (defs₀ (F := F)) 𝒱₀ none c (Memref.whole cc0_scratch0) fullShare y _) $$ Hy
      iintro Hy
      iapply (load_part (defs₀ (F := F)) 𝒱₀ none c arg1 fullShare x1 _) $$ H1
      iintro H1
      iapply (load_part (defs₀ (F := F)) 𝒱₀ none c (Memref.whole cc0_scratch0) fullShare y _) $$ Hy
      iintro Hy
      iapply (load_part (defs₀ (F := F)) 𝒱₀ none c arg1 fullShare x1 _) $$ H1
      iintro H1
      iapply (load_part (defs₀ (F := F)) 𝒱₀ none c (Memref.whole cc0_scratch0) fullShare y _) $$ Hy
      iintro Hy
      iapply (load_part (defs₀ (F := F)) 𝒱₀ none c arg1 fullShare x1 _) $$ H1
      iintro H1
      iapply (load_part (defs₀ (F := F)) 𝒱₀ none c (Memref.whole cc0_scratch0) fullShare y _) $$ Hy
      iintro Hy
      iapply (load_whole (defs₀ (F := F)) 𝒱₀ none c arg3 fullShare x3) $$ H3
      iintro H3
      iapply (load_whole (defs₀ (F := F)) 𝒱₀ none c arg4 fullShare x4) $$ H4
      iintro H4
      iapply (load_whole (defs₀ (F := F)) 𝒱₀ none c arg5 fullShare x5) $$ H5
      iintro H5
      iapply (load_whole (defs₀ (F := F)) 𝒱₀ none c arg6 fullShare x6) $$ H6
      iintro H6
      iapply (load_whole (defs₀ (F := F)) 𝒱₀ none c arg8 fullShare x8) $$ H8
      iintro H8
      iapply (store_whole (defs₀ (F := F)) 𝒱₀ none c arg8 x8 (rowGrad x1 y x3 x4 x5 x6)) $$ H8
      iintro H8
      iapply (load_whole (defs₀ (F := F)) 𝒱₀ none c arg9 fullShare x9) $$ H9
      iintro H9
      iapply (load_whole (defs₀ (F := F)) 𝒱₀ none c arg9 fullShare x9) $$ H9
      iintro H9
      iapply (store_whole (defs₀ (F := F)) 𝒱₀ none c arg9 x9 (gainNext x1 y x3 x4 x9)) $$ H9
      iintro H9
      iapply (wp_wand frame (wpE (defs₀ (F := F)) 𝒱₀ (c.tc : Thread nD τ) none) Set.univ (Q := fun _ => depart A i c)) $$ [He]
      · unfold depart
        rw [if_pos h3]
        simp only [wp_deviceId]
        irevert He
        unfold Direct.flying
        iintro ⟨⟨⟨%κ, #HK⟩, Ho⟩, HO⟩
        ihave HL := (Direct.landing_intro sem sem_inj units units_pos ER src qs (args A) blk c) $$ [Ho HO]
        · isplitl [Ho] <;> iassumption
        iapply (Direct.wait sem sem_inj units units_pos ER src qs (args A) blk (defs₀ (F := F)) 𝒱₀ none c 7 Finset.univ (by decide) rfl (credit _)) $$ [HL]
        · isplitr; · iexact HK
          iexact HL
        iintro HL
        iapply (Direct.wait sem sem_inj units units_pos ER src qs (args A) blk (defs₀ (F := F)) 𝒱₀ none c 8 (Finset.univ.erase 7) (by decide) rfl (credit _)) $$ [HL]
        · isplitr; · iexact HK
          iexact HL
        iintro HL
        iapply (Direct.wait sem sem_inj units units_pos ER src qs (args A) blk (defs₀ (F := F)) 𝒱₀ none c 9 ((Finset.univ.erase 7).erase 8) (by decide) rfl (credit _)) $$ [HL]
        · isplitr; · iexact HK
          iexact HL
        iintro HL
        iapply (Direct.wait sem sem_inj units units_pos ER src qs (args A) blk (defs₀ (F := F)) 𝒱₀ none c 10 (((Finset.univ.erase 7).erase 8).erase 9) (by decide) rfl (credit _)) $$ [HL]
        · isplitr; · iexact HK
          iexact HL
        iintro HL
        iapply (Direct.wait sem sem_inj units units_pos ER src qs (args A) blk (defs₀ (F := F)) 𝒱₀ none c 11 ((((Finset.univ.erase 7).erase 8).erase 9).erase 10) (by decide) rfl (credit _)) $$ [HL]
        · isplitr; · iexact HK
          iexact HL
        iintro HL
        iapply (Direct.wait sem sem_inj units units_pos ER src qs (args A) blk (defs₀ (F := F)) 𝒱₀ none c 12 (((((Finset.univ.erase 7).erase 8).erase 9).erase 10).erase 11) (by decide) rfl (credit _)) $$ [HL]
        · isplitr; · iexact HK
          iexact HL
        iintro HL
        iapply (Direct.wait sem sem_inj units units_pos ER src qs (args A) blk (defs₀ (F := F)) 𝒱₀ none c 13 ((((((Finset.univ.erase 7).erase 8).erase 9).erase 10).erase 11).erase 12) (by decide) rfl (credit _)) $$ [HL]
        · isplitr; · iexact HK
          iexact HL
        iintro HL
        iapply (Direct.wait sem sem_inj units units_pos ER src qs (args A) blk (defs₀ (F := F)) 𝒱₀ none c 0 (((((((Finset.univ.erase 7).erase 8).erase 9).erase 10).erase 11).erase 12).erase 13) (by decide) rfl (credit _)) $$ [HL]
        · isplitr; · iexact HK
          iexact HL
        iintro HL
        iapply (Direct.wait sem sem_inj units units_pos ER src qs (args A) blk (defs₀ (F := F)) 𝒱₀ none c 1 ((((((((Finset.univ.erase 7).erase 8).erase 9).erase 10).erase 11).erase 12).erase 13).erase 0) (by decide) rfl (credit _)) $$ [HL]
        · isplitr; · iexact HK
          iexact HL
        iintro HL
        iapply (Direct.wait sem sem_inj units units_pos ER src qs (args A) blk (defs₀ (F := F)) 𝒱₀ none c 2 (((((((((Finset.univ.erase 7).erase 8).erase 9).erase 10).erase 11).erase 12).erase 13).erase 0).erase 1) (by decide) rfl (credit _)) $$ [HL]
        · isplitr; · iexact HK
          iexact HL
        iintro HL
        iapply (Direct.wait sem sem_inj units units_pos ER src qs (args A) blk (defs₀ (F := F)) 𝒱₀ none c 3 ((((((((((Finset.univ.erase 7).erase 8).erase 9).erase 10).erase 11).erase 12).erase 13).erase 0).erase 1).erase 2) (by decide) rfl (credit _)) $$ [HL]
        · isplitr; · iexact HK
          iexact HL
        iintro HL
        iapply (Direct.wait sem sem_inj units units_pos ER src qs (args A) blk (defs₀ (F := F)) 𝒱₀ none c 4 (((((((((((Finset.univ.erase 7).erase 8).erase 9).erase 10).erase 11).erase 12).erase 13).erase 0).erase 1).erase 2).erase 3) (by decide) rfl (credit _)) $$ [HL]
        · isplitr; · iexact HK
          iexact HL
        iintro HL
        iapply (Direct.wait sem sem_inj units units_pos ER src qs (args A) blk (defs₀ (F := F)) 𝒱₀ none c 5 ((((((((((((Finset.univ.erase 7).erase 8).erase 9).erase 10).erase 11).erase 12).erase 13).erase 0).erase 1).erase 2).erase 3).erase 4) (by decide) rfl (credit _)) $$ [HL]
        · isplitr; · iexact HK
          iexact HL
        iintro HL
        iapply (Direct.wait sem sem_inj units units_pos ER src qs (args A) blk (defs₀ (F := F)) 𝒱₀ none c 6 (((((((((((((Finset.univ.erase 7).erase 8).erase 9).erase 10).erase 11).erase 12).erase 13).erase 0).erase 1).erase 2).erase 3).erase 4).erase 5) (by decide) rfl (credit _)) $$ [HL]
        · isplitr; · iexact HK
          iexact HL
        iintro HL
        iapply (Direct.wait sem sem_inj units units_pos ER src qs (args A) blk (defs₀ (F := F)) 𝒱₀ none c 14 ((((((((((((((Finset.univ.erase 7).erase 8).erase 9).erase 10).erase 11).erase 12).erase 13).erase 0).erase 1).erase 2).erase 3).erase 4).erase 5).erase 6) (by decide) rfl (credit _)) $$ [HL]
        · isplitr; · iexact HK
          iexact HL
        iintro HL
        rw [show (((((((((((((((Finset.univ.erase 7).erase 8).erase 9).erase 10).erase 11).erase 12).erase 13).erase 0).erase 1).erase 2).erase 3).erase 4).erase 5).erase 6).erase 14) = (∅ : Finset (Fin 15)) from by decide]
        rw [wp_ret]
        iapply (Direct.after_intro sem sem_inj units units_pos ER src qs (args A) blk c)
        isplitr; · iexact HK
        iexact HL
      iintro %_ He
      iapply Hk
      isplitl [He]; · iexact He
      isplitl [Hw Hy Hv]
      · isplitl [Hw]; · iexact Hw
        isplitl [Hy]; · iexact Hy
        iexact Hv
      isplitl [H1]; · iexact H1
      isplitl [H3]; · iexact H3
      isplitl [H4]; · iexact H4
      isplitl [H5]; · iexact H5
      isplitl [H6]; · iexact H6
      isplitl [H8]; · iexact H8
      rw [if_neg h2]
      iexact H9
    · simp only [cc0_in_proj_bwd_eq_skeleton, cc0_in_proj_bwd_skel, k0_part18_eq_skeleton, k0_part18_skel, k0_part19_eq_skeleton, k0_part19_skel, ↓dif_neg h1, ↓dif_neg h2, ↓dif_neg h3, Prog.bind_lift, Prog.bind_op, Prog.bind_ret, Prog.bind_assoc, wp_deviceId, pure_bind', pure_ret]
      iintro ⟨He, ⟨Hw, Hy, Hv⟩, H1, H3, H4, H5, H6, H8, H9, Hk⟩
      iapply (load_part (defs₀ (F := F)) 𝒱₀ none c arg1 fullShare x1 _) $$ H1
      iintro H1
      iapply (load_part (defs₀ (F := F)) 𝒱₀ none c (Memref.whole cc0_scratch0) fullShare y _) $$ Hy
      iintro Hy
      iapply (load_part (defs₀ (F := F)) 𝒱₀ none c arg1 fullShare x1 _) $$ H1
      iintro H1
      iapply (load_part (defs₀ (F := F)) 𝒱₀ none c (Memref.whole cc0_scratch0) fullShare y _) $$ Hy
      iintro Hy
      iapply (load_part (defs₀ (F := F)) 𝒱₀ none c arg1 fullShare x1 _) $$ H1
      iintro H1
      iapply (load_part (defs₀ (F := F)) 𝒱₀ none c (Memref.whole cc0_scratch0) fullShare y _) $$ Hy
      iintro Hy
      iapply (load_part (defs₀ (F := F)) 𝒱₀ none c arg1 fullShare x1 _) $$ H1
      iintro H1
      iapply (load_part (defs₀ (F := F)) 𝒱₀ none c (Memref.whole cc0_scratch0) fullShare y _) $$ Hy
      iintro Hy
      iapply (load_part (defs₀ (F := F)) 𝒱₀ none c arg1 fullShare x1 _) $$ H1
      iintro H1
      iapply (load_part (defs₀ (F := F)) 𝒱₀ none c (Memref.whole cc0_scratch0) fullShare y _) $$ Hy
      iintro Hy
      iapply (load_part (defs₀ (F := F)) 𝒱₀ none c arg1 fullShare x1 _) $$ H1
      iintro H1
      iapply (load_part (defs₀ (F := F)) 𝒱₀ none c (Memref.whole cc0_scratch0) fullShare y _) $$ Hy
      iintro Hy
      iapply (load_part (defs₀ (F := F)) 𝒱₀ none c arg1 fullShare x1 _) $$ H1
      iintro H1
      iapply (load_part (defs₀ (F := F)) 𝒱₀ none c (Memref.whole cc0_scratch0) fullShare y _) $$ Hy
      iintro Hy
      iapply (load_part (defs₀ (F := F)) 𝒱₀ none c arg1 fullShare x1 _) $$ H1
      iintro H1
      iapply (load_part (defs₀ (F := F)) 𝒱₀ none c (Memref.whole cc0_scratch0) fullShare y _) $$ Hy
      iintro Hy
      iapply (load_whole (defs₀ (F := F)) 𝒱₀ none c arg3 fullShare x3) $$ H3
      iintro H3
      iapply (load_whole (defs₀ (F := F)) 𝒱₀ none c arg4 fullShare x4) $$ H4
      iintro H4
      iapply (load_whole (defs₀ (F := F)) 𝒱₀ none c arg5 fullShare x5) $$ H5
      iintro H5
      iapply (load_whole (defs₀ (F := F)) 𝒱₀ none c arg6 fullShare x6) $$ H6
      iintro H6
      iapply (load_whole (defs₀ (F := F)) 𝒱₀ none c arg8 fullShare x8) $$ H8
      iintro H8
      iapply (store_whole (defs₀ (F := F)) 𝒱₀ none c arg8 x8 (rowGrad x1 y x3 x4 x5 x6)) $$ H8
      iintro H8
      iapply (load_whole (defs₀ (F := F)) 𝒱₀ none c arg9 fullShare x9) $$ H9
      iintro H9
      iapply (load_whole (defs₀ (F := F)) 𝒱₀ none c arg9 fullShare x9) $$ H9
      iintro H9
      iapply (store_whole (defs₀ (F := F)) 𝒱₀ none c arg9 x9 (gainNext x1 y x3 x4 x9)) $$ H9
      iintro H9
      rw [wp_ret]
      imodintro
      unfold depart
      rw [if_neg h3]
      iapply Hk
      isplitl [He]; · iexact He
      isplitl [Hw Hy Hv]
      · isplitl [Hw]; · iexact Hw
        isplitl [Hy]; · iexact Hy
        iexact Hv
      isplitl [H1]; · iexact H1
      isplitl [H3]; · iexact H3
      isplitl [H4]; · iexact H4
      isplitl [H5]; · iexact H5
      isplitl [H6]; · iexact H6
      isplitl [H8]; · iexact H8
      rw [if_neg h2]
      iexact H9

end Run

end ProjBwd

end
-- ==== Proof.ProjBwdLaunch.lean ====
/-
  The input projection's backward product with the exchange of its weight's gradient on all devices: the launch, and what
  memory holds at the end.
-/
module

public import proofs.«01_k».proof.Proof.ProjBwdRun
public import proofs.«01_k».proof.Proof.Launch

@[expose] public section

set_option Elab.async false

noncomputable section

namespace ProjBwd

open Idealize.ShloMosaic
open Idealize.ShloMosaic.TcCoe
open Idealize.ShloMosaic.Rounds
open Idealize.SL Idealize.SL.RA Idealize.SL.BI
open scoped Idealize.SL.BI
open Idealize.SL.BI.BIBase Idealize.SL.BI.Laws Idealize.SL.ProofMode Idealize.SL.Sem
open Cert.ProjBwdIdeal Cert.ProjBwdIdeal.Gen
open Exchange
open Idealize.ShloMosaic.Pipeline

variable {F : FTy → Type} [FloatOps F]

omit [FloatOps F] in
/-- The exchange's argument is what its copies read. -/
theorem lend (A : ∀ c : Dev nD, Buf (Elt F) ((c.tc : Thread nD τ).loc main_arg6)) (c : Dev nD) :
    ((c.tc : Thread nD τ).loc main_arg6 ↦{fullShare} A c : sProp (M F)) = bigSep Finset.univ fun k => Direct.lent src qs (args A) c k := by
  rw [pieces main_arg6 rect (fun _ _ => rfl) (fun _ => squeezes_S1x2048x640_S2048x640) rect_disjoint rect_cover c (A c), bigSep_univ_equiv (swapAt c)]
  rfl

omit [FloatOps F] in
/-- The exchange's result, whole, is room for every block. -/
theorem rooms (c : Dev nD) (f : Buf (Elt F) ((c.tc : Thread nD τ).loc main_v1_2)) :
    ((c.tc : Thread nD τ).loc main_v1_2 ↦{fullShare} f : sProp (M F)) ⊢ bigSep Finset.univ fun k : Fin 15 => Direct.space blk c k :=
  (room_pieces main_v1_2 rect (fun _ _ => rfl) (fun _ => squeezes_S1x2048x640_S2048x640) rect_disjoint rect_cover c f).trans (Direct.spaces blk c)

/-- The landed blocks are the exchange's result, whole. -/
theorem join_landed (A : ∀ c : Dev nD, Buf (Elt F) ((c.tc : Thread nD τ).loc main_arg6)) (c : Dev nD) :
    (bigSep Finset.univ fun j => Direct.landed src (args A) blk c j)
      ⊢ (iprop(∃ f : Buf (Elt F) ((c.tc : Thread nD τ).loc main_v1_2), ⌜∀ j, (blk j).view.read (Elt F) f = Direct.val src (args A) c j⌝
          ∗ (c.tc : Thread nD τ).loc main_v1_2 ↦{fullShare} f) : sProp (M F)) :=
  join_pieces main_v1_2 rect (fun _ _ => rfl) (fun _ => squeezes_S1x2048x640_S2048x640) rect_disjoint rect_cover c _

/-! ## The region's data -/

section Launch

variable (m : (ℓ : Loc nD τ sig) → Buf (Elt F) ℓ) (ρ : Dev nD → PrngReg)

/-- The exchange's argument at launch. -/
def arg (c : Dev nD) : Buf (Elt F) ((c.tc : Thread nD τ).loc main_arg6) := m ((c.tc : Thread nD τ).loc main_arg6)

/-- The exchange before grid point `n`. -/
def state (n : ℕ) (c : Dev nD) : sProp (M F) :=
  if n = 0 then iprop(∃ κ, Direct.before sem sem_inj units units_pos ER src qs (args (arg m)) blk κ c)
  else if n = 32 then Direct.after sem src qs (args (arg m)) blk c
  else Direct.flying sem sem_inj units units_pos ER src qs (args (arg m)) blk c

/-- What a device owes before grid point `n`. -/
def debts (n : ℕ) (c : Dev nD) : CellTallies nD τ sig Unit := if n = 0 then debt fm Direct.recvs c else 0

theorem first (t : Fin cfg0.N) : k0_cond1 (grid0.coords t) = 1#1 ↔ t.val = 0 := by
  revert t; decide +kernel
theorem last (t : Fin cfg0.N) : k0_cond3 (grid0.coords t) = 1#1 ↔ t.val + 1 = 32 := by
  revert t; decide +kernel

theorem enter_point (t : Fin cfg0.N) (c : Dev nD) :
    iprop(state m t.val c ∗ ∃ W, owes (c.tc : Thread nD τ) (debts t.val c) W) ⊢ entry (arg m) (grid0.coords t) c := by
  have hN : t.val < 32 := t.isLt
  unfold entry state debts
  by_cases h : t.val = 0
  · rw [if_pos h, if_pos h, if_pos ((first t).mpr h)]
  · rw [if_neg h, if_neg h, if_neg (fun e => h ((first t).mp e)), if_neg (by omega)]

theorem leave_point (t : Fin cfg0.N) (c : Dev nD) :
    depart (arg m) (grid0.coords t) c ⊢ iprop(state m (t.val + 1) c ∗ ∃ W, owes (c.tc : Thread nD τ) (debts (t.val + 1) c) W) := by
  unfold depart state debts
  rw [if_neg (Nat.succ_ne_zero _), if_neg (Nat.succ_ne_zero _)]
  by_cases h : t.val + 1 = 32
  · rw [if_pos h, if_pos ((last t).mpr h)]
  · rw [if_neg h, if_neg (fun e => h ((last t).mp e))]

/-- The weight on a device. -/
def weight (c : Dev nD) : Vec F S8x2048x640 .bf16 := m ((c.tc : Thread nD τ).loc main_arg1)

/-- The gain's gradient after a grid point. -/
def gain (c : Dev nD) : (n : ℕ) → n < 32 → Vec F S1x2048 .f32
  | 0, h => gainNext (iblk m c 0 ⟨0, h⟩) (weight m c) (iblk m c 1 ⟨0, h⟩) (iblk m c 2 ⟨0, h⟩) k0_pay3
  | n + 1, h => gainNext (iblk m c 0 ⟨n + 1, h⟩) (weight m c) (iblk m c 1 ⟨n + 1, h⟩) (iblk m c 2 ⟨n + 1, h⟩) (gain c n (Nat.lt_of_succ_lt h))

theorem starts (t : Fin cfg0.N) : fresh (grid0.coords t) = 1#1 ↔ t.val = 0 := by
  revert t; decide +kernel
theorem first_starts (t : Fin cfg0.N) : k0_cond1 (grid0.coords t) = 1#1 ↔ fresh (grid0.coords t) = 1#1 := (first t).trans (starts t).symm
theorem last_late (t : Fin cfg0.N) (h : k0_cond3 (grid0.coords t) = 1#1) : ¬ fresh (grid0.coords t) = 1#1 := fun e => by
  have h1 := (starts t).mp e
  have h2 := (last t).mp h
  omega

/-- The weight's own place, the buffer it is fetched into and the semaphore of the fetch before grid point `n`. -/
def scratch (n : ℕ) (c : Dev nD) : sProp (M F) :=
  iprop(∃ y : Vec F S8x2048x640 .bf16, ⌜¬ n = 0 → y = weight m c⌝ ∗ owns (c.tc : Thread nD τ) (Memref.whole main_arg1) fullShare (weight m c)
    ∗ owns (c.tc : Thread nD τ) (Memref.whole cc0_scratch0) fullShare y ∗ semVal ((c.tc : Thread nD τ), .dma (12 : Fin 28)) 0)

/-- The weight's own place and the semaphore of the fetch. -/
def kept (c : Dev nD) : sProp (M F) :=
  iprop(((c.tc : Thread nD τ).loc main_arg1 ↦{fullShare} m ((c.tc : Thread nD τ).loc main_arg1)) ∗ semVal ((c.tc : Thread nD τ), .dma (12 : Fin 28)) 0)

theorem scratch_intro (c : Dev nD) : iprop(scopedRest cfg0.spec c ∗ kept m c) ⊢ scratch m 0 c := by
  rw [scopedRest0_eq]
  unfold scratch kept
  iintro ⟨⟨%f, Hf⟩, Ha, Hv⟩
  iexists f
  isplitr; · ipureintro; exact fun h => absurd rfl h
  isplitl [Ha]
  · iapply (Entails.of_eq (owns_whole (c.tc : Thread nD τ) main_arg1 fullShare _).symm); iexact Ha
  isplitl [Hf]
  · iapply (Entails.of_eq (owns_whole (c.tc : Thread nD τ) cc0_scratch0 fullShare f).symm); iexact Hf
  iexact Hv

theorem scratch_elim (c : Dev nD) : scratch m 32 c ⊢ iprop(scopedRest cfg0.spec c ∗ kept m c) := by
  rw [scopedRest0_eq]
  unfold scratch kept
  iintro ⟨%f, -, Ha, Hf, Hv⟩
  isplitl [Hf]
  · iexists f
    iapply (Entails.of_eq (owns_whole (c.tc : Thread nD τ) cc0_scratch0 fullShare f)); iexact Hf
  isplitl [Ha]
  · iapply (Entails.of_eq (owns_whole (c.tc : Thread nD τ) main_arg1 fullShare (weight m c))); iexact Ha
  iexact Hv

def dats (_ : Fin 1) (c : Dev nD) : Dat τ (Elt F) Unit ℕ UU ℕ cfg0 c where
  A w := m ((cfg0.win w).arr.view.loc (c.tc : Thread nD τ))
  after w t := match w with
    | 0 => iblk m c 0 t
    | 1 => iblk m c 1 t
    | 2 => iblk m c 2 t
    | 3 => iblk m c 3 t
    | 4 => iblk m c 4 t
    | 5 => rowGrad (iblk m c 0 t) (weight m c) (iblk m c 1 t) (iblk m c 2 t) (iblk m c 3 t) (iblk m c 4 t)
    | 6 => gain m c t.val t.isLt
    | ⟨_ + 7, h⟩ => absurd h (Nat.not_lt.2 (Nat.le_add_left _ _))
  Φ t := iprop(state m t.val c ∗ scratch m t.val c)
  q _ := fullShare
  owed t := debts t.val c

theorem share_full (c : Dev nD) (w : Fin 7) : (dats m 0 c).share w = fullShare := by
  unfold Dat.share
  exact ite_self _

theorem before0 (c : Dev nD) (t : Fin cfg0.N) (d) : (dats m 0 c).before 0 t d = iblk m c 0 t :=
  ((dats m 0 c).before_in_eq_fetched 0 rfl (fun _ => rfl) (fun _ _ _ => rfl) (fun _ => rfl) t d).trans rfl

theorem before1 (c : Dev nD) (t : Fin cfg0.N) (d) : (dats m 0 c).before 1 t d = iblk m c 1 t :=
  ((dats m 0 c).before_in_eq_fetched 1 rfl (fun _ => rfl) (fun _ _ _ => rfl) (fun _ => rfl) t d).trans rfl

theorem before2 (c : Dev nD) (t : Fin cfg0.N) (d) : (dats m 0 c).before 2 t d = iblk m c 2 t :=
  ((dats m 0 c).before_in_eq_fetched 2 rfl (fun _ => rfl) (fun _ _ _ => rfl) (fun _ => rfl) t d).trans rfl

theorem before3 (c : Dev nD) (t : Fin cfg0.N) (d) : (dats m 0 c).before 3 t d = iblk m c 3 t :=
  ((dats m 0 c).before_in_eq_fetched 3 rfl (fun _ => rfl) (fun _ _ _ => rfl) (fun _ => rfl) t d).trans rfl

theorem before4 (c : Dev nD) (t : Fin cfg0.N) (d) : (dats m 0 c).before 4 t d = iblk m c 4 t :=
  ((dats m 0 c).before_in_eq_fetched 4 rfl (fun _ => rfl) (fun _ _ _ => rfl) (fun _ => rfl) t d).trans rfl

/-- The gain's gradient as the body finds it: after the first grid point, what it left at the point before. -/
theorem gain_next (c : Dev nD) (t : Fin cfg0.N) (d) :
    gainNext (iblk m c 0 t) (weight m c) (iblk m c 1 t) (iblk m c 2 t) (if fresh (grid0.coords t) = 1#1 then k0_pay3 else (dats m 0 c).before 6 t d) = gain m c t.val t.isLt := by
  by_cases h : t.val = 0
  · rw [if_pos ((starts t).mpr h)]
    obtain ⟨n, hn⟩ := t
    obtain rfl := (h : n = 0)
    rfl
  · rw [if_neg (fun e => h ((starts t).mp e)), (dats m 0 c).before_out_kept 6 rfl t h
      (Bool.eq_false_iff.mpr fun e => by have := (flush0_6 _).mp e; have := t.isLt; simp only at *; have hN : t.val < 32 := t.isLt; omega) (fun _ => rfl) (fun _ _ => rfl) d]
    obtain ⟨n, hn⟩ := t
    cases n with
    | zero => exact absurd rfl h
    | succ n => rfl

set_option maxRecDepth 20000 in
theorem body_obligation (c : Dev nD) : Pipeline.BodyObligation (dats m 0 c) (defs₀ (F := F)) 𝒱₀ () Set.univ := by
  intro t
  rw [bigSep_W0, bigSep_W0]
  show iprop((state m t.val c ∗ scratch m t.val c) ∗ _ ∗ _) ⊢ wp frame (wpE (defs₀ (F := F)) 𝒱₀ c.tc none) Set.univ (bodyAt0 t) _
  iintro ⟨⟨Hst, Hsc⟩, Ho, ⟨%d0, H0⟩, ⟨%d1, H1⟩, ⟨%d2, H2⟩, ⟨%d3, H3⟩, ⟨%d4, H4⟩, ⟨%d5, H5⟩, ⟨%d6, H6⟩⟩
  ihave Hsc := (Entails.of_eq (show scratch m t.val c = _ from by unfold scratch; rfl)) $$ Hsc
  icases Hsc with ⟨%y, %hy, Hw, Hy, Hv⟩
  ihave Ho := (Entails.of_eq (show (dats m 0 c).owesAt () t.castSucc = _ from by unfold Pipeline.Dat.owesAt Pipeline.owesWithin; rfl)) $$ Ho
  icases Ho with ⟨%W, -, Ho⟩
  ihave He := (enter_point m t c) $$ [Hst Ho]
  · isplitl [Hst]; · iexact Hst
    iexists W; iexact Ho
  iapply (run_body (arg m) (grid0.coords t) c (first_starts t) (last_late t) _ _ _ _ _ _ _ _ _ _ _ _ _ _ (iblk m c 0 t) (iblk m c 1 t) (iblk m c 2 t) (iblk m c 3 t)
    (iblk m c 4 t) _ _ (weight m c) y (fun h => hy fun e => h ((starts t).mpr e)) _)
  isplitl [He]; · iexact He
  isplitl [Hw Hy Hv]
  · isplitl [Hw]; · iexact Hw
    isplitl [Hy]; · iexact Hy
    iexact Hv
  isplitl [H0]; · rw [← before0 m c t d0]; iexact H0
  isplitl [H1]; · rw [← before1 m c t d1]; iexact H1
  isplitl [H2]; · rw [← before2 m c t d2]; iexact H2
  isplitl [H3]; · rw [← before3 m c t d3]; iexact H3
  isplitl [H4]; · rw [← before4 m c t d4]; iexact H4
  isplitl [H5]; · iexact H5
  isplitl [H6]; · iexact H6
  rw [gain_next m c t d6]
  iintro ⟨He, ⟨Hw, Hy, Hv⟩, H0, H1, H2, H3, H4, H5, H6⟩
  ihave He := (leave_point m t c) $$ He
  icases He with ⟨Hst, ⟨%W', Ho⟩⟩
  isplitl [Hst Hw Hy Hv]
  · iapply (Entails.of_eq (show (iprop(state m (t.val + 1) c ∗ scratch m (t.val + 1) c) : sProp (M F)) = (dats m 0 c).Φ t.succ from rfl))
    isplitl [Hst]; · iexact Hst
    unfold scratch
    iexists weight m c
    isplitr; · ipureintro; exact fun _ => rfl
    isplitl [Hw]; · iexact Hw
    isplitl [Hy]; · iexact Hy
    iexact Hv
  isplitl [Ho]
  · unfold Pipeline.Dat.owesAt Pipeline.owesWithin
    iexists W'
    isplitr; · ipureintro; exact fun _ _ => Or.inl trivial
    iexact Ho
  isplitl [H0]; · iexact H0
  isplitl [H1]; · iexact H1
  isplitl [H2]; · iexact H2
  isplitl [H3]; · iexact H3
  isplitl [H4]; · iexact H4
  isplitl [H5]; · iexact H5
  iexact H6

/-! ## The launch -/

/-- The ghost state at launch. -/
def u₀ : UU :=
  (initOf (PerCore.cells (nD := nD) (τ := τ) (fun _ => cfgs) cellOf_inj) (PerCore.launchToks (nD := nD) (τ := τ) (fun _ => cfgs) cellOf_inj), initOf (cells fm) (toks fm), 1)

/-- The kernel's semaphores: the fetch's and the exchange's. -/
def osem : Unit ⊕ Fin 15 → SemLoc sig := Sum.elim (fun _ => .dma (12 : Fin 28)) sem

omit [FloatOps F] in
theorem osems (c : Dev nD) : (ownSems0 osem c : sProp (M F)) = iprop(semVal ((c.tc : Thread nD τ), .dma (12 : Fin 28)) 0 ∗ ownSems0 sem c) := by
  unfold ownSems0
  rw [BI.bigSep_univ_sum, Finset.univ_unique, BI.bigSep_singleton]
  rfl

/-- What the launch gives device `c`. -/
def G' (c : Dev nD) : sProp (M F) :=
  iprop(((∃ κ, records fm ER (Direct.pay src qs (args (arg m)) blk) κ) ∗ share fm ER (Direct.space blk) c) ∗ ((c.tc : Thread nD τ).loc main_arg6 ↦{fullShare} arg m c) ∗ kept m c)

theorem glob : iprop((bigSep Finset.univ fun c => iprop(ownSems0 (Ix := Unit) (Name := ℕ) (U := UU) (Lvl := ℕ) (Val := Elt F) (τ := τ) osem c ∗ unscopedSems0 c
          ∗ unscopedRest cfg0.spec c (fun b => m ((c.tc : Thread nD τ).loc b)))) ∗ bigSep Finset.univ (dealt fm ER (Direct.pay src qs (args (arg m)) blk)) : sProp (M F))
        ⊢ |={Set.univ}=> bigSep Finset.univ (G' m) := by
  simp only [unscopedRest0_eq, osems]
  rw [bigSep_sep', bigSep_sep', bigSep_sep', bigSep_sep', bigSep_sep']
  iintro ⟨⟨⟨Hk, Hs⟩, -, Hw, Ha, Hv⟩, Hd⟩
  ihave Hr := (show (bigSep Finset.univ fun c : Dev nD => ((c.tc : Thread nD τ).loc main_v1_2 ↦{fullShare} m ((c.tc : Thread nD τ).loc main_v1_2) : sProp (M F)))
      ⊢ bigSep Finset.univ fun c : Dev nD => bigSep Finset.univ fun k : Fin 15 => Direct.space blk c k
    from bigSep_mono fun c _ => rooms c _) $$ Hv
  imod (deal_once fm ER (Direct.pay src qs (args (arg m)) blk) (Direct.space blk)) $$ [Hs Hd Hr] with H
  · isplitl [Hs]; · iexact Hs
    isplitl [Hd]; · iexact Hd
    iexact Hr
  imodintro
  iapply (Entails.of_eq (show iprop((bigSep Finset.univ fun c : Dev nD => iprop((∃ κ, records fm ER (Direct.pay src qs (args (arg m)) blk) κ) ∗ share fm ER (Direct.space blk) c))
      ∗ (bigSep Finset.univ fun c : Dev nD => ((c.tc : Thread nD τ).loc main_arg6 ↦{fullShare} arg m c)) ∗ (bigSep Finset.univ fun c => kept m c)) = bigSep Finset.univ (G' m) from by
    rw [← bigSep_sep', ← bigSep_sep']; rfl))
  isplitl [H]; · iexact H
  isplitl [Ha]; · iexact Ha
  iapply (Entails.of_eq (show iprop((bigSep Finset.univ fun c : Dev nD => ((c.tc : Thread nD τ).loc main_arg1 ↦{fullShare} m ((c.tc : Thread nD τ).loc main_arg1)))
      ∗ (bigSep Finset.univ fun c : Dev nD => semVal ((c.tc : Thread nD τ), .dma (12 : Fin 28)) 0)) = (bigSep Finset.univ fun c => kept m c : sProp (M F)) from by
    rw [← bigSep_sep']; rfl))
  isplitl [Hw]; · iexact Hw
  iexact Hk

theorem enter (c : Dev nD) :
    iprop(levAts lset (lval fm) ∗ launchCred (fun d => debt fm Direct.recvs d) c ∗ prngReg c (ρ c) ∗ G' m c ∗ scopedRest cfg0.spec c) ⊢ (dats m 0 c).Φ 0 := by
  show _ ⊢ (iprop(state m 0 c ∗ scratch m 0 c) : sProp (M F))
  unfold G' state
  rw [if_pos rfl]
  iintro ⟨Hl, Hc, -, ⟨⟨⟨%κ, Hr⟩, Hsh⟩, Ha, Hk⟩, Hx⟩
  ihave Hc := (creds fm Direct.recvs c) $$ Hc
  ihave Ha := (Entails.of_eq (lend (arg m) c)) $$ Ha
  isplitr [Hx Hk]
  swap
  · iapply (scratch_intro m c)
    isplitl [Hx]; · iexact Hx
    iexact Hk
  iexists κ
  iapply (Direct.before_intro sem sem_inj units units_pos ER src qs (args (arg m)) blk κ c)
  isplitl [Hr]; · iexact Hr
  isplitl [Hl]; · iexact Hl
  isplitl [Hsh]; · iexact Hsh
  isplitl [Ha]; · iexact Ha
  iexact Hc

/-- The exchange's buffers and the weight on a device at the end. -/
def held (c : Dev nD) : sProp (M F) :=
  iprop((∃ f : Buf (Elt F) ((c.tc : Thread nD τ).loc main_v1_2), ⌜∀ j, (blk j).view.read (Elt F) f = Direct.val src (args (arg m)) c j⌝ ∗ (c.tc : Thread nD τ).loc main_v1_2 ↦{fullShare} f)
    ∗ ((c.tc : Thread nD τ).loc main_arg6 ↦{fullShare} arg m c) ∗ (c.tc : Thread nD τ).loc main_arg1 ↦{fullShare} m ((c.tc : Thread nD τ).loc main_arg1))

theorem exits (c : Dev nD) :
    (dats m 0 c).Φ (Fin.last cfg0.N) ⊢ iprop(held m c ∗ ownSems0 osem c ∗ scopedRest cfg0.spec c) := by
  show (iprop(state m 32 c ∗ scratch m 32 c) : sProp (M F)) ⊢ _
  unfold state Direct.after held
  rw [if_neg (by decide), if_pos rfl]
  iintro ⟨⟨Hb, Ha, Hs⟩, Hx⟩
  ihave Hb := (join_landed (arg m) c) $$ Hb
  ihave Ha := (Entails.of_eq (lend (arg m) c).symm) $$ Ha
  ihave Hx := (scratch_elim m c) $$ Hx
  unfold kept
  icases Hx with ⟨Hx, Hw, Hk⟩
  isplitl [Hb Ha Hw]
  · isplitl [Hb]; · iexact Hb
    isplitl [Ha]; · iexact Ha
    iexact Hw
  isplitl [Hs Hk]
  · rw [osems]
    isplitl [Hk]; · iexact Hk
    iexact Hs
  iexact Hx

/-- The memory on device `c` at the end: block `j` of the exchange's result is what device `j` sent, its argument and the weight are as they were. -/
def Ends (c : Dev nD) (s : MemSt nD τ sig (Elt F)) : Prop :=
  (∀ j, (blk j).view.read (Elt F) (s.mem ((c.tc : Thread nD τ).loc main_v1_2)) = Direct.val src (args (arg m)) c j)
    ∧ s.mem ((c.tc : Thread nD τ).loc main_arg6) = m ((c.tc : Thread nD τ).loc main_arg6)
    ∧ s.mem ((c.tc : Thread nD τ).loc main_arg1) = m ((c.tc : Thread nD τ).loc main_arg1)

theorem ends (c : Dev nD) (s' : Phys nD τ sig (Elt F)) :
    iprop(held m c ∗ SI s') ⊢ (|={Set.univ}=> iprop(⌜Ends m c s'.mem⌝ ∗ SI s') : sProp (M F)) := by
  unfold held
  iintro ⟨⟨⟨%f, %hf, Hv⟩, Ha, Hw⟩, HS⟩
  ihave H := (agree s' _ _) $$ [Hv HS]
  · isplitl [Hv] <;> iassumption
  icases H with ⟨%hv, HS⟩
  ihave H := (agree s' _ _) $$ [Ha HS]
  · isplitl [Ha] <;> iassumption
  icases H with ⟨%ha, HS⟩
  ihave H := (agree s' _ _) $$ [Hw HS]
  · isplitl [Hw] <;> iassumption
  icases H with ⟨%hw, HS⟩
  imodintro
  isplitr
  · ipureintro
    exact ⟨fun j => by rw [hv]; exact hf j, ha, hw⟩
  · iexact HS

theorem stage_sem : ∀ (w : Fin 7) (s : Fin (spec0 w).nbuf) (k : Fin 15), (.dma ((spec0 w).sem s) : SemLoc sig) ≠ sem k := by decide

theorem waits (c : Dev nD) : (levAts lset (lval fm) : sProp (M F)) ⊢ PerCore.cellsWaits (fun _ : Dev nD => cfgs) (dats m) () 0 c :=
  PerCore.cellsWaits_intro (fun _ : Dev nD => cfgs) (dats m) () 0 c fun w s t => by
    show _ ⊢ MayWait (c.tc : Thread nD τ) (.dma ((spec0 w).sem s)) () (debts t.val c)
    unfold debts
    split
    · exact mayWait_other fm Direct.recvs c _ (stage_sem w s) (by decide)
    · rw [MayWait_zero]
      iintro -
      iempintro

set_option maxRecDepth 20000 in
/-- From any memory with zero counters every fair execution ends; at its end every device's windowed arrays hold what the grid
    wrote, the exchange has happened, and every counter is at zero. -/
theorem run_main : θ_run defs (onTc (τ := τ) (main (F := F))) ⟨m, fun _ => 0, ρ⟩ (fun r =>
    (∀ c : Dev nD, (∀ w, r.2.mem ((spec0 w).arr.view.loc (c.tc : Thread nD τ)) = (dats m 0 c).arrAt w cfg0.N) ∧ Ends m c r.2) ∧ r.2.sem = fun _ => 0) :=
  run_exchange cfgs (dats m) () cellOf_inj (0 : Fin 1) EP defs₀ 𝒱₀
    winFacts0.to₀ (osem := osem) (by decide) m ρ main (fun _ => rfl)
    (fun c => (body_obligation m c).loose) block_pos0 arr_whole0 stage_whole0
    (fun c w => share_full m c w) winFacts0.arr_inj
    (fun d => debt fm Direct.recvs d) (fun _ => rfl) (fun _ => rfl)
    lset (lval fm) lset_ne (waits m) (dealt fm ER (Direct.pay src qs (args (arg m)) blk)) (G' m) u₀
    (by
      unfold u₀
      iintro Hu
      ihave H := (ownU_pair _ _) $$ Hu
      icases H with ⟨HP, HX⟩
      ihave HX := (own_pair_emb embR _ _) $$ HX
      icases HX with ⟨HX, -⟩
      imod (fund_once fm ER (Direct.pay src qs (args (arg m)) blk)) $$ HX with HG
      imodintro
      isplitl [HP] <;> iassumption)
    (glob m) (fun _ _ => rfl) (held m) (enter m ρ) (exits m) (Ends m) (ends m)
    (fun s h hs => ⟨h, sem_eq_zero_of_scoped (by decide) hs⟩)

/-- The arrays the windows only read are as they were. -/
theorem run_in (c : Dev nD) (w : Fin 7) (hw : (spec0 w).isOut = false) : (dats m 0 c).arrAt w cfg0.N = m ((spec0 w).arr.view.loc (c.tc : Thread nD τ)) :=
  (dats m 0 c).arrAt_in w hw _

end Launch

end ProjBwd

end
-- ==== Proof.ProjBwdValue.lean ====
/-
  The values of the input projection's backward product: each device's part of the rows' gradient and its own gain's gradient
  are the reference's at its tokens, and the exchanged gradient is the blocks of all devices for this one.
-/
module

public import proofs.«01_k».proof.Proof.ProjBwdLaunch
public import Idealize.ShloMosaic.Lib.Pipeline.ValueKit
public import Idealize.ShloMosaic.Lib.ValueLayout
public import Idealize.ShloMosaic.Lib.Layout
public import Idealize.ShloMosaic.Lib.LayoutAt
public import proofs.«01_k».proof.Proof.Gen.ProjBwdReferenceIdeal.Run

@[expose] public section

set_option Elab.async false

noncomputable section

namespace ProjBwd

open Idealize.ShloMosaic
open Idealize.ShloMosaic.TcCoe
open Cert.ProjBwdIdeal Cert.ProjBwdIdeal.Gen
open Exchange

/-! ## The reference, at an index -/

/-- The reference's gradient of every normed row. -/
def back (p : FVec Ideal Cert.ProjBwdReferenceIdeal.S65536x5120 .bf16) (w : FVec Ideal S8x2048x640 .bf16) :
    FVec Ideal Cert.ProjBwdReferenceIdeal.S65536x2048 .f32 :=
  Host.dotGeneral Cert.ProjBwdReferenceIdeal.dot_S65536x5120_S5120x2048_S65536x2048_1_0_0_1_n_n none
    (extf .f32 p Cert.ProjBwdReferenceIdeal.Gen.bitsLt_bf16_f32)
    (shapeCast _ (transpose Cert.ProjBwdReferenceIdeal.S8x640x2048 [0, 2, 1] (extf .f32 w Cert.ProjBwdReferenceIdeal.Gen.bitsLt_bf16_f32)
      Cert.ProjBwdReferenceIdeal.Gen.transposes_S8x2048x640_S8x640x2048_0_2_1) Cert.ProjBwdReferenceIdeal.Gen.shapeCasts_S8x640x2048_S5120x2048)

theorem back_at (p : FVec Ideal Cert.ProjBwdReferenceIdeal.S65536x5120 .bf16) (w : FVec Ideal S8x2048x640 .bf16) (i : Fin 65536) (k : Fin 2048) :
    back p w (ix2 i k) = ∑ s : Fin 8, ∑ l : Fin 640, (p (ix2 i (⟨s.val * 640 + l.val, by omega⟩ : Fin 5120)) : EReal) * w (ix3 s k l) := by
  pointwise [back]
  rw [Fin.sum_univ_tiles 8 640 rfl]
  refine Finset.sum_congr rfl fun s _ => Finset.sum_congr rfl fun l _ => ?_
  have hd : (s.val * 640 + l.val) / 640 = s.val := by have := l.isLt; omega
  have hr : (s.val * 640 + l.val) % 640 = l.val := by have := l.isLt; omega
  refine congrArg (fun z : EReal => (p (ix2 i _) : EReal) * z) (congrArg w ?_)
  funext a
  apply Fin.ext
  match a with
  | ⟨0, _⟩ => exact hd
  | ⟨1, _⟩ => rfl
  | ⟨2, _⟩ => exact hr

/-- A row's gradient, from its normed row's gradient `H`, the row `x`, its scale `r`, the gain `g` and what arrives past the norm. -/
def rowF (H x : Fin 2048 → EReal) (r : EReal) (g : Fin 2048 → EReal) (d : EReal) (k : Fin 2048) : EReal :=
  d + (r * (H k * g k) - x k * (r * r * r) * Ideal.div (∑ q : Fin 2048, H q * g q * x q) (Ideal.ofBits .f32 0x45000000#32))

/-- The reference's gradient of every row. -/
def rows (H : FVec Ideal Cert.ProjBwdReferenceIdeal.S65536x2048 .f32) (x : FVec Ideal Cert.ProjBwdReferenceIdeal.S65536x2048 .f32)
    (r : FVec Ideal Cert.ProjBwdReferenceIdeal.S65536x1 .f32) (g : FVec Ideal S1x2048 .f32) (d : FVec Ideal Cert.ProjBwdReferenceIdeal.S65536x2048 .f32) :
    FVec Ideal Cert.ProjBwdReferenceIdeal.S65536x2048 .f32 :=
  open Cert.ProjBwdReferenceIdeal Cert.ProjBwdReferenceIdeal.Gen in
  addf d (subf (mulf (broadcastInDim S65536x2048 ![0, 1] bcast_S65536x1_S65536x2048_0_1 r) (mulf H (broadcastInDim S65536x2048 ![0, 1] bcast_S1x2048_S65536x2048_0_1 g)))
    (mulf (mulf x (broadcastInDim S65536x2048 ![0, 1] bcast_S65536x1_S65536x2048_0_1 (mulf (mulf r r) r)))
      (broadcastInDim S65536x2048 ![0, 1] bcast_S65536x1_S65536x2048_0_1 (Host.divf (broadcastInDim S65536x1 ![0] bcast_S65536_S65536x1_0
        (Host.reduceAdd (mulf (mulf H (broadcastInDim S65536x2048 ![0, 1] bcast_S1x2048_S65536x2048_0_1 g)) x) (constant Cert.ProjBwdReferenceIdeal.S_ .f32 0x00000000#32) reducesTo_S65536x2048_S65536_d1 h_S_))
        (broadcastInDim S65536x1 ![] bcast_S_S65536x1 (constant Cert.ProjBwdReferenceIdeal.S_ .f32 0x45000000#32))))))

theorem rows_at (H x : FVec Ideal Cert.ProjBwdReferenceIdeal.S65536x2048 .f32)
    (r : FVec Ideal Cert.ProjBwdReferenceIdeal.S65536x1 .f32) (g : FVec Ideal S1x2048 .f32) (d : FVec Ideal Cert.ProjBwdReferenceIdeal.S65536x2048 .f32)
    (i : Fin 65536) (k : Fin 2048) :
    rows H x r g d (ix2 i k) = rowF (fun q => H (ix2 i q)) (fun q => x (ix2 i q)) (r (ix2 i (0 : Fin 1))) (fun q => g (ix2 (0 : Fin 1) q)) (d (ix2 i k)) k := by
  unfold rowF
  pointwise [rows]

/-- The reference's gradient of the gain, each device's tokens by themselves. -/
def gains (H : FVec Ideal Cert.ProjBwdReferenceIdeal.S65536x2048 .f32) (x : FVec Ideal Cert.ProjBwdReferenceIdeal.S65536x2048 .f32)
    (r : FVec Ideal Cert.ProjBwdReferenceIdeal.S65536x1 .f32) : FVec Ideal Cert.ProjBwdReferenceIdeal.S8x2048 .f32 :=
  open Cert.ProjBwdReferenceIdeal Cert.ProjBwdReferenceIdeal.Gen in
  Host.reduceAdd (shapeCast _ (mulf (mulf H x) (broadcastInDim S65536x2048 ![0, 1] bcast_S65536x1_S65536x2048_0_1 r)) shapeCasts_S65536x2048_S8x8192x2048)
    (constant Cert.ProjBwdReferenceIdeal.S_ .f32 0x00000000#32) reducesTo_S8x8192x2048_S8x2048_d1 h_S_

theorem gains_at (H x : FVec Ideal Cert.ProjBwdReferenceIdeal.S65536x2048 .f32)
    (r : FVec Ideal Cert.ProjBwdReferenceIdeal.S65536x1 .f32) (a : Fin 8) (k : Fin 2048) :
    gains H x r (ix2 a k) = ∑ t : Fin 32, ∑ j : Fin 256, (H (ix2 (⟨a.val * 8192 + (t.val * 256 + j.val), by omega⟩ : Fin 65536) k)
      * x (ix2 (⟨a.val * 8192 + (t.val * 256 + j.val), by omega⟩ : Fin 65536) k) * r (ix2 (⟨a.val * 8192 + (t.val * 256 + j.val), by omega⟩ : Fin 65536) (0 : Fin 1)) : EReal) := by
  pointwise [gains]
  exact Fin.sum_univ_tiles 32 256 rfl _

/-! ## The kernel's tile, at an index -/

theorem dh_at (p : Vec Ideal S256x5120 .bf16) (w : Vec Ideal S8x2048x640 .bf16) (j : Fin 256) (k : Fin 2048) :
    dh p w (ix2 j k) = ∑ s : Fin 8, ∑ l : Fin 640, (p (ix2 j (⟨s.val * 640 + l.val, by omega⟩ : Fin 5120)) : EReal) * w (ix3 s k l) := by
  rw [Fin.sum_univ_eight]
  pointwise [dh, k0_pay7, k0_pay4, k0_pay5, k0_pay6]

theorem rowGrad_at (p : Vec Ideal S256x5120 .bf16) (w : Vec Ideal S8x2048x640 .bf16) (x : Vec Ideal S256x2048 .f32) (r : Vec Ideal S256x1 .f32)
    (g : Vec Ideal S1x2048 .f32) (d : Vec Ideal S256x2048 .f32) (j : Fin 256) (k : Fin 2048) :
    rowGrad p w x r g d (ix2 j k) = rowF (fun q => dh p w (ix2 j q)) (fun q => x (ix2 j q)) (r (ix2 j (0 : Fin 1))) (fun q => g (ix2 (0 : Fin 1) q)) (d (ix2 j k)) k := by
  unfold rowF
  pointwise [rowGrad, k0_pay1, k0_pay8, k0_pay9]

theorem gainNext_at (p : Vec Ideal S256x5120 .bf16) (w : Vec Ideal S8x2048x640 .bf16) (x : Vec Ideal S256x2048 .f32) (r : Vec Ideal S256x1 .f32)
    (a : Vec Ideal S1x2048 .f32) (k : Fin 2048) :
    gainNext p w x r a (ix2 (0 : Fin 1) k) = (a (ix2 (0 : Fin 1) k) + ∑ j : Fin 256, dh p w (ix2 j k) * x (ix2 j k) * r (ix2 j (0 : Fin 1)) : EReal) := by
  pointwise [gainNext, k0_pay2, k0_pay8, k0_pay9]

/-! ## The windows, in the whole arrays -/

theorem idx0 : ∀ t : Fin cfg0.N, win0_0.index t = ![t.val, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![t.val, 0] := (by decide +kernel : ∀ t : Fin grid0.N, _)
theorem idx5 : ∀ t : Fin cfg0.N, win0_5.index t = ![t.val, 0] := (by decide +kernel : ∀ t : Fin grid0.N, _)
theorem idx6 : ∀ t : Fin cfg0.N, win0_6.index t = ![0, 0] := (by decide +kernel : ∀ t : Fin grid0.N, _)
theorem gain_written : ∀ t : Fin cfg0.N, (cfg0.win 6).flush t = true → t.val % 32 = 32 - 1 := by decide +kernel

variable (m : (ℓ : Loc nD τ sig) → Buf (Elt Ideal) ℓ) (c : Dev nD)

/-- The token's place in the whole array. -/
def place (c : Dev nD) (i : Fin 8192) : Fin 65536 := ⟨c.val * 8192 + i.val, by have h8 : c.val < 8 := c.isLt; have := i.isLt; omega⟩

set_option maxRecDepth 20000 in
/-- A tile of the projections' gradient at the device's tokens, read in the whole array. -/
theorem proj_at (a : FVec Ideal Cert.ProjBwdReferenceIdeal.S65536x5120 .bf16) (h : m ((c.tc : Thread nD τ).loc main_arg0) = Layout.block ⟨2, ![8192, 5120]⟩ ⟨2, ![65536, 5120]⟩ 0 8 c a)
    (t : Fin cfg0.N) (j : Fin 256) (k : Fin 5120) (i : Fin 65536) (hi : i.val = c.val * 8192 + (t.val * 256 + j.val)) :
    iblk m c 0 t (ix2 j k) = a (ix2 i k) := by
  blk_simp [iblk, V, idx0]
  rw [h]
  show a _ = a _
  congr 1
  funext q
  apply Fin.ext
  match q with
  | ⟨0, _⟩ =>
      show c.val * 8192 + ((win0_0.blk t).view.emb (ix2 j k) 0).val = i.val
      blk_simp [idx0]
      show c.val * 8192 + (t.val * 256 + j.val) = i.val
      omega
  | ⟨1, _⟩ =>
      show ((win0_0.blk t).view.emb (ix2 j k) 1).val = k.val
      blk_simp [idx0]
      first | done | (show 0 * 5120 + k.val = k.val; omega)

set_option maxRecDepth 20000 in
/-- A tile of the rows at the device's tokens, read in the whole array. -/
theorem row_at (a : FVec Ideal Cert.ProjBwdReferenceIdeal.S65536x2048 .f32) (h : m ((c.tc : Thread nD τ).loc main_arg2) = Layout.block ⟨2, ![8192, 2048]⟩ ⟨2, ![65536, 2048]⟩ 0 8 c a)
    (t : Fin cfg0.N) (j : Fin 256) (k : Fin 2048) (i : Fin 65536) (hi : i.val = c.val * 8192 + (t.val * 256 + j.val)) :
    iblk m c 1 t (ix2 j k) = a (ix2 i k) := by
  blk_simp [iblk, V, idx1]
  rw [h]
  show a _ = a _
  congr 1
  funext q
  apply Fin.ext
  match q with
  | ⟨0, _⟩ =>
      show c.val * 8192 + ((win0_1.blk t).view.emb (ix2 j k) 0).val = i.val
      blk_simp [idx1]
      show c.val * 8192 + (t.val * 256 + j.val) = i.val
      omega
  | ⟨1, _⟩ =>
      show ((win0_1.blk t).view.emb (ix2 j k) 1).val = k.val
      blk_simp [idx1]
      first | done | (show 0 * 2048 + k.val = k.val; omega)

set_option maxRecDepth 20000 in
/-- A tile of the rows' scales at the device's tokens, read in the whole array. -/
theorem scale_at (a : FVec Ideal Cert.ProjBwdReferenceIdeal.S65536x1 .f32) (h : m ((c.tc : Thread nD τ).loc main_arg3) = Layout.block ⟨2, ![8192, 1]⟩ ⟨2, ![65536, 1]⟩ 0 8 c a)
    (t : Fin cfg0.N) (j : Fin 256) (k : Fin 1) (i : Fin 65536) (hi : i.val = c.val * 8192 + (t.val * 256 + j.val)) :
    iblk m c 2 t (ix2 j k) = a (ix2 i k) := by
  blk_simp [iblk, V, idx2]
  rw [h]
  show a _ = a _
  congr 1
  funext q
  apply Fin.ext
  match q with
  | ⟨0, _⟩ =>
      show c.val * 8192 + ((win0_2.blk t).view.emb (ix2 j k) 0).val = i.val
      blk_simp [idx2]
      show c.val * 8192 + (t.val * 256 + j.val) = i.val
      omega
  | ⟨1, _⟩ =>
      show ((win0_2.blk t).view.emb (ix2 j k) 1).val = k.val
      blk_simp [idx2]
      first | done | (show 0 * 1 + k.val = k.val; omega)

set_option maxRecDepth 20000 in
/-- A tile of what arrives past the norm at the device's tokens, read in the whole array. -/
theorem past_at (a : FVec Ideal Cert.ProjBwdReferenceIdeal.S65536x2048 .f32) (h : m ((c.tc : Thread nD τ).loc main_arg5) = Layout.block ⟨2, ![8192, 2048]⟩ ⟨2, ![65536, 2048]⟩ 0 8 c a)
    (t : Fin cfg0.N) (j : Fin 256) (k : Fin 2048) (i : Fin 65536) (hi : i.val = c.val * 8192 + (t.val * 256 + j.val)) :
    iblk m c 4 t (ix2 j k) = a (ix2 i k) := by
  blk_simp [iblk, V, idx4]
  rw [h]
  show a _ = a _
  congr 1
  funext q
  apply Fin.ext
  match q with
  | ⟨0, _⟩ =>
      show c.val * 8192 + ((win0_4.blk t).view.emb (ix2 j k) 0).val = i.val
      blk_simp [idx4]
      show c.val * 8192 + (t.val * 256 + j.val) = i.val
      omega
  | ⟨1, _⟩ =>
      show ((win0_4.blk t).view.emb (ix2 j k) 1).val = k.val
      blk_simp [idx4]
      first | done | (show 0 * 2048 + k.val = k.val; omega)

set_option maxRecDepth 20000 in
theorem norm_gain_at (g : FVec Ideal S1x2048 .f32) (h : m ((c.tc : Thread nD τ).loc main_arg4) = g) (t : Fin cfg0.N) (k : Fin 2048) :
    iblk m c 3 t (ix2 (0 : Fin 1) k) = g (ix2 (0 : Fin 1) k) := by
  blk_simp [iblk, V, idx3]
  rw [h]
  blk_ext [idx3]

section tiles

variable (p : FVec Ideal Cert.ProjBwdReferenceIdeal.S65536x5120 .bf16) (w : FVec Ideal S8x2048x640 .bf16)
  (x : FVec Ideal Cert.ProjBwdReferenceIdeal.S65536x2048 .f32) (r : FVec Ideal Cert.ProjBwdReferenceIdeal.S65536x1 .f32)
  (g : FVec Ideal S1x2048 .f32) (d : FVec Ideal Cert.ProjBwdReferenceIdeal.S65536x2048 .f32)
  (h0 : m ((c.tc : Thread nD τ).loc main_arg0) = Layout.block ⟨2, ![8192, 5120]⟩ ⟨2, ![65536, 5120]⟩ 0 8 c p)
  (h1 : m ((c.tc : Thread nD τ).loc main_arg1) = w)
  (h2 : m ((c.tc : Thread nD τ).loc main_arg2) = Layout.block ⟨2, ![8192, 2048]⟩ ⟨2, ![65536, 2048]⟩ 0 8 c x)
  (h3 : m ((c.tc : Thread nD τ).loc main_arg3) = Layout.block ⟨2, ![8192, 1]⟩ ⟨2, ![65536, 1]⟩ 0 8 c r)
  (h4 : m ((c.tc : Thread nD τ).loc main_arg4) = g)
  (h5 : m ((c.tc : Thread nD τ).loc main_arg5) = Layout.block ⟨2, ![8192, 2048]⟩ ⟨2, ![65536, 2048]⟩ 0 8 c d)

include h0 h1 in
/-- The gradient of a normed row is the reference's at the token. -/
theorem normed_at (t : Fin cfg0.N) (j : Fin 256) (k : Fin 2048) (i : Fin 65536) (hi : i.val = c.val * 8192 + (t.val * 256 + j.val)) :
    dh (iblk m c 0 t) (weight m c) (ix2 j k) = back p w (ix2 i k) := by
  refine (dh_at _ _ j k).trans (Eq.trans ?_ (back_at p w i k).symm)
  exact Finset.sum_congr rfl fun s _ => Finset.sum_congr rfl fun l _ => congrArg₂ (fun x y : EReal => x * y) (proj_at m c p h0 t j _ i hi)
    (congrFun (show weight m c = w from h1) (ix3 s k l))

include h0 h1 h2 h3 h4 h5 in
/-- The gradient of a row is the reference's at the token. -/
theorem row_grad_at (t : Fin cfg0.N) (j : Fin 256) (k : Fin 2048) (i : Fin 65536) (hi : i.val = c.val * 8192 + (t.val * 256 + j.val)) :
    rowGrad (iblk m c 0 t) (weight m c) (iblk m c 1 t) (iblk m c 2 t) (iblk m c 3 t) (iblk m c 4 t) (ix2 j k) = rows (back p w) x r g d (ix2 i k) := by
  refine (rowGrad_at _ _ _ _ _ _ j k).trans (Eq.trans ?_ (rows_at _ x r g d i k).symm)
  rw [show (fun q => dh (iblk m c 0 t) (weight m c) (ix2 j q)) = fun q => back p w (ix2 i q) from funext fun q => normed_at m c p w h0 h1 t j q i hi,
    show (fun q => iblk m c 1 t (ix2 j q)) = fun q => x (ix2 i q) from funext fun q => row_at m c x h2 t j q i hi,
    show (fun q => iblk m c 3 t (ix2 (0 : Fin 1) q)) = fun q => g (ix2 (0 : Fin 1) q) from funext fun q => norm_gain_at m c g h4 t q,
    scale_at m c r h3 t j 0 i hi, past_at m c d h5 t j k i hi]

include h0 h1 h2 h3 h4 h5 in
set_option maxRecDepth 20000 in
theorem rows_array : (dats m 0 c).arrAt 5 cfg0.N = Layout.block ⟨2, ![8192, 2048]⟩ ⟨2, ![65536, 2048]⟩ 0 8 c (rows (back p w) x r g d) := by
  refine (dats m 0 c).arrAt_eq_of_covers 5 _ (by decide +kernel) fun t hf y => ?_
  blk_simp
  show rowGrad (iblk m c 0 t) (weight m c) (iblk m c 1 t) (iblk m c 2 t) (iblk m c 3 t) (iblk m c 4 t) y = _
  obtain ⟨j, k, rfl⟩ : ∃ (j : Fin 256) (k : Fin 2048), y = ix2 j k :=
    ⟨y 0, y 1, by funext a; match a with | ⟨0, _⟩ => rfl | ⟨1, _⟩ => rfl⟩
  have e0 : ((win0_5.blk t).view.emb (ix2 j k) 0 : Fin 8192).val = t.val * 256 + j.val := by
    blk_simp [idx5]
  have e1 : ((win0_5.blk t).view.emb (ix2 j k) 1 : Fin 2048) = k := by
    apply Fin.ext; blk_simp [idx5]
  have e : Layout.block ⟨2, ![8192, 2048]⟩ ⟨2, ![65536, 2048]⟩ 0 8 c (rows (back p w) x r g d) (by decide) ((win0_5.blk t).view.emb (ix2 j k))
      = (rows (back p w) x r g d) (ix2 (place c ((win0_5.blk t).view.emb (ix2 j k) 0)) ((win0_5.blk t).view.emb (ix2 j k) 1)) := by
    show rows (back p w) x r g d _ = rows (back p w) x r g d _
    congr 1
    funext a
    apply Fin.ext
    match a with
    | ⟨0, _⟩ => rfl
    | ⟨1, _⟩ => rfl
  refine Eq.trans ?_ e.symm
  refine Eq.trans ?_ (congrArg (fun q => (rows (back p w) x r g d) (ix2 (place c ((win0_5.blk t).view.emb (ix2 j k) 0)) q)) e1.symm)
  exact row_grad_at m c p w x r g d h0 h1 h2 h3 h4 h5 t j k _ (congrArg (c.val * 8192 + ·) e0)

/-- What one tile of tokens adds to the gain's gradient. -/
def gainPart (t : Fin cfg0.N) (y : S1x2048.Idx) : EReal :=
  ∑ j : Fin 256, (dh (iblk m c 0 t) (weight m c) (ix2 j (y 1)) * iblk m c 1 t (ix2 j (y 1)) * iblk m c 2 t (ix2 j (0 : Fin 1)) : EReal)

theorem zero_gain (y : S1x2048.Idx) : (k0_pay3 (F := Ideal)) y = (0 : EReal) := by
  obtain ⟨a, k, rfl⟩ : ∃ (a : Fin 1) (k : Fin 2048), y = ix2 a k :=
    ⟨y 0, y 1, by funext a; match a with | ⟨0, _⟩ => rfl | ⟨1, _⟩ => rfl⟩
  pointwise [k0_pay3]

theorem gain_add (t : Fin cfg0.N) (a : Vec Ideal S1x2048 .f32) (y : S1x2048.Idx) :
    gainNext (iblk m c 0 t) (weight m c) (iblk m c 1 t) (iblk m c 2 t) a y = (a y + gainPart m c t y : EReal) := by
  obtain ⟨b, k, rfl⟩ : ∃ (b : Fin 1) (k : Fin 2048), y = ix2 b k :=
    ⟨y 0, y 1, by funext a; match a with | ⟨0, _⟩ => rfl | ⟨1, _⟩ => rfl⟩
  obtain rfl : b = 0 := Subsingleton.elim _ _
  exact gainNext_at _ _ _ _ a k

theorem gain_start (t : Fin cfg0.N) (h : t.val % 32 = 0) (y : S1x2048.Idx) : gain m c t.val t.isLt y = (0 + gainPart m c t y : EReal) := by
  obtain ⟨n, hn⟩ := t
  obtain rfl : n = 0 := by have h32 : n < 32 := hn; have : n % 32 = 0 := h; omega
  refine (gain_add m c ⟨0, hn⟩ (k0_pay3 (F := Ideal)) y).trans ?_
  rw [zero_gain]

theorem gain_step (t : Fin cfg0.N) (h : ¬ t.val % 32 = 0) (y : S1x2048.Idx) :
    gain m c t.val t.isLt y = (gain m c (t.val - 1) (Nat.lt_of_le_of_lt (Nat.sub_le _ _) t.isLt) y + gainPart m c t y : EReal) := by
  obtain ⟨n, hn⟩ := t
  cases n with
  | zero => exact absurd rfl h
  | succ n => exact gain_add m c ⟨n + 1, hn⟩ _ y

include h0 h1 h2 h3 in
/-- The gain's gradient when it is written back: the reference's for the device's tokens. -/
theorem gain_at (t : Fin cfg0.N) (hf : t.val % 32 = 32 - 1) (k : Fin 2048) (b : Fin 8) (hb : b.val = c.val) :
    gain m c t.val t.isLt (ix2 (0 : Fin 1) k) = gains (back p w) x r (ix2 b k) := by
  rw [Pipeline.eq_sum_fin_of_reset_step_apply_of_flush (M := EReal) (fun n h => gain m c n h) 32 (fun _ => (0 : EReal)) (fun t y => gainPart m c t y)
    (fun t h y => gain_start m c t h y) (fun t h y => gain_step m c t h y) t hf (ix2 (0 : Fin 1) k)]
  rw [zero_add, gains_at]
  refine Finset.sum_congr rfl fun s _ => ?_
  have hs : 32 * (t.val / 32) + s.val = s.val := by have h32 : t.val < 32 := t.isLt; omega
  refine Finset.sum_congr rfl fun j _ => ?_
  have hi : b.val * 8192 + (s.val * 256 + j.val) = c.val * 8192 + ((32 * (t.val / 32) + s.val) * 256 + j.val) := by rw [hs, hb]
  exact congrArg₂ (fun x y : EReal => x * y) (congrArg₂ (fun x y : EReal => x * y) (normed_at m c p w h0 h1 _ j k _ hi) (row_at m c x h2 _ j k _ hi))
    (scale_at m c r h3 _ j 0 _ hi)

include h0 h1 h2 h3 in
set_option maxRecDepth 20000 in
theorem gain_array : (dats m 0 c).arrAt 6 cfg0.N = Layout.block ⟨2, ![1, 2048]⟩ ⟨2, ![8, 2048]⟩ 0 8 c (gains (back p w) x r) := by
  refine (dats m 0 c).arrAt_eq_of_covers 6 _ (by decide +kernel) fun t hf y => ?_
  blk_simp
  show gain m c t.val t.isLt y = _
  obtain ⟨b, k, rfl⟩ : ∃ (b : Fin 1) (k : Fin 2048), y = ix2 b k :=
    ⟨y 0, y 1, by funext a; match a with | ⟨0, _⟩ => rfl | ⟨1, _⟩ => rfl⟩
  obtain rfl : b = 0 := Subsingleton.elim _ _
  have e0 : ((win0_6.blk t).view.emb (ix2 (0 : Fin 1) k) 0 : Fin 1).val = 0 := by
    blk_simp [idx6]
    rfl
  have e1 : ((win0_6.blk t).view.emb (ix2 (0 : Fin 1) k) 1 : Fin 2048) = k := by
    apply Fin.ext; blk_simp [idx6]
  have h8 : c.val < 8 := c.isLt
  have e : Layout.block ⟨2, ![1, 2048]⟩ ⟨2, ![8, 2048]⟩ 0 8 c (gains (back p w) x r) (by decide) ((win0_6.blk t).view.emb (ix2 (0 : Fin 1) k))
      = (gains (back p w) x r) (ix2 (⟨c.val, h8⟩ : Fin 8) ((win0_6.blk t).view.emb (ix2 (0 : Fin 1) k) 1)) := by
    show gains (back p w) x r _ = gains (back p w) x r _
    congr 1
    funext a
    apply Fin.ext
    match a with
    | ⟨0, _⟩ =>
        show c.val * 1 + ((win0_6.blk t).view.emb (ix2 (0 : Fin 1) k) 0 : Fin 1).val = c.val
        rw [e0]; omega
    | ⟨1, _⟩ => rfl
  refine Eq.trans ?_ e.symm
  refine Eq.trans ?_ (congrArg (fun q => (gains (back p w) x r) (ix2 (⟨c.val, h8⟩ : Fin 8) q)) e1.symm)
  exact gain_at m c p w x r h0 h1 h2 h3 t (gain_written t hf) k _ rfl

end tiles

section exchanged

variable {F : FTy → Type} [FloatOps F]

/-- Block `j` of the exchanged gradient, at row `r` and column `l`. -/
theorem read_blk (f : S8x2048x640.Idx → Elt F .bf16) (j : Fin 8) (r : Fin 2048) (l : Fin 640) :
    (blk j).view.read (Elt F) (f : (Memref.whole main_v1_2).view.ty.Contents (Elt F)) (ix2 r l) = f (ix3 j r l) := by
  rw [Memref.read_squeeze_slice (Memref.whole main_v1_2) (Rect.unit (s := S8x2048x640) ![j.val, 0, 0] S1x2048x640.size (inb j)) (fun _ => rfl)
    squeezes_S1x2048x640_S2048x640 squeezes_S1x2048x640_S2048x640.numel_eq]
  refine (ValueIdx.shapeCast_1ab_ab_apply (a := 2048) (b := 640) _ _ r l).trans ?_
  show f _ = f _
  congr 1
  funext a
  apply Fin.ext
  match a with
  | ⟨0, _⟩ => show j.val + 1 * 0 = j.val; omega
  | ⟨1, _⟩ => show 0 + 1 * r.val = r.val; omega
  | ⟨2, _⟩ => show 0 + 1 * l.val = l.val; omega

/-- Block `j` of a device's gradient, at row `r` and column `l`. -/
theorem read_ablk (f : S8x2048x640.Idx → Elt F .bf16) (j : Fin 8) (r : Fin 2048) (l : Fin 640) :
    (ablk j).view.read (Elt F) (f : (Memref.whole main_arg6).view.ty.Contents (Elt F)) (ix2 r l) = f (ix3 j r l) := by
  rw [Memref.read_squeeze_slice (Memref.whole main_arg6) (Rect.unit (s := S8x2048x640) ![j.val, 0, 0] S1x2048x640.size (inb j)) (fun _ => rfl)
    squeezes_S1x2048x640_S2048x640 squeezes_S1x2048x640_S2048x640.numel_eq]
  refine (ValueIdx.shapeCast_1ab_ab_apply (a := 2048) (b := 640) _ _ r l).trans ?_
  show f _ = f _
  congr 1
  funext a
  apply Fin.ext
  match a with
  | ⟨0, _⟩ => show j.val + 1 * 0 = j.val; omega
  | ⟨1, _⟩ => show 0 + 1 * r.val = r.val; omega
  | ⟨2, _⟩ => show 0 + 1 * l.val = l.val; omega

/-- The reference's exchange: block `j` for device `c` becomes block `c` from device `j`. -/
abbrev swapped (w : Cert.ProjBwdReferenceIdeal.S64x2048x640.Idx → Elt F .bf16) : Cert.ProjBwdReferenceIdeal.S64x2048x640.Idx → Elt F .bf16 :=
  shapeCast Cert.ProjBwdReferenceIdeal.S64x2048x640 (transpose Cert.ProjBwdReferenceIdeal.S8x8x2048x640 [1, 0, 2, 3]
    (shapeCast Cert.ProjBwdReferenceIdeal.S8x8x2048x640 w Cert.ProjBwdReferenceIdeal.Gen.shapeCasts_S64x2048x640_S8x8x2048x640)
    Cert.ProjBwdReferenceIdeal.Gen.transposes_S8x8x2048x640_S8x8x2048x640_1_0_2_3) Cert.ProjBwdReferenceIdeal.Gen.shapeCasts_S8x8x2048x640_S64x2048x640

theorem swapped_at (w : Cert.ProjBwdReferenceIdeal.S64x2048x640.Idx → Elt F .bf16) (a b : Fin 8) (r : Fin 2048) (l : Fin 640)
    (p q : Fin 64) (hp : p.val = a.val * 8 + b.val) (hq : q.val = b.val * 8 + a.val) :
    swapped w (ix3 p r l) = w (ix3 q r l) := by
  refine (shapeCast_apply _ _ (ix3 p r l) (ix4 a b r l) ?_).trans ?_
  · rw [Shape.rowMajor_val_three, Shape.rowMajor_val_four]
    show (((a.val * 8 + b.val) * 2048 + r.val) * 640 + l.val) = (p.val * 2048 + r.val) * 640 + l.val
    rw [hp]
  refine (shapeCast_apply w _ _ (ix3 q r l) ?_)
  rw [Shape.rowMajor_val_three, Shape.rowMajor_val_four]
  show (q.val * 2048 + r.val) * 640 + l.val = (((b.val * 8 + a.val) * 2048 + r.val) * 640 + l.val)
  rw [hq]

set_option maxRecDepth 20000 in
/-- The gradient a device holds at the end: its block from every device. -/
theorem exchanged (m : (ℓ : Loc nD τ sig) → Buf (Elt F) ℓ) (w : Cert.ProjBwdReferenceIdeal.S64x2048x640.Idx → Elt F .bf16)
    (hm : ∀ c : Dev nD, m ((c.tc : Thread nD τ).loc main_arg6) = Layout.block ⟨3, ![8, 2048, 640]⟩ ⟨3, ![64, 2048, 640]⟩ 0 8 c w)
    (c : Dev nD) (s : MemSt nD τ sig (Elt F)) (hs : Ends m c s) :
    s.mem ((c.tc : Thread nD τ).loc main_v1_2) = Layout.block ⟨3, ![8, 2048, 640]⟩ ⟨3, ![64, 2048, 640]⟩ 0 8 c (swapped w) := by
  have h8 : c.val < 8 := c.isLt
  funext i
  obtain ⟨j, r, l, rfl⟩ : ∃ (j : Fin 8) (r : Fin 2048) (l : Fin 640), i = ix3 j r l :=
    ⟨i 0, i 1, i 2, by funext a; match a with | ⟨0, _⟩ => rfl | ⟨1, _⟩ => rfl | ⟨2, _⟩ => rfl⟩
  refine (read_blk _ j r l).symm.trans ?_
  rw [hs.1 j]
  refine Eq.trans ?_ (show swapped w (ix3 (⟨c.val * 8 + j.val, by omega⟩ : Fin 64) r l) = _ from ?_)
  · rw [swapped_at w (⟨c.val, h8⟩ : Fin 8) j r l _ (⟨j.val * 8 + c.val, by omega⟩ : Fin 64) rfl rfl]
    have hp : peer (peer j c) j = c := (by decide : ∀ a b : Fin 8, peer (peer a b) a = b) j c
    show (ablk (peer (peer j c) j)).view.read (Elt F) (arg m j : (Memref.whole main_arg6).view.ty.Contents (Elt F)) (ix2 r l) = _
    rw [hp, read_ablk]
    refine (congrFun (hm j) (ix3 (⟨c.val, h8⟩ : Fin 8) r l)).trans ?_
    show w _ = w _
    congr 1
    funext a
    match a with
    | ⟨0, _⟩ => rfl
    | ⟨1, _⟩ => rfl
    | ⟨2, _⟩ => rfl
  · show swapped w _ = swapped w _
    congr 1
    funext a
    apply Fin.ext
    match a with
    | ⟨0, _⟩ => rfl
    | ⟨1, _⟩ => rfl
    | ⟨2, _⟩ => rfl

end exchanged

end ProjBwd

end
-- ==== Proof.Partial.lean ====
/-
  A store to a part of a buffer, and the fetch of a whole array by a device that still owes others units.
-/
module

public import proofs.«01_k».proof.Proof.Resident

@[expose] public section

set_option Elab.async false

noncomputable section

namespace Exchange

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Val : EltTy → Type} {U : Type} [URA U]

local notation "𝕄" => MT nD τ sig Unit Val ℕ U ℕ

variable {Λ : Labels} (defs : Defs nD τ sig Val Λ) (𝒱 : Variants) (bd : Option 𝒱.V)
variable {α : Type} {Q : α → sProp (MT nD τ sig Unit Val ℕ U ℕ)} {s : Shape} {e : EltTy}

/-- A store to a part of a buffer that is being filled with `Z`: it agrees with `Z` on `P` before, and on `P'` after. -/
theorem store_part (c : Dev nD) (m : Memref sig .tc .vmem s e) (X Z : s.Idx → Val e) (r : Rect s) (w : r.shape.Idx → Val e)
    (P P' : s.Idx → Prop) (hX : ∀ y, P y → X y = Z y) (hw : ∀ y, w y = Z (r.emb y)) (hP : ∀ y, P' y → y ∈ r.set ∨ P y)
    {hx : (m.access r).Stores Finset.univ} {hm : (Finset.univ : Finset r.shape.Idx) = Finset.univ ∨ ∀ a, r.stride a = 1}
    {k : PUnit → Prog (TpuEff nD τ sig Val Λ .tc) α} :
    (owns (c.tc : Thread nD τ) m fullShare X : sProp 𝕄)
      ⊢ iprop(((∃ X' : s.Idx → Val e, ⌜∀ y, P' y → X' y = Z y⌝ ∗ owns (c.tc : Thread nD τ) m fullShare X')
            -∗ wp frame (wpE defs 𝒱 (c.tc : Thread nD τ) bd) Set.univ (k ⟨⟩) Q)
          -∗ wp frame (wpE defs 𝒱 (c.tc : Thread nD τ) bd) Set.univ (.op (.store m r w Finset.univ hx hm) k) Q) := by
  unfold owns
  iintro ⟨%f, %hf, H⟩ Hk
  iapply (wp_store 𝒱 (c.tc : Thread nD τ) bd Set.univ (m := m) (r := r) (Mk := Finset.univ) (View.set_slice_subset _ _)) $$ H
  iintro H
  iapply Hk
  iexists (m.view.read Val ((m.access r).write Val f w Finset.univ))
  isplitr
  · ipureintro
    intro y hy
    have hy' := hP y hy
    rw [← Rect.map_emb_univ] at hy'
    by_cases h : y ∈ Finset.univ.map r.emb
    · obtain ⟨x, -, rfl⟩ := Finset.mem_map.mp h
      exact (View.read_slice_write_emb _ _ _ (Finset.mem_univ _)).trans (hw x)
    · refine (View.read_slice_write_of_not_mem _ _ _ _ h).trans ?_
      rw [hf]
      exact hX y (hy'.resolve_left h)
  iexists _
  isplitr
  swap; · iexact H
  ipureintro
  rfl

variable (EC : UEmb Counters (MT nD τ sig Unit Val ℕ U ℕ))

/-- A device that owes `O`, which the wait may leave owed, copies a buffer into another of its own and waits for the copy. -/
theorem fetch_owing [EC.LandsIn (upEmb : UEmb _ (MT nD τ sig Unit Val ℕ U ℕ))] {sp sp' : Space} (c : Dev nD) (O : CellTallies nD τ sig Unit)
    {src : Memref sig .tc sp s e} {dst : Memref sig .tc sp' s e} {sem : DmaSem sig}
    {hsrc hsrc' : src.view.WordExact} {hdst hdst' : dst.view.WordExact}
    {hsem : DmaTarget.Typed (nD := nD) (τ := τ) (p := (c.tc : Thread nD τ).2) sp (.dma sem) (.here dst)}
    {k : PUnit → Prog (TpuEff nD τ sig Val Λ .tc) α} (hN : 0 < dst.view.dmaCredit) (X Y : s.Idx → Val e) :
    iprop(owns (c.tc : Thread nD τ) src fullShare X ∗ owns (c.tc : Thread nD τ) dst fullShare Y ∗ semVal ((c.tc : Thread nD τ), .dma sem) 0
        ∗ MayWait (c.tc : Thread nD τ) (.dma sem) () O ∗ ∃ W, owes (c.tc : Thread nD τ) O W)
      ⊢ (iprop(((owns (c.tc : Thread nD τ) src fullShare X ∗ owns (c.tc : Thread nD τ) dst fullShare X ∗ semVal ((c.tc : Thread nD τ), .dma sem) 0
            ∗ ∃ W, owes (c.tc : Thread nD τ) O W) -∗ wp frame (wpE defs 𝒱 (c.tc : Thread nD τ) bd) Set.univ (k ⟨⟩) Q)
          -∗ wp frame (wpE defs 𝒱 (c.tc : Thread nD τ) bd) Set.univ
              (.op (.enqueueDma src (.here dst) (.dma sem) hsrc hdst hsem) fun _ => .op (.waitDma2 sem src dst hsrc' hdst') k) Q) : sProp 𝕄) := by
  unfold owns
  iintro ⟨⟨%f, %hf, Hs⟩, ⟨%g, -, Hd⟩, Hv, Hm, ⟨%W, HO⟩⟩ Hk
  iapply (Transfers.wp_dmaLocal EC 𝒱 (c.tc : Thread nD τ) bd (q := fullShare) (fs := f) (fd := g) () dst.view.dmaCredit rfl hN (Finset.Subset.refl _)) $$ [Hs Hd Hv]
  · isplitl [Hs]; · iexact Hs
    isplitl [Hd] <;> iassumption
  iintro HF
  iapply (Transfers.wp_waitLocalO EC 𝒱 (c.tc : Thread nD τ) bd () (N := dst.view.dmaCredit) rfl) $$ [HF HO Hm]
  · isplitl [HF]; · iexact HF
    isplitl [HO] <;> iassumption
  iintro ⟨⟨Hd, Hs⟩, Hv, HO⟩
  iapply Hk
  isplitl [Hs]
  · iexists f
    isplitr; · ipureintro; exact hf
    iexact Hs
  isplitl [Hd]
  · iexists _
    isplitr
    swap; · iexact Hd
    ipureintro
    rw [View.read_write_univ]
    exact hf
  isplitl [Hv]; · iexact Hv
  iexists _; iexact HO

end Exchange

end
-- ==== Proof.ProjFwdRun.lean ====
/-
  One device's run of the input projection's forward product with the gather of the gate's weight: the projection's own
  weight is fetched whole at the first grid point and stays in the device's own memory.
-/
module

public import proofs.«01_k».proof.Proof.Partial
public import proofs.«01_k».proof.Proof.Sibling
public import Idealize.ShloMosaic.Lib.Pointwise.Index
public import proofs.«01_k».proof.Proof.Gen.ProjFwdIdeal.Frame
public import proofs.«01_k».proof.Proof.Gen.ProjFwdIdeal.Skeleton

@[expose] public section

set_option Elab.async false

noncomputable section

namespace ProjFwd

open Idealize.ShloMosaic
open Idealize.ShloMosaic.TcCoe
open Idealize.ShloMosaic.Rounds
open Idealize.SL Idealize.SL.RA Idealize.SL.BI
open scoped Idealize.SL.BI
open Idealize.SL.BI.BIBase Idealize.SL.BI.Laws Idealize.SL.ProofMode Idealize.SL.Sem
open Cert.ProjFwdIdeal Cert.ProjFwdIdeal.Gen
open Exchange

variable {F : FTy → Type} [FloatOps F]

/-- The ghost state: the regions' own rounds, the gather's, and the counters of the local copy. -/
abbrev UU : Type := UR sig nD τ × (UR sig nD τ × Counters)
abbrev M (F : FTy → Type) : Type := MT nD τ sig Unit (Elt F) ℕ UU ℕ

/-- The part of the ghost state the gather uses, the regions' part, and the local copy's. -/
abbrev ER : Emb (URounds (GSem nD τ sig) Unit) (M F) :=
  (Emb.inl : Emb (UR sig nD τ) (UR sig nD τ × Counters)).trans embR
abbrev EP : Emb (URounds (GSem nD τ sig) Unit) (M F) := embL
abbrev EC : UEmb Counters (M F) := countersEmb

abbrev 𝒱₀ : Variants := Variants.none

/-- The semaphores of the gather: seven sends, seven receives, one local copy. -/
def sem : Fin 15 → SemLoc sig := fun k => .dma (⟨10 + k.val, by omega⟩ : Fin 25)
theorem sem_inj : Function.Injective sem := fun a b h => Fin.ext (by
  have := congrArg Fin.val (SemLoc.dma.inj h)
  simp only at this
  omega)

/-- What the gather sends: the device's own columns of the gate's weight. -/
abbrev src : Memref sig .tc .hbm S2048x704 .bf16 := Memref.whole main_arg3

theorem inb (j : Fin 8) : ∀ a, (![j.val, 0, 0] : Fin 3 → ℕ) a + S1x2048x704.size a ≤ S8x2048x704.size a := by
  revert j; decide

/-- Block `j` of an array of eight. -/
abbrev rect (j : Fin 8) : Rect S8x2048x704 := Rect.unit (s := S8x2048x704) ![j.val, 0, 0] S1x2048x704.size (inb j)

/-- Block `j` of the gathered result. -/
abbrev blk (j : Fin 8) : Memref sig .tc .hbm S2048x704 .bf16 :=
  ((Memref.whole main_v1_3).slice (rect j) (fun _ => rfl)).squeeze S2048x704 squeezes_S1x2048x704_S2048x704

theorem blk_of {off : Fin 3 → ℕ} (h : ∀ a, off a + S1x2048x704.size a ≤ S8x2048x704.size a) (j : Fin 8) (e : off = ![j.val, 0, 0]) :
    ((Memref.whole main_v1_3).slice (Rect.unit (s := S8x2048x704) off S1x2048x704.size h) (fun _ => rfl)).squeeze S2048x704 squeezes_S1x2048x704_S2048x704 = blk j := by
  subst e; rfl

/-- The units one block's transfer credits. -/
abbrev units : ℕ := (blk 0).view.dmaCredit
theorem units_pos : 0 < units := by decide

theorem credit {sp : Space} (b : Memref sig .tc sp S2048x704 .bf16) : b.view.dmaCredit = units := rfl

abbrev fm : Family 8 sig (Fin 15) := sibFam sem sem_inj units units_pos

theorem own_off (c : Dev nD) : k0_off1 c = ![c.val, 0, 0] := by revert c; decide
theorem off2_2 (c : Dev nD) : k0_off2 c 0#32 1#32 0#32 = ![(peer 2 c).val, 0, 0] := by revert c; decide
theorem off2_4 (c : Dev nD) : k0_off2 c 1#32 0#32 0#32 = ![(peer 4 c).val, 0, 0] := by revert c; decide
theorem off2_6 (c : Dev nD) : k0_off2 c 1#32 1#32 0#32 = ![(peer 6 c).val, 0, 0] := by revert c; decide
theorem dev1 (c : Dev nD) (h : k0_dev1 c < nD) : (⟨k0_dev1 c, h⟩ : Dev nD) = peer 1 c := by revert c; decide
theorem dev2 (c : Dev nD) (h : k0_dev2 c < nD) : (⟨k0_dev2 c, h⟩ : Dev nD) = peer 2 c := by revert c; decide
theorem dev3 (c : Dev nD) (h : k0_dev3 c < nD) : (⟨k0_dev3 c, h⟩ : Dev nD) = peer 4 c := by revert c; decide
theorem dev4 (c : Dev nD) (h : k0_dev4 c < nD) : (⟨k0_dev4 c, h⟩ : Dev nD) = peer 6 c := by revert c; decide
theorem dev5 (c : Dev nD) (h : k0_dev5 c < nD) : (⟨k0_dev5 c, h⟩ : Dev nD) = peer 1 c := by revert c; decide
theorem dev6 (c : Dev nD) (h : k0_dev6 c < nD) : (⟨k0_dev6 c, h⟩ : Dev nD) = peer 1 c := by revert c; decide
theorem dev7 (c : Dev nD) (h : k0_dev7 c < nD) : (⟨k0_dev7 c, h⟩ : Dev nD) = peer 1 c := by revert c; decide

theorem pure_bind' {α β : Type} (a : α) (k : α → Prog (TpuEff nD τ sig (Elt F) Λ₀ .tc) β) :
    (pure a : Prog (TpuEff nD τ sig (Elt F) Λ₀ .tc) α) >>= k = k a := Prog.bind_ret a k
theorem pure_ret {α : Type} (a : α) : (pure a : Prog (TpuEff nD τ sig (Elt F) Λ₀ .tc) α) = .ret a := rfl

/-- Whether a grid point is the first, as the kernel tests it before it fetches the weight. -/
abbrev fresh (i : grid0.Coords) : BitVec 1 := Scalar.cmpi .ne (Scalar.extui (Scalar.cmpi .eq (BitVec.ofNat 32 (i 0).val) 0#32) : BitVec 32) 0#32

/-! ## A tile of each result -/

theorem wInb (j : Fin 8) : ∀ a, (![j.val, 0, 0] : Fin 3 → ℕ) a + S1x2048x640.size a ≤ S8x2048x640.size a := by
  revert j; decide

/-- The column block a column of the projection lies in. -/
def colBlk (y : S256x5120.Idx) : Fin 8 := ⟨(y 1).val / 640, by have h : (y 1).val < 5120 := (y 1).isLt; omega⟩

/-- A column's place in its block. -/
def inBlk (y : S256x5120.Idx) : S256x640.Idx := ix2 (y 0) (⟨(y 1).val % 640, Nat.mod_lt _ (by decide)⟩ : Fin 640)

/-- The projections of a tile's normed rows `h` by the weight. -/
def proj (h : FVec F S256x2048 .bf16) (w : Vec F S8x2048x640 .bf16) : FVec F S256x5120 .f32 := fun y =>
  k0_pay1 h (View.ld w (Rect.unit (s := S8x2048x640) ![(colBlk y).val, 0, 0] S1x2048x640.size (wInb (colBlk y)))) (inBlk y)

/-- Within column block `j` they are the rows times block `j` of the weight. -/
theorem proj_col (h : FVec F S256x2048 .bf16) (w : Vec F S8x2048x640 .bf16) (j : Fin 8) (o : ℕ) (ho : o = 640 * j.val)
    (q : ∀ a, (![0, o] : Fin 2 → ℕ) a + S256x640.size a ≤ S256x5120.size a) (y : S256x640.Idx) :
    k0_pay1 h (View.ld w (Rect.unit (s := S8x2048x640) ![j.val, 0, 0] S1x2048x640.size (wInb j))) y
      = proj h w ((Rect.unit (s := S256x5120) ![0, o] S256x640.size q).emb y) := by
  subst ho
  have h1 : (y 1).val < 640 := (y 1).isLt
  have e1 : ((Rect.unit (s := S256x5120) ![0, 640 * j.val] S256x640.size q).emb y 1).val = 640 * j.val + (y 1).val := by
    rw [Rect.emb_apply]; simp
  have e0 : ((Rect.unit (s := S256x5120) ![0, 640 * j.val] S256x640.size q).emb y 0).val = (y 0).val := by
    rw [Rect.emb_apply]; simp
  have ej : colBlk ((Rect.unit (s := S256x5120) ![0, 640 * j.val] S256x640.size q).emb y) = j := Fin.ext (by
    show ((Rect.unit (s := S256x5120) ![0, 640 * j.val] S256x640.size q).emb y 1).val / 640 = j.val
    rw [e1]; omega)
  have ey : inBlk ((Rect.unit (s := S256x5120) ![0, 640 * j.val] S256x640.size q).emb y) = y := by
    funext a
    fin_cases a
    · exact Fin.ext e0
    · refine Fin.ext ?_
      show ((Rect.unit (s := S256x5120) ![0, 640 * j.val] S256x640.size q).emb y 1).val % 640 = (y 1).val
      rw [e1]; omega
  unfold proj
  rw [ey]
  exact congrArg (fun b : Fin 8 => k0_pay1 h (View.ld w (Rect.unit (s := S8x2048x640) ![b.val, 0, 0] S1x2048x640.size (wInb b))) y) ej.symm

theorem col0 (x : Vec F S256x2048 .f32) (g : Vec F S1x2048 .f32) (w : Vec F S8x2048x640 .bf16) (y : S256x640.Idx) :
    k0_pay5 x g (View.ld w (Rect.unit (s := S8x2048x640) ![0, 0, 0] S1x2048x640.size inb_S8x2048x640_S1x2048x640_0_0_0)) y
      = proj (k0_pay4 x g) w ((Rect.unit (s := S256x5120) ![0, 0] S256x640.size inb_S256x5120_S256x640_0_0).emb y) :=
  proj_col (k0_pay4 x g) w 0 0 rfl _ y
theorem col1 (h : FVec F S256x2048 .bf16) (w : Vec F S8x2048x640 .bf16) (y : S256x640.Idx) :
    k0_pay6 h (View.ld w (Rect.unit (s := S8x2048x640) ![1, 0, 0] S1x2048x640.size inb_S8x2048x640_S1x2048x640_1_0_0)) y
      = proj h w ((Rect.unit (s := S256x5120) ![0, 640] S256x640.size inb_S256x5120_S256x640_0_640).emb y) :=
  proj_col h w 1 640 rfl _ y
theorem col2 (h : FVec F S256x2048 .bf16) (w : Vec F S8x2048x640 .bf16) (y : S256x640.Idx) :
    k0_pay7 h (View.ld w (Rect.unit (s := S8x2048x640) ![2, 0, 0] S1x2048x640.size inb_S8x2048x640_S1x2048x640_2_0_0)) y
      = proj h w ((Rect.unit (s := S256x5120) ![0, 1280] S256x640.size inb_S256x5120_S256x640_0_1280).emb y) :=
  proj_col h w 2 1280 rfl _ y
theorem col3 (h : FVec F S256x2048 .bf16) (w : Vec F S8x2048x640 .bf16) (y : S256x640.Idx) :
    k0_pay8 h (View.ld w (Rect.unit (s := S8x2048x640) ![3, 0, 0] S1x2048x640.size inb_S8x2048x640_S1x2048x640_3_0_0)) y
      = proj h w ((Rect.unit (s := S256x5120) ![0, 1920] S256x640.size inb_S256x5120_S256x640_0_1920).emb y) :=
  proj_col h w 3 1920 rfl _ y
theorem col4 (h : FVec F S256x2048 .bf16) (w : Vec F S8x2048x640 .bf16) (y : S256x640.Idx) :
    k0_pay9 h (View.ld w (Rect.unit (s := S8x2048x640) ![4, 0, 0] S1x2048x640.size inb_S8x2048x640_S1x2048x640_4_0_0)) y
      = proj h w ((Rect.unit (s := S256x5120) ![0, 2560] S256x640.size inb_S256x5120_S256x640_0_2560).emb y) :=
  proj_col h w 4 2560 rfl _ y
theorem col5 (h : FVec F S256x2048 .bf16) (w : Vec F S8x2048x640 .bf16) (y : S256x640.Idx) :
    k0_pay10 h (View.ld w (Rect.unit (s := S8x2048x640) ![5, 0, 0] S1x2048x640.size inb_S8x2048x640_S1x2048x640_5_0_0)) y
      = proj h w ((Rect.unit (s := S256x5120) ![0, 3200] S256x640.size inb_S256x5120_S256x640_0_3200).emb y) :=
  proj_col h w 5 3200 rfl _ y
theorem col6 (h : FVec F S256x2048 .bf16) (w : Vec F S8x2048x640 .bf16) (y : S256x640.Idx) :
    k0_pay11 h (View.ld w (Rect.unit (s := S8x2048x640) ![6, 0, 0] S1x2048x640.size inb_S8x2048x640_S1x2048x640_6_0_0)) y
      = proj h w ((Rect.unit (s := S256x5120) ![0, 3840] S256x640.size inb_S256x5120_S256x640_0_3840).emb y) :=
  proj_col h w 6 3840 rfl _ y
theorem col7 (h : FVec F S256x2048 .bf16) (w : Vec F S8x2048x640 .bf16) (y : S256x640.Idx) :
    k0_pay1 h (View.ld w (Rect.unit (s := S8x2048x640) ![7, 0, 0] S1x2048x640.size inb_S8x2048x640_S1x2048x640_7_0_0)) y
      = proj h w ((Rect.unit (s := S256x5120) ![0, 4480] S256x640.size inb_S256x5120_S256x640_0_4480).emb y) :=
  proj_col h w 7 4480 rfl _ y

/-- The columns below `n`. -/
abbrev Below (n : ℕ) (y : S256x5120.Idx) : Prop := (y 1).val < n

/-- A block's columns added to those below it. -/
theorem below_step (o n : ℕ) (hn : n = o + 640) (q : ∀ a, (![0, o] : Fin 2 → ℕ) a + S256x640.size a ≤ S256x5120.size a) (y : S256x5120.Idx) (h : Below n y) :
    y ∈ (Rect.unit (s := S256x5120) ![0, o] S256x640.size q).set ∨ Below o y := by
  by_cases ho : (y 1).val < o
  · exact .inr ho
  refine .inl (Rect.mem_set_unit.mpr fun a => ?_)
  have h' : (y 1).val < n := h
  fin_cases a
  · have h0 : (y 0).val < 256 := (y 0).isLt
    exact ⟨Nat.zero_le _, by show (y 0).val < 0 + 256; omega⟩
  · exact ⟨by show o ≤ (y 1).val; omega, by show (y 1).val < o + 640; omega⟩

/-- One column block's turn: its weight read, the product taken and its columns written. -/
theorem block_step {α : Type} {Q : α → sProp (M F)} (c : Dev nD) (arg5 : Memref sig .tc .vmem S256x5120 .f32) (X : Vec F S256x5120 .f32)
    (h : FVec F S256x2048 .bf16) (w : Vec F S8x2048x640 .bf16) (pay : Vec F S1x2048x640 .bf16 → FVec F S256x640 .f32) (j o n : ℕ) (hn : n = o + 640)
    {p : ∀ a, (![j, 0, 0] : Fin 3 → ℕ) a + S1x2048x640.size a ≤ S8x2048x640.size a} {q : ∀ a, (![0, o] : Fin 2 → ℕ) a + S256x640.size a ≤ S256x5120.size a}
    (hv : ∀ y, pay (View.ld w (Rect.unit (s := S8x2048x640) ![j, 0, 0] S1x2048x640.size p)) y = proj h w ((Rect.unit (s := S256x5120) ![0, o] S256x640.size q).emb y))
    (g : ∀ y, Below o y → X y = proj h w y)
    {l : (Memref.whole cc0_scratch0).view.LoadsAt (Rect.unit (s := S8x2048x640) ![j, 0, 0] S1x2048x640.size p).toLoadRect}
    {l' : arg5.view.LoadsAt (Rect.unit (s := S256x5120) ![0, o] S256x640.size q).toLoadRect}
    {hx : (arg5.access (Rect.unit (s := S256x5120) ![0, o] S256x640.size q)).Stores Finset.univ} {hm}
    {k : PUnit → Prog (TpuEff nD τ sig (Elt F) Λ₀ .tc) α} :
    (iprop(owns (c.tc : Thread nD τ) (Memref.whole cc0_scratch0) fullShare w ∗ owns (c.tc : Thread nD τ) arg5 fullShare X) : sProp (M F))
      ⊢ iprop((((owns (c.tc : Thread nD τ) (Memref.whole cc0_scratch0) fullShare w)
            ∗ ∃ X' : S256x5120.Idx → Elt F .f32, ⌜∀ y, Below n y → X' y = proj h w y⌝ ∗ owns (c.tc : Thread nD τ) arg5 fullShare X')
          -∗ wp frame (wpE (defs₀ (F := F)) 𝒱₀ (c.tc : Thread nD τ) none) Set.univ (k ⟨⟩) Q)
        -∗ wp frame (wpE (defs₀ (F := F)) 𝒱₀ (c.tc : Thread nD τ) none) Set.univ
          (.op (.load (Memref.whole cc0_scratch0) (Rect.unit (s := S8x2048x640) ![j, 0, 0] S1x2048x640.size p).toLoadRect l) fun v =>
            .op (.load arg5 (Rect.unit (s := S256x5120) ![0, o] S256x640.size q).toLoadRect l') fun _ =>
            .op (.store arg5 (Rect.unit (s := S256x5120) ![0, o] S256x640.size q) (pay v) Finset.univ hx hm) k) Q) := by
  iintro ⟨Hy, H5⟩ Hk
  iapply (load_part (defs₀ (F := F)) 𝒱₀ none c (Memref.whole cc0_scratch0) fullShare w _) $$ Hy
  iintro Hy
  iapply (load_part (defs₀ (F := F)) 𝒱₀ none c arg5 fullShare X _) $$ H5
  iintro H5
  iapply (store_part (defs₀ (F := F)) 𝒱₀ none c arg5 X (proj h w) (Rect.unit (s := S256x5120) ![0, o] S256x640.size q) _ (Below o) (Below n) g hv
    (below_step o n hn q)) $$ H5
  iintro H5
  iapply Hk
  isplitl [Hy]; · iexact Hy
  iexact H5

section Run

variable (A : ∀ c : Dev nD, Buf (Elt F) (src.view.loc (c.tc : Thread nD τ)))

/-- What device `c` holds of the gate's weight. -/
def part (c : Dev nD) : S2048x704.Idx → Elt F .bf16 := src.view.read (Elt F) (A c)

abbrev pay : Dev nD → Fin 15 → sProp (M F) := sibPay src A blk (part A)

omit [FloatOps F] in
theorem arrives (d j j' : Dev nD) (h : j' = j) : (holds d (blk j) (part A j) : sProp (M F)) ⊢ landed blk (part A) d j' := by
  subst h; exact Entails.refl _

/-- A device's holdings before the gather. -/
def before (κ : Dev nD × Fin 15 → ℕ) (c : Dev nD) : sProp (M F) :=
  iprop(records fm ER (pay A) κ ∗ levAts lset (lval fm) ∗ (bigSep Finset.univ fun k => pos fm ER c k 0)
    ∗ sibToks sem sem_inj units units_pos ER blk c
    ∗ (bigSep recvs fun k => cred (tallyAt (cell fm c k) () (fm.amt k)))
    ∗ (lent src A c 0 ∗ lent src A c 1 ∗ lent src A c 2 ∗ lent src A c 4 ∗ lent src A c 6))

/-- A device's holdings after it. -/
def after (c : Dev nD) : sProp (M F) :=
  iprop((bigSep Finset.univ fun j => landed blk (part A) c j) ∗ (lent src A c 0 ∗ lent src A c 1 ∗ lent src A c 2 ∗ lent src A c 4 ∗ lent src A c 6)
    ∗ Pipeline.ownSems0 sem c)

/-- What is still owed once the first hops are under way: the three blocks to pass on. -/
abbrev owedOn : Finset (Fin 15) := (((recvs.erase 7).erase 8).erase 10).erase 12

/-- What a transfer of the cell `k` will credit, as its owner holds it. -/
abbrev due (c : Dev nD) (k : Fin 15) : sProp (M F) := cred (tallyAt (cell fm c k) () (fm.amt k))

/-- A device's holdings while the first hops are under way. -/
def flying (c : Dev nD) : sProp (M F) :=
  iprop(∃ κ, records fm ER (pay A) κ ∗ levAts lset (lval fm) ∗ (bigSep Finset.univ fun k => pos fm ER c k 0)
    ∗ (tok fm ER c 2 ∗ tok fm ER c 4 ∗ tok fm ER c 6
      ∗ (tok fm ER (peer 1 c) 9 ∗ free blk (peer 1 c) (peer 2 c)) ∗ (tok fm ER (peer 1 c) 11 ∗ free blk (peer 1 c) (peer 4 c))
      ∗ (tok fm ER (peer 1 c) 13 ∗ free blk (peer 1 c) (peer 6 c)))
    ∗ (bigSep recvs fun k => due c k) ∗ (due c 0 ∗ due c 1 ∗ due c 3 ∗ due c 5 ∗ due c 14))

theorem flying_intro (κ : Dev nD × Fin 15 → ℕ) (c : Dev nD) :
    (iprop(records fm ER (pay A) κ ∗ levAts lset (lval fm) ∗ (bigSep Finset.univ fun k => pos fm ER c k 0)
      ∗ (tok fm ER c 2 ∗ tok fm ER c 4 ∗ tok fm ER c 6
        ∗ (tok fm ER (peer 1 c) 9 ∗ free blk (peer 1 c) (peer 2 c)) ∗ (tok fm ER (peer 1 c) 11 ∗ free blk (peer 1 c) (peer 4 c))
        ∗ (tok fm ER (peer 1 c) 13 ∗ free blk (peer 1 c) (peer 6 c)))
      ∗ (bigSep recvs fun k => due c k) ∗ (due c 0 ∗ due c 1 ∗ due c 3 ∗ due c 5 ∗ due c 14)) : sProp (M F)) ⊢ flying A c := by
  unfold flying
  iintro H
  iexists κ
  iexact H

theorem seven (Φ : Fin 15 → sProp (M F)) : bigSep recvs Φ = iprop(Φ 7 ∗ Φ 8 ∗ Φ 9 ∗ Φ 10 ∗ Φ 11 ∗ Φ 12 ∗ Φ 13) := by
  rw [show recvs = {7, 8, 9, 10, 11, 12, 13} from rfl]
  iterate 6 rw [bigSep_insert (by decide)]
  rw [bigSep_singleton]; rfl

/-- A device's part of the gather when a grid point begins: all to start at the first, the first hops under way after it. -/
def entry (i : grid0.Coords) (c : Dev nD) : sProp (M F) :=
  if k0_cond1 i = 1#1 then iprop((∃ κ, before A κ c) ∗ ∃ W, owes (c.tc : Thread nD τ) (debt fm recvs c) W)
  else iprop(flying A c ∗ ∃ W, owes (c.tc : Thread nD τ) (debt fm owedOn c) W)

/-- And when it ends: the first hops under way, and after the last all done. -/
def depart (i : grid0.Coords) (c : Dev nD) : sProp (M F) :=
  if k0_cond3 i = 1#1 then iprop(after A c ∗ ∃ W, owes (c.tc : Thread nD τ) 0 W)
  else iprop(flying A c ∗ ∃ W, owes (c.tc : Thread nD τ) (debt fm owedOn c) W)

set_option maxHeartbeats 4000000 in
set_option maxRecDepth 65536 in
/-- One grid point: the gather's part of it, the weight fetched at the first, and a tile of each result. -/
theorem run_body (i : grid0.Coords) (c : Dev nD) (h12 : k0_cond1 i = 1#1 ↔ fresh i = 1#1) (h23 : k0_cond3 i = 1#1 → ¬ fresh i = 1#1)
    (arg1 : Memref sig .tc .vmem S256x2048 .f32) (harg1 : arg1.IsWhole) (arg2 : Memref sig .tc .vmem S1x2048 .f32) (harg2 : arg2.IsWhole) (arg5 : Memref sig .tc .vmem S256x5120 .f32) (harg5 : arg5.IsWhole) (arg6 : Memref sig .tc .vmem S256x2048 .bf16) (harg6 : arg6.IsWhole) (arg7 : Memref sig .tc .vmem S256x1 .f32) (harg7 : arg7.IsWhole)
    (x1 : Vec F S256x2048 .f32) (x2 : Vec F S1x2048 .f32) (x5 : Vec F S256x5120 .f32) (x6 : Vec F S256x2048 .bf16) (x7 : Vec F S256x1 .f32) (w y : Vec F S8x2048x640 .bf16) (hy : ¬ fresh i = 1#1 → y = w) (Kt : PUnit → sProp (M F)) :
    iprop(entry A i c ∗ (owns (c.tc : Thread nD τ) (Memref.whole main_arg2) fullShare w ∗ owns (c.tc : Thread nD τ) (Memref.whole cc0_scratch0) fullShare y ∗ semVal ((c.tc : Thread nD τ), .dma (9 : Fin 25)) 0) ∗ owns (c.tc : Thread nD τ) arg1 fullShare x1 ∗ owns (c.tc : Thread nD τ) arg2 fullShare x2 ∗ owns (c.tc : Thread nD τ) arg5 fullShare x5 ∗ owns (c.tc : Thread nD τ) arg6 fullShare x6 ∗ owns (c.tc : Thread nD τ) arg7 fullShare x7
        ∗ ((depart A i c ∗ (owns (c.tc : Thread nD τ) (Memref.whole main_arg2) fullShare w ∗ owns (c.tc : Thread nD τ) (Memref.whole cc0_scratch0) fullShare w ∗ semVal ((c.tc : Thread nD τ), .dma (9 : Fin 25)) 0) ∗ owns (c.tc : Thread nD τ) arg1 fullShare x1 ∗ owns (c.tc : Thread nD τ) arg2 fullShare x2 ∗ owns (c.tc : Thread nD τ) arg5 fullShare (proj (k0_pay4 x1 x2) w)
            ∗ owns (c.tc : Thread nD τ) arg6 fullShare (k0_pay4 x1 x2) ∗ owns (c.tc : Thread nD τ) arg7 fullShare (k0_pay3 x1)) -∗ Kt ⟨⟩))
      ⊢ wp frame (wpE (defs₀ (F := F)) 𝒱₀ (c.tc : Thread nD τ) none) Set.univ
    (cc0_in_proj_fwd (F := F) i arg1 harg1 arg2 harg2 (Memref.whole main_arg2) (Memref.isWhole_whole _)
      (Memref.whole main_arg3) (Memref.isWhole_whole _) arg5 harg5 arg6 harg6 arg7 harg7 (Memref.whole main_v1_3) (Memref.isWhole_whole _)
      (Memref.whole cc0_scratch0) (Memref.isWhole_whole _) cc0_scratch1 cc0_scratch2 cc0_scratch3 cc0_scratch4) Kt := by
  unfold entry
  by_cases h2 : fresh i = 1#1
  · have h1 : k0_cond1 i = 1#1 := h12.mpr h2
    have h3 : ¬ k0_cond3 i = 1#1 := fun h => h23 h h2
    rw [if_pos h1]
    simp only [cc0_in_proj_fwd_eq_skeleton, cc0_in_proj_fwd_skel, k0_part28_eq_skeleton, k0_part28_skel, k0_part29_eq_skeleton, k0_part29_skel, ↓dif_pos h1, ↓dif_pos h2, ↓dif_neg h3, k0_part1_eq_skeleton, k0_part1_skel, k0_part2_eq_skeleton, k0_part2_skel, k0_part3_eq_skeleton, k0_part3_skel, Prog.bind_lift, Prog.bind_op, Prog.bind_ret, Prog.bind_assoc, wp_deviceId, pure_bind', pure_ret]
    iintro ⟨He, ⟨Hw, Hy, Hv⟩, H1, H2, H5, H6, H7, Hk⟩
    icases He with ⟨⟨%κ, Hb⟩, ⟨%W, HO⟩⟩
    unfold before sibToks
    rw [seven]
    unfold lent
    icases Hb with ⟨#HR, #HL, HP, ⟨T0, T1, T2, T3, T4, T5, T6, ⟨T7, F7⟩, ⟨T8, F8⟩, F9, ⟨T10, F10⟩, F11, ⟨T12, F12⟩, F13, T14, F14⟩,
      Hc, L0, L1, L2, L4, L6⟩
    unfold free
    iapply (copy_holds fm (defs₀ (F := F)) 𝒱₀ none ER (pay A) (κ := κ) c 14 (fun _ => rfl) src (blk c) (x := part A c) rfl (blk_of _ _ (own_off c)) rfl rfl rfl (Entails.refl _)) $$ [L0 F14 T14]
    · isplitr; · iexact HR
      isplitl [L0]; · iexact L0
      isplitl [F14]; · iexact F14
      iexact T14
    iintro C14
    iapply (send_holds fm (defs₀ (F := F)) 𝒱₀ none ER (pay A) (κ := κ) c 0 7 (recvs) (by decide) (fun _ => rfl) src (blk c) (x := part A c) rfl (blk_of _ _ (own_off c)) (dev1 c _) rfl rfl rfl rfl rfl
      (Entails.refl _) (arrives A _ _ _ (peer_peer 1 c))) $$ [L1 F7 HO T0 T7]
    · isplitr; · iexact HR
      isplitl [L1]; · iexact L1
      isplitl [F7]; · iexact F7
      isplitl [HO]; · iexact HO
      isplitl [T0]; · iexact T0
      iexact T7
    iintro ⟨C0, HO⟩
    iapply (send_holds fm (defs₀ (F := F)) 𝒱₀ none ER (pay A) (κ := κ) c 1 8 ((recvs).erase 7) (by decide) (fun _ => rfl) src (blk c) (x := part A c) rfl (blk_of _ _ (own_off c)) (dev2 c _) rfl rfl rfl rfl rfl
      (Entails.refl _) (arrives A _ _ _ (peer_peer 2 c))) $$ [L2 F8 HO T1 T8]
    · isplitr; · iexact HR
      isplitl [L2]; · iexact L2
      isplitl [F8]; · iexact F8
      isplitl [HO]; · iexact HO
      isplitl [T1]; · iexact T1
      iexact T8
    iintro ⟨C1, HO⟩
    iapply (send_holds fm (defs₀ (F := F)) 𝒱₀ none ER (pay A) (κ := κ) c 3 10 (((recvs).erase 7).erase 8) (by decide) (fun _ => rfl) src (blk c) (x := part A c) rfl (blk_of _ _ (own_off c)) (dev3 c _) rfl rfl rfl rfl rfl
      (Entails.refl _) (arrives A _ _ _ (peer_peer 4 c))) $$ [L4 F10 HO T3 T10]
    · isplitr; · iexact HR
      isplitl [L4]; · iexact L4
      isplitl [F10]; · iexact F10
      isplitl [HO]; · iexact HO
      isplitl [T3]; · iexact T3
      iexact T10
    iintro ⟨C3, HO⟩
    iapply (send_holds fm (defs₀ (F := F)) 𝒱₀ none ER (pay A) (κ := κ) c 5 12 ((((recvs).erase 7).erase 8).erase 10) (by decide) (fun _ => rfl) src (blk c) (x := part A c) rfl (blk_of _ _ (own_off c)) (dev4 c _) rfl rfl rfl rfl rfl
      (Entails.refl _) (arrives A _ _ _ (peer_peer 6 c))) $$ [L6 F12 HO T5 T12]
    · isplitr; · iexact HR
      isplitl [L6]; · iexact L6
      isplitl [F12]; · iexact F12
      isplitl [HO]; · iexact HO
      isplitl [T5]; · iexact T5
      iexact T12
    iintro ⟨C5, HO⟩
    iapply (fetch_owing (defs₀ (F := F)) 𝒱₀ none EC c (debt fm owedOn c) (View.dmaCredit_pos _ (by decide)) w y) $$ [Hw Hy Hv HO]
    · isplitl [Hw]; · iexact Hw
      isplitl [Hy]; · iexact Hy
      isplitl [Hv]; · iexact Hv
      isplitr
      · iapply (mayWait_other fm owedOn c (.dma (9 : Fin 25)) (by decide) (by decide)); iexact HL
      iexists _
      iexact HO
    iintro ⟨Hw, Hy, Hv, HO⟩
    ihave Hf := (flying_intro A κ c) $$ [HP T2 T4 T6 F9 F11 F13 Hc C0 C1 C3 C5 C14]
    · isplitr; · iexact HR
      isplitr; · iexact HL
      isplitl [HP]; · iexact HP
      isplitl [T2 T4 T6 F9 F11 F13]
      · isplitl [T2]; · iexact T2
        isplitl [T4]; · iexact T4
        isplitl [T6]; · iexact T6
        isplitl [F9]; · iexact F9
        isplitl [F11]; · iexact F11
        iexact F13
      isplitl [Hc]; · rw [seven]; iexact Hc
      isplitl [C0]; · iexact C0
      isplitl [C1]; · iexact C1
      isplitl [C3]; · iexact C3
      isplitl [C5]; · iexact C5
      iexact C14
    ihave He := (show (iprop(flying A c ∗ ∃ W, owes (c.tc : Thread nD τ) (debt fm owedOn c) W) : sProp (M F)) ⊢ _ from .rfl) $$ [Hf HO]
    · isplitl [Hf] <;> iassumption
    iapply (load_whole (defs₀ (F := F)) 𝒱₀ none c arg1 fullShare x1) $$ H1
    iintro H1
    iapply (load_whole (defs₀ (F := F)) 𝒱₀ none c arg2 fullShare x2) $$ H2
    iintro H2
    iapply (load_whole (defs₀ (F := F)) 𝒱₀ none c arg6 fullShare x6) $$ H6
    iintro H6
    iapply (store_whole (defs₀ (F := F)) 𝒱₀ none c arg6 x6 (k0_pay4 x1 x2)) $$ H6
    iintro H6
    iapply (load_whole (defs₀ (F := F)) 𝒱₀ none c arg7 fullShare x7) $$ H7
    iintro H7
    iapply (store_whole (defs₀ (F := F)) 𝒱₀ none c arg7 x7 (k0_pay3 x1)) $$ H7
    iintro H7
    iapply (block_step c arg5 x5 (k0_pay4 x1 x2) w (k0_pay5 x1 x2) 0 0 640 rfl (col0 x1 x2 w) (fun _ h => absurd h (Nat.not_lt_zero _))) $$ [Hy H5]
    · isplitl [Hy] <;> iassumption
    iintro ⟨Hy, %z1, %g1, H5⟩
    iapply (block_step c arg5 z1 (k0_pay4 x1 x2) w (k0_pay6 (k0_pay4 x1 x2)) 1 640 1280 rfl (col1 (k0_pay4 x1 x2) w) g1) $$ [Hy H5]
    · isplitl [Hy] <;> iassumption
    iintro ⟨Hy, %z2, %g2, H5⟩
    iapply (block_step c arg5 z2 (k0_pay4 x1 x2) w (k0_pay7 (k0_pay4 x1 x2)) 2 1280 1920 rfl (col2 (k0_pay4 x1 x2) w) g2) $$ [Hy H5]
    · isplitl [Hy] <;> iassumption
    iintro ⟨Hy, %z3, %g3, H5⟩
    iapply (block_step c arg5 z3 (k0_pay4 x1 x2) w (k0_pay8 (k0_pay4 x1 x2)) 3 1920 2560 rfl (col3 (k0_pay4 x1 x2) w) g3) $$ [Hy H5]
    · isplitl [Hy] <;> iassumption
    iintro ⟨Hy, %z4, %g4, H5⟩
    iapply (block_step c arg5 z4 (k0_pay4 x1 x2) w (k0_pay9 (k0_pay4 x1 x2)) 4 2560 3200 rfl (col4 (k0_pay4 x1 x2) w) g4) $$ [Hy H5]
    · isplitl [Hy] <;> iassumption
    iintro ⟨Hy, %z5, %g5, H5⟩
    iapply (block_step c arg5 z5 (k0_pay4 x1 x2) w (k0_pay10 (k0_pay4 x1 x2)) 5 3200 3840 rfl (col5 (k0_pay4 x1 x2) w) g5) $$ [Hy H5]
    · isplitl [Hy] <;> iassumption
    iintro ⟨Hy, %z6, %g6, H5⟩
    iapply (block_step c arg5 z6 (k0_pay4 x1 x2) w (k0_pay11 (k0_pay4 x1 x2)) 6 3840 4480 rfl (col6 (k0_pay4 x1 x2) w) g6) $$ [Hy H5]
    · isplitl [Hy] <;> iassumption
    iintro ⟨Hy, %z7, %g7, H5⟩
    iapply (block_step c arg5 z7 (k0_pay4 x1 x2) w (k0_pay1 (k0_pay4 x1 x2)) 7 4480 5120 rfl (col7 (k0_pay4 x1 x2) w) g7) $$ [Hy H5]
    · isplitl [Hy] <;> iassumption
    iintro ⟨Hy, %z8, %g8, H5⟩
    obtain rfl : z8 = proj (k0_pay4 x1 x2) w := funext fun y => g8 y (y 1).isLt
    rw [wp_ret]
    imodintro
    unfold depart
    rw [if_neg h3]
    iapply Hk
    isplitl [He]; · iexact He
    isplitl [Hw Hy Hv]
    · isplitl [Hw]; · iexact Hw
      isplitl [Hy]; · iexact Hy
      iexact Hv
    isplitl [H1]; · iexact H1
    isplitl [H2]; · iexact H2
    isplitl [H5]; · iexact H5
    isplitl [H6]; · iexact H6
    iexact H7
  · have h1 : ¬ k0_cond1 i = 1#1 := fun h => h2 (h12.mp h)
    obtain rfl := hy h2
    rw [if_neg h1]
    by_cases h3 : k0_cond3 i = 1#1
    · simp only [cc0_in_proj_fwd_eq_skeleton, cc0_in_proj_fwd_skel, k0_part28_eq_skeleton, k0_part28_skel, k0_part29_eq_skeleton, k0_part29_skel, ↓dif_neg h1, ↓dif_neg h2, ↓dif_pos h3, k0_part4_eq_skeleton, k0_part4_skel, k0_part5_eq_skeleton, k0_part5_skel, k0_part6_eq_skeleton, k0_part6_skel, k0_part7_eq_skeleton, k0_part7_skel, k0_part8_eq_skeleton, k0_part8_skel, k0_part9_eq_skeleton, k0_part9_skel, k0_part10_eq_skeleton, k0_part10_skel, k0_part11_eq_skeleton, k0_part11_skel, k0_part12_eq_skeleton, k0_part12_skel, k0_part13_eq_skeleton, k0_part13_skel, k0_part14_eq_skeleton, k0_part14_skel, k0_part15_eq_skeleton, k0_part15_skel, k0_part16_eq_skeleton, k0_part16_skel, k0_part17_eq_skeleton, k0_part17_skel, k0_part18_eq_skeleton, k0_part18_skel, k0_part19_eq_skeleton, k0_part19_skel, k0_part20_eq_skeleton, k0_part20_skel, k0_part21_eq_skeleton, k0_part21_skel, k0_part22_eq_skeleton, k0_part22_skel, k0_part23_eq_skeleton, k0_part23_skel, k0_part24_eq_skeleton, k0_part24_skel, k0_part25_eq_skeleton, k0_part25_skel, k0_part26_eq_skeleton, k0_part26_skel, k0_part27_eq_skeleton, k0_part27_skel, Prog.bind_lift, Prog.bind_op, Prog.bind_ret, Prog.bind_assoc, wp_deviceId, pure_bind', pure_ret]
      iintro ⟨He, ⟨Hw, Hy, Hv⟩, H1, H2, H5, H6, H7, Hk⟩
      iapply (load_whole (defs₀ (F := F)) 𝒱₀ none c arg1 fullShare x1) $$ H1
      iintro H1
      iapply (load_whole (defs₀ (F := F)) 𝒱₀ none c arg2 fullShare x2) $$ H2
      iintro H2
      iapply (load_whole (defs₀ (F := F)) 𝒱₀ none c arg6 fullShare x6) $$ H6
      iintro H6
      iapply (store_whole (defs₀ (F := F)) 𝒱₀ none c arg6 x6 (k0_pay4 x1 x2)) $$ H6
      iintro H6
      iapply (load_whole (defs₀ (F := F)) 𝒱₀ none c arg7 fullShare x7) $$ H7
      iintro H7
      iapply (store_whole (defs₀ (F := F)) 𝒱₀ none c arg7 x7 (k0_pay3 x1)) $$ H7
      iintro H7
      iapply (block_step c arg5 x5 (k0_pay4 x1 x2) y (k0_pay5 x1 x2) 0 0 640 rfl (col0 x1 x2 y) (fun _ h => absurd h (Nat.not_lt_zero _))) $$ [Hy H5]
      · isplitl [Hy] <;> iassumption
      iintro ⟨Hy, %z1, %g1, H5⟩
      iapply (block_step c arg5 z1 (k0_pay4 x1 x2) y (k0_pay6 (k0_pay4 x1 x2)) 1 640 1280 rfl (col1 (k0_pay4 x1 x2) y) g1) $$ [Hy H5]
      · isplitl [Hy] <;> iassumption
      iintro ⟨Hy, %z2, %g2, H5⟩
      iapply (block_step c arg5 z2 (k0_pay4 x1 x2) y (k0_pay7 (k0_pay4 x1 x2)) 2 1280 1920 rfl (col2 (k0_pay4 x1 x2) y) g2) $$ [Hy H5]
      · isplitl [Hy] <;> iassumption
      iintro ⟨Hy, %z3, %g3, H5⟩
      iapply (block_step c arg5 z3 (k0_pay4 x1 x2) y (k0_pay8 (k0_pay4 x1 x2)) 3 1920 2560 rfl (col3 (k0_pay4 x1 x2) y) g3) $$ [Hy H5]
      · isplitl [Hy] <;> iassumption
      iintro ⟨Hy, %z4, %g4, H5⟩
      iapply (block_step c arg5 z4 (k0_pay4 x1 x2) y (k0_pay9 (k0_pay4 x1 x2)) 4 2560 3200 rfl (col4 (k0_pay4 x1 x2) y) g4) $$ [Hy H5]
      · isplitl [Hy] <;> iassumption
      iintro ⟨Hy, %z5, %g5, H5⟩
      iapply (block_step c arg5 z5 (k0_pay4 x1 x2) y (k0_pay10 (k0_pay4 x1 x2)) 5 3200 3840 rfl (col5 (k0_pay4 x1 x2) y) g5) $$ [Hy H5]
      · isplitl [Hy] <;> iassumption
      iintro ⟨Hy, %z6, %g6, H5⟩
      iapply (block_step c arg5 z6 (k0_pay4 x1 x2) y (k0_pay11 (k0_pay4 x1 x2)) 6 3840 4480 rfl (col6 (k0_pay4 x1 x2) y) g6) $$ [Hy H5]
      · isplitl [Hy] <;> iassumption
      iintro ⟨Hy, %z7, %g7, H5⟩
      iapply (block_step c arg5 z7 (k0_pay4 x1 x2) y (k0_pay1 (k0_pay4 x1 x2)) 7 4480 5120 rfl (col7 (k0_pay4 x1 x2) y) g7) $$ [Hy H5]
      · isplitl [Hy] <;> iassumption
      iintro ⟨Hy, %z8, %g8, H5⟩
      obtain rfl : z8 = proj (k0_pay4 x1 x2) y := funext fun y => g8 y (y 1).isLt
      iapply (wp_wand frame (wpE (defs₀ (F := F)) 𝒱₀ (c.tc : Thread nD τ) none) Set.univ (Q := fun _ => depart A i c)) $$ [He]
      · unfold depart
        rw [if_pos h3]
        simp only [wp_deviceId]
        icases He with ⟨Hf, ⟨%W, HO⟩⟩
        unfold flying
        rw [fifteen, seven]
        icases Hf with ⟨%κ, #HR, #HL, ⟨P0, P1, P2, P3, P4, P5, P6, P7, P8, P9, P10, P11, P12, P13, P14⟩, ⟨T2, T4, T6, ⟨T9, F9⟩, ⟨T11, F11⟩, ⟨T13, F13⟩⟩,
          ⟨C7, C8, C9, C10, C11, C12, C13⟩, C0, C1, C3, C5, C14⟩
        unfold free
        iapply (wait_copy fm (defs₀ (F := F)) 𝒱₀ none ER (pay A) (κ := κ) c 8 (((((recvs).erase 7).erase 8).erase 10).erase 12) (by decide) rfl (credit _)) $$ [C8 HO P8]
        · isplitr; · iexact HR
          isplitr; · iexact HL
          isplitl [C8]; · iexact C8
          isplitl [HO]; · iexact HO
          iexact P8
        iintro ⟨HO, P8, B2⟩
        ihave B2 := (Entails.of_eq (show pay A c 8 = landed blk (part A) c (peer 2 c) from rfl)) $$ B2
        unfold landed holds
        icases B2 with ⟨%f2, %h2, B2⟩
        iapply (send_holds fm (defs₀ (F := F)) 𝒱₀ none ER (pay A) (κ := κ) c 2 9 (((((recvs).erase 7).erase 8).erase 10).erase 12) (by decide) (fun _ => rfl) (blk (peer 2 c)) (blk (peer 2 c)) (x := part A (peer 2 c)) (blk_of _ _ (off2_2 c)) (blk_of _ _ (off2_2 c)) (dev5 c _) rfl rfl rfl rfl h2
          (holds_intro h2) (arrives A _ _ _ (peer_31 c))) $$ [B2 F9 HO T2 T9]
        · isplitr; · iexact HR
          isplitl [B2]; · iexact B2
          isplitl [F9]; · iexact F9
          isplitl [HO]; · iexact HO
          isplitl [T2]; · iexact T2
          iexact T9
        iintro ⟨C2, HO⟩
        iapply (wait_copy fm (defs₀ (F := F)) 𝒱₀ none ER (pay A) (κ := κ) c 10 ((((((recvs).erase 7).erase 8).erase 10).erase 12).erase 9) (by decide) rfl (credit _)) $$ [C10 HO P10]
        · isplitr; · iexact HR
          isplitr; · iexact HL
          isplitl [C10]; · iexact C10
          isplitl [HO]; · iexact HO
          iexact P10
        iintro ⟨HO, P10, B4⟩
        ihave B4 := (Entails.of_eq (show pay A c 10 = landed blk (part A) c (peer 4 c) from rfl)) $$ B4
        unfold landed holds
        icases B4 with ⟨%f4, %h4, B4⟩
        iapply (send_holds fm (defs₀ (F := F)) 𝒱₀ none ER (pay A) (κ := κ) c 4 11 ((((((recvs).erase 7).erase 8).erase 10).erase 12).erase 9) (by decide) (fun _ => rfl) (blk (peer 4 c)) (blk (peer 4 c)) (x := part A (peer 4 c)) (blk_of _ _ (off2_4 c)) (blk_of _ _ (off2_4 c)) (dev6 c _) rfl rfl rfl rfl h4
          (holds_intro h4) (arrives A _ _ _ (peer_51 c))) $$ [B4 F11 HO T4 T11]
        · isplitr; · iexact HR
          isplitl [B4]; · iexact B4
          isplitl [F11]; · iexact F11
          isplitl [HO]; · iexact HO
          isplitl [T4]; · iexact T4
          iexact T11
        iintro ⟨C4, HO⟩
        iapply (wait_copy fm (defs₀ (F := F)) 𝒱₀ none ER (pay A) (κ := κ) c 12 (((((((recvs).erase 7).erase 8).erase 10).erase 12).erase 9).erase 11) (by decide) rfl (credit _)) $$ [C12 HO P12]
        · isplitr; · iexact HR
          isplitr; · iexact HL
          isplitl [C12]; · iexact C12
          isplitl [HO]; · iexact HO
          iexact P12
        iintro ⟨HO, P12, B6⟩
        ihave B6 := (Entails.of_eq (show pay A c 12 = landed blk (part A) c (peer 6 c) from rfl)) $$ B6
        unfold landed holds
        icases B6 with ⟨%f6, %h6, B6⟩
        iapply (send_holds fm (defs₀ (F := F)) 𝒱₀ none ER (pay A) (κ := κ) c 6 13 (((((((recvs).erase 7).erase 8).erase 10).erase 12).erase 9).erase 11) (by decide) (fun _ => rfl) (blk (peer 6 c)) (blk (peer 6 c)) (x := part A (peer 6 c)) (blk_of _ _ (off2_6 c)) (blk_of _ _ (off2_6 c)) (dev7 c _) rfl rfl rfl rfl h6
          (holds_intro h6) (arrives A _ _ _ (peer_71 c))) $$ [B6 F13 HO T6 T13]
        · isplitr; · iexact HR
          isplitl [B6]; · iexact B6
          isplitl [F13]; · iexact F13
          isplitl [HO]; · iexact HO
          isplitl [T6]; · iexact T6
          iexact T13
        iintro ⟨C6, HO⟩
        iapply (wait_copy fm (defs₀ (F := F)) 𝒱₀ none ER (pay A) (κ := κ) c 7 ((((((((recvs).erase 7).erase 8).erase 10).erase 12).erase 9).erase 11).erase 13) (by decide) rfl (credit _)) $$ [C7 HO P7]
        · isplitr; · iexact HR
          isplitr; · iexact HL
          isplitl [C7]; · iexact C7
          isplitl [HO]; · iexact HO
          iexact P7
        iintro ⟨HO, P7, B1⟩
        ihave B1 := (Entails.of_eq (show pay A c 7 = landed blk (part A) c (peer 1 c) from rfl)) $$ B1
        iapply (wait_copy fm (defs₀ (F := F)) 𝒱₀ none ER (pay A) (κ := κ) c 9 ((((((((recvs).erase 7).erase 8).erase 10).erase 12).erase 9).erase 11).erase 13) (by decide) rfl (credit _)) $$ [C9 HO P9]
        · isplitr; · iexact HR
          isplitr; · iexact HL
          isplitl [C9]; · iexact C9
          isplitl [HO]; · iexact HO
          iexact P9
        iintro ⟨HO, P9, B3⟩
        ihave B3 := (Entails.of_eq (show pay A c 9 = landed blk (part A) c (peer 3 c) from rfl)) $$ B3
        iapply (wait_copy fm (defs₀ (F := F)) 𝒱₀ none ER (pay A) (κ := κ) c 11 ((((((((recvs).erase 7).erase 8).erase 10).erase 12).erase 9).erase 11).erase 13) (by decide) rfl (credit _)) $$ [C11 HO P11]
        · isplitr; · iexact HR
          isplitr; · iexact HL
          isplitl [C11]; · iexact C11
          isplitl [HO]; · iexact HO
          iexact P11
        iintro ⟨HO, P11, B5⟩
        ihave B5 := (Entails.of_eq (show pay A c 11 = landed blk (part A) c (peer 5 c) from rfl)) $$ B5
        iapply (wait_copy fm (defs₀ (F := F)) 𝒱₀ none ER (pay A) (κ := κ) c 13 ((((((((recvs).erase 7).erase 8).erase 10).erase 12).erase 9).erase 11).erase 13) (by decide) rfl (credit _)) $$ [C13 HO P13]
        · isplitr; · iexact HR
          isplitr; · iexact HL
          isplitl [C13]; · iexact C13
          isplitl [HO]; · iexact HO
          iexact P13
        iintro ⟨HO, P13, B7⟩
        ihave B7 := (Entails.of_eq (show pay A c 13 = landed blk (part A) c (peer 7 c) from rfl)) $$ B7
        iapply (wait_copy fm (defs₀ (F := F)) 𝒱₀ none ER (pay A) (κ := κ) c 0 ((((((((recvs).erase 7).erase 8).erase 10).erase 12).erase 9).erase 11).erase 13) (by decide) rfl (credit _)) $$ [C0 HO P0]
        · isplitr; · iexact HR
          isplitr; · iexact HL
          isplitl [C0]; · iexact C0
          isplitl [HO]; · iexact HO
          iexact P0
        iintro ⟨HO, P0, L1⟩
        ihave L1 := (Entails.of_eq (show pay A c 0 = lent src A c 1 from rfl)) $$ L1
        iapply (wait_copy fm (defs₀ (F := F)) 𝒱₀ none ER (pay A) (κ := κ) c 1 ((((((((recvs).erase 7).erase 8).erase 10).erase 12).erase 9).erase 11).erase 13) (by decide) rfl (credit _)) $$ [C1 HO P1]
        · isplitr; · iexact HR
          isplitr; · iexact HL
          isplitl [C1]; · iexact C1
          isplitl [HO]; · iexact HO
          iexact P1
        iintro ⟨HO, P1, L2⟩
        ihave L2 := (Entails.of_eq (show pay A c 1 = lent src A c 2 from rfl)) $$ L2
        iapply (wait_copy fm (defs₀ (F := F)) 𝒱₀ none ER (pay A) (κ := κ) c 3 ((((((((recvs).erase 7).erase 8).erase 10).erase 12).erase 9).erase 11).erase 13) (by decide) rfl (credit _)) $$ [C3 HO P3]
        · isplitr; · iexact HR
          isplitr; · iexact HL
          isplitl [C3]; · iexact C3
          isplitl [HO]; · iexact HO
          iexact P3
        iintro ⟨HO, P3, L4⟩
        ihave L4 := (Entails.of_eq (show pay A c 3 = lent src A c 4 from rfl)) $$ L4
        iapply (wait_copy fm (defs₀ (F := F)) 𝒱₀ none ER (pay A) (κ := κ) c 5 ((((((((recvs).erase 7).erase 8).erase 10).erase 12).erase 9).erase 11).erase 13) (by decide) rfl (credit _)) $$ [C5 HO P5]
        · isplitr; · iexact HR
          isplitr; · iexact HL
          isplitl [C5]; · iexact C5
          isplitl [HO]; · iexact HO
          iexact P5
        iintro ⟨HO, P5, L6⟩
        ihave L6 := (Entails.of_eq (show pay A c 5 = lent src A c 6 from rfl)) $$ L6
        iapply (wait_copy fm (defs₀ (F := F)) 𝒱₀ none ER (pay A) (κ := κ) c 2 ((((((((recvs).erase 7).erase 8).erase 10).erase 12).erase 9).erase 11).erase 13) (by decide) rfl (credit _)) $$ [C2 HO P2]
        · isplitr; · iexact HR
          isplitr; · iexact HL
          isplitl [C2]; · iexact C2
          isplitl [HO]; · iexact HO
          iexact P2
        iintro ⟨HO, P2, B2⟩
        ihave B2 := (Entails.of_eq (show pay A c 2 = landed blk (part A) c (peer 2 c) from rfl)) $$ B2
        iapply (wait_copy fm (defs₀ (F := F)) 𝒱₀ none ER (pay A) (κ := κ) c 4 ((((((((recvs).erase 7).erase 8).erase 10).erase 12).erase 9).erase 11).erase 13) (by decide) rfl (credit _)) $$ [C4 HO P4]
        · isplitr; · iexact HR
          isplitr; · iexact HL
          isplitl [C4]; · iexact C4
          isplitl [HO]; · iexact HO
          iexact P4
        iintro ⟨HO, P4, B4⟩
        ihave B4 := (Entails.of_eq (show pay A c 4 = landed blk (part A) c (peer 4 c) from rfl)) $$ B4
        iapply (wait_copy fm (defs₀ (F := F)) 𝒱₀ none ER (pay A) (κ := κ) c 6 ((((((((recvs).erase 7).erase 8).erase 10).erase 12).erase 9).erase 11).erase 13) (by decide) rfl (credit _)) $$ [C6 HO P6]
        · isplitr; · iexact HR
          isplitr; · iexact HL
          isplitl [C6]; · iexact C6
          isplitl [HO]; · iexact HO
          iexact P6
        iintro ⟨HO, P6, B6⟩
        ihave B6 := (Entails.of_eq (show pay A c 6 = landed blk (part A) c (peer 6 c) from rfl)) $$ B6
        iapply (wait_copy fm (defs₀ (F := F)) 𝒱₀ none ER (pay A) (κ := κ) c 14 ((((((((recvs).erase 7).erase 8).erase 10).erase 12).erase 9).erase 11).erase 13) (by decide) rfl (credit _)) $$ [C14 HO P14]
        · isplitr; · iexact HR
          isplitr; · iexact HL
          isplitl [C14]; · iexact C14
          isplitl [HO]; · iexact HO
          iexact P14
        iintro ⟨HO, P14, B0⟩
        ihave B0 := (Entails.of_eq (show pay A c 14 = iprop(landed blk (part A) c c ∗ lent src A c 0) from rfl)) $$ B0
        icases B0 with ⟨B0, L0⟩
        rw [wp_ret]
        imod (leave fm ER (pay A) (κ := κ) c) $$ [P0 P1 P2 P3 P4 P5 P6 P7 P8 P9 P10 P11 P12 P13 P14] with Hz
        · isplitr; · iexact HR
          rw [fifteen]
          isplitl [P0]; · iexact P0
          isplitl [P1]; · iexact P1
          isplitl [P2]; · iexact P2
          isplitl [P3]; · iexact P3
          isplitl [P4]; · iexact P4
          isplitl [P5]; · iexact P5
          isplitl [P6]; · iexact P6
          isplitl [P7]; · iexact P7
          isplitl [P8]; · iexact P8
          isplitl [P9]; · iexact P9
          isplitl [P10]; · iexact P10
          isplitl [P11]; · iexact P11
          isplitl [P12]; · iexact P12
          isplitl [P13]; · iexact P13
          iexact P14
        imodintro
        isplitr [HO]
        · unfold after
          rw [eight c]
          isplitl [B0 B1 B2 B3 B4 B5 B6 B7]
          · isplitl [B0]; · iexact B0
            isplitl [B1]; · iexact B1
            isplitl [B2]; · iexact B2
            isplitl [B3]; · iexact B3
            isplitl [B4]; · iexact B4
            isplitl [B5]; · iexact B5
            isplitl [B6]; · iexact B6
            iexact B7
          isplitl [L0 L1 L2 L4 L6]
          · isplitl [L0]; · iexact L0
            isplitl [L1]; · iexact L1
            isplitl [L2]; · iexact L2
            isplitl [L4]; · iexact L4
            iexact L6
          iexact Hz
        · iexists _
          iapply (Entails.of_eq (congrArg (fun O => owes (c.tc : Thread nD τ) O _) (debt_empty fm c))); iexact HO
      iintro %_ He
      iapply Hk
      isplitl [He]; · iexact He
      isplitl [Hw Hy Hv]
      · isplitl [Hw]; · iexact Hw
        isplitl [Hy]; · iexact Hy
        iexact Hv
      isplitl [H1]; · iexact H1
      isplitl [H2]; · iexact H2
      isplitl [H5]; · iexact H5
      isplitl [H6]; · iexact H6
      iexact H7
    · simp only [cc0_in_proj_fwd_eq_skeleton, cc0_in_proj_fwd_skel, k0_part28_eq_skeleton, k0_part28_skel, k0_part29_eq_skeleton, k0_part29_skel, ↓dif_neg h1, ↓dif_neg h2, ↓dif_neg h3, Prog.bind_lift, Prog.bind_op, Prog.bind_ret, Prog.bind_assoc, wp_deviceId, pure_bind', pure_ret]
      iintro ⟨He, ⟨Hw, Hy, Hv⟩, H1, H2, H5, H6, H7, Hk⟩
      iapply (load_whole (defs₀ (F := F)) 𝒱₀ none c arg1 fullShare x1) $$ H1
      iintro H1
      iapply (load_whole (defs₀ (F := F)) 𝒱₀ none c arg2 fullShare x2) $$ H2
      iintro H2
      iapply (load_whole (defs₀ (F := F)) 𝒱₀ none c arg6 fullShare x6) $$ H6
      iintro H6
      iapply (store_whole (defs₀ (F := F)) 𝒱₀ none c arg6 x6 (k0_pay4 x1 x2)) $$ H6
      iintro H6
      iapply (load_whole (defs₀ (F := F)) 𝒱₀ none c arg7 fullShare x7) $$ H7
      iintro H7
      iapply (store_whole (defs₀ (F := F)) 𝒱₀ none c arg7 x7 (k0_pay3 x1)) $$ H7
      iintro H7
      iapply (block_step c arg5 x5 (k0_pay4 x1 x2) y (k0_pay5 x1 x2) 0 0 640 rfl (col0 x1 x2 y) (fun _ h => absurd h (Nat.not_lt_zero _))) $$ [Hy H5]
      · isplitl [Hy] <;> iassumption
      iintro ⟨Hy, %z1, %g1, H5⟩
      iapply (block_step c arg5 z1 (k0_pay4 x1 x2) y (k0_pay6 (k0_pay4 x1 x2)) 1 640 1280 rfl (col1 (k0_pay4 x1 x2) y) g1) $$ [Hy H5]
      · isplitl [Hy] <;> iassumption
      iintro ⟨Hy, %z2, %g2, H5⟩
      iapply (block_step c arg5 z2 (k0_pay4 x1 x2) y (k0_pay7 (k0_pay4 x1 x2)) 2 1280 1920 rfl (col2 (k0_pay4 x1 x2) y) g2) $$ [Hy H5]
      · isplitl [Hy] <;> iassumption
      iintro ⟨Hy, %z3, %g3, H5⟩
      iapply (block_step c arg5 z3 (k0_pay4 x1 x2) y (k0_pay8 (k0_pay4 x1 x2)) 3 1920 2560 rfl (col3 (k0_pay4 x1 x2) y) g3) $$ [Hy H5]
      · isplitl [Hy] <;> iassumption
      iintro ⟨Hy, %z4, %g4, H5⟩
      iapply (block_step c arg5 z4 (k0_pay4 x1 x2) y (k0_pay9 (k0_pay4 x1 x2)) 4 2560 3200 rfl (col4 (k0_pay4 x1 x2) y) g4) $$ [Hy H5]
      · isplitl [Hy] <;> iassumption
      iintro ⟨Hy, %z5, %g5, H5⟩
      iapply (block_step c arg5 z5 (k0_pay4 x1 x2) y (k0_pay10 (k0_pay4 x1 x2)) 5 3200 3840 rfl (col5 (k0_pay4 x1 x2) y) g5) $$ [Hy H5]
      · isplitl [Hy] <;> iassumption
      iintro ⟨Hy, %z6, %g6, H5⟩
      iapply (block_step c arg5 z6 (k0_pay4 x1 x2) y (k0_pay11 (k0_pay4 x1 x2)) 6 3840 4480 rfl (col6 (k0_pay4 x1 x2) y) g6) $$ [Hy H5]
      · isplitl [Hy] <;> iassumption
      iintro ⟨Hy, %z7, %g7, H5⟩
      iapply (block_step c arg5 z7 (k0_pay4 x1 x2) y (k0_pay1 (k0_pay4 x1 x2)) 7 4480 5120 rfl (col7 (k0_pay4 x1 x2) y) g7) $$ [Hy H5]
      · isplitl [Hy] <;> iassumption
      iintro ⟨Hy, %z8, %g8, H5⟩
      obtain rfl : z8 = proj (k0_pay4 x1 x2) y := funext fun y => g8 y (y 1).isLt
      rw [wp_ret]
      imodintro
      unfold depart
      rw [if_neg h3]
      iapply Hk
      isplitl [He]; · iexact He
      isplitl [Hw Hy Hv]
      · isplitl [Hw]; · iexact Hw
        isplitl [Hy]; · iexact Hy
        iexact Hv
      isplitl [H1]; · iexact H1
      isplitl [H2]; · iexact H2
      isplitl [H5]; · iexact H5
      isplitl [H6]; · iexact H6
      iexact H7

end Run

end ProjFwd

end
-- ==== Proof.ProjFwdLaunch.lean ====
/-
  The input projection's forward product with the gather of the gate's weight on all devices: the launch, and what memory
  holds at the end.
-/
module

public import proofs.«01_k».proof.Proof.ProjFwdRun
public import proofs.«01_k».proof.Proof.Launch
public import Idealize.ShloMosaic.Lib.Ring

@[expose] public section

set_option Elab.async false

noncomputable section

namespace ProjFwd

open Idealize.ShloMosaic
open Idealize.ShloMosaic.TcCoe
open Idealize.ShloMosaic.Rounds
open Idealize.SL Idealize.SL.RA Idealize.SL.BI
open scoped Idealize.SL.BI
open Idealize.SL.BI.BIBase Idealize.SL.BI.Laws Idealize.SL.ProofMode Idealize.SL.Sem
open Cert.ProjFwdIdeal Cert.ProjFwdIdeal.Gen
open Exchange
open Idealize.ShloMosaic.Pipeline

variable {F : FTy → Type} [FloatOps F]

/-! ## The eight blocks of the result -/

/-- The elements of block `j`. -/
def cut (j : Fin 8) : Finset S8x2048x704.Idx := (rect j).set

theorem set_blk (j : Fin 8) : (blk j).view.set = cut j := by
  show (((Memref.whole main_v1_3).view.slice _).reshape _ _).set = _
  rw [View.set_reshape]
  exact View.set_slice_whole _ _

theorem cut_disjoint (j j' : Fin 8) (h : j ≠ j') : Disjoint (cut j) (cut j') :=
  Ring.lead_disjoint (s := S8x2048x704) (NB := 8) 0 1 (fun j => ![j.val, 0, 0]) S1x2048x704.size inb (fun b => (Nat.one_mul _).symm) rfl j j' h

theorem cut_cover : Finset.univ.biUnion cut = Finset.univ :=
  Ring.lead_cover (s := S8x2048x704) (NB := 8) 0 1 (fun j => ![j.val, 0, 0]) S1x2048x704.size inb (fun b => (Nat.one_mul _).symm)
    (by intro b a h; fin_cases a <;> first | exact absurd rfl h | rfl) rfl (by intro a h; fin_cases a <;> first | exact absurd rfl h | rfl) rfl

/-! ## Splitting the result and the argument -/

/-- The gathered result on a device, and what it sends. -/
abbrev got (c : Dev nD) : Loc nD τ sig := ((c.tc : Thread nD τ)).loc main_v1_3
abbrev sent (c : Dev nD) : Loc nD τ sig := ((c.tc : Thread nD τ)).loc main_arg3

omit [FloatOps F] in
/-- The result, whole, is room for every block. -/
theorem split_room (c : Dev nD) (f : Buf (Elt F) (got c)) :
    (got c ↦{fullShare} f : sProp (M F)) ⊢ bigSep Finset.univ fun j : Fin 8 => free blk c j := by
  have e : (got c ↦{fullShare} f : sProp (M F)) = bigSep Finset.univ fun j => (got c ↦[cut j]{fullShare} f) := by
    have h := pointsTo_biUnion (ℓ := got c) (q := fullShare) (f := f) (Ix := Unit) (Name := ℕ) (U := UU) (Lvl := ℕ) Finset.univ cut fun j _ j' _ h => cut_disjoint j j' h
    rw [← h, cut_cover]
  rw [e]
  refine bigSep_mono fun j _ => ?_
  show (got c ↦[cut j]{fullShare} f : sProp (M F)) ⊢ free blk c j
  unfold free room at'
  rw [set_blk]
  iintro H
  iexists f
  iexact H

omit [FloatOps F] in
theorem rooms (c : Dev nD) (f : Buf (Elt F) (got c)) :
    (got c ↦{fullShare} f : sProp (M F)) ⊢ bigSep Finset.univ fun k : Fin 15 => sibRoom blk c k := by
  refine (split_room c f).trans ?_
  rw [eight c, fifteen]
  simp only [sibRoom]
  iintro ⟨H0, H1, H2, H3, H4, H5, H6, H7⟩
  iterate 7 isplitr; · iempintro
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H0

omit [FloatOps F] in
/-- The landed blocks are the result, whole. -/
theorem join_landed (A : ∀ c : Dev nD, Buf (Elt F) (src.view.loc (c.tc : Thread nD τ))) (c : Dev nD) :
    (bigSep Finset.univ fun j : Fin 8 => landed blk (part A) c j)
      ⊢ (iprop(∃ f : Buf (Elt F) (got c), ⌜∀ j, (blk j).view.read (Elt F) f = part A j⌝ ∗ got c ↦{fullShare} f) : sProp (M F)) := by
  have e : (bigSep Finset.univ fun j : Fin 8 => landed blk (part A) c j : sProp (M F))
      = bigSep Finset.univ fun j : Fin 8 => iprop(∃ f : Buf (Elt F) (got c), ⌜(blk j).view.read (Elt F) f = part A j⌝ ∗ got c ↦[cut j]{fullShare} f) := by
    refine bigSep_congr fun j _ => ?_
    unfold landed holds at'
    rw [set_blk]
  rw [e]
  haveI : Nonempty (Buf (Elt F) (got c)) := ⟨fun _ => (A c (fun a => ⟨0, by revert a; show ∀ a : Fin 2, 0 < S2048x704.size a; decide⟩) : Elt F .bf16)⟩
  iintro H
  ihave H := (BI.bigSep_exists_pi Finset.univ (fun (j : Fin 8) (f : Buf (Elt F) (got c)) =>
    iprop(⌜(blk j).view.read (Elt F) f = part A j⌝ ∗ got c ↦[cut j]{fullShare} f : sProp (M F)))) $$ H
  icases H with ⟨%fs, H⟩
  ihave H := (bigSep_pure_sep Finset.univ (fun j : Fin 8 => (blk j).view.read (Elt F) (fs j) = part A j)
    (fun j => (got c ↦[cut j]{fullShare} fs j : sProp (M F)))) $$ H
  icases H with ⟨%hp, H⟩
  ihave H := (pointsTo_biUnion_join Finset.univ cut fs (fs 0) fun j _ j' _ h => cut_disjoint j j' h) $$ H
  icases H with ⟨%g, %hg, H⟩
  iexists g
  isplitr
  · ipureintro
    intro j
    rw [← hp j (Finset.mem_univ j)]
    refine View.read_congr fun i hi => hg j (Finset.mem_univ j) i ?_
    rw [← set_blk]; exact hi
  · rw [cut_cover]; iexact H

omit [FloatOps F] in
/-- The argument's shares. -/
theorem lend (A : ∀ c : Dev nD, Buf (Elt F) (src.view.loc (c.tc : Thread nD τ))) (c : Dev nD) :
    (sent c ↦{fullShare} A c : sProp (M F))
      = iprop(lent src A c 0 ∗ lent src A c 1 ∗ lent src A c 2 ∗ lent src A c 4 ∗ lent src A c 6) := by
  unfold lent at'
  rw [show src.view.set = Finset.univ from View.set_whole _]
  rw [Transfers.pointsTo_deal parts (by decide) fullShare]
  rw [show parts = {0, 1, 2, 4, 6} from rfl]
  iterate 4 rw [bigSep_insert (by decide)]
  rw [bigSep_singleton]
  rfl

/-! ## The region's data -/

section Launch

variable (m : (ℓ : Loc nD τ sig) → Buf (Elt F) ℓ) (ρ : Dev nD → PrngReg)

/-- The gather's argument at launch. -/
def arg (c : Dev nD) : Buf (Elt F) (src.view.loc (c.tc : Thread nD τ)) := m ((c.tc : Thread nD τ).loc main_arg3)

/-- The gather before grid point `n`. -/
def state (n : ℕ) (c : Dev nD) : sProp (M F) :=
  if n = 0 then iprop(∃ κ, before (arg m) κ c)
  else if n = 32 then after (arg m) c
  else flying (arg m) c

/-- What a device owes before grid point `n`. -/
def debts (n : ℕ) (c : Dev nD) : CellTallies nD τ sig Unit := if n = 0 then debt fm recvs c else if n = 32 then 0 else debt fm owedOn c

theorem first (t : Fin cfg0.N) : k0_cond1 (grid0.coords t) = 1#1 ↔ t.val = 0 := by
  revert t; decide +kernel
theorem last (t : Fin cfg0.N) : k0_cond3 (grid0.coords t) = 1#1 ↔ t.val + 1 = 32 := by
  revert t; decide +kernel

theorem enter_point (t : Fin cfg0.N) (c : Dev nD) :
    iprop(state m t.val c ∗ ∃ W, owes (c.tc : Thread nD τ) (debts t.val c) W) ⊢ entry (arg m) (grid0.coords t) c := by
  have hN : t.val < 32 := t.isLt
  unfold entry state debts
  by_cases h : t.val = 0
  · rw [if_pos h, if_pos h, if_pos ((first t).mpr h)]
  · rw [if_neg h, if_neg h, if_neg (fun e => h ((first t).mp e)), if_neg (by omega), if_neg (by omega)]

theorem leave_point (t : Fin cfg0.N) (c : Dev nD) :
    depart (arg m) (grid0.coords t) c ⊢ iprop(state m (t.val + 1) c ∗ ∃ W, owes (c.tc : Thread nD τ) (debts (t.val + 1) c) W) := by
  unfold depart state debts
  rw [if_neg (Nat.succ_ne_zero _), if_neg (Nat.succ_ne_zero _)]
  by_cases h : t.val + 1 = 32
  · rw [if_pos h, if_pos h, if_pos ((last t).mpr h)]
  · rw [if_neg h, if_neg h, if_neg (fun e => h ((last t).mp e))]

/-- The projection's weight on a device. -/
def weight (c : Dev nD) : Vec F S8x2048x640 .bf16 := m ((c.tc : Thread nD τ).loc main_arg2)

theorem starts (t : Fin cfg0.N) : fresh (grid0.coords t) = 1#1 ↔ t.val = 0 := by
  revert t; decide +kernel
theorem first_starts (t : Fin cfg0.N) : k0_cond1 (grid0.coords t) = 1#1 ↔ fresh (grid0.coords t) = 1#1 := (first t).trans (starts t).symm
theorem last_late (t : Fin cfg0.N) (h : k0_cond3 (grid0.coords t) = 1#1) : ¬ fresh (grid0.coords t) = 1#1 := fun e => by
  have h1 := (starts t).mp e
  have h2 := (last t).mp h
  omega

/-- The weight's own place, the buffer it is fetched into and the semaphore of the fetch before grid point `n`. -/
def scratch (n : ℕ) (c : Dev nD) : sProp (M F) :=
  iprop(∃ y : Vec F S8x2048x640 .bf16, ⌜¬ n = 0 → y = weight m c⌝ ∗ owns (c.tc : Thread nD τ) (Memref.whole main_arg2) fullShare (weight m c)
    ∗ owns (c.tc : Thread nD τ) (Memref.whole cc0_scratch0) fullShare y ∗ semVal ((c.tc : Thread nD τ), .dma (9 : Fin 25)) 0)

/-- The weight's own place and the semaphore of the fetch. -/
def kept (c : Dev nD) : sProp (M F) :=
  iprop(((c.tc : Thread nD τ).loc main_arg2 ↦{fullShare} m ((c.tc : Thread nD τ).loc main_arg2)) ∗ semVal ((c.tc : Thread nD τ), .dma (9 : Fin 25)) 0)

theorem scratch_intro (c : Dev nD) : iprop(scopedRest cfg0.spec c ∗ kept m c) ⊢ scratch m 0 c := by
  rw [scopedRest0_eq]
  unfold scratch kept
  iintro ⟨⟨%f, Hf⟩, Ha, Hv⟩
  iexists f
  isplitr; · ipureintro; exact fun h => absurd rfl h
  isplitl [Ha]
  · iapply (Entails.of_eq (owns_whole (c.tc : Thread nD τ) main_arg2 fullShare _).symm); iexact Ha
  isplitl [Hf]
  · iapply (Entails.of_eq (owns_whole (c.tc : Thread nD τ) cc0_scratch0 fullShare f).symm); iexact Hf
  iexact Hv

theorem scratch_elim (c : Dev nD) : scratch m 32 c ⊢ iprop(scopedRest cfg0.spec c ∗ kept m c) := by
  rw [scopedRest0_eq]
  unfold scratch kept
  iintro ⟨%f, -, Ha, Hf, Hv⟩
  isplitl [Hf]
  · iexists f
    iapply (Entails.of_eq (owns_whole (c.tc : Thread nD τ) cc0_scratch0 fullShare f)); iexact Hf
  isplitl [Ha]
  · iapply (Entails.of_eq (owns_whole (c.tc : Thread nD τ) main_arg2 fullShare (weight m c))); iexact Ha
  iexact Hv

def dats (_ : Fin 1) (c : Dev nD) : Dat τ (Elt F) Unit ℕ UU ℕ cfg0 c where
  A w := m ((cfg0.win w).arr.view.loc (c.tc : Thread nD τ))
  after w t := match w with
    | 0 => iblk m c 0 t
    | 1 => iblk m c 1 t
    | 2 => proj (k0_pay4 (iblk m c 0 t) (iblk m c 1 t)) (weight m c)
    | 3 => k0_pay4 (iblk m c 0 t) (iblk m c 1 t)
    | 4 => k0_pay3 (iblk m c 0 t)
    | ⟨_ + 5, h⟩ => absurd h (Nat.not_lt.2 (Nat.le_add_left _ _))
  Φ t := iprop(state m t.val c ∗ scratch m t.val c)
  q _ := fullShare
  owed t := debts t.val c

theorem share_full (c : Dev nD) (w : Fin 5) : (dats m 0 c).share w = fullShare := by
  unfold Dat.share
  exact ite_self _

theorem before0 (c : Dev nD) (t : Fin cfg0.N) (d) : (dats m 0 c).before 0 t d = iblk m c 0 t :=
  ((dats m 0 c).before_in_eq_fetched 0 rfl (fun _ => rfl) (fun _ _ _ => rfl) (fun _ => rfl) t d).trans rfl

theorem before1 (c : Dev nD) (t : Fin cfg0.N) (d) : (dats m 0 c).before 1 t d = iblk m c 1 t :=
  ((dats m 0 c).before_in_eq_fetched 1 rfl (fun _ => rfl) (fun _ _ _ => rfl) (fun _ => rfl) t d).trans rfl

set_option maxRecDepth 20000 in
theorem body_obligation (c : Dev nD) : Pipeline.BodyObligation (dats m 0 c) (defs₀ (F := F)) 𝒱₀ () Set.univ := by
  intro t
  rw [bigSep_W0, bigSep_W0]
  show iprop((state m t.val c ∗ scratch m t.val c) ∗ _ ∗ _) ⊢ wp frame (wpE (defs₀ (F := F)) 𝒱₀ c.tc none) Set.univ (bodyAt0 t) _
  iintro ⟨⟨Hst, Hsc⟩, Ho, ⟨%d0, H0⟩, ⟨%d1, H1⟩, ⟨%d2, H2⟩, ⟨%d3, H3⟩, ⟨%d4, H4⟩⟩
  ihave Hsc := (Entails.of_eq (show scratch m t.val c = _ from by unfold scratch; rfl)) $$ Hsc
  icases Hsc with ⟨%y, %hy, Hw, Hy, Hv⟩
  ihave Ho := (Entails.of_eq (show (dats m 0 c).owesAt () t.castSucc = _ from by unfold Pipeline.Dat.owesAt Pipeline.owesWithin; rfl)) $$ Ho
  icases Ho with ⟨%W, -, Ho⟩
  ihave He := (enter_point m t c) $$ [Hst Ho]
  · isplitl [Hst]; · iexact Hst
    iexists W; iexact Ho
  iapply (run_body (arg m) (grid0.coords t) c (first_starts t) (last_late t) _ _ _ _ _ _ _ _ _ _ (iblk m c 0 t) (iblk m c 1 t) _ _ _
    (weight m c) y (fun h => hy fun e => h ((starts t).mpr e)) _)
  isplitl [He]; · iexact He
  isplitl [Hw Hy Hv]
  · isplitl [Hw]; · iexact Hw
    isplitl [Hy]; · iexact Hy
    iexact Hv
  isplitl [H0]; · rw [← before0 m c t d0]; iexact H0
  isplitl [H1]; · rw [← before1 m c t d1]; iexact H1
  isplitl [H2]; · iexact H2
  isplitl [H3]; · iexact H3
  isplitl [H4]; · iexact H4
  iintro ⟨He, ⟨Hw, Hy, Hv⟩, H0, H1, H2, H3, H4⟩
  ihave He := (leave_point m t c) $$ He
  icases He with ⟨Hst, ⟨%W', Ho⟩⟩
  isplitl [Hst Hw Hy Hv]
  · iapply (Entails.of_eq (show (iprop(state m (t.val + 1) c ∗ scratch m (t.val + 1) c) : sProp (M F)) = (dats m 0 c).Φ t.succ from rfl))
    isplitl [Hst]; · iexact Hst
    unfold scratch
    iexists weight m c
    isplitr; · ipureintro; exact fun _ => rfl
    isplitl [Hw]; · iexact Hw
    isplitl [Hy]; · iexact Hy
    iexact Hv
  isplitl [Ho]
  · unfold Pipeline.Dat.owesAt Pipeline.owesWithin
    iexists W'
    isplitr; · ipureintro; exact fun _ _ => Or.inl trivial
    iexact Ho
  isplitl [H0]; · iexact H0
  isplitl [H1]; · iexact H1
  isplitl [H2]; · iexact H2
  isplitl [H3]; · iexact H3
  iexact H4

/-! ## The launch -/

/-- The ghost state at launch. -/
def u₀ : UU :=
  (initOf (PerCore.cells (nD := nD) (τ := τ) (fun _ => cfgs) cellOf_inj) (PerCore.launchToks (nD := nD) (τ := τ) (fun _ => cfgs) cellOf_inj), initOf (cells fm) (toks fm), 1)

/-- The kernel's semaphores: the fetch's and the gather's. -/
def osem : Unit ⊕ Fin 15 → SemLoc sig := Sum.elim (fun _ => .dma (9 : Fin 25)) sem

omit [FloatOps F] in
theorem osems (c : Dev nD) : (ownSems0 osem c : sProp (M F)) = iprop(semVal ((c.tc : Thread nD τ), .dma (9 : Fin 25)) 0 ∗ ownSems0 sem c) := by
  unfold ownSems0
  rw [BI.bigSep_univ_sum, Finset.univ_unique, BI.bigSep_singleton]
  rfl

/-- What the launch gives device `c`. -/
def G' (c : Dev nD) : sProp (M F) :=
  iprop(((∃ κ, records fm ER (pay (arg m)) κ) ∗ share fm ER (sibRoom blk) c) ∗ ((c.tc : Thread nD τ).loc main_arg3 ↦{fullShare} arg m c) ∗ kept m c)

theorem glob : iprop((bigSep Finset.univ fun c => iprop(ownSems0 (Ix := Unit) (Name := ℕ) (U := UU) (Lvl := ℕ) (Val := Elt F) (τ := τ) osem c ∗ unscopedSems0 c
          ∗ unscopedRest cfg0.spec c (fun b => m ((c.tc : Thread nD τ).loc b)))) ∗ bigSep Finset.univ (dealt fm ER (pay (arg m))) : sProp (M F))
        ⊢ |={Set.univ}=> bigSep Finset.univ (G' m) := by
  simp only [unscopedRest0_eq, osems]
  rw [bigSep_sep', bigSep_sep', bigSep_sep', bigSep_sep', bigSep_sep']
  iintro ⟨⟨⟨Hk, Hs⟩, -, Hw, Ha, Hv⟩, Hd⟩
  ihave Hr := (show (bigSep Finset.univ fun c : Dev nD => ((c.tc : Thread nD τ).loc main_v1_3 ↦{fullShare} m ((c.tc : Thread nD τ).loc main_v1_3) : sProp (M F)))
      ⊢ bigSep Finset.univ fun c : Dev nD => bigSep Finset.univ fun k : Fin 15 => sibRoom blk c k
    from bigSep_mono fun c _ => rooms c _) $$ Hv
  imod (deal_once fm ER (pay (arg m)) (sibRoom blk)) $$ [Hs Hd Hr] with H
  · isplitl [Hs]; · iexact Hs
    isplitl [Hd]; · iexact Hd
    iexact Hr
  imodintro
  iapply (Entails.of_eq (show iprop((bigSep Finset.univ fun c : Dev nD => iprop((∃ κ, records fm ER (pay (arg m)) κ) ∗ share fm ER (sibRoom blk) c))
      ∗ (bigSep Finset.univ fun c : Dev nD => ((c.tc : Thread nD τ).loc main_arg3 ↦{fullShare} arg m c)) ∗ (bigSep Finset.univ fun c => kept m c)) = bigSep Finset.univ (G' m) from by
    rw [← bigSep_sep', ← bigSep_sep']; rfl))
  isplitl [H]; · iexact H
  isplitl [Ha]; · iexact Ha
  iapply (Entails.of_eq (show iprop((bigSep Finset.univ fun c : Dev nD => ((c.tc : Thread nD τ).loc main_arg2 ↦{fullShare} m ((c.tc : Thread nD τ).loc main_arg2)))
      ∗ (bigSep Finset.univ fun c : Dev nD => semVal ((c.tc : Thread nD τ), .dma (9 : Fin 25)) 0)) = (bigSep Finset.univ fun c => kept m c : sProp (M F)) from by
    rw [← bigSep_sep']; rfl))
  isplitl [Hw]; · iexact Hw
  iexact Hk

theorem enter (c : Dev nD) :
    iprop(levAts lset (lval fm) ∗ launchCred (fun d => debt fm recvs d) c ∗ prngReg c (ρ c) ∗ G' m c ∗ scopedRest cfg0.spec c) ⊢ (dats m 0 c).Φ 0 := by
  show _ ⊢ (iprop(state m 0 c ∗ scratch m 0 c) : sProp (M F))
  unfold G' state
  rw [if_pos rfl]
  iintro ⟨Hl, Hc, -, ⟨⟨⟨%κ, Hr⟩, Hsh⟩, Ha, Hk⟩, Hx⟩
  ihave Hc := (creds fm recvs c) $$ Hc
  ihave Ha := (Entails.of_eq (lend (arg m) c)) $$ Ha
  isplitr [Hx Hk]
  swap
  · iapply (scratch_intro m c)
    isplitl [Hx]; · iexact Hx
    iexact Hk
  iexists κ
  unfold share before
  icases Hsh with ⟨Hp, Ht⟩
  ihave Ht := (sibToks_intro sem sem_inj units units_pos ER blk c) $$ Ht
  isplitl [Hr]; · iexact Hr
  isplitl [Hl]; · iexact Hl
  isplitl [Hp]; · iexact Hp
  isplitl [Ht]; · iexact Ht
  isplitl [Hc]; · iexact Hc
  iexact Ha

/-- The gather's buffers and the weight on a device at the end. -/
def held (c : Dev nD) : sProp (M F) :=
  iprop((∃ f : Buf (Elt F) ((c.tc : Thread nD τ).loc main_v1_3), ⌜∀ j, (blk j).view.read (Elt F) f = part (arg m) j⌝ ∗ (c.tc : Thread nD τ).loc main_v1_3 ↦{fullShare} f)
    ∗ ((c.tc : Thread nD τ).loc main_arg3 ↦{fullShare} arg m c) ∗ (c.tc : Thread nD τ).loc main_arg2 ↦{fullShare} m ((c.tc : Thread nD τ).loc main_arg2))

theorem exits (c : Dev nD) :
    (dats m 0 c).Φ (Fin.last cfg0.N) ⊢ iprop(held m c ∗ ownSems0 osem c ∗ scopedRest cfg0.spec c) := by
  show (iprop(state m 32 c ∗ scratch m 32 c) : sProp (M F)) ⊢ _
  unfold state after held
  rw [if_neg (by decide), if_pos rfl]
  iintro ⟨⟨Hb, Ha, Hs⟩, Hx⟩
  ihave Hb := (join_landed (arg m) c) $$ Hb
  ihave Ha := (Entails.of_eq (lend (arg m) c).symm) $$ Ha
  ihave Hx := (scratch_elim m c) $$ Hx
  unfold kept
  icases Hx with ⟨Hx, Hw, Hk⟩
  isplitl [Hb Ha Hw]
  · isplitl [Hb]; · iexact Hb
    isplitl [Ha]; · iexact Ha
    iexact Hw
  isplitl [Hs Hk]
  · rw [osems]
    isplitl [Hk]; · iexact Hk
    iexact Hs
  iexact Hx

/-- The memory on device `c` at the end: block `j` of the gathered result is what device `j` holds, its argument and the weight are as they were. -/
def Ends (c : Dev nD) (s : MemSt nD τ sig (Elt F)) : Prop :=
  (∀ j, (blk j).view.read (Elt F) (s.mem ((c.tc : Thread nD τ).loc main_v1_3)) = part (arg m) j)
    ∧ s.mem ((c.tc : Thread nD τ).loc main_arg3) = m ((c.tc : Thread nD τ).loc main_arg3)
    ∧ s.mem ((c.tc : Thread nD τ).loc main_arg2) = m ((c.tc : Thread nD τ).loc main_arg2)

theorem ends (c : Dev nD) (s' : Phys nD τ sig (Elt F)) :
    iprop(held m c ∗ SI s') ⊢ (|={Set.univ}=> iprop(⌜Ends m c s'.mem⌝ ∗ SI s') : sProp (M F)) := by
  unfold held
  iintro ⟨⟨⟨%f, %hf, Hv⟩, Ha, Hw⟩, HS⟩
  ihave H := (agree s' _ _) $$ [Hv HS]
  · isplitl [Hv] <;> iassumption
  icases H with ⟨%hv, HS⟩
  ihave H := (agree s' _ _) $$ [Ha HS]
  · isplitl [Ha] <;> iassumption
  icases H with ⟨%ha, HS⟩
  ihave H := (agree s' _ _) $$ [Hw HS]
  · isplitl [Hw] <;> iassumption
  icases H with ⟨%hw, HS⟩
  imodintro
  isplitr
  · ipureintro
    exact ⟨fun j => by rw [hv]; exact hf j, ha, hw⟩
  · iexact HS

theorem stage_sem : ∀ (w : Fin 5) (s : Fin (spec0 w).nbuf) (k : Fin 15), (.dma ((spec0 w).sem s) : SemLoc sig) ≠ sem k := by decide

theorem waits (c : Dev nD) : (levAts lset (lval fm) : sProp (M F)) ⊢ PerCore.cellsWaits (fun _ : Dev nD => cfgs) (dats m) () 0 c :=
  PerCore.cellsWaits_intro (fun _ : Dev nD => cfgs) (dats m) () 0 c fun w s t => by
    show _ ⊢ MayWait (c.tc : Thread nD τ) (.dma ((spec0 w).sem s)) () (debts t.val c)
    unfold debts
    split
    · exact mayWait_other fm recvs c _ (stage_sem w s) (by decide)
    split
    · rw [MayWait_zero]
      iintro -
      iempintro
    · exact mayWait_other fm owedOn c _ (stage_sem w s) (by decide)

set_option maxRecDepth 20000 in
/-- From any memory with zero counters every fair execution ends; at its end every device's windowed arrays hold what the grid
    wrote, the gather has happened, and every counter is at zero. -/
theorem run_main : θ_run defs (onTc (τ := τ) (main (F := F))) ⟨m, fun _ => 0, ρ⟩ (fun r =>
    (∀ c : Dev nD, (∀ w, r.2.mem ((spec0 w).arr.view.loc (c.tc : Thread nD τ)) = (dats m 0 c).arrAt w cfg0.N) ∧ Ends m c r.2) ∧ r.2.sem = fun _ => 0) :=
  run_exchange cfgs (dats m) () cellOf_inj (0 : Fin 1) EP defs₀ 𝒱₀
    winFacts0.to₀ (osem := osem) (by decide) m ρ main (fun _ => rfl)
    (fun c => (body_obligation m c).loose) block_pos0 arr_whole0 stage_whole0
    (fun c w => share_full m c w) winFacts0.arr_inj
    (fun d => debt fm recvs d) (fun _ => rfl) (fun _ => rfl)
    lset (lval fm) lset_ne (waits m) (dealt fm ER (pay (arg m))) (G' m) u₀
    (by
      unfold u₀
      iintro Hu
      ihave H := (ownU_pair _ _) $$ Hu
      icases H with ⟨HP, HX⟩
      ihave HX := (own_pair_emb embR _ _) $$ HX
      icases HX with ⟨HX, -⟩
      imod (fund_once fm ER (pay (arg m))) $$ HX with HG
      imodintro
      isplitl [HP] <;> iassumption)
    (glob m) (fun _ _ => rfl) (held m) (enter m ρ) (exits m) (Ends m) (ends m)
    (fun s h hs => ⟨h, sem_eq_zero_of_scoped (by decide) hs⟩)

/-- The arrays the windows only read are as they were. -/
theorem run_in (c : Dev nD) (w : Fin 5) (hw : (spec0 w).isOut = false) : (dats m 0 c).arrAt w cfg0.N = m ((spec0 w).arr.view.loc (c.tc : Thread nD τ)) :=
  (dats m 0 c).arrAt_in w hw _

end Launch

end ProjFwd

end
-- ==== Proof.ProjFwdValue.lean ====
/-
  The values of the input projection's forward product: each device's part of the projections, of the normed rows and of their
  scales is the reference's at its tokens, and the gathered weight is the weight's columns cut into eight blocks.
-/
module

public import proofs.«01_k».proof.Proof.ProjFwdLaunch
public import Idealize.ShloMosaic.Lib.Pipeline.ValueKit
public import Idealize.ShloMosaic.Lib.ValueLayout
public import Idealize.ShloMosaic.Lib.Layout
public import Idealize.ShloMosaic.Lib.LayoutAt
public import proofs.«01_k».proof.Proof.Gen.ProjFwdReferenceIdeal.Run

@[expose] public section

set_option Elab.async false

noncomputable section

namespace ProjFwd

open Idealize.ShloMosaic
open Idealize.ShloMosaic.TcCoe
open Cert.ProjFwdIdeal Cert.ProjFwdIdeal.Gen
open Exchange

/-! ## The reference, at an index -/

/-- The reference's scale of every row. -/
def scales (x : FVec Ideal Cert.ProjFwdReferenceIdeal.S65536x2048 .f32) : FVec Ideal Cert.ProjFwdReferenceIdeal.S65536x1 .f32 :=
  open Cert.ProjFwdReferenceIdeal Cert.ProjFwdReferenceIdeal.Gen in
  Host.rsqrt (addf (Host.divf (broadcastInDim S65536x1 ![0] bcast_S65536_S65536x1_0 (Host.reduceAdd (mulf x x) (constant Cert.ProjFwdReferenceIdeal.S_ .f32 0x00000000#32) reducesTo_S65536x2048_S65536_d1 h_S_))
    (broadcastInDim S65536x1 ![] bcast_S_S65536x1 (constant Cert.ProjFwdReferenceIdeal.S_ .f32 0x45000000#32)))
    (broadcastInDim S65536x1 ![] bcast_S_S65536x1 (constant Cert.ProjFwdReferenceIdeal.S_ .f32 0x358637BD#32)))

/-- The reference's normed rows. -/
def normed (x : FVec Ideal Cert.ProjFwdReferenceIdeal.S65536x2048 .f32) (g : FVec Ideal S1x2048 .f32) : FVec Ideal Cert.ProjFwdReferenceIdeal.S65536x2048 .bf16 :=
  open Cert.ProjFwdReferenceIdeal Cert.ProjFwdReferenceIdeal.Gen in
  truncf .bf16 (mulf (mulf x (broadcastInDim S65536x2048 ![0, 1] bcast_S65536x1_S65536x2048_0_1 (scales x)))
    (broadcastInDim S65536x2048 ![0, 1] bcast_S1x2048_S65536x2048_0_1 g)) Cert.ProjFwdReferenceIdeal.Gen.bitsLt_bf16_f32

/-- The reference's projections. -/
def prods (h : FVec Ideal Cert.ProjFwdReferenceIdeal.S65536x2048 .bf16) (w : FVec Ideal S8x2048x640 .bf16) : FVec Ideal Cert.ProjFwdReferenceIdeal.S65536x5120 .f32 :=
  open Cert.ProjFwdReferenceIdeal Cert.ProjFwdReferenceIdeal.Gen in
  Host.dotGeneral dot_S65536x2048_S2048x5120_S65536x5120_1_0_0_1_n_n none h
    (shapeCast _ (transpose S2048x8x640 [1, 0, 2] w transposes_S8x2048x640_S2048x8x640_1_0_2) shapeCasts_S2048x8x640_S2048x5120)

/-- A row's scale, from the row. -/
def scaleF (x : Fin 2048 → EReal) : EReal :=
  Ideal.rsqrt (Ideal.div (∑ k : Fin 2048, x k * x k) (Ideal.ofBits .f32 0x45000000#32) + Ideal.ofBits .f32 0x358637BD#32)

theorem scales_at (x : FVec Ideal Cert.ProjFwdReferenceIdeal.S65536x2048 .f32) (i : Fin 65536) :
    scales x (ix2 i (0 : Fin 1)) = scaleF fun k => x (ix2 i k) := by
  unfold scaleF
  pointwise [scales]

theorem normed_at (x : FVec Ideal Cert.ProjFwdReferenceIdeal.S65536x2048 .f32) (g : FVec Ideal S1x2048 .f32) (i : Fin 65536) (k : Fin 2048) :
    normed x g (ix2 i k) = (x (ix2 i k) * scaleF (fun k => x (ix2 i k)) * g (ix2 (0 : Fin 1) k) : EReal) := by
  rw [← scales_at]
  pointwise [normed]

theorem prods_at (h : FVec Ideal Cert.ProjFwdReferenceIdeal.S65536x2048 .bf16) (w : FVec Ideal S8x2048x640 .bf16) (i : Fin 65536) (q : Fin 5120) :
    prods h w (ix2 i q) = (∑ k : Fin 2048, h (ix2 i k) * w (ix3 (⟨q.val / 640, by omega⟩ : Fin 8) k (⟨q.val % 640, by omega⟩ : Fin 640)) : EReal) := by
  pointwise [prods]

/-! ## The kernel's tile, at an index -/

theorem scale_tile (x : Vec Ideal S256x2048 .f32) (j : Fin 256) : k0_pay3 x (ix2 j (0 : Fin 1)) = scaleF fun k => x (ix2 j k) := by
  unfold scaleF
  pointwise [k0_pay3, k0_pay2]

theorem normed_tile (x : Vec Ideal S256x2048 .f32) (g : Vec Ideal S1x2048 .f32) (j : Fin 256) (k : Fin 2048) :
    k0_pay4 x g (ix2 j k) = (x (ix2 j k) * scaleF (fun k => x (ix2 j k)) * g (ix2 (0 : Fin 1) k) : EReal) := by
  rw [← scale_tile]
  pointwise [k0_pay4, k0_pay2]

theorem block_tile (h : FVec Ideal S256x2048 .bf16) (w : Vec Ideal S8x2048x640 .bf16) (s : Fin 8) (j : Fin 256) (l : Fin 640) :
    k0_pay1 h (View.ld w (Rect.unit (s := S8x2048x640) ![s.val, 0, 0] S1x2048x640.size (wInb s))) (ix2 j l) = (∑ k : Fin 2048, h (ix2 j k) * w (ix3 s k l) : EReal) := by
  pointwise [k0_pay1]

theorem proj_tile (h : FVec Ideal S256x2048 .bf16) (w : Vec Ideal S8x2048x640 .bf16) (j : Fin 256) (q : Fin 5120) :
    proj h w (ix2 j q) = (∑ k : Fin 2048, h (ix2 j k) * w (ix3 (⟨q.val / 640, by omega⟩ : Fin 8) k (⟨q.val % 640, by omega⟩ : Fin 640)) : EReal) :=
  block_tile h w _ j _

/-! ## The windows, in the whole arrays -/

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![t.val, 0] := (by decide +kernel : ∀ t : Fin grid0.N, _)
theorem idx4 : ∀ t : Fin cfg0.N, win0_4.index t = ![t.val, 0] := (by decide +kernel : ∀ t : Fin grid0.N, _)

section values

variable (m : (ℓ : Loc nD τ sig) → Buf (Elt Ideal) ℓ) (c : Dev nD)

/-- The token's place in the whole array. -/
def place (c : Dev nD) (i : Fin 8192) : Fin 65536 := ⟨c.val * 8192 + i.val, by have h8 : c.val < 8 := c.isLt; have := i.isLt; omega⟩

set_option maxRecDepth 20000 in
/-- A tile of the rows at the device's tokens, read in the whole array. -/
theorem row_at (a : FVec Ideal Cert.ProjFwdReferenceIdeal.S65536x2048 .f32) (h : m ((c.tc : Thread nD τ).loc main_arg0) = Layout.block ⟨2, ![8192, 2048]⟩ ⟨2, ![65536, 2048]⟩ 0 8 c a)
    (t : Fin cfg0.N) (j : Fin 256) (k : Fin 2048) (i : Fin 65536) (hi : i.val = c.val * 8192 + (t.val * 256 + j.val)) :
    iblk m c 0 t (ix2 j k) = a (ix2 i k) := by
  blk_simp [iblk, V, idx0]
  rw [h]
  show a _ = a _
  congr 1
  funext q
  apply Fin.ext
  match q with
  | ⟨0, _⟩ =>
      show c.val * 8192 + ((win0_0.blk t).view.emb (ix2 j k) 0).val = i.val
      blk_simp [idx0]
      show c.val * 8192 + (t.val * 256 + j.val) = i.val
      omega
  | ⟨1, _⟩ =>
      show ((win0_0.blk t).view.emb (ix2 j k) 1).val = k.val
      blk_simp [idx0]

set_option maxRecDepth 20000 in
theorem gain_at (g : FVec Ideal S1x2048 .f32) (h : m ((c.tc : Thread nD τ).loc main_arg1) = g) (t : Fin cfg0.N) (k : Fin 2048) :
    iblk m c 1 t (ix2 (0 : Fin 1) k) = g (ix2 (0 : Fin 1) k) := by
  blk_simp [iblk, V, idx1]
  rw [h]
  blk_ext [idx1]

section tiles

variable (x : FVec Ideal Cert.ProjFwdReferenceIdeal.S65536x2048 .f32) (g : FVec Ideal S1x2048 .f32) (w : FVec Ideal S8x2048x640 .bf16)
  (h0 : m ((c.tc : Thread nD τ).loc main_arg0) = Layout.block ⟨2, ![8192, 2048]⟩ ⟨2, ![65536, 2048]⟩ 0 8 c x)
  (h1 : m ((c.tc : Thread nD τ).loc main_arg1) = g)
  (h2 : m ((c.tc : Thread nD τ).loc main_arg2) = w)

include h0 in
/-- A row's scale is the reference's at the token. -/
theorem tile_scale (t : Fin cfg0.N) (j : Fin 256) (i : Fin 65536) (hi : i.val = c.val * 8192 + (t.val * 256 + j.val)) :
    k0_pay3 (iblk m c 0 t) (ix2 j (0 : Fin 1)) = scales x (ix2 i (0 : Fin 1)) := by
  refine (scale_tile _ j).trans (Eq.trans ?_ (scales_at x i).symm)
  exact congrArg scaleF (funext fun q => row_at m c x h0 t j q i hi)

include h0 h1 in
/-- A normed row is the reference's at the token. -/
theorem tile_normed (t : Fin cfg0.N) (j : Fin 256) (k : Fin 2048) (i : Fin 65536) (hi : i.val = c.val * 8192 + (t.val * 256 + j.val)) :
    k0_pay4 (iblk m c 0 t) (iblk m c 1 t) (ix2 j k) = normed x g (ix2 i k) := by
  refine (normed_tile _ _ j k).trans (Eq.trans ?_ (normed_at x g i k).symm)
  rw [show (fun q => iblk m c 0 t (ix2 j q)) = fun q => x (ix2 i q) from funext fun q => row_at m c x h0 t j q i hi,
    row_at m c x h0 t j k i hi, gain_at m c g h1 t k]

include h0 h1 h2 in
/-- A row's projections are the reference's at the token. -/
theorem tile_proj (t : Fin cfg0.N) (j : Fin 256) (q : Fin 5120) (i : Fin 65536) (hi : i.val = c.val * 8192 + (t.val * 256 + j.val)) :
    proj (k0_pay4 (iblk m c 0 t) (iblk m c 1 t)) (weight m c) (ix2 j q) = prods (normed x g) w (ix2 i q) := by
  refine (proj_tile _ _ j q).trans (Eq.trans ?_ (prods_at _ w i q).symm)
  exact Finset.sum_congr rfl fun k _ => congrArg₂ (fun a b : EReal => a * b) (tile_normed m c x g h0 h1 t j k i hi)
    (congrFun (show weight m c = w from h2) _)

include h0 h1 h2 in
set_option maxRecDepth 20000 in
/-- The projections, whole. -/
theorem proj_array : (dats m 0 c).arrAt 2 cfg0.N = Layout.block ⟨2, ![8192, 5120]⟩ ⟨2, ![65536, 5120]⟩ 0 8 c (prods (normed x g) w) := by
  refine (dats m 0 c).arrAt_eq_of_covers 2 _ (by decide +kernel) fun t hf y => ?_
  blk_simp
  show proj (k0_pay4 (iblk m c 0 t) (iblk m c 1 t)) (weight m c) y = _
  obtain ⟨j, k, rfl⟩ : ∃ (j : Fin 256) (k : Fin 5120), y = ix2 j k :=
    ⟨y 0, y 1, by funext a; match a with | ⟨0, _⟩ => rfl | ⟨1, _⟩ => rfl⟩
  have e0 : ((win0_2.blk t).view.emb (ix2 j k) 0 : Fin 8192).val = t.val * 256 + j.val := by
    blk_simp [idx2]
  have e1 : ((win0_2.blk t).view.emb (ix2 j k) 1 : Fin 5120) = k := by
    apply Fin.ext; blk_simp [idx2]
  have e : Layout.block ⟨2, ![8192, 5120]⟩ ⟨2, ![65536, 5120]⟩ 0 8 c (prods (normed x g) w) (by decide) ((win0_2.blk t).view.emb (ix2 j k))
      = (prods (normed x g) w) (ix2 (place c ((win0_2.blk t).view.emb (ix2 j k) 0)) ((win0_2.blk t).view.emb (ix2 j k) 1)) := by
    show (prods (normed x g) w) _ = (prods (normed x g) w) _
    congr 1
    funext a
    apply Fin.ext
    match a with
    | ⟨0, _⟩ => rfl
    | ⟨1, _⟩ => rfl
  refine Eq.trans ?_ e.symm
  refine Eq.trans ?_ (congrArg (fun q => (prods (normed x g) w) (ix2 (place c ((win0_2.blk t).view.emb (ix2 j k) 0)) q)) e1.symm)
  exact tile_proj m c x g w h0 h1 h2 t j k _ (congrArg (c.val * 8192 + ·) e0)

include h0 h1 in
set_option maxRecDepth 20000 in
/-- The normed rows, whole. -/
theorem normed_array : (dats m 0 c).arrAt 3 cfg0.N = Layout.block ⟨2, ![8192, 2048]⟩ ⟨2, ![65536, 2048]⟩ 0 8 c (normed x g) := by
  refine (dats m 0 c).arrAt_eq_of_covers 3 _ (by decide +kernel) fun t hf y => ?_
  blk_simp
  show k0_pay4 (iblk m c 0 t) (iblk m c 1 t) y = _
  obtain ⟨j, k, rfl⟩ : ∃ (j : Fin 256) (k : Fin 2048), y = ix2 j k :=
    ⟨y 0, y 1, by funext a; match a with | ⟨0, _⟩ => rfl | ⟨1, _⟩ => rfl⟩
  have e0 : ((win0_3.blk t).view.emb (ix2 j k) 0 : Fin 8192).val = t.val * 256 + j.val := by
    blk_simp [idx3]
  have e1 : ((win0_3.blk t).view.emb (ix2 j k) 1 : Fin 2048) = k := by
    apply Fin.ext; blk_simp [idx3]
  have e : Layout.block ⟨2, ![8192, 2048]⟩ ⟨2, ![65536, 2048]⟩ 0 8 c (normed x g) (by decide) ((win0_3.blk t).view.emb (ix2 j k))
      = (normed x g) (ix2 (place c ((win0_3.blk t).view.emb (ix2 j k) 0)) ((win0_3.blk t).view.emb (ix2 j k) 1)) := by
    show (normed x g) _ = (normed x g) _
    congr 1
    funext a
    apply Fin.ext
    match a with
    | ⟨0, _⟩ => rfl
    | ⟨1, _⟩ => rfl
  refine Eq.trans ?_ e.symm
  refine Eq.trans ?_ (congrArg (fun q => (normed x g) (ix2 (place c ((win0_3.blk t).view.emb (ix2 j k) 0)) q)) e1.symm)
  exact tile_normed m c x g h0 h1 t j k _ (congrArg (c.val * 8192 + ·) e0)

include h0 in
set_option maxRecDepth 20000 in
/-- The rows' scales, whole. -/
theorem scale_array : (dats m 0 c).arrAt 4 cfg0.N = Layout.block ⟨2, ![8192, 1]⟩ ⟨2, ![65536, 1]⟩ 0 8 c (scales x) := by
  refine (dats m 0 c).arrAt_eq_of_covers 4 _ (by decide +kernel) fun t hf y => ?_
  blk_simp
  show k0_pay3 (iblk m c 0 t) y = _
  obtain ⟨j, k, rfl⟩ : ∃ (j : Fin 256) (k : Fin 1), y = ix2 j k :=
    ⟨y 0, y 1, by funext a; match a with | ⟨0, _⟩ => rfl | ⟨1, _⟩ => rfl⟩
  have e0 : ((win0_4.blk t).view.emb (ix2 j k) 0 : Fin 8192).val = t.val * 256 + j.val := by
    blk_simp [idx4]
  have e1 : ((win0_4.blk t).view.emb (ix2 j k) 1 : Fin 1) = k := by
    exact Subsingleton.elim (α := Fin 1) _ _
  have e : Layout.block ⟨2, ![8192, 1]⟩ ⟨2, ![65536, 1]⟩ 0 8 c (scales x) (by decide) ((win0_4.blk t).view.emb (ix2 j k))
      = (scales x) (ix2 (place c ((win0_4.blk t).view.emb (ix2 j k) 0)) ((win0_4.blk t).view.emb (ix2 j k) 1)) := by
    show (scales x) _ = (scales x) _
    congr 1
    funext a
    apply Fin.ext
    match a with
    | ⟨0, _⟩ => rfl
    | ⟨1, _⟩ => rfl
  refine Eq.trans ?_ e.symm
  refine Eq.trans ?_ (congrArg (fun q => (scales x) (ix2 (place c ((win0_4.blk t).view.emb (ix2 j k) 0)) q)) e1.symm)
  obtain rfl : k = 0 := Subsingleton.elim _ _
  exact tile_scale m c x h0 t j _ (congrArg (c.val * 8192 + ·) e0)

end tiles

end values

/-! ## The gather -/

section gather

variable {F : FTy → Type} [FloatOps F]

/-- Block `j` of a result, at row `r` and column `l`. -/
theorem read_blk (f : S8x2048x704.Idx → Elt F .bf16) (j : Fin 8) (r : Fin 2048) (l : Fin 704) :
    (blk j).view.read (Elt F) (f : (Memref.whole main_v1_3).view.ty.Contents (Elt F)) (ix2 r l) = f (ix3 j r l) := by
  rw [Memref.read_squeeze_slice (Memref.whole main_v1_3) (Rect.unit (s := S8x2048x704) ![j.val, 0, 0] S1x2048x704.size (inb j)) (fun _ => rfl)
    squeezes_S1x2048x704_S2048x704 squeezes_S1x2048x704_S2048x704.numel_eq]
  refine (ValueIdx.shapeCast_1ab_ab_apply (a := 2048) (b := 704) _ _ r l).trans ?_
  show f _ = f _
  congr 1
  funext a
  apply Fin.ext
  match a with
  | ⟨0, _⟩ => show j.val + 1 * 0 = j.val; omega
  | ⟨1, _⟩ => show 0 + 1 * r.val = r.val; omega
  | ⟨2, _⟩ => show 0 + 1 * l.val = l.val; omega

/-- The reference's term at block `j`, row `r`, column `l`. -/
theorem ref_at (w : Cert.ProjFwdReferenceIdeal.S2048x5632.Idx → Elt F .bf16) (h : Cert.ProjFwdReferenceIdeal.S2048x5632.ShapeCasts Cert.ProjFwdReferenceIdeal.S2048x8x704)
    (h' : Cert.ProjFwdReferenceIdeal.S2048x8x704.Transposes [1, 0, 2] S8x2048x704) (j : Fin 8) (r : Fin 2048) (l : Fin 704) :
    transpose S8x2048x704 [1, 0, 2] (shapeCast Cert.ProjFwdReferenceIdeal.S2048x8x704 w h) h' (ix3 j r l)
      = w (ix2 r (⟨j.val * 704 + l.val, by omega⟩ : Fin 5632)) := by
  refine (transpose_apply _ _ h' _ (ix3 r j l) ?_).trans ?_
  · intro b
    match b with
    | ⟨0, _⟩ => rfl
    | ⟨1, _⟩ => rfl
    | ⟨2, _⟩ => rfl
  · refine shapeCast_apply w h _ _ ?_
    rw [Shape.rowMajor_val_three, Shape.rowMajor_val_two]
    show r.val * 5632 + (j.val * 704 + l.val) = (r.val * 8 + j.val) * 704 + l.val
    omega

set_option maxRecDepth 20000 in
/-- What a device holds at the end is the reference's term. -/
theorem gathers (m : (ℓ : Loc nD τ sig) → Buf (Elt F) ℓ) (w : Cert.ProjFwdReferenceIdeal.S2048x5632.Idx → Elt F .bf16)
    (hm : ∀ c : Dev nD, m (sent c) = Layout.block ⟨2, ![2048, 704]⟩ ⟨2, ![2048, 5632]⟩ 1 8 c w)
    (h : Cert.ProjFwdReferenceIdeal.S2048x5632.ShapeCasts Cert.ProjFwdReferenceIdeal.S2048x8x704)
    (h' : Cert.ProjFwdReferenceIdeal.S2048x8x704.Transposes [1, 0, 2] S8x2048x704)
    (c : Dev nD) (s : MemSt nD τ sig (Elt F)) (hs : Ends m c s) :
    s.mem (got c) = transpose S8x2048x704 [1, 0, 2] (shapeCast Cert.ProjFwdReferenceIdeal.S2048x8x704 w h) h' := by
  funext i
  obtain ⟨j, r, l, rfl⟩ : ∃ (j : Fin 8) (r : Fin 2048) (l : Fin 704), i = ix3 j r l :=
    ⟨i 0, i 1, i 2, by funext a; match a with | ⟨0, _⟩ => rfl | ⟨1, _⟩ => rfl | ⟨2, _⟩ => rfl⟩
  rw [ref_at w h h' j r l]
  refine (read_blk _ j r l).symm.trans ?_
  rw [hs.1 j]
  show m (sent j) (ix2 r l) = _
  rw [hm j]
  show w _ = w _
  congr 1
  funext a
  match a with
  | ⟨0, _⟩ => rfl
  | ⟨1, _⟩ => rfl

end gather

end ProjFwd

end
-- ==== Proof.SumSmallValue.lean ====
/-
  The gradient of all the small weights but one, packed in rows: what the kernel leaves is the sum of the eight devices' parts.
-/
module

public import proofs.«01_k».proof.Proof.Gen.SumSmallIdeal.Frame
public import proofs.«01_k».proof.Proof.Gen.SumSmallReferenceIdeal.Run
public import Idealize.ShloMosaic.Lib.Pipeline.ValueKit
public import Idealize.ShloMosaic.Lib.ValueLayout

@[expose] public section

set_option Elab.async false

noncomputable section

namespace SumSmall

open Idealize.ShloMosaic
open Idealize.ShloMosaic.TcCoe
open Cert.SumSmallIdeal Cert.SumSmallIdeal.Gen

/-- The reference's sum of the eight parts. -/
def total (x : FVec Ideal S8x2176x128 .f32) : FVec Ideal S2176x128 .f32 :=
  Host.reduceAdd x (constant Cert.SumSmallReferenceIdeal.S_ .f32 0x00000000#32) Cert.SumSmallReferenceIdeal.Gen.reducesTo_S8x2176x128_S2176x128_d0 Cert.SumSmallReferenceIdeal.Gen.h_S_

theorem total_at (x : FVec Ideal S8x2176x128 .f32) (i : Fin 2176) (j : Fin 128) : total x (ix2 i j) = (∑ s : Fin 8, x (ix3 s i j) : EReal) := by
  pointwise [total]

theorem zeros : (![0, 0] : Fin 2 → Nat) = fun _ => 0 := funext fun a => by match a with | ⟨0, _⟩ => rfl | ⟨1, _⟩ => rfl

/-- What the kernel writes, at an index. -/
theorem out_at (x : Vec Ideal S8x2176x128 .f32) (i : Fin 2176) (j : Fin 128) : out0_1 x (ix2 i j) = total x (ix2 i j) := by
  have ld (s : Fin 8) (inb) : View.ld x (Rect.unit (s := S8x2176x128) ![s.val, 0, 0] S1x2176x128.size inb) (ix3 (0 : Fin 1) i j) = x (ix3 s i j) :=
    View.ld_unit_apply_of x _ _ inb _ (ix3 s i j) fun a => by
      match a with
      | ⟨0, _⟩ => rfl
      | ⟨1, _⟩ => exact (Nat.zero_add _).symm
      | ⟨2, _⟩ => exact (Nat.zero_add _).symm
  rw [total_at, Fin.sum_univ_eight]
  unfold out0_1
  rw [View.canon_unit_zero zeros]
  unfold k0_pay1
  pointwise []

theorem idx0 : ∀ t : Fin cfg0.N, win0_0.index t = ![0, 0, 0] := (by decide +kernel : ∀ t : Fin grid0.N, _)
theorem idx1 : ∀ t : Fin cfg0.N, win0_1.index t = ![0, 0] := (by decide +kernel : ∀ t : Fin grid0.N, _)

variable (m : (ℓ : Loc nD τ sig) → Buf (Elt Ideal) ℓ) (c : Dev nD)

theorem part_at (t : Fin cfg0.N) (s : Fin 8) (i : Fin 2176) (j : Fin 128) :
    iblk m c 0 t (ix3 s i j) = m ((c.tc : Thread nD τ).loc main_arg0) (ix3 s i j) := by
  blk_simp [iblk, V, idx0]
  congr 1
  funext a
  apply Fin.ext
  match a with
  | ⟨0, _⟩ => show ((win0_0.blk t).view.emb (ix3 s i j) 0).val = s.val; blk_simp [idx0]
  | ⟨1, _⟩ => show ((win0_0.blk t).view.emb (ix3 s i j) 1).val = i.val; blk_simp [idx0]
  | ⟨2, _⟩ => show ((win0_0.blk t).view.emb (ix3 s i j) 2).val = j.val; blk_simp [idx0]

/-- The sum, whole. -/
theorem sums : (dats m 0 c).arrAt 1 cfg0.N = total (m ((c.tc : Thread nD τ).loc main_arg0)) := by
  refine (dats m 0 c).arrAt_eq_of_covers 1 (total (m ((c.tc : Thread nD τ).loc main_arg0))) (by decide +kernel) fun t hf y => ?_
  obtain ⟨i, j, rfl⟩ : ∃ (i : Fin 2176) (j : Fin 128), y = ix2 i j :=
    ⟨y 0, y 1, by funext a; match a with | ⟨0, _⟩ => rfl | ⟨1, _⟩ => rfl⟩
  have e : (win0_1.blk t).view.emb (ix2 i j) = ix2 i j := by
    funext a
    apply Fin.ext
    match a with
    | ⟨0, _⟩ => blk_simp [idx1]
    | ⟨1, _⟩ => blk_simp [idx1]
  blk_simp
  rw [after0_1, e]
  refine (out_at _ i j).trans ?_
  rw [total_at, total_at]
  exact Finset.sum_congr rfl fun s _ => part_at m c t s i j

end SumSmall

end
-- ==== Proof.SumMixValue.lean ====
/-
  The gradient of the first norm's gain: what the kernel leaves is the sum of the eight devices' parts.
-/
module

public import proofs.«01_k».proof.Proof.Gen.SumMixIdeal.Frame
public import proofs.«01_k».proof.Proof.Gen.SumMixReferenceIdeal.Run
public import Idealize.ShloMosaic.Lib.Pipeline.ValueKit
public import Idealize.ShloMosaic.Lib.ValueLayout

@[expose] public section

set_option Elab.async false

noncomputable section

namespace SumMix

open Idealize.ShloMosaic
open Idealize.ShloMosaic.TcCoe
open Cert.SumMixIdeal Cert.SumMixIdeal.Gen

/-- The reference's sum of the eight parts. -/
def total (x : FVec Ideal S8x16x128 .f32) : FVec Ideal S16x128 .f32 :=
  Host.reduceAdd x (constant Cert.SumMixReferenceIdeal.S_ .f32 0x00000000#32) Cert.SumMixReferenceIdeal.Gen.reducesTo_S8x16x128_S16x128_d0 Cert.SumMixReferenceIdeal.Gen.h_S_

theorem total_at (x : FVec Ideal S8x16x128 .f32) (i : Fin 16) (j : Fin 128) : total x (ix2 i j) = (∑ s : Fin 8, x (ix3 s i j) : EReal) := by
  pointwise [total]

theorem zeros : (![0, 0] : Fin 2 → Nat) = fun _ => 0 := funext fun a => by match a with | ⟨0, _⟩ => rfl | ⟨1, _⟩ => rfl

/-- What the kernel writes, at an index. -/
theorem out_at (x : Vec Ideal S8x16x128 .f32) (i : Fin 16) (j : Fin 128) : out0_1 x (ix2 i j) = total x (ix2 i j) := by
  have ld (s : Fin 8) (inb) : View.ld x (Rect.unit (s := S8x16x128) ![s.val, 0, 0] S1x16x128.size inb) (ix3 (0 : Fin 1) i j) = x (ix3 s i j) :=
    View.ld_unit_apply_of x _ _ inb _ (ix3 s i j) fun a => by
      match a with
      | ⟨0, _⟩ => rfl
      | ⟨1, _⟩ => exact (Nat.zero_add _).symm
      | ⟨2, _⟩ => exact (Nat.zero_add _).symm
  rw [total_at, Fin.sum_univ_eight]
  unfold out0_1
  rw [View.canon_unit_zero zeros]
  unfold k0_pay1
  pointwise []

theorem idx0 : ∀ t : Fin cfg0.N, win0_0.index t = ![0, 0, 0] := (by decide +kernel : ∀ t : Fin grid0.N, _)
theorem idx1 : ∀ t : Fin cfg0.N, win0_1.index t = ![0, 0] := (by decide +kernel : ∀ t : Fin grid0.N, _)

variable (m : (ℓ : Loc nD τ sig) → Buf (Elt Ideal) ℓ) (c : Dev nD)

theorem part_at (t : Fin cfg0.N) (s : Fin 8) (i : Fin 16) (j : Fin 128) :
    iblk m c 0 t (ix3 s i j) = m ((c.tc : Thread nD τ).loc main_arg0) (ix3 s i j) := by
  blk_simp [iblk, V, idx0]
  congr 1
  funext a
  apply Fin.ext
  match a with
  | ⟨0, _⟩ => show ((win0_0.blk t).view.emb (ix3 s i j) 0).val = s.val; blk_simp [idx0]
  | ⟨1, _⟩ => show ((win0_0.blk t).view.emb (ix3 s i j) 1).val = i.val; blk_simp [idx0]
  | ⟨2, _⟩ => show ((win0_0.blk t).view.emb (ix3 s i j) 2).val = j.val; blk_simp [idx0]

/-- The sum, whole. -/
theorem sums : (dats m 0 c).arrAt 1 cfg0.N = total (m ((c.tc : Thread nD τ).loc main_arg0)) := by
  refine (dats m 0 c).arrAt_eq_of_covers 1 (total (m ((c.tc : Thread nD τ).loc main_arg0))) (by decide +kernel) fun t hf y => ?_
  obtain ⟨i, j, rfl⟩ : ∃ (i : Fin 16) (j : Fin 128), y = ix2 i j :=
    ⟨y 0, y 1, by funext a; match a with | ⟨0, _⟩ => rfl | ⟨1, _⟩ => rfl⟩
  have e : (win0_1.blk t).view.emb (ix2 i j) = ix2 i j := by
    funext a
    apply Fin.ext
    match a with
    | ⟨0, _⟩ => blk_simp [idx1]
    | ⟨1, _⟩ => blk_simp [idx1]
  blk_simp
  rw [after0_1, e]
  refine (out_at _ i j).trans ?_
  rw [total_at, total_at]
  exact Finset.sum_congr rfl fun s _ => part_at m c t s i j

end SumMix

end
-- ==== Proof.lean ====
/-
  The proof of the claims: for each call taken, that the kernel and its idealization run and leave nothing pending, that
  the reference does, and that over the extended reals the kernel's results are the reference's.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.FfnUp
public import proofs.«01_k».proof.Proof.Gen.FfnUpIdeal
public import proofs.«01_k».proof.Proof.Gen.FfnUpIdeal.Skeleton
public import proofs.«01_k».proof.Proof.Gen.FfnUpIdeal.Launch
public import proofs.«01_k».proof.Proof.Gen.FfnUpIdeal.Points
public import proofs.«01_k».proof.Proof.Gen.FfnUpIdeal.Frame
public import proofs.«01_k».proof.Proof.Gen.FfnUpReferenceIdeal
public import proofs.«01_k».proof.Proof.Gen.FfnUpReferenceIdeal.Run
public import proofs.«01_k».proof.Proof.Gen.BwdIn
public import proofs.«01_k».proof.Proof.Gen.BwdInIdeal
public import proofs.«01_k».proof.Proof.Gen.BwdInIdeal.Skeleton
public import proofs.«01_k».proof.Proof.Gen.BwdInIdeal.Launch
public import proofs.«01_k».proof.Proof.Gen.BwdInIdeal.Points
public import proofs.«01_k».proof.Proof.Gen.BwdInIdeal.Frame
public import proofs.«01_k».proof.Proof.Gen.BwdInReferenceIdeal
public import proofs.«01_k».proof.Proof.Gen.BwdInReferenceIdeal.Run
public import proofs.«01_k».proof.Proof.Gen.WgradUp
public import proofs.«01_k».proof.Proof.Gen.WgradUpIdeal
public import proofs.«01_k».proof.Proof.Gen.WgradUpIdeal.Skeleton
public import proofs.«01_k».proof.Proof.Gen.WgradUpIdeal.Launch
public import proofs.«01_k».proof.Proof.Gen.WgradUpIdeal.Points
public import proofs.«01_k».proof.Proof.Gen.WgradUpIdeal.Frame
public import proofs.«01_k».proof.Proof.Gen.WgradUpReferenceIdeal
public import proofs.«01_k».proof.Proof.Gen.WgradUpReferenceIdeal.Run
public import proofs.«01_k».proof.Proof.Gen.AdamIn
public import proofs.«01_k».proof.Proof.Gen.AdamIn.Skeleton
public import proofs.«01_k».proof.Proof.Gen.AdamIn.Launch
public import proofs.«01_k».proof.Proof.Gen.AdamIn.Points
public import proofs.«01_k».proof.Proof.Gen.AdamIn.Frame
public import proofs.«01_k».proof.Proof.Gen.AdamInIdeal
public import proofs.«01_k».proof.Proof.Gen.AdamInIdeal.Skeleton
public import proofs.«01_k».proof.Proof.Gen.AdamInIdeal.Launch
public import proofs.«01_k».proof.Proof.Gen.AdamInIdeal.Points
public import proofs.«01_k».proof.Proof.Gen.AdamInIdeal.Frame
public import proofs.«01_k».proof.Proof.Gen.AdamInReferenceIdeal
public import proofs.«01_k».proof.Proof.Gen.AdamInReferenceIdeal.Run
public import proofs.«01_k».proof.Proof.Gen.AdamGlu
public import proofs.«01_k».proof.Proof.Gen.AdamGlu.Skeleton
public import proofs.«01_k».proof.Proof.Gen.AdamGlu.Launch
public import proofs.«01_k».proof.Proof.Gen.AdamGlu.Points
public import proofs.«01_k».proof.Proof.Gen.AdamGlu.Frame
public import proofs.«01_k».proof.Proof.Gen.AdamGluIdeal
public import proofs.«01_k».proof.Proof.Gen.AdamGluIdeal.Skeleton
public import proofs.«01_k».proof.Proof.Gen.AdamGluIdeal.Launch
public import proofs.«01_k».proof.Proof.Gen.AdamGluIdeal.Points
public import proofs.«01_k».proof.Proof.Gen.AdamGluIdeal.Frame
public import proofs.«01_k».proof.Proof.Gen.AdamGluReferenceIdeal
public import proofs.«01_k».proof.Proof.Gen.AdamGluReferenceIdeal.Run
public import proofs.«01_k».proof.Proof.Gen.AdamOut
public import proofs.«01_k».proof.Proof.Gen.AdamOut.Skeleton
public import proofs.«01_k».proof.Proof.Gen.AdamOut.Launch
public import proofs.«01_k».proof.Proof.Gen.AdamOut.Points
public import proofs.«01_k».proof.Proof.Gen.AdamOut.Frame
public import proofs.«01_k».proof.Proof.Gen.AdamOutIdeal
public import proofs.«01_k».proof.Proof.Gen.AdamOutIdeal.Skeleton
public import proofs.«01_k».proof.Proof.Gen.AdamOutIdeal.Launch
public import proofs.«01_k».proof.Proof.Gen.AdamOutIdeal.Points
public import proofs.«01_k».proof.Proof.Gen.AdamOutIdeal.Frame
public import proofs.«01_k».proof.Proof.Gen.AdamOutReferenceIdeal
public import proofs.«01_k».proof.Proof.Gen.AdamOutReferenceIdeal.Run
public import proofs.«01_k».proof.Proof.Gen.AdamGate
public import proofs.«01_k».proof.Proof.Gen.AdamGate.Skeleton
public import proofs.«01_k».proof.Proof.Gen.AdamGate.Launch
public import proofs.«01_k».proof.Proof.Gen.AdamGate.Points
public import proofs.«01_k».proof.Proof.Gen.AdamGate.Frame
public import proofs.«01_k».proof.Proof.Gen.AdamGateIdeal
public import proofs.«01_k».proof.Proof.Gen.AdamGateIdeal.Skeleton
public import proofs.«01_k».proof.Proof.Gen.AdamGateIdeal.Launch
public import proofs.«01_k».proof.Proof.Gen.AdamGateIdeal.Points
public import proofs.«01_k».proof.Proof.Gen.AdamGateIdeal.Frame
public import proofs.«01_k».proof.Proof.Gen.AdamGateReferenceIdeal
public import proofs.«01_k».proof.Proof.Gen.AdamGateReferenceIdeal.Run
public import proofs.«01_k».proof.Proof.Gen.AdamDown
public import proofs.«01_k».proof.Proof.Gen.AdamDown.Skeleton
public import proofs.«01_k».proof.Proof.Gen.AdamDown.Launch
public import proofs.«01_k».proof.Proof.Gen.AdamDown.Points
public import proofs.«01_k».proof.Proof.Gen.AdamDown.Frame
public import proofs.«01_k».proof.Proof.Gen.AdamDownIdeal
public import proofs.«01_k».proof.Proof.Gen.AdamDownIdeal.Skeleton
public import proofs.«01_k».proof.Proof.Gen.AdamDownIdeal.Launch
public import proofs.«01_k».proof.Proof.Gen.AdamDownIdeal.Points
public import proofs.«01_k».proof.Proof.Gen.AdamDownIdeal.Frame
public import proofs.«01_k».proof.Proof.Gen.AdamDownReferenceIdeal
public import proofs.«01_k».proof.Proof.Gen.AdamDownReferenceIdeal.Run
public import proofs.«01_k».proof.Proof.Gen.ProjBwd
public import proofs.«01_k».proof.Proof.Gen.ProjBwdIdeal
public import proofs.«01_k».proof.Proof.Gen.ProjBwdIdeal.Skeleton
public import proofs.«01_k».proof.Proof.Gen.ProjBwdIdeal.Launch
public import proofs.«01_k».proof.Proof.Gen.ProjBwdIdeal.Points
public import proofs.«01_k».proof.Proof.Gen.ProjBwdIdeal.Frame
public import proofs.«01_k».proof.Proof.Gen.ProjBwdReferenceIdeal
public import proofs.«01_k».proof.Proof.Gen.ProjBwdReferenceIdeal.Run
public import proofs.«01_k».proof.Proof.Gen.ProjFwd
public import proofs.«01_k».proof.Proof.Gen.ProjFwdIdeal
public import proofs.«01_k».proof.Proof.Gen.ProjFwdIdeal.Skeleton
public import proofs.«01_k».proof.Proof.Gen.ProjFwdIdeal.Launch
public import proofs.«01_k».proof.Proof.Gen.ProjFwdIdeal.Points
public import proofs.«01_k».proof.Proof.Gen.ProjFwdIdeal.Frame
public import proofs.«01_k».proof.Proof.Gen.ProjFwdReferenceIdeal
public import proofs.«01_k».proof.Proof.Gen.ProjFwdReferenceIdeal.Run
public import proofs.«01_k».proof.Proof.Gen.SumSmall
public import proofs.«01_k».proof.Proof.Gen.SumSmall.Skeleton
public import proofs.«01_k».proof.Proof.Gen.SumSmall.Launch
public import proofs.«01_k».proof.Proof.Gen.SumSmall.Points
public import proofs.«01_k».proof.Proof.Gen.SumSmall.Frame
public import proofs.«01_k».proof.Proof.Gen.SumSmallIdeal
public import proofs.«01_k».proof.Proof.Gen.SumSmallIdeal.Skeleton
public import proofs.«01_k».proof.Proof.Gen.SumSmallIdeal.Launch
public import proofs.«01_k».proof.Proof.Gen.SumSmallIdeal.Points
public import proofs.«01_k».proof.Proof.Gen.SumSmallIdeal.Frame
public import proofs.«01_k».proof.Proof.Gen.SumSmallReferenceIdeal
public import proofs.«01_k».proof.Proof.Gen.SumSmallReferenceIdeal.Run
public import proofs.«01_k».proof.Proof.Gen.SumMix
public import proofs.«01_k».proof.Proof.Gen.SumMix.Skeleton
public import proofs.«01_k».proof.Proof.Gen.SumMix.Launch
public import proofs.«01_k».proof.Proof.Gen.SumMix.Points
public import proofs.«01_k».proof.Proof.Gen.SumMix.Frame
public import proofs.«01_k».proof.Proof.Gen.SumMixIdeal
public import proofs.«01_k».proof.Proof.Gen.SumMixIdeal.Skeleton
public import proofs.«01_k».proof.Proof.Gen.SumMixIdeal.Launch
public import proofs.«01_k».proof.Proof.Gen.SumMixIdeal.Points
public import proofs.«01_k».proof.Proof.Gen.SumMixIdeal.Frame
public import proofs.«01_k».proof.Proof.Gen.SumMixReferenceIdeal
public import proofs.«01_k».proof.Proof.Gen.SumMixReferenceIdeal.Run
public import proofs.«01_k».proof.Proof.WeightValue
public import proofs.«01_k».proof.Proof.FfnUpValue
public import proofs.«01_k».proof.Proof.BwdInValue
public import proofs.«01_k».proof.Proof.WgradUpValue
public import proofs.«01_k».proof.Proof.AdamInValue
public import proofs.«01_k».proof.Proof.AdamGluValue
public import proofs.«01_k».proof.Proof.AdamOutValue
public import proofs.«01_k».proof.Proof.AdamGateValue
public import proofs.«01_k».proof.Proof.AdamDownValue
public import proofs.«01_k».proof.Proof.ProjBwdValue
public import proofs.«01_k».proof.Proof.ProjFwdValue
public import proofs.«01_k».proof.Proof.SumSmallValue
public import proofs.«01_k».proof.Proof.SumMixValue
public import Idealize.ShloMosaic.Adequacy
public import Idealize.ShloMosaic.Init

@[expose] public section

noncomputable section

namespace Cert.Proof

open Idealize.ShloMosaic Idealize.SL.Sem Cert.Kernel

theorem frame_kernel : Cert.quiescent_Kernel := fun m ρ _ =>
  (θ_run Cert.KernelIdeal.defs _ _).mono (fun _ h => ⟨fun c => (h.1 c).2, h.2⟩) (WeightGather.run_main (F := Bits) m ρ)

theorem frame_ideal : Cert.quiescent_KernelIdeal := fun m ρ _ =>
  (θ_run Cert.KernelIdeal.defs _ _).mono (fun _ h => ⟨fun c => (h.1 c).2, h.2⟩) (WeightGather.run_main (F := Ideal) m ρ)

theorem frame_reference : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run m ρ)

theorem algebraic : Cert.algebraic_KernelIdeal_ReferenceIdeal := fun m ρ m' ρ' _ hm =>
  ⟨_, (θ_run Cert.KernelIdeal.defs _ _).mono
      (fun _ h c => ⟨WeightGather.gathers m _ hm _ _ c _ (h.1 c), (h.1 c).2⟩) (WeightGather.run_main (F := Ideal) m ρ),
    (θ_run Cert.ReferenceIdeal.defs _ _).mono (fun _ h => h 0) (Cert.ReferenceIdeal.Value.run m' ρ')⟩

theorem FfnUp.bodies_eq {F : FTy → Type} [FloatOps F] : @Cert.FfnUp.defs₀ F _ _ = @Cert.FfnUpIdeal.defs₀ F _ _ := by
  unfold Cert.FfnUp.defs₀ Cert.FfnUpIdeal.defs₀
  congr 1
  funext l a
  match l, a with
  | 0, (t, s) => rfl

theorem FfnUp.defs_eq {F : FTy → Type} [FloatOps F] : @Cert.FfnUp.defs F _ _ = @Cert.FfnUpIdeal.defs F _ _ :=
  congrArg (Pipeline.defs (Cert.FfnUpIdeal.pcfgs (F := F))) FfnUp.bodies_eq

theorem FfnUp.kept {F : FTy → Type} [FloatOps F] (m : (ℓ : Loc Cert.FfnUpIdeal.nD Cert.FfnUpIdeal.τ Cert.FfnUpIdeal.sig) → Buf (Elt F) ℓ) (ρ : Dev Cert.FfnUpIdeal.nD → PrngReg) :
    θ_run Cert.FfnUpIdeal.defs (onTc Cert.FfnUpIdeal.main) ⟨m, fun _ => 0, ρ⟩ (fun r => (∀ c : Dev Cert.FfnUpIdeal.nD,
        r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
        ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1)
        ∧ r.2.mem ((c.tc : Thread Cert.FfnUpIdeal.nD Cert.FfnUpIdeal.τ).loc Cert.FfnUpIdeal.main_arg2) = m ((c.tc : Thread Cert.FfnUpIdeal.nD Cert.FfnUpIdeal.τ).loc Cert.FfnUpIdeal.main_arg2)
        ∧ r.2.mem ((c.tc : Thread Cert.FfnUpIdeal.nD Cert.FfnUpIdeal.τ).loc Cert.FfnUpIdeal.main_arg3) = m ((c.tc : Thread Cert.FfnUpIdeal.nD Cert.FfnUpIdeal.τ).loc Cert.FfnUpIdeal.main_arg3))
      ∧ r.2.sem = fun _ => 0) :=
  (θ_run Cert.FfnUpIdeal.defs _ _).mono (fun _ h => ⟨fun c => ⟨((h.1 c).1 0).trans (FfnUp.run_in m c 0 rfl), ((h.1 c).1 1).trans (FfnUp.run_in m c 1 rfl), ((h.1 c).1 2).trans (FfnUp.run_in m c 2 rfl), (h.1 c).2.2⟩, h.2⟩) (_root_.FfnUp.run_main m ρ)

theorem FfnUp.frame_kernel : Cert.quiescent_FfnUp := by
  intro m ρ _
  rw [FfnUp.defs_eq]
  exact FfnUp.kept (F := Bits) m ρ

theorem FfnUp.frame_ideal : Cert.quiescent_FfnUpIdeal := fun m ρ _ => FfnUp.kept (F := Ideal) m ρ

theorem FfnUp.frame_reference : Cert.quiescent_FfnUpReferenceIdeal := fun m ρ _ =>
  (θ_run Cert.FfnUpReferenceIdeal.defs _ _).mono (fun r h => ⟨fun c => (h c).2.2.2.2, Idealize.ShloMosaic.sem_eq_zero_of_no_sems (by decide) r.2⟩)
    (Cert.FfnUpReferenceIdeal.Value.run m ρ)

set_option maxRecDepth 20000 in
theorem FfnUp.algebraic : Cert.algebraic_FfnUpIdeal_FfnUpReferenceIdeal := fun m ρ m' ρ' _ hm =>
  ⟨_, _, _, _, (θ_run Cert.FfnUpIdeal.defs _ _).mono
      (fun _ h c => ⟨((h.1 c).1 3).trans (FfnUp.gate_array m c _ _ (hm c).1 (hm c).2.1), ((h.1 c).1 4).trans (FfnUp.up_array m c _ _ (hm c).1 (hm c).2.2.1),
        ((h.1 c).1 5).trans (FfnUp.gated_array m c _ _ _ (hm c).1 (hm c).2.1 (hm c).2.2.1),
        FfnUp.exchanged m _ (fun d => (hm d).2.2.2) _ c _ (h.1 c).2, ((h.1 c).1 0).trans (FfnUp.run_in m c 0 rfl), ((h.1 c).1 1).trans (FfnUp.run_in m c 1 rfl), ((h.1 c).1 2).trans (FfnUp.run_in m c 2 rfl), (h.1 c).2.2⟩) (_root_.FfnUp.run_main (F := Ideal) m ρ),
    (θ_run Cert.FfnUpReferenceIdeal.defs _ _).mono (fun _ h => h 0) (Cert.FfnUpReferenceIdeal.Value.run m' ρ')⟩

theorem BwdIn.bodies_eq {F : FTy → Type} [FloatOps F] : @Cert.BwdIn.defs₀ F _ _ = @Cert.BwdInIdeal.defs₀ F _ _ := by
  unfold Cert.BwdIn.defs₀ Cert.BwdInIdeal.defs₀
  congr 1
  funext l a
  match l, a with
  | 0, (t, s) => rfl

theorem BwdIn.defs_eq {F : FTy → Type} [FloatOps F] : @Cert.BwdIn.defs F _ _ = @Cert.BwdInIdeal.defs F _ _ :=
  congrArg (Pipeline.defs (Cert.BwdInIdeal.pcfgs (F := F))) BwdIn.bodies_eq

theorem BwdIn.kept {F : FTy → Type} [FloatOps F] (m : (ℓ : Loc Cert.BwdInIdeal.nD Cert.BwdInIdeal.τ Cert.BwdInIdeal.sig) → Buf (Elt F) ℓ) (ρ : Dev Cert.BwdInIdeal.nD → PrngReg) :
    θ_run Cert.BwdInIdeal.defs (onTc Cert.BwdInIdeal.main) ⟨m, fun _ => 0, ρ⟩ (fun r => (∀ c : Dev Cert.BwdInIdeal.nD,
        r.2.mem ((c.tc : Thread Cert.BwdInIdeal.nD Cert.BwdInIdeal.τ).loc Cert.BwdInIdeal.main_arg0) = m ((c.tc : Thread Cert.BwdInIdeal.nD Cert.BwdInIdeal.τ).loc Cert.BwdInIdeal.main_arg0)
        ∧ r.2.mem ((c.tc : Thread Cert.BwdInIdeal.nD Cert.BwdInIdeal.τ).loc Cert.BwdInIdeal.main_arg1) = m ((c.tc : Thread Cert.BwdInIdeal.nD Cert.BwdInIdeal.τ).loc Cert.BwdInIdeal.main_arg1)
        ∧ r.2.mem ((c.tc : Thread Cert.BwdInIdeal.nD Cert.BwdInIdeal.τ).loc Cert.BwdInIdeal.main_arg2) = m ((c.tc : Thread Cert.BwdInIdeal.nD Cert.BwdInIdeal.τ).loc Cert.BwdInIdeal.main_arg2)
        ∧ r.2.mem ((c.tc : Thread Cert.BwdInIdeal.nD Cert.BwdInIdeal.τ).loc Cert.BwdInIdeal.main_arg3) = m ((c.tc : Thread Cert.BwdInIdeal.nD Cert.BwdInIdeal.τ).loc Cert.BwdInIdeal.main_arg3)
        ∧ r.2.mem ((c.tc : Thread Cert.BwdInIdeal.nD Cert.BwdInIdeal.τ).loc Cert.BwdInIdeal.main_arg4) = m ((c.tc : Thread Cert.BwdInIdeal.nD Cert.BwdInIdeal.τ).loc Cert.BwdInIdeal.main_arg4))
      ∧ r.2.sem = fun _ => 0) :=
  (θ_run Cert.BwdInIdeal.defs _ _).mono (fun _ h => ⟨fun c => ⟨((h.1 c).1 0).trans (BwdIn.run_in m c 0 rfl), ((h.1 c).1 1).trans (BwdIn.run_in m c 1 rfl), ((h.1 c).1 2).trans (BwdIn.run_in m c 2 rfl), ((h.1 c).1 3).trans (BwdIn.run_in m c 3 rfl), (h.1 c).2.2⟩, h.2⟩) (_root_.BwdIn.run_main m ρ)

theorem BwdIn.frame_kernel : Cert.quiescent_BwdIn := by
  intro m ρ _
  rw [BwdIn.defs_eq]
  exact BwdIn.kept (F := Bits) m ρ

theorem BwdIn.frame_ideal : Cert.quiescent_BwdInIdeal := fun m ρ _ => BwdIn.kept (F := Ideal) m ρ

theorem BwdIn.frame_reference : Cert.quiescent_BwdInReferenceIdeal := fun m ρ _ =>
  (θ_run Cert.BwdInReferenceIdeal.defs _ _).mono (fun r h => ⟨fun c => (h c).2.2, Idealize.ShloMosaic.sem_eq_zero_of_no_sems (by decide) r.2⟩)
    (Cert.BwdInReferenceIdeal.Value.run m ρ)

set_option maxRecDepth 20000 in
theorem BwdIn.algebraic : Cert.algebraic_BwdInIdeal_BwdInReferenceIdeal := fun m ρ m' ρ' _ hm =>
  ⟨_, _, (θ_run Cert.BwdInIdeal.defs _ _).mono
      (fun _ h c => ⟨((h.1 c).1 4).trans (BwdIn.array m c _ _ _ _ (hm c).1 (hm c).2.1 (hm c).2.2.1 (hm c).2.2.2.1),
        BwdIn.exchanged m _ (fun d => (hm d).2.2.2.2) c _ (h.1 c).2, ((h.1 c).1 0).trans (BwdIn.run_in m c 0 rfl), ((h.1 c).1 1).trans (BwdIn.run_in m c 1 rfl), ((h.1 c).1 2).trans (BwdIn.run_in m c 2 rfl), ((h.1 c).1 3).trans (BwdIn.run_in m c 3 rfl), (h.1 c).2.2⟩) (_root_.BwdIn.run_main (F := Ideal) m ρ),
    (θ_run Cert.BwdInReferenceIdeal.defs _ _).mono (fun _ h => h 0) (Cert.BwdInReferenceIdeal.Value.run m' ρ')⟩

theorem WgradUp.bodies_eq {F : FTy → Type} [FloatOps F] : @Cert.WgradUp.defs₀ F _ _ = @Cert.WgradUpIdeal.defs₀ F _ _ := by
  unfold Cert.WgradUp.defs₀ Cert.WgradUpIdeal.defs₀
  congr 1
  funext l a
  match l, a with
  | 0, (t, s) => rfl

theorem WgradUp.defs_eq {F : FTy → Type} [FloatOps F] : @Cert.WgradUp.defs F _ _ = @Cert.WgradUpIdeal.defs F _ _ :=
  congrArg (Pipeline.defs (Cert.WgradUpIdeal.pcfgs (F := F))) WgradUp.bodies_eq

theorem WgradUp.kept {F : FTy → Type} [FloatOps F] (m : (ℓ : Loc Cert.WgradUpIdeal.nD Cert.WgradUpIdeal.τ Cert.WgradUpIdeal.sig) → Buf (Elt F) ℓ) (ρ : Dev Cert.WgradUpIdeal.nD → PrngReg) :
    θ_run Cert.WgradUpIdeal.defs (onTc Cert.WgradUpIdeal.main) ⟨m, fun _ => 0, ρ⟩ (fun r => (∀ c : Dev Cert.WgradUpIdeal.nD,
        r.2.mem ((c.tc : Thread Cert.WgradUpIdeal.nD Cert.WgradUpIdeal.τ).loc Cert.WgradUpIdeal.main_arg0) = m ((c.tc : Thread Cert.WgradUpIdeal.nD Cert.WgradUpIdeal.τ).loc Cert.WgradUpIdeal.main_arg0)
        ∧ r.2.mem ((c.tc : Thread Cert.WgradUpIdeal.nD Cert.WgradUpIdeal.τ).loc Cert.WgradUpIdeal.main_arg1) = m ((c.tc : Thread Cert.WgradUpIdeal.nD Cert.WgradUpIdeal.τ).loc Cert.WgradUpIdeal.main_arg1)
        ∧ r.2.mem ((c.tc : Thread Cert.WgradUpIdeal.nD Cert.WgradUpIdeal.τ).loc Cert.WgradUpIdeal.main_arg2) = m ((c.tc : Thread Cert.WgradUpIdeal.nD Cert.WgradUpIdeal.τ).loc Cert.WgradUpIdeal.main_arg2)
        ∧ r.2.mem ((c.tc : Thread Cert.WgradUpIdeal.nD Cert.WgradUpIdeal.τ).loc Cert.WgradUpIdeal.main_arg3) = m ((c.tc : Thread Cert.WgradUpIdeal.nD Cert.WgradUpIdeal.τ).loc Cert.WgradUpIdeal.main_arg3))
      ∧ r.2.sem = fun _ => 0) :=
  (θ_run Cert.WgradUpIdeal.defs _ _).mono (fun _ h => ⟨fun c => ⟨((h.1 c).1 0).trans (WgradUp.run_in m c 0 rfl), ((h.1 c).1 1).trans (WgradUp.run_in m c 1 rfl), ((h.1 c).1 2).trans (WgradUp.run_in m c 2 rfl), (h.1 c).2.2⟩, h.2⟩) (_root_.WgradUp.run_main m ρ)

theorem WgradUp.frame_kernel : Cert.quiescent_WgradUp := by
  intro m ρ _
  rw [WgradUp.defs_eq]
  exact WgradUp.kept (F := Bits) m ρ

theorem WgradUp.frame_ideal : Cert.quiescent_WgradUpIdeal := fun m ρ _ => WgradUp.kept (F := Ideal) m ρ

theorem WgradUp.frame_reference : Cert.quiescent_WgradUpReferenceIdeal := fun m ρ _ =>
  (θ_run Cert.WgradUpReferenceIdeal.defs _ _).mono (fun r h => ⟨fun c => (h c).2.2.2, Idealize.ShloMosaic.sem_eq_zero_of_no_sems (by decide) r.2⟩)
    (Cert.WgradUpReferenceIdeal.Value.run m ρ)

set_option maxRecDepth 20000 in
theorem WgradUp.algebraic : Cert.algebraic_WgradUpIdeal_WgradUpReferenceIdeal := fun m ρ m' ρ' _ hm =>
  ⟨_, _, _, (θ_run Cert.WgradUpIdeal.defs _ _).mono
      (fun _ h c => ⟨((h.1 c).1 3).trans (WgradUp.gate_array m c _ _ (hm c).1 (hm c).2.1), ((h.1 c).1 4).trans (WgradUp.up_array m c _ _ (hm c).1 (hm c).2.2.1),
        WgradUp.exchanged m _ (fun d => (hm d).2.2.2) c _ (h.1 c).2, ((h.1 c).1 0).trans (WgradUp.run_in m c 0 rfl), ((h.1 c).1 1).trans (WgradUp.run_in m c 1 rfl), ((h.1 c).1 2).trans (WgradUp.run_in m c 2 rfl), (h.1 c).2.2⟩) (_root_.WgradUp.run_main (F := Ideal) m ρ),
    (θ_run Cert.WgradUpReferenceIdeal.defs _ _).mono (fun _ h => h 0) (Cert.WgradUpReferenceIdeal.Value.run m' ρ')⟩

theorem AdamIn.frame_kernel : Cert.quiescent_AdamIn := fun m ρ _ => Cert.AdamIn.Gen.frame m ρ

theorem AdamIn.frame_ideal : Cert.quiescent_AdamInIdeal := fun m ρ _ => Cert.AdamInIdeal.Gen.frame m ρ

theorem AdamIn.frame_reference : Cert.quiescent_AdamInReferenceIdeal := fun m ρ _ =>
  (θ_run Cert.AdamInReferenceIdeal.defs _ _).mono (fun r h => ⟨fun c => (h c).2.2.2.2, Idealize.ShloMosaic.sem_eq_zero_of_no_sems (by decide) r.2⟩)
    (Cert.AdamInReferenceIdeal.Value.run m ρ)

set_option maxRecDepth 20000 in
theorem AdamIn.algebraic : Cert.algebraic_AdamInIdeal_AdamInReferenceIdeal := by
  intro m ρ m' ρ' _ hm
  have r := Cert.AdamInReferenceIdeal.Value.run (F := Ideal) m' ρ'
  refine ⟨_, _, _, _, (θ_run Cert.AdamInIdeal.defs _ _).mono (fun _ h c => ⟨((h c).1 4).trans (AdamIn.grads m c), ((h c).1 5).trans (AdamIn.change_array m c),
      ((h c).1 6).trans (AdamIn.first_array m c), ((h c).1 7).trans (AdamIn.second_array m c), ((h c).1 0).trans ((Cert.AdamInIdeal.Gen.dats m 0 c).arrAt_in 0 rfl _), ((h c).1 1).trans ((Cert.AdamInIdeal.Gen.dats m 0 c).arrAt_in 1 rfl _), ((h c).1 2).trans ((Cert.AdamInIdeal.Gen.dats m 0 c).arrAt_in 2 rfl _), ((h c).1 3).trans ((Cert.AdamInIdeal.Gen.dats m 0 c).arrAt_in 3 rfl _)⟩) (Cert.AdamInIdeal.Gen.run_main (F := Ideal) m ρ),
    (θ_run Cert.AdamInReferenceIdeal.defs _ _).mono (fun _ h c => ?_) r⟩
  refine ⟨(h c).1.trans ?_, (h c).2.1.trans ?_, (h c).2.2.1.trans ?_, (h c).2.2.2.1.trans ?_, (h c).2.2.2.2⟩
  · rw [(hm c).1]
  · rw [(hm c).1, (hm c).2.1, (hm c).2.2.1, (hm c).2.2.2]
  · rw [(hm c).1, (hm c).2.2.1]
  · rw [(hm c).1, (hm c).2.2.2]

theorem AdamGlu.frame_kernel : Cert.quiescent_AdamGlu := fun m ρ _ => Cert.AdamGlu.Gen.frame m ρ

theorem AdamGlu.frame_ideal : Cert.quiescent_AdamGluIdeal := fun m ρ _ => Cert.AdamGluIdeal.Gen.frame m ρ

theorem AdamGlu.frame_reference : Cert.quiescent_AdamGluReferenceIdeal := fun m ρ _ =>
  (θ_run Cert.AdamGluReferenceIdeal.defs _ _).mono (fun r h => ⟨fun c => (h c).2.2.2.2, Idealize.ShloMosaic.sem_eq_zero_of_no_sems (by decide) r.2⟩)
    (Cert.AdamGluReferenceIdeal.Value.run m ρ)

set_option maxRecDepth 20000 in
theorem AdamGlu.algebraic : Cert.algebraic_AdamGluIdeal_AdamGluReferenceIdeal := by
  intro m ρ m' ρ' _ hm
  have r := Cert.AdamGluReferenceIdeal.Value.run (F := Ideal) m' ρ'
  refine ⟨_, _, _, _, (θ_run Cert.AdamGluIdeal.defs _ _).mono (fun _ h c => ⟨((h c).1 4).trans (AdamGlu.grads m c), ((h c).1 5).trans (AdamGlu.change_array m c),
      ((h c).1 6).trans (AdamGlu.first_array m c), ((h c).1 7).trans (AdamGlu.second_array m c), ((h c).1 0).trans ((Cert.AdamGluIdeal.Gen.dats m 0 c).arrAt_in 0 rfl _), ((h c).1 1).trans ((Cert.AdamGluIdeal.Gen.dats m 0 c).arrAt_in 1 rfl _), ((h c).1 2).trans ((Cert.AdamGluIdeal.Gen.dats m 0 c).arrAt_in 2 rfl _), ((h c).1 3).trans ((Cert.AdamGluIdeal.Gen.dats m 0 c).arrAt_in 3 rfl _)⟩) (Cert.AdamGluIdeal.Gen.run_main (F := Ideal) m ρ),
    (θ_run Cert.AdamGluReferenceIdeal.defs _ _).mono (fun _ h c => ?_) r⟩
  refine ⟨(h c).1.trans ?_, (h c).2.1.trans ?_, (h c).2.2.1.trans ?_, (h c).2.2.2.1.trans ?_, (h c).2.2.2.2⟩
  · rw [(hm c).1]
  · rw [(hm c).1, (hm c).2.1, (hm c).2.2.1, (hm c).2.2.2]
  · rw [(hm c).1, (hm c).2.2.1]
  · rw [(hm c).1, (hm c).2.2.2]

theorem AdamOut.frame_kernel : Cert.quiescent_AdamOut := fun m ρ _ => Cert.AdamOut.Gen.frame m ρ

theorem AdamOut.frame_ideal : Cert.quiescent_AdamOutIdeal := fun m ρ _ => Cert.AdamOutIdeal.Gen.frame m ρ

theorem AdamOut.frame_reference : Cert.quiescent_AdamOutReferenceIdeal := fun m ρ _ =>
  (θ_run Cert.AdamOutReferenceIdeal.defs _ _).mono (fun r h => ⟨fun c => (h c).2.2.2.2, Idealize.ShloMosaic.sem_eq_zero_of_no_sems (by decide) r.2⟩)
    (Cert.AdamOutReferenceIdeal.Value.run m ρ)

set_option maxRecDepth 20000 in
theorem AdamOut.algebraic : Cert.algebraic_AdamOutIdeal_AdamOutReferenceIdeal := by
  intro m ρ m' ρ' _ hm
  have r := Cert.AdamOutReferenceIdeal.Value.run (F := Ideal) m' ρ'
  refine ⟨_, _, _, _, (θ_run Cert.AdamOutIdeal.defs _ _).mono (fun _ h c => ⟨((h c).1 4).trans (AdamOut.grads m c), ((h c).1 5).trans (AdamOut.change_array m c),
      ((h c).1 6).trans (AdamOut.first_array m c), ((h c).1 7).trans (AdamOut.second_array m c), ((h c).1 0).trans ((Cert.AdamOutIdeal.Gen.dats m 0 c).arrAt_in 0 rfl _), ((h c).1 1).trans ((Cert.AdamOutIdeal.Gen.dats m 0 c).arrAt_in 1 rfl _), ((h c).1 2).trans ((Cert.AdamOutIdeal.Gen.dats m 0 c).arrAt_in 2 rfl _), ((h c).1 3).trans ((Cert.AdamOutIdeal.Gen.dats m 0 c).arrAt_in 3 rfl _)⟩) (Cert.AdamOutIdeal.Gen.run_main (F := Ideal) m ρ),
    (θ_run Cert.AdamOutReferenceIdeal.defs _ _).mono (fun _ h c => ?_) r⟩
  refine ⟨(h c).1.trans ?_, (h c).2.1.trans ?_, (h c).2.2.1.trans ?_, (h c).2.2.2.1.trans ?_, (h c).2.2.2.2⟩
  · rw [(hm c).1]
  · rw [(hm c).1, (hm c).2.1, (hm c).2.2.1, (hm c).2.2.2]
  · rw [(hm c).1, (hm c).2.2.1]
  · rw [(hm c).1, (hm c).2.2.2]

theorem AdamGate.frame_kernel : Cert.quiescent_AdamGate := fun m ρ _ => Cert.AdamGate.Gen.frame m ρ

theorem AdamGate.frame_ideal : Cert.quiescent_AdamGateIdeal := fun m ρ _ => Cert.AdamGateIdeal.Gen.frame m ρ

theorem AdamGate.frame_reference : Cert.quiescent_AdamGateReferenceIdeal := fun m ρ _ =>
  (θ_run Cert.AdamGateReferenceIdeal.defs _ _).mono (fun r h => ⟨fun c => (h c).2.2.2.2, Idealize.ShloMosaic.sem_eq_zero_of_no_sems (by decide) r.2⟩)
    (Cert.AdamGateReferenceIdeal.Value.run m ρ)

set_option maxRecDepth 20000 in
theorem AdamGate.algebraic : Cert.algebraic_AdamGateIdeal_AdamGateReferenceIdeal := by
  intro m ρ m' ρ' _ hm
  have r := Cert.AdamGateReferenceIdeal.Value.run (F := Ideal) m' ρ'
  refine ⟨_, _, _, _, (θ_run Cert.AdamGateIdeal.defs _ _).mono (fun _ h c => ⟨((h c).1 4).trans (AdamGate.grads m c), ((h c).1 5).trans (AdamGate.change_array m c),
      ((h c).1 6).trans (AdamGate.first_array m c), ((h c).1 7).trans (AdamGate.second_array m c), ((h c).1 0).trans ((Cert.AdamGateIdeal.Gen.dats m 0 c).arrAt_in 0 rfl _), ((h c).1 1).trans ((Cert.AdamGateIdeal.Gen.dats m 0 c).arrAt_in 1 rfl _), ((h c).1 2).trans ((Cert.AdamGateIdeal.Gen.dats m 0 c).arrAt_in 2 rfl _), ((h c).1 3).trans ((Cert.AdamGateIdeal.Gen.dats m 0 c).arrAt_in 3 rfl _)⟩) (Cert.AdamGateIdeal.Gen.run_main (F := Ideal) m ρ),
    (θ_run Cert.AdamGateReferenceIdeal.defs _ _).mono (fun _ h c => ?_) r⟩
  refine ⟨(h c).1.trans ?_, (h c).2.1.trans ?_, (h c).2.2.1.trans ?_, (h c).2.2.2.1.trans ?_, (h c).2.2.2.2⟩
  · rw [(hm c).1]
  · rw [(hm c).1, (hm c).2.1, (hm c).2.2.1, (hm c).2.2.2]
  · rw [(hm c).1, (hm c).2.2.1]
  · rw [(hm c).1, (hm c).2.2.2]

theorem AdamDown.frame_kernel : Cert.quiescent_AdamDown := fun m ρ _ => Cert.AdamDown.Gen.frame m ρ

theorem AdamDown.frame_ideal : Cert.quiescent_AdamDownIdeal := fun m ρ _ => Cert.AdamDownIdeal.Gen.frame m ρ

theorem AdamDown.frame_reference : Cert.quiescent_AdamDownReferenceIdeal := fun m ρ _ =>
  (θ_run Cert.AdamDownReferenceIdeal.defs _ _).mono (fun r h => ⟨fun c => (h c).2.2.2.2, Idealize.ShloMosaic.sem_eq_zero_of_no_sems (by decide) r.2⟩)
    (Cert.AdamDownReferenceIdeal.Value.run m ρ)

set_option maxRecDepth 20000 in
theorem AdamDown.algebraic : Cert.algebraic_AdamDownIdeal_AdamDownReferenceIdeal := by
  intro m ρ m' ρ' _ hm
  have r := Cert.AdamDownReferenceIdeal.Value.run (F := Ideal) m' ρ'
  refine ⟨_, _, _, _, (θ_run Cert.AdamDownIdeal.defs _ _).mono (fun _ h c => ⟨((h c).1 4).trans (AdamDown.grads m c), ((h c).1 5).trans (AdamDown.change_array m c),
      ((h c).1 6).trans (AdamDown.first_array m c), ((h c).1 7).trans (AdamDown.second_array m c), ((h c).1 0).trans ((Cert.AdamDownIdeal.Gen.dats m 0 c).arrAt_in 0 rfl _), ((h c).1 1).trans ((Cert.AdamDownIdeal.Gen.dats m 0 c).arrAt_in 1 rfl _), ((h c).1 2).trans ((Cert.AdamDownIdeal.Gen.dats m 0 c).arrAt_in 2 rfl _), ((h c).1 3).trans ((Cert.AdamDownIdeal.Gen.dats m 0 c).arrAt_in 3 rfl _)⟩) (Cert.AdamDownIdeal.Gen.run_main (F := Ideal) m ρ),
    (θ_run Cert.AdamDownReferenceIdeal.defs _ _).mono (fun _ h c => ?_) r⟩
  refine ⟨(h c).1.trans ?_, (h c).2.1.trans ?_, (h c).2.2.1.trans ?_, (h c).2.2.2.1.trans ?_, (h c).2.2.2.2⟩
  · rw [(hm c).1]
  · rw [(hm c).1, (hm c).2.1, (hm c).2.2.1, (hm c).2.2.2]
  · rw [(hm c).1, (hm c).2.2.1]
  · rw [(hm c).1, (hm c).2.2.2]

theorem ProjBwd.bodies_eq {F : FTy → Type} [FloatOps F] : @Cert.ProjBwd.defs₀ F _ _ = @Cert.ProjBwdIdeal.defs₀ F _ _ := by
  unfold Cert.ProjBwd.defs₀ Cert.ProjBwdIdeal.defs₀
  congr 1
  funext l a
  match l, a with
  | 0, (t, s) => rfl

theorem ProjBwd.defs_eq {F : FTy → Type} [FloatOps F] : @Cert.ProjBwd.defs F _ _ = @Cert.ProjBwdIdeal.defs F _ _ :=
  congrArg (Pipeline.defs (Cert.ProjBwdIdeal.pcfgs (F := F))) ProjBwd.bodies_eq

theorem ProjBwd.kept {F : FTy → Type} [FloatOps F] (m : (ℓ : Loc Cert.ProjBwdIdeal.nD Cert.ProjBwdIdeal.τ Cert.ProjBwdIdeal.sig) → Buf (Elt F) ℓ) (ρ : Dev Cert.ProjBwdIdeal.nD → PrngReg) :
    θ_run Cert.ProjBwdIdeal.defs (onTc Cert.ProjBwdIdeal.main) ⟨m, fun _ => 0, ρ⟩ (fun r => (∀ c : Dev Cert.ProjBwdIdeal.nD,
        r.2.mem ((c.tc : Thread Cert.ProjBwdIdeal.nD Cert.ProjBwdIdeal.τ).loc Cert.ProjBwdIdeal.main_arg0) = m ((c.tc : Thread Cert.ProjBwdIdeal.nD Cert.ProjBwdIdeal.τ).loc Cert.ProjBwdIdeal.main_arg0)
        ∧ r.2.mem ((c.tc : Thread Cert.ProjBwdIdeal.nD Cert.ProjBwdIdeal.τ).loc Cert.ProjBwdIdeal.main_arg1) = m ((c.tc : Thread Cert.ProjBwdIdeal.nD Cert.ProjBwdIdeal.τ).loc Cert.ProjBwdIdeal.main_arg1)
        ∧ r.2.mem ((c.tc : Thread Cert.ProjBwdIdeal.nD Cert.ProjBwdIdeal.τ).loc Cert.ProjBwdIdeal.main_arg2) = m ((c.tc : Thread Cert.ProjBwdIdeal.nD Cert.ProjBwdIdeal.τ).loc Cert.ProjBwdIdeal.main_arg2)
        ∧ r.2.mem ((c.tc : Thread Cert.ProjBwdIdeal.nD Cert.ProjBwdIdeal.τ).loc Cert.ProjBwdIdeal.main_arg3) = m ((c.tc : Thread Cert.ProjBwdIdeal.nD Cert.ProjBwdIdeal.τ).loc Cert.ProjBwdIdeal.main_arg3)
        ∧ r.2.mem ((c.tc : Thread Cert.ProjBwdIdeal.nD Cert.ProjBwdIdeal.τ).loc Cert.ProjBwdIdeal.main_arg4) = m ((c.tc : Thread Cert.ProjBwdIdeal.nD Cert.ProjBwdIdeal.τ).loc Cert.ProjBwdIdeal.main_arg4)
        ∧ r.2.mem ((c.tc : Thread Cert.ProjBwdIdeal.nD Cert.ProjBwdIdeal.τ).loc Cert.ProjBwdIdeal.main_arg5) = m ((c.tc : Thread Cert.ProjBwdIdeal.nD Cert.ProjBwdIdeal.τ).loc Cert.ProjBwdIdeal.main_arg5)
        ∧ r.2.mem ((c.tc : Thread Cert.ProjBwdIdeal.nD Cert.ProjBwdIdeal.τ).loc Cert.ProjBwdIdeal.main_arg6) = m ((c.tc : Thread Cert.ProjBwdIdeal.nD Cert.ProjBwdIdeal.τ).loc Cert.ProjBwdIdeal.main_arg6))
      ∧ r.2.sem = fun _ => 0) :=
  (θ_run Cert.ProjBwdIdeal.defs _ _).mono (fun _ h => ⟨fun c => ⟨((h.1 c).1 0).trans (ProjBwd.run_in m c 0 rfl), (h.1 c).2.2.2, ((h.1 c).1 1).trans (ProjBwd.run_in m c 1 rfl), ((h.1 c).1 2).trans (ProjBwd.run_in m c 2 rfl), ((h.1 c).1 3).trans (ProjBwd.run_in m c 3 rfl), ((h.1 c).1 4).trans (ProjBwd.run_in m c 4 rfl), (h.1 c).2.2.1⟩, h.2⟩) (_root_.ProjBwd.run_main m ρ)

theorem ProjBwd.frame_kernel : Cert.quiescent_ProjBwd := by
  intro m ρ _
  rw [ProjBwd.defs_eq]
  exact ProjBwd.kept (F := Bits) m ρ

theorem ProjBwd.frame_ideal : Cert.quiescent_ProjBwdIdeal := fun m ρ _ => ProjBwd.kept (F := Ideal) m ρ

theorem ProjBwd.frame_reference : Cert.quiescent_ProjBwdReferenceIdeal := fun m ρ _ =>
  (θ_run Cert.ProjBwdReferenceIdeal.defs _ _).mono (fun r h => ⟨fun c => (h c).2.2.2, Idealize.ShloMosaic.sem_eq_zero_of_no_sems (by decide) r.2⟩)
    (Cert.ProjBwdReferenceIdeal.Value.run m ρ)

set_option maxRecDepth 20000 in
theorem ProjBwd.algebraic : Cert.algebraic_ProjBwdIdeal_ProjBwdReferenceIdeal := fun m ρ m' ρ' _ hm =>
  ⟨_, _, _, (θ_run Cert.ProjBwdIdeal.defs _ _).mono
      (fun _ h c => ⟨((h.1 c).1 5).trans (ProjBwd.rows_array m c _ _ _ _ _ _ (hm c).1 (hm c).2.1 (hm c).2.2.1 (hm c).2.2.2.1 (hm c).2.2.2.2.1 (hm c).2.2.2.2.2.1),
        ((h.1 c).1 6).trans (ProjBwd.gain_array m c _ _ _ _ (hm c).1 (hm c).2.1 (hm c).2.2.1 (hm c).2.2.2.1),
        ProjBwd.exchanged m _ (fun d => (hm d).2.2.2.2.2.2) c _ (h.1 c).2, ((h.1 c).1 0).trans (ProjBwd.run_in m c 0 rfl), (h.1 c).2.2.2, ((h.1 c).1 1).trans (ProjBwd.run_in m c 1 rfl), ((h.1 c).1 2).trans (ProjBwd.run_in m c 2 rfl), ((h.1 c).1 3).trans (ProjBwd.run_in m c 3 rfl), ((h.1 c).1 4).trans (ProjBwd.run_in m c 4 rfl), (h.1 c).2.2.1⟩) (_root_.ProjBwd.run_main (F := Ideal) m ρ),
    (θ_run Cert.ProjBwdReferenceIdeal.defs _ _).mono (fun _ h => h 0) (Cert.ProjBwdReferenceIdeal.Value.run m' ρ')⟩

theorem ProjFwd.bodies_eq {F : FTy → Type} [FloatOps F] : @Cert.ProjFwd.defs₀ F _ _ = @Cert.ProjFwdIdeal.defs₀ F _ _ := by
  unfold Cert.ProjFwd.defs₀ Cert.ProjFwdIdeal.defs₀
  congr 1
  funext l a
  match l, a with
  | 0, (t, s) => rfl

theorem ProjFwd.defs_eq {F : FTy → Type} [FloatOps F] : @Cert.ProjFwd.defs F _ _ = @Cert.ProjFwdIdeal.defs F _ _ :=
  congrArg (Pipeline.defs (Cert.ProjFwdIdeal.pcfgs (F := F))) ProjFwd.bodies_eq

theorem ProjFwd.kept {F : FTy → Type} [FloatOps F] (m : (ℓ : Loc Cert.ProjFwdIdeal.nD Cert.ProjFwdIdeal.τ Cert.ProjFwdIdeal.sig) → Buf (Elt F) ℓ) (ρ : Dev Cert.ProjFwdIdeal.nD → PrngReg) :
    θ_run Cert.ProjFwdIdeal.defs (onTc Cert.ProjFwdIdeal.main) ⟨m, fun _ => 0, ρ⟩ (fun r => (∀ c : Dev Cert.ProjFwdIdeal.nD,
        r.2.mem ((c.tc : Thread Cert.ProjFwdIdeal.nD Cert.ProjFwdIdeal.τ).loc Cert.ProjFwdIdeal.main_arg0) = m ((c.tc : Thread Cert.ProjFwdIdeal.nD Cert.ProjFwdIdeal.τ).loc Cert.ProjFwdIdeal.main_arg0)
        ∧ r.2.mem ((c.tc : Thread Cert.ProjFwdIdeal.nD Cert.ProjFwdIdeal.τ).loc Cert.ProjFwdIdeal.main_arg1) = m ((c.tc : Thread Cert.ProjFwdIdeal.nD Cert.ProjFwdIdeal.τ).loc Cert.ProjFwdIdeal.main_arg1)
        ∧ r.2.mem ((c.tc : Thread Cert.ProjFwdIdeal.nD Cert.ProjFwdIdeal.τ).loc Cert.ProjFwdIdeal.main_arg2) = m ((c.tc : Thread Cert.ProjFwdIdeal.nD Cert.ProjFwdIdeal.τ).loc Cert.ProjFwdIdeal.main_arg2)
        ∧ r.2.mem ((c.tc : Thread Cert.ProjFwdIdeal.nD Cert.ProjFwdIdeal.τ).loc Cert.ProjFwdIdeal.main_arg3) = m ((c.tc : Thread Cert.ProjFwdIdeal.nD Cert.ProjFwdIdeal.τ).loc Cert.ProjFwdIdeal.main_arg3))
      ∧ r.2.sem = fun _ => 0) :=
  (θ_run Cert.ProjFwdIdeal.defs _ _).mono (fun _ h => ⟨fun c => ⟨((h.1 c).1 0).trans (ProjFwd.run_in m c 0 rfl), ((h.1 c).1 1).trans (ProjFwd.run_in m c 1 rfl), (h.1 c).2.2.2, (h.1 c).2.2.1⟩, h.2⟩) (_root_.ProjFwd.run_main m ρ)

theorem ProjFwd.frame_kernel : Cert.quiescent_ProjFwd := by
  intro m ρ _
  rw [ProjFwd.defs_eq]
  exact ProjFwd.kept (F := Bits) m ρ

theorem ProjFwd.frame_ideal : Cert.quiescent_ProjFwdIdeal := fun m ρ _ => ProjFwd.kept (F := Ideal) m ρ

theorem ProjFwd.frame_reference : Cert.quiescent_ProjFwdReferenceIdeal := fun m ρ _ =>
  (θ_run Cert.ProjFwdReferenceIdeal.defs _ _).mono (fun r h => ⟨fun c => (h c).2.2.2.2, Idealize.ShloMosaic.sem_eq_zero_of_no_sems (by decide) r.2⟩)
    (Cert.ProjFwdReferenceIdeal.Value.run m ρ)

set_option maxRecDepth 20000 in
theorem ProjFwd.algebraic : Cert.algebraic_ProjFwdIdeal_ProjFwdReferenceIdeal := fun m ρ m' ρ' _ hm =>
  ⟨_, _, _, _, (θ_run Cert.ProjFwdIdeal.defs _ _).mono
      (fun _ h c => ⟨((h.1 c).1 2).trans (ProjFwd.proj_array m c _ _ _ (hm c).1 (hm c).2.1 (hm c).2.2.1), ((h.1 c).1 3).trans (ProjFwd.normed_array m c _ _ (hm c).1 (hm c).2.1),
        ((h.1 c).1 4).trans (ProjFwd.scale_array m c _ (hm c).1),
        ProjFwd.gathers m _ (fun d => (hm d).2.2.2) _ _ c _ (h.1 c).2, ((h.1 c).1 0).trans (ProjFwd.run_in m c 0 rfl), ((h.1 c).1 1).trans (ProjFwd.run_in m c 1 rfl), (h.1 c).2.2.2, (h.1 c).2.2.1⟩) (_root_.ProjFwd.run_main (F := Ideal) m ρ),
    (θ_run Cert.ProjFwdReferenceIdeal.defs _ _).mono (fun _ h => h 0) (Cert.ProjFwdReferenceIdeal.Value.run m' ρ')⟩

theorem SumSmall.frame_kernel : Cert.quiescent_SumSmall := fun m ρ _ => Cert.SumSmall.Gen.frame m ρ

theorem SumSmall.frame_ideal : Cert.quiescent_SumSmallIdeal := fun m ρ _ => Cert.SumSmallIdeal.Gen.frame m ρ

theorem SumSmall.frame_reference : Cert.quiescent_SumSmallReferenceIdeal := fun m ρ _ =>
  (θ_run Cert.SumSmallReferenceIdeal.defs _ _).mono (fun r h => ⟨fun c => (h c).2, Idealize.ShloMosaic.sem_eq_zero_of_no_sems (by decide) r.2⟩)
    (Cert.SumSmallReferenceIdeal.Value.run m ρ)

set_option maxRecDepth 20000 in
theorem SumSmall.algebraic : Cert.algebraic_SumSmallIdeal_SumSmallReferenceIdeal := by
  intro m ρ m' ρ' _ hm
  have r := Cert.SumSmallReferenceIdeal.Value.run (F := Ideal) m' ρ'
  refine ⟨_, (θ_run Cert.SumSmallIdeal.defs _ _).mono (fun _ h c => ⟨((h c).1 1).trans (SumSmall.sums m c), ((h c).1 0).trans ((Cert.SumSmallIdeal.Gen.dats m 0 c).arrAt_in 0 rfl _)⟩) (Cert.SumSmallIdeal.Gen.run_main (F := Ideal) m ρ),
    (θ_run Cert.SumSmallReferenceIdeal.defs _ _).mono (fun _ h c => ⟨(h c).1.trans ?_, (h c).2⟩) r⟩
  rw [hm c]
  rfl

theorem SumMix.frame_kernel : Cert.quiescent_SumMix := fun m ρ _ => Cert.SumMix.Gen.frame m ρ

theorem SumMix.frame_ideal : Cert.quiescent_SumMixIdeal := fun m ρ _ => Cert.SumMixIdeal.Gen.frame m ρ

theorem SumMix.frame_reference : Cert.quiescent_SumMixReferenceIdeal := fun m ρ _ =>
  (θ_run Cert.SumMixReferenceIdeal.defs _ _).mono (fun r h => ⟨fun c => (h c).2, Idealize.ShloMosaic.sem_eq_zero_of_no_sems (by decide) r.2⟩)
    (Cert.SumMixReferenceIdeal.Value.run m ρ)

set_option maxRecDepth 20000 in
theorem SumMix.algebraic : Cert.algebraic_SumMixIdeal_SumMixReferenceIdeal := by
  intro m ρ m' ρ' _ hm
  have r := Cert.SumMixReferenceIdeal.Value.run (F := Ideal) m' ρ'
  refine ⟨_, (θ_run Cert.SumMixIdeal.defs _ _).mono (fun _ h c => ⟨((h c).1 1).trans (SumMix.sums m c), ((h c).1 0).trans ((Cert.SumMixIdeal.Gen.dats m 0 c).arrAt_in 0 rfl _)⟩) (Cert.SumMixIdeal.Gen.run_main (F := Ideal) m ρ),
    (θ_run Cert.SumMixReferenceIdeal.defs _ _).mono (fun _ h c => ⟨(h c).1.trans ?_, (h c).2⟩) r⟩
  rw [hm c]
  rfl

theorem claim : Cert.Claim := ⟨Cert.Kernel.Gen.facts, Cert.KernelIdeal.Gen.facts, Cert.ReferenceIdeal.Gen.facts, Cert.FfnUp.Gen.facts, Cert.FfnUpIdeal.Gen.facts, Cert.FfnUpReferenceIdeal.Gen.facts, Cert.BwdIn.Gen.facts, Cert.BwdInIdeal.Gen.facts, Cert.BwdInReferenceIdeal.Gen.facts, Cert.WgradUp.Gen.facts, Cert.WgradUpIdeal.Gen.facts, Cert.WgradUpReferenceIdeal.Gen.facts, Cert.AdamIn.Gen.facts, Cert.AdamInIdeal.Gen.facts, Cert.AdamInReferenceIdeal.Gen.facts, Cert.AdamGlu.Gen.facts, Cert.AdamGluIdeal.Gen.facts, Cert.AdamGluReferenceIdeal.Gen.facts, Cert.AdamOut.Gen.facts, Cert.AdamOutIdeal.Gen.facts, Cert.AdamOutReferenceIdeal.Gen.facts, Cert.AdamGate.Gen.facts, Cert.AdamGateIdeal.Gen.facts, Cert.AdamGateReferenceIdeal.Gen.facts, Cert.AdamDown.Gen.facts, Cert.AdamDownIdeal.Gen.facts, Cert.AdamDownReferenceIdeal.Gen.facts, Cert.ProjBwd.Gen.facts, Cert.ProjBwdIdeal.Gen.facts, Cert.ProjBwdReferenceIdeal.Gen.facts, Cert.ProjFwd.Gen.facts, Cert.ProjFwdIdeal.Gen.facts, Cert.ProjFwdReferenceIdeal.Gen.facts, Cert.SumSmall.Gen.facts, Cert.SumSmallIdeal.Gen.facts, Cert.SumSmallReferenceIdeal.Gen.facts, Cert.SumMix.Gen.facts, Cert.SumMixIdeal.Gen.facts, Cert.SumMixReferenceIdeal.Gen.facts,
    frame_kernel, frame_ideal, frame_reference, FfnUp.frame_kernel, FfnUp.frame_ideal, FfnUp.frame_reference, BwdIn.frame_kernel, BwdIn.frame_ideal, BwdIn.frame_reference, WgradUp.frame_kernel, WgradUp.frame_ideal, WgradUp.frame_reference, AdamIn.frame_kernel, AdamIn.frame_ideal, AdamIn.frame_reference, AdamGlu.frame_kernel, AdamGlu.frame_ideal, AdamGlu.frame_reference, AdamOut.frame_kernel, AdamOut.frame_ideal, AdamOut.frame_reference, AdamGate.frame_kernel, AdamGate.frame_ideal, AdamGate.frame_reference, AdamDown.frame_kernel, AdamDown.frame_ideal, AdamDown.frame_reference, ProjBwd.frame_kernel, ProjBwd.frame_ideal, ProjBwd.frame_reference, ProjFwd.frame_kernel, ProjFwd.frame_ideal, ProjFwd.frame_reference, SumSmall.frame_kernel, SumSmall.frame_ideal, SumSmall.frame_reference, SumMix.frame_kernel, SumMix.frame_ideal, SumMix.frame_reference,
    trivial, algebraic, trivial, FfnUp.algebraic, trivial, BwdIn.algebraic, trivial, WgradUp.algebraic, trivial, AdamIn.algebraic, trivial, AdamGlu.algebraic, trivial, AdamOut.algebraic, trivial, AdamGate.algebraic, trivial, AdamDown.algebraic, trivial, ProjBwd.algebraic, trivial, ProjFwd.algebraic, trivial, SumSmall.algebraic, trivial, SumMix.algebraic⟩

end Cert.Proof

end
